-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))).1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))).2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))).2.2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))).2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))).1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))).2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))).2.2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))).2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).2.2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4))).1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4))).2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4))).2.2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4))).2.2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffnin [hPre_finite_ffnin : Cert.Pre_finite_ffnin.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.2.2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.2.2.2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.2.2.2.2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.2.2.2.2.2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.2.2.2.2.2.2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))).2.2.2.2.2.2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffnin [hPre_finite_ffnin : Cert.Pre_finite_ffnin.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.2.2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.2.2.2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.2.2.2.2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.2.2.2.2.2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.2.2.2.2.2.2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))).2.2.2.2.2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.2.2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.2.2.2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.2.2.2.2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.2.2.2.2.2.2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))).2.2.2.2.2.2.2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.2.2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.2.2.2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.2.2.2.2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.2.2.2.2.2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.2.2.2.2.2.2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.2.2.2.2.2.2.2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))).2.2.2.2.2.2.2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.2 = (fun _ => 1#1)

def Pre_Rel (m : (ℓ : Loc Cert.Rel.nD Cert.Rel.τ Cert.Rel.sig) → Buf (Elt Bits) ℓ) : Prop :=
  True

def Pre_RelIdeal (m : (ℓ : Loc Cert.RelIdeal.nD Cert.RelIdeal.τ Cert.RelIdeal.sig) → Buf (Elt Ideal) ℓ) : Prop :=
  True

def Pre_RelRefIdeal (m : (ℓ : Loc Cert.RelRefIdeal.nD Cert.RelRefIdeal.τ Cert.RelRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_scan [hPre_finite_scan : Cert.Pre_finite_scan.Facts] (m : (ℓ : Loc Cert.ScanIdeal.nD Cert.ScanIdeal.τ Cert.ScanIdeal.sig) → Buf (Elt Ideal) ℓ) : Prop :=
  ∀ c : Dev Cert.ScanIdeal.nD,
    (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.2 = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite_scan [hPre_finite_scan : Cert.Pre_finite_scan.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.2 = (fun _ => 1#1)

def Pre_Pass (m : (ℓ : Loc Cert.Pass.nD Cert.Pass.τ Cert.Pass.sig) → Buf (Elt Bits) ℓ) : Prop :=
  True

def Pre_PassIdeal (m : (ℓ : Loc Cert.PassIdeal.nD Cert.PassIdeal.τ Cert.PassIdeal.sig) → Buf (Elt Ideal) ℓ) : Prop :=
  True

def Pre_PassRefIdeal (m : (ℓ : Loc Cert.PassRefIdeal.nD Cert.PassRefIdeal.τ Cert.PassRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7)
      ∧ r.2.mem ((c.tc : Thread Cert.FfnIn.nD Cert.FfnIn.τ).loc Cert.FfnIn.main_arg8) = m ((c.tc : Thread Cert.FfnIn.nD Cert.FfnIn.τ).loc Cert.FfnIn.main_arg8)
      ∧ r.2.mem ((c.tc : Thread Cert.FfnIn.nD Cert.FfnIn.τ).loc Cert.FfnIn.main_arg9) = m ((c.tc : Thread Cert.FfnIn.nD Cert.FfnIn.τ).loc Cert.FfnIn.main_arg9)
      ∧ r.2.mem ((c.tc : Thread Cert.FfnIn.nD Cert.FfnIn.τ).loc Cert.FfnIn.main_arg10) = m ((c.tc : Thread Cert.FfnIn.nD Cert.FfnIn.τ).loc Cert.FfnIn.main_arg10))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
      ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8)
      ∧ r.2.mem ((c.tc : Thread Cert.FfnInIdeal.nD Cert.FfnInIdeal.τ).loc Cert.FfnInIdeal.main_arg9) = m ((c.tc : Thread Cert.FfnInIdeal.nD Cert.FfnInIdeal.τ).loc Cert.FfnInIdeal.main_arg9)
      ∧ r.2.mem ((c.tc : Thread Cert.FfnInIdeal.nD Cert.FfnInIdeal.τ).loc Cert.FfnInIdeal.main_arg10) = m ((c.tc : Thread Cert.FfnInIdeal.nD Cert.FfnInIdeal.τ).loc Cert.FfnInIdeal.main_arg10))
      ∧ r.2.sem = fun _ => 0)

def quiescent_FfnInIdeal_pre_finite_ffnin [hFfnInIdeal : Cert.FfnInIdeal.Facts] [hPre_finite_ffnin : Cert.Pre_finite_ffnin.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffnin m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
      ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8)
      ∧ r.2.mem ((c.tc : Thread Cert.FfnInIdeal.nD Cert.FfnInIdeal.τ).loc Cert.FfnInIdeal.main_arg9) = m ((c.tc : Thread Cert.FfnInIdeal.nD Cert.FfnInIdeal.τ).loc Cert.FfnInIdeal.main_arg9)
      ∧ r.2.mem ((c.tc : Thread Cert.FfnInIdeal.nD Cert.FfnInIdeal.τ).loc Cert.FfnInIdeal.main_arg10) = m ((c.tc : Thread Cert.FfnInIdeal.nD Cert.FfnInIdeal.τ).loc Cert.FfnInIdeal.main_arg10))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7)
      ∧ r.2.mem ((c.tc : Thread Cert.FfnInRefIdeal.nD Cert.FfnInRefIdeal.τ).loc Cert.FfnInRefIdeal.main_arg8) = m ((c.tc : Thread Cert.FfnInRefIdeal.nD Cert.FfnInRefIdeal.τ).loc Cert.FfnInRefIdeal.main_arg8)
      ∧ r.2.mem ((c.tc : Thread Cert.FfnInRefIdeal.nD Cert.FfnInRefIdeal.τ).loc Cert.FfnInRefIdeal.main_arg9) = m ((c.tc : Thread Cert.FfnInRefIdeal.nD Cert.FfnInRefIdeal.τ).loc Cert.FfnInRefIdeal.main_arg9)
      ∧ r.2.mem ((c.tc : Thread Cert.FfnInRefIdeal.nD Cert.FfnInRefIdeal.τ).loc Cert.FfnInRefIdeal.main_arg10) = m ((c.tc : Thread Cert.FfnInRefIdeal.nD Cert.FfnInRefIdeal.τ).loc Cert.FfnInRefIdeal.main_arg10))
      ∧ r.2.sem = fun _ => 0)

def quiescent_FfnInRefIdeal_pre_finite_ffnin [hFfnInRefIdeal : Cert.FfnInRefIdeal.Facts] [hPre_finite_ffnin : Cert.Pre_finite_ffnin.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffnin m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7)
      ∧ r.2.mem ((c.tc : Thread Cert.FfnInRefIdeal.nD Cert.FfnInRefIdeal.τ).loc Cert.FfnInRefIdeal.main_arg8) = m ((c.tc : Thread Cert.FfnInRefIdeal.nD Cert.FfnInRefIdeal.τ).loc Cert.FfnInRefIdeal.main_arg8)
      ∧ r.2.mem ((c.tc : Thread Cert.FfnInRefIdeal.nD Cert.FfnInRefIdeal.τ).loc Cert.FfnInRefIdeal.main_arg9) = m ((c.tc : Thread Cert.FfnInRefIdeal.nD Cert.FfnInRefIdeal.τ).loc Cert.FfnInRefIdeal.main_arg9)
      ∧ r.2.mem ((c.tc : Thread Cert.FfnInRefIdeal.nD Cert.FfnInRefIdeal.τ).loc Cert.FfnInRefIdeal.main_arg10) = m ((c.tc : Thread Cert.FfnInRefIdeal.nD Cert.FfnInRefIdeal.τ).loc Cert.FfnInRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Rel [hRel : Cert.Rel.Facts] : Prop :=
  ∀ (m : (ℓ : Loc Cert.Rel.nD Cert.Rel.τ Cert.Rel.sig) → Buf (Elt Bits) ℓ) (g : Dev Cert.Rel.nD → PrngReg), Pre_Rel m →
    θ_run (Cert.Rel.defs (F := Bits)) (onTc (τ := Cert.Rel.τ) (Cert.Rel.main (F := Bits))) ⟨m, fun _ => 0, g⟩ (fun r => (∀ c : Dev Cert.Rel.nD,
      r.2.mem ((c.tc : Thread Cert.Rel.nD Cert.Rel.τ).loc Cert.Rel.main_arg0) = m ((c.tc : Thread Cert.Rel.nD Cert.Rel.τ).loc Cert.Rel.main_arg0))
      ∧ r.2.sem = fun _ => 0)

def quiescent_RelIdeal [hRelIdeal : Cert.RelIdeal.Facts] : Prop :=
  ∀ (m : (ℓ : Loc Cert.RelIdeal.nD Cert.RelIdeal.τ Cert.RelIdeal.sig) → Buf (Elt Ideal) ℓ) (g : Dev Cert.RelIdeal.nD → PrngReg), Pre_RelIdeal m →
    θ_run (Cert.RelIdeal.defs (F := Ideal)) (onTc (τ := Cert.RelIdeal.τ) (Cert.RelIdeal.main (F := Ideal))) ⟨m, fun _ => 0, g⟩ (fun r => (∀ c : Dev Cert.RelIdeal.nD,
      r.2.mem ((c.tc : Thread Cert.RelIdeal.nD Cert.RelIdeal.τ).loc Cert.RelIdeal.main_arg0) = m ((c.tc : Thread Cert.RelIdeal.nD Cert.RelIdeal.τ).loc Cert.RelIdeal.main_arg0))
      ∧ r.2.sem = fun _ => 0)

def quiescent_RelRefIdeal [hRelRefIdeal : Cert.RelRefIdeal.Facts] : Prop :=
  ∀ (m : (ℓ : Loc Cert.RelRefIdeal.nD Cert.RelRefIdeal.τ Cert.RelRefIdeal.sig) → Buf (Elt Ideal) ℓ) (g : Dev Cert.RelRefIdeal.nD → PrngReg), Pre_RelRefIdeal m →
    θ_run (Cert.RelRefIdeal.defs (F := Ideal)) (onTc (τ := Cert.RelRefIdeal.τ) (Cert.RelRefIdeal.main (F := Ideal))) ⟨m, fun _ => 0, g⟩ (fun r => (∀ c : Dev Cert.RelRefIdeal.nD,
      r.2.mem ((c.tc : Thread Cert.RelRefIdeal.nD Cert.RelRefIdeal.τ).loc Cert.RelRefIdeal.main_arg0) = m ((c.tc : Thread Cert.RelRefIdeal.nD Cert.RelRefIdeal.τ).loc Cert.RelRefIdeal.main_arg0))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanIdeal_pre_finite_scan [hScanIdeal : Cert.ScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_scan m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_ScanRefIdeal_pre_finite_scan [hScanRefIdeal : Cert.ScanRefIdeal.Facts] [hPre_finite_scan : Cert.Pre_finite_scan.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite_scan m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_Pass [hPass : Cert.Pass.Facts] : Prop :=
  ∀ (m : (ℓ : Loc Cert.Pass.nD Cert.Pass.τ Cert.Pass.sig) → Buf (Elt Bits) ℓ) (g : Dev Cert.Pass.nD → PrngReg), Pre_Pass m →
    θ_run (Cert.Pass.defs (F := Bits)) (onTc (τ := Cert.Pass.τ) (Cert.Pass.main (F := Bits))) ⟨m, fun _ => 0, g⟩ (fun r => (∀ c : Dev Cert.Pass.nD,
      r.2.mem ((c.tc : Thread Cert.Pass.nD Cert.Pass.τ).loc Cert.Pass.main_arg0) = m ((c.tc : Thread Cert.Pass.nD Cert.Pass.τ).loc Cert.Pass.main_arg0)
      ∧ r.2.mem ((c.tc : Thread Cert.Pass.nD Cert.Pass.τ).loc Cert.Pass.main_arg1) = m ((c.tc : Thread Cert.Pass.nD Cert.Pass.τ).loc Cert.Pass.main_arg1)
      ∧ r.2.mem ((c.tc : Thread Cert.Pass.nD Cert.Pass.τ).loc Cert.Pass.main_arg2) = m ((c.tc : Thread Cert.Pass.nD Cert.Pass.τ).loc Cert.Pass.main_arg2)
      ∧ r.2.mem ((c.tc : Thread Cert.Pass.nD Cert.Pass.τ).loc Cert.Pass.main_arg3) = m ((c.tc : Thread Cert.Pass.nD Cert.Pass.τ).loc Cert.Pass.main_arg3)
      ∧ r.2.mem ((c.tc : Thread Cert.Pass.nD Cert.Pass.τ).loc Cert.Pass.main_arg4) = m ((c.tc : Thread Cert.Pass.nD Cert.Pass.τ).loc Cert.Pass.main_arg4)
      ∧ r.2.mem ((c.tc : Thread Cert.Pass.nD Cert.Pass.τ).loc Cert.Pass.main_arg5) = m ((c.tc : Thread Cert.Pass.nD Cert.Pass.τ).loc Cert.Pass.main_arg5))
      ∧ r.2.sem = fun _ => 0)

def quiescent_PassIdeal [hPassIdeal : Cert.PassIdeal.Facts] : Prop :=
  ∀ (m : (ℓ : Loc Cert.PassIdeal.nD Cert.PassIdeal.τ Cert.PassIdeal.sig) → Buf (Elt Ideal) ℓ) (g : Dev Cert.PassIdeal.nD → PrngReg), Pre_PassIdeal m →
    θ_run (Cert.PassIdeal.defs (F := Ideal)) (onTc (τ := Cert.PassIdeal.τ) (Cert.PassIdeal.main (F := Ideal))) ⟨m, fun _ => 0, g⟩ (fun r => (∀ c : Dev Cert.PassIdeal.nD,
      r.2.mem ((c.tc : Thread Cert.PassIdeal.nD Cert.PassIdeal.τ).loc Cert.PassIdeal.main_arg0) = m ((c.tc : Thread Cert.PassIdeal.nD Cert.PassIdeal.τ).loc Cert.PassIdeal.main_arg0)
      ∧ r.2.mem ((c.tc : Thread Cert.PassIdeal.nD Cert.PassIdeal.τ).loc Cert.PassIdeal.main_arg1) = m ((c.tc : Thread Cert.PassIdeal.nD Cert.PassIdeal.τ).loc Cert.PassIdeal.main_arg1)
      ∧ r.2.mem ((c.tc : Thread Cert.PassIdeal.nD Cert.PassIdeal.τ).loc Cert.PassIdeal.main_arg2) = m ((c.tc : Thread Cert.PassIdeal.nD Cert.PassIdeal.τ).loc Cert.PassIdeal.main_arg2)
      ∧ r.2.mem ((c.tc : Thread Cert.PassIdeal.nD Cert.PassIdeal.τ).loc Cert.PassIdeal.main_arg3) = m ((c.tc : Thread Cert.PassIdeal.nD Cert.PassIdeal.τ).loc Cert.PassIdeal.main_arg3)
      ∧ r.2.mem ((c.tc : Thread Cert.PassIdeal.nD Cert.PassIdeal.τ).loc Cert.PassIdeal.main_arg4) = m ((c.tc : Thread Cert.PassIdeal.nD Cert.PassIdeal.τ).loc Cert.PassIdeal.main_arg4)
      ∧ r.2.mem ((c.tc : Thread Cert.PassIdeal.nD Cert.PassIdeal.τ).loc Cert.PassIdeal.main_arg5) = m ((c.tc : Thread Cert.PassIdeal.nD Cert.PassIdeal.τ).loc Cert.PassIdeal.main_arg5))
      ∧ r.2.sem = fun _ => 0)

def quiescent_PassRefIdeal [hPassRefIdeal : Cert.PassRefIdeal.Facts] : Prop :=
  ∀ (m : (ℓ : Loc Cert.PassRefIdeal.nD Cert.PassRefIdeal.τ Cert.PassRefIdeal.sig) → Buf (Elt Ideal) ℓ) (g : Dev Cert.PassRefIdeal.nD → PrngReg), Pre_PassRefIdeal m →
    θ_run (Cert.PassRefIdeal.defs (F := Ideal)) (onTc (τ := Cert.PassRefIdeal.τ) (Cert.PassRefIdeal.main (F := Ideal))) ⟨m, fun _ => 0, g⟩ (fun r => (∀ c : Dev Cert.PassRefIdeal.nD,
      r.2.mem ((c.tc : Thread Cert.PassRefIdeal.nD Cert.PassRefIdeal.τ).loc Cert.PassRefIdeal.main_arg0) = m ((c.tc : Thread Cert.PassRefIdeal.nD Cert.PassRefIdeal.τ).loc Cert.PassRefIdeal.main_arg0)
      ∧ r.2.mem ((c.tc : Thread Cert.PassRefIdeal.nD Cert.PassRefIdeal.τ).loc Cert.PassRefIdeal.main_arg1) = m ((c.tc : Thread Cert.PassRefIdeal.nD Cert.PassRefIdeal.τ).loc Cert.PassRefIdeal.main_arg1)
      ∧ r.2.mem ((c.tc : Thread Cert.PassRefIdeal.nD Cert.PassRefIdeal.τ).loc Cert.PassRefIdeal.main_arg2) = m ((c.tc : Thread Cert.PassRefIdeal.nD Cert.PassRefIdeal.τ).loc Cert.PassRefIdeal.main_arg2)
      ∧ r.2.mem ((c.tc : Thread Cert.PassRefIdeal.nD Cert.PassRefIdeal.τ).loc Cert.PassRefIdeal.main_arg3) = m ((c.tc : Thread Cert.PassRefIdeal.nD Cert.PassRefIdeal.τ).loc Cert.PassRefIdeal.main_arg3)
      ∧ r.2.mem ((c.tc : Thread Cert.PassRefIdeal.nD Cert.PassRefIdeal.τ).loc Cert.PassRefIdeal.main_arg4) = m ((c.tc : Thread Cert.PassRefIdeal.nD Cert.PassRefIdeal.τ).loc Cert.PassRefIdeal.main_arg4)
      ∧ r.2.mem ((c.tc : Thread Cert.PassRefIdeal.nD Cert.PassRefIdeal.τ).loc Cert.PassRefIdeal.main_arg5) = m ((c.tc : Thread Cert.PassRefIdeal.nD Cert.PassRefIdeal.τ).loc Cert.PassRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v16) = v0 c
          ∧ r.2.mem ((c.tc : Thread Cert.ActRefIdeal.nD Cert.ActRefIdeal.τ).loc Cert.ActRefIdeal.main_v17) = v1 c
          ∧ r.2.mem ((c.tc : Thread Cert.ActRefIdeal.nD Cert.ActRefIdeal.τ).loc Cert.ActRefIdeal.main_v11) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v78) = v0 c
          ∧ r.2.mem ((c.tc : Thread Cert.ConvRefIdeal.nD Cert.ConvRefIdeal.τ).loc Cert.ConvRefIdeal.main_v76) = v1 c
          ∧ r.2.mem ((c.tc : Thread Cert.ConvRefIdeal.nD Cert.ConvRefIdeal.τ).loc Cert.ConvRefIdeal.main_v80) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v3_0)) (v1 : (c : Dev Cert.PostIdeal.nD) → Buf (Elt Ideal) ((c.tc : Thread Cert.PostIdeal.nD Cert.PostIdeal.τ).loc Cert.PostIdeal.main_v3_1)) (v2 : (c : Dev Cert.PostIdeal.nD) → Buf (Elt Ideal) ((c.tc : Thread Cert.PostIdeal.nD Cert.PostIdeal.τ).loc Cert.PostIdeal.main_v3_2)) (v3 : (c : Dev Cert.PostIdeal.nD) → Buf (Elt Ideal) ((c.tc : Thread Cert.PostIdeal.nD Cert.PostIdeal.τ).loc Cert.PostIdeal.main_v3_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v3_0) = v0 c
          ∧ r.2.mem ((c.tc : Thread Cert.PostIdeal.nD Cert.PostIdeal.τ).loc Cert.PostIdeal.main_v3_1) = v1 c
          ∧ r.2.mem ((c.tc : Thread Cert.PostIdeal.nD Cert.PostIdeal.τ).loc Cert.PostIdeal.main_v3_2) = v2 c
          ∧ r.2.mem ((c.tc : Thread Cert.PostIdeal.nD Cert.PostIdeal.τ).loc Cert.PostIdeal.main_v3_3) = v3 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v49) = v0 c
          ∧ r.2.mem ((c.tc : Thread Cert.PostRefIdeal.nD Cert.PostRefIdeal.τ).loc Cert.PostRefIdeal.main_v28) = v1 c
          ∧ r.2.mem ((c.tc : Thread Cert.PostRefIdeal.nD Cert.PostRefIdeal.τ).loc Cert.PostRefIdeal.main_v55) = v2 c
          ∧ r.2.mem ((c.tc : Thread Cert.PostRefIdeal.nD Cert.PostRefIdeal.τ).loc Cert.PostRefIdeal.main_v57) = v3 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4))

def preserves_FfnIn_FfnInIdeal : Prop :=
  True

def algebraic_FfnInIdeal_FfnInRefIdeal_pre_finite_ffnin [hFfnInIdeal : Cert.FfnInIdeal.Facts] [hFfnInRefIdeal : Cert.FfnInRefIdeal.Facts] [hPre_finite_ffnin : Cert.Pre_finite_ffnin.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffnin m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)
      ∧ m' ((c.tc : Thread Cert.FfnInRefIdeal.nD Cert.FfnInRefIdeal.τ).loc Cert.FfnInRefIdeal.main_arg7) = m ((c.tc : Thread Cert.FfnInIdeal.nD Cert.FfnInIdeal.τ).loc Cert.FfnInIdeal.main_arg7)
      ∧ m' ((c.tc : Thread Cert.FfnInRefIdeal.nD Cert.FfnInRefIdeal.τ).loc Cert.FfnInRefIdeal.main_arg8) = m ((c.tc : Thread Cert.FfnInIdeal.nD Cert.FfnInIdeal.τ).loc Cert.FfnInIdeal.main_arg8)
      ∧ m' ((c.tc : Thread Cert.FfnInRefIdeal.nD Cert.FfnInRefIdeal.τ).loc Cert.FfnInRefIdeal.main_arg9) = m ((c.tc : Thread Cert.FfnInIdeal.nD Cert.FfnInIdeal.τ).loc Cert.FfnInIdeal.main_arg9)
      ∧ m' ((c.tc : Thread Cert.FfnInRefIdeal.nD Cert.FfnInRefIdeal.τ).loc Cert.FfnInRefIdeal.main_arg10) = m ((c.tc : Thread Cert.FfnInIdeal.nD Cert.FfnInIdeal.τ).loc Cert.FfnInIdeal.main_arg10)) →
    ∃ (v0 : (c : Dev Cert.FfnInIdeal.nD) → Buf (Elt Ideal) ((c.tc : Thread Cert.FfnInIdeal.nD Cert.FfnInIdeal.τ).loc Cert.FfnInIdeal.main_v4_0)) (v1 : (c : Dev Cert.FfnInIdeal.nD) → Buf (Elt Ideal) ((c.tc : Thread Cert.FfnInIdeal.nD Cert.FfnInIdeal.τ).loc Cert.FfnInIdeal.main_v4_1)) (v2 : (c : Dev Cert.FfnInIdeal.nD) → Buf (Elt Ideal) ((c.tc : Thread Cert.FfnInIdeal.nD Cert.FfnInIdeal.τ).loc Cert.FfnInIdeal.main_v4_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4_0) = v0 c
          ∧ r.2.mem ((c.tc : Thread Cert.FfnInIdeal.nD Cert.FfnInIdeal.τ).loc Cert.FfnInIdeal.main_v4_1) = v1 c
          ∧ r.2.mem ((c.tc : Thread Cert.FfnInIdeal.nD Cert.FfnInIdeal.τ).loc Cert.FfnInIdeal.main_v4_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
          ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8)
          ∧ r.2.mem ((c.tc : Thread Cert.FfnInIdeal.nD Cert.FfnInIdeal.τ).loc Cert.FfnInIdeal.main_arg9) = m ((c.tc : Thread Cert.FfnInIdeal.nD Cert.FfnInIdeal.τ).loc Cert.FfnInIdeal.main_arg9)
          ∧ r.2.mem ((c.tc : Thread Cert.FfnInIdeal.nD Cert.FfnInIdeal.τ).loc Cert.FfnInIdeal.main_arg10) = m ((c.tc : Thread Cert.FfnInIdeal.nD Cert.FfnInIdeal.τ).loc Cert.FfnInIdeal.main_arg10))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v62) = v0 c
          ∧ r.2.mem ((c.tc : Thread Cert.FfnInRefIdeal.nD Cert.FfnInRefIdeal.τ).loc Cert.FfnInRefIdeal.main_v71) = v1 c
          ∧ r.2.mem ((c.tc : Thread Cert.FfnInRefIdeal.nD Cert.FfnInRefIdeal.τ).loc Cert.FfnInRefIdeal.main_v70) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6)
          ∧ r.2.mem ((c.tc : Thread Cert.FfnInRefIdeal.nD Cert.FfnInRefIdeal.τ).loc Cert.FfnInRefIdeal.main_arg7) = m' ((c.tc : Thread Cert.FfnInRefIdeal.nD Cert.FfnInRefIdeal.τ).loc Cert.FfnInRefIdeal.main_arg7)
          ∧ r.2.mem ((c.tc : Thread Cert.FfnInRefIdeal.nD Cert.FfnInRefIdeal.τ).loc Cert.FfnInRefIdeal.main_arg8) = m' ((c.tc : Thread Cert.FfnInRefIdeal.nD Cert.FfnInRefIdeal.τ).loc Cert.FfnInRefIdeal.main_arg8)
          ∧ r.2.mem ((c.tc : Thread Cert.FfnInRefIdeal.nD Cert.FfnInRefIdeal.τ).loc Cert.FfnInRefIdeal.main_arg9) = m' ((c.tc : Thread Cert.FfnInRefIdeal.nD Cert.FfnInRefIdeal.τ).loc Cert.FfnInRefIdeal.main_arg9)
          ∧ r.2.mem ((c.tc : Thread Cert.FfnInRefIdeal.nD Cert.FfnInRefIdeal.τ).loc Cert.FfnInRefIdeal.main_arg10) = m' ((c.tc : Thread Cert.FfnInRefIdeal.nD Cert.FfnInRefIdeal.τ).loc Cert.FfnInRefIdeal.main_arg10))

def preserves_Proj_ProjIdeal : Prop :=
  True

def algebraic_ProjIdeal_ProjRefIdeal_pre_finite_proj [hProjIdeal : Cert.ProjIdeal.Facts] [hProjRefIdeal : Cert.ProjRefIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_proj m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v54) = v0 c
          ∧ r.2.mem ((c.tc : Thread Cert.ProjRefIdeal.nD Cert.ProjRefIdeal.τ).loc Cert.ProjRefIdeal.main_v53) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v3_0)) (v1 : (c : Dev Cert.PrepIdeal.nD) → Buf (Elt Ideal) ((c.tc : Thread Cert.PrepIdeal.nD Cert.PrepIdeal.τ).loc Cert.PrepIdeal.main_v3_1)) (v2 : (c : Dev Cert.PrepIdeal.nD) → Buf (Elt Ideal) ((c.tc : Thread Cert.PrepIdeal.nD Cert.PrepIdeal.τ).loc Cert.PrepIdeal.main_v3_2)) (v3 : (c : Dev Cert.PrepIdeal.nD) → Buf (Elt Ideal) ((c.tc : Thread Cert.PrepIdeal.nD Cert.PrepIdeal.τ).loc Cert.PrepIdeal.main_v3_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v3_0) = v0 c
          ∧ r.2.mem ((c.tc : Thread Cert.PrepIdeal.nD Cert.PrepIdeal.τ).loc Cert.PrepIdeal.main_v3_1) = v1 c
          ∧ r.2.mem ((c.tc : Thread Cert.PrepIdeal.nD Cert.PrepIdeal.τ).loc Cert.PrepIdeal.main_v3_2) = v2 c
          ∧ r.2.mem ((c.tc : Thread Cert.PrepIdeal.nD Cert.PrepIdeal.τ).loc Cert.PrepIdeal.main_v3_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v164) = v0 c
          ∧ r.2.mem ((c.tc : Thread Cert.PrepRefIdeal.nD Cert.PrepRefIdeal.τ).loc Cert.PrepRefIdeal.main_v166) = v1 c
          ∧ r.2.mem ((c.tc : Thread Cert.PrepRefIdeal.nD Cert.PrepRefIdeal.τ).loc Cert.PrepRefIdeal.main_v168) = v2 c
          ∧ r.2.mem ((c.tc : Thread Cert.PrepRefIdeal.nD Cert.PrepRefIdeal.τ).loc Cert.PrepRefIdeal.main_v170) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v77) = v0 c
          ∧ r.2.mem ((c.tc : Thread Cert.FfnRefIdeal.nD Cert.FfnRefIdeal.τ).loc Cert.FfnRefIdeal.main_v78) = v1 c
          ∧ r.2.mem ((c.tc : Thread Cert.FfnRefIdeal.nD Cert.FfnRefIdeal.τ).loc Cert.FfnRefIdeal.main_v66) = v2 c
          ∧ r.2.mem ((c.tc : Thread Cert.FfnRefIdeal.nD Cert.FfnRefIdeal.τ).loc Cert.FfnRefIdeal.main_v76) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Rel_RelIdeal : Prop :=
  True

def preserves_Scan_ScanIdeal : Prop :=
  True

def algebraic_ScanIdeal_ScanRefIdeal_pre_finite_scan [hScanIdeal : Cert.ScanIdeal.Facts] [hScanRefIdeal : Cert.ScanRefIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite_scan m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)) →
    ∃ (v0 : (c : Dev Cert.ScanIdeal.nD) → Buf (Elt Ideal) ((c.tc : Thread Cert.ScanIdeal.nD Cert.ScanIdeal.τ).loc Cert.ScanIdeal.main_v13_0)) (v1 : (c : Dev Cert.ScanIdeal.nD) → Buf (Elt Ideal) ((c.tc : Thread Cert.ScanIdeal.nD Cert.ScanIdeal.τ).loc Cert.ScanIdeal.main_v13_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v13_0) = v0 c
          ∧ r.2.mem ((c.tc : Thread Cert.ScanIdeal.nD Cert.ScanIdeal.τ).loc Cert.ScanIdeal.main_v13_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v32) = v0 c
          ∧ r.2.mem ((c.tc : Thread Cert.ScanRefIdeal.nD Cert.ScanRefIdeal.τ).loc Cert.ScanRefIdeal.main_v34) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6))

def preserves_Pass_PassIdeal : Prop :=
  True

def algebraic_PassIdeal_PassRefIdeal [hPassIdeal : Cert.PassIdeal.Facts] [hPassRefIdeal : Cert.PassRefIdeal.Facts] : Prop :=
  ∀ (m : (ℓ : Loc Cert.PassIdeal.nD Cert.PassIdeal.τ Cert.PassIdeal.sig) → Buf (Elt Ideal) ℓ) (g : Dev Cert.PassIdeal.nD → PrngReg)
    (m' : (ℓ : Loc Cert.PassRefIdeal.nD Cert.PassRefIdeal.τ Cert.PassRefIdeal.sig) → Buf (Elt Ideal) ℓ) (g' : Dev Cert.PassRefIdeal.nD → PrngReg), Pre_PassIdeal m →
    (∀ c : Dev Cert.PassIdeal.nD,
      m' ((c.tc : Thread Cert.PassRefIdeal.nD Cert.PassRefIdeal.τ).loc Cert.PassRefIdeal.main_arg0) = m ((c.tc : Thread Cert.PassIdeal.nD Cert.PassIdeal.τ).loc Cert.PassIdeal.main_arg0)
      ∧ m' ((c.tc : Thread Cert.PassRefIdeal.nD Cert.PassRefIdeal.τ).loc Cert.PassRefIdeal.main_arg1) = m ((c.tc : Thread Cert.PassIdeal.nD Cert.PassIdeal.τ).loc Cert.PassIdeal.main_arg1)
      ∧ m' ((c.tc : Thread Cert.PassRefIdeal.nD Cert.PassRefIdeal.τ).loc Cert.PassRefIdeal.main_arg2) = m ((c.tc : Thread Cert.PassIdeal.nD Cert.PassIdeal.τ).loc Cert.PassIdeal.main_arg2)
      ∧ m' ((c.tc : Thread Cert.PassRefIdeal.nD Cert.PassRefIdeal.τ).loc Cert.PassRefIdeal.main_arg3) = m ((c.tc : Thread Cert.PassIdeal.nD Cert.PassIdeal.τ).loc Cert.PassIdeal.main_arg3)
      ∧ m' ((c.tc : Thread Cert.PassRefIdeal.nD Cert.PassRefIdeal.τ).loc Cert.PassRefIdeal.main_arg4) = m ((c.tc : Thread Cert.PassIdeal.nD Cert.PassIdeal.τ).loc Cert.PassIdeal.main_arg4)
      ∧ m' ((c.tc : Thread Cert.PassRefIdeal.nD Cert.PassRefIdeal.τ).loc Cert.PassRefIdeal.main_arg5) = m ((c.tc : Thread Cert.PassIdeal.nD Cert.PassIdeal.τ).loc Cert.PassIdeal.main_arg5)) →
    ∃ (v0 : (c : Dev Cert.PassIdeal.nD) → Buf (Elt Ideal) ((c.tc : Thread Cert.PassIdeal.nD Cert.PassIdeal.τ).loc Cert.PassIdeal.main_v12_0)) (v1 : (c : Dev Cert.PassIdeal.nD) → Buf (Elt Ideal) ((c.tc : Thread Cert.PassIdeal.nD Cert.PassIdeal.τ).loc Cert.PassIdeal.main_v12_1)),
      θ_run (Cert.PassIdeal.defs (F := Ideal)) (onTc (τ := Cert.PassIdeal.τ) (Cert.PassIdeal.main (F := Ideal))) ⟨m, fun _ => 0, g⟩ (fun r => ∀ c : Dev Cert.PassIdeal.nD,
          r.2.mem ((c.tc : Thread Cert.PassIdeal.nD Cert.PassIdeal.τ).loc Cert.PassIdeal.main_v12_0) = v0 c
          ∧ r.2.mem ((c.tc : Thread Cert.PassIdeal.nD Cert.PassIdeal.τ).loc Cert.PassIdeal.main_v12_1) = v1 c
          ∧ r.2.mem ((c.tc : Thread Cert.PassIdeal.nD Cert.PassIdeal.τ).loc Cert.PassIdeal.main_arg0) = m ((c.tc : Thread Cert.PassIdeal.nD Cert.PassIdeal.τ).loc Cert.PassIdeal.main_arg0)
          ∧ r.2.mem ((c.tc : Thread Cert.PassIdeal.nD Cert.PassIdeal.τ).loc Cert.PassIdeal.main_arg1) = m ((c.tc : Thread Cert.PassIdeal.nD Cert.PassIdeal.τ).loc Cert.PassIdeal.main_arg1)
          ∧ r.2.mem ((c.tc : Thread Cert.PassIdeal.nD Cert.PassIdeal.τ).loc Cert.PassIdeal.main_arg2) = m ((c.tc : Thread Cert.PassIdeal.nD Cert.PassIdeal.τ).loc Cert.PassIdeal.main_arg2)
          ∧ r.2.mem ((c.tc : Thread Cert.PassIdeal.nD Cert.PassIdeal.τ).loc Cert.PassIdeal.main_arg3) = m ((c.tc : Thread Cert.PassIdeal.nD Cert.PassIdeal.τ).loc Cert.PassIdeal.main_arg3)
          ∧ r.2.mem ((c.tc : Thread Cert.PassIdeal.nD Cert.PassIdeal.τ).loc Cert.PassIdeal.main_arg4) = m ((c.tc : Thread Cert.PassIdeal.nD Cert.PassIdeal.τ).loc Cert.PassIdeal.main_arg4)
          ∧ r.2.mem ((c.tc : Thread Cert.PassIdeal.nD Cert.PassIdeal.τ).loc Cert.PassIdeal.main_arg5) = m ((c.tc : Thread Cert.PassIdeal.nD Cert.PassIdeal.τ).loc Cert.PassIdeal.main_arg5))
      ∧ θ_run (Cert.PassRefIdeal.defs (F := Ideal)) (onTc (τ := Cert.PassRefIdeal.τ) (Cert.PassRefIdeal.main (F := Ideal))) ⟨m', fun _ => 0, g'⟩ (fun r => ∀ c : Dev Cert.PassRefIdeal.nD,
          r.2.mem ((c.tc : Thread Cert.PassRefIdeal.nD Cert.PassRefIdeal.τ).loc Cert.PassRefIdeal.main_v17) = v0 c
          ∧ r.2.mem ((c.tc : Thread Cert.PassRefIdeal.nD Cert.PassRefIdeal.τ).loc Cert.PassRefIdeal.main_v19) = v1 c
          ∧ r.2.mem ((c.tc : Thread Cert.PassRefIdeal.nD Cert.PassRefIdeal.τ).loc Cert.PassRefIdeal.main_arg0) = m' ((c.tc : Thread Cert.PassRefIdeal.nD Cert.PassRefIdeal.τ).loc Cert.PassRefIdeal.main_arg0)
          ∧ r.2.mem ((c.tc : Thread Cert.PassRefIdeal.nD Cert.PassRefIdeal.τ).loc Cert.PassRefIdeal.main_arg1) = m' ((c.tc : Thread Cert.PassRefIdeal.nD Cert.PassRefIdeal.τ).loc Cert.PassRefIdeal.main_arg1)
          ∧ r.2.mem ((c.tc : Thread Cert.PassRefIdeal.nD Cert.PassRefIdeal.τ).loc Cert.PassRefIdeal.main_arg2) = m' ((c.tc : Thread Cert.PassRefIdeal.nD Cert.PassRefIdeal.τ).loc Cert.PassRefIdeal.main_arg2)
          ∧ r.2.mem ((c.tc : Thread Cert.PassRefIdeal.nD Cert.PassRefIdeal.τ).loc Cert.PassRefIdeal.main_arg3) = m' ((c.tc : Thread Cert.PassRefIdeal.nD Cert.PassRefIdeal.τ).loc Cert.PassRefIdeal.main_arg3)
          ∧ r.2.mem ((c.tc : Thread Cert.PassRefIdeal.nD Cert.PassRefIdeal.τ).loc Cert.PassRefIdeal.main_arg4) = m' ((c.tc : Thread Cert.PassRefIdeal.nD Cert.PassRefIdeal.τ).loc Cert.PassRefIdeal.main_arg4)
          ∧ r.2.mem ((c.tc : Thread Cert.PassRefIdeal.nD Cert.PassRefIdeal.τ).loc Cert.PassRefIdeal.main_arg5) = m' ((c.tc : Thread Cert.PassRefIdeal.nD Cert.PassRefIdeal.τ).loc Cert.PassRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_v25) = v1 c
          ∧ r.2.mem ((c.tc : Thread Cert.OutRefIdeal.nD Cert.OutRefIdeal.τ).loc Cert.OutRefIdeal.main_v26) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)) (v2 : (c : Dev Cert.InIdeal.nD) → Buf (Elt Ideal) ((c.tc : Thread Cert.InIdeal.nD Cert.InIdeal.τ).loc Cert.InIdeal.main_v1_2)) (v3 : (c : Dev Cert.InIdeal.nD) → Buf (Elt Ideal) ((c.tc : Thread Cert.InIdeal.nD Cert.InIdeal.τ).loc Cert.InIdeal.main_v1_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_v1_2) = v2 c
          ∧ r.2.mem ((c.tc : Thread Cert.InIdeal.nD Cert.InIdeal.τ).loc Cert.InIdeal.main_v1_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v23) = v0 c
          ∧ r.2.mem ((c.tc : Thread Cert.InRefIdeal.nD Cert.InRefIdeal.τ).loc Cert.InRefIdeal.main_v24) = v1 c
          ∧ r.2.mem ((c.tc : Thread Cert.InRefIdeal.nD Cert.InRefIdeal.τ).loc Cert.InRefIdeal.main_v25) = v2 c
          ∧ r.2.mem ((c.tc : Thread Cert.InRefIdeal.nD Cert.InRefIdeal.τ).loc Cert.InRefIdeal.main_v22) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v19) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def Claim : Prop :=
  ∃ (hAct : Cert.Act.Facts) (hActIdeal : Cert.ActIdeal.Facts) (hActRefIdeal : Cert.ActRefIdeal.Facts) (hConv : Cert.Conv.Facts) (hConvIdeal : Cert.ConvIdeal.Facts) (hConvRefIdeal : Cert.ConvRefIdeal.Facts) (hPost : Cert.Post.Facts) (hPostIdeal : Cert.PostIdeal.Facts) (hPostRefIdeal : Cert.PostRefIdeal.Facts) (hFfnIn : Cert.FfnIn.Facts) (hFfnInIdeal : Cert.FfnInIdeal.Facts) (hFfnInRefIdeal : Cert.FfnInRefIdeal.Facts) (hProj : Cert.Proj.Facts) (hProjIdeal : Cert.ProjIdeal.Facts) (hProjRefIdeal : Cert.ProjRefIdeal.Facts) (hPrep : Cert.Prep.Facts) (hPrepIdeal : Cert.PrepIdeal.Facts) (hPrepRefIdeal : Cert.PrepRefIdeal.Facts) (hFfn : Cert.Ffn.Facts) (hFfnIdeal : Cert.FfnIdeal.Facts) (hFfnRefIdeal : Cert.FfnRefIdeal.Facts) (hRel : Cert.Rel.Facts) (hRelIdeal : Cert.RelIdeal.Facts) (hRelRefIdeal : Cert.RelRefIdeal.Facts) (hScan : Cert.Scan.Facts) (hScanIdeal : Cert.ScanIdeal.Facts) (hScanRefIdeal : Cert.ScanRefIdeal.Facts) (hPass : Cert.Pass.Facts) (hPassIdeal : Cert.PassIdeal.Facts) (hPassRefIdeal : Cert.PassRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hGate : Cert.Gate.Facts) (hGateIdeal : Cert.GateIdeal.Facts) (hGateRefIdeal : Cert.GateRefIdeal.Facts) (hPre_finite_act : Cert.Pre_finite_act.Facts) (hPre_finite_post : Cert.Pre_finite_post.Facts) (hPre_finite_ffnin : Cert.Pre_finite_ffnin.Facts) (hPre_finite_proj : Cert.Pre_finite_proj.Facts) (hPre_finite_prep : Cert.Pre_finite_prep.Facts) (hPre_finite_ffn : Cert.Pre_finite_ffn.Facts) (hPre_finite_scan : Cert.Pre_finite_scan.Facts) (hPre_finite_gate : Cert.Pre_finite_gate.Facts),
    quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_Conv (hConv := hConv)
    ∧ quiescent_ConvIdeal (hConvIdeal := hConvIdeal)
    ∧ quiescent_ConvRefIdeal (hConvRefIdeal := hConvRefIdeal)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_FfnIn (hFfnIn := hFfnIn)
    ∧ quiescent_FfnInIdeal (hFfnInIdeal := hFfnInIdeal)
    ∧ quiescent_FfnInIdeal_pre_finite_ffnin (hFfnInIdeal := hFfnInIdeal) (hPre_finite_ffnin := hPre_finite_ffnin)
    ∧ quiescent_FfnInRefIdeal (hFfnInRefIdeal := hFfnInRefIdeal)
    ∧ quiescent_FfnInRefIdeal_pre_finite_ffnin (hFfnInRefIdeal := hFfnInRefIdeal) (hPre_finite_ffnin := hPre_finite_ffnin)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Rel (hRel := hRel)
    ∧ quiescent_RelIdeal (hRelIdeal := hRelIdeal)
    ∧ quiescent_RelRefIdeal (hRelRefIdeal := hRelRefIdeal)
    ∧ quiescent_Scan (hScan := hScan)
    ∧ quiescent_ScanIdeal (hScanIdeal := hScanIdeal)
    ∧ quiescent_ScanIdeal_pre_finite_scan (hScanIdeal := hScanIdeal) (hPre_finite_scan := hPre_finite_scan)
    ∧ quiescent_ScanRefIdeal (hScanRefIdeal := hScanRefIdeal)
    ∧ quiescent_ScanRefIdeal_pre_finite_scan (hScanRefIdeal := hScanRefIdeal) (hPre_finite_scan := hPre_finite_scan)
    ∧ quiescent_Pass (hPass := hPass)
    ∧ quiescent_PassIdeal (hPassIdeal := hPassIdeal)
    ∧ quiescent_PassRefIdeal (hPassRefIdeal := hPassRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ preserves_Act_ActIdeal
    ∧ algebraic_ActIdeal_ActRefIdeal_pre_finite_act (hActIdeal := hActIdeal) (hActRefIdeal := hActRefIdeal) (hPre_finite_act := hPre_finite_act)
    ∧ preserves_Conv_ConvIdeal
    ∧ algebraic_ConvIdeal_ConvRefIdeal (hConvIdeal := hConvIdeal) (hConvRefIdeal := hConvRefIdeal)
    ∧ preserves_Post_PostIdeal
    ∧ algebraic_PostIdeal_PostRefIdeal_pre_finite_post (hPostIdeal := hPostIdeal) (hPostRefIdeal := hPostRefIdeal) (hPre_finite_post := hPre_finite_post)
    ∧ preserves_FfnIn_FfnInIdeal
    ∧ algebraic_FfnInIdeal_FfnInRefIdeal_pre_finite_ffnin (hFfnInIdeal := hFfnInIdeal) (hFfnInRefIdeal := hFfnInRefIdeal) (hPre_finite_ffnin := hPre_finite_ffnin)
    ∧ preserves_Proj_ProjIdeal
    ∧ algebraic_ProjIdeal_ProjRefIdeal_pre_finite_proj (hProjIdeal := hProjIdeal) (hProjRefIdeal := hProjRefIdeal) (hPre_finite_proj := hPre_finite_proj)
    ∧ preserves_Prep_PrepIdeal
    ∧ algebraic_PrepIdeal_PrepRefIdeal_pre_finite_prep (hPrepIdeal := hPrepIdeal) (hPrepRefIdeal := hPrepRefIdeal) (hPre_finite_prep := hPre_finite_prep)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Rel_RelIdeal
    ∧ preserves_Scan_ScanIdeal
    ∧ algebraic_ScanIdeal_ScanRefIdeal_pre_finite_scan (hScanIdeal := hScanIdeal) (hScanRefIdeal := hScanRefIdeal) (hPre_finite_scan := hPre_finite_scan)
    ∧ preserves_Pass_PassIdeal
    ∧ algebraic_PassIdeal_PassRefIdeal (hPassIdeal := hPassIdeal) (hPassRefIdeal := hPassRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Gate_GateIdeal
    ∧ algebraic_GateIdeal_GateRefIdeal_pre_finite_gate (hGateIdeal := hGateIdeal) (hGateRefIdeal := hGateRefIdeal) (hPre_finite_gate := hPre_finite_gate)
-- ==== Pre_finite_act.lean ====
abbrev S8192x1024 : Shape := ⟨2, ![8192, 1024]⟩
abbrev S1x1024 : Shape := ⟨2, ![1, 1024]⟩
abbrev S8192x2816 : Shape := ⟨2, ![8192, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8192x2816 : S_.BroadcastsInDim S8192x2816 (![] : Fin 0 → Fin S8192x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1x1024 .f32) (main_arg2 : FVec F S8192x2816 .bf16) (main_arg3 : FVec F S8192x2816 .bf16) (main_arg4 : FVec F S2816x1024 .bf16) : IVec S8192x1024 1 × IVec S1x1024 1 × IVec S8192x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x2816 .bf16 := Host.absf main_arg3
  let main_cst_1 : FVec F S_ .bf16 := constant S_ .bf16 0x7F80#16
  let main_v7 : FVec F S8192x2816 .bf16 := broadcastInDim S8192x2816 ![] bcast_S_S8192x2816 main_cst_1
  let main_v8 : IVec S8192x2816 1 := cmpf .olt main_v6 main_v7
  let main_v9 : FVec F S2816x1024 .bf16 := Host.absf main_arg4
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  (main_v2, main_v5, main_v8, main_v11)
-- ==== Pre_finite_ffn.lean ====
abbrev S8192x1024 : Shape := ⟨2, ![8192, 1024]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S8192x1024 .f32) (main_v2 : IVec S8192x1024 1) (main_v5 : IVec S2816x1024 1) (main_v8 : IVec S2816x1024 1) (main_v11 : IVec S2816x1024 1) (main_v14 : IVec S8192x1024 1) (main_v17 : IVec S1x1024 1) : IVec S8192x1024 1 × IVec S2816x1024 1 × IVec S2816x1024 1 × IVec S2816x1024 1 × IVec S8192x1024 1 × IVec S1x1024 1 × IVec S1x1024 1 × IVec S8192x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x1024 .bf16) (main_arg1 : FVec F S2816x1024 .bf16) (main_arg2 : FVec F S2816x1024 .bf16) (main_arg3 : FVec F S2816x1024 .bf16) (main_arg4 : FVec F S8192x1024 .f32) (main_arg5 : FVec F S1x1024 .f32) (main_arg6 : FVec F S1x1024 .f32) (main_arg7 : FVec F S8192x1024 .f32) : IVec S8192x1024 1 × IVec S2816x1024 1 × IVec S2816x1024 1 × IVec S2816x1024 1 × IVec S8192x1024 1 × IVec S1x1024 1 × IVec S1x1024 1 × IVec S8192x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_finite_ffnin.lean ====
abbrev S8192x1024 : Shape := ⟨2, ![8192, 1024]⟩
abbrev S8192x2816 : Shape := ⟨2, ![8192, 2816]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x2816 : S_.BroadcastsInDim S8192x2816 (![] : Fin 0 → Fin S8192x2816.rank)
  bcast_S_S1x1024 : S_.BroadcastsInDim S1x1024 (![] : Fin 0 → Fin S1x1024.rank)
  bcast_S_S2816x1024 : S_.BroadcastsInDim S2816x1024 (![] : Fin 0 → Fin S2816x1024.rank)

variable [Facts]

def fn_part1 {F : FTy → Type} [FloatOps F] (main_arg6 : FVec F S1x1024 .f32) (main_arg7 : FVec F S1x1024 .f32) (main_arg9 : FVec F S2816x1024 .bf16) (main_arg10 : FVec F S2816x1024 .bf16) (main_v2 : IVec S8192x1024 1) (main_v5 : IVec S8192x2816 1) (main_v8 : IVec S8192x2816 1) (main_v11 : IVec S8192x1024 1) (main_v14 : IVec S8192x1024 1) (main_v17 : IVec S1x1024 1) : IVec S8192x1024 1 × IVec S8192x2816 1 × IVec S8192x2816 1 × IVec S8192x1024 1 × IVec S8192x1024 1 × IVec S1x1024 1 × IVec S1x1024 1 × IVec S1x1024 1 × IVec S2816x1024 1 × IVec S2816x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S2816x1024 .bf16 := Host.absf main_arg9
  let main_cst_7 : FVec F S_ .bf16 := constant S_ .bf16 0x7F80#16
  let main_v25 : FVec F S2816x1024 .bf16 := broadcastInDim S2816x1024 ![] bcast_S_S2816x1024 main_cst_7
  let main_v26 : IVec S2816x1024 1 := cmpf .olt main_v24 main_v25
  let main_v27 : FVec F S2816x1024 .bf16 := Host.absf main_arg10
  let main_cst_8 : FVec F S_ .bf16 := constant S_ .bf16 0x7F80#16
  let main_v28 : FVec F S2816x1024 .bf16 := broadcastInDim S2816x1024 ![] bcast_S_S2816x1024 main_cst_8
  let main_v29 : IVec S2816x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S8192x2816 .bf16) (main_arg2 : FVec F S8192x2816 .bf16) (main_arg3 : FVec F S8192x1024 .f32) (main_arg4 : FVec F S8192x1024 .bf16) (main_arg5 : FVec F S1x1024 .f32) (main_arg6 : FVec F S1x1024 .f32) (main_arg7 : FVec F S1x1024 .f32) (main_arg8 : FVec F S1x1024 .f32) (main_arg9 : FVec F S2816x1024 .bf16) (main_arg10 : FVec F S2816x1024 .bf16) : IVec S8192x1024 1 × IVec S8192x2816 1 × IVec S8192x2816 1 × IVec S8192x1024 1 × IVec S8192x1024 1 × IVec S1x1024 1 × IVec S1x1024 1 × IVec S1x1024 1 × IVec S2816x1024 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x2816 .bf16 := Host.absf main_arg1
  let main_cst_0 : FVec F S_ .bf16 := constant S_ .bf16 0x7F80#16
  let main_v4 : FVec F S8192x2816 .bf16 := broadcastInDim S8192x2816 ![] bcast_S_S8192x2816 main_cst_0
  let main_v5 : IVec S8192x2816 1 := cmpf .olt main_v3 main_v4
  let main_v6 : FVec F S8192x2816 .bf16 := Host.absf main_arg2
  let main_cst_1 : FVec F S_ .bf16 := constant S_ .bf16 0x7F80#16
  let main_v7 : FVec F S8192x2816 .bf16 := broadcastInDim S8192x2816 ![] bcast_S_S8192x2816 main_cst_1
  let main_v8 : IVec S8192x2816 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .bf16 := Host.absf main_arg4
  let main_cst_3 : FVec F S_ .bf16 := constant S_ .bf16 0x7F80#16
  let main_v13 : FVec F S8192x1024 .bf16 := broadcastInDim S8192x1024 ![] bcast_S_S8192x1024 main_cst_3
  let main_v14 : IVec S8192x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg9 main_arg10 main_v2 main_v5 main_v8 main_v11 main_v14 main_v17
-- ==== Pre_finite_gate.lean ====
abbrev S8192x512 : Shape := ⟨2, ![8192, 512]⟩
abbrev S8192x2048 : Shape := ⟨2, ![8192, 2048]⟩
abbrev S1x64 : Shape := ⟨2, ![1, 64]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x2048 .f32) (main_arg2 : FVec F S1x64 .f32) : IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  main_v2
-- ==== Pre_finite_post.lean ====
abbrev S8192x1024 : Shape := ⟨2, ![8192, 1024]⟩
abbrev S8192x512 : Shape := ⟨2, ![8192, 512]⟩
abbrev S8192x2048 : Shape := ⟨2, ![8192, 2048]⟩
abbrev S1x64 : Shape := ⟨2, ![1, 64]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8192x2048 : S_.BroadcastsInDim S8192x2048 (![] : Fin 0 → Fin S8192x2048.rank)
  bcast_S_S1x64 : S_.BroadcastsInDim S1x64 (![] : Fin 0 → Fin S1x64.rank)

variable [Facts]

def fn {F : FTy → Type} [FloatOps F] (main_arg0 : FVec F S8192x1024 .f32) (main_arg1 : FVec F S8192x512 .f32) (main_arg2 : FVec F S8192x2048 .f32) (main_arg3 : FVec F S1x64 .f32) (main_arg4 : FVec F S8192x1024 .bf16) : IVec S8192x1024 1 × IVec S8192x512 1 × IVec S8192x2048 1 × IVec S1x64 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  (main_v2, main_v5, main_v8, main_v11)
-- ==== Pre_finite_prep.lean ====
abbrev S8192x2048 : Shape := ⟨2, ![8192, 2048]⟩
abbrev S8192x16 : Shape := ⟨2, ![8192, 16]⟩
abbrev S4x1536 : Shape := ⟨2, ![4, 1536]⟩
abbrev S1x8 : Shape := ⟨2, ![1, 8]⟩
abbrev S5x8192x512 : Shape := ⟨3, ![5, 8192, 512]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  bcast_S_S8192x16 : S_.BroadcastsInDim S8192x16 (![] : Fin 0 → Fin S8192x16.rank)
  bcast_S_S4x1536 : S_.BroadcastsInDim S4x1536 (![] : Fin 0 → Fin S4x1536.rank)
  bcast_S_S1x8 : S_.BroadcastsInDim S1x8 (![] : Fin 0 → Fin S1x8.rank)
  bcast_S_S5x8192x512 : S_.BroadcastsInDim S5x8192x512 (![] : Fin 0 → Fin S5x8192x512.rank)

variable [Facts]

def fn {F : FTy → Type} [FloatOps F] (main_arg0 : FVec F S8192x2048 .f32) (main_arg1 : FVec F S8192x16 .f32) (main_arg2 : FVec F S4x1536 .f32) (main_arg3 : FVec F S1x8 .f32) (main_arg4 : FVec F S1x8 .f32) (main_arg5 : FVec F S5x8192x512 .f32) (main_arg6 : FVec F S8192x1024 .bf16) : IVec S8192x2048 1 × IVec S8192x16 1 × IVec S4x1536 1 × IVec S1x8 1 × IVec S1x8 1 × IVec S5x8192x512 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x16 .f32 := Host.absf main_arg1
  let main_cst_0 : FVec F S_ .f32 := constant S_ .f32 0x7F800000#32
  let main_v4 : FVec F S8192x16 .f32 := broadcastInDim S8192x16 ![] bcast_S_S8192x16 main_cst_0
  let main_v5 : IVec S8192x16 1 := cmpf .olt main_v3 main_v4
  let main_v6 : FVec F S4x1536 .f32 := Host.absf main_arg2
  let main_cst_1 : FVec F S_ .f32 := constant S_ .f32 0x7F800000#32
  let main_v7 : FVec F S4x1536 .f32 := broadcastInDim S4x1536 ![] bcast_S_S4x1536 main_cst_1
  let main_v8 : IVec S4x1536 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S1x8 .f32 := Host.absf main_arg4
  let main_cst_3 : FVec F S_ .f32 := constant S_ .f32 0x7F800000#32
  let main_v13 : FVec F S1x8 .f32 := broadcastInDim S1x8 ![] bcast_S_S1x8 main_cst_3
  let main_v14 : IVec S1x8 1 := cmpf .olt main_v12 main_v13
  let main_v15 : FVec F S5x8192x512 .f32 := Host.absf main_arg5
  let main_cst_4 : FVec F S_ .f32 := constant S_ .f32 0x7F800000#32
  let main_v16 : FVec F S5x8192x512 .f32 := broadcastInDim S5x8192x512 ![] bcast_S_S5x8192x512 main_cst_4
  let main_v17 : IVec S5x8192x512 1 := cmpf .olt main_v15 main_v16
  (main_v2, main_v5, main_v8, main_v11, main_v14, main_v17)
-- ==== Pre_finite_proj.lean ====
abbrev S8192x512 : Shape := ⟨2, ![8192, 512]⟩
abbrev S8192x1536 : Shape := ⟨2, ![8192, 1536]⟩
abbrev S8192x16 : Shape := ⟨2, ![8192, 16]⟩
abbrev S3600x1024 : Shape := ⟨2, ![3600, 1024]⟩
abbrev S8192x1024 : Shape := ⟨2, ![8192, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  bcast_S_S8192x1536 : S_.BroadcastsInDim S8192x1536 (![] : Fin 0 → Fin S8192x1536.rank)
  bcast_S_S8192x16 : S_.BroadcastsInDim S8192x16 (![] : Fin 0 → Fin S8192x16.rank)
  bcast_S_S3600x1024 : S_.BroadcastsInDim S3600x1024 (![] : Fin 0 → Fin S3600x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S3600x1024 .bf16) (main_arg7 : FVec F S8192x1024 .f32) (main_arg9 : FVec F S1x1024 .f32) (main_arg10 : FVec F S1x1024 .f32) (main_v2 : IVec S8192x512 1) (main_v5 : IVec S8192x512 1) (main_v8 : IVec S8192x512 1) (main_v11 : IVec S8192x1536 1) (main_v14 : IVec S8192x512 1) (main_v17 : IVec S8192x16 1) : IVec S8192x512 1 × IVec S8192x512 1 × IVec S8192x512 1 × IVec S8192x1536 1 × IVec S8192x512 1 × IVec S8192x16 1 × IVec S3600x1024 1 × IVec S8192x1024 1 × IVec S1x1024 1 × IVec S1x1024 1 :=
  let main_v18 : FVec F S3600x1024 .bf16 := Host.absf main_arg6
  let main_cst_5 : FVec F S_ .bf16 := constant S_ .bf16 0x7F80#16
  let main_v19 : FVec F S3600x1024 .bf16 := broadcastInDim S3600x1024 ![] bcast_S_S3600x1024 main_cst_5
  let main_v20 : IVec S3600x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  let main_v24 : FVec F S1x1024 .f32 := Host.absf main_arg9
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x1024 .f32 := Host.absf main_arg10
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  (main_v2, main_v5, main_v8, main_v11, main_v14, main_v17, main_v20, main_v23, main_v26, main_v29)

def fn {F : FTy → Type} [FloatOps F] (main_arg0 : FVec F S8192x512 .f32) (main_arg1 : FVec F S8192x512 .f32) (main_arg2 : FVec F S8192x512 .f32) (main_arg3 : FVec F S8192x1536 .f32) (main_arg4 : FVec F S8192x512 .f32) (main_arg5 : FVec F S8192x16 .f32) (main_arg6 : FVec F S3600x1024 .bf16) (main_arg7 : FVec F S8192x1024 .f32) (main_arg8 : FVec F S8192x1024 .f32) (main_arg9 : FVec F S1x1024 .f32) (main_arg10 : FVec F S1x1024 .f32) (main_arg11 : FVec F S1x1024 .f32) : IVec S8192x512 1 × IVec S8192x512 1 × IVec S8192x512 1 × IVec S8192x1536 1 × IVec S8192x512 1 × IVec S8192x16 1 × IVec S3600x1024 1 × IVec S8192x1024 1 × IVec S1x1024 1 × IVec S1x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x1536 .f32 := Host.absf main_arg3
  let main_cst_2 : FVec F S_ .f32 := constant S_ .f32 0x7F800000#32
  let main_v10 : FVec F S8192x1536 .f32 := broadcastInDim S8192x1536 ![] bcast_S_S8192x1536 main_cst_2
  let main_v11 : IVec S8192x1536 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x16 .f32 := Host.absf main_arg5
  let main_cst_4 : FVec F S_ .f32 := constant S_ .f32 0x7F800000#32
  let main_v16 : FVec F S8192x16 .f32 := broadcastInDim S8192x16 ![] bcast_S_S8192x16 main_cst_4
  let main_v17 : IVec S8192x16 1 := cmpf .olt main_v15 main_v16
  fn_part1 (F := F) main_arg6 main_arg7 main_arg9 main_arg10 main_v2 main_v5 main_v8 main_v11 main_v14 main_v17
-- ==== Pre_finite_scan.lean ====
abbrev S8192x8x64 : Shape := ⟨3, ![8192, 8, 64]⟩
abbrev S8192x8 : Shape := ⟨2, ![8192, 8]⟩
abbrev S8x8192x64 : Shape := ⟨3, ![8, 8192, 64]⟩
abbrev S_ : Shape := ⟨0, ![]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)
  bcast_S_S8x8192x64 : S_.BroadcastsInDim S8x8192x64 (![] : Fin 0 → Fin S8x8192x64.rank)

variable [Facts]

def fn {F : FTy → Type} [FloatOps F] (main_arg0 : FVec F S8192x8x64 .f32) (main_arg1 : FVec F S8192x8x64 .f32) (main_arg2 : FVec F S8192x8 .f32) (main_arg3 : FVec F S8x8192x64 .f32) (main_arg4 : FVec F S8x8192x64 .f32) (main_arg5 : FVec F S8x8192x64 .f32) (main_arg6 : FVec F S8192x8x64 .f32) : IVec S8192x8x64 1 × IVec S8192x8x64 1 × IVec S8192x8 1 × IVec S8x8192x64 1 × IVec S8x8192x64 1 × IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8 .f32 := Host.absf main_arg2
  let main_cst_1 : FVec F S_ .f32 := constant S_ .f32 0x7F800000#32
  let main_v7 : FVec F S8192x8 .f32 := broadcastInDim S8192x8 ![] bcast_S_S8192x8 main_cst_1
  let main_v8 : IVec S8192x8 1 := cmpf .olt main_v6 main_v7
  let main_v9 : FVec F S8x8192x64 .f32 := Host.absf main_arg3
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  let main_v12 : FVec F S8x8192x64 .f32 := Host.absf main_arg5
  let main_cst_3 : FVec F S_ .f32 := constant S_ .f32 0x7F800000#32
  let main_v13 : FVec F S8x8192x64 .f32 := broadcastInDim S8x8192x64 ![] bcast_S_S8x8192x64 main_cst_3
  let main_v14 : IVec S8x8192x64 1 := cmpf .olt main_v12 main_v13
  let main_v15 : FVec F S8192x8x64 .f32 := Host.absf main_arg6
  let main_cst_4 : FVec F S_ .f32 := constant S_ .f32 0x7F800000#32
  let main_v16 : FVec F S8192x8x64 .f32 := broadcastInDim S8192x8x64 ![] bcast_S_S8192x8x64 main_cst_4
  let main_v17 : IVec S8192x8x64 1 := cmpf .olt main_v15 main_v16
  (main_v2, main_v5, main_v8, main_v11, main_v14, main_v17)
-- ==== Act.lean ====
abbrev S8192x1024 : Shape := ⟨2, ![8192, 1024]⟩
abbrev S1x1024 : Shape := ⟨2, ![1, 1024]⟩
abbrev S8192x2816 : Shape := ⟨2, ![8192, 2816]⟩
abbrev S2816x1024 : Shape := ⟨2, ![2816, 1024]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S1408x1024, .f32⟩
  | .local _ .vmem, ⟨14, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg1 : BitVec 32 := BitVec.ofNat 32 (i 1).val
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1408x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ActRefIdeal.lean ====
abbrev S8192x1024 : Shape := ⟨2, ![8192, 1024]⟩
abbrev S1x1024 : Shape := ⟨2, ![1, 1024]⟩
abbrev S8192x2816 : Shape := ⟨2, ![8192, 2816]⟩
abbrev S2816x1024 : Shape := ⟨2, ![2816, 1024]⟩
abbrev S_ : Shape := ⟨0, ![]⟩
abbrev S1024x2816 : Shape := ⟨2, ![1024, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x2816, .f32⟩
  | .hbm, ⟨28, _⟩ => ⟨S2816x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | .hbm, ⟨37, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Conv.lean ====
abbrev S8192x1536 : Shape := ⟨2, ![8192, 1536]⟩
abbrev S8192x2048 : Shape := ⟨2, ![8192, 2048]⟩
abbrev S4x1536 : Shape := ⟨2, ![4, 1536]⟩
abbrev S8192x1024 : Shape := ⟨2, ![8192, 1024]⟩
abbrev S1536x1024 : Shape := ⟨2, ![1536, 1024]⟩
abbrev S512x1536 : Shape := ⟨2, ![512, 1536]⟩
abbrev S8x1536 : Shape := ⟨2, ![8, 1536]⟩
abbrev S512x1024 : Shape := ⟨2, ![512, 1024]⟩
abbrev S520x1536 : Shape := ⟨2, ![520, 1536]⟩
abbrev S1x1536 : Shape := ⟨2, ![1, 1536]⟩
abbrev S1536 : Shape := ⟨1, ![1536]⟩

abbrev nBuf : Space → Nat
  | .hbm => 7
  | .vmem => 17
  | .smem => 0
  | _ => 0

abbrev bufTy : (tb : Table) → Fin (tcTables nBuf tb) → BufTy
  | .hbm, ⟨0, _⟩ => ⟨S8192x1536, .f32⟩
  | .hbm, ⟨1, _⟩ => ⟨S8192x2048, .f32⟩
  | .hbm, ⟨2, _⟩ => ⟨S4x1536, .f32⟩
  | .hbm, ⟨3, _⟩ => ⟨S8192x1024, .bf16⟩
  | .hbm, ⟨4, _⟩ => ⟨S8192x1536, .f32⟩
  | .hbm, ⟨5, _⟩ => ⟨S4x1536, .f32⟩
  | .hbm, ⟨6, _⟩ => ⟨S1536x1024, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x1536, .f32⟩
  | .local _ .vmem, ⟨5, _⟩ => ⟨S512x1536, .f32⟩
  | .local _ .vmem, ⟨6, _⟩ => ⟨S8x1536, .f32⟩
  | .local _ .vmem, ⟨7, _⟩ => ⟨S8x1536, .f32⟩
  | .local _ .vmem, ⟨8, _⟩ => ⟨S4x1536, .f32⟩
  | .local _ .vmem, ⟨9, _⟩ => ⟨S512x1024, .bf16⟩
  | .local _ .vmem, ⟨10, _⟩ => ⟨S512x1024, .bf16⟩
  | .local _ .vmem, ⟨11, _⟩ => ⟨S512x1536, .f32⟩
  | .local _ .vmem, ⟨12, _⟩ => ⟨S512x1536, .f32⟩
  | .local _ .vmem, ⟨13, _⟩ => ⟨S4x1536, .f32⟩
  | .local _ .vmem, ⟨14, _⟩ => ⟨S1536x1024, .f32⟩
  | .local _ .vmem, ⟨15, _⟩ => ⟨S520x1536, .f32⟩
  | .local _ .vmem, ⟨16, _⟩ => ⟨S520x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvRefIdeal.lean ====
abbrev S8192x1536 : Shape := ⟨2, ![8192, 1536]⟩
abbrev S8192x2048 : Shape := ⟨2, ![8192, 2048]⟩
abbrev S4x1536 : Shape := ⟨2, ![4, 1536]⟩
abbrev S8192x1024 : Shape := ⟨2, ![8192, 1024]⟩
abbrev S_ : Shape := ⟨0, ![]⟩
abbrev S3x1536 : Shape := ⟨2, ![3, 1536]⟩
abbrev S8195x1536 : Shape := ⟨2, ![8195, 1536]⟩
abbrev S1x1536 : Shape := ⟨2, ![1, 1536]⟩
abbrev S1536 : Shape := ⟨1, ![1536]⟩
abbrev S1536x1024 : Shape := ⟨2, ![1536, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x2048, .f32⟩
  | .hbm, ⟨2, _⟩ => ⟨S4x1536, .f32⟩
  | .hbm, ⟨3, _⟩ => ⟨S8192x1024, .bf16⟩
  | .hbm, ⟨4, _⟩ => ⟨S8192x1536, .f32⟩
  | .hbm, ⟨5, _⟩ => ⟨S_, .f32⟩
  | .hbm, ⟨6, _⟩ => ⟨S3x1536, .f32⟩
  | .hbm, ⟨7, _⟩ => ⟨S8195x1536, .f32⟩
  | .hbm, ⟨8, _⟩ => ⟨S_, .f32⟩
  | .hbm, ⟨9, _⟩ => ⟨S3x1536, .f32⟩
  | .hbm, ⟨10, _⟩ => ⟨S1x1536, .f32⟩
  | .hbm, ⟨11, _⟩ => ⟨S1536, .f32⟩
  | .hbm, ⟨12, _⟩ => ⟨S8192x1536, .f32⟩
  | .hbm, ⟨13, _⟩ => ⟨S1x1536, .f32⟩
  | .hbm, ⟨14, _⟩ => ⟨S8192x1536, .f32⟩
  | .hbm, ⟨15, _⟩ => ⟨S8192x1536, .f32⟩
  | .hbm, ⟨16, _⟩ => ⟨S_, .f32⟩
  | .hbm, ⟨17, _⟩ => ⟨S8192x1536, .f32⟩
  | .hbm, ⟨18, _⟩ => ⟨S8192x1536, .f32⟩
  | .hbm, ⟨19, _⟩ => ⟨S1x1536, .f32⟩
  | .hbm, ⟨20, _⟩ => ⟨S1536, .f32⟩
  | .hbm, ⟨21, _⟩ => ⟨S8192x1536, .f32⟩
  | .hbm, ⟨22, _⟩ => ⟨S1x1536, .f32⟩
  | .hbm, ⟨23, _⟩ => ⟨S8192x1536, .f32⟩
  | .hbm, ⟨24, _⟩ => ⟨S8192x1536, .f32⟩
  | .hbm, ⟨25, _⟩ => ⟨S8192x1536, .f32⟩
  | .hbm, ⟨26, _⟩ => ⟨S1x1536, .f32⟩
  | .hbm, ⟨27, _⟩ => ⟨S1536, .f32⟩
  | .hbm, ⟨28, _⟩ => ⟨S8192x1536, .f32⟩
  | .hbm, ⟨29, _⟩ => ⟨S1x1536, .f32⟩
  | .hbm, ⟨30, _⟩ => ⟨S8192x1536, .f32⟩
  | .hbm, ⟨31, _⟩ => ⟨S8192x1536, .f32⟩
  | .hbm, ⟨32, _⟩ => ⟨S8192x1536, .f32⟩
  | .hbm, ⟨33, _⟩ => ⟨S1x1536, .f32⟩
  | .hbm, ⟨34, _⟩ => ⟨S1536, .f32⟩
  | .hbm, ⟨35, _⟩ => ⟨S8192x1536, .f32⟩
  | .hbm, ⟨36, _⟩ => ⟨S1x1536, .f32⟩
  | .hbm, ⟨37, _⟩ => ⟨S8192x1536, .f32⟩
  | .hbm, ⟨38, _⟩ => ⟨S8192x1536, .f32⟩
  | .hbm, ⟨39, _⟩ => ⟨S8192x1536, .f32⟩
  | .hbm, ⟨40, _⟩ => ⟨S8192x1536, .f32⟩
  | .hbm, ⟨41, _⟩ => ⟨S8192x1536, .f32⟩
  | .hbm, ⟨42, _⟩ => ⟨S8192x1536, .f32⟩
  | .hbm, ⟨43, _⟩ => ⟨S8192x1536, .f32⟩
  | .hbm, ⟨44, _⟩ => ⟨S8192x1536, .f32⟩
  | .hbm, ⟨45, _⟩ => ⟨S_, .f32⟩
  | .hbm, ⟨46, _⟩ => ⟨S1536, .f32⟩
  | .hbm, ⟨47, _⟩ => ⟨S1x1536, .f32⟩
  | .hbm, ⟨48, _⟩ => ⟨S_, .f32⟩
  | .hbm, ⟨49, _⟩ => ⟨S1536, .f32⟩
  | .hbm, ⟨50, _⟩ => ⟨S_, .f32⟩
  | .hbm, ⟨51, _⟩ => ⟨S8195x1536, .f32⟩
  | .hbm, ⟨52, _⟩ => ⟨S1x1536, .f32⟩
  | .hbm, ⟨53, _⟩ => ⟨S_, .f32⟩
  | .hbm, ⟨54, _⟩ => ⟨S4x1536, .f32⟩
  | .hbm, ⟨55, _⟩ => ⟨S8192x1536, .f32⟩
  | .hbm, ⟨56, _⟩ => ⟨S8192x1536, .f32⟩
  | .hbm, ⟨57, _⟩ => ⟨S8192x1536, .f32⟩
  | .hbm, ⟨58, _⟩ => ⟨S_, .f32⟩
  | .hbm, ⟨59, _⟩ => ⟨S1536, .f32⟩
  | .hbm, ⟨60, _⟩ => ⟨S1x1536, .f32⟩
  | .hbm, ⟨61, _⟩ => ⟨S_, .f32⟩
  | .hbm, ⟨62, _⟩ => ⟨S1536, .f32⟩
  | .hbm, ⟨63, _⟩ => ⟨S_, .f32⟩
  | .hbm, ⟨64, _⟩ => ⟨S8195x1536, .f32⟩
  | .hbm, ⟨65, _⟩ => ⟨S8195x1536, .f32⟩
  | .hbm, ⟨66, _⟩ => ⟨S1x1536, .f32⟩
  | .hbm, ⟨67, _⟩ => ⟨S_, .f32⟩
  | .hbm, ⟨68, _⟩ => ⟨S4x1536, .f32⟩
  | .hbm, ⟨69, _⟩ => ⟨S4x1536, .f32⟩
  | .hbm, ⟨70, _⟩ => ⟨S8192x1536, .f32⟩
  | .hbm, ⟨71, _⟩ => ⟨S8192x1536, .f32⟩
  | .hbm, ⟨72, _⟩ => ⟨S8192x1536, .f32⟩
  | .hbm, ⟨73, _⟩ => ⟨S_, .f32⟩
  | .hbm, ⟨74, _⟩ => ⟨S1536, .f32⟩
  | .hbm, ⟨75, _⟩ => ⟨S1x1536, .f32⟩
  | .hbm, ⟨76, _⟩ => ⟨S_, .f32⟩
  | .hbm, ⟨77, _⟩ => ⟨S1536, .f32⟩
  | .hbm, ⟨78, _⟩ => ⟨S_, .f32⟩
  | .hbm, ⟨79, _⟩ => ⟨S8195x1536, .f32⟩
  | .hbm, ⟨80, _⟩ => ⟨S8195x1536, .f32⟩
  | .hbm, ⟨81, _⟩ => ⟨S1x1536, .f32⟩
  | .hbm, ⟨82, _⟩ => ⟨S_, .f32⟩
  | .hbm, ⟨83, _⟩ => ⟨S4x1536, .f32⟩
  | .hbm, ⟨84, _⟩ => ⟨S4x1536, .f32⟩
  | .hbm, ⟨85, _⟩ => ⟨S8192x1536, .f32⟩
  | .hbm, ⟨86, _⟩ => ⟨S8192x1536, .f32⟩
  | .hbm, ⟨87, _⟩ => ⟨S8192x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S_, .f32⟩
  | .hbm, ⟨92, _⟩ => ⟨S1536, .f32⟩
  | .hbm, ⟨93, _⟩ => ⟨S_, .f32⟩
  | .hbm, ⟨94, _⟩ => ⟨S8195x1536, .f32⟩
  | .hbm, ⟨95, _⟩ => ⟨S8195x1536, .f32⟩
  | .hbm, ⟨96, _⟩ => ⟨S1x1536, .f32⟩
  | .hbm, ⟨97, _⟩ => ⟨S_, .f32⟩
  | .hbm, ⟨98, _⟩ => ⟨S4x1536, .f32⟩
  | .hbm, ⟨99, _⟩ => ⟨S4x1536, .f32⟩
  | .hbm, ⟨100, _⟩ => ⟨S3x1536, .f32⟩
  | .hbm, ⟨101, _⟩ => ⟨S8192x1536, .f32⟩
  | .hbm, ⟨102, _⟩ => ⟨S8192x1024, .f32⟩
  | .hbm, ⟨103, _⟩ => ⟨S1536x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== Post.lean ====
abbrev S8192x1024 : Shape := ⟨2, ![8192, 1024]⟩
abbrev S8192x512 : Shape := ⟨2, ![8192, 512]⟩
abbrev S8192x2048 : Shape := ⟨2, ![8192, 2048]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S2x512 : Shape := ⟨2, ![2, 512]⟩
abbrev S512x1024 : Shape := ⟨2, ![512, 1024]⟩
abbrev S512x512 : Shape := ⟨2, ![512, 512]⟩
abbrev S512 : Shape := ⟨1, ![512]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x2048, .f32⟩
  | .hbm, ⟨3, _⟩ => ⟨S1x64, .f32⟩
  | .hbm, ⟨4, _⟩ => ⟨S8192x1024, .bf16⟩
  | .hbm, ⟨5, _⟩ => ⟨S1x1x1x64, .f32⟩
  | .hbm, ⟨6, _⟩ => ⟨S1x1x8x64, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S2x512, .f32⟩
  | .hbm, ⟨11, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S2x512, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PostRefIdeal.lean ====
abbrev S8192x1024 : Shape := ⟨2, ![8192, 1024]⟩
abbrev S8192x512 : Shape := ⟨2, ![8192, 512]⟩
abbrev S8192x2048 : Shape := ⟨2, ![8192, 2048]⟩
abbrev S1x64 : Shape := ⟨2, ![1, 64]⟩
abbrev S8x64 : Shape := ⟨2, ![8, 64]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x8x64 : Shape := ⟨3, ![1, 8, 64]⟩
abbrev S64 : Shape := ⟨1, ![64]⟩
abbrev S448 : Shape := ⟨1, ![448]⟩
abbrev S512 : Shape := ⟨1, ![512]⟩
abbrev S1x512 : Shape := ⟨2, ![1, 512]⟩
abbrev S2x512 : Shape := ⟨2, ![2, 512]⟩
abbrev S512x1024 : Shape := ⟨2, ![512, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x2048, .f32⟩
  | .hbm, ⟨3, _⟩ => ⟨S1x64, .f32⟩
  | .hbm, ⟨4, _⟩ => ⟨S8192x1024, .bf16⟩
  | .hbm, ⟨5, _⟩ => ⟨S8x64, .f32⟩
  | .hbm, ⟨6, _⟩ => ⟨S8192x512, .f32⟩
  | .hbm, ⟨7, _⟩ => ⟨S8192x8x64, .f32⟩
  | .hbm, ⟨8, _⟩ => ⟨S8192x8x64, .f32⟩
  | .hbm, ⟨9, _⟩ => ⟨S_, .f32⟩
  | .hbm, ⟨10, _⟩ => ⟨S8192x8, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S_, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S_, .f32⟩
  | .hbm, ⟨21, _⟩ => ⟨S8192x8x1, .f32⟩
  | .hbm, ⟨22, _⟩ => ⟨S8192x8x1, .f32⟩
  | .hbm, ⟨23, _⟩ => ⟨S8192x8x64, .f32⟩
  | .hbm, ⟨24, _⟩ => ⟨S8192x8x64, .f32⟩
  | .hbm, ⟨25, _⟩ => ⟨S1x8x64, .f32⟩
  | .hbm, ⟨26, _⟩ => ⟨S8192x8x64, .f32⟩
  | .hbm, ⟨27, _⟩ => ⟨S8192x8x64, .f32⟩
  | .hbm, ⟨28, _⟩ => ⟨S8192x8x64, .f32⟩
  | .hbm, ⟨29, _⟩ => ⟨S8192x8x64, .f32⟩
  | .hbm, ⟨30, _⟩ => ⟨S8192x8x64, .f32⟩
  | .hbm, ⟨31, _⟩ => ⟨S_, .f32⟩
  | .hbm, ⟨32, _⟩ => ⟨S8192x8x64, .f32⟩
  | .hbm, ⟨33, _⟩ => ⟨S8192x8x64, .f32⟩
  | .hbm, ⟨34, _⟩ => ⟨S_, .f32⟩
  | .hbm, ⟨35, _⟩ => ⟨S8192x8x64, .f32⟩
  | .hbm, ⟨36, _⟩ => ⟨S8192x8x64, .f32⟩
  | .hbm, ⟨37, _⟩ => ⟨S_, .f32⟩
  | .hbm, ⟨38, _⟩ => ⟨S8192x8x64, .f32⟩
  | .hbm, ⟨39, _⟩ => ⟨S8192x8x64, .f32⟩
  | .hbm, ⟨40, _⟩ => ⟨S8192x8x64, .f32⟩
  | .hbm, ⟨41, _⟩ => ⟨S8192x8x64, .f32⟩
  | .hbm, ⟨42, _⟩ => ⟨S8192x8x64, .f32⟩
  | .hbm, ⟨43, _⟩ => ⟨S8192x512, .f32⟩
  | .hbm, ⟨44, _⟩ => ⟨S8192x512, .f32⟩
  | .hbm, ⟨45, _⟩ => ⟨S8192x8x64, .f32⟩
  | .hbm, ⟨46, _⟩ => ⟨S8192x8x64, .f32⟩
  | .hbm, ⟨47, _⟩ => ⟨S8192x8x64, .f32⟩
  | .hbm, ⟨48, _⟩ => ⟨S8192x8x64, .f32⟩
  | .hbm, ⟨49, _⟩ => ⟨S8192x8x64, .f32⟩
  | .hbm, ⟨50, _⟩ => ⟨S8192x8x64, .f32⟩
  | .hbm, ⟨51, _⟩ => ⟨S8192x8x64, .f32⟩
  | .hbm, ⟨52, _⟩ => ⟨S8192x512, .f32⟩
  | .hbm, ⟨53, _⟩ => ⟨S8192x8x64, .f32⟩
  | .hbm, ⟨54, _⟩ => ⟨S_, .f32⟩
  | .hbm, ⟨55, _⟩ => ⟨S8x64, .f32⟩
  | .hbm, ⟨56, _⟩ => ⟨S1x8x64, .f32⟩
  | .hbm, ⟨57, _⟩ => ⟨S8192x8x64, .f32⟩
  | .hbm, ⟨58, _⟩ => ⟨S8192x8x64, .f32⟩
  | .hbm, ⟨59, _⟩ => ⟨S_, .f32⟩
  | .hbm, ⟨60, _⟩ => ⟨S8x64, .f32⟩
  | .hbm, ⟨61, _⟩ => ⟨S8192x8x64, .f32⟩
  | .hbm, ⟨62, _⟩ => ⟨S_, .f32⟩
  | .hbm, ⟨63, _⟩ => ⟨S8192x8, .f32⟩
  | .hbm, ⟨64, _⟩ => ⟨S8192x8x1, .f32⟩
  | .hbm, ⟨65, _⟩ => ⟨S8192x8x64, .f32⟩
  | .hbm, ⟨66, _⟩ => ⟨S8192x8x64, .f32⟩
  | .hbm, ⟨67, _⟩ => ⟨S8192x8x1, .f32⟩
  | .hbm, ⟨68, _⟩ => ⟨S_, .f32⟩
  | .hbm, ⟨69, _⟩ => ⟨S8192x8x1, .f32⟩
  | .hbm, ⟨70, _⟩ => ⟨S8192x8x1, .f32⟩
  | .hbm, ⟨71, _⟩ => ⟨S_, .f32⟩
  | .hbm, ⟨72, _⟩ => ⟨S8192x8, .f32⟩
  | .hbm, ⟨73, _⟩ => ⟨S8192x8x64, .f32⟩
  | .hbm, ⟨74, _⟩ => ⟨S8192x8x64, .f32⟩
  | .hbm, ⟨75, _⟩ => ⟨S8192x8x64, .f32⟩
  | .hbm, ⟨76, _⟩ => ⟨S8192x8x64, .f32⟩
  | .hbm, ⟨77, _⟩ => ⟨S8192x8x64, .f32⟩
  | .hbm, ⟨78, _⟩ => ⟨S8192x512, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S448, .f32⟩
  | .hbm, ⟨83, _⟩ => ⟨S512, .f32⟩
  | .hbm, ⟨84, _⟩ => ⟨S1x512, .f32⟩
  | .hbm, ⟨85, _⟩ => ⟨S1x512, .f32⟩
  | .hbm, ⟨86, _⟩ => ⟨S2x512, .f32⟩
  | .hbm, ⟨87, _⟩ => ⟨S8192x1024, .f32⟩
  | .hbm, ⟨88, _⟩ => ⟨S512x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== FfnIn.lean ====
abbrev S8192x1024 : Shape := ⟨2, ![8192, 1024]⟩
abbrev S8192x2816 : Shape := ⟨2, ![8192, 2816]⟩
abbrev S1x1024 : Shape := ⟨2, ![1, 1024]⟩
abbrev S2816x1024 : Shape := ⟨2, ![2816, 1024]⟩
abbrev S8x1024 : Shape := ⟨2, ![8, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 18
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnInRefIdeal.lean ====
abbrev S8192x1024 : Shape := ⟨2, ![8192, 1024]⟩
abbrev S8192x2816 : Shape := ⟨2, ![8192, 2816]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2816x1024, .bf16⟩
  | .hbm, ⟨10, _⟩ => ⟨S2816x1024, .bf16⟩
  | .hbm, ⟨11, _⟩ => ⟨S8192x2816, .f32⟩
  | .hbm, ⟨12, _⟩ => ⟨S8192x2816, .f32⟩
  | .hbm, ⟨13, _⟩ => ⟨S8192x1024, .f32⟩
  | .hbm, ⟨14, _⟩ => ⟨S2816x1024, .f32⟩
  | .hbm, ⟨15, _⟩ => ⟨S2816x1024, .f32⟩
  | .hbm, ⟨16, _⟩ => ⟨S1024x2816, .f32⟩
  | .hbm, ⟨17, _⟩ => ⟨S1024x2816, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S4x1024, .f32⟩
  | .hbm, ⟨94, _⟩ => ⟨S8x1024, .f32⟩
  | .hbm, ⟨95, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Proj.lean ====
abbrev S8192x512 : Shape := ⟨2, ![8192, 512]⟩
abbrev S8192x1536 : Shape := ⟨2, ![8192, 1536]⟩
abbrev S8192x16 : Shape := ⟨2, ![8192, 16]⟩
abbrev S3600x1024 : Shape := ⟨2, ![3600, 1024]⟩
abbrev S8192x1024 : Shape := ⟨2, ![8192, 1024]⟩
abbrev S1x1024 : Shape := ⟨2, ![1, 1024]⟩
abbrev S_ : Shape := ⟨0, ![]⟩
abbrev S3712x1024 : Shape := ⟨2, ![3712, 1024]⟩
abbrev S8192x128 : Shape := ⟨2, ![8192, 128]⟩
abbrev S8x1024 : Shape := ⟨2, ![8, 1024]⟩
abbrev S512x512 : Shape := ⟨2, ![512, 512]⟩
abbrev S512x1536 : Shape := ⟨2, ![512, 1536]⟩
abbrev S512x128 : Shape := ⟨2, ![512, 128]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩
abbrev S1024 : Shape := ⟨1, ![1024]⟩

abbrev nBuf : Space → Nat
  | .hbm => 20
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S8192x512, .f32⟩
  | .hbm, ⟨5, _⟩ => ⟨S8192x16, .f32⟩
  | .hbm, ⟨6, _⟩ => ⟨S3600x1024, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .i32⟩
  | .hbm, ⟨13, _⟩ => ⟨S_, .bf16⟩
  | .hbm, ⟨14, _⟩ => ⟨S3712x1024, .bf16⟩
  | .hbm, ⟨15, _⟩ => ⟨S_, .i32⟩
  | .hbm, ⟨16, _⟩ => ⟨S_, .f32⟩
  | .hbm, ⟨17, _⟩ => ⟨S8192x128, .f32⟩
  | .hbm, ⟨18, _⟩ => ⟨S8192x1024, .f32⟩
  | .hbm, ⟨19, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S3712x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3712x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ProjRefIdeal.lean ====
abbrev S8192x512 : Shape := ⟨2, ![8192, 512]⟩
abbrev S8192x1536 : Shape := ⟨2, ![8192, 1536]⟩
abbrev S8192x16 : Shape := ⟨2, ![8192, 16]⟩
abbrev S3600x1024 : Shape := ⟨2, ![3600, 1024]⟩
abbrev S8192x1024 : Shape := ⟨2, ![8192, 1024]⟩
abbrev S1x1024 : Shape := ⟨2, ![1, 1024]⟩
abbrev S8192x3600 : Shape := ⟨2, ![8192, 3600]⟩
abbrev S1024x3600 : Shape := ⟨2, ![1024, 3600]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S8192x512, .f32⟩
  | .hbm, ⟨5, _⟩ => ⟨S8192x16, .f32⟩
  | .hbm, ⟨6, _⟩ => ⟨S3600x1024, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x3600, .f32⟩
  | .hbm, ⟨13, _⟩ => ⟨S3600x1024, .f32⟩
  | .hbm, ⟨14, _⟩ => ⟨S1024x3600, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x3600, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S5x1024, .f32⟩
  | .hbm, ⟨77, _⟩ => ⟨S8x1024, .f32⟩
  | .hbm, ⟨78, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Prep.lean ====
abbrev S8192x2048 : Shape := ⟨2, ![8192, 2048]⟩
abbrev S8192x16 : Shape := ⟨2, ![8192, 16]⟩
abbrev S4x1536 : Shape := ⟨2, ![4, 1536]⟩
abbrev S1x8 : Shape := ⟨2, ![1, 8]⟩
abbrev S5x8192x512 : Shape := ⟨3, ![5, 8192, 512]⟩
abbrev S8192x1024 : Shape := ⟨2, ![8192, 1024]⟩
abbrev S_ : Shape := ⟨0, ![]⟩
abbrev S8192x128 : Shape := ⟨2, ![8192, 128]⟩
abbrev S1x128 : Shape := ⟨2, ![1, 128]⟩
abbrev S8192x1536 : Shape := ⟨2, ![8192, 1536]⟩
abbrev S2x128 : Shape := ⟨2, ![2, 128]⟩
abbrev S128x1024 : Shape := ⟨2, ![128, 1024]⟩
abbrev S512x1536 : Shape := ⟨2, ![512, 1536]⟩
abbrev S8x1536 : Shape := ⟨2, ![8, 1536]⟩
abbrev S512x128 : Shape := ⟨2, ![512, 128]⟩
abbrev S5x512x512 : Shape := ⟨3, ![5, 512, 512]⟩
abbrev S512x1024 : Shape := ⟨2, ![512, 1024]⟩
abbrev S520x1536 : Shape := ⟨2, ![520, 1536]⟩
abbrev S1x1536 : Shape := ⟨2, ![1, 1536]⟩
abbrev S512x512 : Shape := ⟨2, ![512, 512]⟩
abbrev S1x512x512 : Shape := ⟨3, ![1, 512, 512]⟩
abbrev S64x64 : Shape := ⟨2, ![64, 64]⟩
abbrev S64x128 : Shape := ⟨2, ![64, 128]⟩
abbrev S128 : Shape := ⟨1, ![128]⟩

abbrev nBuf : Space → Nat
  | .hbm => 20
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x16, .f32⟩
  | .hbm, ⟨2, _⟩ => ⟨S4x1536, .f32⟩
  | .hbm, ⟨3, _⟩ => ⟨S1x8, .f32⟩
  | .hbm, ⟨4, _⟩ => ⟨S1x8, .f32⟩
  | .hbm, ⟨5, _⟩ => ⟨S5x8192x512, .f32⟩
  | .hbm, ⟨6, _⟩ => ⟨S8192x1024, .bf16⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S8192x1536, .f32⟩
  | .hbm, ⟨17, _⟩ => ⟨S8192x128, .f32⟩
  | .hbm, ⟨18, _⟩ => ⟨S2x128, .f32⟩
  | .hbm, ⟨19, _⟩ => ⟨S128x1024, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x128, .f32⟩
  | .local _ .vmem, ⟨5, _⟩ => ⟨S512x128, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S5x512x512, .f32⟩
  | .local _ .vmem, ⟨10, _⟩ => ⟨S5x512x512, .f32⟩
  | .local _ .vmem, ⟨11, _⟩ => ⟨S512x1024, .bf16⟩
  | .local _ .vmem, ⟨12, _⟩ => ⟨S512x1024, .bf16⟩
  | .local _ .vmem, ⟨13, _⟩ => ⟨S512x1536, .f32⟩
  | .local _ .vmem, ⟨14, _⟩ => ⟨S512x1536, .f32⟩
  | .local _ .vmem, ⟨15, _⟩ => ⟨S512x128, .f32⟩
  | .local _ .vmem, ⟨16, _⟩ => ⟨S512x128, .f32⟩
  | .local _ .vmem, ⟨17, _⟩ => ⟨S2x128, .f32⟩
  | .local _ .vmem, ⟨18, _⟩ => ⟨S128x1024, .f32⟩
  | .local _ .vmem, ⟨19, _⟩ => ⟨S520x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PrepRefIdeal.lean ====
abbrev S8192x2048 : Shape := ⟨2, ![8192, 2048]⟩
abbrev S8192x16 : Shape := ⟨2, ![8192, 16]⟩
abbrev S4x1536 : Shape := ⟨2, ![4, 1536]⟩
abbrev S1x8 : Shape := ⟨2, ![1, 8]⟩
abbrev S5x8192x512 : Shape := ⟨3, ![5, 8192, 512]⟩
abbrev S8192x1024 : Shape := ⟨2, ![8192, 1024]⟩
abbrev S8192x1536 : Shape := ⟨2, ![8192, 1536]⟩
abbrev S_ : Shape := ⟨0, ![]⟩
abbrev S3x1536 : Shape := ⟨2, ![3, 1536]⟩
abbrev S8195x1536 : Shape := ⟨2, ![8195, 1536]⟩
abbrev S1x1536 : Shape := ⟨2, ![1, 1536]⟩
abbrev S1536 : Shape := ⟨1, ![1536]⟩
abbrev S8192x8 : Shape := ⟨2, ![8192, 8]⟩
abbrev S8192x512 : Shape := ⟨2, ![8192, 512]⟩
abbrev S8192x8x64 : Shape := ⟨3, ![8192, 8, 64]⟩
abbrev S8192x8x1 : Shape := ⟨3, ![8192, 8, 1]⟩
abbrev S128x64x8 : Shape := ⟨3, ![128, 64, 8]⟩
abbrev S1x8192x512 : Shape := ⟨3, ![1, 8192, 512]⟩
abbrev S8 : Shape := ⟨1, ![8]⟩
abbrev S8192x112 : Shape := ⟨2, ![8192, 112]⟩
abbrev S8192x128 : Shape := ⟨2, ![8192, 128]⟩
abbrev S2x8 : Shape := ⟨2, ![2, 8]⟩
abbrev S2x128 : Shape := ⟨2, ![2, 128]⟩
abbrev S128x1024 : Shape := ⟨2, ![128, 1024]⟩

abbrev nBuf : Space → Nat
  | .hbm => 268
  | .vmem => 0
  | .smem => 0
  | _ => 0

abbrev hbmTy0_0 (i : Nat) : BufTy := match i % 128 with
  | 0 => ⟨S8192x2048, .f32⟩
  | 1 => ⟨S8192x16, .f32⟩
  | 2 => ⟨S4x1536, .f32⟩
  | 3 => ⟨S1x8, .f32⟩
  | 4 => ⟨S1x8, .f32⟩
  | 5 => ⟨S5x8192x512, .f32⟩
  | 6 => ⟨S8192x1024, .bf16⟩
  | 7 => ⟨S8192x1536, .f32⟩
  | 8 => ⟨S_, .f32⟩
  | 9 => ⟨S3x1536, .f32⟩
  | 10 => ⟨S8195x1536, .f32⟩
  | 11 => ⟨S1x1536, .f32⟩
  | 12 => ⟨S1536, .f32⟩
  | 13 => ⟨S8192x1536, .f32⟩
  | 14 => ⟨S1x1536, .f32⟩
  | 15 => ⟨S8192x1536, .f32⟩
  | 16 => ⟨S8192x1536, .f32⟩
  | 17 => ⟨S_, .f32⟩
  | 18 => ⟨S8192x1536, .f32⟩
  | 19 => ⟨S8192x1536, .f32⟩
  | 20 => ⟨S1x1536, .f32⟩
  | 21 => ⟨S1536, .f32⟩
  | 22 => ⟨S8192x1536, .f32⟩
  | 23 => ⟨S1x1536, .f32⟩
  | 24 => ⟨S8192x1536, .f32⟩
  | 25 => ⟨S8192x1536, .f32⟩
  | 26 => ⟨S8192x1536, .f32⟩
  | 27 => ⟨S1x1536, .f32⟩
  | 28 => ⟨S1536, .f32⟩
  | 29 => ⟨S8192x1536, .f32⟩
  | 30 => ⟨S1x1536, .f32⟩
  | 31 => ⟨S8192x1536, .f32⟩
  | 32 => ⟨S8192x1536, .f32⟩
  | 33 => ⟨S8192x1536, .f32⟩
  | 34 => ⟨S1x1536, .f32⟩
  | 35 => ⟨S1536, .f32⟩
  | 36 => ⟨S8192x1536, .f32⟩
  | 37 => ⟨S1x1536, .f32⟩
  | 38 => ⟨S8192x1536, .f32⟩
  | 39 => ⟨S8192x1536, .f32⟩
  | 40 => ⟨S8192x1536, .f32⟩
  | 41 => ⟨S8192x8, .f32⟩
  | 42 => ⟨S8192x8, .f32⟩
  | 43 => ⟨S8192x1536, .f32⟩
  | 44 => ⟨S8192x1536, .f32⟩
  | 45 => ⟨S_, .f32⟩
  | 46 => ⟨S8192x1536, .f32⟩
  | 47 => ⟨S8192x1536, .f32⟩
  | 48 => ⟨S_, .f32⟩
  | 49 => ⟨S8192x1536, .f32⟩
  | 50 => ⟨S8192x1536, .f32⟩
  | 51 => ⟨S_, .f32⟩
  | 52 => ⟨S8192x1536, .f32⟩
  | 53 => ⟨S8192x1536, .f32⟩
  | 54 => ⟨S8192x1536, .f32⟩
  | 55 => ⟨S8192x1536, .f32⟩
  | 56 => ⟨S8192x512, .f32⟩
  | 57 => ⟨S8192x512, .f32⟩
  | 58 => ⟨S8192x512, .f32⟩
  | 59 => ⟨S8192x8x64, .f32⟩
  | 60 => ⟨S8192x8x64, .f32⟩
  | 61 => ⟨S8192x8x64, .f32⟩
  | 62 => ⟨S8192x8x64, .f32⟩
  | 63 => ⟨S_, .f32⟩
  | 64 => ⟨S8192x8, .f32⟩
  | 65 => ⟨S8192x8x1, .f32⟩
  | 66 => ⟨S_, .f32⟩
  | 67 => ⟨S8192x8x1, .f32⟩
  | 68 => ⟨S8192x8x1, .f32⟩
  | 69 => ⟨S8192x8x1, .f32⟩
  | 70 => ⟨S8192x8x1, .f32⟩
  | 71 => ⟨S_, .f32⟩
  | 72 => ⟨S8192x8x1, .f32⟩
  | 73 => ⟨S8192x8x1, .f32⟩
  | 74 => ⟨S8192x8x64, .f32⟩
  | 75 => ⟨S8192x8x64, .f32⟩
  | 76 => ⟨S_, .f32⟩
  | 77 => ⟨S8192x8x64, .f32⟩
  | 78 => ⟨S8192x8x64, .f32⟩
  | 79 => ⟨S8192x8x64, .f32⟩
  | 80 => ⟨S_, .f32⟩
  | 81 => ⟨S8192x8, .f32⟩
  | 82 => ⟨S8192x8x1, .f32⟩
  | 83 => ⟨S_, .f32⟩
  | 84 => ⟨S8192x8x1, .f32⟩
  | 85 => ⟨S8192x8x1, .f32⟩
  | 86 => ⟨S8192x8x1, .f32⟩
  | 87 => ⟨S8192x8x1, .f32⟩
  | 88 => ⟨S_, .f32⟩
  | 89 => ⟨S8192x8x1, .f32⟩
  | 90 => ⟨S8192x8x1, .f32⟩
  | 91 => ⟨S8192x8x64, .f32⟩
  | 92 => ⟨S8192x8x64, .f32⟩
  | 93 => ⟨S8192x8, .f32⟩
  | 94 => ⟨S8192x8, .f32⟩
  | 95 => ⟨S_, .f32⟩
  | 96 => ⟨S8192x8, .f32⟩
  | 97 => ⟨S8192x8, .f32⟩
  | 98 => ⟨S_, .f32⟩
  | 99 => ⟨S8192x8, .f32⟩
  | 100 => ⟨S8192x8, .f32⟩
  | 101 => ⟨S_, .f32⟩
  | 102 => ⟨S8192x8, .f32⟩
  | 103 => ⟨S8192x8, .f32⟩
  | 104 => ⟨S8192x8, .f32⟩
  | 105 => ⟨S1x8, .f32⟩
  | 106 => ⟨S1x8, .f32⟩
  | 107 => ⟨S8192x8, .f32⟩
  | 108 => ⟨S8192x8, .f32⟩
  | 109 => ⟨S_, .f32⟩
  | 110 => ⟨S8192x8, .f32⟩
  | 111 => ⟨S8192x8, .f32⟩
  | 112 => ⟨S8192x8, .f32⟩
  | 113 => ⟨S8192x8, .f32⟩
  | 114 => ⟨S8192x8, .i1⟩
  | 115 => ⟨S8192x8, .f32⟩
  | 116 => ⟨S8192x8, .f32⟩
  | 117 => ⟨S8192x8, .f32⟩
  | 118 => ⟨S8192x8, .f32⟩
  | 119 => ⟨S8192x8, .f32⟩
  | 120 => ⟨S8192x8, .f32⟩
  | 121 => ⟨S8192x8, .f32⟩
  | 122 => ⟨S8192x8, .f32⟩
  | 123 => ⟨S_, .f32⟩
  | 124 => ⟨S8192x8, .f32⟩
  | 125 => ⟨S8192x8, .i1⟩
  | 126 => ⟨S_, .f32⟩
  | 127 => ⟨S8192x8, .f32⟩
  | _ => ⟨S8192x2048, .f32⟩

abbrev hbmTy0_1 (i : Nat) : BufTy := match i % 128 with
  | 0 => ⟨S8192x8, .f32⟩
  | 1 => ⟨S_, .f32⟩
  | 2 => ⟨S8192x8, .f32⟩
  | 3 => ⟨S8192x8, .i1⟩
  | 4 => ⟨S_, .f32⟩
  | 5 => ⟨S8192x8, .f32⟩
  | 6 => ⟨S8192x8, .f32⟩
  | 7 => ⟨S8192x8, .f32⟩
  | 8 => ⟨S8192x8, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S_, .f32⟩
  | 16 => ⟨S8192x8, .f32⟩
  | 17 => ⟨S8192x8, .i1⟩
  | 18 => ⟨S_, .f32⟩
  | 19 => ⟨S8192x8, .f32⟩
  | 20 => ⟨S8192x8, .f32⟩
  | 21 => ⟨S8192x8, .f32⟩
  | 22 => ⟨S8192x8, .f32⟩
  | 23 => ⟨S8192x8, .f32⟩
  | 24 => ⟨S_, .f32⟩
  | 25 => ⟨S8192x8, .f32⟩
  | 26 => ⟨S8192x8, .f32⟩
  | 27 => ⟨S8192x8, .f32⟩
  | 28 => ⟨S8192x8, .f32⟩
  | 29 => ⟨S128x64x8, .f32⟩
  | 30 => ⟨S_, .f32⟩
  | 31 => ⟨S_, .f32⟩
  | 32 => ⟨S128x64x8, .f32⟩
  | 33 => ⟨S8192x8, .f32⟩
  | 34 => ⟨S8192x8x1, .f32⟩
  | 35 => ⟨S8192x8x64, .f32⟩
  | 36 => ⟨S8192x8x1, .f32⟩
  | 37 => ⟨S8192x8x64, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S1x8192x512, .f32⟩
  | 44 => ⟨S1x8192x512, .f32⟩
  | 45 => ⟨S1x8192x512, .f32⟩
  | 46 => ⟨S1x8192x512, .f32⟩
  | 47 => ⟨S1x8192x512, .f32⟩
  | 48 => ⟨S5x8192x512, .f32⟩
  | 49 => ⟨S1x8192x512, .f32⟩
  | 50 => ⟨S8192x512, .f32⟩
  | 51 => ⟨S1x8192x512, .f32⟩
  | 52 => ⟨S8192x512, .f32⟩
  | 53 => ⟨S1x8192x512, .f32⟩
  | 54 => ⟨S8192x512, .f32⟩
  | 55 => ⟨S1x8192x512, .f32⟩
  | 56 => ⟨S8192x512, .f32⟩
  | 57 => ⟨S1x8192x512, .f32⟩
  | 58 => ⟨S8192x512, .f32⟩
  | 59 => ⟨S8192x8x64, .f32⟩
  | 60 => ⟨S8192x8x64, .f32⟩
  | 61 => ⟨S8192x8x64, .f32⟩
  | 62 => ⟨S8192x8x64, .f32⟩
  | 63 => ⟨S8192x8x64, .f32⟩
  | 64 => ⟨S_, .f32⟩
  | 65 => ⟨S8192x8, .f32⟩
  | 66 => ⟨S8192x8x1, .f32⟩
  | 67 => ⟨S_, .f32⟩
  | 68 => ⟨S8192x8, .f32⟩
  | 69 => ⟨S_, .f32⟩
  | 70 => ⟨S8192x8, .f32⟩
  | 71 => ⟨S8192x8x1, .f32⟩
  | 72 => ⟨S_, .f32⟩
  | 73 => ⟨S8192x8, .f32⟩
  | 74 => ⟨S128x64x8, .f32⟩
  | 75 => ⟨S_, .f32⟩
  | 76 => ⟨S_, .f32⟩
  | 77 => ⟨S128x64x8, .f32⟩
  | 78 => ⟨S8192x8, .f32⟩
  | 79 => ⟨S8192x8, .f32⟩
  | 80 => ⟨S8192x8, .f32⟩
  | 81 => ⟨S8192x8, .f32⟩
  | 82 => ⟨S_, .f32⟩
  | 83 => ⟨S8, .f32⟩
  | 84 => ⟨S1x8, .f32⟩
  | 85 => ⟨S8192x8, .f32⟩
  | 86 => ⟨S_, .f32⟩
  | 87 => ⟨S8, .f32⟩
  | 88 => ⟨S1x8, .f32⟩
  | 89 => ⟨S1x8, .f32⟩
  | 90 => ⟨S1x8, .f32⟩
  | 91 => ⟨S8192x8, .f32⟩
  | 92 => ⟨S8192x8x64, .f32⟩
  | 93 => ⟨S_, .f32⟩
  | 94 => ⟨S8192x8, .f32⟩
  | 95 => ⟨S8192x8x1, .f32⟩
  | 96 => ⟨S8192x8x64, .f32⟩
  | 97 => ⟨S8192x8x64, .f32⟩
  | 98 => ⟨S8192x8x1, .f32⟩
  | 99 => ⟨S_, .f32⟩
  | 100 => ⟨S8192x8, .f32⟩
  | 101 => ⟨S8192x8x64, .f32⟩
  | 102 => ⟨S8192x8x64, .f32⟩
  | 103 => ⟨S8192x8x64, .f32⟩
  | 104 => ⟨S8192x8x64, .f32⟩
  | 105 => ⟨S8192x8x64, .f32⟩
  | 106 => ⟨S_, .f32⟩
  | 107 => ⟨S8192x8x64, .f32⟩
  | 108 => ⟨S8192x8x64, .f32⟩
  | 109 => ⟨S8192x8x64, .f32⟩
  | 110 => ⟨S_, .f32⟩
  | 111 => ⟨S8192x8, .f32⟩
  | 112 => ⟨S8192x8x1, .f32⟩
  | 113 => ⟨S8192x8x64, .f32⟩
  | 114 => ⟨S8192x8x64, .f32⟩
  | 115 => ⟨S8192x8x1, .f32⟩
  | 116 => ⟨S_, .f32⟩
  | 117 => ⟨S8192x8, .f32⟩
  | 118 => ⟨S8192x8x64, .f32⟩
  | 119 => ⟨S8192x8x64, .f32⟩
  | 120 => ⟨S8192x8x64, .f32⟩
  | 121 => ⟨S8192x8x64, .f32⟩
  | 122 => ⟨S8192x8x64, .f32⟩
  | 123 => ⟨S8192x512, .f32⟩
  | 124 => ⟨S8192x512, .f32⟩
  | 125 => ⟨S8192x512, .f32⟩
  | 126 => ⟨S8192x1536, .f32⟩
  | 127 => ⟨S8192x1536, .f32⟩
  | _ => ⟨S8192x2048, .f32⟩

abbrev hbmTy0_2 (i : Nat) : BufTy := match i % 128 with
  | 0 => ⟨S8192x1536, .f32⟩
  | 1 => ⟨S8192x1536, .f32⟩
  | 2 => ⟨S8192x1536, .f32⟩
  | 3 => ⟨S_, .f32⟩
  | 4 => ⟨S8192x112, .f32⟩
  | 5 => ⟨S8192x128, .f32⟩
  | 6 => ⟨S2x8, .f32⟩
  | 7 => ⟨S_, .i32⟩
  | 8 => ⟨S_, .f32⟩
  | 9 => ⟨S2x128, .f32⟩
  | 10 => ⟨S8192x1024, .f32⟩
  | 11 => ⟨S128x1024, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v34_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v34_1 : Ref sig .tc := ⟨.hbm, 54, rfl⟩
abbrev main_v34_0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_3 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_4 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_7 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_8 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_v7 : Ref sig .tc := ⟨.hbm, 117, rfl⟩
abbrev main_call1_v8 : Ref sig .tc := ⟨.hbm, 118, rfl⟩
abbrev main_call1_v9 : Ref sig .tc := ⟨.hbm, 119, rfl⟩
abbrev main_call1_v10 : Ref sig .tc := ⟨.hbm, 120, rfl⟩
abbrev main_call1_v11 : Ref sig .tc := ⟨.hbm, 121, rfl⟩
abbrev main_v78_0 : Ref sig .tc := ⟨.hbm, 122, rfl⟩
abbrev main_call1_cst_0 : Ref sig .tc := ⟨.hbm, 123, rfl⟩
abbrev main_call1_v13 : Ref sig .tc := ⟨.hbm, 124, rfl⟩
abbrev main_call1_v14 : Ref sig .tc := ⟨.hbm, 125, rfl⟩
abbrev main_call1_cst_1 : Ref sig .tc := ⟨.hbm, 126, rfl⟩
abbrev main_call1_v15 : Ref sig .tc := ⟨.hbm, 127, rfl⟩
abbrev main_call1_v16 : Ref sig .tc := ⟨.hbm, 128, rfl⟩
abbrev main_call1_cst_2 : Ref sig .tc := ⟨.hbm, 129, rfl⟩
abbrev main_call1_v17 : Ref sig .tc := ⟨.hbm, 130, rfl⟩
abbrev main_call1_v18 : Ref sig .tc := ⟨.hbm, 131, rfl⟩
abbrev main_call1_cst_3 : Ref sig .tc := ⟨.hbm, 132, rfl⟩
abbrev main_call1_v19 : Ref sig .tc := ⟨.hbm, 133, rfl⟩
abbrev main_call1_v20 : Ref sig .tc := ⟨.hbm, 134, rfl⟩
abbrev main_call1_v21 : Ref sig .tc := ⟨.hbm, 135, rfl⟩
abbrev main_v78_1 : Ref sig .tc := ⟨.hbm, 136, rfl⟩
abbrev main_call1_cst_4 : Ref sig .tc := ⟨.hbm, 137, rfl⟩
abbrev main_call1_cst_5 : Ref sig .tc := ⟨.hbm, 138, rfl⟩
abbrev main_call1_v23 : Ref sig .tc := ⟨.hbm, 139, rfl⟩
abbrev main_call1_cst_6 : Ref sig .tc := ⟨.hbm, 140, rfl⟩
abbrev main_call1_cst_7 : Ref sig .tc := ⟨.hbm, 141, rfl⟩
abbrev main_call1_v24 : Ref sig .tc := ⟨.hbm, 142, rfl⟩
abbrev main_call1_cst_8 : Ref sig .tc := ⟨.hbm, 143, rfl⟩
abbrev main_call1_v25 : Ref sig .tc := ⟨.hbm, 144, rfl⟩
abbrev main_call1_v26 : Ref sig .tc := ⟨.hbm, 145, rfl⟩
abbrev main_call1_cst_9 : Ref sig .tc := ⟨.hbm, 146, rfl⟩
abbrev main_call1_v27 : Ref sig .tc := ⟨.hbm, 147, rfl⟩
abbrev main_call1_v28 : Ref sig .tc := ⟨.hbm, 148, rfl⟩
abbrev main_call1_v29 : Ref sig .tc := ⟨.hbm, 149, rfl⟩
abbrev main_call1_v30 : Ref sig .tc := ⟨.hbm, 150, rfl⟩
abbrev main_call1_v31 : Ref sig .tc := ⟨.hbm, 151, rfl⟩
abbrev main_call1_cst_10 : Ref sig .tc := ⟨.hbm, 152, rfl⟩
abbrev main_call1_v32 : Ref sig .tc := ⟨.hbm, 153, rfl⟩
abbrev main_v78_2 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_call2_call0_cst : Ref sig .tc := ⟨.hbm, 158, rfl⟩
abbrev main_call2_call0_v0 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_cst_11 : Ref sig .tc := ⟨.hbm, 192, rfl⟩
abbrev main_v114 : Ref sig .tc := ⟨.hbm, 193, rfl⟩
abbrev main_v115 : Ref sig .tc := ⟨.hbm, 194, rfl⟩
abbrev main_cst_12 : Ref sig .tc := ⟨.hbm, 195, rfl⟩
abbrev main_v116 : Ref sig .tc := ⟨.hbm, 196, rfl⟩
abbrev main_cst_13 : Ref sig .tc := ⟨.hbm, 197, rfl⟩
abbrev main_v117 : Ref sig .tc := ⟨.hbm, 198, rfl⟩
abbrev main_v118 : Ref sig .tc := ⟨.hbm, 199, rfl⟩
abbrev main_cst_14 : Ref sig .tc := ⟨.hbm, 200, rfl⟩
abbrev main_v119 : Ref sig .tc := ⟨.hbm, 201, rfl⟩
abbrev main_v120 : Ref sig .tc := ⟨.hbm, 202, rfl⟩
abbrev main_call3_call0_cst : Ref sig .tc := ⟨.hbm, 203, rfl⟩
abbrev main_call3_call0_v0 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_cst_15 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_cst_16 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_cst_17 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_cst_18 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_cst_19 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_cst_20 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_cst_21 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_call5_v0 : Ref sig .tc := ⟨.hbm, 255, rfl⟩
abbrev main_call5_v1 : Ref sig .tc := ⟨.hbm, 256, rfl⟩
abbrev main_call5_v2 : Ref sig .tc := ⟨.hbm, 257, rfl⟩
abbrev main_v164 : Ref sig .tc := ⟨.hbm, 258, rfl⟩
abbrev main_cst_22 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_c : Ref sig .tc := ⟨.hbm, 263, rfl⟩
abbrev main_call6_v0 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩

abbrev nD : Nat := 1
abbrev τ : Topo := Topo.v7x

variable {F : FTy → Type} [FloatOps F]
-- ==== Ffn.lean ====
abbrev S8192x1024 : Shape := ⟨2, ![8192, 1024]⟩
abbrev S2816x1024 : Shape := ⟨2, ![2816, 1024]⟩
abbrev S1x1024 : Shape := ⟨2, ![1, 1024]⟩
abbrev S8192x2816 : Shape := ⟨2, ![8192, 2816]⟩
abbrev S8x1024 : Shape := ⟨2, ![8, 1024]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 12
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x2816, .bf16⟩
  | .hbm, ⟨9, _⟩ => ⟨S8192x2816, .bf16⟩
  | .hbm, ⟨10, _⟩ => ⟨S8192x1024, .f32⟩
  | .hbm, ⟨11, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | .local _ .vmem, ⟨21, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_22 : BitVec 32 := 0#32
  let v34 : BitVec 1 := Scalar.cmpi .ne v33 c0_i32_22
  v34

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg0 : BitVec 32 := BitVec.ofNat 32 (i 0).val
  let c15_i32 : BitVec 32 := 15#32
  let v35 : BitVec 1 := Scalar.cmpi .eq arg0 c15_i32
  let arg1 : BitVec 32 := BitVec.ofNat 32 (i 1).val
  let c1_i32_23 : BitVec 32 := 1#32
  let v36 : BitVec 1 := Scalar.cmpi .eq arg1 c1_i32_23
  let v37 : BitVec 1 := Scalar.andi v35 v36
  let v38 : BitVec 32 := Scalar.extui v37
  let c0_i32_24 : BitVec 32 := 0#32
  let v39 : BitVec 1 := Scalar.cmpi .ne v38 c0_i32_24
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== FfnRefIdeal.lean ====
abbrev S8192x1024 : Shape := ⟨2, ![8192, 1024]⟩
abbrev S2816x1024 : Shape := ⟨2, ![2816, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .hbm, ⟨12, _⟩ => ⟨S1024x2816, .f32⟩
  | .hbm, ⟨13, _⟩ => ⟨S1024x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S_, .f32⟩
  | .hbm, ⟨108, _⟩ => ⟨S1x1024, .f32⟩
  | .hbm, ⟨109, _⟩ => ⟨S1x1024, .f32⟩
  | .hbm, ⟨110, _⟩ => ⟨S1x1024, .f32⟩
  | .hbm, ⟨111, _⟩ => ⟨S_, .f32⟩
  | .hbm, ⟨112, _⟩ => ⟨S4x1024, .f32⟩
  | .hbm, ⟨113, _⟩ => ⟨S8x1024, .f32⟩
  | .hbm, ⟨114, _⟩ => ⟨S8192x2816, .bf16⟩
  | .hbm, ⟨115, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_14 : Ref sig .tc := ⟨.hbm, 90, rfl⟩
abbrev main_v59 : Ref sig .tc := ⟨.hbm, 91, rfl⟩
abbrev main_v60 : Ref sig .tc := ⟨.hbm, 92, rfl⟩
abbrev main_cst_15 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_19 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== Rel.lean ====
abbrev S4x3x2x128x256 : Shape := ⟨5, ![4, 3, 2, 128, 256]⟩
abbrev S3x2x128x256 : Shape := ⟨4, ![3, 2, 128, 256]⟩
abbrev S8x128 : Shape := ⟨2, ![8, 128]⟩
abbrev S1x128 : Shape := ⟨2, ![1, 128]⟩
abbrev S1x1x128x256 : Shape := ⟨4, ![1, 1, 128, 256]⟩
abbrev S128x256 : Shape := ⟨2, ![128, 256]⟩
abbrev S1x1x1x128x256 : Shape := ⟨5, ![1, 1, 1, 128, 256]⟩
abbrev S1x128x256 : Shape := ⟨3, ![1, 128, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4x3x2x128x256, .f32⟩
  | .hbm, ⟨1, _⟩ => ⟨S3x2x128x256, .i32⟩
  | .hbm, ⟨2, _⟩ => ⟨S8x128, .f32⟩
  | .local _ .vmem, ⟨0, _⟩ => ⟨S3x2x128x256, .i32⟩
  | .local _ .vmem, ⟨1, _⟩ => ⟨S4x3x2x128x256, .f32⟩
  | .local _ .vmem, ⟨2, _⟩ => ⟨S8x128, .f32⟩
  | _, _ => ⟨S4x3x2x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_off1 (k0_t1 : Fin k0_t1_loop.trips) : Fin 5 → Nat :=
  let c0_i32 : BitVec 32 := 0#32
  let c1_i32 : BitVec 32 := 1#32
  let arg3 : BitVec 32 := Scf.iv c0_i32 c1_i32 k0_t1
  let c0_i32_20 : BitVec 32 := 0#32
  let v13 : BitVec 1 := Scalar.cmpi .sgt arg3 c0_i32_20
  let v14 : BitVec 32 := Scalar.extui v13
  let c0_i32_21 : BitVec 32 := 0#32
  let v15 : BitVec 1 := Scalar.cmpi .slt arg3 c0_i32_21
  let v16 : BitVec 32 := Scalar.extui v15
  let v17 : BitVec 32 := Scalar.subi v14 v16
  let c2_i32 : BitVec 32 := 2#32
  let c0_i32_22 : BitVec 32 := 0#32
  let v18 : BitVec 1 := Scalar.cmpi .sgt c2_i32 c0_i32_22
  let v19 : BitVec 32 := Scalar.extui v18
  let c0_i32_23 : BitVec 32 := 0#32
  let v20 : BitVec 1 := Scalar.cmpi .slt c2_i32 c0_i32_23
  let v21 : BitVec 32 := Scalar.extui v20
  let v22 : BitVec 32 := Scalar.subi v19 v21
  let v23 : BitVec 1 := Scalar.cmpi .ne v17 v22
  let v24 : BitVec 32 := Scalar.remsi arg3 c2_i32
  let c0_i32_24 : BitVec 32 := 0#32
  let v25 : BitVec 1 := Scalar.cmpi .ne v24 c0_i32_24
  let v26 : BitVec 1 := Scalar.andi v23 v25
  let v12 : BitVec 32 := Scalar.divsi arg3 c2_i32
  let c1_i32_25 : BitVec 32 := 1#32
  let v27 : BitVec 32 := Scalar.subi v12 c1_i32_25
  let v28 : BitVec 32 := Scalar.select v26 v27 v12
  let v39 : Index := Scalar.indexCast v28
  let c0_32 : Index := 0#32
  let c2_i32_26 : BitVec 32 := 2#32
  let c0_i32_27 : BitVec 32 := 0#32
  let v29 : BitVec 1 := Scalar.cmpi .eq c2_i32_26 c0_i32_27
  let c1_i32_28 : BitVec 32 := 1#32
  let v30 : BitVec 32 := Scalar.select v29 c1_i32_28 c2_i32_26
  let v31 : BitVec 32 := Scalar.remsi arg3 v30
  let c0_i32_30 : BitVec 32 := 0#32
  let v33 : BitVec 1 := Scalar.cmpi .slt v31 c0_i32_30
  let c0_i32_31 : BitVec 32 := 0#32
  let v34 : BitVec 1 := Scalar.cmpi .slt v30 c0_i32_31
  let v35 : BitVec 1 := Scalar.xori v33 v34
  let c0_i32_29 : BitVec 32 := 0#32
  let v32 : BitVec 1 := Scalar.cmpi .ne v31 c0_i32_29
  let v36 : BitVec 1 := Scalar.andi v35 v32
  let v37 : BitVec 32 := Scalar.addi v31 v30
  let v38 : BitVec 32 := Scalar.select v36 v37 v31
  let v40 : Index := Scalar.indexCast v38
  let c0_33 : Index := 0#32
  let c0_34 : Index := 0#32
  ![v39.toNat, 0, v40.toNat, 0, 0]
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let v556 : Index := Scalar.indexCast arg3
  let c0_168 : Index := 0#32
  ![v556.toNat, 0]
@[reducible] def k0_t2_loop : Scf.Loop 32 :=
  let c0_i32_9 : BitVec 32 := 0#32
  let c8_i32_10 : BitVec 32 := 8#32
  let v8 : BitVec 32 := Scalar.addi c0_i32_9 c8_i32_10
  let c1_i32_11 : BitVec 32 := 1#32
  ⟨c0_i32_9, v8, c1_i32_11⟩
def k0_off3 (k0_t2 : Fin k0_t2_loop.trips) : Fin 5 → Nat :=
  let c0_i32_9 : BitVec 32 := 0#32
  let c1_i32_11 : BitVec 32 := 1#32
  let arg3 : BitVec 32 := Scf.iv c0_i32_9 c1_i32_11 k0_t2
  let c0_i32_20 : BitVec 32 := 0#32
  let v13 : BitVec 1 := Scalar.cmpi .sgt arg3 c0_i32_20
  let v14 : BitVec 32 := Scalar.extui v13
  let c0_i32_21 : BitVec 32 := 0#32
  let v15 : BitVec 1 := Scalar.cmpi .slt arg3 c0_i32_21
  let v16 : BitVec 32 := Scalar.extui v15
  let v17 : BitVec 32 := Scalar.subi v14 v16
  let c2_i32 : BitVec 32 := 2#32
  let c0_i32_22 : BitVec 32 := 0#32
  let v18 : BitVec 1 := Scalar.cmpi .sgt c2_i32 c0_i32_22
  let v19 : BitVec 32 := Scalar.extui v18
  let c0_i32_23 : BitVec 32 := 0#32
  let v20 : BitVec 1 := Scalar.cmpi .slt c2_i32 c0_i32_23
  let v21 : BitVec 32 := Scalar.extui v20
  let v22 : BitVec 32 := Scalar.subi v19 v21
  let v23 : BitVec 1 := Scalar.cmpi .ne v17 v22
  let v24 : BitVec 32 := Scalar.remsi arg3 c2_i32
  let c0_i32_24 : BitVec 32 := 0#32
  let v25 : BitVec 1 := Scalar.cmpi .ne v24 c0_i32_24
  let v26 : BitVec 1 := Scalar.andi v23 v25
  let v12 : BitVec 32 := Scalar.divsi arg3 c2_i32
  let c1_i32_25 : BitVec 32 := 1#32
  let v27 : BitVec 32 := Scalar.subi v12 c1_i32_25
  let v28 : BitVec 32 := Scalar.select v26 v27 v12
  let v39 : Index := Scalar.indexCast v28
  let c1_32 : Index := 1#32
  let c2_i32_26 : BitVec 32 := 2#32
  let c0_i32_27 : BitVec 32 := 0#32
  let v29 : BitVec 1 := Scalar.cmpi .eq c2_i32_26 c0_i32_27
  let c1_i32_28 : BitVec 32 := 1#32
  let v30 : BitVec 32 := Scalar.select v29 c1_i32_28 c2_i32_26
  let v31 : BitVec 32 := Scalar.remsi arg3 v30
  let c0_i32_30 : BitVec 32 := 0#32
  let v33 : BitVec 1 := Scalar.cmpi .slt v31 c0_i32_30
  let c0_i32_31 : BitVec 32 := 0#32
  let v34 : BitVec 1 := Scalar.cmpi .slt v30 c0_i32_31
  let v35 : BitVec 1 := Scalar.xori v33 v34
  let c0_i32_29 : BitVec 32 := 0#32
  let v32 : BitVec 1 := Scalar.cmpi .ne v31 c0_i32_29
  let v36 : BitVec 1 := Scalar.andi v35 v32
  let v37 : BitVec 32 := Scalar.addi v31 v30
  let v38 : BitVec 32 := Scalar.select v36 v37 v31
  let v40 : Index := Scalar.indexCast v38
  let c0_33 : Index := 0#32
  let c0_34 : Index := 0#32
  ![v39.toNat, 1, v40.toNat, 0, 0]
def k0_off4 (k0_t2 : Fin k0_t2_loop.trips) : Fin 2 → Nat :=
  let c0_i32_9 : BitVec 32 := 0#32
  let c1_i32_11 : BitVec 32 := 1#32
  let arg3 : BitVec 32 := Scf.iv c0_i32_9 c1_i32_11 k0_t2
  let v556 : Index := Scalar.indexCast arg3
  let c0_168 : Index := 0#32
  ![v556.toNat, 0]
@[reducible] def k0_t3_loop : Scf.Loop 32 :=
  let c0_i32_16 : BitVec 32 := 0#32
  let c8_i32_17 : BitVec 32 := 8#32
  let v11 : BitVec 32 := Scalar.addi c0_i32_16 c8_i32_17
  let c1_i32_18 : BitVec 32 := 1#32
  ⟨c0_i32_16, v11, c1_i32_18⟩
def k0_off5 (k0_t3 : Fin k0_t3_loop.trips) : Fin 5 → Nat :=
  let c0_i32_16 : BitVec 32 := 0#32
  let c1_i32_18 : BitVec 32 := 1#32
  let arg3 : BitVec 32 := Scf.iv c0_i32_16 c1_i32_18 k0_t3
  let c0_i32_20 : BitVec 32 := 0#32
  let v13 : BitVec 1 := Scalar.cmpi .sgt arg3 c0_i32_20
  let v14 : BitVec 32 := Scalar.extui v13
  let c0_i32_21 : BitVec 32 := 0#32
  let v15 : BitVec 1 := Scalar.cmpi .slt arg3 c0_i32_21
  let v16 : BitVec 32 := Scalar.extui v15
  let v17 : BitVec 32 := Scalar.subi v14 v16
  let c2_i32 : BitVec 32 := 2#32
  let c0_i32_22 : BitVec 32 := 0#32
  let v18 : BitVec 1 := Scalar.cmpi .sgt c2_i32 c0_i32_22
  let v19 : BitVec 32 := Scalar.extui v18
  let c0_i32_23 : BitVec 32 := 0#32
  let v20 : BitVec 1 := Scalar.cmpi .slt c2_i32 c0_i32_23
  let v21 : BitVec 32 := Scalar.extui v20
  let v22 : BitVec 32 := Scalar.subi v19 v21
  let v23 : BitVec 1 := Scalar.cmpi .ne v17 v22
  let v24 : BitVec 32 := Scalar.remsi arg3 c2_i32
  let c0_i32_24 : BitVec 32 := 0#32
  let v25 : BitVec 1 := Scalar.cmpi .ne v24 c0_i32_24
  let v26 : BitVec 1 := Scalar.andi v23 v25
  let v12 : BitVec 32 := Scalar.divsi arg3 c2_i32
  let c1_i32_25 : BitVec 32 := 1#32
  let v27 : BitVec 32 := Scalar.subi v12 c1_i32_25
  let v28 : BitVec 32 := Scalar.select v26 v27 v12
  let v39 : Index := Scalar.indexCast v28
  let c2_32 : Index := 2#32
  let c2_i32_26 : BitVec 32 := 2#32
  let c0_i32_27 : BitVec 32 := 0#32
  let v29 : BitVec 1 := Scalar.cmpi .eq c2_i32_26 c0_i32_27
  let c1_i32_28 : BitVec 32 := 1#32
  let v30 : BitVec 32 := Scalar.select v29 c1_i32_28 c2_i32_26
  let v31 : BitVec 32 := Scalar.remsi arg3 v30
  let c0_i32_30 : BitVec 32 := 0#32
  let v33 : BitVec 1 := Scalar.cmpi .slt v31 c0_i32_30
  let c0_i32_31 : BitVec 32 := 0#32
  let v34 : BitVec 1 := Scalar.cmpi .slt v30 c0_i32_31
  let v35 : BitVec 1 := Scalar.xori v33 v34
  let c0_i32_29 : BitVec 32 := 0#32
  let v32 : BitVec 1 := Scalar.cmpi .ne v31 c0_i32_29
  let v36 : BitVec 1 := Scalar.andi v35 v32
  let v37 : BitVec 32 := Scalar.addi v31 v30
  let v38 : BitVec 32 := Scalar.select v36 v37 v31
  let v40 : Index := Scalar.indexCast v38
  let c0_33 : Index := 0#32
  let c0_34 : Index := 0#32
  ![v39.toNat, 2, v40.toNat, 0, 0]
def k0_off6 (k0_t3 : Fin k0_t3_loop.trips) : Fin 2 → Nat :=
  let c0_i32_16 : BitVec 32 := 0#32
  let c1_i32_18 : BitVec 32 := 1#32
  let arg3 : BitVec 32 := Scf.iv c0_i32_16 c1_i32_18 k0_t3
  let v556 : Index := Scalar.indexCast arg3
  let c0_168 : Index := 0#32
  ![v556.toNat, 0]
abbrev stage0_0 : Fin 1 → Memref sig .tc .vmem S3x2x128x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x2x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RelRefIdeal.lean ====
abbrev S4x3x2x128x256 : Shape := ⟨5, ![4, 3, 2, 128, 256]⟩
abbrev S3x4x2x128x256 : Shape := ⟨5, ![3, 4, 2, 128, 256]⟩
abbrev S3x8x128x256 : Shape := ⟨4, ![3, 8, 128, 256]⟩
abbrev S_ : Shape := ⟨0, ![]⟩
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x8x128x256 : Shape := ⟨4, ![1, 8, 128, 256]⟩
abbrev S8x32 : Shape := ⟨2, ![8, 32]⟩
abbrev S8x128 : Shape := ⟨2, ![8, 128]⟩

abbrev nBuf : Space → Nat
  | .hbm => 203
  | .vmem => 0
  | .smem => 0
  | _ => 0

abbrev hbmTy0_0 (i : Nat) : BufTy := match i % 128 with
  | 0 => ⟨S4x3x2x128x256, .f32⟩
  | 1 => ⟨S3x4x2x128x256, .f32⟩
  | 2 => ⟨S3x8x128x256, .f32⟩
  | 3 => ⟨S_, .f32⟩
  | 4 => ⟨S32x8, .f32⟩
  | 5 => ⟨S128, .i32⟩
  | 6 => ⟨S128x1, .i32⟩
  | 7 => ⟨S256, .i32⟩
  | 8 => ⟨S1x256, .i32⟩
  | 9 => ⟨S_, .i32⟩
  | 10 => ⟨S128x1, .i32⟩
  | 11 => ⟨S128x1, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S_, .i32⟩
  | 19 => ⟨S128x256, .i32⟩
  | 20 => ⟨S128x256, .i1⟩
  | 21 => ⟨S128x256, .i1⟩
  | 22 => ⟨S_, .i32⟩
  | 23 => ⟨S128x256, .i32⟩
  | 24 => ⟨S128x256, .i32⟩
  | 25 => ⟨S_, .i32⟩
  | 26 => ⟨S128x256, .i32⟩
  | 27 => ⟨S128x256, .i32⟩
  | 28 => ⟨S_, .i32⟩
  | 29 => ⟨S128x256, .i32⟩
  | 30 => ⟨S128x256, .i32⟩
  | 31 => ⟨S128x256, .f32⟩
  | 32 => ⟨S_, .f32⟩
  | 33 => ⟨S128x256, .f32⟩
  | 34 => ⟨S128x256, .f32⟩
  | 35 => ⟨S128x256, .f32⟩
  | 36 => ⟨S_, .f32⟩
  | 37 => ⟨S128x256, .f32⟩
  | 38 => ⟨S128x256, .f32⟩
  | 39 => ⟨S_, .f32⟩
  | 40 => ⟨S128x256, .f32⟩
  | 41 => ⟨S128x256, .f32⟩
  | 42 => ⟨S128x256, .i32⟩
  | 43 => ⟨S_, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i32⟩
  | 52 => ⟨S128x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i32⟩
  | 59 => ⟨S128x256, .i32⟩
  | 60 => ⟨S128x256x1, .i32⟩
  | 61 => ⟨S128x256x8, .f32⟩
  | 62 => ⟨S8x128x256, .f32⟩
  | 63 => ⟨S_, .f32⟩
  | 64 => ⟨S_, .f32⟩
  | 65 => ⟨S8x128x256, .i1⟩
  | 66 => ⟨S8x128x256, .f32⟩
  | 67 => ⟨S8x128x256, .f32⟩
  | 68 => ⟨S_, .f32⟩
  | 69 => ⟨S8x128x256, .f32⟩
  | 70 => ⟨S_, .i32⟩
  | 71 => ⟨S128x256, .i32⟩
  | 72 => ⟨S128x256, .i32⟩
  | 73 => ⟨S_, .i32⟩
  | 74 => ⟨S128x256, .i32⟩
  | 75 => ⟨S128x256, .i32⟩
  | 76 => ⟨S_, .i32⟩
  | 77 => ⟨S128x256, .i32⟩
  | 78 => ⟨S128x256, .i32⟩
  | 79 => ⟨S128x256, .f32⟩
  | 80 => ⟨S_, .f32⟩
  | 81 => ⟨S128x256, .f32⟩
  | 82 => ⟨S128x256, .f32⟩
  | 83 => ⟨S128x256, .f32⟩
  | 84 => ⟨S_, .f32⟩
  | 85 => ⟨S128x256, .f32⟩
  | 86 => ⟨S128x256, .f32⟩
  | 87 => ⟨S_, .f32⟩
  | 88 => ⟨S128x256, .f32⟩
  | 89 => ⟨S128x256, .f32⟩
  | 90 => ⟨S128x256, .i32⟩
  | 91 => ⟨S_, .i32⟩
  | 92 => ⟨S128x256, .i32⟩
  | 93 => ⟨S128x256, .i32⟩
  | 94 => ⟨S_, .i32⟩
  | 95 => ⟨S128x256, .i32⟩
  | 96 => ⟨S128x256, .i1⟩
  | 97 => ⟨S_, .i32⟩
  | 98 => ⟨S128x256, .i32⟩
  | 99 => ⟨S128x256, .i32⟩
  | 100 => ⟨S128x256, .i32⟩
  | 101 => ⟨S_, .i32⟩
  | 102 => ⟨S128x256, .i32⟩
  | 103 => ⟨S128x256, .i1⟩
  | 104 => ⟨S_, .i32⟩
  | 105 => ⟨S128x256, .i32⟩
  | 106 => ⟨S128x256, .i32⟩
  | 107 => ⟨S128x256, .i32⟩
  | 108 => ⟨S128x256x1, .i32⟩
  | 109 => ⟨S128x256x8, .f32⟩
  | 110 => ⟨S8x128x256, .f32⟩
  | 111 => ⟨S_, .f32⟩
  | 112 => ⟨S_, .f32⟩
  | 113 => ⟨S8x128x256, .i1⟩
  | 114 => ⟨S8x128x256, .f32⟩
  | 115 => ⟨S8x128x256, .f32⟩
  | 116 => ⟨S_, .f32⟩
  | 117 => ⟨S8x128x256, .f32⟩
  | 118 => ⟨S_, .i32⟩
  | 119 => ⟨S128x256, .i32⟩
  | 120 => ⟨S128x256, .i32⟩
  | 121 => ⟨S_, .i32⟩
  | 122 => ⟨S128x256, .i32⟩
  | 123 => ⟨S128x256, .i32⟩
  | 124 => ⟨S_, .i32⟩
  | 125 => ⟨S128x256, .i32⟩
  | 126 => ⟨S128x256, .i32⟩
  | 127 => ⟨S128x256, .f32⟩
  | _ => ⟨S4x3x2x128x256, .f32⟩

abbrev hbmTy0_1 (i : Nat) : BufTy := match i % 128 with
  | 0 => ⟨S_, .f32⟩
  | 1 => ⟨S128x256, .f32⟩
  | 2 => ⟨S128x256, .f32⟩
  | 3 => ⟨S128x256, .f32⟩
  | 4 => ⟨S_, .f32⟩
  | 5 => ⟨S128x256, .f32⟩
  | 6 => ⟨S128x256, .f32⟩
  | 7 => ⟨S_, .f32⟩
  | 8 => ⟨S128x256, .f32⟩
  | 9 => ⟨S128x256, .f32⟩
  | 10 => ⟨S128x256, .i32⟩
  | 11 => ⟨S_, .i32⟩
  | 12 => ⟨S128x256, .i32⟩
  | 13 => ⟨S128x256, .i32⟩
  | 14 => ⟨S_, .i32⟩
  | 15 => ⟨S128x256, .i32⟩
  | 16 => ⟨S128x256, .i1⟩
  | 17 => ⟨S_, .i32⟩
  | 18 => ⟨S128x256, .i32⟩
  | 19 => ⟨S128x256, .i32⟩
  | 20 => ⟨S128x256, .i32⟩
  | 21 => ⟨S_, .i32⟩
  | 22 => ⟨S128x256, .i32⟩
  | 23 => ⟨S128x256, .i1⟩
  | 24 => ⟨S_, .i32⟩
  | 25 => ⟨S128x256, .i32⟩
  | 26 => ⟨S128x256, .i32⟩
  | 27 => ⟨S128x256, .i32⟩
  | 28 => ⟨S128x256x1, .i32⟩
  | 29 => ⟨S128x256x8, .f32⟩
  | 30 => ⟨S8x128x256, .f32⟩
  | 31 => ⟨S_, .f32⟩
  | 32 => ⟨S_, .f32⟩
  | 33 => ⟨S8x128x256, .i1⟩
  | 34 => ⟨S8x128x256, .f32⟩
  | 35 => ⟨S8x128x256, .f32⟩
  | 36 => ⟨S_, .f32⟩
  | 37 => ⟨S8x128x256, .f32⟩
  | 38 => ⟨S1x8x128x256, .f32⟩
  | 39 => ⟨S1x8x128x256, .f32⟩
  | 40 => ⟨S1x8x128x256, .f32⟩
  | 41 => ⟨S3x8x128x256, .f32⟩
  | 42 => ⟨S1x8x128x256, .f32⟩
  | 43 => ⟨S8x128x256, .f32⟩
  | 44 => ⟨S1x8x128x256, .f32⟩
  | 45 => ⟨S8x128x256, .f32⟩
  | 46 => ⟨S1x8x128x256, .f32⟩
  | 47 => ⟨S8x128x256, .f32⟩
  | 48 => ⟨S_, .f32⟩
  | 49 => ⟨S8x128x256, .f32⟩
  | 50 => ⟨S8x128x256, .f32⟩
  | 51 => ⟨S128x256x8, .f32⟩
  | 52 => ⟨S_, .f32⟩
  | 53 => ⟨S32x8, .f32⟩
  | 54 => ⟨S32x8, .f32⟩
  | 55 => ⟨S_, .f32⟩
  | 56 => ⟨S8x128x256, .f32⟩
  | 57 => ⟨S8x128x256, .f32⟩
  | 58 => ⟨S128x256x8, .f32⟩
  | 59 => ⟨S_, .f32⟩
  | 60 => ⟨S32x8, .f32⟩
  | 61 => ⟨S32x8, .f32⟩
  | 62 => ⟨S32x8, .f32⟩
  | 63 => ⟨S_, .f32⟩
  | 64 => ⟨S8x128x256, .f32⟩
  | 65 => ⟨S8x128x256, .f32⟩
  | 66 => ⟨S128x256x8, .f32⟩
  | 67 => ⟨S_, .f32⟩
  | 68 => ⟨S32x8, .f32⟩
  | 69 => ⟨S32x8, .f32⟩
  | 70 => ⟨S32x8, .f32⟩
  | 71 => ⟨S8x32, .f32⟩
  | 72 => ⟨S_, .i32⟩
  | 73 => ⟨S_, .f32⟩
  | 74 => ⟨S8x128, .f32⟩
  | _ => ⟨S4x3x2x128x256, .f32⟩

abbrev hbmTy (i : Nat) : BufTy := match i / 128 with
  | 0 => hbmTy0_0 i
  | 1 => hbmTy0_1 i
  | _ => ⟨S4x3x2x128x256, .f32⟩

abbrev bufTy : (tb : Table) → Fin (tcTables nBuf tb) → BufTy
  | .hbm, ⟨i, _⟩ => hbmTy i
  | _, _ => ⟨S4x3x2x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_8 : Ref sig .tc := ⟨.hbm, 43, rfl⟩
abbrev main_v32 : Ref sig .tc := ⟨.hbm, 44, rfl⟩
abbrev main_v33 : Ref sig .tc := ⟨.hbm, 45, rfl⟩
abbrev main_c_9 : Ref sig .tc := ⟨.hbm, 46, rfl⟩
abbrev main_v34 : Ref sig .tc := ⟨.hbm, 47, rfl⟩
abbrev main_v35 : Ref sig .tc := ⟨.hbm, 48, rfl⟩
abbrev main_c_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_11 : Ref sig .tc := ⟨.hbm, 53, rfl⟩
abbrev main_v39 : Ref sig .tc := ⟨.hbm, 54, rfl⟩
abbrev main_v40 : Ref sig .tc := ⟨.hbm, 55, rfl⟩
abbrev main_c_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_13 : Ref sig .tc := ⟨.hbm, 63, rfl⟩
abbrev main_call1_v0 : Ref sig .tc := ⟨.hbm, 64, rfl⟩
abbrev main_v47_1 : Ref sig .tc := ⟨.hbm, 65, rfl⟩
abbrev main_call1_v2 : Ref sig .tc := ⟨.hbm, 66, rfl⟩
abbrev main_v47_0 : Ref sig .tc := ⟨.hbm, 67, rfl⟩
abbrev main_call1_cst : Ref sig .tc := ⟨.hbm, 68, rfl⟩
abbrev main_v47_2 : Ref sig .tc := ⟨.hbm, 69, rfl⟩
abbrev main_c_14 : Ref sig .tc := ⟨.hbm, 70, rfl⟩
abbrev main_v48 : Ref sig .tc := ⟨.hbm, 71, rfl⟩
abbrev main_v49 : Ref sig .tc := ⟨.hbm, 72, rfl⟩
abbrev main_c_15 : Ref sig .tc := ⟨.hbm, 73, rfl⟩
abbrev main_v50 : Ref sig .tc := ⟨.hbm, 74, rfl⟩
abbrev main_v51 : Ref sig .tc := ⟨.hbm, 75, rfl⟩
abbrev main_c_16 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_cst_19 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_20 : Ref sig .tc := ⟨.hbm, 91, rfl⟩
abbrev main_v63 : Ref sig .tc := ⟨.hbm, 92, rfl⟩
abbrev main_v64 : Ref sig .tc := ⟨.hbm, 93, rfl⟩
abbrev main_c_21 : Ref sig .tc := ⟨.hbm, 94, rfl⟩
abbrev main_v65 : Ref sig .tc := ⟨.hbm, 95, rfl⟩
abbrev main_v66 : Ref sig .tc := ⟨.hbm, 96, rfl⟩
abbrev main_c_22 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_23 : Ref sig .tc := ⟨.hbm, 101, rfl⟩
abbrev main_v70 : Ref sig .tc := ⟨.hbm, 102, rfl⟩
abbrev main_v71 : Ref sig .tc := ⟨.hbm, 103, rfl⟩
abbrev main_c_24 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_25 : Ref sig .tc := ⟨.hbm, 111, rfl⟩
abbrev main_call3_v0 : Ref sig .tc := ⟨.hbm, 112, rfl⟩
abbrev main_v78_1 : Ref sig .tc := ⟨.hbm, 113, rfl⟩
abbrev main_call3_v2 : Ref sig .tc := ⟨.hbm, 114, rfl⟩
abbrev main_v78_0 : Ref sig .tc := ⟨.hbm, 115, rfl⟩
abbrev main_call3_cst : Ref sig .tc := ⟨.hbm, 116, rfl⟩
abbrev main_v78_2 : Ref sig .tc := ⟨.hbm, 117, rfl⟩
abbrev main_c_26 : Ref sig .tc := ⟨.hbm, 118, rfl⟩
abbrev main_v79 : Ref sig .tc := ⟨.hbm, 119, rfl⟩
abbrev main_v80 : Ref sig .tc := ⟨.hbm, 120, rfl⟩
abbrev main_c_27 : Ref sig .tc := ⟨.hbm, 121, rfl⟩
abbrev main_v81 : Ref sig .tc := ⟨.hbm, 122, rfl⟩
abbrev main_v82 : Ref sig .tc := ⟨.hbm, 123, rfl⟩
abbrev main_c_28 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_29 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_30 : Ref sig .tc := ⟨.hbm, 132, rfl⟩
abbrev main_v89 : Ref sig .tc := ⟨.hbm, 133, rfl⟩
abbrev main_v90 : Ref sig .tc := ⟨.hbm, 134, rfl⟩
abbrev main_cst_31 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_32 : Ref sig .tc := ⟨.hbm, 139, rfl⟩
abbrev main_v94 : Ref sig .tc := ⟨.hbm, 140, rfl⟩
abbrev main_v95 : Ref sig .tc := ⟨.hbm, 141, rfl⟩
abbrev main_c_33 : Ref sig .tc := ⟨.hbm, 142, rfl⟩
abbrev main_v96 : Ref sig .tc := ⟨.hbm, 143, rfl⟩
abbrev main_v97 : Ref sig .tc := ⟨.hbm, 144, rfl⟩
abbrev main_c_34 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_35 : Ref sig .tc := ⟨.hbm, 149, rfl⟩
abbrev main_v101 : Ref sig .tc := ⟨.hbm, 150, rfl⟩
abbrev main_v102 : Ref sig .tc := ⟨.hbm, 151, rfl⟩
abbrev main_c_36 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_37 : Ref sig .tc := ⟨.hbm, 159, rfl⟩
abbrev main_call5_v0 : Ref sig .tc := ⟨.hbm, 160, rfl⟩
abbrev main_v109_1 : Ref sig .tc := ⟨.hbm, 161, rfl⟩
abbrev main_call5_v2 : Ref sig .tc := ⟨.hbm, 162, rfl⟩
abbrev main_v109_0 : Ref sig .tc := ⟨.hbm, 163, rfl⟩
abbrev main_call5_cst : Ref sig .tc := ⟨.hbm, 164, rfl⟩
abbrev main_v109_2 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_call6_cst : Ref sig .tc := ⟨.hbm, 176, rfl⟩
abbrev main_call6_v0 : Ref sig .tc := ⟨.hbm, 177, rfl⟩
abbrev main_v120 : Ref sig .tc := ⟨.hbm, 178, rfl⟩
abbrev main_v121 : Ref sig .tc := ⟨.hbm, 179, rfl⟩
abbrev main_cst_38 : Ref sig .tc := ⟨.hbm, 180, rfl⟩
abbrev main_v122 : Ref sig .tc := ⟨.hbm, 181, rfl⟩
abbrev main_v123 : Ref sig .tc := ⟨.hbm, 182, rfl⟩
abbrev main_call7_cst : Ref sig .tc := ⟨.hbm, 183, rfl⟩
abbrev main_call7_v0 : Ref sig .tc := ⟨.hbm, 184, rfl⟩
abbrev main_v124 : Ref sig .tc := ⟨.hbm, 185, rfl⟩
abbrev main_v125 : Ref sig .tc := ⟨.hbm, 186, rfl⟩
abbrev main_cst_39 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_call8_cst : Ref sig .tc := ⟨.hbm, 191, rfl⟩
abbrev main_call8_v0 : Ref sig .tc := ⟨.hbm, 192, rfl⟩
abbrev main_v129 : Ref sig .tc := ⟨.hbm, 193, rfl⟩
abbrev main_v130 : Ref sig .tc := ⟨.hbm, 194, rfl⟩
abbrev main_cst_40 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_c_41 : Ref sig .tc := ⟨.hbm, 200, rfl⟩
abbrev main_call9_v0 : Ref sig .tc := ⟨.hbm, 201, rfl⟩
abbrev main_v135 : Ref sig .tc := ⟨.hbm, 202, rfl⟩

abbrev nD : Nat := 1
abbrev τ : Topo := Topo.v7x

variable {F : FTy → Type} [FloatOps F]
-- ==== Scan.lean ====
abbrev S8192x8x64 : Shape := ⟨3, ![8192, 8, 64]⟩
abbrev S8192x8 : Shape := ⟨2, ![8192, 8]⟩
abbrev S8x8192x64 : Shape := ⟨3, ![8, 8192, 64]⟩
abbrev S8192x8x1 : Shape := ⟨3, ![8192, 8, 1]⟩
abbrev S_ : Shape := ⟨0, ![]⟩
abbrev S8192x512 : Shape := ⟨2, ![8192, 512]⟩
abbrev S1x8192x512 : Shape := ⟨3, ![1, 8192, 512]⟩
abbrev S5x8192x512 : Shape := ⟨3, ![5, 8192, 512]⟩
abbrev S1x512x512 : Shape := ⟨3, ![1, 512, 512]⟩
abbrev S8x512x64 : Shape := ⟨3, ![8, 512, 64]⟩
abbrev S512x512 : Shape := ⟨2, ![512, 512]⟩
abbrev S8x64x64 : Shape := ⟨3, ![8, 64, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 23
  | .vmem => 17
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8, .f32⟩
  | .hbm, ⟨3, _⟩ => ⟨S8x8192x64, .f32⟩
  | .hbm, ⟨4, _⟩ => ⟨S8x8192x64, .f32⟩
  | .hbm, ⟨5, _⟩ => ⟨S8x8192x64, .f32⟩
  | .hbm, ⟨6, _⟩ => ⟨S8192x8x64, .f32⟩
  | .hbm, ⟨7, _⟩ => ⟨S8192x8x1, .f32⟩
  | .hbm, ⟨8, _⟩ => ⟨S8192x8x64, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1x8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S5x8192x512, .f32⟩
  | .hbm, ⟨20, _⟩ => ⟨S8192x512, .f32⟩
  | .hbm, ⟨21, _⟩ => ⟨S8x8192x64, .f32⟩
  | .hbm, ⟨22, _⟩ => ⟨S8x8192x64, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S8x512x64, .f32⟩
  | .local _ .vmem, ⟨7, _⟩ => ⟨S8x512x64, .f32⟩
  | .local _ .vmem, ⟨8, _⟩ => ⟨S8x512x64, .f32⟩
  | .local _ .vmem, ⟨9, _⟩ => ⟨S8x512x64, .f32⟩
  | .local _ .vmem, ⟨10, _⟩ => ⟨S512x512, .f32⟩
  | .local _ .vmem, ⟨11, _⟩ => ⟨S512x512, .f32⟩
  | .local _ .vmem, ⟨12, _⟩ => ⟨S8x512x64, .f32⟩
  | .local _ .vmem, ⟨13, _⟩ => ⟨S8x512x64, .f32⟩
  | .local _ .vmem, ⟨14, _⟩ => ⟨S8x512x64, .f32⟩
  | .local _ .vmem, ⟨15, _⟩ => ⟨S8x512x64, .f32⟩
  | .local _ .vmem, ⟨16, _⟩ => ⟨S8x64x64, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  v5
def k0_off1 (k0_t1 : Fin k0_t1_loop.trips) : Fin 3 → Nat :=
  let c0 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v7 : Index := Scalar.indexCast v6
  let c0_3 : Index := 0#32
  ![0, v7.toNat, 0]
def k0_off2 (k0_t1 : Fin k0_t1_loop.trips) : Fin 3 → Nat :=
  let c0_4 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v17 : Index := Scalar.indexCast v6
  let c64 : Index := 64#32
  ![0, v17.toNat, 64]
def k0_off3 (k0_t1 : Fin k0_t1_loop.trips) : Fin 3 → Nat :=
  let c0_5 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v27 : Index := Scalar.indexCast v6
  let c128 : Index := 128#32
  ![0, v27.toNat, 128]
def k0_off4 (k0_t1 : Fin k0_t1_loop.trips) : Fin 3 → Nat :=
  let c0_6 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v37 : Index := Scalar.indexCast v6
  let c192 : Index := 192#32
  ![0, v37.toNat, 192]
def k0_off5 (k0_t1 : Fin k0_t1_loop.trips) : Fin 3 → Nat :=
  let c0_7 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v47 : Index := Scalar.indexCast v6
  let c256 : Index := 256#32
  ![0, v47.toNat, 256]
def k0_off6 (k0_t1 : Fin k0_t1_loop.trips) : Fin 3 → Nat :=
  let c0_8 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v57 : Index := Scalar.indexCast v6
  let c320 : Index := 320#32
  ![0, v57.toNat, 320]
def k0_off7 (k0_t1 : Fin k0_t1_loop.trips) : Fin 3 → Nat :=
  let c0_9 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v67 : Index := Scalar.indexCast v6
  let c384 : Index := 384#32
  ![0, v67.toNat, 384]
def k0_off8 (k0_t1 : Fin k0_t1_loop.trips) : Fin 3 → Nat :=
  let c0_10 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v77 : Index := Scalar.indexCast v6
  let c448 : Index := 448#32
  ![0, v77.toNat, 448]
def k0_off9 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v103 : Index := Scalar.indexCast v6
  let c0_28 : Index := 0#32
  ![v103.toNat, 0]
def k0_off10 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v107 : Index := Scalar.indexCast v6
  let c64_29 : Index := 64#32
  ![v107.toNat, 64]
def k0_off11 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v111 : Index := Scalar.indexCast v6
  let c128_30 : Index := 128#32
  ![v111.toNat, 128]
def k0_off12 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v115 : Index := Scalar.indexCast v6
  let c192_31 : Index := 192#32
  ![v115.toNat, 192]
def k0_off13 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v119 : Index := Scalar.indexCast v6
  let c256_32 : Index := 256#32
  ![v119.toNat, 256]
def k0_off14 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v123 : Index := Scalar.indexCast v6
  let c320_33 : Index := 320#32
  ![v123.toNat, 320]
def k0_off15 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v127 : Index := Scalar.indexCast v6
  let c384_34 : Index := 384#32
  ![v127.toNat, 384]
def k0_off16 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v131 : Index := Scalar.indexCast v6
  let c448_35 : Index := 448#32
  ![v131.toNat, 448]
def k0_off17 (k0_t1 : Fin k0_t1_loop.trips) : Fin 3 → Nat :=
  let c0_36 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v135 : Index := Scalar.indexCast v6
  let c0_37 : Index := 0#32
  ![0, v135.toNat, 0]
def k0_off18 (k0_t1 : Fin k0_t1_loop.trips) : Fin 3 → Nat :=
  let c1_41 : Index := 1#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v148 : Index := Scalar.indexCast v6
  let c0_42 : Index := 0#32
  ![1, v148.toNat, 0]
def k0_off19 (k0_t1 : Fin k0_t1_loop.trips) : Fin 3 → Nat :=
  let c2_47 : Index := 2#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v161 : Index := Scalar.indexCast v6
  let c0_48 : Index := 0#32
  ![2, v161.toNat, 0]
def k0_off20 (k0_t1 : Fin k0_t1_loop.trips) : Fin 3 → Nat :=
  let c3_53 : Index := 3#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v174 : Index := Scalar.indexCast v6
  let c0_54 : Index := 0#32
  ![3, v174.toNat, 0]
def k0_off21 (k0_t1 : Fin k0_t1_loop.trips) : Fin 3 → Nat :=
  let c4_59 : Index := 4#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v187 : Index := Scalar.indexCast v6
  let c0_60 : Index := 0#32
  ![4, v187.toNat, 0]
def k0_off22 (k0_t1 : Fin k0_t1_loop.trips) : Fin 3 → Nat :=
  let c5_65 : Index := 5#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v200 : Index := Scalar.indexCast v6
  let c0_66 : Index := 0#32
  ![5, v200.toNat, 0]
def k0_off23 (k0_t1 : Fin k0_t1_loop.trips) : Fin 3 → Nat :=
  let c6_71 : Index := 6#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v213 : Index := Scalar.indexCast v6
  let c0_72 : Index := 0#32
  ![6, v213.toNat, 0]
def k0_off24 (k0_t1 : Fin k0_t1_loop.trips) : Fin 3 → Nat :=
  let c7_77 : Index := 7#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v226 : Index := Scalar.indexCast v6
  let c0_78 : Index := 0#32
  ![7, v226.toNat, 0]
def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  let c0_i32_0 : BitVec 32 := 0#32
  ![c4_i32.toNat, v0.toNat, c0_i32.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScanRefIdeal.lean ====
abbrev S8192x8x64 : Shape := ⟨3, ![8192, 8, 64]⟩
abbrev S8192x8 : Shape := ⟨2, ![8192, 8]⟩
abbrev S8x8192x64 : Shape := ⟨3, ![8, 8192, 64]⟩
abbrev S128x64x8 : Shape := ⟨3, ![128, 64, 8]⟩
abbrev S128x8x64 : Shape := ⟨3, ![128, 8, 64]⟩
abbrev S128x64x8x64 : Shape := ⟨4, ![128, 64, 8, 64]⟩
abbrev S128x8x64x64 : Shape := ⟨4, ![128, 8, 64, 64]⟩
abbrev S8x128x64x64 : Shape := ⟨4, ![8, 128, 64, 64]⟩
abbrev S128x8x1 : Shape := ⟨3, ![128, 8, 1]⟩
abbrev S128x8 : Shape := ⟨2, ![128, 8]⟩
abbrev S128x8x64x1 : Shape := ⟨4, ![128, 8, 64, 1]⟩
abbrev S128x8x1x1 : Shape := ⟨4, ![128, 8, 1, 1]⟩
abbrev S_ : Shape := ⟨0, ![]⟩
abbrev S8x64x64 : Shape := ⟨3, ![8, 64, 64]⟩
abbrev S1x8x64x64 : Shape := ⟨4, ![1, 8, 64, 64]⟩
abbrev S1x8x1x1 : Shape := ⟨4, ![1, 8, 1, 1]⟩
abbrev S8x1x1 : Shape := ⟨3, ![8, 1, 1]⟩

abbrev nBuf : Space → Nat
  | .hbm => 117
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8, .f32⟩
  | .hbm, ⟨3, _⟩ => ⟨S8x8192x64, .f32⟩
  | .hbm, ⟨4, _⟩ => ⟨S8x8192x64, .f32⟩
  | .hbm, ⟨5, _⟩ => ⟨S8x8192x64, .f32⟩
  | .hbm, ⟨6, _⟩ => ⟨S8192x8x64, .f32⟩
  | .hbm, ⟨7, _⟩ => ⟨S128x64x8, .f32⟩
  | .hbm, ⟨8, _⟩ => ⟨S128x8x64, .f32⟩
  | .hbm, ⟨9, _⟩ => ⟨S128x64x8x64, .f32⟩
  | .hbm, ⟨10, _⟩ => ⟨S128x8x64x64, .f32⟩
  | .hbm, ⟨11, _⟩ => ⟨S128x64x8x64, .f32⟩
  | .hbm, ⟨12, _⟩ => ⟨S128x8x64x64, .f32⟩
  | .hbm, ⟨13, _⟩ => ⟨S8x128x64x64, .f32⟩
  | .hbm, ⟨14, _⟩ => ⟨S128x8x64x64, .f32⟩
  | .hbm, ⟨15, _⟩ => ⟨S8x128x64x64, .f32⟩
  | .hbm, ⟨16, _⟩ => ⟨S128x8x64x64, .f32⟩
  | .hbm, ⟨17, _⟩ => ⟨S128x8x1, .f32⟩
  | .hbm, ⟨18, _⟩ => ⟨S128x8, .f32⟩
  | .hbm, ⟨19, _⟩ => ⟨S128x8x64, .f32⟩
  | .hbm, ⟨20, _⟩ => ⟨S128x8x64x1, .f32⟩
  | .hbm, ⟨21, _⟩ => ⟨S128x8x64x64, .f32⟩
  | .hbm, ⟨22, _⟩ => ⟨S128x8x64x64, .f32⟩
  | .hbm, ⟨23, _⟩ => ⟨S128x8x1, .f32⟩
  | .hbm, ⟨24, _⟩ => ⟨S128x8x64, .f32⟩
  | .hbm, ⟨25, _⟩ => ⟨S128x8x64, .f32⟩
  | .hbm, ⟨26, _⟩ => ⟨S128x8x64, .f32⟩
  | .hbm, ⟨27, _⟩ => ⟨S128x8x64x1, .f32⟩
  | .hbm, ⟨28, _⟩ => ⟨S128x8x64x64, .f32⟩
  | .hbm, ⟨29, _⟩ => ⟨S128x8x64x64, .f32⟩
  | .hbm, ⟨30, _⟩ => ⟨S128x8, .f32⟩
  | .hbm, ⟨31, _⟩ => ⟨S128x8x1x1, .f32⟩
  | .hbm, ⟨32, _⟩ => ⟨S128x64x8x64, .f32⟩
  | .hbm, ⟨33, _⟩ => ⟨S128x8x64x64, .f32⟩
  | .hbm, ⟨34, _⟩ => ⟨S_, .f32⟩
  | .hbm, ⟨35, _⟩ => ⟨S8x64x64, .f32⟩
  | .hbm, ⟨36, _⟩ => ⟨S_, .f32⟩
  | .hbm, ⟨37, _⟩ => ⟨S128x8x64x64, .f32⟩
  | .hbm, ⟨38, _⟩ => ⟨S_, .f32⟩
  | .hbm, ⟨39, _⟩ => ⟨S128x8x64x64, .f32⟩
  | .hbm, ⟨40, _⟩ => ⟨S_, .i32⟩
  | .hbm, ⟨41, _⟩ => ⟨S128x8x64x64, .f32⟩
  | .hbm, ⟨42, _⟩ => ⟨S128x8x64x64, .f32⟩
  | .hbm, ⟨43, _⟩ => ⟨S128x8x64x64, .f32⟩
  | .hbm, ⟨44, _⟩ => ⟨S128x8x64x64, .f32⟩
  | .hbm, ⟨45, _⟩ => ⟨S128x8x1x1, .f32⟩
  | .hbm, ⟨46, _⟩ => ⟨S128x8x64x64, .f32⟩
  | .hbm, ⟨47, _⟩ => ⟨S_, .i32⟩
  | .hbm, ⟨48, _⟩ => ⟨S8x64x64, .f32⟩
  | .hbm, ⟨49, _⟩ => ⟨S128x8x64x64, .f32⟩
  | .hbm, ⟨50, _⟩ => ⟨S128x8x64x64, .f32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x8x64x64, .f32⟩
  | .hbm, ⟨61, _⟩ => ⟨S8x64x64, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x8x64x64, .f32⟩
  | .hbm, ⟨66, _⟩ => ⟨S8x64x64, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x8x64x64, .f32⟩
  | .hbm, ⟨71, _⟩ => ⟨S8x64x64, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x8x64x64, .f32⟩
  | .hbm, ⟨76, _⟩ => ⟨S8x64x64, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1x8x1x1, .f32⟩
  | .hbm, ⟨81, _⟩ => ⟨S8x1x1, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S1x8x64x64, .f32⟩
  | .hbm, ⟨86, _⟩ => ⟨S8x64x64, .f32⟩
  | .hbm, ⟨87, _⟩ => ⟨S8x64x64, .f32⟩
  | .hbm, ⟨88, _⟩ => ⟨S8x64x64, .f32⟩
  | .hbm, ⟨89, _⟩ => ⟨S8x64x64, .f32⟩
  | .hbm, ⟨90, _⟩ => ⟨S8x64x64, .f32⟩
  | .hbm, ⟨91, _⟩ => ⟨S8x64x64, .f32⟩
  | .hbm, ⟨92, _⟩ => ⟨S8x64x64, .f32⟩
  | .hbm, ⟨93, _⟩ => ⟨S8x64x64, .f32⟩
  | .hbm, ⟨94, _⟩ => ⟨S8x64x64, .f32⟩
  | .hbm, ⟨95, _⟩ => ⟨S8x64x64, .f32⟩
  | .hbm, ⟨96, _⟩ => ⟨S8x64x64, .f32⟩
  | .hbm, ⟨97, _⟩ => ⟨S8x64x64, .f32⟩
  | .hbm, ⟨98, _⟩ => ⟨S8x64x64, .f32⟩
  | .hbm, ⟨99, _⟩ => ⟨S8x64x64, .f32⟩
  | .hbm, ⟨100, _⟩ => ⟨S8x64x64, .f32⟩
  | .hbm, ⟨101, _⟩ => ⟨S1x8x64x64, .f32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S128x8x64x64, .f32⟩
  | .hbm, ⟨106, _⟩ => ⟨S1x8x64x64, .f32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S128x8x64x64, .f32⟩
  | .hbm, ⟨111, _⟩ => ⟨S_, .i32⟩
  | .hbm, ⟨112, _⟩ => ⟨S_, .i32⟩
  | .hbm, ⟨113, _⟩ => ⟨S8x128x64x64, .f32⟩
  | .hbm, ⟨114, _⟩ => ⟨S8x8192x64, .f32⟩
  | .hbm, ⟨115, _⟩ => ⟨S8x128x64x64, .f32⟩
  | .hbm, ⟨116, _⟩ => ⟨S8x8192x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_c : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev main_v30_3 : Ref sig .tc := ⟨.hbm, 44, rfl⟩
abbrev main_v30_4 : Ref sig .tc := ⟨.hbm, 45, rfl⟩
abbrev main_v30_5 : Ref sig .tc := ⟨.hbm, 46, rfl⟩
abbrev main_v30_6 : Ref sig .tc := ⟨.hbm, 47, rfl⟩
abbrev main_v30_7 : Ref sig .tc := ⟨.hbm, 48, rfl⟩
abbrev main_v30_8 : Ref sig .tc := ⟨.hbm, 49, rfl⟩
abbrev main_v30_9 : Ref sig .tc := ⟨.hbm, 50, rfl⟩
abbrev main_while0c_c_11 : Ref sig .tc := ⟨.hbm, 51, rfl⟩
abbrev main_while0c_v35 : Ref sig .tc := ⟨.hbm, 52, rfl⟩
abbrev main_while0b_c_11 : Ref sig .tc := ⟨.hbm, 53, rfl⟩
abbrev main_while0b_v35 : Ref sig .tc := ⟨.hbm, 54, rfl⟩
abbrev main_while0b_c_12 : Ref sig .tc := ⟨.hbm, 55, rfl⟩
abbrev main_while0b_v36 : Ref sig .tc := ⟨.hbm, 56, rfl⟩
abbrev main_while0b_call0_c : Ref sig .tc := ⟨.hbm, 57, rfl⟩
abbrev main_while0b_call0_c_0 : Ref sig .tc := ⟨.hbm, 58, rfl⟩
abbrev main_while0b_call0_c_1 : Ref sig .tc := ⟨.hbm, 59, rfl⟩
abbrev main_while0b_call0_v0 : Ref sig .tc := ⟨.hbm, 60, rfl⟩
abbrev main_while0b_v37 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_v0 : Ref sig .tc := ⟨.hbm, 65, rfl⟩
abbrev main_while0b_v38 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_c_1 : Ref sig .tc := ⟨.hbm, 69, rfl⟩
abbrev main_while0b_call2_v0 : Ref sig .tc := ⟨.hbm, 70, rfl⟩
abbrev main_while0b_v39 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_v0 : Ref sig .tc := ⟨.hbm, 75, rfl⟩
abbrev main_while0b_v40 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_v0 : Ref sig .tc := ⟨.hbm, 80, rfl⟩
abbrev main_while0b_v41 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_call5_c_1 : Ref sig .tc := ⟨.hbm, 84, rfl⟩
abbrev main_while0b_call5_v0 : Ref sig .tc := ⟨.hbm, 85, rfl⟩
abbrev main_while0b_v42 : Ref sig .tc := ⟨.hbm, 86, rfl⟩
abbrev main_while0b_v43 : Ref sig .tc := ⟨.hbm, 87, rfl⟩
abbrev main_while0b_v44 : Ref sig .tc := ⟨.hbm, 88, rfl⟩
abbrev main_while0b_v45 : Ref sig .tc := ⟨.hbm, 89, rfl⟩
abbrev main_while0b_v46 : Ref sig .tc := ⟨.hbm, 90, rfl⟩
abbrev main_while0b_v47 : Ref sig .tc := ⟨.hbm, 91, rfl⟩
abbrev main_while0b_v48 : Ref sig .tc := ⟨.hbm, 92, rfl⟩
abbrev main_while0b_v49 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_v54 : Ref sig .tc := ⟨.hbm, 98, rfl⟩
abbrev main_while0b_v55 : Ref sig .tc := ⟨.hbm, 99, rfl⟩
abbrev main_while0b_v56 : Ref sig .tc := ⟨.hbm, 100, rfl⟩
abbrev main_while0b_call6_v0 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_c_1 : Ref sig .tc := ⟨.hbm, 104, rfl⟩
abbrev main_while0b_v57 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_v58 : Ref sig .tc := ⟨.hbm, 110, rfl⟩
abbrev main_while0b_c_13 : Ref sig .tc := ⟨.hbm, 111, rfl⟩
abbrev main_while0b_v59 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩

abbrev nD : Nat := 1
abbrev τ : Topo := Topo.v7x

variable {F : FTy → Type} [FloatOps F]

abbrev main_while0_count : Scf.Loop 32 := ⟨0#32, 128#32, 1#32⟩
-- ==== Pass.lean ====
abbrev S8192x8x64 : Shape := ⟨3, ![8192, 8, 64]⟩
abbrev S8192x8 : Shape := ⟨2, ![8192, 8]⟩
abbrev S8x8192x64 : Shape := ⟨3, ![8, 8192, 64]⟩
abbrev S8192x8x1 : Shape := ⟨3, ![8192, 8, 1]⟩
abbrev S_ : Shape := ⟨0, ![]⟩
abbrev S8192x512 : Shape := ⟨2, ![8192, 512]⟩
abbrev S1x8192x512 : Shape := ⟨3, ![1, 8192, 512]⟩
abbrev S5x8192x512 : Shape := ⟨3, ![5, 8192, 512]⟩
abbrev S1x512x512 : Shape := ⟨3, ![1, 512, 512]⟩
abbrev S8x512x64 : Shape := ⟨3, ![8, 512, 64]⟩
abbrev S512x512 : Shape := ⟨2, ![512, 512]⟩
abbrev S8x64x64 : Shape := ⟨3, ![8, 64, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 21
  | .vmem => 17
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8, .f32⟩
  | .hbm, ⟨3, _⟩ => ⟨S8x8192x64, .f32⟩
  | .hbm, ⟨4, _⟩ => ⟨S8x8192x64, .f32⟩
  | .hbm, ⟨5, _⟩ => ⟨S8x8192x64, .f32⟩
  | .hbm, ⟨6, _⟩ => ⟨S8192x8x1, .f32⟩
  | .hbm, ⟨7, _⟩ => ⟨S8192x8x64, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S1x8192x512, .f32⟩
  | .hbm, ⟨14, _⟩ => ⟨S1x8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S5x8192x512, .f32⟩
  | .hbm, ⟨19, _⟩ => ⟨S8192x512, .f32⟩
  | .hbm, ⟨20, _⟩ => ⟨S8x8192x64, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S8x512x64, .f32⟩
  | .local _ .vmem, ⟨7, _⟩ => ⟨S8x512x64, .f32⟩
  | .local _ .vmem, ⟨8, _⟩ => ⟨S8x512x64, .f32⟩
  | .local _ .vmem, ⟨9, _⟩ => ⟨S8x512x64, .f32⟩
  | .local _ .vmem, ⟨10, _⟩ => ⟨S8x512x64, .f32⟩
  | .local _ .vmem, ⟨11, _⟩ => ⟨S8x512x64, .f32⟩
  | .local _ .vmem, ⟨12, _⟩ => ⟨S512x512, .f32⟩
  | .local _ .vmem, ⟨13, _⟩ => ⟨S512x512, .f32⟩
  | .local _ .vmem, ⟨14, _⟩ => ⟨S8x512x64, .f32⟩
  | .local _ .vmem, ⟨15, _⟩ => ⟨S8x512x64, .f32⟩
  | .local _ .vmem, ⟨16, _⟩ => ⟨S8x64x64, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  v4
def k0_off1 (k0_t1 : Fin k0_t1_loop.trips) : Fin 3 → Nat :=
  let c0 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v6 : Index := Scalar.indexCast v5
  let c0_3 : Index := 0#32
  ![0, v6.toNat, 0]
def k0_off2 (k0_t1 : Fin k0_t1_loop.trips) : Fin 3 → Nat :=
  let c0_4 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v16 : Index := Scalar.indexCast v5
  let c64 : Index := 64#32
  ![0, v16.toNat, 64]
def k0_off3 (k0_t1 : Fin k0_t1_loop.trips) : Fin 3 → Nat :=
  let c0_5 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v26 : Index := Scalar.indexCast v5
  let c128 : Index := 128#32
  ![0, v26.toNat, 128]
def k0_off4 (k0_t1 : Fin k0_t1_loop.trips) : Fin 3 → Nat :=
  let c0_6 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v36 : Index := Scalar.indexCast v5
  let c192 : Index := 192#32
  ![0, v36.toNat, 192]
def k0_off5 (k0_t1 : Fin k0_t1_loop.trips) : Fin 3 → Nat :=
  let c0_7 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v46 : Index := Scalar.indexCast v5
  let c256 : Index := 256#32
  ![0, v46.toNat, 256]
def k0_off6 (k0_t1 : Fin k0_t1_loop.trips) : Fin 3 → Nat :=
  let c0_8 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v56 : Index := Scalar.indexCast v5
  let c320 : Index := 320#32
  ![0, v56.toNat, 320]
def k0_off7 (k0_t1 : Fin k0_t1_loop.trips) : Fin 3 → Nat :=
  let c0_9 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v66 : Index := Scalar.indexCast v5
  let c384 : Index := 384#32
  ![0, v66.toNat, 384]
def k0_off8 (k0_t1 : Fin k0_t1_loop.trips) : Fin 3 → Nat :=
  let c0_10 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v76 : Index := Scalar.indexCast v5
  let c448 : Index := 448#32
  ![0, v76.toNat, 448]
def k0_off9 (k0_t1 : Fin k0_t1_loop.trips) : Fin 3 → Nat :=
  let c0_28 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v110 : Index := Scalar.indexCast v5
  let c0_29 : Index := 0#32
  ![0, v110.toNat, 0]
def k0_off10 (k0_t1 : Fin k0_t1_loop.trips) : Fin 3 → Nat :=
  let c1_32 : Index := 1#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v120 : Index := Scalar.indexCast v5
  let c0_33 : Index := 0#32
  ![1, v120.toNat, 0]
def k0_off11 (k0_t1 : Fin k0_t1_loop.trips) : Fin 3 → Nat :=
  let c2_37 : Index := 2#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v130 : Index := Scalar.indexCast v5
  let c0_38 : Index := 0#32
  ![2, v130.toNat, 0]
def k0_off12 (k0_t1 : Fin k0_t1_loop.trips) : Fin 3 → Nat :=
  let c3_42 : Index := 3#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v140 : Index := Scalar.indexCast v5
  let c0_43 : Index := 0#32
  ![3, v140.toNat, 0]
def k0_off13 (k0_t1 : Fin k0_t1_loop.trips) : Fin 3 → Nat :=
  let c4_47 : Index := 4#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v150 : Index := Scalar.indexCast v5
  let c0_48 : Index := 0#32
  ![4, v150.toNat, 0]
def k0_off14 (k0_t1 : Fin k0_t1_loop.trips) : Fin 3 → Nat :=
  let c5_52 : Index := 5#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v160 : Index := Scalar.indexCast v5
  let c0_53 : Index := 0#32
  ![5, v160.toNat, 0]
def k0_off15 (k0_t1 : Fin k0_t1_loop.trips) : Fin 3 → Nat :=
  let c6_57 : Index := 6#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v170 : Index := Scalar.indexCast v5
  let c0_58 : Index := 0#32
  ![6, v170.toNat, 0]
def k0_off16 (k0_t1 : Fin k0_t1_loop.trips) : Fin 3 → Nat :=
  let c7_62 : Index := 7#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v180 : Index := Scalar.indexCast v5
  let c0_63 : Index := 0#32
  ![7, v180.toNat, 0]
def k0_off17 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v202 : Index := Scalar.indexCast v5
  let c0_73 : Index := 0#32
  ![v202.toNat, 0]
def k0_off18 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v220 : Index := Scalar.indexCast v5
  let c64_82 : Index := 64#32
  ![v220.toNat, 64]
def k0_off19 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v238 : Index := Scalar.indexCast v5
  let c128_91 : Index := 128#32
  ![v238.toNat, 128]
def k0_off20 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v256 : Index := Scalar.indexCast v5
  let c192_100 : Index := 192#32
  ![v256.toNat, 192]
def k0_off21 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v274 : Index := Scalar.indexCast v5
  let c256_109 : Index := 256#32
  ![v274.toNat, 256]
def k0_off22 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v292 : Index := Scalar.indexCast v5
  let c320_118 : Index := 320#32
  ![v292.toNat, 320]
def k0_off23 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v310 : Index := Scalar.indexCast v5
  let c384_127 : Index := 384#32
  ![v310.toNat, 384]
def k0_off24 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v328 : Index := Scalar.indexCast v5
  let c448_136 : Index := 448#32
  ![v328.toNat, 448]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PassRefIdeal.lean ====
abbrev S8192x8x64 : Shape := ⟨3, ![8192, 8, 64]⟩
abbrev S8192x8 : Shape := ⟨2, ![8192, 8]⟩
abbrev S8x8192x64 : Shape := ⟨3, ![8, 8192, 64]⟩
abbrev S128x64x8 : Shape := ⟨3, ![128, 64, 8]⟩
abbrev S128x8x64 : Shape := ⟨3, ![128, 8, 64]⟩
abbrev S_ : Shape := ⟨0, ![]⟩
abbrev S8x64x64 : Shape := ⟨3, ![8, 64, 64]⟩
abbrev S128x64x8x64 : Shape := ⟨4, ![128, 64, 8, 64]⟩
abbrev S128x8x64x64 : Shape := ⟨4, ![128, 8, 64, 64]⟩
abbrev S8x128x64x64 : Shape := ⟨4, ![8, 128, 64, 64]⟩
abbrev S1x8x64x64 : Shape := ⟨4, ![1, 8, 64, 64]⟩
abbrev S1x8x64 : Shape := ⟨3, ![1, 8, 64]⟩
abbrev S8x64 : Shape := ⟨2, ![8, 64]⟩
abbrev S8x64x1 : Shape := ⟨3, ![8, 64, 1]⟩
abbrev S8x1 : Shape := ⟨2, ![8, 1]⟩
abbrev S8 : Shape := ⟨1, ![8]⟩
abbrev S8x1x1 : Shape := ⟨3, ![8, 1, 1]⟩
abbrev S8192x512 : Shape := ⟨2, ![8192, 512]⟩

abbrev nBuf : Space → Nat
  | .hbm => 106
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8, .f32⟩
  | .hbm, ⟨3, _⟩ => ⟨S8x8192x64, .f32⟩
  | .hbm, ⟨4, _⟩ => ⟨S8x8192x64, .f32⟩
  | .hbm, ⟨5, _⟩ => ⟨S8x8192x64, .f32⟩
  | .hbm, ⟨6, _⟩ => ⟨S128x64x8, .f32⟩
  | .hbm, ⟨7, _⟩ => ⟨S128x8x64, .f32⟩
  | .hbm, ⟨8, _⟩ => ⟨S_, .f32⟩
  | .hbm, ⟨9, _⟩ => ⟨S8x64x64, .f32⟩
  | .hbm, ⟨10, _⟩ => ⟨S128x64x8x64, .f32⟩
  | .hbm, ⟨11, _⟩ => ⟨S128x8x64x64, .f32⟩
  | .hbm, ⟨12, _⟩ => ⟨S128x64x8x64, .f32⟩
  | .hbm, ⟨13, _⟩ => ⟨S128x8x64x64, .f32⟩
  | .hbm, ⟨14, _⟩ => ⟨S8x128x64x64, .f32⟩
  | .hbm, ⟨15, _⟩ => ⟨S128x8x64x64, .f32⟩
  | .hbm, ⟨16, _⟩ => ⟨S8x128x64x64, .f32⟩
  | .hbm, ⟨17, _⟩ => ⟨S128x8x64x64, .f32⟩
  | .hbm, ⟨18, _⟩ => ⟨S8x128x64x64, .f32⟩
  | .hbm, ⟨19, _⟩ => ⟨S128x8x64x64, .f32⟩
  | .hbm, ⟨20, _⟩ => ⟨S_, .f32⟩
  | .hbm, ⟨21, _⟩ => ⟨S128x8x64x64, .f32⟩
  | .hbm, ⟨22, _⟩ => ⟨S_, .f32⟩
  | .hbm, ⟨23, _⟩ => ⟨S128x8x64x64, .f32⟩
  | .hbm, ⟨24, _⟩ => ⟨S_, .i32⟩
  | .hbm, ⟨25, _⟩ => ⟨S128x8x64x64, .f32⟩
  | .hbm, ⟨26, _⟩ => ⟨S128x8x64x64, .f32⟩
  | .hbm, ⟨27, _⟩ => ⟨S128x8x64x64, .f32⟩
  | .hbm, ⟨28, _⟩ => ⟨S128x8x64x64, .f32⟩
  | .hbm, ⟨29, _⟩ => ⟨S128x8x64, .f32⟩
  | .hbm, ⟨30, _⟩ => ⟨S128x8x64x64, .f32⟩
  | .hbm, ⟨31, _⟩ => ⟨S_, .i32⟩
  | .hbm, ⟨32, _⟩ => ⟨S8x64x64, .f32⟩
  | .hbm, ⟨33, _⟩ => ⟨S128x8x64x64, .f32⟩
  | .hbm, ⟨34, _⟩ => ⟨S128x8x64x64, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x8x64x64, .f32⟩
  | .hbm, ⟨41, _⟩ => ⟨S8x64x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x8x64x64, .f32⟩
  | .hbm, ⟨46, _⟩ => ⟨S8x64x64, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x8x64x64, .f32⟩
  | .hbm, ⟨51, _⟩ => ⟨S8x64x64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x8x64x64, .f32⟩
  | .hbm, ⟨56, _⟩ => ⟨S8x64x64, .f32⟩
  | .hbm, ⟨57, _⟩ => ⟨S_, .i32⟩
  | .hbm, ⟨58, _⟩ => ⟨S_, .i32⟩
  | .hbm, ⟨59, _⟩ => ⟨S1x8x64, .f32⟩
  | .hbm, ⟨60, _⟩ => ⟨S8x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x8x64x64, .f32⟩
  | .hbm, ⟨65, _⟩ => ⟨S8x64x64, .f32⟩
  | .hbm, ⟨66, _⟩ => ⟨S8x64x64, .f32⟩
  | .hbm, ⟨67, _⟩ => ⟨S8x64x64, .f32⟩
  | .hbm, ⟨68, _⟩ => ⟨S8x64, .f32⟩
  | .hbm, ⟨69, _⟩ => ⟨S8x64x1, .f32⟩
  | .hbm, ⟨70, _⟩ => ⟨S8x64x64, .f32⟩
  | .hbm, ⟨71, _⟩ => ⟨S8x64x64, .f32⟩
  | .hbm, ⟨72, _⟩ => ⟨S8x64x64, .f32⟩
  | .hbm, ⟨73, _⟩ => ⟨S8x64x64, .f32⟩
  | .hbm, ⟨74, _⟩ => ⟨S8x64x64, .f32⟩
  | .hbm, ⟨75, _⟩ => ⟨S8x1, .f32⟩
  | .hbm, ⟨76, _⟩ => ⟨S8, .f32⟩
  | .hbm, ⟨77, _⟩ => ⟨S8x1, .f32⟩
  | .hbm, ⟨78, _⟩ => ⟨S8x64, .f32⟩
  | .hbm, ⟨79, _⟩ => ⟨S8x64, .f32⟩
  | .hbm, ⟨80, _⟩ => ⟨S8x64, .f32⟩
  | .hbm, ⟨81, _⟩ => ⟨S8x64x1, .f32⟩
  | .hbm, ⟨82, _⟩ => ⟨S8x64x64, .f32⟩
  | .hbm, ⟨83, _⟩ => ⟨S8x64x64, .f32⟩
  | .hbm, ⟨84, _⟩ => ⟨S8, .f32⟩
  | .hbm, ⟨85, _⟩ => ⟨S8x1x1, .f32⟩
  | .hbm, ⟨86, _⟩ => ⟨S8x64x64, .f32⟩
  | .hbm, ⟨87, _⟩ => ⟨S8x64x64, .f32⟩
  | .hbm, ⟨88, _⟩ => ⟨S8x64x64, .f32⟩
  | .hbm, ⟨89, _⟩ => ⟨S8x64x64, .f32⟩
  | .hbm, ⟨90, _⟩ => ⟨S1x8x64x64, .f32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S128x8x64x64, .f32⟩
  | .hbm, ⟨95, _⟩ => ⟨S1x8x64x64, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S128x8x64x64, .f32⟩
  | .hbm, ⟨100, _⟩ => ⟨S_, .i32⟩
  | .hbm, ⟨101, _⟩ => ⟨S_, .i32⟩
  | .hbm, ⟨102, _⟩ => ⟨S128x64x8x64, .f32⟩
  | .hbm, ⟨103, _⟩ => ⟨S8192x512, .f32⟩
  | .hbm, ⟨104, _⟩ => ⟨S8x128x64x64, .f32⟩
  | .hbm, ⟨105, _⟩ => ⟨S8x8192x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_c : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev main_v15_7 : Ref sig .tc := ⟨.hbm, 32, rfl⟩
abbrev main_v15_8 : Ref sig .tc := ⟨.hbm, 33, rfl⟩
abbrev main_v15_9 : Ref sig .tc := ⟨.hbm, 34, rfl⟩
abbrev main_while0c_c_11 : Ref sig .tc := ⟨.hbm, 35, rfl⟩
abbrev main_while0c_v20 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_v0 : Ref sig .tc := ⟨.hbm, 40, rfl⟩
abbrev main_while0b_v20 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v21 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_v0 : Ref sig .tc := ⟨.hbm, 50, rfl⟩
abbrev main_while0b_v22 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_c_1 : Ref sig .tc := ⟨.hbm, 54, rfl⟩
abbrev main_while0b_call3_v0 : Ref sig .tc := ⟨.hbm, 55, rfl⟩
abbrev main_while0b_v23 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_v0 : Ref sig .tc := ⟨.hbm, 59, rfl⟩
abbrev main_while0b_v24 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_call5_c_1 : Ref sig .tc := ⟨.hbm, 63, rfl⟩
abbrev main_while0b_call5_v0 : Ref sig .tc := ⟨.hbm, 64, rfl⟩
abbrev main_while0b_v25 : Ref sig .tc := ⟨.hbm, 65, rfl⟩
abbrev main_while0b_v26 : Ref sig .tc := ⟨.hbm, 66, rfl⟩
abbrev main_while0b_v27 : Ref sig .tc := ⟨.hbm, 67, rfl⟩
abbrev main_while0b_v28 : Ref sig .tc := ⟨.hbm, 68, rfl⟩
abbrev main_while0b_v29 : Ref sig .tc := ⟨.hbm, 69, rfl⟩
abbrev main_while0b_v30 : Ref sig .tc := ⟨.hbm, 70, rfl⟩
abbrev main_while0b_v31 : Ref sig .tc := ⟨.hbm, 71, rfl⟩
abbrev main_while0b_v32 : Ref sig .tc := ⟨.hbm, 72, rfl⟩
abbrev main_while0b_v33 : Ref sig .tc := ⟨.hbm, 73, rfl⟩
abbrev main_while0b_v34 : Ref sig .tc := ⟨.hbm, 74, rfl⟩
abbrev main_while0b_v35 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_v39 : Ref sig .tc := ⟨.hbm, 79, rfl⟩
abbrev main_while0b_v40 : Ref sig .tc := ⟨.hbm, 80, rfl⟩
abbrev main_while0b_v41 : Ref sig .tc := ⟨.hbm, 81, rfl⟩
abbrev main_while0b_v42 : Ref sig .tc := ⟨.hbm, 82, rfl⟩
abbrev main_while0b_v43 : Ref sig .tc := ⟨.hbm, 83, rfl⟩
abbrev main_while0b_v44 : Ref sig .tc := ⟨.hbm, 84, rfl⟩
abbrev main_while0b_v45 : Ref sig .tc := ⟨.hbm, 85, rfl⟩
abbrev main_while0b_v46 : Ref sig .tc := ⟨.hbm, 86, rfl⟩
abbrev main_while0b_v47 : Ref sig .tc := ⟨.hbm, 87, rfl⟩
abbrev main_while0b_v48 : Ref sig .tc := ⟨.hbm, 88, rfl⟩
abbrev main_while0b_v49 : Ref sig .tc := ⟨.hbm, 89, rfl⟩
abbrev main_while0b_call6_v0 : Ref sig .tc := ⟨.hbm, 90, rfl⟩
abbrev main_while0b_call6_c : Ref sig .tc := ⟨.hbm, 91, rfl⟩
abbrev main_while0b_call6_c_0 : Ref sig .tc := ⟨.hbm, 92, rfl⟩
abbrev main_while0b_call6_c_1 : Ref sig .tc := ⟨.hbm, 93, rfl⟩
abbrev main_while0b_v50 : Ref sig .tc := ⟨.hbm, 94, rfl⟩
abbrev main_while0b_call7_v0 : Ref sig .tc := ⟨.hbm, 95, rfl⟩
abbrev main_while0b_call7_c : Ref sig .tc := ⟨.hbm, 96, rfl⟩
abbrev main_while0b_call7_c_0 : Ref sig .tc := ⟨.hbm, 97, rfl⟩
abbrev main_while0b_call7_c_1 : Ref sig .tc := ⟨.hbm, 98, rfl⟩
abbrev main_while0b_v51 : Ref sig .tc := ⟨.hbm, 99, rfl⟩
abbrev main_while0b_c_11 : Ref sig .tc := ⟨.hbm, 100, rfl⟩
abbrev main_while0b_v52 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩

abbrev nD : Nat := 1
abbrev τ : Topo := Topo.v7x

variable {F : FTy → Type} [FloatOps F]

abbrev main_while0_count : Scf.Loop 32 := ⟨0#32, 128#32, 1#32⟩
-- ==== Out.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutRefIdeal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x512, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== In.lean ====
abbrev S8192x1024 : Shape := ⟨2, ![8192, 1024]⟩
abbrev S1x1024 : Shape := ⟨2, ![1, 1024]⟩
abbrev S3600x1024 : Shape := ⟨2, ![3600, 1024]⟩
abbrev S_ : Shape := ⟨0, ![]⟩
abbrev S3712x1024 : Shape := ⟨2, ![3712, 1024]⟩
abbrev S8192x1536 : Shape := ⟨2, ![8192, 1536]⟩
abbrev S8192x2048 : Shape := ⟨2, ![8192, 2048]⟩
abbrev S8192x128 : Shape := ⟨2, ![8192, 128]⟩
abbrev S512x1024 : Shape := ⟨2, ![512, 1024]⟩
abbrev S512x1536 : Shape := ⟨2, ![512, 1536]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1536x1024 : Shape := ⟨2, ![1536, 1024]⟩
abbrev S2048x1024 : Shape := ⟨2, ![2048, 1024]⟩
abbrev S128x1024 : Shape := ⟨2, ![128, 1024]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S3600x1024, .bf16⟩
  | .hbm, ⟨5, _⟩ => ⟨S_, .i32⟩
  | .hbm, ⟨6, _⟩ => ⟨S_, .bf16⟩
  | .hbm, ⟨7, _⟩ => ⟨S3712x1024, .bf16⟩
  | .hbm, ⟨8, _⟩ => ⟨S8192x1024, .bf16⟩
  | .hbm, ⟨9, _⟩ => ⟨S8192x1536, .f32⟩
  | .hbm, ⟨10, _⟩ => ⟨S8192x2048, .f32⟩
  | .hbm, ⟨11, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S3712x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1536, .f32⟩
  | .local _ .vmem, ⟨9, _⟩ => ⟨S512x1536, .f32⟩
  | .local _ .vmem, ⟨10, _⟩ => ⟨S512x2048, .f32⟩
  | .local _ .vmem, ⟨11, _⟩ => ⟨S512x2048, .f32⟩
  | .local _ .vmem, ⟨12, _⟩ => ⟨S512x128, .f32⟩
  | .local _ .vmem, ⟨13, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3712x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InRefIdeal.lean ====
abbrev S8192x1024 : Shape := ⟨2, ![8192, 1024]⟩
abbrev S1x1024 : Shape := ⟨2, ![1, 1024]⟩
abbrev S3600x1024 : Shape := ⟨2, ![3600, 1024]⟩
abbrev S_ : Shape := ⟨0, ![]⟩
abbrev S8192 : Shape := ⟨1, ![8192]⟩
abbrev S8192x1 : Shape := ⟨2, ![8192, 1]⟩
abbrev S1024x3600 : Shape := ⟨2, ![1024, 3600]⟩
abbrev S8192x3600 : Shape := ⟨2, ![8192, 3600]⟩
abbrev S8192x16 : Shape := ⟨2, ![8192, 16]⟩
abbrev S8192x128 : Shape := ⟨2, ![8192, 128]⟩
abbrev S8192x1536 : Shape := ⟨2, ![8192, 1536]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S3600x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S3600x1024, .f32⟩
  | .hbm, ⟨28, _⟩ => ⟨S1024x3600, .f32⟩
  | .hbm, ⟨29, _⟩ => ⟨S8192x3600, .f32⟩
  | .hbm, ⟨30, _⟩ => ⟨S8192x16, .f32⟩
  | .hbm, ⟨31, _⟩ => ⟨S_, .i32⟩
  | .hbm, ⟨32, _⟩ => ⟨S_, .f32⟩
  | .hbm, ⟨33, _⟩ => ⟨S8192x128, .f32⟩
  | .hbm, ⟨34, _⟩ => ⟨S8192x1024, .bf16⟩
  | .hbm, ⟨35, _⟩ => ⟨S8192x1536, .f32⟩
  | .hbm, ⟨36, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Gate.lean ====
abbrev S8192x512 : Shape := ⟨2, ![8192, 512]⟩
abbrev S8192x2048 : Shape := ⟨2, ![8192, 2048]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S1x64, .f32⟩
  | .hbm, ⟨3, _⟩ => ⟨S1x1x1x64, .f32⟩
  | .hbm, ⟨4, _⟩ => ⟨S1x1x8x64, .f32⟩
  | .hbm, ⟨5, _⟩ => ⟨S1x512, .f32⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateRefIdeal.lean ====
abbrev S8192x512 : Shape := ⟨2, ![8192, 512]⟩
abbrev S8192x2048 : Shape := ⟨2, ![8192, 2048]⟩
abbrev S1x64 : Shape := ⟨2, ![1, 64]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S1x64, .f32⟩
  | .hbm, ⟨3, _⟩ => ⟨S8192x512, .f32⟩
  | .hbm, ⟨4, _⟩ => ⟨S8192x8x64, .f32⟩
  | .hbm, ⟨5, _⟩ => ⟨S8192x8x64, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x64, .f32⟩
  | .hbm, ⟨17, _⟩ => ⟨S8192x8x64, .f32⟩
  | .hbm, ⟨18, _⟩ => ⟨S1x1x64, .f32⟩
  | .hbm, ⟨19, _⟩ => ⟨S8192x8x64, .f32⟩
  | .hbm, ⟨20, _⟩ => ⟨S8192x8x64, .f32⟩
  | .hbm, ⟨21, _⟩ => ⟨S8192x8x64, .f32⟩
  | .hbm, ⟨22, _⟩ => ⟨S8192x8x64, .f32⟩
  | .hbm, ⟨23, _⟩ => ⟨S8192x8x64, .f32⟩
  | .hbm, ⟨24, _⟩ => ⟨S_, .f32⟩
  | .hbm, ⟨25, _⟩ => ⟨S8192x8x64, .f32⟩
  | .hbm, ⟨26, _⟩ => ⟨S8192x8x64, .f32⟩
  | .hbm, ⟨27, _⟩ => ⟨S_, .f32⟩
  | .hbm, ⟨28, _⟩ => ⟨S8192x8x64, .f32⟩
  | .hbm, ⟨29, _⟩ => ⟨S8192x8x64, .f32⟩
  | .hbm, ⟨30, _⟩ => ⟨S8192x8x64, .f32⟩
  | .hbm, ⟨31, _⟩ => ⟨S8192x8x64, .f32⟩
  | .hbm, ⟨32, _⟩ => ⟨S8192x512, .f32⟩
  | .hbm, ⟨33, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Reals.lean ====
/- Hand-written, untrusted: the extended reals' arithmetic that the gradients share. A product distributes over a sum and a
   minus sign goes through a sum as soon as the values are real numbers; these are the closure facts that say so, and the
   two spellings of the sigmoid. -/
module

public import Idealize.ShloMosaic.Lib.Pointwise
public import Idealize.ShloMosaic.Lib.IdealHost

@[expose] public section

namespace Cert.Reals

open Idealize.ShloMosaic

/-- A value that is a real number: neither infinity. -/
def IsReal (x : EReal) : Prop := ∃ r : ℝ, x = r

theorem IsReal.coe (r : ℝ) : IsReal r := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type*} {s : Finset ι} {f : ι → EReal} (h : ∀ i, IsReal (f i)) : IsReal (∑ i ∈ s, f i) := by
  classical
  induction s using Finset.induction_on with
  | empty => simpa using IsReal.zero
  | insert a s ha ih => rw [Finset.sum_insert ha]; exact (h a).add ih

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem IsReal.of_ne {x : EReal} (h₁ : x ≠ ⊥) (h₂ : x ≠ ⊤) : IsReal x := by
  induction x using EReal.rec with
  | bot => exact absurd rfl h₁
  | coe r => exact ⟨r, rfl⟩
  | top => exact absurd rfl h₂

/-- A value whose magnitude is below plus infinity is real. -/
theorem isReal_of_abs_lt {x : EReal} (h : max x (-x) < ⊤) : IsReal x := by
  refine IsReal.of_ne ?_ ?_ <;> rintro rfl <;> simp at h

theorem inf_f32 : Ideal.ofBits .f32 2139095040#32 = ⊤ := by simp [Ideal.ofBits, Ideal.ieee]
theorem inf_bf16 : Ideal.ofBits .bf16 32640#16 = ⊤ := by simp [Ideal.ofBits, Ideal.ieee]

/-- The test `abs(x) < inf` of a precondition, at one element. -/
theorem isReal_of_f32 {x : EReal}
    (h : BitVec.ofBool (decide (FloatOps.absf (F := Ideal) (φ := .f32) x < Ideal.ofBits .f32 2139095040#32)) = 1#1) : IsReal x := by
  rw [inf_f32, Ideal.absf_def] at h
  refine isReal_of_abs_lt (of_decide_eq_true ?_)
  revert h; cases decide (max x (-x) < (⊤ : EReal)) <;> simp

theorem isReal_of_bf16 {x : EReal}
    (h : BitVec.ofBool (decide (FloatOps.absf (F := Ideal) (φ := .bf16) x < Ideal.ofBits .bf16 32640#16)) = 1#1) : IsReal x := by
  rw [inf_bf16, Ideal.absf_def] at h
  refine isReal_of_abs_lt (of_decide_eq_true ?_)
  revert h; cases decide (max x (-x) < (⊤ : EReal)) <;> simp

theorem mul_add_real {x y z : EReal} (hx : IsReal x) (hy : IsReal y) (hz : IsReal z) : x * (y + z) = x * y + x * z := by
  obtain ⟨a, rfl⟩ := hx; obtain ⟨b, rfl⟩ := hy; obtain ⟨d, rfl⟩ := hz
  exact_mod_cast mul_add a b d

/-- A real factor goes into a sum of reals. -/
theorem mul_sum_real {ι : Type*} (s : Finset ι) {f : ι → EReal} {x : EReal} (hx : IsReal x) (h : ∀ i, IsReal (f i)) :
    x * ∑ i ∈ s, f i = ∑ i ∈ s, x * f i := by
  classical
  induction s using Finset.induction_on with
  | empty => simp
  | insert a s ha ih => rw [Finset.sum_insert ha, Finset.sum_insert ha, mul_add_real hx (h a) (IsReal.sum h), ih]

theorem half_f32 : Ideal.ofBits .f32 1056964608#32 = ((1 / 2 : ℝ) : EReal) := by
  simp [Ideal.ofBits, Ideal.ieee, -EReal.coe_mul]; norm_num

/-- `1 / (1 + exp (-x))` is the logistic function, a real number between zero and one. -/
theorem logistic_eq (x : EReal) : Ideal.div 1 (1 + Ideal.exp (-x)) = Ideal.logistic x := rfl

theorem isReal_logistic (x : EReal) : IsReal (Ideal.logistic x) := by
  induction x using EReal.rec with
  | bot => rw [Ideal.logistic_bot]; exact IsReal.zero
  | coe r => rw [Ideal.logistic_coe]; exact IsReal.coe _
  | top => rw [Ideal.logistic_top]; exact IsReal.one

/-- The sigmoid by the hyperbolic tangent is the logistic function, at the infinities too. -/
theorem sigmoid_eq (x : EReal) :
    Ideal.ofBits .f32 1056964608#32 * Ideal.tanh (Ideal.ofBits .f32 1056964608#32 * x) + Ideal.ofBits .f32 1056964608#32
      = Ideal.logistic x := by
  rw [half_f32]
  induction x using EReal.rec with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (1 / 2 * r) ≠ 0 := (Real.exp_pos _).ne'
    have h2 : Real.exp (-r) = Real.exp (-(1 / 2 * r)) * Real.exp (-(1 / 2 * r)) := by rw [← Real.exp_add]; congr 1; ring
    have h3 : Real.exp (1 / 2 * r) * Real.exp (-(1 / 2 * r)) = 1 := by rw [← Real.exp_add]; simp
    have h4 := Real.exp_pos (1 / 2 * r)
    have h5 := Real.exp_pos (-(1 / 2 * r))
    rw [h2]
    generalize Real.exp (1 / 2 * r) = p at *
    generalize Real.exp (-(1 / 2 * r)) = q at *
    field_simp
    nlinarith [h3]
  | top =>
    rw [EReal.coe_mul_top_of_pos (by norm_num), Ideal.tanh_top, Ideal.logistic_top]
    rw [show (1 : EReal) = ((1 : ℝ) : EReal) by norm_cast, ← EReal.coe_mul, ← EReal.coe_add]
    norm_num

/-- The slope of `x * sigmoid(x)` as one factor, and as the two terms of its product rule. Only the gradient that comes
    in (`u`) has to be a real number. -/
theorem silu_slope {u : EReal} (hu : IsReal u) (x : EReal) :
    u * (Ideal.logistic x * (1 + x * (1 - Ideal.logistic x)))
      = u * Ideal.logistic x + x * u * (Ideal.logistic x * (1 - Ideal.logistic x)) := by
  obtain ⟨a, rfl⟩ := hu
  have h11 : (1 : EReal) - 1 = 0 := by rw [← EReal.coe_one, ← EReal.coe_sub]; norm_num
  induction x using EReal.rec with
  | bot => simp
  | coe r =>
    rw [Ideal.logistic_coe]
    generalize ((1 + Real.exp (-r))⁻¹ : ℝ) = s
    rw [← EReal.coe_one]
    simp only [← EReal.coe_mul, ← EReal.coe_sub, ← EReal.coe_add]
    congr 1; ring
  | top => simp [h11]

end Cert.Reals
-- ==== Proof.ActValue.lean ====
/- Hand-written, untrusted: the SwiGLU activations' gradients (`ffn_bwd_act`). Every grid point handles 512 rows and half of
   the hidden width; `dgate` and `dup` are written block by block, and the rows' products of `dw_down` are summed over the
   sixteen points of one half. The reference's arrays are the generated reading of `jax.vjp`. -/
module

public import proofs.«01_k».proof.Defs
public import proofs.«01_k».proof.Proof.Reals
public import proofs.«01_k».proof.Proof.Gen.ActIdeal.Value
public import proofs.«01_k».proof.Proof.Gen.ActRefIdeal.Read
public import Idealize.ShloMosaic.Lib.Pipeline.ValueKit
public import Idealize.ShloMosaic.Lib.Pointwise

@[expose] public section

set_option maxRecDepth 16384

noncomputable section

namespace Cert.ActIdeal.Value

open Cert.ActIdeal Cert.ActIdeal.Gen Cert.Reals Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 16, 0]
    ∧ win0_1.index t = ![0, 0]
    ∧ win0_2.index t = ![t.val % 16, t.val / 16]
    ∧ win0_3.index t = ![t.val % 16, t.val / 16]
    ∧ win0_4.index t = ![t.val / 16, 0]
    ∧ win0_5.index t = ![t.val % 16, t.val / 16]
    ∧ win0_6.index t = ![t.val % 16, t.val / 16]
    ∧ win0_7.index t = ![t.val / 16, 0] :=
  (by decide +kernel : ∀ t : Fin grid0.N, _)

/-- The arrays that enter the product with the slope are real numbers. -/
theorem reals [Cert.Pre_finite_act.Facts] (h : Cert.Pre_ActIdeal_finite_act m) (c : Dev nD) :
    (∀ a, IsReal (m ((c : Thread nD τ).loc main_arg0) a)) ∧ (∀ a, IsReal (m ((c : Thread nD τ).loc main_arg1) a))
      ∧ (∀ a, IsReal (m ((c : Thread nD τ).loc main_arg3) a)) ∧ (∀ a, IsReal (m ((c : Thread nD τ).loc main_arg4) a)) := by
  have h1 := congrFun (h c).1
  have h2 := congrFun (h c).2.1
  have h3 := congrFun (h c).2.2.1
  have h4 := congrFun (h c).2.2.2
  pointwise [Cert.Pre_finite_act.fn] at h1 h2 h3 h4
  exact ⟨fun a => isReal_of_f32 (h1 a), fun a => isReal_of_f32 (h2 a), fun a => isReal_of_bf16 (h3 a), fun a => isReal_of_bf16 (h4 a)⟩

/-- What a point stores of the gate's gradient, its slope written as the two terms of the product rule. -/
theorem pay8 (v0 : S1x1024.Idx → EReal) (v1 : S512x1024.Idx → EReal) (v5 v7 : S512x1408.Idx → EReal)
    (v9 : S1408x1024.Idx → EReal) (r0 : ∀ a, IsReal (v0 a)) (r1 : ∀ a, IsReal (v1 a)) (r7 : ∀ a, IsReal (v7 a))
    (r9 : ∀ a, IsReal (v9 a)) (y : S512x1408.Idx) :
    (k0_pay8 (F := Ideal) v0 v1 v5 v7 v9 y : EReal)
      = (∑ x : Fin 1024, v0 (ix2 0 x) * v1 (ix2 (y 0) x) * v9 (ix2 (y 1) x)) * v7 y * Ideal.logistic (v5 y)
        + v5 y * ((∑ x : Fin 1024, v0 (ix2 0 x) * v1 (ix2 (y 0) x) * v9 (ix2 (y 1) x)) * v7 y)
          * (Ideal.logistic (v5 y) * (1 - Ideal.logistic (v5 y))) := by
  pointwise [k0_pay2, k0_pay3, k0_pay4, k0_pay5, k0_pay6, k0_pay7, k0_pay8]
  rw [sigmoid_eq]
  exact silu_slope (IsReal.mul (IsReal.sum fun x => ((r0 _).mul (r1 _)).mul (r9 _)) (r7 _)) _

/-- The gradient of the gate. -/
theorem final_5 [Cert.Pre_finite_act.Facts] (h : Cert.Pre_ActIdeal_finite_act m) (c : Dev nD) :
    (dats m 0 c).arrAt 5 (cfgs 0).N = Cert.ActRefIdeal.Read.val_main_v16 (m ((c : Thread nD τ).loc main_arg0))
      (m ((c : Thread nD τ).loc main_arg1)) (m ((c : Thread nD τ).loc main_arg2)) (m ((c : Thread nD τ).loc main_arg3))
      (m ((c : Thread nD τ).loc main_arg4)) := by
  obtain ⟨r0, r1, r3, r4⟩ := reals m h c
  refine (dats m 0 c).arrAt_eq_of_covers 5 _ (by decide +kernel) fun t hf y => ?_
  blk_simp
  rw [after0_5]
  have e : ∀ a, a = k0_pay8 (iblk m c 1 t) (iblk m c 0 t) (iblk m c 2 t) (iblk m c 3 t) (iblk m c 4 t) y →
      a = Cert.ActRefIdeal.Read.val_main_v16 (m ((c : Thread nD τ).loc main_arg0))
      (m ((c : Thread nD τ).loc main_arg1)) (m ((c : Thread nD τ).loc main_arg2)) (m ((c : Thread nD τ).loc main_arg3))
      (m ((c : Thread nD τ).loc main_arg4)) (((cfg0.win 5).blk t).view.emb y) := by
    rintro a rfl
    refine Eq.trans (pay8 _ _ _ _ _ (fun a => r1 _) (fun a => r0 _) (fun a => r3 _) (fun a => r4 _) y) ?_
    pointwise [← Cert.ActRefIdeal.Read.val_main_v16_eq, logistic_eq]
    blk_point [iblk, V, idx t]
  by_cases h : t.val % 16 = 0
  · rw [outsAt0_A m c t h (by omega)]
    frame_out
    exact e _ rfl
  · rw [outsAt0_B m c t h (by omega)]
    frame_out
    exact e _ rfl

/-- The gradient of the up projection. -/
theorem final_6 (c : Dev nD) :
    (dats m 0 c).arrAt 6 (cfgs 0).N = Cert.ActRefIdeal.Read.val_main_v17 (m ((c : Thread nD τ).loc main_arg0))
      (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  by_cases h : t.val % 16 = 0
  on_goal 1 => rw [outsAt0_A m c t h (by omega)]
  on_goal 2 => rw [outsAt0_B m c t h (by omega)]
  all_goals
    frame_out
    pointwise [k0_pay2, k0_pay3, k0_pay4, k0_pay5, k0_pay6, k0_pay7, k0_pay9, ← Cert.ActRefIdeal.Read.val_main_v17_eq]
    rw [sigmoid_eq, logistic_eq]
    blk_point [iblk, V, idx t]

/-- The gradient of the down projection: the sixteen points of one half of the width add up the rows. -/
theorem final_7 (c : Dev nD) :
    (dats m 0 c).arrAt 7 (cfgs 0).N = Cert.ActRefIdeal.Read.val_main_v11 (m ((c : Thread nD τ).loc main_arg0))
      (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => 0)
    (fun t j => k0_pay10 (iblk m c 1 t) (iblk m c 0 t) (iblk m c 2 t) (iblk m c 3 t) j)
    (fun t h j => by rw [outsAt0_A m c t h (by omega)]; frame_out; exact (zero_add _).symm)
    (fun t h j => by rw [outsAt0_B m c t h (by omega)]; frame_out; pointwise [k0_pay1])
    t ((flush0_7 t).mp hf) _, zero_add]
  pointwise [k0_pay2, k0_pay3, k0_pay4, k0_pay5, k0_pay6, k0_pay7, k0_pay10, ← Cert.ActRefIdeal.Read.val_main_v11_eq, logistic_eq]
  refine Fin.sum_mul_add_congr fun s k hl => ?_
  rw [sigmoid_eq, mul_comm]
  blk_point [iblk, V, idx t, idx ⟨_, Pipeline.run_point_lt_of_flush t ((flush0_7 t).mp hf) s⟩]

end Cert.ActIdeal.Value
-- ==== Proof.ActClaims.lean ====
/- Hand-written, untrusted: the claims about the SwiGLU activations' gradients (`ffn_bwd_act`). -/
module

public import proofs.«01_k».proof.Proof.ActValue
public import proofs.«01_k».proof.Proof.Gen.Act.Frame
public import proofs.«01_k».proof.Proof.Gen.ActRefIdeal.Run
public import Idealize.ShloMosaic.Lib.Claim
public import Idealize.ShloMosaic.Lib.Quiescent

@[expose] public section

set_option maxRecDepth 16384

noncomputable section

namespace Cert.ActClaims

open Idealize.ShloMosaic Idealize.SL.Sem

theorem pre_facts : Cert.Pre_finite_act.Facts :=
  ⟨by decide, by decide, by decide, by decide⟩

theorem kernel : Cert.quiescent_Act := fun m g _ => Cert.Act.Gen.frame m g
theorem ideal : Cert.quiescent_ActIdeal := fun m g _ => Cert.ActIdeal.Gen.frame m g
theorem ideal_pre [Cert.Pre_finite_act.Facts] : Cert.quiescent_ActIdeal_pre_finite_act := fun m g _ => Cert.ActIdeal.Gen.frame m g
theorem reference : Cert.quiescent_ActRefIdeal := by
  intro m g _
  run_from Cert.ActRefIdeal.Value.run m g
  · exact fun _ => ⟨trivial, trivial, trivial, trivial, trivial⟩
  · exact sem_eq_zero_of_no_sems (sig := Cert.ActRefIdeal.sig) (by decide) _
theorem reference_pre [Cert.Pre_finite_act.Facts] : Cert.quiescent_ActRefIdeal_pre_finite_act := fun m g _ => reference m g trivial

theorem value [Cert.Pre_finite_act.Facts] : Cert.algebraic_ActIdeal_ActRefIdeal_pre_finite_act := by
  pair_intro
  · run_from Cert.ActIdeal.Gen.run_main m g
  · run_from Cert.ActRefIdeal.Value.run m' g'
    · exact (Cert.ActIdeal.Value.final_5 m hpre _).symm
    · exact (Cert.ActIdeal.Value.final_6 m _).symm
    · exact (Cert.ActIdeal.Value.final_7 m _).symm

end Cert.ActClaims

end
-- ==== Proof.Stage.lean ====
/- Hand-written, untrusted: rows staged one below the other in a scratch and read back from any row on. -/
module

public import Idealize.ShloMosaic.Lib.Pipeline.ValueKit
public import Idealize.ShloMosaic.Lib.Pointwise
public import Idealize.ShloMosaic.Lib.WritesUnit

@[expose] public section

noncomputable section

namespace Cert.Stage

open Idealize.ShloMosaic

variable {Val : EltTy → Type} [∀ e, Nonempty (Val e)] {sig : RefSig} {κ : Kind} {sp : Space} {e : EltTy}

/-- Two stores of whole rows that fill a scratch with the rows `G`: a load of rows from row `o` on reads `G`'s. -/
theorem readCov_two {R W a b o k oa ob : ℕ} (v : View sig κ sp (⟨2, ![R, W]⟩ : Shape) e) (G : ℕ → Fin W → Val e)
    (A : (⟨2, ![a, W]⟩ : Shape).Idx → Val e) (B : (⟨2, ![b, W]⟩ : Shape).Idx → Val e) (hA : ∀ x, A x = G (oa + (x 0).val) (x 1))
    (hB : ∀ x, B x = G (ob + (x 0).val) (x 1)) (hr : ∀ r, r < R → (oa ≤ r ∧ r < oa + a) ∨ (ob ≤ r ∧ r < ob + b))
    (iA : ∀ d, (![oa, 0] : Fin 2 → ℕ) d + (![a, W] : Fin 2 → ℕ) d ≤ (⟨2, ![R, W]⟩ : Shape).size d)
    (iB : ∀ d, (![ob, 0] : Fin 2 → ℕ) d + (![b, W] : Fin 2 → ℕ) d ≤ (⟨2, ![R, W]⟩ : Shape).size d)
    (iL : ∀ d, (![o, 0] : Fin 2 → ℕ) d + (![k, W] : Fin 2 → ℕ) d ≤ (⟨2, ![R, W]⟩ : Shape).size d) :
    v.readCov [(⟨Rect.unit (s := (⟨2, ![R, W]⟩ : Shape)) ![oa, 0] ![a, W] iA, A⟩ : View.Piece Val (⟨2, ![R, W]⟩ : Shape) e),
        ⟨Rect.unit (s := (⟨2, ![R, W]⟩ : Shape)) ![ob, 0] ![b, W] iB, B⟩]
      (Rect.unit (s := (⟨2, ![R, W]⟩ : Shape)) ![o, 0] ![k, W] iL).toLoadRect = fun y => G (o + (y 0).val) (y 1) := by
  rw [View.readCov_eq_canon']
  funext y
  refine (View.canon_apply_of_pieces (fun x : (⟨2, ![R, W]⟩ : Shape).Idx => G (x 0).val (x 1)) _ ?_ _ ?_).trans ?_
  · intro p hp x
    simp only [List.mem_cons, List.not_mem_nil, or_false] at hp
    rcases hp with rfl | rfl
    · refine (hA x).trans ?_
      congr 1
      · show oa + (x 0).val = oa + 1 * (x 0).val; omega
      · apply Fin.ext; show (x 1).val = 0 + 1 * (x 1).val; omega
    · refine (hB x).trans ?_
      congr 1
      · show ob + (x 0).val = ob + 1 * (x 0).val; omega
      · apply Fin.ext; show (x 1).val = 0 + 1 * (x 1).val; omega
  · have h0 : o + 1 * (y 0).val < R := ((Rect.unit (s := (⟨2, ![R, W]⟩ : Shape)) ![o, 0] ![k, W] iL).toLoadRect.idx y 0).isLt
    have h1 : 0 + 1 * (y 1).val < W := ((Rect.unit (s := (⟨2, ![R, W]⟩ : Shape)) ![o, 0] ![k, W] iL).toLoadRect.idx y 1).isLt
    rcases hr _ h0 with h | h
    · refine ⟨_, List.mem_cons_self, (LoadRect.mem_set _).mpr fun d => ?_⟩
      fin_cases d
      · exact ⟨o + 1 * (y 0).val - oa, by show _ < a; omega, by show o + 1 * (y 0).val = oa + 1 * (o + 1 * (y 0).val - oa); omega⟩
      · exact ⟨0 + 1 * (y 1).val, h1, by show 0 + 1 * (y 1).val = 0 + 1 * (0 + 1 * (y 1).val); omega⟩
    · refine ⟨_, List.mem_cons_of_mem _ List.mem_cons_self, (LoadRect.mem_set _).mpr fun d => ?_⟩
      fin_cases d
      · exact ⟨o + 1 * (y 0).val - ob, by show _ < b; omega, by show o + 1 * (y 0).val = ob + 1 * (o + 1 * (y 0).val - ob); omega⟩
      · exact ⟨0 + 1 * (y 1).val, h1, by show 0 + 1 * (y 1).val = 0 + 1 * (0 + 1 * (y 1).val); omega⟩
  · show G (o + 1 * (y 0).val) _ = _
    congr 1
    · omega
    · apply Fin.ext; show 0 + 1 * (y 1).val = (y 1).val; omega

/-- An element that the latest stores cover, each of them with the value `c` there, reads `c`. -/
theorem canon_at {S : Shape} (M : List (View.Piece Val S e)) (y : S.Idx) (c : Val e) : ∀ L : List (View.Piece Val S e),
    (∀ p ∈ L, ∀ x, p.1.emb x = y → p.2 x = c) → (∃ p ∈ L, y ∈ p.1.set) → View.canon (L ++ M) y = c
  | [], _, hy => by obtain ⟨p, hp, _⟩ := hy; exact absurd hp List.not_mem_nil
  | p :: L, hL, hy => by
    by_cases hm : y ∈ p.1.set
    · obtain ⟨x, rfl⟩ := p.1.exists_idx_of_mem hm
      exact (View.canon_cons_emb p.1 p.2 (L ++ M) x).trans (hL p List.mem_cons_self x rfl)
    · obtain ⟨q, hq, hy⟩ := hy
      rcases List.mem_cons.mp hq with rfl | hq
      · exact absurd hy hm
      · exact (View.canon_cons_of_not_mem p (L ++ M) hm).trans
          (canon_at M y c L (fun p hp => hL p (List.mem_cons_of_mem _ hp)) ⟨q, hq, hy⟩)

/-- Four rows stored one after the other over whatever was there: every element is its row's. -/
theorem canon_rows_four {W : ℕ} (M : List (View.Piece Val (⟨2, ![4, W]⟩ : Shape) e)) (P0 P1 P2 P3 : (⟨2, ![1, W]⟩ : Shape).Idx → Val e)
    (G : (⟨2, ![4, W]⟩ : Shape).Idx → Val e) (h0 : ∀ x, P0 x = G (ix2 0 (x 1))) (h1 : ∀ x, P1 x = G (ix2 1 (x 1)))
    (h2 : ∀ x, P2 x = G (ix2 2 (x 1))) (h3 : ∀ x, P3 x = G (ix2 3 (x 1)))
    (i0 : ∀ d, (![0, 0] : Fin 2 → ℕ) d + (![1, W] : Fin 2 → ℕ) d ≤ (⟨2, ![4, W]⟩ : Shape).size d)
    (i1 : ∀ d, (![1, 0] : Fin 2 → ℕ) d + (![1, W] : Fin 2 → ℕ) d ≤ (⟨2, ![4, W]⟩ : Shape).size d)
    (i2 : ∀ d, (![2, 0] : Fin 2 → ℕ) d + (![1, W] : Fin 2 → ℕ) d ≤ (⟨2, ![4, W]⟩ : Shape).size d)
    (i3 : ∀ d, (![3, 0] : Fin 2 → ℕ) d + (![1, W] : Fin 2 → ℕ) d ≤ (⟨2, ![4, W]⟩ : Shape).size d) (y : (⟨2, ![4, W]⟩ : Shape).Idx) :
    View.canon ((⟨Rect.unit (s := (⟨2, ![4, W]⟩ : Shape)) ![3, 0] ![1, W] i3, P3⟩ : View.Piece Val (⟨2, ![4, W]⟩ : Shape) e)
      :: ⟨Rect.unit (s := (⟨2, ![4, W]⟩ : Shape)) ![2, 0] ![1, W] i2, P2⟩ :: ⟨Rect.unit (s := (⟨2, ![4, W]⟩ : Shape)) ![1, 0] ![1, W] i1, P1⟩
      :: ⟨Rect.unit (s := (⟨2, ![4, W]⟩ : Shape)) ![0, 0] ![1, W] i0, P0⟩ :: M) y = G y := by
  have hP : ∀ (r : Fin 4) (i : ∀ d, (![r.val, 0] : Fin 2 → ℕ) d + (![1, W] : Fin 2 → ℕ) d ≤ (⟨2, ![4, W]⟩ : Shape).size d)
      (x : (⟨2, ![1, W]⟩ : Shape).Idx), (Rect.unit (s := (⟨2, ![4, W]⟩ : Shape)) ![r.val, 0] ![1, W] i).emb x = ix2 r (x 1) := by
    intro r i x
    have hx : (x 0).val < 1 := (x 0).isLt
    funext d
    fin_cases d
    · apply Fin.ext; show r.val + 1 * (x 0).val = r.val; omega
    · apply Fin.ext; show 0 + 1 * (x 1).val = (x 1).val; omega
  refine canon_at M y (G y) [_, _, _, _] (fun p hp x hx => ?_) ?_
  · subst hx
    simp only [List.mem_cons, List.not_mem_nil, or_false] at hp
    rcases hp with rfl | rfl | rfl | rfl
    · exact (h3 x).trans (congrArg G (hP 3 i3 x).symm)
    · exact (h2 x).trans (congrArg G (hP 2 i2 x).symm)
    · exact (h1 x).trans (congrArg G (hP 1 i1 x).symm)
    · exact (h0 x).trans (congrArg G (hP 0 i0 x).symm)
  · have hm : ∀ (r : Fin 4) (i : ∀ d, (![r.val, 0] : Fin 2 → ℕ) d + (![1, W] : Fin 2 → ℕ) d ≤ (⟨2, ![4, W]⟩ : Shape).size d),
        y 0 = r → y ∈ (Rect.unit (s := (⟨2, ![4, W]⟩ : Shape)) ![r.val, 0] ![1, W] i).set := by
      intro r i e
      refine (LoadRect.mem_set _).mpr fun d => ?_
      fin_cases d
      · exact ⟨0, by show 0 < 1; omega, by show (y 0).val = r.val + 1 * 0; rw [e]; omega⟩
      · exact ⟨(y 1).val, (y 1).isLt, by show (y 1).val = 0 + 1 * (y 1).val; omega⟩
    have hy : (y 0).val < 4 := (y 0).isLt
    rcases (by omega : (y 0).val = 0 ∨ (y 0).val = 1 ∨ (y 0).val = 2 ∨ (y 0).val = 3) with e | e | e | e
    · exact ⟨_, List.mem_cons_of_mem _ (List.mem_cons_of_mem _ (List.mem_cons_of_mem _ List.mem_cons_self)), hm 0 i0 (Fin.ext e)⟩
    · exact ⟨_, List.mem_cons_of_mem _ (List.mem_cons_of_mem _ List.mem_cons_self), hm 1 i1 (Fin.ext e)⟩
    · exact ⟨_, List.mem_cons_of_mem _ List.mem_cons_self, hm 2 i2 (Fin.ext e)⟩
    · exact ⟨_, List.mem_cons_self, hm 3 i3 (Fin.ext e)⟩

/-- A row's load passes over the store of another row, -/
theorem readCov_row_skip {R W r q : ℕ} (v : View sig κ sp (⟨2, ![R, W]⟩ : Shape) e) (L : List (View.Piece Val (⟨2, ![R, W]⟩ : Shape) e))
    (P : (⟨2, ![1, W]⟩ : Shape).Idx → Val e) (h : q ≠ r)
    (iq : ∀ d, (![q, 0] : Fin 2 → ℕ) d + (![1, W] : Fin 2 → ℕ) d ≤ (⟨2, ![R, W]⟩ : Shape).size d)
    (iL : ∀ d, (![r, 0] : Fin 2 → ℕ) d + (![1, W] : Fin 2 → ℕ) d ≤ (⟨2, ![R, W]⟩ : Shape).size d) (y) :
    v.readCov ((⟨Rect.unit (s := (⟨2, ![R, W]⟩ : Shape)) ![q, 0] ![1, W] iq, P⟩ : View.Piece Val (⟨2, ![R, W]⟩ : Shape) e) :: L)
        (Rect.unit (s := (⟨2, ![R, W]⟩ : Shape)) ![r, 0] ![1, W] iL).toLoadRect y
      = v.readCov L (Rect.unit (s := (⟨2, ![R, W]⟩ : Shape)) ![r, 0] ![1, W] iL).toLoadRect y := by
  rw [View.readCov_eq_canon', View.readCov_eq_canon']
  refine View.canon_cons_of_not_mem _ _ fun hm => ?_
  obtain ⟨x, hx, he⟩ := (LoadRect.mem_set _).mp hm 0
  have hx' : x < 1 := hx
  have hy : (y 0).val < 1 := (y 0).isLt
  have he' : r + 1 * (y 0).val = q + 1 * x := he
  omega

/-- and of a fill reads the fill. -/
theorem readCov_row_fill {R W r : ℕ} (v : View sig κ sp (⟨2, ![R, W]⟩ : Shape) e) (P : (⟨2, ![R, W]⟩ : Shape).Idx → Val e) (c : Val e)
    (h : ∀ x, P x = c) (i0 : ∀ d, (![0, 0] : Fin 2 → ℕ) d + (![R, W] : Fin 2 → ℕ) d ≤ (⟨2, ![R, W]⟩ : Shape).size d)
    (iL : ∀ d, (![r, 0] : Fin 2 → ℕ) d + (![1, W] : Fin 2 → ℕ) d ≤ (⟨2, ![R, W]⟩ : Shape).size d) (y) :
    v.readCov [(⟨Rect.unit (s := (⟨2, ![R, W]⟩ : Shape)) ![0, 0] ![R, W] i0, P⟩ : View.Piece Val (⟨2, ![R, W]⟩ : Shape) e)]
        (Rect.unit (s := (⟨2, ![R, W]⟩ : Shape)) ![r, 0] ![1, W] iL).toLoadRect y = c := by
  rw [View.readCov_eq_canon']
  refine canon_at [] _ c [_] (fun p hp x _ => ?_) ⟨_, List.mem_cons_self, (LoadRect.mem_set _).mpr fun d => ?_⟩
  · obtain rfl := List.mem_singleton.mp hp
    exact h x
  · generalize (Rect.unit (s := (⟨2, ![R, W]⟩ : Shape)) ![r, 0] ![1, W] iL).toLoadRect.idx y = z
    have e : ∀ d, ((![0, 0] : Fin 2 → ℕ) d = 0) := fun d => by fin_cases d <;> rfl
    exact ⟨(z d).val, (z d).isLt, by show (z d).val = (![0, 0] : Fin 2 → ℕ) d + 1 * (z d).val; rw [e]; omega⟩

/-- One row loaded. -/
theorem ld_row {R W : ℕ} (r : Fin R) (X : (⟨2, ![R, W]⟩ : Shape).Idx → Val e)
    (iL : ∀ d, (![r.val, 0] : Fin 2 → ℕ) d + (![1, W] : Fin 2 → ℕ) d ≤ (⟨2, ![R, W]⟩ : Shape).size d) (y : (⟨2, ![1, W]⟩ : Shape).Idx) :
    View.ld X (Rect.unit (s := (⟨2, ![R, W]⟩ : Shape)) ![r.val, 0] ![1, W] iL) y = X (ix2 r (y 1)) := by
  have hy : (y 0).val < 1 := (y 0).isLt
  refine congrArg X (funext fun d => ?_)
  fin_cases d
  · apply Fin.ext; show r.val + 1 * (y 0).val = r.val; omega
  · apply Fin.ext; show 0 + 1 * (y 1).val = (y 1).val; omega

/-- The row a one-row store wrote last. -/
theorem canon_row_hit {R W : ℕ} (r : Fin R) (L : List (View.Piece Val (⟨2, ![R, W]⟩ : Shape) e)) (P : (⟨2, ![1, W]⟩ : Shape).Idx → Val e)
    (i : ∀ d, (![r.val, 0] : Fin 2 → ℕ) d + (![1, W] : Fin 2 → ℕ) d ≤ (⟨2, ![R, W]⟩ : Shape).size d) (q : Fin W) :
    View.canon ((⟨Rect.unit (s := (⟨2, ![R, W]⟩ : Shape)) ![r.val, 0] ![1, W] i, P⟩ : View.Piece Val (⟨2, ![R, W]⟩ : Shape) e) :: L) (ix2 r q)
      = P (ix2 0 q) := by
  have hx : ix2 r q = (Rect.unit (s := (⟨2, ![R, W]⟩ : Shape)) ![r.val, 0] ![1, W] i).emb (ix2 0 q) := by
    funext d
    fin_cases d
    · apply Fin.ext; show r.val = r.val + 1 * 0; omega
    · apply Fin.ext; show q.val = 0 + 1 * q.val; omega
  rw [hx]
  exact View.canon_cons_emb (Rect.unit (s := (⟨2, ![R, W]⟩ : Shape)) ![r.val, 0] ![1, W] i) P L _

/-- A row other than the one a one-row store wrote last. -/
theorem canon_row_skip {R W k : ℕ} (r : Fin R) (h : k ≠ r.val) (L : List (View.Piece Val (⟨2, ![R, W]⟩ : Shape) e))
    (P : (⟨2, ![1, W]⟩ : Shape).Idx → Val e)
    (i : ∀ d, (![k, 0] : Fin 2 → ℕ) d + (![1, W] : Fin 2 → ℕ) d ≤ (⟨2, ![R, W]⟩ : Shape).size d) (q : Fin W) :
    View.canon ((⟨Rect.unit (s := (⟨2, ![R, W]⟩ : Shape)) ![k, 0] ![1, W] i, P⟩ : View.Piece Val (⟨2, ![R, W]⟩ : Shape) e) :: L) (ix2 r q)
      = View.canon L (ix2 r q) := by
  refine View.canon_cons_of_not_mem _ _ fun hm => ?_
  obtain ⟨x, hx, he⟩ := (LoadRect.mem_set _).mp hm 0
  have hx' : x < 1 := hx
  have he' : r.val = k + 1 * x := he
  omega

/-- A row read back right after it was stored. -/
theorem readCov_row_hit {R W : ℕ} (r : Fin R) (v : View sig κ sp (⟨2, ![R, W]⟩ : Shape) e) (L : List (View.Piece Val (⟨2, ![R, W]⟩ : Shape) e))
    (P : (⟨2, ![1, W]⟩ : Shape).Idx → Val e)
    (i j : ∀ d, (![r.val, 0] : Fin 2 → ℕ) d + (![1, W] : Fin 2 → ℕ) d ≤ (⟨2, ![R, W]⟩ : Shape).size d) :
    v.readCov ((⟨Rect.unit (s := (⟨2, ![R, W]⟩ : Shape)) ![r.val, 0] ![1, W] i, P⟩ : View.Piece Val (⟨2, ![R, W]⟩ : Shape) e) :: L)
        (Rect.unit (s := (⟨2, ![R, W]⟩ : Shape)) ![r.val, 0] ![1, W] j).toLoadRect = P := by
  funext y
  rw [View.readCov_eq_canon']
  exact View.canon_cons_emb (Rect.unit (s := (⟨2, ![R, W]⟩ : Shape)) ![r.val, 0] ![1, W] i) P L _

/-- A running row: where it lies and what one more point makes of it. -/
structure Row (Val : EltTy → Type) (R W : ℕ) (e : EltTy) where
  k : ℕ
  inb : ∀ d, (![k, 0] : Fin 2 → ℕ) d + (![1, W] : Fin 2 → ℕ) d ≤ (⟨2, ![R, W]⟩ : Shape).size d
  f : ((⟨2, ![1, W]⟩ : Shape).Idx → Val e) → (⟨2, ![1, W]⟩ : Shape).Idx → Val e

/-- The stores of running rows over a buffer just filled with `Z`, the latest first. -/
def fresh {R W : ℕ} (v : View sig κ sp (⟨2, ![R, W]⟩ : Shape) e) (Z : (⟨2, ![R, W]⟩ : Shape).Idx → Val e)
    (iz : ∀ d, (![0, 0] : Fin 2 → ℕ) d + (![R, W] : Fin 2 → ℕ) d ≤ (⟨2, ![R, W]⟩ : Shape).size d) :
    List (Row Val R W e) → List (View.Piece Val (⟨2, ![R, W]⟩ : Shape) e)
  | [] => [⟨Rect.unit (s := (⟨2, ![R, W]⟩ : Shape)) ![0, 0] ![R, W] iz, Z⟩]
  | p :: l => ⟨(Rect.unit (s := (⟨2, ![R, W]⟩ : Shape)) ![p.k, 0] ![1, W] p.inb), p.f (v.readCov (fresh v Z iz l) (Rect.unit (s := (⟨2, ![R, W]⟩ : Shape)) ![p.k, 0] ![1, W] p.inb).toLoadRect)⟩ :: fresh v Z iz l

/-- The stores of running rows over the buffer the point before left, the latest first. -/
def over {R W : ℕ} (g : (⟨2, ![R, W]⟩ : Shape).Idx → Val e) : List (Row Val R W e) → List (View.Piece Val (⟨2, ![R, W]⟩ : Shape) e)
  | [] => []
  | p :: l => ⟨(Rect.unit (s := (⟨2, ![R, W]⟩ : Shape)) ![p.k, 0] ![1, W] p.inb), p.f (View.ld g (Rect.unit (s := (⟨2, ![R, W]⟩ : Shape)) ![p.k, 0] ![1, W] p.inb))⟩ :: over g l

theorem fresh_miss {R W : ℕ} (v : View sig κ sp (⟨2, ![R, W]⟩ : Shape) e) (Z : (⟨2, ![R, W]⟩ : Shape).Idx → Val e) (c : Val e)
    (hZ : ∀ x, Z x = c) (iz : ∀ d, (![0, 0] : Fin 2 → ℕ) d + (![R, W] : Fin 2 → ℕ) d ≤ (⟨2, ![R, W]⟩ : Shape).size d) (r : Fin R) (q : Fin W) :
    ∀ l : List (Row Val R W e), (∀ p ∈ l, p.k ≠ r.val) → View.canon (fresh v Z iz l) (ix2 r q) = c
  | [], _ => by
    refine canon_at [] _ c [_] (fun p hp x _ => ?_) ⟨_, List.mem_cons_self, (LoadRect.mem_set _).mpr fun d => ?_⟩
    · obtain rfl := List.mem_singleton.mp hp
      exact hZ x
    · generalize ix2 r q = z
      have e : ∀ d, ((![0, 0] : Fin 2 → ℕ) d = 0) := fun d => by fin_cases d <;> rfl
      have e' : ∀ d, (z d).val < (![R, W] : Fin 2 → ℕ) d := fun d => by fin_cases d <;> exact (z _).isLt
      exact ⟨(z d).val, e' d, by show (z d).val = (![0, 0] : Fin 2 → ℕ) d + 1 * (z d).val; rw [e]; omega⟩
  | p :: l, h => (canon_row_skip r (h p List.mem_cons_self) _ _ p.inb q).trans
      (fresh_miss v Z c hZ iz r q l fun p hp => h p (List.mem_cons_of_mem _ hp))

theorem fresh_hit {R W : ℕ} (v : View sig κ sp (⟨2, ![R, W]⟩ : Shape) e) (Z : (⟨2, ![R, W]⟩ : Shape).Idx → Val e) (c : Val e)
    (hZ : ∀ x, Z x = c) (iz : ∀ d, (![0, 0] : Fin 2 → ℕ) d + (![R, W] : Fin 2 → ℕ) d ≤ (⟨2, ![R, W]⟩ : Shape).size d) (r : Fin R) (q : Fin W)
    (p : Row Val R W e) (hp : p.k = r.val) :
    ∀ l : List (Row Val R W e), (l.map Row.k).Nodup → p ∈ l → View.canon (fresh v Z iz l) (ix2 r q) = p.f (fun _ => c) (ix2 0 q)
  | a :: l, hn, hm => by
    have hn' := List.nodup_cons.mp (by simpa only [List.map_cons] using hn : (a.k :: l.map Row.k).Nodup)
    rcases List.mem_cons.mp hm with rfl | hm
    · obtain ⟨k, hk⟩ := r
      obtain rfl : p.k = k := hp
      refine (canon_row_hit ⟨p.k, hk⟩ _ _ p.inb q).trans (congrFun (congrArg p.f (funext fun y => ?_)) _)
      rw [View.readCov_eq_canon']
      refine (congrArg (View.canon (fresh v Z iz l)) (funext fun d => ?_ : _ = ix2 (⟨p.k, hk⟩ : Fin R) (y 1))).trans
        (fresh_miss v Z c hZ iz ⟨p.k, hk⟩ (y 1) l fun b hb e => hn'.1 (List.mem_map.mpr ⟨b, hb, e⟩))
      have hy : (y 0).val < 1 := (y 0).isLt
      fin_cases d
      · apply Fin.ext; show p.k + 1 * (y 0).val = p.k; omega
      · apply Fin.ext; show 0 + 1 * (y 1).val = (y 1).val; omega
    · exact (canon_row_skip r (fun e => hn'.1 (by rw [e, ← hp]; exact List.mem_map_of_mem hm)) _ _ a.inb q).trans
        (fresh_hit v Z c hZ iz r q p hp l hn'.2 hm)

theorem over_miss {R W : ℕ} (v : View sig κ sp (⟨2, ![R, W]⟩ : Shape) e) (g : (⟨2, ![R, W]⟩ : Shape).Idx → Val e) (r : Fin R) (q : Fin W)
    (b) (hb : v.read Val b = g) :
    ∀ l : List (Row Val R W e), (∀ p ∈ l, p.k ≠ r.val) → v.read Val (v.writes Val b (over g l)) (ix2 r q) = g (ix2 r q)
  | [], _ => congrFun hb _
  | p :: l, h => by
    have := h p List.mem_cons_self
    exact (View.read_writes_cons_rows_of_not_mem v b p.inb _ _ _ rfl rfl
      (by show r.val < p.k ∨ p.k + 1 ≤ r.val; omega)).trans
      (over_miss v g r q b hb l fun p hp => h p (List.mem_cons_of_mem _ hp))

theorem over_hit {R W : ℕ} (v : View sig κ sp (⟨2, ![R, W]⟩ : Shape) e) (g : (⟨2, ![R, W]⟩ : Shape).Idx → Val e) (r : Fin R) (q : Fin W)
    (b) (p : Row Val R W e) (hp : p.k = r.val) :
    ∀ l : List (Row Val R W e), (l.map Row.k).Nodup → p ∈ l →
      v.read Val (v.writes Val b (over g l)) (ix2 r q) = p.f (fun y => g (ix2 r (y 1))) (ix2 0 q)
  | a :: l, hn, hm => by
    have hn' := List.nodup_cons.mp (by simpa only [List.map_cons] using hn : (a.k :: l.map Row.k).Nodup)
    rcases List.mem_cons.mp hm with rfl | hm
    · obtain ⟨k, hk⟩ := r
      obtain rfl : p.k = k := hp
      exact (View.read_writes_cons_rows_of_mem v b p.inb _ _ _ (ix2 0 q) rfl rfl rfl).trans
        (congrFun (congrArg p.f (funext fun y => ld_row ⟨p.k, hk⟩ g p.inb y)) _)
    · have h1 : a.k ≠ r.val := fun e => hn'.1 (by rw [e, ← hp]; exact List.mem_map_of_mem hm)
      exact (View.read_writes_cons_rows_of_not_mem v b a.inb _ _ _ rfl rfl
        (by show r.val < a.k ∨ a.k + 1 ≤ r.val; omega)).trans (over_hit v g r q b p hp l hn'.2 hm)

end Cert.Stage
-- ==== Proof.ConvValue.lean ====
/- Hand-written, untrusted: the causal convolution's gradients (`conv_bwd`). -/
module

public import proofs.«01_k».proof.Defs
public import proofs.«01_k».proof.Proof.Reals
public import proofs.«01_k».proof.Proof.Stage
public import proofs.«01_k».proof.Proof.Gen.ConvIdeal.Value
public import proofs.«01_k».proof.Proof.Gen.ConvRefIdeal.Read
public import Idealize.ShloMosaic.Lib.Pipeline.ValueKit
public import Idealize.ShloMosaic.Lib.Pointwise

@[expose] public section

set_option maxRecDepth 16384

noncomputable section

namespace Cert.ConvIdeal.Value

open Cert.ConvIdeal Cert.ConvIdeal.Gen Cert.Reals Idealize.ShloMosaic Idealize.ShloMosaic.TcCoe Idealize.SL.Sem
open Idealize.ShloMosaic.Pipeline (Dat)

variable (m : (ℓ : Loc nD τ sig) → Buf (Elt Ideal) ℓ)

/-- The block each window shows at each point. -/
theorem idx : ∀ t : Fin cfg0.N, (grid0.coords t 0).val = t.val ∧ win0_0.index t = ![t.val, 0]
    ∧ win0_1.index t = ![min ((t.val + 1) * 64) 1023, 0]
    ∧ win0_2.index t = ![t.val, 0]
    ∧ win0_3.index t = ![t.val * 64 - 1, 0]
    ∧ win0_4.index t = ![0, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- A row of the gradient that arrives, zero after the last. -/
def ctRow (c : Dev nD) (n : ℕ) (l : Fin 1536) : EReal :=
  if h : n < 8192 then m ((c : Thread nD τ).loc main_arg0) (ix2 ⟨n, h⟩ l) else 0

/-- A row of the convolution's argument, three zero rows before the first. -/
def xRow (c : Dev nD) (n : ℕ) (l : Fin 1536) : EReal :=
  if h : 3 ≤ n ∧ n - 3 < 8192 then m ((c : Thread nD τ).loc main_arg1) (ix2 ⟨n - 3, h.2⟩ ⟨l.val, by omega⟩) else 0

theorem ctRow_of (c : Dev nD) (n : Fin 8192) (l : Fin 1536) :
    ctRow m c n.val l = m ((c : Thread nD τ).loc main_arg0) (ix2 n l) := dif_pos n.isLt

theorem xRow_of (c : Dev nD) (n : ℕ) (q : Fin 8192) (l : Fin 1536) (h : n = q.val + 3) :
    xRow m c n l = m ((c : Thread nD τ).loc main_arg1) (ix2 q ⟨l.val, by omega⟩) := by
  subst h
  exact dif_pos ⟨by omega, by omega⟩

theorem xRow_zero (c : Dev nD) (n : ℕ) (l : Fin 1536) (h : n < 3) : xRow m c n l = 0 := dif_neg (by omega)

/-- The rows the stage holds behind the tile and the rows ahead of it. -/
theorem ahead (c : Dev nD) (t : Fin cfg0.N) (o : ℕ) (h1 h2 h3) :
    (View.whole cc0_scratch1).readCov (Val := Elt Ideal)
        [⟨Rect.unit ![512, 0] ![8, 1536] h1, k0_pay9 (grid0.coords t) (iblk m c 1 t)⟩,
          ⟨Rect.unit ![0, 0] ![512, 1536] h2, k0_pay8 (iblk m c 0 t)⟩] (Rect.unit ![o, 0] ![512, 1536] h3).toLoadRect
      = fun y : S512x1536.Idx => ctRow m c (t.val * 512 + (o + (y 0).val)) (y 1) := by
  refine Stage.readCov_two (Val := Elt Ideal) (e := .f32) _ (fun n l => ctRow m c (t.val * 512 + n) l) _ _ (fun x => ?_) (fun x => ?_) (fun r hr => by omega) _ _ _
  · show k0_pay9 (grid0.coords t) (iblk m c 1 t) x = ctRow m c (t.val * 512 + (512 + (x 0).val)) (x 1)
    pointwise [k0_pay9, ctRow]
    have ht : t.val < 16 := t.isLt
    by_cases e : t.val = 15
    · rw [(idx t).1, e]
      rw [dif_neg (by omega)]
      rfl
    · rw [dif_pos (by omega), show Scalar.cmpi CmpIPredicate.eq (BitVec.ofNat 32 (grid0.coords t 0).val) 15#32 = 0#1 from by
        rw [(idx t).1]; exact (by decide +kernel : ∀ n : Fin 16, ¬ n.val = 15 → Scalar.cmpi CmpIPredicate.eq (BitVec.ofNat 32 n.val) 15#32 = 0#1) ⟨_, ht⟩ e]
      show iblk m c 1 t x = _
      blk_point [iblk, V, idx t]
  · show k0_pay8 (iblk m c 0 t) x = ctRow m c (t.val * 512 + (0 + (x 0).val)) (x 1)
    pointwise [k0_pay8, ctRow]
    have ht : t.val < 16 := t.isLt
    rw [dif_pos (by have : (x 0).val < 512 := (x 0).isLt; omega)]
    blk_point [iblk, V, idx t]

theorem behind (c : Dev nD) (t : Fin cfg0.N) (o : ℕ) (h1 h2 h3) :
    (View.whole cc0_scratch0).readCov (Val := Elt Ideal)
        [⟨Rect.unit ![8, 0] ![512, 1536] h1, k0_pay7 (X0_2 m c t)⟩,
          ⟨Rect.unit ![0, 0] ![8, 1536] h2, k0_pay6 (grid0.coords t) (X0_3 m c t)⟩] (Rect.unit ![o, 0] ![512, 1536] h3).toLoadRect
      = fun y : S512x1536.Idx => xRow m c (t.val * 512 + (o + (y 0).val) - 5) (y 1) := by
  refine Stage.readCov_two (Val := Elt Ideal) (e := .f32) _ (fun n l => xRow m c (t.val * 512 + n - 5) l) _ _ (fun x => ?_) (fun x => ?_) (fun r hr => by omega) _ _ _
  · show k0_pay7 (X0_2 m c t) x = xRow m c (t.val * 512 + (8 + (x 0).val) - 5) (x 1)
    pointwise [k0_pay7, xRow]
    have ht : t.val < 16 := t.isLt
    rw [dif_pos (by have : (x 0).val < 512 := (x 0).isLt; omega)]
    unfold X0_2 Pipeline.Window.fill
    rw [dif_pos (moved0_2 t x)]
    blk_point [iblk, V, idx t]
  · show k0_pay6 (grid0.coords t) (X0_3 m c t) x = xRow m c (t.val * 512 + (0 + (x 0).val) - 5) (x 1)
    pointwise [k0_pay6, xRow]
    have ht : t.val < 16 := t.isLt
    have hx : (x 0).val < 8 := (x 0).isLt
    by_cases e : t.val = 0
    · rw [(idx t).1, e]
      rw [dif_neg (by omega)]
      rfl
    · rw [dif_pos (by omega), show Scalar.cmpi CmpIPredicate.eq (BitVec.ofNat 32 (grid0.coords t 0).val) 0#32 = 0#1 from by
        rw [(idx t).1]; exact (by decide +kernel : ∀ n : Fin 16, ¬ n.val = 0 → Scalar.cmpi CmpIPredicate.eq (BitVec.ofNat 32 n.val) 0#32 = 0#1) ⟨_, ht⟩ e]
      show X0_3 m c t x = _
      unfold X0_3 Pipeline.Window.fill
      rw [dif_pos (moved0_3 t x)]
      blk_point [iblk, V, idx t]

/-- What a point stores of the argument's gradient. -/
theorem pay11 (v0 v1 v2 v3 : S512x1536.Idx → EReal) (w0 w1 w2 w3 : S1x1536.Idx → EReal) (y : S512x1536.Idx) :
    (k0_pay11 (F := Ideal) v0 (k0_pay10 w3) w2 v1 w1 v2 w0 v3 y : EReal)
      = w3 (ix2 0 (y 1)) * v0 y + w2 (ix2 0 (y 1)) * v1 y + w1 (ix2 0 (y 1)) * v2 y + w0 (ix2 0 (y 1)) * v3 y := by
  pointwise [k0_pay10, k0_pay11]

/-- The reference's gradient of the convolution's argument: four rows of the incoming gradient, weighted. -/
theorem dx_row (c : Dev nD) (w : S4x1536.Idx → EReal) (y : S8192x1536.Idx) :
    (Cert.ConvRefIdeal.Read.val_main_v78 (m ((c : Thread nD τ).loc main_arg0)) w y : EReal)
      = w (ix2 3 (y 1)) * ctRow m c (y 0).val (y 1) + w (ix2 2 (y 1)) * ctRow m c ((y 0).val + 1) (y 1)
        + w (ix2 1 (y 1)) * ctRow m c ((y 0).val + 2) (y 1) + w (ix2 0 (y 1)) * ctRow m c ((y 0).val + 3) (y 1) := by
  have hy : (y 0).val < 8192 := (y 0).isLt
  pointwise [← Cert.ConvRefIdeal.Read.val_main_v78_eq, ctRow]
  refine congr (congrArg _ (congr (congrArg _ (congr (congrArg _ ?_) ?_)) ?_)) ?_
  · rfl
  all_goals
    split <;> rename_i h1
    · rw [dif_pos (by omega)]
      congr 1; congr 1; congr 1
      first | rfl | (apply Fin.ext; simp only []; omega)
    · rw [dif_neg (by omega)]
      first | rfl | exact (mul_zero _).symm

theorem row6 (t : Fin cfg0.N) (y : ((cfg0.win 6).xblock (cfg0.grid.coords t)).Idx) :
    ((((View.whole main_v0_0).slice (win0_6.rect t)).emb y 0).val = t.val * 512 + (y 0).val) ∧
    ((((View.whole main_v0_0).slice (win0_6.rect t)).emb y 1).val = (y 1).val) :=
  ⟨(win0_6.rect_emb_val t y 0).trans (by rw [(idx t).2.2.2.2.2.2.2.1]; rfl),
   (win0_6.rect_emb_val t y 1).trans (by rw [(idx t).2.2.2.2.2.2.2.1]; exact zero_add _)⟩

theorem final_6 (c : Dev nD) :
    (dats m 0 c).arrAt 6 (cfgs 0).N = Cert.ConvRefIdeal.Read.val_main_v78 (m ((c : Thread nD τ).loc main_arg0))
      (m ((c : Thread nD τ).loc main_arg2)) := by
  refine (dats m 0 c).arrAt_eq_of_covers 6 _ (by decide +kernel) fun t hf y => ?_
  blk_simp
  rw [after0_6]
  have e : ∀ a, a = k0_pay8 (iblk m c 0 t) y → a = ctRow m c (((View.whole main_v0_0).slice (win0_6.rect t)).emb y 0).val (((View.whole main_v0_0).slice (win0_6.rect t)).emb y 1) := by
    rintro a rfl
    unfold ctRow
    refine Eq.trans ?_ (dif_pos (Fin.isLt _)).symm
    pointwise [k0_pay8]
    blk_point [iblk, V, idx t]
  have e' : ∀ o : ℕ, ctRow m c (t.val * 512 + (o + (y 0).val)) (y 1) = ctRow m c ((((View.whole main_v0_0).slice (win0_6.rect t)).emb y 0).val + o)
      (((View.whole main_v0_0).slice (win0_6.rect t)).emb y 1) := fun o =>
    congr (congrArg _ (by rw [(row6 t y).1]; omega)) (Fin.ext (row6 t y).2.symm)
  by_cases h : t.val % 16 = 0
  on_goal 1 => rw [outsAt0_A m c t h]
  on_goal 2 => rw [outsAt0_B m c t h]
  all_goals
    frame_out
    refine (pay11 _ _ _ _ _ _ _ _ y).trans (Eq.trans ?_ (dx_row m c _ _).symm)
    refine congr (congrArg _ (congr (congrArg _ (congr (congrArg _ ?_) ?_)) ?_)) ?_
    · refine congr (congrArg _ ?_) (e _ (show iblk m c 0 t y = k0_pay8 (F := Ideal) (iblk m c 0 t) y by pointwise [k0_pay8]))
      blk_point [iblk, V, idx t]
    · refine congr (congrArg _ ?_) ((congrFun (ahead m c t 1 _ _ _) y).trans (e' 1))
      blk_point [iblk, V, idx t]
    · refine congr (congrArg _ ?_) ((congrFun (ahead m c t 2 _ _ _) y).trans (e' 2))
      blk_point [iblk, V, idx t]
    · refine congr (congrArg _ ?_) ((congrFun (ahead m c t 3 _ _ _) y).trans (e' 3))
      blk_point [iblk, V, idx t]

/-- A point's block of the incoming gradient, by its row of the whole. -/
theorem ct_blk (c : Dev nD) (t : Fin cfg0.N) (k : Fin 512) (l : Fin 1536) : iblk m c 0 t (ix2 k l) = ctRow m c (t.val * 512 + k.val) l := by
  have ht : t.val < 16 := t.isLt
  unfold ctRow
  rw [dif_pos (by omega)]
  blk_point [iblk, V, idx t]

/-- What a point adds to a row of the taps' gradient. -/
def tap (c : Dev nD) (t : Fin cfg0.N) (j : S4x1536.Idx) : EReal :=
  ∑ k : Fin 512, ctRow m c (t.val * 512 + k.val) (j 1) * xRow m c (t.val * 512 + k.val + (j 0).val) (j 1)

/-- One row's store: what the row held and the point's product with the staged rows behind. -/
theorem payRow (v : S512x1536.Idx → EReal) (a : S1x1536.Idx → EReal) (x : S512x1536.Idx → EReal) (y : S1x1536.Idx) :
    (k0_pay3 (F := Ideal) v a x y : EReal) = a y + ∑ k : Fin 512, v (ix2 k (y 1)) * x (ix2 k (y 1)) := by
  pointwise [k0_pay3]

/-- A row's store at a point, over what the row held. -/
theorem row_step (c : Dev nD) (t : Fin cfg0.N) (r : Fin 4) (a : S1x1536.Idx → EReal) (b : S512x1536.Idx → EReal)
    (g : S4x1536.Idx → EReal) (x : S1x1536.Idx) (ha : a x = g (ix2 r (x 1)))
    (hb : b = fun y : S512x1536.Idx => xRow m c (t.val * 512 + (y 0).val + r.val) (y 1)) :
    (k0_pay3 (F := Ideal) (iblk m c 0 t) a b x : EReal) = (fun j : S4x1536.Idx => g j + tap m c t j) (ix2 r (x 1)) := by
  refine (payRow _ _ _ x).trans (congr (congrArg _ ha) (Finset.sum_congr rfl fun k _ => ?_))
  exact congr (congrArg _ (ct_blk m c t k _)) (congrFun hb _)

/-- The rows staged behind, read for row `r` of the taps. -/
theorem behind_at (c : Dev nD) (t : Fin cfg0.N) (r : Fin 4) (o : ℕ) (ho : o = 5 + r.val) h1 h2 h3 :
    (View.whole cc0_scratch0).readCov (Val := Elt Ideal)
        [⟨Rect.unit ![8, 0] ![512, 1536] h1, k0_pay7 (X0_2 m c t)⟩,
          ⟨Rect.unit ![0, 0] ![8, 1536] h2, k0_pay6 (grid0.coords t) (X0_3 m c t)⟩] (Rect.unit ![o, 0] ![512, 1536] h3).toLoadRect
      = fun y : S512x1536.Idx => xRow m c (t.val * 512 + (y 0).val + r.val) (y 1) := by
  refine (behind m c t o h1 h2 h3).trans (funext fun y => ?_)
  congr 1
  omega

theorem step7 (c : Dev nD) (t : Fin cfg0.N) (h : ¬ t.val % 16 = 0) (j : S4x1536.Idx) :
    (outsAt0 m c t.val t.isLt).2.1 j = ((outsAt0 m c (t.val - 1) (by omega)).2.1 j : EReal) + tap m c t j := by
  rw [outsAt0_B m c t h]
  frame_out
  generalize (outsAt0 m c (t.val - 1) (by omega)).2.1 = g
  refine Stage.canon_rows_four (W := 1536) (Val := Elt Ideal) (e := .f32) [] _ _ _ _
    (fun j : S4x1536.Idx => (g j + tap m c t j : EReal)) (fun x => ?_) (fun x => ?_) (fun x => ?_) (fun x => ?_)
      _ _ _ _ j
  · exact row_step m c t 0 _ _ g x (Stage.ld_row (Val := Elt Ideal) (e := .f32) 0 g _ x) (behind_at m c t 0 5 rfl _ _ _)
  · exact row_step m c t 1 _ _ g x (Stage.ld_row (Val := Elt Ideal) (e := .f32) 1 g _ x) (behind_at m c t 1 6 rfl _ _ _)
  · exact row_step m c t 2 _ _ g x (Stage.ld_row (Val := Elt Ideal) (e := .f32) 2 g _ x) (behind_at m c t 2 7 rfl _ _ _)
  · exact row_step m c t 3 _ _ g x (Stage.ld_row (Val := Elt Ideal) (e := .f32) 3 g _ x) (behind_at m c t 3 8 rfl _ _ _)

theorem reset7 (c : Dev nD) (t : Fin cfg0.N) (h : t.val % 16 = 0) (j : S4x1536.Idx) :
    (outsAt0 m c t.val t.isLt).2.1 j = (0 : EReal) + tap m c t j := by
  rw [outsAt0_A m c t h]
  frame_out
  have z : ∀ x, k0_pay4 (F := Ideal) x = (0 : EReal) := fun x => by pointwise [k0_pay4]
  refine Stage.canon_rows_four (W := 1536) (Val := Elt Ideal) (e := .f32) [_] _ _ _ _
    (fun j : S4x1536.Idx => (0 + tap m c t j : EReal)) (fun x => ?_) (fun x => ?_) (fun x => ?_) (fun x => ?_)
      _ _ _ _ j
  · exact row_step m c t 0 _ _ (fun _ => 0) x (Stage.readCov_row_fill (Val := Elt Ideal) (e := .f32) _ _ (0 : EReal) z _ _ x) (behind_at m c t 0 5 rfl _ _ _)
  · exact row_step m c t 1 _ _ (fun _ => 0) x ((Stage.readCov_row_skip (Val := Elt Ideal) (e := .f32) _ _ _ (by decide) _ _ x).trans
      (Stage.readCov_row_fill (Val := Elt Ideal) (e := .f32) _ _ (0 : EReal) z _ _ x)) (behind_at m c t 1 6 rfl _ _ _)
  · exact row_step m c t 2 _ _ (fun _ => 0) x ((Stage.readCov_row_skip (Val := Elt Ideal) (e := .f32) _ _ _ (by decide) _ _ x).trans
      ((Stage.readCov_row_skip (Val := Elt Ideal) (e := .f32) _ _ _ (by decide) _ _ x).trans
        (Stage.readCov_row_fill (Val := Elt Ideal) (e := .f32) _ _ (0 : EReal) z _ _ x))) (behind_at m c t 2 7 rfl _ _ _)
  · exact row_step m c t 3 _ _ (fun _ => 0) x ((Stage.readCov_row_skip (Val := Elt Ideal) (e := .f32) _ _ _ (by decide) _ _ x).trans
      ((Stage.readCov_row_skip (Val := Elt Ideal) (e := .f32) _ _ _ (by decide) _ _ x).trans
        ((Stage.readCov_row_skip (Val := Elt Ideal) (e := .f32) _ _ _ (by decide) _ _ x).trans
          (Stage.readCov_row_fill (Val := Elt Ideal) (e := .f32) _ _ (0 : EReal) z _ _ x)))) (behind_at m c t 3 8 rfl _ _ _)

/-- A term of the reference's sum for a tap in the middle. -/
theorem shifted (c : Dev nD) (l : Fin 1536) (j : ℕ) (k : Fin 8192) (r : ℕ) (hr : r ≤ 3) (e : j = r) (f : EReal)
    (hf : f = ctRow m c k.val l) :
    f * (if h : r + k.val < 3 then (0 : EReal) else
        m ((c : Thread nD τ).loc main_arg1) (ix2 ⟨r + k.val - 3, by omega⟩ ⟨l.val, by omega⟩))
      = ctRow m c k.val l * xRow m c (k.val + j) l := by
  subst e
  refine congr (congrArg _ hf) ?_
  split
  · exact (xRow_zero m c _ _ (by omega)).symm
  · exact (xRow_of m c _ ⟨j + k.val - 3, by omega⟩ _ (by show _ = j + k.val - 3 + 3; omega)).symm

/-- The reference's taps' gradient: each tap's product with the rows that many behind. -/
theorem dw_row (c : Dev nD) (j : S4x1536.Idx) :
    (Cert.ConvRefIdeal.Read.val_main_v76 (m ((c : Thread nD τ).loc main_arg0)) (m ((c : Thread nD τ).loc main_arg1)) j : EReal)
      = ∑ n : Fin 8192, ctRow m c n.val (j 1) * xRow m c (n.val + (j 0).val) (j 1) := by
  pointwise [← Cert.ConvRefIdeal.Read.val_main_v76_eq]
  have hj : (j 0).val < 4 := (j 0).isLt
  rcases (by omega : (j 0).val = 0 ∨ (j 0).val = 1 ∨ (j 0).val = 2 ∨ (j 0).val = 3) with e | e | e | e
  · rw [dif_neg (by omega), dif_neg (by omega), dif_neg (by omega), dif_pos (by omega), zero_add, zero_add, zero_add, Fin.sum_univ_one]
    refine Eq.trans ?_ (Fin.sum_univ_add (a := 3) (b := 8189) (fun n : Fin 8192 => ctRow m c n.val (j 1) * xRow m c (n.val + (j 0).val) (j 1))).symm
    refine congr (congrArg _ (Finset.sum_congr rfl fun k _ => ?_)) (Finset.sum_congr rfl fun k _ => ?_)
    · exact (mul_zero _).trans ((congrArg _ (xRow_zero m c _ _ (show k.val + (j 0).val < 3 by omega))).trans (mul_zero _)).symm
    · exact congr (congrArg _ (ctRow_of m c (Fin.natAdd 3 k) _).symm)
        (xRow_of m c _ ⟨k.val, by omega⟩ _ (show 3 + k.val + (j 0).val = k.val + 3 by omega)).symm
  · rw [dif_neg (by omega), dif_neg (by omega), dif_pos (by omega), dif_neg (by omega), zero_add, zero_add, add_zero, Fin.sum_univ_one]
    exact Finset.sum_congr rfl fun k _ => shifted m c _ _ k 1 (by omega) e _ (ctRow_of m c k _).symm
  · rw [dif_neg (by omega), dif_pos (by omega), dif_neg (by omega), dif_neg (by omega), zero_add, add_zero, add_zero, Fin.sum_univ_one]
    exact Finset.sum_congr rfl fun k _ => shifted m c _ _ k 2 (by omega) e _ (ctRow_of m c k _).symm
  · rw [dif_pos (by omega), dif_neg (by omega), dif_neg (by omega), dif_neg (by omega), add_zero, add_zero, add_zero, Fin.sum_univ_one]
    exact Finset.sum_congr rfl fun k _ => congr (congrArg _ (ctRow_of m c k _).symm) (xRow_of m c _ k _ (by omega)).symm

theorem final_7 (c : Dev nD) :
    (dats m 0 c).arrAt 7 (cfgs 0).N = Cert.ConvRefIdeal.Read.val_main_v76 (m ((c : Thread nD τ).loc main_arg0))
      (m ((c : Thread nD τ).loc main_arg1)) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) (fun t j => tap m c t j)
    (fun t h j => reset7 m c t h j) (fun t h j => step7 m c t h j)
    (le_of_eq N_0) t0_15 rfl j, zero_add]
  refine Eq.trans ?_ (dw_row m c j).symm
  unfold tap
  refine Fin.sum_mul_add_congr fun s k hl => rfl

/-- What a point adds to the projection's gradient. -/
def proj (c : Dev nD) (t : Fin cfg0.N) (y : S1536x1024.Idx) : EReal :=
  ∑ k : Fin 512, (Cert.ConvRefIdeal.Read.val_main_v78 (m ((c : Thread nD τ).loc main_arg0)) (m ((c : Thread nD τ).loc main_arg2))
      (ix2 ⟨t.val * 512 + k.val, by have : t.val < 16 := t.isLt; omega⟩ (y 0)) : EReal)
    * m ((c : Thread nD τ).loc main_arg3) (ix2 ⟨t.val * 512 + k.val, by have : t.val < 16 := t.isLt; omega⟩ (y 1))

theorem pay12 (v0 v1 v2 v3 : S512x1536.Idx → EReal) (w0 w1 w2 w3 : S1x1536.Idx → EReal) (a : S1536x1024.Idx → EReal)
    (h : S512x1024.Idx → EReal) (y : S1536x1024.Idx) :
    (k0_pay12 (F := Ideal) v0 (k0_pay10 w3) w2 v1 w1 v2 w0 v3 a h y : EReal)
      = a y + ∑ k : Fin 512, (w3 (ix2 0 (y 0)) * v0 (ix2 k (y 0)) + w2 (ix2 0 (y 0)) * v1 (ix2 k (y 0)) + w1 (ix2 0 (y 0)) * v2 (ix2 k (y 0))
        + w0 (ix2 0 (y 0)) * v3 (ix2 k (y 0))) * h (ix2 k (y 1)) := by
  pointwise [k0_pay10, k0_pay11, k0_pay12]

/-- A point's store of the projection's gradient. -/
theorem proj_step (c : Dev nD) (t : Fin cfg0.N) (v1 v2 v3 : S512x1536.Idx → EReal) (j0 j1 j2 j3) (a : S1536x1024.Idx → EReal) (y : S1536x1024.Idx)
    (h1 : v1 = fun y : S512x1536.Idx => ctRow m c (t.val * 512 + (1 + (y 0).val)) (y 1))
    (h2 : v2 = fun y : S512x1536.Idx => ctRow m c (t.val * 512 + (2 + (y 0).val)) (y 1))
    (h3 : v3 = fun y : S512x1536.Idx => ctRow m c (t.val * 512 + (3 + (y 0).val)) (y 1)) :
    (k0_pay12 (F := Ideal) (iblk m c 0 t) (k0_pay10 (View.ld (iblk m c 4 t) (Rect.unit ![3, 0] ![1, 1536] j3)))
      (View.ld (iblk m c 4 t) (Rect.unit ![2, 0] ![1, 1536] j2)) v1 (View.ld (iblk m c 4 t) (Rect.unit ![1, 0] ![1, 1536] j1)) v2
      (View.ld (iblk m c 4 t) (Rect.unit ![0, 0] ![1, 1536] j0)) v3 a (iblk m c 5 t) y : EReal) = a y + proj m c t y := by
  subst h1 h2 h3
  have ht : t.val < 16 := t.isLt
  refine (pay12 _ _ _ _ _ _ _ _ _ _ y).trans (congrArg (a y + ·) (Finset.sum_congr rfl fun k _ => ?_))
  refine congr (congrArg _ ?_) ?_
  · refine Eq.trans ?_ (dx_row m c _ _).symm
    refine congr (congrArg _ (congr (congrArg _ (congr (congrArg _ ?_) ?_)) ?_)) ?_
    · refine congr (congrArg _ ?_) (ct_blk m c t k _)
      blk_point [iblk, V, idx t]
    · refine congr (congrArg _ ?_) (congrArg (ctRow m c · _) (by show t.val * 512 + (1 + k.val) = t.val * 512 + k.val + 1; omega))
      blk_point [iblk, V, idx t]
    · refine congr (congrArg _ ?_) (congrArg (ctRow m c · _) (by show t.val * 512 + (2 + k.val) = t.val * 512 + k.val + 2; omega))
      blk_point [iblk, V, idx t]
    · refine congr (congrArg _ ?_) (congrArg (ctRow m c · _) (by show t.val * 512 + (3 + k.val) = t.val * 512 + k.val + 3; omega))
      blk_point [iblk, V, idx t]
  · blk_point [iblk, V, idx t]

theorem final_8 (c : Dev nD) :
    (dats m 0 c).arrAt 8 (cfgs 0).N = Cert.ConvRefIdeal.Read.val_main_v80 (m ((c : Thread nD τ).loc main_arg0))
      (m ((c : Thread nD τ).loc main_arg2)) (m ((c : Thread nD τ).loc main_arg3)) := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0) (fun t j => proj m c t j)
    (fun t h j => by
      rw [outsAt0_A m c t h]
      frame_out
      refine (proj_step m c t _ _ _ _ _ _ _ _ j (ahead m c t 1 _ _ _) (ahead m c t 2 _ _ _) (ahead m c t 3 _ _ _)).trans (congrArg (· + _) ?_)
      pointwise [k0_pay5])
    (fun t h j => by
      rw [outsAt0_B m c t h]
      frame_out
      exact proj_step m c t _ _ _ _ _ _ _ _ j (ahead m c t 1 _ _ _) (ahead m c t 2 _ _ _) (ahead m c t 3 _ _ _))
    (le_of_eq N_0) t0_15 rfl j, zero_add]
  pointwise [← Cert.ConvRefIdeal.Read.val_main_v80_eq]
  unfold proj
  refine Fin.sum_mul_add_congr fun s k hl => congr (congrArg _ ?_) rfl
  pointwise [← Cert.ConvRefIdeal.Read.val_main_v78_eq]
  rw [dif_pos hl]

end Cert.ConvIdeal.Value
-- ==== Proof.ConvClaims.lean ====
/- Hand-written, untrusted: the claims about the causal convolution's gradients (`conv_bwd`). -/
module

public import proofs.«01_k».proof.Proof.ConvValue
public import proofs.«01_k».proof.Proof.Gen.Conv.Frame
public import proofs.«01_k».proof.Proof.Gen.ConvRefIdeal.Run
public import Idealize.ShloMosaic.Lib.Claim
public import Idealize.ShloMosaic.Lib.Quiescent

@[expose] public section

set_option maxRecDepth 16384

noncomputable section

namespace Cert.ConvClaims

open Idealize.ShloMosaic Idealize.SL.Sem

theorem kernel : Cert.quiescent_Conv := fun m g _ => Cert.Conv.Gen.frame m g
theorem ideal : Cert.quiescent_ConvIdeal := fun m g _ => Cert.ConvIdeal.Gen.frame m g
theorem reference : Cert.quiescent_ConvRefIdeal := by
  intro m g _
  run_from Cert.ConvRefIdeal.Value.run m g
  · exact fun _ => ⟨trivial, trivial, trivial, trivial⟩
  · exact sem_eq_zero_of_no_sems (sig := Cert.ConvRefIdeal.sig) (by decide) _

theorem value : Cert.algebraic_ConvIdeal_ConvRefIdeal := by
  pair_intro
  · run_from Cert.ConvIdeal.Gen.run_main m g
  · run_from Cert.ConvRefIdeal.Value.run m' g'
    · rw [Cert.ConvRefIdeal.Read.val_main_v78_eq, Cert.ConvIdeal.Value.final_6 m c]
    · rw [Cert.ConvRefIdeal.Read.val_main_v76_eq, (hagree c).2.1, Cert.ConvIdeal.Value.final_7 m c]
    · rw [Cert.ConvIdeal.Value.final_8 m c]; rfl

end Cert.ConvClaims

end
-- ==== Proof.Norms.lean ====
/- Hand-written, untrusted: the gradient of a root-mean-square norm over the extended reals, and the products with a
   matrix of zeros and ones by which a kernel adds up one head's columns. -/
module

public import proofs.«01_k».proof.Proof.Reals
public import Idealize.ShloMosaic.Lib.Pointwise
public import Idealize.ShloMosaic.Lib.IdealHost

@[expose] public section

set_option maxRecDepth 16384

namespace Cert.Norms

open Idealize.ShloMosaic Cert.Reals

/-- A family of real values is the image of a family of real numbers. -/
theorem lift {ι : Type*} {f : ι → EReal} (h : ∀ i, IsReal (f i)) : ∃ g : ι → ℝ, f = fun i => (g i : EReal) :=
  ⟨fun i => (h i).choose, funext fun i => (h i).choose_spec⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a : ℝ) {b : ℝ} (hb : 0 < b) : Ideal.div (a : EReal) (b : EReal) = ((a / b : ℝ) : EReal) := by
  rw [Ideal.div_coe hb.ne', ← EReal.coe_mul, mul_one_div]

theorem rsqrt_pos {a : ℝ} (ha : 0 < a) : Ideal.rsqrt (a : EReal) = (((√a)⁻¹ : ℝ) : EReal) := by
  rw [Ideal.rsqrt_coe, if_neg (not_lt.mpr ha.le), if_neg ha.ne']

theorem f64 : Ideal.ofBits .f32 1115684864#32 = ((64 : ℝ) : EReal) := by
  simp [Ideal.ofBits, Ideal.ieee, -EReal.coe_mul]; norm_num
theorem inv64 : Ideal.ofBits .f32 1015021568#32 = ((1 / 64 : ℝ) : EReal) := by
  simp [Ideal.ofBits, Ideal.ieee, -EReal.coe_mul]; norm_num
theorem neg_half : Ideal.ofBits .f32 3204448256#32 = ((-(1 / 2) : ℝ) : EReal) := by
  simp [Ideal.ofBits, Ideal.ieee, -EReal.coe_mul, -EReal.coe_neg]; norm_num
theorem f1024 : Ideal.ofBits .f32 1149239296#32 = ((1024 : ℝ) : EReal) := by
  simp [Ideal.ofBits, Ideal.ieee, -EReal.coe_mul]; norm_num
theorem inv1024 : Ideal.ofBits .f32 981467136#32 = ((1 / 1024 : ℝ) : EReal) := by
  simp [Ideal.ofBits, Ideal.ieee, -EReal.coe_mul]; norm_num
theorem inv2048 : Ideal.ofBits .f32 973078528#32 = ((1 / 2048 : ℝ) : EReal) := by
  simp [Ideal.ofBits, Ideal.ieee, -EReal.coe_mul]; norm_num
theorem eighth : Ideal.ofBits .f32 1040187392#32 = ((1 / 8 : ℝ) : EReal) := by
  simp [Ideal.ofBits, Ideal.ieee, -EReal.coe_mul]; norm_num
theorem two_f32 : Ideal.ofBits .f32 1073741824#32 = ((2 : ℝ) : EReal) := by
  simp [Ideal.ofBits, Ideal.ieee, -EReal.coe_mul]; norm_num
theorem eps : ∃ e : ℝ, 0 < e ∧ Ideal.ofBits .f32 897988541#32 = (e : EReal) := by
  refine ⟨_, ?_, by simp [Ideal.ofBits, Ideal.ieee, -EReal.coe_mul]; rfl⟩
  positivity

theorem norm_pos {n : ℕ} (o : Fin n → ℝ) {e k : ℝ} (he : 0 < e) (hk : 0 ≤ k) : 0 < (∑ i, o i * o i) * k + e :=
  add_pos_of_nonneg_of_pos (mul_nonneg (Finset.sum_nonneg fun i _ => mul_self_nonneg _) hk) he

/-- The reciprocal root of a mean of squares plus a positive number is real, whichever way the mean is written. -/
theorem norm_real {n : ℕ} {E N K : EReal} {e w : ℝ} (he : 0 < e) (hw : 0 < w) (hE : E = e) (hN : N = w) (hK : K = ((1 / w : ℝ)))
    (o : Fin n → EReal) (ho : ∀ i, IsReal (o i)) :
    IsReal (Ideal.rsqrt ((∑ i, o i * o i) * K + E))
      ∧ Ideal.rsqrt ((∑ i, o i * o i) * K + E) = Ideal.rsqrt (Ideal.div (∑ i, o i * o i) N + E) := by
  obtain ⟨o, rfl⟩ := lift ho
  subst hE hN hK
  simp only [← EReal.coe_mul, coe_sum, div_coe _ hw, ← EReal.coe_add]
  rw [show (∑ i, o i * o i) / w = (∑ i, o i * o i) * (1 / w) by ring]
  rw [rsqrt_pos (norm_pos o he (by positivity))]
  exact ⟨IsReal.coe _, rfl⟩

/-- The gradient of a root-mean-square norm: the closed form of a kernel, and the terms of the chain rule through the
    reciprocal root. -/
theorem norm_grad {n : ℕ} {E N K H : EReal} {e w : ℝ} (he : 0 < e) (hw : 0 < w) (hE : E = e) (hN : N = w)
    (hK : K = ((1 / w : ℝ))) (hH : H = ((-(1 / 2) : ℝ))) (o d : Fin n → EReal) (ho : ∀ i, IsReal (o i)) (hd : ∀ i, IsReal (d i))
    (i : Fin n) {R U : EReal} (hU : U = Ideal.div (∑ i, o i * o i) N + E) (hR : R = Ideal.rsqrt U) :
    R * (d i - o i * R * ((∑ k, d k * (o k * R)) * K))
      = d i * R + o i * Ideal.div ((∑ k, o k * d k) * (H * Ideal.div R U)) N
        + Ideal.div ((∑ k, o k * d k) * (H * Ideal.div R U)) N * o i := by
  obtain ⟨o, rfl⟩ := lift ho
  obtain ⟨d, rfl⟩ := lift hd
  subst hE hN hK hH
  have hp := norm_pos o he (k := 1 / w) (by positivity)
  have hu : (∑ i, o i * o i) / w + e = (∑ i, o i * o i) * (1 / w) + e := by ring
  generalize hu' : (∑ i, o i * o i) / w + e = u at hu
  rw [← hu] at hp
  have hUu : U = (u : EReal) := by
    rw [hU, ← hu']; simp only [← EReal.coe_mul, coe_sum, div_coe _ hw, ← EReal.coe_add]
  have hRu : R = (((√u)⁻¹ : ℝ) : EReal) := by rw [hR, hUu, rsqrt_pos hp]
  rw [hRu, hUu]
  simp only [← EReal.coe_mul, coe_sum, div_coe _ hw, div_coe _ hp, ← EReal.coe_add, ← EReal.coe_sub]
  congr 1
  have hs : √u * √u = u := Real.mul_self_sqrt hp.le
  have hq : 0 < √u := Real.sqrt_pos.mpr hp
  have e1 : ∑ k, d k * (o k * (√u)⁻¹) = (∑ k, o k * d k) * (√u)⁻¹ := by
    rw [Finset.sum_mul]; exact Finset.sum_congr rfl fun k _ => by ring
  rw [e1]
  generalize ∑ k, o k * d k = S
  generalize √u = q at *
  subst hs
  field_simp
  ring

/-- `norm_grad` where the kernel too divides by the width. -/
theorem norm_grad_div {n : ℕ} {E N H : EReal} {e w : ℝ} (he : 0 < e) (hw : 0 < w) (hE : E = e) (hN : N = w)
    (hH : H = ((-(1 / 2) : ℝ))) (o d : Fin n → EReal) (ho : ∀ i, IsReal (o i)) (hd : ∀ i, IsReal (d i))
    (i : Fin n) {R U : EReal} (hU : U = Ideal.div (∑ i, o i * o i) N + E) (hR : R = Ideal.rsqrt U) :
    R * (d i - o i * R * Ideal.div (∑ k, d k * (o k * R)) N)
      = d i * R + o i * Ideal.div ((∑ k, o k * d k) * (H * Ideal.div R U)) N
        + Ideal.div ((∑ k, o k * d k) * (H * Ideal.div R U)) N * o i := by
  rw [← norm_grad he hw hE hN rfl hH o d ho hd i hU hR, hN, Ideal.div_coe hw.ne']

/-- The mean of squares of a row of the model's width, plus the small number. -/
noncomputable def rowU (o : Fin 1024 → EReal) : EReal :=
  Ideal.div (∑ k, o k * o k) (Ideal.ofBits .f32 1149239296#32) + Ideal.ofBits .f32 897988541#32

/-- The reciprocal root mean square of a row. -/
noncomputable def rowR (o : Fin 1024 → EReal) : EReal := Ideal.rsqrt (rowU o)

/-- What each factor of a row's square gets from the chain rule. -/
noncomputable def rowQ (o d : Fin 1024 → EReal) : EReal :=
  Ideal.div ((∑ k, o k * d k) * (Ideal.ofBits .f32 3204448256#32 * Ideal.div (rowR o) (rowU o))) (Ideal.ofBits .f32 1149239296#32)

theorem row_grad (o d : Fin 1024 → EReal) (ho : ∀ i, IsReal (o i)) (hd : ∀ i, IsReal (d i)) (i : Fin 1024) :
    rowR o * (d i - o i * rowR o * Ideal.div (∑ k, d k * (o k * rowR o)) (Ideal.ofBits .f32 1149239296#32))
      = d i * rowR o + o i * rowQ o d + rowQ o d * o i := by
  obtain ⟨e, he, hE⟩ := eps
  exact norm_grad_div he (by norm_num : (0 : ℝ) < 1024) hE f1024 neg_half o d ho hd i rfl rfl

theorem row_real (o : Fin 1024 → EReal) (ho : ∀ i, IsReal (o i)) : IsReal (rowR o) := by
  obtain ⟨e, he, hE⟩ := eps
  have h := norm_real he (by norm_num : (0 : ℝ) < 1024) hE f1024 rfl o ho
  unfold rowR rowU
  rw [← h.2]
  exact h.1

/-- A product in three pieces of which the second and third are differences of a real number with itself. -/
theorem split3 {ι : Type*} [Fintype ι] (x h : ι → EReal) (hx : ∀ i, IsReal (x i)) :
    ∑ k, x k * h k + (∑ k, (x k - x k) * h k + ∑ k, (x k - x k - (x k - x k)) * h k) = ∑ k, x k * h k := by
  have h0 (k) : x k - x k = 0 := EReal.sub_self (hx k).ne_top (hx k).ne_bot
  simp [h0]

/-- The floor division by a head's width, as a kernel writes it on signed words. -/
theorem fdiv : ∀ i : Fin 512, (Scalar.select
            (IntOp.andi
              (IntOp.cmpi CmpIPredicate.ne
                (IntOp.subi (BitVec.setWidth 32 (IntOp.cmpi CmpIPredicate.sgt (BitVec.ofNat 32 i.val) 0#32))
                  (BitVec.setWidth 32 (IntOp.cmpi CmpIPredicate.slt (BitVec.ofNat 32 i.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 i.val) 64#32) 0#32))
            (IntOp.subi (IntOp.divsi ArithUnit.vector (BitVec.ofNat 32 i.val) 64#32) 1#32)
            (IntOp.divsi ArithUnit.vector (BitVec.ofNat 32 i.val) 64#32)) = BitVec.ofNat 32 (i.val / 64) := by
  decide +kernel

/-- The remainder by a head's width, as a kernel writes it on signed words. -/
theorem fmod : ∀ i : Fin 512, (Scalar.select
                  (IntOp.andi
                    (IntOp.xori
                      (IntOp.cmpi CmpIPredicate.slt
                        (IntOp.remsi ArithUnit.vector (BitVec.ofNat 32 i.val)
                          (Scalar.select (Scalar.cmpi CmpIPredicate.eq 64#32 0#32) 1#32 64#32))
                        0#32)
                      (Scalar.cmpi CmpIPredicate.slt
                        (Scalar.select (Scalar.cmpi CmpIPredicate.eq 64#32 0#32) 1#32 64#32) 0#32))
                    (IntOp.cmpi CmpIPredicate.ne
                      (IntOp.remsi ArithUnit.vector (BitVec.ofNat 32 i.val)
                        (Scalar.select (Scalar.cmpi CmpIPredicate.eq 64#32 0#32) 1#32 64#32))
                      0#32))
                  (IntOp.addi
                    (IntOp.remsi ArithUnit.vector (BitVec.ofNat 32 i.val)
                      (Scalar.select (Scalar.cmpi CmpIPredicate.eq 64#32 0#32) 1#32 64#32))
                    (Scalar.select (Scalar.cmpi CmpIPredicate.eq 64#32 0#32) 1#32 64#32))
                  (IntOp.remsi ArithUnit.vector (BitVec.ofNat 32 i.val)
                    (Scalar.select (Scalar.cmpi CmpIPredicate.eq 64#32 0#32) 1#32 64#32))) = BitVec.ofNat 32 (i.val % 64) := by
  decide +kernel

/-- A zero-or-one matrix entry: the comparison of two small words, read as a number. -/
theorem onehot {a b : ℕ} (ha : a < 4096) (hb : b < 4096) :
    (FloatOps.sitofp (F := Ideal) FTy.f32 (BitVec.setWidth 32 (IntOp.cmpi CmpIPredicate.eq (BitVec.ofNat 32 a) (BitVec.ofNat 32 b))) : EReal)
      = if a = b then 1 else 0 := by
  have hab : (BitVec.ofNat 32 a = BitVec.ofNat 32 b) ↔ a = b := by
    constructor
    · intro h
      have := congrArg BitVec.toNat h
      rw [BitVec.toNat_ofNat, BitVec.toNat_ofNat] at this
      omega
    · rintro rfl; rfl
  by_cases h : a = b
  · subst h
    simp [IntOp.cmpi, FloatOps.sitofp]
  · have hne : (BitVec.ofNat 32 a == BitVec.ofNat 32 b) = false := by
      rw [beq_eq_false_iff_ne]; exact fun hc => h (hab.mp hc)
    simp [IntOp.cmpi, FloatOps.sitofp, h, hne]

/-- The sum over all columns weighted by "same head" is the sum over one head's columns. -/
theorem head_sum (f : Fin 512 → EReal) (j : Fin 512) :
    ∑ k, f k * (if k.val / 64 = j.val / 64 then 1 else 0) = ∑ d : Fin 64, f ⟨j.val / 64 * 64 + d.val, by omega⟩ := by
  simp only [mul_ite, mul_one, mul_zero]
  rw [← Finset.sum_filter]
  symm
  refine Finset.sum_bij (fun d _ => ⟨j.val / 64 * 64 + d.val, by omega⟩) ?_ ?_ ?_ ?_
  · intro d _; simp; omega
  · intro a _ b _ h; simp at h; exact Fin.ext (by omega)
  · intro k hk
    simp at hk
    exact ⟨⟨k.val % 64, by omega⟩, Finset.mem_univ _, Fin.ext (by simp; omega)⟩
  · intro d _; rfl

/-- The sum over all columns weighted by "same place in its head" is the sum over the heads. -/
theorem fold_sum (f : Fin 512 → EReal) {j : ℕ} (hj : j < 64) :
    ∑ k, f k * (if k.val % 64 = j then 1 else 0) = ∑ h : Fin 8, f ⟨h.val * 64 + j, by omega⟩ := by
  simp only [mul_ite, mul_one, mul_zero]
  rw [← Finset.sum_filter]
  symm
  refine Finset.sum_bij (fun h _ => ⟨h.val * 64 + j, by omega⟩) ?_ ?_ ?_ ?_
  · intro d _; simp; omega
  · intro a _ b _ h; simp at h; exact Fin.ext (by omega)
  · intro k hk
    simp at hk
    exact ⟨⟨k.val / 64, by omega⟩, Finset.mem_univ _, Fin.ext (by simp; omega)⟩
  · intro d _; rfl

end Cert.Norms
-- ==== Proof.PostValue.lean ====
/- Hand-written, untrusted: the gated per-head normalisation's gradients (`delta_post_bwd`). -/
module

public import proofs.«01_k».proof.Defs
public import proofs.«01_k».proof.Proof.Norms
public import proofs.«01_k».proof.Proof.Stage
public import Idealize.ShloMosaic.Lib.WritesUnit
public import proofs.«01_k».proof.Proof.Gen.PostIdeal.Value
public import proofs.«01_k».proof.Proof.Gen.PostRefIdeal.Read
public import Idealize.ShloMosaic.Lib.Pipeline.ValueKit
public import Idealize.ShloMosaic.Lib.Pointwise

@[expose] public section

set_option maxRecDepth 16384

noncomputable section

namespace Cert.PostIdeal.Value

open Cert.PostIdeal Cert.PostIdeal.Gen Cert.Reals Cert.Norms Idealize.ShloMosaic Idealize.ShloMosaic.TcCoe Idealize.SL.Sem
open Idealize.ShloMosaic.Pipeline (Dat)

variable (m : (ℓ : Loc nD τ sig) → Buf (Elt Ideal) ℓ)

/-- The block each window shows at each point. -/
theorem idx : ∀ t : Fin cfg0.N, win0_0.index t = ![t.val, 1]
    ∧ win0_1.index t = ![t.val, 0]
    ∧ win0_2.index t = ![t.val, 3]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- The arrays that have to be real are. -/
theorem reals [Cert.Pre_finite_post.Facts] (h : Cert.Pre_PostIdeal_finite_post m) (c : Dev nD) :
    (∀ a, IsReal ((m ((c : Thread nD τ).loc main_arg0)) a)) ∧ (∀ a, IsReal ((m ((c : Thread nD τ).loc main_arg1)) a))
      ∧ (∀ a, IsReal ((m ((c : Thread nD τ).loc main_arg2)) a)) ∧ (∀ a, IsReal ((m ((c : Thread nD τ).loc main_arg3)) a)) := by
  have h1 := congrFun (h c).1
  have h2 := congrFun (h c).2.1
  have h3 := congrFun (h c).2.2.1
  have h4 := congrFun (h c).2.2.2
  pointwise [Cert.Pre_finite_post.fn] at h1 h2 h3 h4
  exact ⟨fun a => isReal_of_f32 (h1 a), fun a => isReal_of_f32 (h2 a), fun a => isReal_of_f32 (h3 a), fun a => isReal_of_f32 (h4 a)⟩

theorem rowlt (t : Fin cfg0.N) (p : Fin 512) : t.val * 512 + p.val < 8192 := by
  have h : t.val < 16 := t.isLt
  omega

theorem blk0 (c : Dev nD) (t : Fin cfg0.N) : iblk m c 0 t = fun y : S512x512.Idx => (m ((c : Thread nD τ).loc main_arg0)) (ix2 ⟨t.val * 512 + (y 0).val, rowlt t (y 0)⟩ ⟨512 + (y 1).val, by have := (y 1).isLt; simp at this; omega⟩) := by
  funext y
  blk_point [iblk, V, idx t]
theorem blk1 (c : Dev nD) (t : Fin cfg0.N) : iblk m c 1 t = fun y : S512x512.Idx => (m ((c : Thread nD τ).loc main_arg1)) (ix2 ⟨t.val * 512 + (y 0).val, rowlt t (y 0)⟩ (y 1)) := by
  funext y
  blk_point [iblk, V, idx t]
theorem blk2 (c : Dev nD) (t : Fin cfg0.N) : iblk m c 2 t = fun y : S512x512.Idx => (m ((c : Thread nD τ).loc main_arg2)) (ix2 ⟨t.val * 512 + (y 0).val, rowlt t (y 0)⟩ ⟨1536 + (y 1).val, by have := (y 1).isLt; simp at this; omega⟩) := by
  funext y
  blk_point [iblk, V, idx t]
theorem blk3 (c : Dev nD) (t : Fin cfg0.N) : iblk m c 3 t = fun y : S1x512.Idx => (m ((c : Thread nD τ).loc main_arg3)) (ix2 0 ⟨(y 1).val % 64, by omega⟩) := by
  funext y
  blk_point [iblk, V, idx t]
theorem blk4 (c : Dev nD) (t : Fin cfg0.N) : iblk m c 4 t = fun y : S512x1024.Idx => (m ((c : Thread nD τ).loc main_arg4)) (ix2 ⟨t.val * 512 + (y 0).val, rowlt t (y 0)⟩ (y 1)) := by
  funext y
  blk_point [iblk, V, idx t]

/-- The kernel's matrix that adds up a head's columns. -/
theorem pay7 (y : S512x512.Idx) : (k0_pay7 (F := Ideal) k0_pay4 (iota Kind.tc S512x512 32 [1] iota_S512x512_d1_w32) (64#32) k0_pay5 k0_pay6 0#32 y : EReal)
    = if (y 0).val / 64 = (y 1).val / 64 then 1 else 0 := by
  pointwise [k0_pay7, k0_pay4, k0_pay5, k0_pay6]
  rw [fdiv (y 0), fdiv (y 1)]
  have h0 : (y 0).val < 512 := (y 0).isLt
  have h1 : (y 1).val < 512 := (y 1).isLt
  exact onehot (by omega) (by omega)

/-- A column of the head that a column belongs to. -/
abbrev hc (q : Fin 512) (d : Fin 64) : Fin 512 := ⟨q.val / 64 * 64 + d.val, by omega⟩

/-- The reciprocal root mean square of an element's head. -/
def rr (o : Fin 512 → EReal) (q : Fin 512) : EReal :=
  Ideal.rsqrt (Ideal.div (∑ d : Fin 64, o (hc q d) * o (hc q d))
    (Ideal.ofBits .f32 1115684864#32) + Ideal.ofBits .f32 897988541#32)

theorem rr_spec (o : Fin 512 → EReal) (ho : ∀ a, IsReal (o a)) (q : Fin 512) :
    IsReal (rr o q) ∧ Ideal.rsqrt ((∑ d : Fin 64, o (hc q d) * o (hc q d))
      * Ideal.ofBits .f32 1015021568#32 + Ideal.ofBits .f32 897988541#32) = rr o q := by
  obtain ⟨e, he, hE⟩ := eps
  have h := norm_real he (by norm_num : (0 : ℝ) < 64) hE f64 inv64 (fun d : Fin 64 => o (hc q d)) fun d => ho _
  exact ⟨by unfold rr; rw [← h.2]; exact h.1, h.2⟩

/-- The products with the head matrix are the head's sum. -/
theorem pick (x H : S512x512.Idx → EReal) (hx : ∀ a, IsReal (x a))
    (hH : ∀ a, H a = if (a 0).val / 64 = (a 1).val / 64 then 1 else 0) (p q : Fin 512) :
    ∑ k : Fin 512, x (ix2 p k) * H (ix2 k q)
      + (∑ k : Fin 512, (x (ix2 p k) - x (ix2 p k)) * H (ix2 k q)
        + ∑ k : Fin 512, (x (ix2 p k) - x (ix2 p k) - (x (ix2 p k) - x (ix2 p k))) * H (ix2 k q))
      = ∑ d : Fin 64, x (ix2 p (hc q d)) := by
  rw [split3 (fun k : Fin 512 => x (ix2 p k)) _ fun k => hx _]
  refine Eq.trans (Finset.sum_congr rfl fun k _ => ?_) (head_sum (fun k => x (ix2 p k)) q)
  exact congrArg _ (hH (ix2 k q))

theorem pay8 (v : S512x512.Idx → EReal) (hv : ∀ a, IsReal (v a)) (y : S512x512.Idx) :
    (k0_pay8 (F := Ideal) v k0_pay4 (iota Kind.tc S512x512 32 [1] iota_S512x512_d1_w32) (64#32) k0_pay5 k0_pay6 0#32 y : EReal) = rr (fun k => v (ix2 (y 0) k)) (y 1) := by
  pointwise [k0_pay8, pay7]
  refine Eq.trans (congrArg Ideal.rsqrt (congrArg (· + _) (congrArg (· * _) ?_))) (rr_spec (fun k => v (ix2 (y 0) k)) (fun k => hv _) (y 1)).2
  exact pick (fun a => v a * v a) _ (fun a => (hv a).mul (hv a)) pay7 (y 0) (y 1)

theorem pay9 (v : S512x512.Idx → EReal) (hv : ∀ a, IsReal (v a)) (y : S512x512.Idx) :
    (k0_pay9 (F := Ideal) v k0_pay4 (iota Kind.tc S512x512 32 [1] iota_S512x512_d1_w32) (64#32) k0_pay5 k0_pay6 0#32 y : EReal) = v y * rr (fun k => v (ix2 (y 0) k)) (y 1) := by
  pointwise [k0_pay9]
  rw [pay8 v hv y]

theorem sigm (z : S512x512.Idx → EReal) (y : S512x512.Idx) :
    (k0_pay12 (F := Ideal) (k0_pay10 z) k0_pay11 y : EReal) = Ideal.logistic (z y) := by
  pointwise [k0_pay12, k0_pay10, k0_pay11]
  exact sigmoid_eq _

theorem pay13 (z d o : S512x512.Idx → EReal) (g : S1x512.Idx → EReal) (hd : ∀ a, IsReal (d a)) (ho : ∀ a, IsReal (o a))
    (hg : ∀ a, IsReal (g a)) (y : S512x512.Idx) :
    (k0_pay13 (F := Ideal) z d g (k0_pay9 o k0_pay4 (iota Kind.tc S512x512 32 [1] iota_S512x512_d1_w32) (64#32) k0_pay5 k0_pay6 0#32) (k0_pay10 z) k0_pay11 y : EReal)
      = o y * rr (fun k => o (ix2 (y 0) k)) (y 1) * g (ix2 0 (y 1)) * d y * Ideal.logistic (z y)
        + z y * (o y * rr (fun k => o (ix2 (y 0) k)) (y 1) * g (ix2 0 (y 1)) * d y) * (Ideal.logistic (z y) * (1 - Ideal.logistic (z y))) := by
  pointwise [k0_pay13, sigm]
  rw [pay9 o ho y]
  refine Eq.trans ?_ (silu_slope ((((ho y).mul (rr_spec (fun k => o (ix2 (y 0) k)) (fun k => ho _) (y 1)).1).mul (hg (ix2 0 (y 1)))).mul (hd y)) (z y))
  refine congr (congrArg _ ?_) rfl
  ac_rfl

theorem pay15 (z d o : S512x512.Idx → EReal) (ho : ∀ a, IsReal (o a)) (y : S512x512.Idx) :
    (k0_pay15 (F := Ideal) z d (k0_pay10 z) k0_pay11 y : EReal) = d y * (z y * Ideal.logistic (z y)) := by
  pointwise [k0_pay15, sigm]

/-- The gradient of the gated product's pre-gate factor, at the whole array. -/
theorem dz_row [Cert.Pre_finite_post.Facts] (h : Cert.Pre_PostIdeal_finite_post m) (c : Dev nD) (t : Fin cfg0.N) (y : S512x512.Idx) :
    (k0_pay13 (F := Ideal) (iblk m c 2 t) (iblk m c 0 t) (iblk m c 3 t) (k0_pay9 (iblk m c 1 t) k0_pay4 (iota Kind.tc S512x512 32 [1] iota_S512x512_d1_w32) (64#32) k0_pay5 k0_pay6 0#32) (k0_pay10 (iblk m c 2 t)) k0_pay11 y : EReal)
      = Cert.PostRefIdeal.Read.val_main_v28 (F := Ideal) (m ((c : Thread nD τ).loc main_arg0)) (m ((c : Thread nD τ).loc main_arg1)) (m ((c : Thread nD τ).loc main_arg2)) (m ((c : Thread nD τ).loc main_arg3)) (ix2 ⟨t.val * 512 + (y 0).val, rowlt t (y 0)⟩ (y 1)) := by
  obtain ⟨h0, h1, h2, h3⟩ := reals m h c
  rw [blk0, blk1, blk2, blk3, pay13 _ _ _ _ (fun a => h0 _) (fun a => h1 _) (fun a => h3 _) y]
  pointwise [← Cert.PostRefIdeal.Read.val_main_v28_eq]
  rfl

/-- Two columns of one head have the same reciprocal root. -/
theorem rr_head (o : Fin 512 → EReal) (q : Fin 512) (d : Fin 64) : rr o (hc q d) = rr o q := by
  have h : (hc q d).val / 64 = q.val / 64 := by show (q.val / 64 * 64 + d.val) / 64 = q.val / 64; omega
  have hh (e) : hc (hc q d) e = hc q e := Fin.ext (congrArg (· * 64 + e.val) h)
  unfold rr
  simp only [hh]

/-- The gradient through one head's norm: the kernel's closed form and the chain rule's terms. -/
theorem head_grad (o D : Fin 512 → EReal) (ho : ∀ a, IsReal (o a)) (hD : ∀ a, IsReal (D a)) (q : Fin 512) {R U : EReal}
    (hU : U = Ideal.div (∑ d : Fin 64, o (hc q d) * o (hc q d))
      (Ideal.ofBits .f32 1115684864#32) + Ideal.ofBits .f32 897988541#32) (hR : R = Ideal.rsqrt U) :
    rr o q * (D q - o q * rr o q * ((∑ d : Fin 64, D (hc q d)
        * (o (hc q d) * rr o (hc q d))) * Ideal.ofBits .f32 1015021568#32))
      = D q * R + o q * Ideal.div ((∑ d : Fin 64, o (hc q d) * D (hc q d))
          * (Ideal.ofBits .f32 3204448256#32 * Ideal.div R U)) (Ideal.ofBits .f32 1115684864#32)
        + Ideal.div ((∑ d : Fin 64, o (hc q d) * D (hc q d))
          * (Ideal.ofBits .f32 3204448256#32 * Ideal.div R U)) (Ideal.ofBits .f32 1115684864#32) * o q := by
  obtain ⟨e, he, hE⟩ := eps
  have h := norm_grad he (by norm_num : (0 : ℝ) < 64) hE f64 inv64 neg_half (fun d : Fin 64 => o (hc q d))
    (fun d : Fin 64 => D (hc q d)) (fun d => ho _) (fun d => hD _) ⟨q.val % 64, by omega⟩ hU hR
  have hq : (⟨q.val / 64 * 64 + q.val % 64, by omega⟩ : Fin 512) = q := Fin.ext (by simp; omega)
  have hr : rr o q = R := by rw [hR, hU]; rfl
  simp only [rr_head, hr]
  simpa only [hq] using h

theorem pay19 (z d o : S512x512.Idx → EReal) (g : S1x512.Idx → EReal) (ho : ∀ a, IsReal (o a)) (y : S512x512.Idx) :
    (k0_pay19 (F := Ideal) z d g (k0_pay9 o k0_pay4 (iota Kind.tc S512x512 32 [1] iota_S512x512_d1_w32) (64#32) k0_pay5 k0_pay6 0#32) (k0_pay10 z) k0_pay11 y : EReal)
      = d y * (z y * Ideal.logistic (z y)) * g (ix2 0 (y 1)) * (o y * rr (fun k => o (ix2 (y 0) k)) (y 1)) := by
  pointwise [k0_pay19, k0_pay17, k0_pay15, sigm]
  rw [pay9 o ho y]

theorem pay1 (z d o : S512x512.Idx → EReal) (g : S1x512.Idx → EReal) (hz : ∀ a, IsReal (z a)) (hd : ∀ a, IsReal (d a)) (ho : ∀ a, IsReal (o a))
    (hg : ∀ a, IsReal (g a)) (y : S512x512.Idx) :
    (k0_pay1 (F := Ideal) (k0_pay8 o k0_pay4 (iota Kind.tc S512x512 32 [1] iota_S512x512_d1_w32) (64#32) k0_pay5 k0_pay6 0#32) (k0_pay9 o k0_pay4 (iota Kind.tc S512x512 32 [1] iota_S512x512_d1_w32) (64#32) k0_pay5 k0_pay6 0#32) (k0_pay17 z d g (k0_pay10 z) k0_pay11) (k0_pay20 (k0_pay7 k0_pay4 (iota Kind.tc S512x512 32 [1] iota_S512x512_d1_w32) (64#32) k0_pay5 k0_pay6 0#32))
      (k0_pay21 z d g (k0_pay9 o k0_pay4 (iota Kind.tc S512x512 32 [1] iota_S512x512_d1_w32) (64#32) k0_pay5 k0_pay6 0#32) (k0_pay10 z) k0_pay11) (k0_pay22 z d g (k0_pay9 o k0_pay4 (iota Kind.tc S512x512 32 [1] iota_S512x512_d1_w32) (64#32) k0_pay5 k0_pay6 0#32) (k0_pay10 z) k0_pay11) y : EReal)
      = rr (fun k => o (ix2 (y 0) k)) (y 1) * (d y * (z y * Ideal.logistic (z y)) * g (ix2 0 (y 1))
        - o y * rr (fun k => o (ix2 (y 0) k)) (y 1) * ((∑ e : Fin 64,
          (fun k : Fin 512 => d (ix2 (y 0) k) * (z (ix2 (y 0) k) * Ideal.logistic (z (ix2 (y 0) k))) * g (ix2 0 k)) (hc (y 1) e)
            * (o (ix2 (y 0) (hc (y 1) e)) * rr (fun k => o (ix2 (y 0) k)) (hc (y 1) e)))
          * Ideal.ofBits .f32 1015021568#32)) := by
  pointwise [k0_pay1, k0_pay22, k0_pay21, k0_pay20]
  rw [pay9 o ho y, pay8 o ho y]
  have e19 := fun a => pay19 z d o g ho a
  have e17 : (k0_pay17 (F := Ideal) z d g (k0_pay10 z) k0_pay11 y : EReal) = d y * (z y * Ideal.logistic (z y)) * g (ix2 0 (y 1)) := by
    pointwise [k0_pay17, k0_pay15, sigm]
  rw [e17]
  generalize (k0_pay19 (F := Ideal) z d g (k0_pay9 o k0_pay4 (iota Kind.tc S512x512 32 [1] iota_S512x512_d1_w32) (64#32) k0_pay5 k0_pay6 0#32) (k0_pay10 z) k0_pay11) = X at *
  refine congrArg _ (congrArg _ (congrArg _ (congr (congrArg _ ?_) rfl)))
  refine (pick X _ (fun a => ?_) pay7 (y 0) (y 1)).trans (Finset.sum_congr rfl fun e _ => ?_)
  · rw [e19]
    exact (((hd a).mul ((hz a).mul (isReal_logistic _))).mul (hg _)).mul ((ho a).mul (rr_spec (fun k => o (ix2 (a 0) k)) (fun k => ho _) (a 1)).1)
  · exact e19 _

/-- The gradient of the normalised output, at the whole array. -/
theorem do_row [Cert.Pre_finite_post.Facts] (h : Cert.Pre_PostIdeal_finite_post m) (c : Dev nD) (t : Fin cfg0.N) (y : S512x512.Idx) :
    (k0_pay1 (F := Ideal) (k0_pay8 (iblk m c 1 t) k0_pay4 (iota Kind.tc S512x512 32 [1] iota_S512x512_d1_w32) (64#32) k0_pay5 k0_pay6 0#32) (k0_pay9 (iblk m c 1 t) k0_pay4 (iota Kind.tc S512x512 32 [1] iota_S512x512_d1_w32) (64#32) k0_pay5 k0_pay6 0#32)
      (k0_pay17 (iblk m c 2 t) (iblk m c 0 t) (iblk m c 3 t) (k0_pay10 (iblk m c 2 t)) k0_pay11)
      (k0_pay20 (k0_pay7 k0_pay4 (iota Kind.tc S512x512 32 [1] iota_S512x512_d1_w32) (64#32) k0_pay5 k0_pay6 0#32))
      (k0_pay21 (iblk m c 2 t) (iblk m c 0 t) (iblk m c 3 t) (k0_pay9 (iblk m c 1 t) k0_pay4 (iota Kind.tc S512x512 32 [1] iota_S512x512_d1_w32) (64#32) k0_pay5 k0_pay6 0#32) (k0_pay10 (iblk m c 2 t)) k0_pay11)
      (k0_pay22 (iblk m c 2 t) (iblk m c 0 t) (iblk m c 3 t) (k0_pay9 (iblk m c 1 t) k0_pay4 (iota Kind.tc S512x512 32 [1] iota_S512x512_d1_w32) (64#32) k0_pay5 k0_pay6 0#32) (k0_pay10 (iblk m c 2 t)) k0_pay11) y : EReal)
      = Cert.PostRefIdeal.Read.val_main_v49 (F := Ideal) (m ((c : Thread nD τ).loc main_arg0)) (m ((c : Thread nD τ).loc main_arg1)) (m ((c : Thread nD τ).loc main_arg2)) (m ((c : Thread nD τ).loc main_arg3)) (ix2 ⟨t.val * 512 + (y 0).val, rowlt t (y 0)⟩ (y 1)) := by
  obtain ⟨h0, h1, h2, h3⟩ := reals m h c
  rw [blk0, blk1, blk2, blk3, pay1 _ _ _ _ (fun a => h2 _) (fun a => h0 _) (fun a => h1 _) (fun a => h3 _) y]
  let x0 : Fin 512 → EReal := fun k => (m ((c : Thread nD τ).loc main_arg0)) (ix2 ⟨t.val * 512 + (y 0).val, rowlt t (y 0)⟩ ⟨512 + k.val, by omega⟩)
  let x1 : Fin 512 → EReal := fun k => (m ((c : Thread nD τ).loc main_arg1)) (ix2 ⟨t.val * 512 + (y 0).val, rowlt t (y 0)⟩ k)
  let x2 : Fin 512 → EReal := fun k => (m ((c : Thread nD τ).loc main_arg2)) (ix2 ⟨t.val * 512 + (y 0).val, rowlt t (y 0)⟩ ⟨1536 + k.val, by omega⟩)
  let x3 : Fin 512 → EReal := fun k => (m ((c : Thread nD τ).loc main_arg3)) (ix2 0 ⟨k.val % 64, by omega⟩)
  refine (head_grad x1 (fun k => x0 k * (x2 k * Ideal.logistic (x2 k)) * x3 k) (fun a => h1 _)
    (fun a => ((h0 _).mul ((h2 _).mul (isReal_logistic _))).mul (h3 _)) (y 1) rfl rfl).trans ?_
  pointwise [Cert.PostRefIdeal.Read.val_main_v0, Cert.PostRefIdeal.Read.val_main_v1, Cert.PostRefIdeal.Read.val_main_v2, Cert.PostRefIdeal.Read.val_main_v3, Cert.PostRefIdeal.Read.val_main_cst, Cert.PostRefIdeal.Read.val_main_v4, Cert.PostRefIdeal.Read.val_main_v5, Cert.PostRefIdeal.Read.val_main_cst_0, Cert.PostRefIdeal.Read.val_main_v6, Cert.PostRefIdeal.Read.val_main_v7, Cert.PostRefIdeal.Read.val_main_cst_1, Cert.PostRefIdeal.Read.val_main_v8, Cert.PostRefIdeal.Read.val_main_v9, Cert.PostRefIdeal.Read.val_main_v10, Cert.PostRefIdeal.Read.val_main_v11, Cert.PostRefIdeal.Read.val_main_cst_2, Cert.PostRefIdeal.Read.val_main_v12, Cert.PostRefIdeal.Read.val_main_v13, Cert.PostRefIdeal.Read.val_main_v14, Cert.PostRefIdeal.Read.val_main_v15, Cert.PostRefIdeal.Read.val_main_v16, Cert.PostRefIdeal.Read.val_main_v17, Cert.PostRefIdeal.Read.val_main_v18, Cert.PostRefIdeal.Read.val_main_v19, Cert.PostRefIdeal.Read.val_main_call0_v0, Cert.PostRefIdeal.Read.val_main_call0_v1, Cert.PostRefIdeal.Read.val_main_call0_cst, Cert.PostRefIdeal.Read.val_main_call0_v2, Cert.PostRefIdeal.Read.val_main_call0_v3, Cert.PostRefIdeal.Read.val_main_call0_cst_0, Cert.PostRefIdeal.Read.val_main_call0_v4, Cert.PostRefIdeal.Read.val_main_v20_2, Cert.PostRefIdeal.Read.val_main_call0_cst_1, Cert.PostRefIdeal.Read.val_main_call0_v6, Cert.PostRefIdeal.Read.val_main_call0_v7, Cert.PostRefIdeal.Read.val_main_v20_1, Cert.PostRefIdeal.Read.val_main_v20_0, Cert.PostRefIdeal.Read.val_main_v21, Cert.PostRefIdeal.Read.val_main_v22, Cert.PostRefIdeal.Read.val_main_v23, Cert.PostRefIdeal.Read.val_main_v24, Cert.PostRefIdeal.Read.val_main_v25, Cert.PostRefIdeal.Read.val_main_v26, Cert.PostRefIdeal.Read.val_main_call1_v0, Cert.PostRefIdeal.Read.val_main_call1_v1, Cert.PostRefIdeal.Read.val_main_call1_v2, Cert.PostRefIdeal.Read.val_main_v27, Cert.PostRefIdeal.Read.val_main_v28, Cert.PostRefIdeal.Read.val_main_v29, Cert.PostRefIdeal.Read.val_main_cst_3, Cert.PostRefIdeal.Read.val_main_v30, Cert.PostRefIdeal.Read.val_main_v31, Cert.PostRefIdeal.Read.val_main_v32, Cert.PostRefIdeal.Read.val_main_v33, Cert.PostRefIdeal.Read.val_main_cst_4, Cert.PostRefIdeal.Read.val_main_v34, Cert.PostRefIdeal.Read.val_main_v35, Cert.PostRefIdeal.Read.val_main_cst_5, Cert.PostRefIdeal.Read.val_main_v36, Cert.PostRefIdeal.Read.val_main_v37, Cert.PostRefIdeal.Read.val_main_v38, Cert.PostRefIdeal.Read.val_main_v39, Cert.PostRefIdeal.Read.val_main_v40, Cert.PostRefIdeal.Read.val_main_cst_6, Cert.PostRefIdeal.Read.val_main_v41, Cert.PostRefIdeal.Read.val_main_v42, Cert.PostRefIdeal.Read.val_main_cst_7, Cert.PostRefIdeal.Read.val_main_v43, Cert.PostRefIdeal.Read.val_main_v44, Cert.PostRefIdeal.Read.val_main_v45, Cert.PostRefIdeal.Read.val_main_v46, Cert.PostRefIdeal.Read.val_main_v47, Cert.PostRefIdeal.Read.val_main_v48, Cert.PostRefIdeal.Read.val_main_v49, Cert.PostRefIdeal.Read.val_main_cst_8, Cert.PostRefIdeal.Read.val_main_v50, Cert.PostRefIdeal.Read.val_main_cst_9, Cert.PostRefIdeal.Read.val_main_v51, Cert.PostRefIdeal.Read.val_main_v52, Cert.PostRefIdeal.Read.val_main_v53, Cert.PostRefIdeal.Read.val_main_v54]
  have hg (e : Fin 64) : x3 (hc (y 1) e) = (m ((c : Thread nD τ).loc main_arg3)) (ix2 0 e) :=
    congrArg (m ((c : Thread nD τ).loc main_arg3)) (congrArg (ix2 0) (Fin.ext (by show ((y 1).val / 64 * 64 + e.val) % 64 = e.val; omega)))
  simp only [hg, Fin.sum_univ_one]
  rfl

theorem final_5 [Cert.Pre_finite_post.Facts] (h : Cert.Pre_PostIdeal_finite_post m) (c : Dev nD) :
    (dats m 0 c).arrAt 5 (cfgs 0).N = Cert.PostRefIdeal.Read.val_main_v49 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine Eq.trans ?_ ((do_row m h c t y).trans (congrArg _ (funext fun a => ?_)))
  · by_cases h0 : t.val % 16 = 0
    · rw [outsAt0_A m c t h0 (by omega)]
      frame_out
    · by_cases h1 : t.val % 16 = 15
      · rw [outsAt0_C m c t h0 h1]
        frame_out
      · rw [outsAt0_B m c t h0 h1]
        frame_out
  · fin_cases a
    · exact Fin.ext ((win0_5.rect_emb_val t y 0).trans (by rw [(idx t).2.2.2.2.2.1]; rfl)).symm
    · exact Fin.ext ((win0_5.rect_emb_val t y 1).trans (by rw [(idx t).2.2.2.2.2.1]; exact Nat.zero_add _)).symm

theorem final_6 [Cert.Pre_finite_post.Facts] (h : Cert.Pre_PostIdeal_finite_post m) (c : Dev nD) :
    (dats m 0 c).arrAt 6 (cfgs 0).N = Cert.PostRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  refine Eq.trans ?_ ((dz_row m h c t y).trans (congrArg _ (funext fun a => ?_)))
  · by_cases h0 : t.val % 16 = 0
    · rw [outsAt0_A m c t h0 (by omega)]
      frame_out
    · by_cases h1 : t.val % 16 = 15
      · rw [outsAt0_C m c t h0 h1]
        frame_out
      · rw [outsAt0_B m c t h0 h1]
        frame_out
  · fin_cases a
    · exact Fin.ext ((win0_6.rect_emb_val t y 0).trans (by rw [(idx t).2.2.2.2.2.2.1]; rfl)).symm
    · exact Fin.ext ((win0_6.rect_emb_val t y 1).trans (by rw [(idx t).2.2.2.2.2.2.1]; exact Nat.zero_add _)).symm

/-- What a point adds to the projection's gradient. -/
def proj (c : Dev nD) (t : Fin cfg0.N) (y : S512x1024.Idx) : EReal :=
  ∑ k : Fin 512, (Cert.PostRefIdeal.Read.val_main_v28 (F := Ideal) (m ((c : Thread nD τ).loc main_arg0)) (m ((c : Thread nD τ).loc main_arg1)) (m ((c : Thread nD τ).loc main_arg2)) (m ((c : Thread nD τ).loc main_arg3)) (ix2 ⟨t.val * 512 + k.val, rowlt t k⟩ (y 0)) : EReal)
    * (m ((c : Thread nD τ).loc main_arg4)) (ix2 ⟨t.val * 512 + k.val, rowlt t k⟩ (y 1))

theorem proj_step [Cert.Pre_finite_post.Facts] (h : Cert.Pre_PostIdeal_finite_post m) (c : Dev nD) (t : Fin cfg0.N) (a : S512x1024.Idx → EReal) (y : S512x1024.Idx) :
    (k0_pay14 (F := Ideal) (iblk m c 2 t) (iblk m c 0 t) (iblk m c 3 t) (k0_pay9 (iblk m c 1 t) k0_pay4 (iota Kind.tc S512x512 32 [1] iota_S512x512_d1_w32) (64#32) k0_pay5 k0_pay6 0#32) (k0_pay10 (iblk m c 2 t)) k0_pay11
      a (iblk m c 4 t) y : EReal) = a y + proj m c t y := by
  have e := fun a => dz_row m h c t a
  pointwise [k0_pay14]
  generalize (k0_pay13 (F := Ideal) (iblk m c 2 t) (iblk m c 0 t) (iblk m c 3 t) (k0_pay9 (iblk m c 1 t) k0_pay4 (iota Kind.tc S512x512 32 [1] iota_S512x512_d1_w32) (64#32) k0_pay5 k0_pay6 0#32) (k0_pay10 (iblk m c 2 t)) k0_pay11) = X at *
  refine congrArg (a y + ·) (Finset.sum_congr rfl fun k _ => ?_)
  exact congr (congrArg _ (e _)) (congrFun (blk4 m c t) (ix2 k (y 1)))

theorem final_8 [Cert.Pre_finite_post.Facts] (h : Cert.Pre_PostIdeal_finite_post m) (c : Dev nD) :
    (dats m 0 c).arrAt 8 (cfgs 0).N = Cert.PostRefIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) (fun t j => proj m c t j)
    (fun t h0 j => by
      rw [outsAt0_A m c t h0 (by omega)]
      frame_out
      refine (proj_step m h c t _ j).trans (congrArg (· + _) ?_)
      pointwise [k0_pay3])
    (fun t h0 j => by
      by_cases h1 : t.val % 16 = 15
      · rw [outsAt0_C m c t h0 h1]
        frame_out
        exact proj_step m h c t _ j
      · rw [outsAt0_B m c t h0 h1]
        frame_out
        exact proj_step m h c t _ j)
    (le_of_eq N_0) t0_15 rfl j, zero_add]
  rw [Cert.PostRefIdeal.Read.val_main_v57_apply]
  unfold proj
  refine Fin.sum_mul_add_congr fun s k hl => congr (congrArg _ rfl) ?_
  pointwise [Cert.PostRefIdeal.Read.val_main_v56]
  exact congrArg (m ((c : Thread nD τ).loc main_arg4)) (funext fun a => by fin_cases a <;> rfl)

/-- A row's term of the gain's gradient. -/
def gterm (c : Dev nD) (n : Fin 8192) (q : Fin 512) : EReal :=
  let x0 : Fin 512 → EReal := fun k => (m ((c : Thread nD τ).loc main_arg0)) (ix2 n ⟨512 + k.val, by omega⟩)
  let x1 : Fin 512 → EReal := fun k => (m ((c : Thread nD τ).loc main_arg1)) (ix2 n k)
  let x2 : Fin 512 → EReal := fun k => (m ((c : Thread nD τ).loc main_arg2)) (ix2 n ⟨1536 + k.val, by omega⟩)
  x1 q * rr x1 q * (x0 q * (x2 q * Ideal.logistic (x2 q)))

theorem gterm_real [Cert.Pre_finite_post.Facts] (h : Cert.Pre_PostIdeal_finite_post m) (c : Dev nD) (n : Fin 8192) (q : Fin 512) : IsReal (gterm m c n q) := by
  obtain ⟨h0, h1, h2, h3⟩ := reals m h c
  exact ((h1 _).mul (rr_spec _ (fun a => h1 _) q).1).mul ((h0 _).mul ((h2 _).mul (isReal_logistic _)))

theorem gain_step [Cert.Pre_finite_post.Facts] (h : Cert.Pre_PostIdeal_finite_post m) (c : Dev nD) (t : Fin cfg0.N) (a : S1x512.Idx → EReal) (q : Fin 512) :
    (k0_pay16 (F := Ideal) (iblk m c 2 t) (iblk m c 0 t) (k0_pay9 (iblk m c 1 t) k0_pay4 (iota Kind.tc S512x512 32 [1] iota_S512x512_d1_w32) (64#32) k0_pay5 k0_pay6 0#32) (k0_pay10 (iblk m c 2 t)) k0_pay11 a (ix2 0 q) : EReal)
      = a (ix2 0 q) + ∑ k : Fin 512, gterm m c ⟨t.val * 512 + k.val, rowlt t k⟩ q := by
  obtain ⟨h0, h1, h2, h3⟩ := reals m h c
  rw [blk0, blk1, blk2]
  pointwise [k0_pay16]
  refine congrArg (a (ix2 0 q) + ·) (Finset.sum_congr rfl fun k _ => ?_)
  refine (congr (congrArg _ (pay15 _ _ (fun y : S512x512.Idx => (m ((c : Thread nD τ).loc main_arg1)) (ix2 ⟨t.val * 512 + (y 0).val, rowlt t (y 0)⟩ (y 1))) (fun a => h1 _) _)) (pay9 _ (fun a => h1 _) _)).trans (mul_comm _ _)

/-- The first row after a point. -/
theorem row_reset [Cert.Pre_finite_post.Facts] (h : Cert.Pre_PostIdeal_finite_post m) (c : Dev nD) (t : Fin cfg0.N) (h0 : t.val % 16 = 0) (q : Fin 512) :
    (outsAt0 m c t.val t.isLt).2.2.1 (ix2 0 q) = (0 : EReal) + ∑ k : Fin 512, gterm m c ⟨t.val * 512 + k.val, rowlt t k⟩ q := by
  rw [outsAt0_A m c t h0 (by omega)]
  frame_out
  refine (Stage.canon_row_hit (Val := Elt Ideal) (e := .f32) (R := 2) 0 _ _ _ q).trans ((gain_step m h c t _ q).trans (congrArg (· + _) ?_))
  exact Stage.readCov_row_fill (Val := Elt Ideal) (e := .f32) _ _ (0 : EReal) (fun x => by pointwise [k0_pay2]) _ _ _

theorem row_step [Cert.Pre_finite_post.Facts] (h : Cert.Pre_PostIdeal_finite_post m) (c : Dev nD) (t : Fin cfg0.N) (h0 : ¬ t.val % 16 = 0) (q : Fin 512) :
    (outsAt0 m c t.val t.isLt).2.2.1 (ix2 0 q) = ((outsAt0 m c (t.val - 1) (by omega)).2.2.1 (ix2 0 q) : EReal)
      + ∑ k : Fin 512, gterm m c ⟨t.val * 512 + k.val, rowlt t k⟩ q := by
  by_cases h1 : t.val % 16 = 15
  · rw [outsAt0_C m c t h0 h1]
    frame_out
    generalize (outsAt0 m c (t.val - 1) (by omega)).2.2.1 = g
    refine (Stage.canon_row_skip (Val := Elt Ideal) (e := .f32) (R := 2) 0 (by decide) _ _ _ q).trans
      ((Stage.canon_row_hit (Val := Elt Ideal) (e := .f32) (R := 2) 0 _ _ _ q).trans ((gain_step m h c t _ q).trans (congrArg (· + _) ?_)))
    exact Stage.ld_row (Val := Elt Ideal) (e := .f32) 0 g _ _
  · rw [outsAt0_B m c t h0 h1]
    frame_out
    generalize (outsAt0 m c (t.val - 1) (by omega)).2.2.1 = g
    refine (View.read_writes_cons_unit_of_mem (Val := Elt Ideal) _ _ _ _ _ (ix2 0 q) (ix2 0 q) rfl (fun a => ?_)).trans ((gain_step m h c t _ q).trans (congrArg (· + _) ?_))
    · fin_cases a
      · rfl
      · exact (Nat.zero_add _).symm
    · exact Stage.ld_row (Val := Elt Ideal) (e := .f32) 0 g _ _

theorem row_last [Cert.Pre_finite_post.Facts] (h : Cert.Pre_PostIdeal_finite_post m) (c : Dev nD) (q : Fin 512) :
    (outsAt0 m c t0_15.val t0_15.isLt).2.2.1 (ix2 0 q) = ∑ n : Fin 8192, gterm m c n q := by
  rw [Pipeline.eq_sum_fin_of_reset_step_apply_last (fun n h => fun q : Fin 512 => ((outsAt0 m c n h).2.2.1 (ix2 0 q) : EReal)) 16 (fun _ => 0)
    (fun t q => ∑ k : Fin 512, gterm m c ⟨t.val * 512 + k.val, rowlt t k⟩ q) (fun t h0 j => row_reset m h c t h0 j) (fun t h0 j => row_step m h c t h0 j)
    (le_of_eq N_0) t0_15 rfl q, zero_add]
  refine Fin.sum_mul_add_congr fun s k hl => rfl

theorem pay18 (a : S1x512.Idx → EReal) (ha : ∀ x, IsReal (a x)) (q : Fin 512) :
    (k0_pay18 (F := Ideal) a (ix2 0 q) : EReal) = if h : q.val < 64 then ∑ k : Fin 8, a (ix2 0 ⟨k.val * 64 + q.val, by omega⟩) else 0 := by
  pointwise [k0_pay18]
  have e (k : Fin 512) := fmod k
  simp only [e]
  refine (split3 (fun k : Fin 512 => a (ix2 0 k)) _ (fun k => ha _)).trans ?_
  refine (Finset.sum_congr rfl fun k _ => congrArg _ (onehot (a := k.val % 64) (b := q.val) (by omega) (by omega))).trans ?_
  split
  · rename_i hq
    exact fold_sum (fun k => a (ix2 0 k)) hq
  · rename_i hq
    refine Finset.sum_eq_zero fun k _ => ?_
    rw [if_neg (by omega), mul_zero]

theorem last_row [Cert.Pre_finite_post.Facts] (h : Cert.Pre_PostIdeal_finite_post m) (c : Dev nD) (q : Fin 512) :
    (outsAt0 m c t0_15.val t0_15.isLt).2.2.1 (ix2 1 q)
      = if h : q.val < 64 then ∑ k : Fin 8, ∑ n : Fin 8192, gterm m c n ⟨k.val * 64 + q.val, by omega⟩ else 0 := by
  have e0 (x : S1x512.Idx) := row_last m h c (x 1)
  rw [outsAt0_C m c t0_15 (by decide) (by decide)] at e0 ⊢
  revert e0
  frame_out
  intro e0
  refine (Stage.canon_row_hit (Val := Elt Ideal) (e := .f32) (R := 2) 1 _ _ _ q).trans ?_
  refine (congrFun (congrArg (k0_pay18 (F := Ideal)) (Stage.readCov_row_hit (Val := Elt Ideal) (e := .f32) (R := 2) 0 _ [] _ _ _)) _).trans ?_
  have key (P : S1x512.Idx → EReal) (hP : ∀ x : S1x512.Idx, P x = ∑ n : Fin 8192, gterm m c n (x 1)) : (k0_pay18 (F := Ideal) P (ix2 0 q) : EReal)
      = if h : q.val < 64 then ∑ k : Fin 8, ∑ n : Fin 8192, gterm m c n ⟨k.val * 64 + q.val, by omega⟩ else 0 := by
    rw [pay18 P (fun x => by rw [hP]; exact IsReal.sum fun n => gterm_real m h c n _) q]
    simp only [hP]
    rfl
  refine key _ fun x => ?_
  have hx : x = ix2 0 (x 1) := by
    have hx0 : (x 0).val < 1 := (x 0).isLt
    funext a
    fin_cases a
    · exact Fin.ext (show (x 0).val = 0 by omega)
    · rfl
  refine (congrArg _ hx).trans (((Stage.canon_row_skip (Val := Elt Ideal) (e := .f32) (R := 2) 0 (by decide) _ _ _ (x 1)).trans
      (Stage.canon_row_hit (Val := Elt Ideal) (e := .f32) (R := 2) 0 _ _ _ (x 1))).symm.trans (e0 x))

theorem final_7 [Cert.Pre_finite_post.Facts] (h : Cert.Pre_PostIdeal_finite_post m) (c : Dev nD) :
    (dats m 0 c).arrAt 7 (cfgs 0).N = Cert.PostRefIdeal.Read.val_main_v55 (F := Ideal) (m ((c : Thread nD τ).loc main_arg0)) (m ((c : Thread nD τ).loc main_arg1)) (m ((c : Thread nD τ).loc main_arg2)) := by
  refine (dats m 0 c).arrAt_eq_of_after_last 7 t0_15 (by decide +kernel) _ fun j => ?_
  blk_simp
  rw [after0_7]
  pointwise [← Cert.PostRefIdeal.Read.val_main_v55_eq]
  have hj : (j 0).val < 2 := (j 0).isLt
  by_cases h0 : (j 0).val < 1
  · obtain ⟨q, rfl⟩ : ∃ q : Fin 512, j = ix2 0 q := ⟨j 1, by
      funext a
      fin_cases a
      · exact Fin.ext (show (j 0).val = 0 by omega)
      · rfl⟩
    rw [dif_pos h0, Fin.sum_univ_one]
    exact (row_last m h c q).trans (Finset.sum_congr rfl fun n _ => rfl)
  · obtain ⟨q, rfl⟩ : ∃ q : Fin 512, j = ix2 1 q := ⟨j 1, by
      funext a
      fin_cases a
      · exact Fin.ext (show (j 0).val = 1 by omega)
      · rfl⟩
    rw [dif_neg h0]
    simp only [Fin.sum_univ_one]
    refine (last_row m h c q).trans ?_
    refine dite_congr rfl (fun hq => Finset.sum_congr rfl fun x _ => Finset.sum_congr rfl fun n _ => ?_) fun _ => rfl
    have hq' : q.val < 64 := hq
    have e (d : Fin 64) : hc ⟨x.val * 64 + q.val, by omega⟩ d = ⟨x.val * 64 + d.val, by omega⟩ :=
      Fin.ext (by show (x.val * 64 + q.val) / 64 * 64 + d.val = x.val * 64 + d.val; omega)
    unfold gterm rr
    simp only [e]
    rfl

end Cert.PostIdeal.Value
-- ==== Proof.PostClaims.lean ====
/- Hand-written, untrusted: the claims about the gated per-head normalisation's gradients (`delta_post_bwd`). -/
module

public import proofs.«01_k».proof.Proof.PostValue
public import proofs.«01_k».proof.Proof.Gen.Post.Frame
public import proofs.«01_k».proof.Proof.Gen.PostRefIdeal.Run
public import Idealize.ShloMosaic.Lib.Claim
public import Idealize.ShloMosaic.Lib.Quiescent

@[expose] public section

set_option maxRecDepth 16384

noncomputable section

namespace Cert.PostClaims

open Idealize.ShloMosaic Idealize.SL.Sem

theorem pre_facts : Cert.Pre_finite_post.Facts :=
  ⟨by decide, by decide, by decide, by decide⟩

theorem kernel : Cert.quiescent_Post := fun m g _ => Cert.Post.Gen.frame m g
theorem ideal : Cert.quiescent_PostIdeal := fun m g _ => Cert.PostIdeal.Gen.frame m g
theorem ideal_pre [Cert.Pre_finite_post.Facts] : Cert.quiescent_PostIdeal_pre_finite_post := fun m g _ => Cert.PostIdeal.Gen.frame m g
theorem reference : Cert.quiescent_PostRefIdeal := by
  intro m g _
  run_from Cert.PostRefIdeal.Value.run m g
  · exact fun _ => ⟨trivial, trivial, trivial, trivial, trivial⟩
  · exact sem_eq_zero_of_no_sems (sig := Cert.PostRefIdeal.sig) (by decide) _
theorem reference_pre [Cert.Pre_finite_post.Facts] : Cert.quiescent_PostRefIdeal_pre_finite_post := fun m g _ => reference m g trivial

theorem value [Cert.Pre_finite_post.Facts] : Cert.algebraic_PostIdeal_PostRefIdeal_pre_finite_post := by
  pair_intro
  · run_from Cert.PostIdeal.Gen.run_main m g
  · run_from Cert.PostRefIdeal.Value.run m' g'
    · rw [Cert.PostRefIdeal.Read.val_main_v49_eq, (hagree c).1, (hagree c).2.1, (hagree c).2.2.1, (hagree c).2.2.2.1, Cert.PostIdeal.Value.final_5 m hpre c]
    · rw [Cert.PostRefIdeal.Read.val_main_v28_eq, Cert.PostIdeal.Value.final_6 m hpre c]
    · rw [Cert.PostRefIdeal.Read.val_main_v55_eq, Cert.PostIdeal.Value.final_7 m hpre c]
    · rw [Cert.PostIdeal.Value.final_8 m hpre c]; rfl

end Cert.PostClaims

end
-- ==== Proof.FfnInValue.lean ====
/- Hand-written, untrusted: the feed-forward block's input-side gradients (`ffn_bwd_in`). -/
module

public import proofs.«01_k».proof.Defs
public import proofs.«01_k».proof.Proof.Norms
public import proofs.«01_k».proof.Proof.Stage
public import proofs.«01_k».proof.Proof.Gen.FfnInIdeal.Value
public import proofs.«01_k».proof.Proof.Gen.FfnInRefIdeal.Read
public import Idealize.ShloMosaic.Lib.Pipeline.ValueKit
public import Idealize.ShloMosaic.Lib.Pointwise

@[expose] public section

set_option maxRecDepth 16384

noncomputable section

namespace Cert.FfnInIdeal.Value

open Cert.FfnInIdeal Cert.FfnInIdeal.Gen Cert.Reals Cert.Norms Idealize.ShloMosaic Idealize.ShloMosaic.TcCoe Idealize.SL.Sem
open Idealize.ShloMosaic.Pipeline (Dat)

variable (m : (ℓ : Loc nD τ sig) → Buf (Elt Ideal) ℓ)

/-- The block each window shows at each point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![0, 0] :=
  (by decide +kernel : ∀ t : Fin grid0.N, _)

/-- The arrays that have to be real are. -/
theorem reals [Cert.Pre_finite_ffnin.Facts] (h : Cert.Pre_FfnInIdeal_finite_ffnin m) (c : Dev nD) :
    (∀ a, IsReal ((m ((c : Thread nD τ).loc main_arg0)) a))
      ∧ (∀ a, IsReal ((m ((c : Thread nD τ).loc main_arg1)) a))
      ∧ (∀ a, IsReal ((m ((c : Thread nD τ).loc main_arg2)) a))
      ∧ (∀ a, IsReal ((m ((c : Thread nD τ).loc main_arg3)) a))
      ∧ (∀ a, IsReal ((m ((c : Thread nD τ).loc main_arg4)) a))
      ∧ (∀ a, IsReal ((m ((c : Thread nD τ).loc main_arg5)) a))
      ∧ (∀ a, IsReal ((m ((c : Thread nD τ).loc main_arg6)) a))
      ∧ (∀ a, IsReal ((m ((c : Thread nD τ).loc main_arg7)) a))
      ∧ (∀ a, IsReal ((m ((c : Thread nD τ).loc main_arg9)) a))
      ∧ (∀ a, IsReal ((m ((c : Thread nD τ).loc main_arg10)) a)) := by
  have h0 := congrFun (h c).1
  have h1 := congrFun (h c).2.1
  have h2 := congrFun (h c).2.2.1
  have h3 := congrFun (h c).2.2.2.1
  have h4 := congrFun (h c).2.2.2.2.1
  have h5 := congrFun (h c).2.2.2.2.2.1
  have h6 := congrFun (h c).2.2.2.2.2.2.1
  have h7 := congrFun (h c).2.2.2.2.2.2.2.1
  have h8 := congrFun (h c).2.2.2.2.2.2.2.2.1
  have h9 := congrFun (h c).2.2.2.2.2.2.2.2.2
  pointwise [Cert.Pre_finite_ffnin.fn] at h0 h1 h2 h3 h4 h5 h6 h7 h8 h9
  exact ⟨fun a => isReal_of_f32 (h0 a), fun a => isReal_of_bf16 (h1 a), fun a => isReal_of_bf16 (h2 a), fun a => isReal_of_f32 (h3 a), fun a => isReal_of_bf16 (h4 a), fun a => isReal_of_f32 (h5 a), fun a => isReal_of_f32 (h6 a), fun a => isReal_of_f32 (h7 a), fun a => isReal_of_bf16 (h8 a), fun a => isReal_of_bf16 (h9 a)⟩

theorem rowlt (t : Fin cfg0.N) (p : Fin 256) : t.val * 256 + p.val < 8192 := by
  have h : t.val < 32 := t.isLt
  omega

theorem blk0 (c : Dev nD) (t : Fin cfg0.N) : iblk m c 0 t = fun y : S256x2816.Idx => (m ((c : Thread nD τ).loc main_arg1)) (ix2 ⟨t.val * 256 + (y 0).val, rowlt t (y 0)⟩ (y 1)) := by
  funext y
  blk_point [iblk, V, idx t]
theorem blk1 (c : Dev nD) (t : Fin cfg0.N) : iblk m c 1 t = fun y : S256x2816.Idx => (m ((c : Thread nD τ).loc main_arg2)) (ix2 ⟨t.val * 256 + (y 0).val, rowlt t (y 0)⟩ (y 1)) := by
  funext y
  blk_point [iblk, V, idx t]
theorem blk2 (c : Dev nD) (t : Fin cfg0.N) : iblk m c 2 t = fun y : S2816x1024.Idx => (m ((c : Thread nD τ).loc main_arg9)) (ix2 (y 0) (y 1)) := by
  funext y
  blk_point [iblk, V, idx t]
theorem blk3 (c : Dev nD) (t : Fin cfg0.N) : iblk m c 3 t = fun y : S2816x1024.Idx => (m ((c : Thread nD τ).loc main_arg10)) (ix2 (y 0) (y 1)) := by
  funext y
  blk_point [iblk, V, idx t]
theorem blk4 (c : Dev nD) (t : Fin cfg0.N) : iblk m c 4 t = fun y : S256x1024.Idx => (m ((c : Thread nD τ).loc main_arg0)) (ix2 ⟨t.val * 256 + (y 0).val, rowlt t (y 0)⟩ (y 1)) := by
  funext y
  blk_point [iblk, V, idx t]
theorem blk6 (c : Dev nD) (t : Fin cfg0.N) : iblk m c 6 t = fun y : S256x1024.Idx => (m ((c : Thread nD τ).loc main_arg4)) (ix2 ⟨t.val * 256 + (y 0).val, rowlt t (y 0)⟩ (y 1)) := by
  funext y
  blk_point [iblk, V, idx t]
theorem blk5 (c : Dev nD) (t : Fin cfg0.N) : iblk m c 5 t = fun y : S256x1024.Idx => Cert.FfnInRefIdeal.Read.val_main_v9 (F := Ideal) (m ((c : Thread nD τ).loc main_arg3)) (m ((c : Thread nD τ).loc main_arg4)) (m ((c : Thread nD τ).loc main_arg5)) (ix2 ⟨t.val * 256 + (y 0).val, rowlt t (y 0)⟩ (y 1)) := by
  funext (y : S256x1024.Idx)
  have e : (win0_5.blk t).view.emb y = ix2 ⟨t.val * 256 + (y 0).val, rowlt t (y 0)⟩ (y 1) := funext fun a => by
    fin_cases a
    · exact Fin.ext ((win0_5.rect_emb_val t y 0).trans (by rw [(idx t).2.2.2.2.2.1]; rfl))
    · exact Fin.ext ((win0_5.rect_emb_val t y 1).trans (by rw [(idx t).2.2.2.2.2.1]; exact Nat.zero_add _))
  refine Eq.trans ?_ (congrArg (Cert.FfnInRefIdeal.Read.val_main_v9 (F := Ideal) (m ((c : Thread nD τ).loc main_arg3)) (m ((c : Thread nD τ).loc main_arg4)) (m ((c : Thread nD τ).loc main_arg5))) e)
  pointwise [Cert.FfnInRefIdeal.Read.val_main_v9, Cert.FfnInRefIdeal.Read.val_main_v8, Cert.FfnInRefIdeal.Read.val_main_v7, Cert.FfnInRefIdeal.Read.val_main_v2]
  blk_point [iblk, V, idx t]
theorem blk7 (c : Dev nD) (t : Fin cfg0.N) : iblk m c 7 t = fun y : S1x1024.Idx => (m ((c : Thread nD τ).loc main_arg5)) (ix2 0 (y 1)) := by
  funext y
  blk_point [iblk, V, idx t]
theorem blk8 (c : Dev nD) (t : Fin cfg0.N) : iblk m c 8 t = fun y : S1x1024.Idx => (m ((c : Thread nD τ).loc main_arg6)) (ix2 0 (y 1)) := by
  funext y
  blk_point [iblk, V, idx t]
theorem blk9 (c : Dev nD) (t : Fin cfg0.N) : iblk m c 9 t = fun y : S1x1024.Idx => (m ((c : Thread nD τ).loc main_arg7)) (ix2 0 (y 1)) := by
  funext y
  blk_point [iblk, V, idx t]

/-- The gradient at the normed rows, at the whole array. -/
theorem dh_row (c : Dev nD) (t : Fin cfg0.N) (y : S256x1024.Idx) :
    (k0_pay4 (F := Ideal) (iblk m c 0 t) (iblk m c 2 t) (iblk m c 1 t) (iblk m c 3 t) y : EReal) = Cert.FfnInRefIdeal.Read.val_main_v35 (F := Ideal) (m ((c : Thread nD τ).loc main_arg1)) (m ((c : Thread nD τ).loc main_arg2)) (m ((c : Thread nD τ).loc main_arg9)) (m ((c : Thread nD τ).loc main_arg10)) (ix2 ⟨t.val * 256 + (y 0).val, rowlt t (y 0)⟩ (y 1)) := by
  rw [blk0, blk1, blk2, blk3]
  pointwise [k0_pay4, Cert.FfnInRefIdeal.Read.val_main_v35, Cert.FfnInRefIdeal.Read.val_main_v34, Cert.FfnInRefIdeal.Read.val_main_v33, Cert.FfnInRefIdeal.Read.val_main_v0, Cert.FfnInRefIdeal.Read.val_main_v1, Cert.FfnInRefIdeal.Read.val_main_v3, Cert.FfnInRefIdeal.Read.val_main_v4, Cert.FfnInRefIdeal.Read.val_main_v5, Cert.FfnInRefIdeal.Read.val_main_v6, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
  exact add_comm _ _

/-- The normed rows before the gain. -/
theorem xhat_row (c : Dev nD) (t : Fin cfg0.N) (y : S256x1024.Idx) :
    (k0_pay7 (F := Ideal) (iblk m c 5 t) y : EReal) = Cert.FfnInRefIdeal.Read.val_main_v22 (F := Ideal) (m ((c : Thread nD τ).loc main_arg3)) (m ((c : Thread nD τ).loc main_arg4)) (m ((c : Thread nD τ).loc main_arg5)) (ix2 ⟨t.val * 256 + (y 0).val, rowlt t (y 0)⟩ (y 1)) := by
  rw [blk5]
  pointwise [k0_pay7, k0_pay6, k0_pay5, Cert.FfnInRefIdeal.Read.val_main_v22, Cert.FfnInRefIdeal.Read.val_main_v21, Cert.FfnInRefIdeal.Read.val_main_v17, Cert.FfnInRefIdeal.Read.val_main_v16, Cert.FfnInRefIdeal.Read.val_main_v15, Cert.FfnInRefIdeal.Read.val_main_v14, Cert.FfnInRefIdeal.Read.val_main_v13, Cert.FfnInRefIdeal.Read.val_main_v12, Cert.FfnInRefIdeal.Read.val_main_v11, Cert.FfnInRefIdeal.Read.val_main_v10, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]

theorem norm_row (c : Dev nD) (t : Fin cfg0.N) (y : S256x1024.Idx) :
    (k0_pay8 (F := Ideal) (iblk m c 5 t) (iblk m c 8 t) y : EReal) = Cert.FfnInRefIdeal.Read.val_main_v24 (F := Ideal) (m ((c : Thread nD τ).loc main_arg3)) (m ((c : Thread nD τ).loc main_arg4)) (m ((c : Thread nD τ).loc main_arg5)) (m ((c : Thread nD τ).loc main_arg6)) (ix2 ⟨t.val * 256 + (y 0).val, rowlt t (y 0)⟩ (y 1)) := by
  have e := xhat_row m c t y
  rw [blk8]
  pointwise [k0_pay8, Cert.FfnInRefIdeal.Read.val_main_v24, Cert.FfnInRefIdeal.Read.val_main_v23, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
  exact congr (congrArg _ e) rfl

theorem dnorm_row (c : Dev nD) (t : Fin cfg0.N) (y : S256x1024.Idx) :
    (k0_pay9 (F := Ideal) (iblk m c 0 t) (iblk m c 2 t) (iblk m c 1 t) (iblk m c 3 t) (iblk m c 9 t) y : EReal) = Cert.FfnInRefIdeal.Read.val_main_v42 (F := Ideal) (m ((c : Thread nD τ).loc main_arg1)) (m ((c : Thread nD τ).loc main_arg2)) (m ((c : Thread nD τ).loc main_arg7)) (m ((c : Thread nD τ).loc main_arg9)) (m ((c : Thread nD τ).loc main_arg10)) (ix2 ⟨t.val * 256 + (y 0).val, rowlt t (y 0)⟩ (y 1)) := by
  have e := dh_row m c t y
  rw [blk9]
  pointwise [k0_pay9, Cert.FfnInRefIdeal.Read.val_main_v42, Cert.FfnInRefIdeal.Read.val_main_v41, Cert.FfnInRefIdeal.Read.val_main_v26, Cert.FfnInRefIdeal.Read.val_main_v25, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
  exact congr (congrArg _ e) rfl

theorem dxhat_row (c : Dev nD) (t : Fin cfg0.N) (y : S256x1024.Idx) :
    (k0_pay10 (F := Ideal) (iblk m c 0 t) (iblk m c 2 t) (iblk m c 1 t) (iblk m c 3 t) (iblk m c 9 t) (iblk m c 8 t) y : EReal) = Cert.FfnInRefIdeal.Read.val_main_v47 (F := Ideal) (m ((c : Thread nD τ).loc main_arg1)) (m ((c : Thread nD τ).loc main_arg2)) (m ((c : Thread nD τ).loc main_arg6)) (m ((c : Thread nD τ).loc main_arg7)) (m ((c : Thread nD τ).loc main_arg9)) (m ((c : Thread nD τ).loc main_arg10)) (ix2 ⟨t.val * 256 + (y 0).val, rowlt t (y 0)⟩ (y 1)) := by
  have e := dnorm_row m c t y
  rw [blk8]
  pointwise [k0_pay10, Cert.FfnInRefIdeal.Read.val_main_v47, Cert.FfnInRefIdeal.Read.val_main_v46, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
  exact congr (congrArg _ e) rfl

theorem x1_real [Cert.Pre_finite_ffnin.Facts] (h : Cert.Pre_FfnInIdeal_finite_ffnin m) (c : Dev nD) (i) : IsReal (Cert.FfnInRefIdeal.Read.val_main_v9 (F := Ideal) (m ((c : Thread nD τ).loc main_arg3)) (m ((c : Thread nD τ).loc main_arg4)) (m ((c : Thread nD τ).loc main_arg5)) i : EReal) := by
  obtain ⟨h0, h1, h2, h3, h4, h5, h6, h7, h9, h10⟩ := reals m h c
  pointwise [Cert.FfnInRefIdeal.Read.val_main_v9, Cert.FfnInRefIdeal.Read.val_main_v8, Cert.FfnInRefIdeal.Read.val_main_v7, Cert.FfnInRefIdeal.Read.val_main_v2, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
  exact (h3 _).add ((h5 _).mul (h4 _))

theorem dxhat_real [Cert.Pre_finite_ffnin.Facts] (h : Cert.Pre_FfnInIdeal_finite_ffnin m) (c : Dev nD) (i) : IsReal (Cert.FfnInRefIdeal.Read.val_main_v47 (F := Ideal) (m ((c : Thread nD τ).loc main_arg1)) (m ((c : Thread nD τ).loc main_arg2)) (m ((c : Thread nD τ).loc main_arg6)) (m ((c : Thread nD τ).loc main_arg7)) (m ((c : Thread nD τ).loc main_arg9)) (m ((c : Thread nD τ).loc main_arg10)) i : EReal) := by
  obtain ⟨h0, h1, h2, h3, h4, h5, h6, h7, h9, h10⟩ := reals m h c
  pointwise [Cert.FfnInRefIdeal.Read.val_main_v47, Cert.FfnInRefIdeal.Read.val_main_v46, Cert.FfnInRefIdeal.Read.val_main_v42, Cert.FfnInRefIdeal.Read.val_main_v41, Cert.FfnInRefIdeal.Read.val_main_v26, Cert.FfnInRefIdeal.Read.val_main_v25, Cert.FfnInRefIdeal.Read.val_main_v35, Cert.FfnInRefIdeal.Read.val_main_v34, Cert.FfnInRefIdeal.Read.val_main_v33, Cert.FfnInRefIdeal.Read.val_main_v0, Cert.FfnInRefIdeal.Read.val_main_v1, Cert.FfnInRefIdeal.Read.val_main_v3, Cert.FfnInRefIdeal.Read.val_main_v4, Cert.FfnInRefIdeal.Read.val_main_v5, Cert.FfnInRefIdeal.Read.val_main_v6, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
  exact (((IsReal.sum fun k => (h2 _).mul (h10 _)).add (IsReal.sum fun k => (h1 _).mul (h9 _))).mul (IsReal.one.add (h7 _))).mul (h6 _)

/-- The reference's gradient through the norm, a row at a time. -/
theorem dx_ref (c : Dev nD) (n : Fin 8192) (q : Fin 1024) (z : EReal) (hz : (m ((c : Thread nD τ).loc main_arg0)) (ix2 n q) = z) :
    (Cert.FfnInRefIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (ix2 n q) : EReal)
      = z + ((Cert.FfnInRefIdeal.Read.val_main_v47 (F := Ideal) (m ((c : Thread nD τ).loc main_arg1)) (m ((c : Thread nD τ).loc main_arg2)) (m ((c : Thread nD τ).loc main_arg6)) (m ((c : Thread nD τ).loc main_arg7)) (m ((c : Thread nD τ).loc main_arg9)) (m ((c : Thread nD τ).loc main_arg10)) (ix2 n q) : EReal) * rowR (fun k => (Cert.FfnInRefIdeal.Read.val_main_v9 (F := Ideal) (m ((c : Thread nD τ).loc main_arg3)) (m ((c : Thread nD τ).loc main_arg4)) (m ((c : Thread nD τ).loc main_arg5)) (ix2 n k) : EReal))
        + (Cert.FfnInRefIdeal.Read.val_main_v9 (F := Ideal) (m ((c : Thread nD τ).loc main_arg3)) (m ((c : Thread nD τ).loc main_arg4)) (m ((c : Thread nD τ).loc main_arg5)) (ix2 n q) : EReal) * rowQ (fun k => (Cert.FfnInRefIdeal.Read.val_main_v9 (F := Ideal) (m ((c : Thread nD τ).loc main_arg3)) (m ((c : Thread nD τ).loc main_arg4)) (m ((c : Thread nD τ).loc main_arg5)) (ix2 n k) : EReal)) (fun k => (Cert.FfnInRefIdeal.Read.val_main_v47 (F := Ideal) (m ((c : Thread nD τ).loc main_arg1)) (m ((c : Thread nD τ).loc main_arg2)) (m ((c : Thread nD τ).loc main_arg6)) (m ((c : Thread nD τ).loc main_arg7)) (m ((c : Thread nD τ).loc main_arg9)) (m ((c : Thread nD τ).loc main_arg10)) (ix2 n k) : EReal))
        + rowQ (fun k => (Cert.FfnInRefIdeal.Read.val_main_v9 (F := Ideal) (m ((c : Thread nD τ).loc main_arg3)) (m ((c : Thread nD τ).loc main_arg4)) (m ((c : Thread nD τ).loc main_arg5)) (ix2 n k) : EReal)) (fun k => (Cert.FfnInRefIdeal.Read.val_main_v47 (F := Ideal) (m ((c : Thread nD τ).loc main_arg1)) (m ((c : Thread nD τ).loc main_arg2)) (m ((c : Thread nD τ).loc main_arg6)) (m ((c : Thread nD τ).loc main_arg7)) (m ((c : Thread nD τ).loc main_arg9)) (m ((c : Thread nD τ).loc main_arg10)) (ix2 n k) : EReal)) * Cert.FfnInRefIdeal.Read.val_main_v9 (F := Ideal) (m ((c : Thread nD τ).loc main_arg3)) (m ((c : Thread nD τ).loc main_arg4)) (m ((c : Thread nD τ).loc main_arg5)) (ix2 n q)) := by
  pointwise [Cert.FfnInRefIdeal.Read.val_main_v62, Cert.FfnInRefIdeal.Read.val_main_v61, Cert.FfnInRefIdeal.Read.val_main_v60, Cert.FfnInRefIdeal.Read.val_main_v59, Cert.FfnInRefIdeal.Read.val_main_v58, Cert.FfnInRefIdeal.Read.val_main_v57, Cert.FfnInRefIdeal.Read.val_main_v56, Cert.FfnInRefIdeal.Read.val_main_v55, Cert.FfnInRefIdeal.Read.val_main_v54, Cert.FfnInRefIdeal.Read.val_main_v53, Cert.FfnInRefIdeal.Read.val_main_v52, Cert.FfnInRefIdeal.Read.val_main_v51, Cert.FfnInRefIdeal.Read.val_main_v50, Cert.FfnInRefIdeal.Read.val_main_v49, Cert.FfnInRefIdeal.Read.val_main_v48, Cert.FfnInRefIdeal.Read.val_main_v20, Cert.FfnInRefIdeal.Read.val_main_v19, Cert.FfnInRefIdeal.Read.val_main_v18, Cert.FfnInRefIdeal.Read.val_main_v17, Cert.FfnInRefIdeal.Read.val_main_v16, Cert.FfnInRefIdeal.Read.val_main_v15, Cert.FfnInRefIdeal.Read.val_main_v14, Cert.FfnInRefIdeal.Read.val_main_v13, Cert.FfnInRefIdeal.Read.val_main_v12, Cert.FfnInRefIdeal.Read.val_main_v11, Cert.FfnInRefIdeal.Read.val_main_v10, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
  rw [hz]
  simp only [Fin.sum_univ_one, add_assoc]
  rfl

theorem rstd_row (c : Dev nD) (t : Fin cfg0.N) (p : Fin 256) :
    (k0_pay6 (F := Ideal) (iblk m c 5 t) (ix2 p 0) : EReal) = rowR (fun k => (Cert.FfnInRefIdeal.Read.val_main_v9 (F := Ideal) (m ((c : Thread nD τ).loc main_arg3)) (m ((c : Thread nD τ).loc main_arg4)) (m ((c : Thread nD τ).loc main_arg5)) (ix2 ⟨t.val * 256 + p.val, rowlt t p⟩ k) : EReal)) := by
  rw [blk5]
  pointwise [k0_pay6, k0_pay5]
  rfl

theorem xhat_mul (c : Dev nD) (t : Fin cfg0.N) (y : S256x1024.Idx) :
    (k0_pay7 (F := Ideal) (iblk m c 5 t) y : EReal) = (Cert.FfnInRefIdeal.Read.val_main_v9 (F := Ideal) (m ((c : Thread nD τ).loc main_arg3)) (m ((c : Thread nD τ).loc main_arg4)) (m ((c : Thread nD τ).loc main_arg5)) (ix2 ⟨t.val * 256 + (y 0).val, rowlt t (y 0)⟩ (y 1)) : EReal) * rowR (fun k => (Cert.FfnInRefIdeal.Read.val_main_v9 (F := Ideal) (m ((c : Thread nD τ).loc main_arg3)) (m ((c : Thread nD τ).loc main_arg4)) (m ((c : Thread nD τ).loc main_arg5)) (ix2 ⟨t.val * 256 + (y 0).val, rowlt t (y 0)⟩ k) : EReal)) := by
  rw [blk5]
  pointwise [k0_pay7, k0_pay6, k0_pay5]
  rfl

theorem pair_row (c : Dev nD) (t : Fin cfg0.N) (y : S256x1024.Idx) :
    (k0_pay11 (F := Ideal) (iblk m c 0 t) (iblk m c 2 t) (iblk m c 1 t) (iblk m c 3 t) (iblk m c 5 t) (iblk m c 9 t) (iblk m c 8 t) y : EReal)
      = (Cert.FfnInRefIdeal.Read.val_main_v47 (F := Ideal) (m ((c : Thread nD τ).loc main_arg1)) (m ((c : Thread nD τ).loc main_arg2)) (m ((c : Thread nD τ).loc main_arg6)) (m ((c : Thread nD τ).loc main_arg7)) (m ((c : Thread nD τ).loc main_arg9)) (m ((c : Thread nD τ).loc main_arg10)) (ix2 ⟨t.val * 256 + (y 0).val, rowlt t (y 0)⟩ (y 1)) : EReal) * ((Cert.FfnInRefIdeal.Read.val_main_v9 (F := Ideal) (m ((c : Thread nD τ).loc main_arg3)) (m ((c : Thread nD τ).loc main_arg4)) (m ((c : Thread nD τ).loc main_arg5)) (ix2 ⟨t.val * 256 + (y 0).val, rowlt t (y 0)⟩ (y 1)) : EReal) * rowR (fun k => (Cert.FfnInRefIdeal.Read.val_main_v9 (F := Ideal) (m ((c : Thread nD τ).loc main_arg3)) (m ((c : Thread nD τ).loc main_arg4)) (m ((c : Thread nD τ).loc main_arg5)) (ix2 ⟨t.val * 256 + (y 0).val, rowlt t (y 0)⟩ k) : EReal))) := by
  have e1 := dxhat_row m c t y
  have e2 := xhat_mul m c t y
  pointwise [k0_pay11]
  exact congr (congrArg _ e1) e2

/-- The gradient at the block's input, at the whole array. -/
theorem dx_row [Cert.Pre_finite_ffnin.Facts] (h : Cert.Pre_FfnInIdeal_finite_ffnin m) (c : Dev nD) (t : Fin cfg0.N) (y : S256x1024.Idx) :
    (k0_pay13 (F := Ideal) (k0_pay6 (iblk m c 5 t)) (k0_pay7 (iblk m c 5 t)) (k0_pay10 (iblk m c 0 t) (iblk m c 2 t) (iblk m c 1 t) (iblk m c 3 t) (iblk m c 9 t) (iblk m c 8 t))
      (k0_pay11 (iblk m c 0 t) (iblk m c 2 t) (iblk m c 1 t) (iblk m c 3 t) (iblk m c 5 t) (iblk m c 9 t) (iblk m c 8 t)) (iblk m c 4 t) y : EReal)
      = Cert.FfnInRefIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (ix2 ⟨t.val * 256 + (y 0).val, rowlt t (y 0)⟩ (y 1)) := by
  refine Eq.trans ?_ ((congrArg (HAdd.hAdd (α := EReal) (β := EReal) (γ := EReal) _) (row_grad (fun k => (Cert.FfnInRefIdeal.Read.val_main_v9 (F := Ideal) (m ((c : Thread nD τ).loc main_arg3)) (m ((c : Thread nD τ).loc main_arg4)) (m ((c : Thread nD τ).loc main_arg5)) (ix2 ⟨t.val * 256 + (y 0).val, rowlt t (y 0)⟩ k) : EReal)) (fun k => (Cert.FfnInRefIdeal.Read.val_main_v47 (F := Ideal) (m ((c : Thread nD τ).loc main_arg1)) (m ((c : Thread nD τ).loc main_arg2)) (m ((c : Thread nD τ).loc main_arg6)) (m ((c : Thread nD τ).loc main_arg7)) (m ((c : Thread nD τ).loc main_arg9)) (m ((c : Thread nD τ).loc main_arg10)) (ix2 ⟨t.val * 256 + (y 0).val, rowlt t (y 0)⟩ k) : EReal)) (fun i => x1_real m h c _) (fun i => dxhat_real m h c _) (y 1))).trans
    (dx_ref m c ⟨t.val * 256 + (y 0).val, rowlt t (y 0)⟩ (y 1) _ rfl).symm)
  have e0 := rstd_row m c t (y 0)
  have e1 := fun a => dxhat_row m c t a
  have e2 := fun a => xhat_mul m c t a
  have e3 := fun a => pair_row m c t a
  pointwise [k0_pay13]
  exact congr (congrArg _ (congrFun (blk4 m c t) y)) (congr (congrArg _ e0) (congr (congrArg _ (e1 y)) (congr (congrArg _ (e2 y))
    (congr (congrArg Ideal.div (Finset.sum_congr rfl fun k _ => e3 (ix2 (y 0) k))) rfl))))

theorem dy_row [Cert.Pre_finite_ffnin.Facts] (h : Cert.Pre_FfnInIdeal_finite_ffnin m) (c : Dev nD) (t : Fin cfg0.N) (y : S256x1024.Idx) :
    (k0_pay14 (F := Ideal) (k0_pay6 (iblk m c 5 t)) (k0_pay7 (iblk m c 5 t)) (k0_pay10 (iblk m c 0 t) (iblk m c 2 t) (iblk m c 1 t) (iblk m c 3 t) (iblk m c 9 t) (iblk m c 8 t)) (k0_pay11 (iblk m c 0 t) (iblk m c 2 t) (iblk m c 1 t) (iblk m c 3 t) (iblk m c 5 t) (iblk m c 9 t) (iblk m c 8 t)) (iblk m c 4 t) (iblk m c 7 t) y : EReal) = Cert.FfnInRefIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (ix2 ⟨t.val * 256 + (y 0).val, rowlt t (y 0)⟩ (y 1)) := by
  have e := dx_row m h c t y
  rw [blk7]
  pointwise [k0_pay14, Cert.FfnInRefIdeal.Read.val_main_v71, Cert.FfnInRefIdeal.Read.val_main_v65, Cert.FfnInRefIdeal.Read.val_main_v64, Cert.FfnInRefIdeal.Read.val_main_v63, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
  exact congrArg _ e

theorem final_10 [Cert.Pre_finite_ffnin.Facts] (h : Cert.Pre_FfnInIdeal_finite_ffnin m) (c : Dev nD) : (dats m 0 c).arrAt 10 (cfgs 0).N = Cert.FfnInRefIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) := by
  refine (dats m 0 c).arrAt_eq_of_covers 10 _ (by decide +kernel) fun t hf y => ?_
  blk_simp
  rw [after0_10]
  refine Eq.trans ?_ ((dx_row m h c t y).trans (congrArg _ (funext fun a => ?_)))
  · by_cases h0 : t.val % 32 = 0
    · rw [outsAt0_A m c t h0]
      frame_out
    · rw [outsAt0_B m c t h0]
      frame_out
  · fin_cases a
    · exact Fin.ext ((win0_10.rect_emb_val t y 0).trans (by rw [(idx t).2.2.2.2.2.2.2.2.2.2.1]; rfl)).symm
    · exact Fin.ext ((win0_10.rect_emb_val t y 1).trans (by rw [(idx t).2.2.2.2.2.2.2.2.2.2.1]; exact Nat.zero_add _)).symm

theorem final_11 [Cert.Pre_finite_ffnin.Facts] (h : Cert.Pre_FfnInIdeal_finite_ffnin m) (c : Dev nD) : (dats m 0 c).arrAt 11 (cfgs 0).N = Cert.FfnInRefIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) := by
  refine (dats m 0 c).arrAt_eq_of_covers 11 _ (by decide +kernel) fun t hf y => ?_
  blk_simp
  rw [after0_11]
  refine Eq.trans ?_ ((dy_row m h c t y).trans (congrArg _ (funext fun a => ?_)))
  · by_cases h0 : t.val % 32 = 0
    · rw [outsAt0_A m c t h0]
      frame_out
    · rw [outsAt0_B m c t h0]
      frame_out
  · fin_cases a
    · exact Fin.ext ((win0_11.rect_emb_val t y 0).trans (by rw [(idx t).2.2.2.2.2.2.2.2.2.2.2.1]; rfl)).symm
    · exact Fin.ext ((win0_11.rect_emb_val t y 1).trans (by rw [(idx t).2.2.2.2.2.2.2.2.2.2.2.1]; exact Nat.zero_add _)).symm

/-- A row's terms of the four running sums. -/
def term (c : Dev nD) (n : Fin 8192) (q : Fin 1024) : Fin 8 → EReal
  | 0 => (Cert.FfnInRefIdeal.Read.val_main_v35 (F := Ideal) (m ((c : Thread nD τ).loc main_arg1)) (m ((c : Thread nD τ).loc main_arg2)) (m ((c : Thread nD τ).loc main_arg9)) (m ((c : Thread nD τ).loc main_arg10)) (ix2 n q) : EReal)
  | 1 => (Cert.FfnInRefIdeal.Read.val_main_v24 (F := Ideal) (m ((c : Thread nD τ).loc main_arg3)) (m ((c : Thread nD τ).loc main_arg4)) (m ((c : Thread nD τ).loc main_arg5)) (m ((c : Thread nD τ).loc main_arg6)) (ix2 n q) : EReal) * (Cert.FfnInRefIdeal.Read.val_main_v35 (F := Ideal) (m ((c : Thread nD τ).loc main_arg1)) (m ((c : Thread nD τ).loc main_arg2)) (m ((c : Thread nD τ).loc main_arg9)) (m ((c : Thread nD τ).loc main_arg10)) (ix2 n q) : EReal)
  | 2 => (Cert.FfnInRefIdeal.Read.val_main_v22 (F := Ideal) (m ((c : Thread nD τ).loc main_arg3)) (m ((c : Thread nD τ).loc main_arg4)) (m ((c : Thread nD τ).loc main_arg5)) (ix2 n q) : EReal) * (Cert.FfnInRefIdeal.Read.val_main_v42 (F := Ideal) (m ((c : Thread nD τ).loc main_arg1)) (m ((c : Thread nD τ).loc main_arg2)) (m ((c : Thread nD τ).loc main_arg7)) (m ((c : Thread nD τ).loc main_arg9)) (m ((c : Thread nD τ).loc main_arg10)) (ix2 n q) : EReal)
  | 3 => (Cert.FfnInRefIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (ix2 n q) : EReal) * (m ((c : Thread nD τ).loc main_arg4)) (ix2 n q)
  | _ => 0

theorem step0 [Cert.Pre_finite_ffnin.Facts] (h : Cert.Pre_FfnInIdeal_finite_ffnin m) (c : Dev nD) (t : Fin cfg0.N) (a : S1x1024.Idx → EReal) (q : Fin 1024) :
    (k0_pay15 (F := Ideal) (k0_pay4 (iblk m c 0 t) (iblk m c 2 t) (iblk m c 1 t) (iblk m c 3 t)) a (ix2 0 q) : EReal) = a (ix2 0 q) + ∑ k : Fin 256, term m c ⟨t.val * 256 + k.val, rowlt t k⟩ q 0 := by
  pointwise [k0_pay15]
  exact congrArg (a (ix2 0 q) + ·) (Finset.sum_congr rfl fun k _ => dh_row m c t (ix2 k q))

theorem step1 [Cert.Pre_finite_ffnin.Facts] (h : Cert.Pre_FfnInIdeal_finite_ffnin m) (c : Dev nD) (t : Fin cfg0.N) (a : S1x1024.Idx → EReal) (q : Fin 1024) :
    (k0_pay16 (F := Ideal) (k0_pay4 (iblk m c 0 t) (iblk m c 2 t) (iblk m c 1 t) (iblk m c 3 t)) (k0_pay8 (iblk m c 5 t) (iblk m c 8 t)) a (ix2 0 q) : EReal) = a (ix2 0 q) + ∑ k : Fin 256, term m c ⟨t.val * 256 + k.val, rowlt t k⟩ q 1 := by
  pointwise [k0_pay16]
  exact congrArg (a (ix2 0 q) + ·) (Finset.sum_congr rfl fun k _ => (congr (congrArg _ (dh_row m c t (ix2 k q))) (norm_row m c t (ix2 k q))).trans (mul_comm _ _))

theorem step2 [Cert.Pre_finite_ffnin.Facts] (h : Cert.Pre_FfnInIdeal_finite_ffnin m) (c : Dev nD) (t : Fin cfg0.N) (a : S1x1024.Idx → EReal) (q : Fin 1024) :
    (k0_pay1 (F := Ideal) (k0_pay12 (k0_pay7 (iblk m c 5 t)) (k0_pay9 (iblk m c 0 t) (iblk m c 2 t) (iblk m c 1 t) (iblk m c 3 t) (iblk m c 9 t))) a (ix2 0 q) : EReal) = a (ix2 0 q) + ∑ k : Fin 256, term m c ⟨t.val * 256 + k.val, rowlt t k⟩ q 2 := by
  pointwise [k0_pay1, k0_pay12]
  exact congrArg (a (ix2 0 q) + ·) (Finset.sum_congr rfl fun k _ => (congr (congrArg _ (dnorm_row m c t (ix2 k q))) (xhat_row m c t (ix2 k q))).trans (mul_comm _ _))

theorem step3 [Cert.Pre_finite_ffnin.Facts] (h : Cert.Pre_FfnInIdeal_finite_ffnin m) (c : Dev nD) (t : Fin cfg0.N) (a : S1x1024.Idx → EReal) (q : Fin 1024) :
    (k0_pay2 (F := Ideal) (k0_pay13 (k0_pay6 (iblk m c 5 t)) (k0_pay7 (iblk m c 5 t)) (k0_pay10 (iblk m c 0 t) (iblk m c 2 t) (iblk m c 1 t) (iblk m c 3 t) (iblk m c 9 t) (iblk m c 8 t)) (k0_pay11 (iblk m c 0 t) (iblk m c 2 t) (iblk m c 1 t) (iblk m c 3 t) (iblk m c 5 t) (iblk m c 9 t) (iblk m c 8 t)) (iblk m c 4 t)) a (iblk m c 6 t) (ix2 0 q) : EReal) = a (ix2 0 q) + ∑ k : Fin 256, term m c ⟨t.val * 256 + k.val, rowlt t k⟩ q 3 := by
  pointwise [k0_pay2]
  exact congrArg (a (ix2 0 q) + ·) (Finset.sum_congr rfl fun k _ => congr (congrArg _ (dx_row m h c t (ix2 k q))) (congrFun (blk6 m c t) (ix2 k q)))

/-- Running row 0. -/
def row0 (c : Dev nD) (t : Fin cfg0.N) : Stage.Row (Elt Ideal) 8 1024 .f32 := ⟨0, inb_S8x1024_S1x1024_0_0, fun a => k0_pay15 (F := Ideal) (k0_pay4 (iblk m c 0 t) (iblk m c 2 t) (iblk m c 1 t) (iblk m c 3 t)) a⟩

/-- Running row 1. -/
def row1 (c : Dev nD) (t : Fin cfg0.N) : Stage.Row (Elt Ideal) 8 1024 .f32 := ⟨1, inb_S8x1024_S1x1024_1_0, fun a => k0_pay16 (F := Ideal) (k0_pay4 (iblk m c 0 t) (iblk m c 2 t) (iblk m c 1 t) (iblk m c 3 t)) (k0_pay8 (iblk m c 5 t) (iblk m c 8 t)) a⟩

/-- Running row 2. -/
def row2 (c : Dev nD) (t : Fin cfg0.N) : Stage.Row (Elt Ideal) 8 1024 .f32 := ⟨2, inb_S8x1024_S1x1024_2_0, fun a => k0_pay1 (F := Ideal) (k0_pay12 (k0_pay7 (iblk m c 5 t)) (k0_pay9 (iblk m c 0 t) (iblk m c 2 t) (iblk m c 1 t) (iblk m c 3 t) (iblk m c 9 t))) a⟩

/-- Running row 3. -/
def row3 (c : Dev nD) (t : Fin cfg0.N) : Stage.Row (Elt Ideal) 8 1024 .f32 := ⟨3, inb_S8x1024_S1x1024_3_0, fun a => k0_pay2 (F := Ideal) (k0_pay13 (k0_pay6 (iblk m c 5 t)) (k0_pay7 (iblk m c 5 t)) (k0_pay10 (iblk m c 0 t) (iblk m c 2 t) (iblk m c 1 t) (iblk m c 3 t) (iblk m c 9 t) (iblk m c 8 t)) (k0_pay11 (iblk m c 0 t) (iblk m c 2 t) (iblk m c 1 t) (iblk m c 3 t) (iblk m c 5 t) (iblk m c 9 t) (iblk m c 8 t)) (iblk m c 4 t)) a (iblk m c 6 t)⟩

/-- The four running rows, the latest stored first. -/
def rows (c : Dev nD) (t : Fin cfg0.N) : List (Stage.Row (Elt Ideal) 8 1024 .f32) := [row3 m c t, row2 m c t, row1 m c t, row0 m c t]

theorem cases8 : ∀ r : Fin 8, r = 0 ∨ r = 1 ∨ r = 2 ∨ r = 3 ∨ (3 ≠ r.val ∧ 2 ≠ r.val ∧ 1 ≠ r.val ∧ 0 ≠ r.val) := by decide

theorem rest (c : Dev nD) (t : Fin cfg0.N) (r : Fin 8) (h : 3 ≠ r.val ∧ 2 ≠ r.val ∧ 1 ≠ r.val ∧ 0 ≠ r.val) : ∀ p ∈ rows m c t, p.k ≠ r.val := by
  intro p hp
  simp only [rows, List.mem_cons, List.not_mem_nil, or_false] at hp
  rcases hp with rfl | rfl | rfl | rfl
  · exact h.1
  · exact h.2.1
  · exact h.2.2.1
  · exact h.2.2.2

theorem term_rest (c : Dev nD) (n : Fin 8192) (q : Fin 1024) : ∀ r : Fin 8, 3 ≠ r.val ∧ 2 ≠ r.val ∧ 1 ≠ r.val ∧ 0 ≠ r.val → term m c n q r = 0
  | 0, h => absurd rfl h.2.2.2
  | 1, h => absurd rfl h.2.2.1
  | 2, h => absurd rfl h.2.1
  | 3, h => absurd rfl h.1
  | 4, _ => rfl
  | 5, _ => rfl
  | 6, _ => rfl
  | 7, _ => rfl

theorem rows_nodup (c : Dev nD) (t : Fin cfg0.N) : ((rows m c t).map Stage.Row.k).Nodup :=
  (by decide : [3, 2, 1, 0].Nodup)

theorem stats_reset [Cert.Pre_finite_ffnin.Facts] (h : Cert.Pre_FfnInIdeal_finite_ffnin m) (c : Dev nD) (t : Fin cfg0.N) (h0 : t.val % 32 = 0) (r : Fin 8) (q : Fin 1024) :
    (outsAt0 m c t.val t.isLt).2.2 (ix2 r q) = (0 : EReal) + ∑ k : Fin 256, term m c ⟨t.val * 256 + k.val, rowlt t k⟩ q r := by
  rw [outsAt0_A m c t h0]
  frame_out
  have hZ : ∀ x, (k0_pay3 (F := Ideal) x : EReal) = 0 := fun x => by pointwise [k0_pay3]
  suffices H : View.canon (Stage.fresh (ms0_12 t).view (k0_pay3 (F := Ideal)) inb_S8x1024_S8x1024_0_0 (rows m c t)) (ix2 r q)
      = (0 : EReal) + ∑ k : Fin 256, term m c ⟨t.val * 256 + k.val, rowlt t k⟩ q r by
    simp only [rows, Stage.fresh, row0, row1, row2, row3] at H
    exact H
  rcases cases8 r with rfl | rfl | rfl | rfl | hr
  · exact (Stage.fresh_hit _ _ _ hZ _ 0 q (row0 m c t) rfl _ (rows_nodup m c t) (List.mem_cons_of_mem _ (List.mem_cons_of_mem _ (List.mem_cons_of_mem _ List.mem_cons_self)))).trans (step0 m h c t _ q)
  · exact (Stage.fresh_hit _ _ _ hZ _ 1 q (row1 m c t) rfl _ (rows_nodup m c t) (List.mem_cons_of_mem _ (List.mem_cons_of_mem _ List.mem_cons_self))).trans (step1 m h c t _ q)
  · exact (Stage.fresh_hit _ _ _ hZ _ 2 q (row2 m c t) rfl _ (rows_nodup m c t) (List.mem_cons_of_mem _ List.mem_cons_self)).trans (step2 m h c t _ q)
  · exact (Stage.fresh_hit _ _ _ hZ _ 3 q (row3 m c t) rfl _ (rows_nodup m c t) (List.mem_cons_self)).trans (step3 m h c t _ q)
  · refine (Stage.fresh_miss _ _ _ hZ _ r q (rows m c t) (rest m c t r hr)).trans ?_
    simp only [term_rest m c _ q r hr, Finset.sum_const_zero, add_zero]

theorem stats_step [Cert.Pre_finite_ffnin.Facts] (h : Cert.Pre_FfnInIdeal_finite_ffnin m) (c : Dev nD) (t : Fin cfg0.N) (h0 : ¬ t.val % 32 = 0) (r : Fin 8) (q : Fin 1024) :
    (outsAt0 m c t.val t.isLt).2.2 (ix2 r q) = ((outsAt0 m c (t.val - 1) (by omega)).2.2 (ix2 r q) : EReal)
      + ∑ k : Fin 256, term m c ⟨t.val * 256 + k.val, rowlt t k⟩ q r := by
  rw [outsAt0_B m c t h0]
  frame_out
  generalize (outsAt0 m c (t.val - 1) (by omega)).2.2 = g
  change View.read (Elt Ideal) (ms0_12 t).view ((ms0_12 t).view.writes (Elt Ideal) (Memref.IsWhole.unread _ g) (Stage.over g (rows m c t))) (ix2 r q) = _
  rcases cases8 r with rfl | rfl | rfl | rfl | hr
  · exact (Stage.over_hit _ g 0 q _ (row0 m c t) rfl _ (rows_nodup m c t) (List.mem_cons_of_mem _ (List.mem_cons_of_mem _ (List.mem_cons_of_mem _ List.mem_cons_self)))).trans (step0 m h c t _ q)
  · exact (Stage.over_hit _ g 1 q _ (row1 m c t) rfl _ (rows_nodup m c t) (List.mem_cons_of_mem _ (List.mem_cons_of_mem _ List.mem_cons_self))).trans (step1 m h c t _ q)
  · exact (Stage.over_hit _ g 2 q _ (row2 m c t) rfl _ (rows_nodup m c t) (List.mem_cons_of_mem _ List.mem_cons_self)).trans (step2 m h c t _ q)
  · exact (Stage.over_hit _ g 3 q _ (row3 m c t) rfl _ (rows_nodup m c t) (List.mem_cons_self)).trans (step3 m h c t _ q)
  · refine (Stage.over_miss _ g r q _ (Memref.IsWhole.read_unread _ _) (rows m c t) (rest m c t r hr)).trans ?_
    simp only [term_rest m c _ q r hr, Finset.sum_const_zero, add_zero]

theorem rows_ref (c : Dev nD) (r : Fin 8) (q : Fin 1024) : ∑ n : Fin 8192, term m c n q r = (Cert.FfnInRefIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (ix2 r q) : EReal) := by
  rcases cases8 r with rfl | rfl | rfl | rfl | hr
  · pointwise [Cert.FfnInRefIdeal.Read.val_main_v70, Cert.FfnInRefIdeal.Read.val_main_v37, Cert.FfnInRefIdeal.Read.val_main_v36, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
    rfl
  · pointwise [Cert.FfnInRefIdeal.Read.val_main_v70, Cert.FfnInRefIdeal.Read.val_main_v40, Cert.FfnInRefIdeal.Read.val_main_v39, Cert.FfnInRefIdeal.Read.val_main_v38, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
    rfl
  · pointwise [Cert.FfnInRefIdeal.Read.val_main_v70, Cert.FfnInRefIdeal.Read.val_main_v45, Cert.FfnInRefIdeal.Read.val_main_v44, Cert.FfnInRefIdeal.Read.val_main_v43, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
    rfl
  · pointwise [Cert.FfnInRefIdeal.Read.val_main_v70, Cert.FfnInRefIdeal.Read.val_main_v68, Cert.FfnInRefIdeal.Read.val_main_v67, Cert.FfnInRefIdeal.Read.val_main_v66, Cert.FfnInRefIdeal.Read.val_main_v63, Cert.FfnInRefIdeal.Read.val_main_v2, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
    rfl
  · simp only [term_rest m c _ q r hr, Finset.sum_const_zero]
    pointwise [Cert.FfnInRefIdeal.Read.val_main_v70, Cert.FfnInRefIdeal.Read.val_main_v69, Cert.FfnInRefIdeal.Read.val_main_cst, Cert.FfnInRefIdeal.Read.val_main_cst_0, Cert.FfnInRefIdeal.Read.val_main_cst_1, Cert.FfnInRefIdeal.Read.val_main_cst_2, Cert.FfnInRefIdeal.Read.val_main_cst_3, Cert.FfnInRefIdeal.Read.val_main_cst_4, Cert.FfnInRefIdeal.Read.val_main_cst_5, Cert.FfnInRefIdeal.Read.val_main_cst_6, Cert.FfnInRefIdeal.Read.val_main_cst_7, Cert.FfnInRefIdeal.Read.val_main_cst_8, Cert.FfnInRefIdeal.Read.val_main_cst_9, Cert.FfnInRefIdeal.Read.val_main_cst_10, Cert.FfnInRefIdeal.Read.val_main_cst_11]
    rw [dif_neg (by omega), dif_neg (by omega), dif_neg (by omega), dif_neg (by omega)]

/-- The last point. -/
abbrev tlast : Fin cfg0.N := ⟨31, (by decide +kernel : 31 < grid0.N)⟩

theorem final_12 [Cert.Pre_finite_ffnin.Facts] (h : Cert.Pre_FfnInIdeal_finite_ffnin m) (c : Dev nD) : (dats m 0 c).arrAt 12 (cfgs 0).N = Cert.FfnInRefIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) := by
  refine (dats m 0 c).arrAt_eq_of_after_last 12 tlast (by decide +kernel) _ fun j => ?_
  blk_simp
  obtain ⟨r, q, rfl⟩ : ∃ (r : Fin 8) (q : Fin 1024), j = ix2 r q := ⟨j 0, j 1, by funext a; fin_cases a <;> rfl⟩
  rw [after0_12, Pipeline.eq_sum_fin_of_reset_step_apply_last (fun n h => fun y : S8x1024.Idx => ((outsAt0 m c n h).2.2 y : EReal)) 32 (fun _ => 0)
    (fun t y => ∑ k : Fin 256, term m c ⟨t.val * 256 + k.val, rowlt t k⟩ (y 1) (y 0))
    (fun t h0 j => by
      obtain ⟨r, q, rfl⟩ : ∃ (r : Fin 8) (q : Fin 1024), j = ix2 r q := ⟨j 0, j 1, by funext a; fin_cases a <;> rfl⟩
      exact stats_reset m h c t h0 r q)
    (fun t h0 j => by
      obtain ⟨r, q, rfl⟩ : ∃ (r : Fin 8) (q : Fin 1024), j = ix2 r q := ⟨j 0, j 1, by funext a; fin_cases a <;> rfl⟩
      exact stats_step m h c t h0 r q)
    (le_of_eq N_0) tlast rfl (ix2 r q), zero_add, ← rows_ref]
  refine Fin.sum_mul_add_congr fun s k hl => rfl
-- ==== Proof.FfnInClaims.lean ====
/- Hand-written, untrusted: the claims about the feed-forward block's input-side gradients (`ffn_bwd_in`). -/
module

public import proofs.«01_k».proof.Proof.FfnInValue
public import proofs.«01_k».proof.Proof.Gen.FfnIn.Frame
public import proofs.«01_k».proof.Proof.Gen.FfnInRefIdeal.Run
public import Idealize.ShloMosaic.Lib.Claim
public import Idealize.ShloMosaic.Lib.Quiescent

@[expose] public section

set_option maxRecDepth 16384

noncomputable section

namespace Cert.FfnInClaims

open Idealize.ShloMosaic Idealize.SL.Sem

theorem pre_facts : Cert.Pre_finite_ffnin.Facts :=
  ⟨by decide, by decide, by decide, by decide⟩

theorem kernel : Cert.quiescent_FfnIn := fun m g _ => Cert.FfnIn.Gen.frame m g
theorem ideal : Cert.quiescent_FfnInIdeal := fun m g _ => Cert.FfnInIdeal.Gen.frame m g
theorem ideal_pre [Cert.Pre_finite_ffnin.Facts] : Cert.quiescent_FfnInIdeal_pre_finite_ffnin := fun m g _ => Cert.FfnInIdeal.Gen.frame m g
theorem reference : Cert.quiescent_FfnInRefIdeal := by
  intro m g _
  run_from Cert.FfnInRefIdeal.Value.run m g
  · exact fun _ => ⟨trivial, trivial, trivial, trivial, trivial, trivial, trivial, trivial, trivial, trivial, trivial⟩
  · exact sem_eq_zero_of_no_sems (sig := Cert.FfnInRefIdeal.sig) (by decide) _
theorem reference_pre [Cert.Pre_finite_ffnin.Facts] : Cert.quiescent_FfnInRefIdeal_pre_finite_ffnin := fun m g _ => reference m g trivial

set_option maxHeartbeats 4000000 in
theorem value [Cert.Pre_finite_ffnin.Facts] : Cert.algebraic_FfnInIdeal_FfnInRefIdeal_pre_finite_ffnin := by
  pair_intro
  · run_from Cert.FfnInIdeal.Gen.run_main m g
  · run_from Cert.FfnInRefIdeal.Value.run m' g'
    · rw [Cert.FfnInRefIdeal.Read.val_main_v62_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.1, (hagree c).2.2.2.2.2.2.2.2.2.2, Cert.FfnInIdeal.Value.final_10 m hpre c]
    · rw [Cert.FfnInRefIdeal.Read.val_main_v71_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.1, (hagree c).2.2.2.2.2.2.2.2.2.2, Cert.FfnInIdeal.Value.final_11 m hpre c]
    · rw [Cert.FfnInRefIdeal.Read.val_main_v70_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.1, (hagree c).2.2.2.2.2.2.2.2.2.2, Cert.FfnInIdeal.Value.final_12 m hpre c]

end Cert.FfnInClaims

end
-- ==== Proof.ProjValue.lean ====
/- Hand-written, untrusted: the input projection's gradients through the first norm (`inproj_bwd`). -/
module

public import proofs.«01_k».proof.Defs
public import proofs.«01_k».proof.Proof.Norms
public import proofs.«01_k».proof.Proof.Stage
public import proofs.«01_k».proof.Proof.Gen.ProjIdeal.Value
public import proofs.«01_k».proof.Proof.Gen.ProjRefIdeal.Read
public import Idealize.ShloMosaic.Lib.Pipeline.ValueKit
public import Idealize.ShloMosaic.Lib.Pointwise

@[expose] public section

set_option maxRecDepth 16384

noncomputable section

namespace Cert.ProjIdeal.Value

open Cert.ProjIdeal Cert.ProjIdeal.Gen Cert.Reals Cert.Norms Idealize.ShloMosaic Idealize.ShloMosaic.TcCoe Idealize.SL.Sem
open Idealize.ShloMosaic.Pipeline (Dat)

variable (m : (ℓ : Loc nD τ sig) → Buf (Elt Ideal) ℓ)

/-- The block each window shows at each point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![t.val, 0]
    ∧ win0_8.index t = ![t.val, 0]
    ∧ win0_9.index t = ![0, 0]
    ∧ win0_10.index t = ![0, 0]
    ∧ win0_11.index t = ![t.val, 0]
    ∧ win0_12.index t = ![0, 0] :=
  (by decide +kernel : ∀ t : Fin grid0.N, _)

/-- The arrays that have to be real are. -/
theorem reals [Cert.Pre_finite_proj.Facts] (h : Cert.Pre_ProjIdeal_finite_proj m) (c : Dev nD) :
    (∀ a, IsReal ((m ((c : Thread nD τ).loc main_arg0)) a))
      ∧ (∀ a, IsReal ((m ((c : Thread nD τ).loc main_arg1)) a))
      ∧ (∀ a, IsReal ((m ((c : Thread nD τ).loc main_arg2)) a))
      ∧ (∀ a, IsReal ((m ((c : Thread nD τ).loc main_arg3)) a))
      ∧ (∀ a, IsReal ((m ((c : Thread nD τ).loc main_arg4)) a))
      ∧ (∀ a, IsReal ((m ((c : Thread nD τ).loc main_arg5)) a))
      ∧ (∀ a, IsReal ((m ((c : Thread nD τ).loc main_arg6)) a))
      ∧ (∀ a, IsReal ((m ((c : Thread nD τ).loc main_arg7)) a))
      ∧ (∀ a, IsReal ((m ((c : Thread nD τ).loc main_arg9)) a))
      ∧ (∀ a, IsReal ((m ((c : Thread nD τ).loc main_arg10)) a)) := by
  have h0 := congrFun (h c).1
  have h1 := congrFun (h c).2.1
  have h2 := congrFun (h c).2.2.1
  have h3 := congrFun (h c).2.2.2.1
  have h4 := congrFun (h c).2.2.2.2.1
  have h5 := congrFun (h c).2.2.2.2.2.1
  have h6 := congrFun (h c).2.2.2.2.2.2.1
  have h7 := congrFun (h c).2.2.2.2.2.2.2.1
  have h8 := congrFun (h c).2.2.2.2.2.2.2.2.1
  have h9 := congrFun (h c).2.2.2.2.2.2.2.2.2
  pointwise [Cert.Pre_finite_proj.fn] at h0 h1 h2 h3 h4 h5 h6 h7 h8 h9
  exact ⟨fun a => isReal_of_f32 (h0 a), fun a => isReal_of_f32 (h1 a), fun a => isReal_of_f32 (h2 a), fun a => isReal_of_f32 (h3 a), fun a => isReal_of_f32 (h4 a), fun a => isReal_of_f32 (h5 a), fun a => isReal_of_bf16 (h6 a), fun a => isReal_of_f32 (h7 a), fun a => isReal_of_f32 (h8 a), fun a => isReal_of_f32 (h9 a)⟩

theorem rowlt (t : Fin cfg0.N) (p : Fin 512) : t.val * 512 + p.val < 8192 := by
  have h : t.val < 16 := t.isLt
  omega

theorem blk0 (c : Dev nD) (t : Fin cfg0.N) : iblk m c 0 t = fun y : S512x512.Idx => (m ((c : Thread nD τ).loc main_arg0)) (ix2 ⟨t.val * 512 + (y 0).val, rowlt t (y 0)⟩ (y 1)) := by
  funext y
  blk_point [iblk, V, idx t]
theorem blk1 (c : Dev nD) (t : Fin cfg0.N) : iblk m c 1 t = fun y : S512x512.Idx => (m ((c : Thread nD τ).loc main_arg1)) (ix2 ⟨t.val * 512 + (y 0).val, rowlt t (y 0)⟩ (y 1)) := by
  funext y
  blk_point [iblk, V, idx t]
theorem blk2 (c : Dev nD) (t : Fin cfg0.N) : iblk m c 2 t = fun y : S512x512.Idx => (m ((c : Thread nD τ).loc main_arg2)) (ix2 ⟨t.val * 512 + (y 0).val, rowlt t (y 0)⟩ (y 1)) := by
  funext y
  blk_point [iblk, V, idx t]
theorem blk3 (c : Dev nD) (t : Fin cfg0.N) : iblk m c 3 t = fun y : S512x1536.Idx => (m ((c : Thread nD τ).loc main_arg3)) (ix2 ⟨t.val * 512 + (y 0).val, rowlt t (y 0)⟩ (y 1)) := by
  funext y
  blk_point [iblk, V, idx t]
theorem blk4 (c : Dev nD) (t : Fin cfg0.N) : iblk m c 4 t = fun y : S512x512.Idx => (m ((c : Thread nD τ).loc main_arg4)) (ix2 ⟨t.val * 512 + (y 0).val, rowlt t (y 0)⟩ (y 1)) := by
  funext y
  blk_point [iblk, V, idx t]
theorem host0 (c : Dev nD) : V m c main_v0 = pad S3712x1024 ![0, 0] ![112, 0] ![0, 0] ((m ((c : Thread nD τ).loc main_arg6)) : FVec Ideal S3600x1024 .bf16) (sitofp (F := Ideal) .bf16 (constantI S_ 32 0#32)) pads_S3600x1024_S3712x1024_01120_000 := by
  simp only [V, hostOps0, hostOps0_1, hostOps0_2, hostOps0_3, List.flatten_cons, List.flatten_nil, List.cons_append, List.nil_append, List.append_nil]
  after_results
  rfl
theorem host1 (c : Dev nD) : V m c main_v1 = pad S8192x128 ![0, 0] ![0, 112] ![0, 0] ((m ((c : Thread nD τ).loc main_arg5)) : FVec Ideal S8192x16 .f32) (sitofp (F := Ideal) .f32 (constantI S_ 32 0#32)) pads_S8192x16_S8192x128_000_01120 := by
  simp only [V, hostOps0, hostOps0_1, hostOps0_2, hostOps0_3, List.flatten_cons, List.flatten_nil, List.cons_append, List.nil_append, List.append_nil]
  after_results
  rfl
theorem pad1_at (x : S8192x16.Idx → EReal) (z : S8192x128.Idx) : (pad S8192x128 ![0, 0] ![0, 112] ![0, 0] (x : FVec Ideal S8192x16 .f32) (sitofp (F := Ideal) .f32 (constantI S_ 32 0#32)) pads_S8192x16_S8192x128_000_01120 : S8192x128.Idx → EReal) z = @dite EReal ((z 1).val < 16) _ (fun h => x (ix2 (z 0) ⟨(z 1).val, h⟩)) (fun _ => 0) := by
  pointwise [FloatOps.sitofp]
  try norm_num
  try rfl
theorem host1_at (c : Dev nD) (z : S8192x128.Idx) : V m c main_v1 z = @dite EReal ((z 1).val < 16) _ (fun h => (m ((c : Thread nD τ).loc main_arg5)) (ix2 (z 0) ⟨(z 1).val, h⟩)) (fun _ => 0) := by
  exact (congrFun (host1 m c) z).trans (pad1_at _ z)
theorem blk5 (c : Dev nD) (t : Fin cfg0.N) : iblk m c 5 t = fun y : S512x128.Idx => @dite EReal ((y 1).val < 16) _ (fun h => (m ((c : Thread nD τ).loc main_arg5)) (ix2 ⟨t.val * 512 + (y 0).val, rowlt t (y 0)⟩ ⟨(y 1).val, h⟩)) (fun _ => 0) := by
  funext (y : S512x128.Idx)
  have e : ((cfg0.win 5).blk t).view.emb y = ix2 ⟨t.val * 512 + (y 0).val, rowlt t (y 0)⟩ (y 1) := funext fun a => by
    fin_cases a
    · exact Fin.ext ((win0_5.rect_emb_val t y 0).trans (by rw [(idx t).2.2.2.2.2.1]; rfl))
    · exact Fin.ext ((win0_5.rect_emb_val t y 1).trans (by rw [(idx t).2.2.2.2.2.1]; exact Nat.zero_add _))
  exact (congrArg (V m c main_v1) e).trans (host1_at m c _)
theorem pad0_at (x : S3600x1024.Idx → EReal) (z : S3712x1024.Idx) : (pad S3712x1024 ![0, 0] ![112, 0] ![0, 0] (x : FVec Ideal S3600x1024 .bf16) (sitofp (F := Ideal) .bf16 (constantI S_ 32 0#32)) pads_S3600x1024_S3712x1024_01120_000 : S3712x1024.Idx → EReal) z = @dite EReal ((z 0).val < 3600) _ (fun h => x (ix2 ⟨(z 0).val, h⟩ (z 1))) (fun _ => 0) := by
  pointwise [FloatOps.sitofp]
  try norm_num
  try rfl
theorem host0_at (c : Dev nD) (z : S3712x1024.Idx) : V m c main_v0 z = @dite EReal ((z 0).val < 3600) _ (fun h => (m ((c : Thread nD τ).loc main_arg6)) (ix2 ⟨(z 0).val, h⟩ (z 1))) (fun _ => 0) := by
  exact (congrFun (host0 m c) z).trans (pad0_at _ z)
theorem blk6 (c : Dev nD) (t : Fin cfg0.N) : iblk m c 6 t = fun y : S3712x1024.Idx => @dite EReal ((y 0).val < 3600) _ (fun h => (m ((c : Thread nD τ).loc main_arg6)) (ix2 ⟨(y 0).val, h⟩ (y 1))) (fun _ => 0) := by
  funext (y : S3712x1024.Idx)
  have e : ((cfg0.win 6).blk t).view.emb y = ix2 (y 0) (y 1) := funext fun a => by
    fin_cases a
    · exact Fin.ext ((win0_6.rect_emb_val t y 0).trans (by rw [(idx t).2.2.2.2.2.2.1]; exact Nat.zero_add _))
    · exact Fin.ext ((win0_6.rect_emb_val t y 1).trans (by rw [(idx t).2.2.2.2.2.2.1]; exact Nat.zero_add _))
  exact (congrArg (V m c main_v0) e).trans (host0_at m c _)
theorem blk7 (c : Dev nD) (t : Fin cfg0.N) : iblk m c 7 t = fun y : S512x1024.Idx => (m ((c : Thread nD τ).loc main_arg7)) (ix2 ⟨t.val * 512 + (y 0).val, rowlt t (y 0)⟩ (y 1)) := by
  funext y
  blk_point [iblk, V, idx t]
theorem blk8 (c : Dev nD) (t : Fin cfg0.N) : iblk m c 8 t = fun y : S512x1024.Idx => (m ((c : Thread nD τ).loc main_arg8)) (ix2 ⟨t.val * 512 + (y 0).val, rowlt t (y 0)⟩ (y 1)) := by
  funext y
  blk_point [iblk, V, idx t]
theorem blk9 (c : Dev nD) (t : Fin cfg0.N) : iblk m c 9 t = fun y : S1x1024.Idx => (m ((c : Thread nD τ).loc main_arg9)) (ix2 0 (y 1)) := by
  funext y
  blk_point [iblk, V, idx t]
theorem blk10 (c : Dev nD) (t : Fin cfg0.N) : iblk m c 10 t = fun y : S1x1024.Idx => (m ((c : Thread nD τ).loc main_arg10)) (ix2 0 (y 1)) := by
  funext y
  blk_point [iblk, V, idx t]

theorem last (i : Fin 3600) (h : ¬ i.val - 512 - 512 - 512 - 1536 < 512) : i.val - 512 - 512 - 512 - 1536 - 512 < 16 := by
  have := i.isLt
  omega

/-- The gradient at the normed rows, at the whole array: the padded columns meet zero rows. -/
theorem dh_row (c : Dev nD) (t : Fin cfg0.N) (y : S512x1024.Idx) :
    (k0_pay3 (F := Ideal) (iblk m c 0 t) (iblk m c 1 t) (iblk m c 2 t) (iblk m c 3 t) (iblk m c 4 t) (iblk m c 5 t) (iblk m c 6 t) y : EReal) = Cert.ProjRefIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨t.val * 512 + (y 0).val, rowlt t (y 0)⟩ (y 1)) := by
  rw [blk0, blk1, blk2, blk3, blk4, blk5, blk6]
  pointwise [k0_pay3, Cert.ProjRefIdeal.Read.val_main_v25, Cert.ProjRefIdeal.Read.val_main_v2, Cert.ProjRefIdeal.Read.val_main_v1, Cert.ProjRefIdeal.Read.val_main_v0, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
  refine (Fin.sum_univ_add (a := 3600) (b := 112) _).trans ?_
  have z : ∀ i : Fin 112, ¬ (Fin.natAdd 3600 i).val < 3600 := fun i => not_lt.2 (Nat.le_add_right 3600 i.val)
  refine (congr (congrArg HAdd.hAdd (Finset.sum_congr rfl fun i _ => ?_)) (Finset.sum_eq_zero fun i _ => (congr rfl (dif_neg (z i))).trans (mul_zero _))).trans (add_zero _)
  have hi := i.isLt
  refine congr (congrArg HMul.hMul ?_) (dif_pos (show (Fin.castAdd 112 i).val < 3600 from hi))
  refine dite_congr rfl (fun _ => rfl) fun h0 => dite_congr rfl (fun _ => rfl) fun h1 => dite_congr rfl (fun _ => rfl) fun h2 => dite_congr rfl (fun _ => rfl) fun h3 => dite_congr rfl (fun _ => rfl) fun h4 => dif_pos ?_
  exact last i h4

/-- The normed rows before the gain. -/
theorem xhat_row (c : Dev nD) (t : Fin cfg0.N) (y : S512x1024.Idx) :
    (k0_pay5 (F := Ideal) (iblk m c 7 t) y : EReal) = Cert.ProjRefIdeal.Read.val_main_v15 (F := Ideal) (m ((c : Thread nD τ).loc main_arg7)) (ix2 ⟨t.val * 512 + (y 0).val, rowlt t (y 0)⟩ (y 1)) := by
  rw [blk7]
  pointwise [k0_pay5, k0_pay4, Cert.ProjRefIdeal.Read.val_main_v15, Cert.ProjRefIdeal.Read.val_main_v14, Cert.ProjRefIdeal.Read.val_main_v10, Cert.ProjRefIdeal.Read.val_main_v9, Cert.ProjRefIdeal.Read.val_main_v8, Cert.ProjRefIdeal.Read.val_main_v7, Cert.ProjRefIdeal.Read.val_main_v6, Cert.ProjRefIdeal.Read.val_main_v5, Cert.ProjRefIdeal.Read.val_main_v4, Cert.ProjRefIdeal.Read.val_main_v3, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]

theorem norm_row (c : Dev nD) (t : Fin cfg0.N) (y : S512x1024.Idx) :
    (k0_pay6 (F := Ideal) (iblk m c 7 t) (iblk m c 9 t) y : EReal) = Cert.ProjRefIdeal.Read.val_main_v17 (F := Ideal) (m ((c : Thread nD τ).loc main_arg7)) (m ((c : Thread nD τ).loc main_arg9)) (ix2 ⟨t.val * 512 + (y 0).val, rowlt t (y 0)⟩ (y 1)) := by
  have e := xhat_row m c t y
  rw [blk9]
  pointwise [k0_pay6, Cert.ProjRefIdeal.Read.val_main_v17, Cert.ProjRefIdeal.Read.val_main_v16, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
  exact congr (congrArg _ e) rfl

theorem dnorm_row (c : Dev nD) (t : Fin cfg0.N) (y : S512x1024.Idx) :
    (k0_pay7 (F := Ideal) (k0_pay3 (iblk m c 0 t) (iblk m c 1 t) (iblk m c 2 t) (iblk m c 3 t) (iblk m c 4 t) (iblk m c 5 t) (iblk m c 6 t)) (iblk m c 10 t) y : EReal) = Cert.ProjRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (ix2 ⟨t.val * 512 + (y 0).val, rowlt t (y 0)⟩ (y 1)) := by
  have e := dh_row m c t y
  rw [blk10]
  pointwise [k0_pay7, Cert.ProjRefIdeal.Read.val_main_v32, Cert.ProjRefIdeal.Read.val_main_v31, Cert.ProjRefIdeal.Read.val_main_v19, Cert.ProjRefIdeal.Read.val_main_v18, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
  exact congr (congrArg _ e) rfl

theorem dxhat_row (c : Dev nD) (t : Fin cfg0.N) (y : S512x1024.Idx) (z : EReal) (hz : (m ((c : Thread nD τ).loc main_arg9)) (ix2 0 (y 1)) = z) :
    (k0_pay7 (F := Ideal) (k0_pay3 (iblk m c 0 t) (iblk m c 1 t) (iblk m c 2 t) (iblk m c 3 t) (iblk m c 4 t) (iblk m c 5 t) (iblk m c 6 t)) (iblk m c 10 t) y : EReal) * z = Cert.ProjRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (ix2 ⟨t.val * 512 + (y 0).val, rowlt t (y 0)⟩ (y 1)) := by
  have e := dnorm_row m c t y
  pointwise [Cert.ProjRefIdeal.Read.val_main_v37, Cert.ProjRefIdeal.Read.val_main_v36, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
  exact congr (congrArg _ e) hz.symm

theorem dxhat_real [Cert.Pre_finite_proj.Facts] (h : Cert.Pre_ProjIdeal_finite_proj m) (c : Dev nD) (i) : IsReal (Cert.ProjRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) i : EReal) := by
  obtain ⟨h0, h1, h2, h3, h4, h5, h6, h7, h9, h10⟩ := reals m h c
  pointwise [Cert.ProjRefIdeal.Read.val_main_v37, Cert.ProjRefIdeal.Read.val_main_v36, Cert.ProjRefIdeal.Read.val_main_v32, Cert.ProjRefIdeal.Read.val_main_v31, Cert.ProjRefIdeal.Read.val_main_v19, Cert.ProjRefIdeal.Read.val_main_v18, Cert.ProjRefIdeal.Read.val_main_v25, Cert.ProjRefIdeal.Read.val_main_v2, Cert.ProjRefIdeal.Read.val_main_v1, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
  refine ((IsReal.sum fun k => IsReal.mul ?_ (h6 _)).mul (IsReal.one.add (h10 _))).mul (h9 _)
  pointwise [Cert.ProjRefIdeal.Read.val_main_v0]
  split_ifs <;> first | exact h0 _ | exact h1 _ | exact h2 _ | exact h3 _ | exact h4 _ | exact h5 _

/-- The reference's gradient through the norm, a row at a time. -/
theorem dx_ref (c : Dev nD) (n : Fin 8192) (q : Fin 1024) (z : EReal) (hz : (m ((c : Thread nD τ).loc main_arg8)) (ix2 n q) = z) (x : Fin 1024 → EReal) (hx : ∀ k, (m ((c : Thread nD τ).loc main_arg7)) (ix2 n k) = x k) :
    (Cert.ProjRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 n q) : EReal)
      = z + ((Cert.ProjRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (ix2 n q) : EReal) * rowR x
        + x q * rowQ x (fun k => (Cert.ProjRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (ix2 n k) : EReal))
        + rowQ x (fun k => (Cert.ProjRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (ix2 n k) : EReal)) * x q) := by
  pointwise [Cert.ProjRefIdeal.Read.val_main_v54, Cert.ProjRefIdeal.Read.val_main_v51, Cert.ProjRefIdeal.Read.val_main_v50, Cert.ProjRefIdeal.Read.val_main_v49, Cert.ProjRefIdeal.Read.val_main_v48, Cert.ProjRefIdeal.Read.val_main_v47, Cert.ProjRefIdeal.Read.val_main_v46, Cert.ProjRefIdeal.Read.val_main_v45, Cert.ProjRefIdeal.Read.val_main_v44, Cert.ProjRefIdeal.Read.val_main_v43, Cert.ProjRefIdeal.Read.val_main_v42, Cert.ProjRefIdeal.Read.val_main_v41, Cert.ProjRefIdeal.Read.val_main_v40, Cert.ProjRefIdeal.Read.val_main_v39, Cert.ProjRefIdeal.Read.val_main_v38, Cert.ProjRefIdeal.Read.val_main_v13, Cert.ProjRefIdeal.Read.val_main_v12, Cert.ProjRefIdeal.Read.val_main_v11, Cert.ProjRefIdeal.Read.val_main_v10, Cert.ProjRefIdeal.Read.val_main_v9, Cert.ProjRefIdeal.Read.val_main_v8, Cert.ProjRefIdeal.Read.val_main_v7, Cert.ProjRefIdeal.Read.val_main_v6, Cert.ProjRefIdeal.Read.val_main_v5, Cert.ProjRefIdeal.Read.val_main_v4, Cert.ProjRefIdeal.Read.val_main_v3, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
  simp only [hz, hx]
  simp only [Fin.sum_univ_one, add_assoc]
  rfl

theorem rstd_row (c : Dev nD) (t : Fin cfg0.N) (p : Fin 512) :
    (k0_pay4 (F := Ideal) (iblk m c 7 t) (ix2 p 0) : EReal) = rowR (fun k => ((m ((c : Thread nD τ).loc main_arg7)) (ix2 ⟨t.val * 512 + p.val, rowlt t p⟩ k) : EReal)) := by
  rw [blk7]
  pointwise [k0_pay4]
  rfl

theorem xhat_mul (c : Dev nD) (t : Fin cfg0.N) (y : S512x1024.Idx) (x : Fin 1024 → EReal) (hx : ∀ k, (m ((c : Thread nD τ).loc main_arg7)) (ix2 ⟨t.val * 512 + (y 0).val, rowlt t (y 0)⟩ k) = x k) :
    (k0_pay5 (F := Ideal) (iblk m c 7 t) y : EReal) = x (y 1) * rowR x := by
  rw [blk7]
  pointwise [k0_pay5, k0_pay4]
  simp only [hx]
  exact congr (congrArg _ (hx (y 1))) rfl

/-- The gradient at the layer's input, at the whole array. -/
theorem dx_row [Cert.Pre_finite_proj.Facts] (h : Cert.Pre_ProjIdeal_finite_proj m) (c : Dev nD) (t : Fin cfg0.N) (y : S512x1024.Idx) :
    (k0_pay9 (F := Ideal) (k0_pay3 (iblk m c 0 t) (iblk m c 1 t) (iblk m c 2 t) (iblk m c 3 t) (iblk m c 4 t) (iblk m c 5 t) (iblk m c 6 t)) (k0_pay4 (iblk m c 7 t)) (k0_pay5 (iblk m c 7 t)) (iblk m c 10 t) (iblk m c 9 t) (iblk m c 8 t) y : EReal)
      = Cert.ProjRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 ⟨t.val * 512 + (y 0).val, rowlt t (y 0)⟩ (y 1)) := by
  obtain ⟨h0, h1, h2, h3, h4, h5, h6, h7, h9, h10⟩ := reals m h c
  refine Eq.trans ?_ ((congrArg (HAdd.hAdd (α := EReal) (β := EReal) (γ := EReal) _) (row_grad (fun k => ((m ((c : Thread nD τ).loc main_arg7)) (ix2 ⟨t.val * 512 + (y 0).val, rowlt t (y 0)⟩ k) : EReal)) (fun k => (Cert.ProjRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (ix2 ⟨t.val * 512 + (y 0).val, rowlt t (y 0)⟩ k) : EReal)) (fun i => h7 _) (fun i => dxhat_real m h c _) (y 1))).trans
    (dx_ref m c ⟨t.val * 512 + (y 0).val, rowlt t (y 0)⟩ (y 1) _ rfl _ fun _ => rfl).symm)
  have e0 := rstd_row m c t (y 0)
  have e1 := fun a => dxhat_row m c t a _ (congrFun (blk9 m c t) (ix2 0 (a 1))).symm
  have e2 := fun a => xhat_mul m c t a _ fun _ => rfl
  pointwise [k0_pay9]
  exact congr (congrArg _ (congrFun (blk8 m c t) y)) (congr (congrArg _ e0) (congr (congrArg _ (e1 y)) (congr (congrArg _ (e2 y))
    (congr (congrArg Ideal.div (Finset.sum_congr rfl fun k _ => congr (congrArg _ (e1 (ix2 (y 0) k))) (e2 (ix2 (y 0) k)))) rfl))))

theorem final_11 [Cert.Pre_finite_proj.Facts] (h : Cert.Pre_ProjIdeal_finite_proj m) (c : Dev nD) : (dats m 0 c).arrAt 11 (cfgs 0).N = Cert.ProjRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  refine Eq.trans ?_ ((dx_row m h c t y).trans (congrArg _ (funext fun a => ?_)))
  · by_cases h0 : t.val % 16 = 0
    · rw [outsAt0_A m c t h0]
      frame_out
    · rw [outsAt0_B m c t h0]
      frame_out
  · fin_cases a
    · exact Fin.ext ((win0_11.rect_emb_val t y 0).trans (by rw [(idx t).2.2.2.2.2.2.2.2.2.2.2.1]; rfl)).symm
    · exact Fin.ext ((win0_11.rect_emb_val t y 1).trans (by rw [(idx t).2.2.2.2.2.2.2.2.2.2.2.1]; exact Nat.zero_add _)).symm

/-- A row's terms of the three running sums. -/
def term (c : Dev nD) (n : Fin 8192) (q : Fin 1024) : Fin 8 → EReal
  | 0 => (Cert.ProjRefIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 n q) : EReal)
  | 1 => (Cert.ProjRefIdeal.Read.val_main_v17 (F := Ideal) (m ((c : Thread nD τ).loc main_arg7)) (m ((c : Thread nD τ).loc main_arg9)) (ix2 n q) : EReal) * (Cert.ProjRefIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 n q) : EReal)
  | 2 => (Cert.ProjRefIdeal.Read.val_main_v15 (F := Ideal) (m ((c : Thread nD τ).loc main_arg7)) (ix2 n q) : EReal) * (Cert.ProjRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (ix2 n q) : EReal)
  | _ => 0

theorem step0 (c : Dev nD) (t : Fin cfg0.N) (a : S1x1024.Idx → EReal) (q : Fin 1024) :
    (k0_pay10 (F := Ideal) (k0_pay3 (iblk m c 0 t) (iblk m c 1 t) (iblk m c 2 t) (iblk m c 3 t) (iblk m c 4 t) (iblk m c 5 t) (iblk m c 6 t)) a (ix2 0 q) : EReal) = a (ix2 0 q) + ∑ k : Fin 512, term m c ⟨t.val * 512 + k.val, rowlt t k⟩ q 0 := by
  pointwise [k0_pay10]
  exact congrArg (a (ix2 0 q) + ·) (Finset.sum_congr rfl fun k _ => dh_row m c t (ix2 k q))

theorem step1 (c : Dev nD) (t : Fin cfg0.N) (a : S1x1024.Idx → EReal) (q : Fin 1024) :
    (k0_pay11 (F := Ideal) (k0_pay3 (iblk m c 0 t) (iblk m c 1 t) (iblk m c 2 t) (iblk m c 3 t) (iblk m c 4 t) (iblk m c 5 t) (iblk m c 6 t)) (k0_pay6 (iblk m c 7 t) (iblk m c 9 t)) a (ix2 0 q) : EReal) = a (ix2 0 q) + ∑ k : Fin 512, term m c ⟨t.val * 512 + k.val, rowlt t k⟩ q 1 := by
  pointwise [k0_pay11]
  exact congrArg (a (ix2 0 q) + ·) (Finset.sum_congr rfl fun k _ => (congr (congrArg _ (dh_row m c t (ix2 k q))) (norm_row m c t (ix2 k q))).trans (mul_comm _ _))

theorem step2 (c : Dev nD) (t : Fin cfg0.N) (a : S1x1024.Idx → EReal) (q : Fin 1024) :
    (k0_pay1 (F := Ideal) (k0_pay8 (k0_pay3 (iblk m c 0 t) (iblk m c 1 t) (iblk m c 2 t) (iblk m c 3 t) (iblk m c 4 t) (iblk m c 5 t) (iblk m c 6 t)) (k0_pay5 (iblk m c 7 t)) (iblk m c 10 t)) a (ix2 0 q) : EReal) = a (ix2 0 q) + ∑ k : Fin 512, term m c ⟨t.val * 512 + k.val, rowlt t k⟩ q 2 := by
  pointwise [k0_pay1, k0_pay8]
  exact congrArg (a (ix2 0 q) + ·) (Finset.sum_congr rfl fun k _ => (congr (congrArg _ (dnorm_row m c t (ix2 k q))) (xhat_row m c t (ix2 k q))).trans (mul_comm _ _))

/-- Running row 0. -/
def row0 (c : Dev nD) (t : Fin cfg0.N) : Stage.Row (Elt Ideal) 8 1024 .f32 := ⟨0, inb_S8x1024_S1x1024_0_0, fun a => k0_pay10 (F := Ideal) (k0_pay3 (iblk m c 0 t) (iblk m c 1 t) (iblk m c 2 t) (iblk m c 3 t) (iblk m c 4 t) (iblk m c 5 t) (iblk m c 6 t)) a⟩

/-- Running row 1. -/
def row1 (c : Dev nD) (t : Fin cfg0.N) : Stage.Row (Elt Ideal) 8 1024 .f32 := ⟨1, inb_S8x1024_S1x1024_1_0, fun a => k0_pay11 (F := Ideal) (k0_pay3 (iblk m c 0 t) (iblk m c 1 t) (iblk m c 2 t) (iblk m c 3 t) (iblk m c 4 t) (iblk m c 5 t) (iblk m c 6 t)) (k0_pay6 (iblk m c 7 t) (iblk m c 9 t)) a⟩

/-- Running row 2. -/
def row2 (c : Dev nD) (t : Fin cfg0.N) : Stage.Row (Elt Ideal) 8 1024 .f32 := ⟨2, inb_S8x1024_S1x1024_2_0, fun a => k0_pay1 (F := Ideal) (k0_pay8 (k0_pay3 (iblk m c 0 t) (iblk m c 1 t) (iblk m c 2 t) (iblk m c 3 t) (iblk m c 4 t) (iblk m c 5 t) (iblk m c 6 t)) (k0_pay5 (iblk m c 7 t)) (iblk m c 10 t)) a⟩

/-- The three running rows, the latest stored first. -/
def rows (c : Dev nD) (t : Fin cfg0.N) : List (Stage.Row (Elt Ideal) 8 1024 .f32) := [row2 m c t, row1 m c t, row0 m c t]

theorem cases8 : ∀ r : Fin 8, r = 0 ∨ r = 1 ∨ r = 2 ∨ (2 ≠ r.val ∧ 1 ≠ r.val ∧ 0 ≠ r.val) := by decide

theorem rest (c : Dev nD) (t : Fin cfg0.N) (r : Fin 8) (h : 2 ≠ r.val ∧ 1 ≠ r.val ∧ 0 ≠ r.val) : ∀ p ∈ rows m c t, p.k ≠ r.val := by
  intro p hp
  simp only [rows, List.mem_cons, List.not_mem_nil, or_false] at hp
  rcases hp with rfl | rfl | rfl
  · exact h.1
  · exact h.2.1
  · exact h.2.2

theorem term_rest (c : Dev nD) (n : Fin 8192) (q : Fin 1024) : ∀ r : Fin 8, 2 ≠ r.val ∧ 1 ≠ r.val ∧ 0 ≠ r.val → term m c n q r = 0
  | 0, h => absurd rfl h.2.2
  | 1, h => absurd rfl h.2.1
  | 2, h => absurd rfl h.1
  | 3, _ => rfl
  | 4, _ => rfl
  | 5, _ => rfl
  | 6, _ => rfl
  | 7, _ => rfl

theorem rows_nodup (c : Dev nD) (t : Fin cfg0.N) : ((rows m c t).map Stage.Row.k).Nodup :=
  (by decide : [2, 1, 0].Nodup)

theorem stats_reset (c : Dev nD) (t : Fin cfg0.N) (h0 : t.val % 16 = 0) (r : Fin 8) (q : Fin 1024) :
    (outsAt0 m c t.val t.isLt).2 (ix2 r q) = (0 : EReal) + ∑ k : Fin 512, term m c ⟨t.val * 512 + k.val, rowlt t k⟩ q r := by
  rw [outsAt0_A m c t h0]
  frame_out
  have hZ : ∀ x, (k0_pay2 (F := Ideal) x : EReal) = 0 := fun x => by pointwise [k0_pay2]
  suffices H : View.canon (Stage.fresh (ms0_12 t).view (k0_pay2 (F := Ideal)) inb_S8x1024_S8x1024_0_0 (rows m c t)) (ix2 r q)
      = (0 : EReal) + ∑ k : Fin 512, term m c ⟨t.val * 512 + k.val, rowlt t k⟩ q r by
    simp only [rows, Stage.fresh, row0, row1, row2] at H
    exact H
  rcases cases8 r with rfl | rfl | rfl | hr
  · exact (Stage.fresh_hit _ _ _ hZ _ 0 q (row0 m c t) rfl _ (rows_nodup m c t) (List.mem_cons_of_mem _ (List.mem_cons_of_mem _ List.mem_cons_self))).trans (step0 m c t _ q)
  · exact (Stage.fresh_hit _ _ _ hZ _ 1 q (row1 m c t) rfl _ (rows_nodup m c t) (List.mem_cons_of_mem _ List.mem_cons_self)).trans (step1 m c t _ q)
  · exact (Stage.fresh_hit _ _ _ hZ _ 2 q (row2 m c t) rfl _ (rows_nodup m c t) (List.mem_cons_self)).trans (step2 m c t _ q)
  · refine (Stage.fresh_miss _ _ _ hZ _ r q (rows m c t) (rest m c t r hr)).trans ?_
    simp only [term_rest m c _ q r hr, Finset.sum_const_zero, add_zero]

theorem stats_step (c : Dev nD) (t : Fin cfg0.N) (h0 : ¬ t.val % 16 = 0) (r : Fin 8) (q : Fin 1024) :
    (outsAt0 m c t.val t.isLt).2 (ix2 r q) = ((outsAt0 m c (t.val - 1) (by omega)).2 (ix2 r q) : EReal)
      + ∑ k : Fin 512, term m c ⟨t.val * 512 + k.val, rowlt t k⟩ q r := by
  rw [outsAt0_B m c t h0]
  frame_out
  generalize (outsAt0 m c (t.val - 1) (by omega)).2 = g
  change View.read (Elt Ideal) (ms0_12 t).view ((ms0_12 t).view.writes (Elt Ideal) (Memref.IsWhole.unread _ g) (Stage.over g (rows m c t))) (ix2 r q) = _
  rcases cases8 r with rfl | rfl | rfl | hr
  · exact (Stage.over_hit _ g 0 q _ (row0 m c t) rfl _ (rows_nodup m c t) (List.mem_cons_of_mem _ (List.mem_cons_of_mem _ List.mem_cons_self))).trans (step0 m c t _ q)
  · exact (Stage.over_hit _ g 1 q _ (row1 m c t) rfl _ (rows_nodup m c t) (List.mem_cons_of_mem _ List.mem_cons_self)).trans (step1 m c t _ q)
  · exact (Stage.over_hit _ g 2 q _ (row2 m c t) rfl _ (rows_nodup m c t) (List.mem_cons_self)).trans (step2 m c t _ q)
  · refine (Stage.over_miss _ g r q _ (Memref.IsWhole.read_unread _ _) (rows m c t) (rest m c t r hr)).trans ?_
    simp only [term_rest m c _ q r hr, Finset.sum_const_zero, add_zero]

theorem rows_ref (c : Dev nD) (r : Fin 8) (q : Fin 1024) : ∑ n : Fin 8192, term m c n q r = (Cert.ProjRefIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (ix2 r q) : EReal) := by
  rcases cases8 r with rfl | rfl | rfl | hr
  · pointwise [Cert.ProjRefIdeal.Read.val_main_v53, Cert.ProjRefIdeal.Read.val_main_v27, Cert.ProjRefIdeal.Read.val_main_v26, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
    rfl
  · pointwise [Cert.ProjRefIdeal.Read.val_main_v53, Cert.ProjRefIdeal.Read.val_main_v30, Cert.ProjRefIdeal.Read.val_main_v29, Cert.ProjRefIdeal.Read.val_main_v28, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
    rfl
  · pointwise [Cert.ProjRefIdeal.Read.val_main_v53, Cert.ProjRefIdeal.Read.val_main_v35, Cert.ProjRefIdeal.Read.val_main_v34, Cert.ProjRefIdeal.Read.val_main_v33, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
    rfl
  · simp only [term_rest m c _ q r hr, Finset.sum_const_zero]
    pointwise [Cert.ProjRefIdeal.Read.val_main_v53, Cert.ProjRefIdeal.Read.val_main_v52, Cert.ProjRefIdeal.Read.val_main_cst, Cert.ProjRefIdeal.Read.val_main_cst_0, Cert.ProjRefIdeal.Read.val_main_cst_1, Cert.ProjRefIdeal.Read.val_main_cst_2, Cert.ProjRefIdeal.Read.val_main_cst_3, Cert.ProjRefIdeal.Read.val_main_cst_4, Cert.ProjRefIdeal.Read.val_main_cst_5, Cert.ProjRefIdeal.Read.val_main_cst_6, Cert.ProjRefIdeal.Read.val_main_cst_7, Cert.ProjRefIdeal.Read.val_main_cst_8, Cert.ProjRefIdeal.Read.val_main_cst_9, Cert.ProjRefIdeal.Read.val_main_cst_10]
    rw [dif_neg (by omega), dif_neg (by omega), dif_neg (by omega)]

/-- The last point. -/
abbrev tlast : Fin cfg0.N := ⟨15, (by decide +kernel : 15 < grid0.N)⟩

theorem final_12 [Cert.Pre_finite_proj.Facts] (h : Cert.Pre_ProjIdeal_finite_proj m) (c : Dev nD) : (dats m 0 c).arrAt 12 (cfgs 0).N = Cert.ProjRefIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) := by
  refine (dats m 0 c).arrAt_eq_of_after_last 12 tlast (by decide +kernel) _ fun j => ?_
  blk_simp
  obtain ⟨r, q, rfl⟩ : ∃ (r : Fin 8) (q : Fin 1024), j = ix2 r q := ⟨j 0, j 1, by funext a; fin_cases a <;> rfl⟩
  rw [after0_12, Pipeline.eq_sum_fin_of_reset_step_apply_last (fun n h => fun y : S8x1024.Idx => ((outsAt0 m c n h).2 y : EReal)) 16 (fun _ => 0)
    (fun t y => ∑ k : Fin 512, term m c ⟨t.val * 512 + k.val, rowlt t k⟩ (y 1) (y 0))
    (fun t h0 j => by
      obtain ⟨r, q, rfl⟩ : ∃ (r : Fin 8) (q : Fin 1024), j = ix2 r q := ⟨j 0, j 1, by funext a; fin_cases a <;> rfl⟩
      exact stats_reset m c t h0 r q)
    (fun t h0 j => by
      obtain ⟨r, q, rfl⟩ : ∃ (r : Fin 8) (q : Fin 1024), j = ix2 r q := ⟨j 0, j 1, by funext a; fin_cases a <;> rfl⟩
      exact stats_step m c t h0 r q)
    (le_of_eq N_0) tlast rfl (ix2 r q), zero_add, ← rows_ref]
  refine Fin.sum_mul_add_congr fun s k hl => rfl
-- ==== Proof.ProjClaims.lean ====
/- Hand-written, untrusted: the claims about the input projection's gradients (`inproj_bwd`). -/
module

public import proofs.«01_k».proof.Proof.ProjValue
public import proofs.«01_k».proof.Proof.Gen.Proj.Frame
public import proofs.«01_k».proof.Proof.Gen.ProjRefIdeal.Run
public import Idealize.ShloMosaic.Lib.Claim
public import Idealize.ShloMosaic.Lib.Quiescent

@[expose] public section

set_option maxRecDepth 16384

noncomputable section

namespace Cert.ProjClaims

open Idealize.ShloMosaic Idealize.SL.Sem

theorem pre_facts : Cert.Pre_finite_proj.Facts :=
  ⟨by decide, by decide, by decide, by decide, by decide, by decide⟩

theorem kernel : Cert.quiescent_Proj := fun m g _ => Cert.Proj.Gen.frame m g
theorem ideal : Cert.quiescent_ProjIdeal := fun m g _ => Cert.ProjIdeal.Gen.frame m g
theorem ideal_pre [Cert.Pre_finite_proj.Facts] : Cert.quiescent_ProjIdeal_pre_finite_proj := fun m g _ => Cert.ProjIdeal.Gen.frame m g
theorem reference : Cert.quiescent_ProjRefIdeal := by
  intro m g _
  run_from Cert.ProjRefIdeal.Value.run m g
  · exact fun _ => ⟨trivial, trivial, trivial, trivial, trivial, trivial, trivial, trivial, trivial, trivial, trivial, trivial⟩
  · exact sem_eq_zero_of_no_sems (sig := Cert.ProjRefIdeal.sig) (by decide) _
theorem reference_pre [Cert.Pre_finite_proj.Facts] : Cert.quiescent_ProjRefIdeal_pre_finite_proj := fun m g _ => reference m g trivial

set_option maxHeartbeats 4000000 in
theorem value [Cert.Pre_finite_proj.Facts] : Cert.algebraic_ProjIdeal_ProjRefIdeal_pre_finite_proj := by
  pair_intro
  · run_from Cert.ProjIdeal.Gen.run_main m g
    · exact Cert.ProjIdeal.Gen.V_main_arg5 m c
    · exact Cert.ProjIdeal.Gen.V_main_arg6 m c
    · exact Cert.ProjIdeal.Gen.V_main_arg11 m c
  · run_from Cert.ProjRefIdeal.Value.run m' g'
    · rw [Cert.ProjRefIdeal.Read.val_main_v54_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, Cert.ProjIdeal.Value.final_11 m hpre c]
    · rw [Cert.ProjRefIdeal.Read.val_main_v53_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.1, (hagree c).2.2.2.2.2.2.2.2.2.2.1, Cert.ProjIdeal.Value.final_12 m hpre c]

end Cert.ProjClaims

end
-- ==== Proof.PrepLemmas.lean ====
/- Hand-written, untrusted: running sums inside a chunk, the softplus and its slope, blocks of rows stored one below the other. -/
module

public import proofs.«01_k».proof.Proof.Norms
public import proofs.«01_k».proof.Proof.Stage
public import Idealize.ShloMosaic.Lib.Pointwise
public import Idealize.ShloMosaic.Lib.IdealHost

@[expose] public section

set_option maxRecDepth 16384

noncomputable section

namespace Cert.PrepLemmas

open Idealize.ShloMosaic Cert.Reals Cert.Norms

/-- What a chunk's rows from one on add up to. -/
def rev (f : Fin 64 → EReal) (r : Fin 64) : EReal := ∑ x : Fin 64, if r.val ≤ x.val then f x else 0

theorem rev_real {f : Fin 64 → EReal} (hf : ∀ i, IsReal (f i)) (r : Fin 64) : IsReal (rev f r) :=
  IsReal.sum fun i => by split; exacts [hf i, IsReal.zero]

theorem rev_zero (r : Fin 64) : rev (fun _ => 0) r = 0 := by simp [rev]

/-- "Not above" on small words, read as a number. -/
theorem onesge (a b : Fin 64) :
    (FloatOps.sitofp (F := Ideal) FTy.f32 (BitVec.setWidth 32 (IntOp.cmpi CmpIPredicate.sge (BitVec.ofNat 32 a.val) (BitVec.ofNat 32 b.val))) : EReal)
      = if b.val ≤ a.val then 1 else 0 := by
  have h : ∀ a b : Fin 64, (BitVec.setWidth 32 (IntOp.cmpi CmpIPredicate.sge (BitVec.ofNat 32 a.val) (BitVec.ofNat 32 b.val)))
      = if b.val ≤ a.val then 1#32 else 0#32 := by decide +kernel
  rw [h]
  split <;> simp [FloatOps.sitofp]

/-- The chunk's product with the triangle of ones, in three pieces. -/
theorem rev_split (f : Fin 64 → EReal) (hf : ∀ i, IsReal (f i)) (r : Fin 64) :
    ∑ x : Fin 64, FloatOps.sitofp (F := Ideal) FTy.f32 (BitVec.setWidth 32 (IntOp.cmpi CmpIPredicate.sge (BitVec.ofNat 32 x.val) (BitVec.ofNat 32 r.val))) * f x
      + (∑ x : Fin 64, FloatOps.sitofp (F := Ideal) FTy.f32 (BitVec.setWidth 32 (IntOp.cmpi CmpIPredicate.sge (BitVec.ofNat 32 x.val) (BitVec.ofNat 32 r.val))) * (f x - f x)
        + ∑ x : Fin 64, FloatOps.sitofp (F := Ideal) FTy.f32 (BitVec.setWidth 32 (IntOp.cmpi CmpIPredicate.sge (BitVec.ofNat 32 x.val) (BitVec.ofNat 32 r.val))) * (f x - f x - (f x - f x)))
      = rev f r := by
  have h0 (k) : f k - f k = 0 := EReal.sub_self (hf k).ne_top (hf k).ne_bot
  simp [h0, onesge, rev]

/-- A row of the whole tile, by its chunk. -/
def revN (D : Fin 512 → EReal) (n : Fin 512) : EReal :=
  rev (fun x => D ⟨n.val / 64 * 64 + x.val, by omega⟩) ⟨n.val % 64, by omega⟩

theorem revN_real {D : Fin 512 → EReal} (hD : ∀ i, IsReal (D i)) (n : Fin 512) : IsReal (revN D n) := rev_real (fun i => hD _) _

theorem revN_of (D : Fin 512 → EReal) (o : ℕ) (ho : ∃ q, o = q * 64) (e : Fin 64 → Fin 512) (he : ∀ x, (e x).val = o + x.val) (r : Fin 64) :
    rev (fun x => D (e x)) r = revN D (e r) := by
  obtain ⟨q, rfl⟩ := ho
  have h := he r
  have e1 : (⟨(e r).val % 64, by omega⟩ : Fin 64) = r := Fin.ext (by show (e r).val % 64 = r.val; omega)
  unfold revN
  rw [e1]
  refine congrArg (rev · r) (funext fun x => congrArg D (Fin.ext ?_))
  have := he x
  show (e x).val = (e r).val / 64 * 64 + x.val
  omega

/-- The sum over all columns weighted by "this head" is the sum over the head's columns. -/
theorem head_pick (f : Fin 512 → EReal) (b l : ℕ) :
    ∑ k, f k * (if k.val / 64 + b = l then 1 else 0)
      = if h : b ≤ l ∧ l - b < 8 then ∑ d : Fin 64, f ⟨(l - b) * 64 + d.val, by omega⟩ else 0 := by
  split
  · rename_i h
    rw [← head_sum f ⟨(l - b) * 64, by omega⟩ |>.trans (Finset.sum_congr rfl fun d _ => congrArg f (Fin.ext (by
      show (l - b) * 64 / 64 * 64 + d.val = (l - b) * 64 + d.val; omega)))]
    refine Finset.sum_congr rfl fun k _ => congrArg _ ?_
    have : (k.val / 64 + b = l) ↔ (k.val / 64 = (l - b) * 64 / 64) := by omega
    simp only [this]
  · rename_i h
    refine Finset.sum_eq_zero fun k _ => ?_
    rw [if_neg (by omega), mul_zero]

/-- A tile's sum, chunk by chunk. -/
theorem sum_eight (f : Fin 512 → EReal) :
    ∑ x : Fin 64, f ⟨x.val, by omega⟩ + ∑ x : Fin 64, f ⟨64 + x.val, by omega⟩ + ∑ x : Fin 64, f ⟨128 + x.val, by omega⟩ + ∑ x : Fin 64, f ⟨192 + x.val, by omega⟩
        + ∑ x : Fin 64, f ⟨256 + x.val, by omega⟩ + ∑ x : Fin 64, f ⟨320 + x.val, by omega⟩ + ∑ x : Fin 64, f ⟨384 + x.val, by omega⟩ + ∑ x : Fin 64, f ⟨448 + x.val, by omega⟩
      = ∑ n, f n := by
  have h : ∑ n : Fin (8 * 64), f n = ∑ p : Fin 8 × Fin 64, f (finProdFinEquiv p) := (Fintype.sum_equiv finProdFinEquiv _ _ fun _ => rfl).symm
  refine Eq.trans ?_ h.symm
  rw [Fintype.sum_prod_type, Fin.sum_univ_eight]
  have e (a : Fin 8) (o : ℕ) (ho : o = 64 * a.val) (x : Fin 64) (hx : o + x.val < 512) : f ⟨o + x.val, hx⟩ = f (finProdFinEquiv (a, x)) :=
    congrArg f (Fin.ext (by show o + x.val = x.val + 64 * a.val; omega))
  have e0 (x : Fin 64) (hx : x.val < 512) : f ⟨x.val, hx⟩ = f (finProdFinEquiv ((0 : Fin 8), x)) := congrArg f (Fin.ext (by show x.val = x.val + 64 * 0; rfl))
  simp only [e0, e 1 64 rfl, e 2 128 rfl, e 3 192 rfl, e 4 256 rfl, e 5 320 rfl, e 6 384 rfl, e 7 448 rfl]

theorem addword (a b : ℕ) : IntOp.addi (BitVec.ofNat 32 a) (BitVec.ofNat 32 b) = BitVec.ofNat 32 (a + b) := by
  rw [BitVec.ofNat_add]; rfl

theorem neg_swap (a b s : EReal) : (0 - a) * b * s = -b * a * s := by
  rw [zero_sub, EReal.neg_mul, EReal.neg_mul b, mul_comm a b]

/-- A real factor with its sign, out of a sum. -/
theorem pull {n : ℕ} (R S : Fin n → EReal) (e : EReal) (hR : ∀ i, IsReal (R i)) (hS : ∀ i, IsReal (S i)) (he : IsReal e) :
    ∑ i, R i * ((0 - e) * S i) = -(∑ i, R i * S i) * e := by
  obtain ⟨r, rfl⟩ : ∃ r : Fin n → ℝ, R = fun i => (r i : EReal) := lift hR
  obtain ⟨s, rfl⟩ : ∃ s : Fin n → ℝ, S = fun i => (s i : EReal) := lift hS
  obtain ⟨e, rfl⟩ := he
  simp only [zero_sub, ← EReal.coe_neg, ← EReal.coe_mul, coe_sum]
  congr 1
  rw [neg_mul, Finset.sum_mul, ← Finset.sum_neg_distrib]
  exact Finset.sum_congr rfl fun i _ => by ring

/-- The softplus, by the larger of its argument and zero. -/
def sp (z : EReal) : EReal := max z 0 + Ideal.log (1 + Ideal.exp (-(max z (-z))))

theorem sp_coe (r : ℝ) : sp r = ((Real.log (1 + Real.exp r) : ℝ) : EReal) := by
  have hp : (0 : ℝ) < 1 + Real.exp (-max r (-r)) := by positivity
  unfold sp
  rw [← EReal.coe_zero, ← EReal.coe_neg, ← EReal.coe_one]
  rw [← EReal.coe_strictMono.monotone.map_max, ← EReal.coe_strictMono.monotone.map_max, ← EReal.coe_neg, Ideal.exp_coe, ← EReal.coe_add, Ideal.log_coe, if_neg (not_le.mpr hp),
    ← EReal.coe_add]
  congr 1
  rcases le_total 0 r with h | h
  · rw [max_eq_left h, max_eq_left (by linarith)]
    rw [show 1 + Real.exp r = Real.exp r * (1 + Real.exp (-r)) by rw [mul_add, mul_one, ← Real.exp_add]; simp [add_comm],
      Real.log_mul (Real.exp_pos r).ne' (by positivity), Real.log_exp]
  · rw [max_eq_right h, max_eq_right (by linarith), zero_add, neg_neg]

theorem sp_real {z : EReal} (h : IsReal z) : IsReal (sp z) := by
  obtain ⟨r, rfl⟩ := h; rw [sp_coe]; exact IsReal.coe _

/-- The softplus's slope is the logistic function. -/
theorem exp_sub_sp {z : EReal} (h : IsReal z) : Ideal.exp (z - sp z) = Ideal.logistic z := by
  obtain ⟨r, rfl⟩ := h
  rw [sp_coe, ← EReal.coe_sub, Ideal.exp_coe, Ideal.logistic_coe]
  congr 1
  have h1 := Real.exp_pos r
  rw [Real.exp_sub, Real.exp_log (by positivity), Real.exp_neg]
  field_simp
  ring

/-- The rows from one on, counted from it. -/
theorem rev_shift (f : Fin 64 → EReal) (r : Fin 64) : ∑ n : Fin 64, (if h : r.val + n.val < 64 then f ⟨r.val + n.val, h⟩ else 0) = rev f r := by
  let F : ℕ → EReal := fun k => if h : k < 64 then f ⟨k, h⟩ else 0
  have hr := r.isLt
  have hL := Fin.sum_univ_eq_sum_range (fun n => F (r.val + n)) 64
  have hR := Fin.sum_univ_eq_sum_range (fun n => if r.val ≤ n then F n else 0) 64
  have hz : ∑ n ∈ Finset.Ico 64 (r.val + 64), F n = 0 := Finset.sum_eq_zero fun n hn => dif_neg (by have := (Finset.mem_Ico.mp hn).1; omega)
  have hz' : ∑ n ∈ Finset.Ico 0 r.val, (if r.val ≤ n then F n else 0) = 0 := Finset.sum_eq_zero fun n hn => if_neg (by have := (Finset.mem_Ico.mp hn).2; omega)
  have hs := Finset.sum_Ico_eq_sum_range F r.val (r.val + 64)
  rw [Nat.add_sub_cancel_left, ← Finset.sum_Ico_consecutive F (by omega : r.val ≤ 64) (by omega), hz, add_zero] at hs
  have ht : ∑ n ∈ Finset.range 64, (if r.val ≤ n then F n else 0) = ∑ n ∈ Finset.Ico r.val 64, F n := by
    rw [Finset.range_eq_Ico, ← Finset.sum_Ico_consecutive _ (Nat.zero_le r.val) (by omega), hz', zero_add]
    exact Finset.sum_congr rfl fun n hn => if_pos (Finset.mem_Ico.mp hn).1
  refine (hL.trans (hs.symm.trans (ht.symm.trans hR.symm))).trans (Finset.sum_congr rfl fun x _ => ?_)
  show (if r.val ≤ x.val then F x.val else 0) = _
  simp only [F, dif_pos x.isLt]

/-- A cumulative sum from the far end, as a window of a whole chunk: a chunk's rows from one on. -/
theorem window_rev (x : (⟨3, ![128, 64, 8]⟩ : Shape).Idx → EReal) (h) (j : (⟨3, ![128, 64, 8]⟩ : Shape).Idx) :
    Ideal.hostReduceWindowAdd (s := ⟨3, ![128, 64, 8]⟩) (t := ⟨3, ![128, 64, 8]⟩) ![1, 64, 1] ![1, 1, 1] ![0, 0, 0] ![0, 63, 0] h x 0 j
      = rev (fun k => x (ix3 (j 0) k (j 2))) (j 1) := by
  have hs : ∀ n : Fin 64, ((⟨3, ![1, 64, 1]⟩ : Shape).rowMajor.symm n 0).val = 0
      ∧ ((⟨3, ![1, 64, 1]⟩ : Shape).rowMajor.symm n 1).val = n.val ∧ ((⟨3, ![1, 64, 1]⟩ : Shape).rowMajor.symm n 2).val = 0 := by
    decide +kernel
  have fold (g : Fin 64 → EReal) : (List.finRange 64).foldl (fun r n => r + g n) 0 = ∑ n, g n := by
    rw [← List.foldl_map (f := g) (g := (· + ·)), ← List.sum_eq_foldl, Fin.sum_univ_def]
  unfold Ideal.hostReduceWindowAdd Host.reduceWindow
  have h0 := (j 0).isLt
  have h1 := (j 1).isLt
  have h2 := (j 2).isLt
  refine (fold _).trans ((Finset.sum_congr rfl fun n _ => ?_).trans (rev_shift _ _))
  obtain ⟨e0, e1, e2⟩ := hs n
  have ea : ∀ a w : ℕ, w = 0 → a * 1 + w - 0 = a := fun a w hw => by omega
  have eb : ∀ a w k : ℕ, w = k → a * 1 + w - 0 = a + k := fun a w k hw => by omega
  have p0 := ea (j 0).val _ e0
  have p1 := eb (j 1).val _ _ e1
  have p2 := ea (j 2).val _ e2
  dsimp only
  by_cases h : (j 1).val + n.val < 64
  · rw [dif_pos h, dif_pos (fun a => by
      match a with
      | ⟨0, _⟩ => exact ⟨Nat.zero_le _, lt_of_eq_of_lt p0 h0⟩
      | ⟨1, _⟩ => exact ⟨Nat.zero_le _, lt_of_eq_of_lt p1 h⟩
      | ⟨2, _⟩ => exact ⟨Nat.zero_le _, lt_of_eq_of_lt p2 h2⟩)]
    refine congrArg x (funext fun a => Fin.ext ?_)
    match a with
    | ⟨0, _⟩ => exact p0
    | ⟨1, _⟩ => exact p1
    | ⟨2, _⟩ => exact p2
  · rw [dif_neg h]
    exact dif_neg fun hc => h (lt_of_eq_of_lt p1.symm (hc 1).2)

end Cert.PrepLemmas
-- ==== Proof.PrepValue.lean ====
/- Hand-written, untrusted: the gradients of what the recurrence's heads make of the convolution's output and of the
   gates' logits (`_delta_prep_bwd`). -/
module

public import proofs.«01_k».proof.Defs
public import proofs.«01_k».proof.Proof.Norms
public import proofs.«01_k».proof.Proof.Stage
public import proofs.«01_k».proof.Proof.PrepLemmas
public import proofs.«01_k».proof.Proof.PostValue
public import proofs.«01_k».proof.Proof.Gen.PrepIdeal.Value
public import proofs.«01_k».proof.Proof.Gen.PrepRefIdeal.Read
public import Idealize.ShloMosaic.Lib.Pipeline.ValueKit
public import Idealize.ShloMosaic.Lib.Pointwise

@[expose] public section

set_option maxRecDepth 16384

noncomputable section

namespace Cert.PrepIdeal.Value

open Cert.PrepIdeal Cert.PrepIdeal.Gen Cert.Reals Cert.Norms Cert.PrepLemmas Idealize.ShloMosaic Idealize.ShloMosaic.TcCoe Idealize.SL.Sem
open Idealize.ShloMosaic.Pipeline (Dat)
open Cert.PostIdeal.Value (hc pick)

variable (m : (ℓ : Loc nD τ sig) → Buf (Elt Ideal) ℓ)

/-- The block each window shows at each point. -/
theorem idx : ∀ t : Fin cfg0.N, (grid0.coords t 0).val = t.val ∧ win0_0.index t = ![t.val, 0]
    ∧ win0_1.index t = ![t.val * 64 - 1, 0]
    ∧ win0_2.index t = ![t.val, 0]
    ∧ win0_3.index t = ![0, 0]
    ∧ win0_4.index t = ![0, 0]
    ∧ win0_5.index t = ![0, 0]
    ∧ win0_6.index t = ![0, t.val, 0]
    ∧ win0_7.index t = ![t.val, 0]
    ∧ win0_8.index t = ![t.val, 0]
    ∧ win0_9.index t = ![t.val, 0]
    ∧ win0_10.index t = ![0, 0]
    ∧ win0_11.index t = ![0, 0] :=
  (by decide +kernel : ∀ t : Fin grid0.N, _)

/-- Argument 0 on a device. -/
abbrev A0 (c : Dev nD) := m ((c : Thread nD τ).loc main_arg0)
/-- Argument 1 on a device. -/
abbrev A1 (c : Dev nD) := m ((c : Thread nD τ).loc main_arg1)
/-- Argument 2 on a device. -/
abbrev A2 (c : Dev nD) := m ((c : Thread nD τ).loc main_arg2)
/-- Argument 3 on a device. -/
abbrev A3 (c : Dev nD) := m ((c : Thread nD τ).loc main_arg3)
/-- Argument 4 on a device. -/
abbrev A4 (c : Dev nD) := m ((c : Thread nD τ).loc main_arg4)
/-- Argument 5 on a device. -/
abbrev A5 (c : Dev nD) := m ((c : Thread nD τ).loc main_arg5)
/-- Argument 6 on a device. -/
abbrev A6 (c : Dev nD) := m ((c : Thread nD τ).loc main_arg6)

/-- The arrays that have to be real are. -/
theorem reals [Cert.Pre_finite_prep.Facts] (h : Cert.Pre_PrepIdeal_finite_prep m) (c : Dev nD) :
    (∀ a, IsReal (A0 m c a))
      ∧ (∀ a, IsReal (A1 m c a))
      ∧ (∀ a, IsReal (A2 m c a))
      ∧ (∀ a, IsReal (A3 m c a))
      ∧ (∀ a, IsReal (A4 m c a))
      ∧ (∀ a, IsReal (A5 m c a)) := by
  have h0 := congrFun (h c).1
  have h1 := congrFun (h c).2.1
  have h2 := congrFun (h c).2.2.1
  have h3 := congrFun (h c).2.2.2.1
  have h4 := congrFun (h c).2.2.2.2.1
  have h5 := congrFun (h c).2.2.2.2.2
  pointwise [Cert.Pre_finite_prep.fn] at h0 h1 h2 h3 h4 h5
  exact ⟨fun a => isReal_of_f32 (h0 a), fun a => isReal_of_f32 (h1 a), fun a => isReal_of_f32 (h2 a), fun a => isReal_of_f32 (h3 a), fun a => isReal_of_f32 (h4 a), fun a => isReal_of_f32 (h5 a)⟩

theorem rowlt (t : Fin cfg0.N) (p : Fin 512) : t.val * 512 + p.val < 8192 := by
  have h : t.val < 16 := t.isLt
  omega

theorem host0 (c : Dev nD) : V m c main_v0 = pad S8192x128 ![0, 0] ![0, 112] ![0, 0] ((A1 m c) : FVec Ideal S8192x16 .f32) (sitofp (F := Ideal) .f32 (constantI S_ 32 0#32)) pads_S8192x16_S8192x128_000_01120 := by
  simp only [V, hostOps0, hostOps0_1, hostOps0_2, hostOps0_3, hostOps0_4, hostOps0_5, List.flatten_cons, List.flatten_nil, List.cons_append, List.nil_append, List.append_nil]
  after_results
  rfl
theorem pad0_at (x : S8192x16.Idx → EReal) (z : S8192x128.Idx) : (pad S8192x128 ![0, 0] ![0, 112] ![0, 0] (x : FVec Ideal S8192x16 .f32) (sitofp (F := Ideal) .f32 (constantI S_ 32 0#32)) pads_S8192x16_S8192x128_000_01120 : S8192x128.Idx → EReal) z = @dite EReal ((z 1).val < 16) _ (fun h => x (ix2 (z 0) ⟨(z 1).val, h⟩)) (fun _ => 0) := by
  pointwise [FloatOps.sitofp]
  try norm_num
  try rfl
theorem blk2 (c : Dev nD) (t : Fin cfg0.N) : iblk m c 2 t = fun y : S512x128.Idx => @dite EReal ((y 1).val < 16) _ (fun h => A1 m c (ix2 ⟨t.val * 512 + (y 0).val, rowlt t (y 0)⟩ ⟨(y 1).val, h⟩)) (fun _ => 0) := by
  funext (y : S512x128.Idx)
  have e : ((cfg0.win 2).blk t).view.emb y = ix2 ⟨t.val * 512 + (y 0).val, rowlt t (y 0)⟩ (y 1) := funext fun a => by
    fin_cases a
    · exact Fin.ext ((win0_2.rect_emb_val t y 0).trans (by rw [(idx t).2.2.2.1]; first | rfl | exact Nat.zero_add _))
    · exact Fin.ext ((win0_2.rect_emb_val t y 1).trans (by rw [(idx t).2.2.2.1]; exact Nat.zero_add _))
  exact ((congrArg (V m c main_v0) e).trans (congrFun (host0 m c) _)).trans (pad0_at _ _)
theorem host1 (c : Dev nD) : V m c main_v1 = pad S1x128 ![0, 8] ![0, 112] ![0, 0] ((A3 m c) : FVec Ideal S1x8 .f32) (sitofp (F := Ideal) .f32 (constantI S_ 32 0#32)) pads_S1x8_S1x128_000_81120 := by
  simp only [V, hostOps0, hostOps0_1, hostOps0_2, hostOps0_3, hostOps0_4, hostOps0_5, List.flatten_cons, List.flatten_nil, List.cons_append, List.nil_append, List.append_nil]
  after_results
  rfl
theorem pad1_at (x : S1x8.Idx → EReal) (z : S1x128.Idx) : (pad S1x128 ![0, 8] ![0, 112] ![0, 0] (x : FVec Ideal S1x8 .f32) (sitofp (F := Ideal) .f32 (constantI S_ 32 0#32)) pads_S1x8_S1x128_000_81120 : S1x128.Idx → EReal) z = @dite EReal (8 ≤ (z 1).val ∧ (z 1).val - 8 < 8) _ (fun h => x (ix2 0 ⟨(z 1).val - 8, h.2⟩)) (fun _ => 0) := by
  pointwise [FloatOps.sitofp]
  try norm_num
  try rfl
theorem blk4 (c : Dev nD) (t : Fin cfg0.N) : iblk m c 4 t = fun y : S1x128.Idx => @dite EReal (8 ≤ (y 1).val ∧ (y 1).val - 8 < 8) _ (fun h => A3 m c (ix2 0 ⟨(y 1).val - 8, h.2⟩)) (fun _ => 0) := by
  funext (y : S1x128.Idx)
  have e : ((cfg0.win 4).blk t).view.emb y = ix2 (y 0) (y 1) := funext fun a => by
    fin_cases a
    · exact Fin.ext ((win0_4.rect_emb_val t y 0).trans (by rw [(idx t).2.2.2.2.2.1]; first | rfl | exact Nat.zero_add _))
    · exact Fin.ext ((win0_4.rect_emb_val t y 1).trans (by rw [(idx t).2.2.2.2.2.1]; exact Nat.zero_add _))
  exact ((congrArg (V m c main_v1) e).trans (congrFun (host1 m c) _)).trans (pad1_at _ _)
theorem host2 (c : Dev nD) : V m c main_v2 = pad S1x128 ![0, 8] ![0, 112] ![0, 0] ((A4 m c) : FVec Ideal S1x8 .f32) (sitofp (F := Ideal) .f32 (constantI S_ 32 0#32)) pads_S1x8_S1x128_000_81120 := by
  simp only [V, hostOps0, hostOps0_1, hostOps0_2, hostOps0_3, hostOps0_4, hostOps0_5, List.flatten_cons, List.flatten_nil, List.cons_append, List.nil_append, List.append_nil]
  after_results
  rfl
theorem blk5 (c : Dev nD) (t : Fin cfg0.N) : iblk m c 5 t = fun y : S1x128.Idx => @dite EReal (8 ≤ (y 1).val ∧ (y 1).val - 8 < 8) _ (fun h => A4 m c (ix2 0 ⟨(y 1).val - 8, h.2⟩)) (fun _ => 0) := by
  funext (y : S1x128.Idx)
  have e : ((cfg0.win 5).blk t).view.emb y = ix2 (y 0) (y 1) := funext fun a => by
    fin_cases a
    · exact Fin.ext ((win0_5.rect_emb_val t y 0).trans (by rw [(idx t).2.2.2.2.2.2.1]; first | rfl | exact Nat.zero_add _))
    · exact Fin.ext ((win0_5.rect_emb_val t y 1).trans (by rw [(idx t).2.2.2.2.2.2.1]; exact Nat.zero_add _))
  exact ((congrArg (V m c main_v2) e).trans (congrFun (host2 m c) _)).trans (pad1_at _ _)
theorem blk3 (c : Dev nD) (t : Fin cfg0.N) : iblk m c 3 t = fun y : S4x1536.Idx => A2 m c (ix2 (y 0) (y 1)) := by
  funext y
  blk_point [iblk, V, idx t]
theorem blk6 (c : Dev nD) (t : Fin cfg0.N) : iblk m c 6 t = fun y : S5x512x512.Idx => A5 m c (ix3 (y 0) ⟨t.val * 512 + (y 1).val, rowlt t (y 1)⟩ (y 2)) := by
  funext y
  blk_point [iblk, V, idx t]
theorem blk7 (c : Dev nD) (t : Fin cfg0.N) : iblk m c 7 t = fun y : S512x1024.Idx => A6 m c (ix2 ⟨t.val * 512 + (y 0).val, rowlt t (y 0)⟩ (y 1)) := by
  funext y
  blk_point [iblk, V, idx t]

/-- A row of the convolution's argument, three zero rows before the first. -/
def xRow (c : Dev nD) (n : ℕ) (l : Fin 1536) : EReal :=
  if h : 3 ≤ n ∧ n - 3 < 8192 then A0 m c (ix2 ⟨n - 3, h.2⟩ ⟨l.val, by omega⟩) else 0

/-- The rows the stage holds behind the tile. -/
theorem behind (c : Dev nD) (t : Fin cfg0.N) (o : ℕ) (h1 h2 h3) :
    (View.whole cc0_scratch0).readCov (Val := Elt Ideal)
        [⟨Rect.unit ![8, 0] ![512, 1536] h1, k0_pay6 (X0_0 m c t)⟩,
          ⟨Rect.unit ![0, 0] ![8, 1536] h2, k0_pay5 (grid0.coords t) (X0_1 m c t)⟩] (Rect.unit ![o, 0] ![512, 1536] h3).toLoadRect
      = fun y : S512x1536.Idx => xRow m c (t.val * 512 + (o + (y 0).val) - 5) (y 1) := by
  refine Stage.readCov_two (Val := Elt Ideal) (e := .f32) _ (fun n l => xRow m c (t.val * 512 + n - 5) l) _ _ (fun x => ?_) (fun x => ?_) (fun r hr => by omega) _ _ _
  · show k0_pay6 (X0_0 m c t) x = xRow m c (t.val * 512 + (8 + (x 0).val) - 5) (x 1)
    pointwise [k0_pay6, xRow]
    have ht : t.val < 16 := t.isLt
    rw [dif_pos (by have : (x 0).val < 512 := (x 0).isLt; omega)]
    unfold X0_0 Pipeline.Window.fill
    rw [dif_pos (moved0_0 t x)]
    blk_point [iblk, V, idx t]
  · show k0_pay5 (grid0.coords t) (X0_1 m c t) x = xRow m c (t.val * 512 + (0 + (x 0).val) - 5) (x 1)
    pointwise [k0_pay5, xRow]
    have ht : t.val < 16 := t.isLt
    have hx : (x 0).val < 8 := (x 0).isLt
    by_cases e : t.val = 0
    · rw [(idx t).1, e]
      rw [dif_neg (by omega)]
      rfl
    · rw [dif_pos (by omega), show Scalar.cmpi CmpIPredicate.eq (BitVec.ofNat 32 (grid0.coords t 0).val) 0#32 = 0#1 from by
        rw [(idx t).1]; exact (by decide +kernel : ∀ n : Fin 16, ¬ n.val = 0 → Scalar.cmpi CmpIPredicate.eq (BitVec.ofNat 32 n.val) 0#32 = 0#1) ⟨_, ht⟩ e]
      show X0_1 m c t x = _
      unfold X0_1 Pipeline.Window.fill
      rw [dif_pos (moved0_1 t x)]
      blk_point [iblk, V, idx t]

/-- Each head's sum of the gradient at its gate, at lane `head`. -/
abbrev DB (c : Dev nD) (t : Fin cfg0.N) : S512x128.Idx → Elt Ideal .f32 := k0_pay31 (F := Ideal)
  (k0_pay29 (View.ld (iblk m c 6 t) (Rect.unit ![3, 0, 0] ![1, 512, 512] inb_S5x512x512_S1x512x512_3_0_0)))
  (iota Kind.tc S512x128 32 [0] iota_S512x128_d0_w32) (64#32) k0_pay30 0#32

/-- Each head's sum of the gradient at its running decay, at lane `head + 8`. -/
abbrev DG (c : Dev nD) (t : Fin cfg0.N) : S512x128.Idx → Elt Ideal .f32 := k0_pay34 (F := Ideal)
  (k0_pay32 (View.ld (iblk m c 6 t) (Rect.unit ![4, 0, 0] ![1, 512, 512] inb_S5x512x512_S1x512x512_4_0_0)))
  (iota Kind.tc S512x128 32 [0] iota_S512x128_d0_w32) (64#32) k0_pay33 0#32

/-- The sigmoid of the decay's logits. -/
abbrev SG (c : Dev nD) (t : Fin cfg0.N) : S512x128.Idx → Elt Ideal .f32 := k0_pay40 (F := Ideal) (k0_pay27 (iblk m c 2 t)) (k0_pay36 (iblk m c 5 t))

/-- The decay itself. -/
abbrev G8 (c : Dev nD) (t : Fin cfg0.N) : S512x128.Idx → Elt Ideal .f32 := k0_pay39 (F := Ideal) (k0_pay27 (iblk m c 2 t)) (k0_pay36 (iblk m c 5 t)) (iblk m c 4 t)

theorem DB_at [Cert.Pre_finite_prep.Facts] (hpre : Cert.Pre_PrepIdeal_finite_prep m) (c : Dev nD) (t : Fin cfg0.N) (y : S512x128.Idx) : (DB m c t y : EReal)
    = @dite EReal ((y 1).val < 8) _ (fun h => ∑ d : Fin 64, A5 m c (ix3 3 ⟨t.val * 512 + (y 0).val, rowlt t (y 0)⟩ ⟨(y 1).val * 64 + d.val, by omega⟩)) (fun _ => 0) := by
  have hl : (y 1).val < 128 := (y 1).isLt
  have oh (x : Fin 512) := onehot (a := x.val / 64 + 0) (b := (y 1).val) (by omega) (by omega)
  unfold DB
  rw [blk6]
  pointwise [k0_pay31, k0_pay30, k0_pay29]
  simp only [fdiv, addword, oh]
  exact (split3 (fun x : Fin 512 => (A5 m c (ix3 3 ⟨t.val * 512 + (y 0).val, rowlt t (y 0)⟩ x) : EReal)) (fun x => if x.val / 64 + 0 = (y 1).val then 1 else 0)
    fun x => (reals m hpre c).2.2.2.2.2 _).trans ((head_pick _ 0 (y 1).val).trans (by simp))

theorem DG_at [Cert.Pre_finite_prep.Facts] (hpre : Cert.Pre_PrepIdeal_finite_prep m) (c : Dev nD) (t : Fin cfg0.N) (y : S512x128.Idx) : (DG m c t y : EReal)
    = @dite EReal (8 ≤ (y 1).val ∧ (y 1).val - 8 < 8) _ (fun h => ∑ d : Fin 64, A5 m c (ix3 4 ⟨t.val * 512 + (y 0).val, rowlt t (y 0)⟩ ⟨((y 1).val - 8) * 64 + d.val, by omega⟩)) (fun _ => 0) := by
  have hl : (y 1).val < 128 := (y 1).isLt
  have oh (x : Fin 512) := onehot (a := x.val / 64 + 8) (b := (y 1).val) (by omega) (by omega)
  unfold DG
  rw [blk6]
  pointwise [k0_pay34, k0_pay33, k0_pay32]
  simp only [fdiv, addword, oh]
  exact (split3 (fun x : Fin 512 => (A5 m c (ix3 4 ⟨t.val * 512 + (y 0).val, rowlt t (y 0)⟩ x) : EReal)) (fun x => if x.val / 64 + 8 = (y 1).val then 1 else 0)
    fun x => (reals m hpre c).2.2.2.2.2 _).trans (head_pick _ 8 (y 1).val)

theorem sg_at (X : S512x128.Idx → Elt Ideal .f32) (D : S1x128.Idx → Elt Ideal .f32) (y : S512x128.Idx) :
    (k0_pay40 (F := Ideal) (k0_pay27 X) (k0_pay36 D) y : EReal) = Ideal.logistic ((X y : EReal) + D (ix2 0 (y 1))) := by
  pointwise [k0_pay40, k0_pay37, k0_pay27, k0_pay36]
  generalize X y = a
  generalize D (ix2 0 (y 1)) = b
  exact sigmoid_eq _

theorem g8_at (X : S512x128.Idx → Elt Ideal .f32) (D : S1x128.Idx → Elt Ideal .f32) (E : S1x128.Idx → Elt Ideal .f32) (y : S512x128.Idx) :
    (k0_pay39 (F := Ideal) (k0_pay27 X) (k0_pay36 D) E y : EReal)
      = (0 - Ideal.exp (E (ix2 0 (y 1)))) * sp ((X y : EReal) + D (ix2 0 (y 1))) := by
  pointwise [k0_pay39, k0_pay27, k0_pay36, k0_pay37, k0_pay38, sp]
  simp only [zero_sub]
  rfl

theorem b8_at (X : S512x128.Idx → Elt Ideal .f32) (y : S512x128.Idx) : (k0_pay28 (F := Ideal) X y : EReal) = Ideal.logistic (X y) := by
  pointwise [k0_pay28, k0_pay27]
  generalize X y = a
  exact sigmoid_eq _

/-- A row's head's gradient at its gate. -/
theorem db_ref (x5 : (⟨3, ![5, 8192, 512]⟩ : Shape).Idx → EReal) (n : Fin 8192) (l : Fin 8) : (Cert.PrepRefIdeal.Read.val_main_v119 (F := Ideal) x5 (ix2 n l) : EReal)
    = ∑ d : Fin 64, x5 (ix3 3 n ⟨l.val * 64 + d.val, by omega⟩) := by
  pointwise [Cert.PrepRefIdeal.Read.val_main_v119, Cert.PrepRefIdeal.Read.val_main_v118, Cert.PrepRefIdeal.Read.val_main_v117, Cert.PrepRefIdeal.Read.val_main_v110, Cert.PrepRefIdeal.Read.val_main_v106, Cert.PrepRefIdeal.Read.val_main_v105, Cert.PrepRefIdeal.Read.val_main_cst_13, Cert.PrepRefIdeal.Read.val_main_cst_14]
  exact Fin.sum_univ_one _

theorem dg_ref (x5 : (⟨3, ![5, 8192, 512]⟩ : Shape).Idx → EReal) (n : Fin 8192) (l : Fin 8) : (Cert.PrepRefIdeal.Read.val_main_v116 (F := Ideal) x5 (ix2 n l) : EReal)
    = ∑ d : Fin 64, x5 (ix3 4 n ⟨l.val * 64 + d.val, by omega⟩) := by
  pointwise [Cert.PrepRefIdeal.Read.val_main_v116, Cert.PrepRefIdeal.Read.val_main_v115, Cert.PrepRefIdeal.Read.val_main_v114, Cert.PrepRefIdeal.Read.val_main_v109, Cert.PrepRefIdeal.Read.val_main_v108, Cert.PrepRefIdeal.Read.val_main_v107, Cert.PrepRefIdeal.Read.val_main_cst_11, Cert.PrepRefIdeal.Read.val_main_cst_12]
  exact Fin.sum_univ_one _

/-- The chunk's running sum from a row on. -/
theorem run_ref (x5 : (⟨3, ![5, 8192, 512]⟩ : Shape).Idx → EReal) (n : Fin 8192) (l : Fin 8) : (Cert.PrepRefIdeal.Read.val_main_v122 (F := Ideal) x5 (ix2 n l) : EReal)
    = rev (fun x => Cert.PrepRefIdeal.Read.val_main_v116 (F := Ideal) x5 (ix2 ⟨n.val / 64 * 64 + x.val, by omega⟩ l)) ⟨n.val % 64, by omega⟩ := by
  rw [Cert.PrepRefIdeal.Read.val_main_v122_apply]
  have z : Cert.PrepRefIdeal.Read.val_main_call3_call0_v0 (F := Ideal) (Shape.Idx.first Cert.PrepRefIdeal.Gen.h_S_) = (0 : EReal) := by
    pointwise [Cert.PrepRefIdeal.Read.val_main_call3_call0_v0, Cert.PrepRefIdeal.Read.val_main_call3_call0_cst]
  unfold Cert.PrepRefIdeal.Read.val_main_v121 Host.reduceWindowAdd
  rw [Ideal.hostReduceWindowAdd_def, z]
  have e (k : Fin 64) : (Cert.PrepRefIdeal.Read.val_main_v120 (F := Ideal) x5 (ix3 ⟨n.val / 64, by omega⟩ k l) : EReal)
      = Cert.PrepRefIdeal.Read.val_main_v116 (F := Ideal) x5 (ix2 ⟨n.val / 64 * 64 + k.val, by omega⟩ l) := by
    pointwise [Cert.PrepRefIdeal.Read.val_main_v120]
  have hi : Cert.PrepRefIdeal.Read.idx_main_v122 (ix2 n l) = ix3 ⟨n.val / 64, by omega⟩ ⟨n.val % 64, by omega⟩ l := by
    funext a
    fin_cases a
    · apply Fin.ext; show (n.val * 8 + l.val) / 512 = n.val / 64; omega
    · apply Fin.ext; show (n.val * 8 + l.val) / 8 % 64 = n.val % 64; omega
    · apply Fin.ext; show (n.val * 8 + l.val) % 8 = l.val; omega
  rw [hi]
  generalize Cert.PrepRefIdeal.Read.val_main_v120 (F := Ideal) x5 = V at *
  refine (window_rev V _ (ix3 ⟨n.val / 64, by omega⟩ ⟨n.val % 64, by omega⟩ l)).trans ?_
  exact congrArg (rev · _) (funext e)

/-- The rate's derivative factor. -/
theorem beta_ref (x1 : (⟨2, ![8192, 16]⟩ : Shape).Idx → EReal) (n : Fin 8192) (l : Fin 8) : (Cert.PrepRefIdeal.Read.val_main_v73 (F := Ideal) x1 (ix2 n l) : EReal)
    = Ideal.logistic (x1 (ix2 n ⟨l.val, by omega⟩)) * (1 - Ideal.logistic (x1 (ix2 n ⟨l.val, by omega⟩))) := by
  pointwise [Cert.PrepRefIdeal.Read.val_main_v73, Cert.PrepRefIdeal.Read.val_main_v72, Cert.PrepRefIdeal.Read.val_main_v71, Cert.PrepRefIdeal.Read.val_main_v70, Cert.PrepRefIdeal.Read.val_main_v69, Cert.PrepRefIdeal.Read.val_main_v68, Cert.PrepRefIdeal.Read.val_main_v67, Cert.PrepRefIdeal.Read.val_main_v66, Cert.PrepRefIdeal.Read.val_main_v65, Cert.PrepRefIdeal.Read.val_main_v32, Cert.PrepRefIdeal.Read.val_main_cst_8, Cert.PrepRefIdeal.Read.val_main_cst_9, Cert.PrepRefIdeal.Read.val_main_cst_10]
  rfl

/-- The decay's logit. -/
abbrev zz (x1 : (⟨2, ![8192, 16]⟩ : Shape).Idx → EReal) (x4 : (⟨2, ![1, 8]⟩ : Shape).Idx → EReal) (n : Fin 8192) (l : Fin 8) : EReal :=
  x1 (ix2 n ⟨8 + l.val, by omega⟩) + x4 (ix2 0 l)

theorem soft_ref (x1 : (⟨2, ![8192, 16]⟩ : Shape).Idx → EReal) (x4 : (⟨2, ![1, 8]⟩ : Shape).Idx → EReal) (n : Fin 8192) (l : Fin 8) (hz : IsReal (zz x1 x4 n l)) :
    (Cert.PrepRefIdeal.Read.val_main_v78_0 (F := Ideal) x1 x4 (ix2 n l) : EReal) = sp (zz x1 x4 n l) := by
  pointwise [Cert.PrepRefIdeal.Read.val_main_v78_0, Cert.PrepRefIdeal.Read.val_main_v77, Cert.PrepRefIdeal.Read.val_main_v76, Cert.PrepRefIdeal.Read.val_main_v33, Cert.PrepRefIdeal.Read.val_main_call1_v0, Cert.PrepRefIdeal.Read.val_main_call1_cst, Cert.PrepRefIdeal.Read.val_main_call1_v1, Cert.PrepRefIdeal.Read.val_main_call1_v2, Cert.PrepRefIdeal.Read.val_main_call1_v3, Cert.PrepRefIdeal.Read.val_main_call1_v4, Cert.PrepRefIdeal.Read.val_main_call1_v5, Cert.PrepRefIdeal.Read.val_main_call1_v6, Cert.PrepRefIdeal.Read.val_main_call1_v7, Cert.PrepRefIdeal.Read.val_main_call1_v8, Cert.PrepRefIdeal.Read.val_main_call1_v9, Cert.PrepRefIdeal.Read.val_main_call1_v10, Cert.PrepRefIdeal.Read.val_main_call1_v11]
  rw [if_neg (fun h => h rfl)]
  rfl

theorem slope_ref (x1 : (⟨2, ![8192, 16]⟩ : Shape).Idx → EReal) (x4 : (⟨2, ![1, 8]⟩ : Shape).Idx → EReal) (n : Fin 8192) (l : Fin 8) (hz : IsReal (zz x1 x4 n l)) :
    (Cert.PrepRefIdeal.Read.val_main_v78_1 (F := Ideal) x1 x4 (ix2 n l) : EReal) = Ideal.logistic (zz x1 x4 n l) := by
  have hs := soft_ref x1 x4 n l hz
  pointwise [Cert.PrepRefIdeal.Read.val_main_v78_1, Cert.PrepRefIdeal.Read.val_main_call1_v13, Cert.PrepRefIdeal.Read.val_main_call1_cst_0, Cert.PrepRefIdeal.Read.val_main_call1_v14, Cert.PrepRefIdeal.Read.val_main_call1_cst_1, Cert.PrepRefIdeal.Read.val_main_call1_v15, Cert.PrepRefIdeal.Read.val_main_call1_v16, Cert.PrepRefIdeal.Read.val_main_call1_cst_2, Cert.PrepRefIdeal.Read.val_main_call1_v17, Cert.PrepRefIdeal.Read.val_main_call1_v18, Cert.PrepRefIdeal.Read.val_main_call1_cst_3, Cert.PrepRefIdeal.Read.val_main_call1_v19, Cert.PrepRefIdeal.Read.val_main_call1_v20, Cert.PrepRefIdeal.Read.val_main_call1_v21, Cert.PrepRefIdeal.Read.val_main_v77, Cert.PrepRefIdeal.Read.val_main_v76, Cert.PrepRefIdeal.Read.val_main_v33]
  rw [if_neg (by rw [inf_f32]; exact hz.ne_top), hs, if_neg (by rw [inf_f32]; exact (sp_real hz).ne_top)]
  exact exp_sub_sp hz

/-- One element of the gradient at the decay's logits. -/
def fall (G S : S512x128.Idx → Elt Ideal .f32) (E : S1x128.Idx → Elt Ideal .f32) (n : Fin 512) (l : Fin 128) : EReal :=
  (0 - revN (fun k => G (ix2 k l)) n) * Ideal.exp (E (ix2 0 l)) * S (ix2 n l)

/-- One element of the gradient at the rate's and the decay's logits. -/
def cell (X D G S : S512x128.Idx → Elt Ideal .f32) (E : S1x128.Idx → Elt Ideal .f32) (n : Fin 512) (l : Fin 128) : EReal :=
  (D (ix2 n l) : EReal) * X (ix2 n l) * (1 - X (ix2 n l)) + fall G S E n l

/-- A chunk's product with the triangle of ones in three pieces, at the tile's rows. -/
theorem tri_of (G : S512x128.Idx → Elt Ideal .f32) (hG : ∀ i, IsReal (G i)) (o : ℕ) (ho : ∃ q, o = q * 64) (e : Fin 64 → Fin 512) (he : ∀ x, (e x).val = o + x.val) (r : Fin 64) (l : Fin 128) :
    (∑ x : Fin 64, FloatOps.sitofp (F := Ideal) FTy.f32 (BitVec.setWidth 32 (IntOp.cmpi CmpIPredicate.sge (BitVec.ofNat 32 x.val) (BitVec.ofNat 32 r.val))) * (G (ix2 (e x) l) : EReal)
      + (∑ x : Fin 64, FloatOps.sitofp (F := Ideal) FTy.f32 (BitVec.setWidth 32 (IntOp.cmpi CmpIPredicate.sge (BitVec.ofNat 32 x.val) (BitVec.ofNat 32 r.val))) * ((G (ix2 (e x) l) : EReal) - G (ix2 (e x) l))
        + ∑ x : Fin 64, FloatOps.sitofp (F := Ideal) FTy.f32 (BitVec.setWidth 32 (IntOp.cmpi CmpIPredicate.sge (BitVec.ofNat 32 x.val) (BitVec.ofNat 32 r.val))) * ((G (ix2 (e x) l) : EReal) - G (ix2 (e x) l) - (G (ix2 (e x) l) - G (ix2 (e x) l)))) : EReal)
      = revN (fun k => G (ix2 k l)) (e r) :=
  (rev_split (fun x => G (ix2 (e x) l)) (fun x => hG _) r).trans (revN_of (fun k => G (ix2 k l)) o ho e he r)

theorem ge64 (o : ℕ) (h : o + 64 ≤ 512) (x : Fin 64) : o + x.val < 512 := by omega

section Chunks

variable (X D G S : S512x128.Idx → Elt Ideal .f32) (E : S1x128.Idx → Elt Ideal .f32) (hG : ∀ i, IsReal (G i))
include hG

/-! Each chunk's running sum, its gradient at the decay's logits, its rows of the result. -/

theorem run0 (r : Fin 64) (l : Fin 128) : (k0_pay43 (F := Ideal) G k0_pay35 (ix2 r l) : EReal) = revN (fun k => G (ix2 k l)) ⟨r.val, by omega⟩ := by
  pointwise [k0_pay43, k0_pay35]
  exact tri_of G hG 0 ⟨0, rfl⟩ (fun x => ⟨x.val, by omega⟩) (fun x => (Nat.zero_add _).symm) r l
theorem gate0 (r : Fin 64) (l : Fin 128) : (k0_pay45 (F := Ideal) S (k0_pay44 G k0_pay35 E) (ix2 r l) : EReal) = fall G S E ⟨r.val, by omega⟩ l := by
  pointwise [k0_pay45, k0_pay44, k0_pay38, run0 G hG]
  rfl
theorem block0 (r : Fin 64) (l : Fin 128) : (k0_pay46 (F := Ideal) X D S (k0_pay44 G k0_pay35 E) (ix2 r l) : EReal) = cell X D G S E ⟨r.val, by omega⟩ l := by
  pointwise [k0_pay46, gate0 G S E hG]
  rfl

theorem run1 (r : Fin 64) (l : Fin 128) : (k0_pay49 (F := Ideal) G k0_pay35 (ix2 r l) : EReal) = revN (fun k => G (ix2 k l)) ⟨64 + r.val, by omega⟩ := by
  pointwise [k0_pay49, k0_pay35]
  exact tri_of G hG 64 ⟨1, rfl⟩ (fun x => ⟨64 + x.val, by omega⟩) (fun x => rfl) r l
theorem gate1 (r : Fin 64) (l : Fin 128) : (k0_pay50 (F := Ideal) G k0_pay35 (k0_pay38 E) S (ix2 r l) : EReal) = fall G S E ⟨64 + r.val, by omega⟩ l := by
  pointwise [k0_pay50, k0_pay38, run1 G hG]
  rfl
theorem block1 (r : Fin 64) (l : Fin 128) : (k0_pay51 (F := Ideal) X D G k0_pay35 (k0_pay38 E) S (ix2 r l) : EReal) = cell X D G S E ⟨64 + r.val, by omega⟩ l := by
  pointwise [k0_pay51, gate1 G S E hG]
  rfl

theorem run2 (r : Fin 64) (l : Fin 128) : (k0_pay52 (F := Ideal) G k0_pay35 (ix2 r l) : EReal) = revN (fun k => G (ix2 k l)) ⟨128 + r.val, by omega⟩ := by
  pointwise [k0_pay52, k0_pay35]
  exact tri_of G hG 128 ⟨2, rfl⟩ (fun x => ⟨128 + x.val, by omega⟩) (fun x => rfl) r l
theorem gate2 (r : Fin 64) (l : Fin 128) : (k0_pay53 (F := Ideal) G k0_pay35 (k0_pay38 E) S (ix2 r l) : EReal) = fall G S E ⟨128 + r.val, by omega⟩ l := by
  pointwise [k0_pay53, k0_pay38, run2 G hG]
  rfl
theorem block2 (r : Fin 64) (l : Fin 128) : (k0_pay54 (F := Ideal) X D G k0_pay35 (k0_pay38 E) S (ix2 r l) : EReal) = cell X D G S E ⟨128 + r.val, by omega⟩ l := by
  pointwise [k0_pay54, gate2 G S E hG]
  rfl

theorem run3 (r : Fin 64) (l : Fin 128) : (k0_pay58 (F := Ideal) k0_pay35 (k0_pay57 G) (ix2 r l) : EReal) = revN (fun k => G (ix2 k l)) ⟨192 + r.val, by omega⟩ := by
  pointwise [k0_pay58, k0_pay57, k0_pay35]
  exact tri_of G hG 192 ⟨3, rfl⟩ (fun x => ⟨192 + x.val, by omega⟩) (fun x => rfl) r l
theorem gate3 (r : Fin 64) (l : Fin 128) : (k0_pay59 (F := Ideal) k0_pay35 (k0_pay38 E) S (k0_pay57 G) (ix2 r l) : EReal) = fall G S E ⟨192 + r.val, by omega⟩ l := by
  pointwise [k0_pay59, k0_pay38, run3 G hG]
  rfl
theorem block3 (r : Fin 64) (l : Fin 128) : (k0_pay60 (F := Ideal) X D k0_pay35 (k0_pay38 E) S (k0_pay57 G) (ix2 r l) : EReal) = cell X D G S E ⟨192 + r.val, by omega⟩ l := by
  pointwise [k0_pay60, gate3 G S E hG]
  rfl

theorem run4 (r : Fin 64) (l : Fin 128) : (k0_pay71 (F := Ideal) (k0_pay64 k0_pay35) (k0_pay68 G) (k0_pay69 G k0_pay35) (k0_pay70 G k0_pay35) (constant S64x128 FTy.f32 0#32) (ix2 r l) : EReal) = revN (fun k => G (ix2 k l)) ⟨256 + r.val, by omega⟩ := by
  pointwise [k0_pay71, k0_pay70, k0_pay69, k0_pay68, k0_pay67, k0_pay66, k0_pay65, k0_pay64, k0_pay63, k0_pay35]
  exact tri_of G hG 256 ⟨4, rfl⟩ (fun x => ⟨256 + x.val, by omega⟩) (fun x => rfl) r l
theorem gate4 (r : Fin 64) (l : Fin 128) : (k0_pay72 (F := Ideal) (k0_pay38 E) S (k0_pay64 k0_pay35) (k0_pay68 G) (k0_pay69 G k0_pay35) (k0_pay70 G k0_pay35) (constant S64x128 FTy.f32 0#32) (ix2 r l) : EReal) = fall G S E ⟨256 + r.val, by omega⟩ l := by
  pointwise [k0_pay72, k0_pay38, run4 G hG]
  rfl
theorem block4 (r : Fin 64) (l : Fin 128) : (k0_pay73 (F := Ideal) X D (k0_pay38 E) S (k0_pay64 k0_pay35) (k0_pay68 G) (k0_pay69 G k0_pay35) (k0_pay70 G k0_pay35) (constant S64x128 FTy.f32 0#32) (ix2 r l) : EReal) = cell X D G S E ⟨256 + r.val, by omega⟩ l := by
  pointwise [k0_pay73, gate4 G S E hG]
  rfl

theorem run5 (r : Fin 64) (l : Fin 128) : (k0_pay76 (F := Ideal) G k0_pay35 (ix2 r l) : EReal) = revN (fun k => G (ix2 k l)) ⟨320 + r.val, by omega⟩ := by
  pointwise [k0_pay76, k0_pay35]
  exact tri_of G hG 320 ⟨5, rfl⟩ (fun x => ⟨320 + x.val, by omega⟩) (fun x => rfl) r l
theorem gate5 (r : Fin 64) (l : Fin 128) : (k0_pay77 (F := Ideal) G k0_pay35 (k0_pay38 E) S (ix2 r l) : EReal) = fall G S E ⟨320 + r.val, by omega⟩ l := by
  pointwise [k0_pay77, k0_pay38, run5 G hG]
  rfl
theorem block5 (r : Fin 64) (l : Fin 128) : (k0_pay79 (F := Ideal) X (k0_pay77 G k0_pay35 (k0_pay38 E) S) (k0_pay78 X D) (ix2 r l) : EReal) = cell X D G S E ⟨320 + r.val, by omega⟩ l := by
  pointwise [k0_pay79, k0_pay78, gate5 G S E hG]
  rfl

theorem run6 (r : Fin 64) (l : Fin 128) : (k0_pay82 (F := Ideal) G k0_pay35 (ix2 r l) : EReal) = revN (fun k => G (ix2 k l)) ⟨384 + r.val, by omega⟩ := by
  pointwise [k0_pay82, k0_pay35]
  exact tri_of G hG 384 ⟨6, rfl⟩ (fun x => ⟨384 + x.val, by omega⟩) (fun x => rfl) r l
theorem gate6 (r : Fin 64) (l : Fin 128) : (k0_pay83 (F := Ideal) G k0_pay35 (k0_pay38 E) S (ix2 r l) : EReal) = fall G S E ⟨384 + r.val, by omega⟩ l := by
  pointwise [k0_pay83, k0_pay38, run6 G hG]
  rfl
theorem block6 (r : Fin 64) (l : Fin 128) : (k0_pay84 (F := Ideal) X D G k0_pay35 (k0_pay38 E) S (ix2 r l) : EReal) = cell X D G S E ⟨384 + r.val, by omega⟩ l := by
  pointwise [k0_pay84, gate6 G S E hG]
  rfl

theorem run7 (r : Fin 64) (l : Fin 128) : (k0_pay86 (F := Ideal) G k0_pay35 (ix2 r l) : EReal) = revN (fun k => G (ix2 k l)) ⟨448 + r.val, by omega⟩ := by
  pointwise [k0_pay86, k0_pay35]
  exact tri_of G hG 448 ⟨7, rfl⟩ (fun x => ⟨448 + x.val, by omega⟩) (fun x => rfl) r l
theorem gate7 (r : Fin 64) (l : Fin 128) : (k0_pay87 (F := Ideal) G k0_pay35 (k0_pay38 E) S (ix2 r l) : EReal) = fall G S E ⟨448 + r.val, by omega⟩ l := by
  pointwise [k0_pay87, k0_pay38, run7 G hG]
  rfl
theorem block7 (r : Fin 64) (l : Fin 128) : (k0_pay88 (F := Ideal) X D G k0_pay35 (k0_pay38 E) S (ix2 r l) : EReal) = cell X D G S E ⟨448 + r.val, by omega⟩ l := by
  pointwise [k0_pay88, gate7 G S E hG]
  rfl

/-- The tile's part of the rate's row, and of the bias's row. -/
theorem row0 (H : S512x128.Idx → Elt Ideal .f32) (g : S1x128.Idx → Elt Ideal .f32) (y : S1x128.Idx) :
    (k0_pay90 (F := Ideal) G k0_pay35 H (k0_pay80 H (k0_pay74 H (k0_pay61 k0_pay35 H (k0_pay55 G k0_pay35 H (k0_pay47 H k0_pay41 (k0_pay43 G k0_pay35)) (k0_pay49 G k0_pay35)) (k0_pay57 G)) (k0_pay64 k0_pay35) (k0_pay68 G) (k0_pay69 G k0_pay35) (k0_pay70 G k0_pay35) (constant S64x128 FTy.f32 0#32)) (k0_pay76 G k0_pay35)) (k0_pay85 G k0_pay35 H) g y : EReal)
      = g y + ∑ n : Fin 512, revN (fun k => G (ix2 k (y 1))) n * (H (ix2 n (y 1)) : EReal) := by
  pointwise [k0_pay90, k0_pay85, k0_pay80, k0_pay74, k0_pay61, k0_pay55, k0_pay47, k0_pay41, run0 G hG, run1 G hG, run2 G hG, run3 G hG, run4 G hG, run5 G hG, run6 G hG, run7 G hG]
  exact congrArg _ (sum_eight fun n => revN (fun k => G (ix2 k (y 1))) n * (H (ix2 n (y 1)) : EReal))

theorem row1 (g : S1x128.Idx → Elt Ideal .f32) (y : S1x128.Idx) :
    (k0_pay1 (F := Ideal) (k0_pay89 G k0_pay35 (k0_pay38 E) S (k0_pay81 (k0_pay75 (k0_pay38 E) S (k0_pay62 k0_pay35 (k0_pay38 E) S (k0_pay56 G k0_pay35 (k0_pay38 E) S (k0_pay48 S k0_pay42 (k0_pay44 G k0_pay35 E)) (k0_pay50 G k0_pay35 (k0_pay38 E) S)) (k0_pay57 G)) (k0_pay64 k0_pay35) (k0_pay68 G) (k0_pay69 G k0_pay35) (k0_pay70 G k0_pay35) (constant S64x128 FTy.f32 0#32)) (k0_pay77 G k0_pay35 (k0_pay38 E) S)) (k0_pay83 G k0_pay35 (k0_pay38 E) S)) g y : EReal)
      = g y + ∑ n : Fin 512, fall G S E n (y 1) := by
  pointwise [k0_pay1, k0_pay89, k0_pay81, k0_pay75, k0_pay62, k0_pay56, k0_pay48, k0_pay42, gate0 G S E hG, gate1 G S E hG, gate2 G S E hG, gate3 G S E hG, gate4 G S E hG, gate5 G S E hG, gate6 G S E hG, gate7 G S E hG]
  exact congrArg _ (sum_eight fun n => fall G S E n (y 1))

end Chunks
/-- The tile's row in the whole array. -/
abbrev at' (t : Fin cfg0.N) (n : Fin 512) : Fin 8192 := ⟨t.val * 512 + n.val, rowlt t n⟩

theorem run_at [Cert.Pre_finite_prep.Facts] (hpre : Cert.Pre_PrepIdeal_finite_prep m) (c : Dev nD) (t : Fin cfg0.N) (n : Fin 512) (l : Fin 128) (h : 8 ≤ l.val ∧ l.val - 8 < 8) :
    revN (fun k => DG m c t (ix2 k l)) n = (Cert.PrepRefIdeal.Read.val_main_v122 (F := Ideal) (A5 m c) (ix2 (at' t n) ⟨l.val - 8, h.2⟩) : EReal) := by
  have ht : t.val < 16 := t.isLt
  rw [run_ref]
  unfold revN
  have e1 : (⟨(at' t n).val % 64, Nat.mod_lt _ (by decide)⟩ : Fin 64) = ⟨n.val % 64, Nat.mod_lt _ (by decide)⟩ := Fin.ext (by show (t.val * 512 + n.val) % 64 = n.val % 64; omega)
  refine (congrArg₂ rev (funext fun x => ?_) e1.symm)
  rw [dg_ref]
  refine (DG_at m hpre c t _).trans ((dif_pos h).trans (Finset.sum_congr rfl fun d _ => congrArg (A5 m c) ?_))
  refine congrArg (fun r => ix3 _ r _) (Fin.ext ?_)
  show t.val * 512 + (n.val / 64 * 64 + x.val) = (t.val * 512 + n.val) / 64 * 64 + x.val
  omega

theorem run_off [Cert.Pre_finite_prep.Facts] (hpre : Cert.Pre_PrepIdeal_finite_prep m) (c : Dev nD) (t : Fin cfg0.N) (n : Fin 512) (l : Fin 128) (h : ¬ (8 ≤ l.val ∧ l.val - 8 < 8)) :
    revN (fun k => DG m c t (ix2 k l)) n = 0 := by
  unfold revN
  rw [show (fun x : Fin 64 => DG m c t (ix2 ⟨n.val / 64 * 64 + x.val, by omega⟩ l)) = fun _ => (0 : EReal) from funext fun x => (DG_at m hpre c t _).trans (dif_neg h)]
  exact rev_zero _

theorem DG_real [Cert.Pre_finite_prep.Facts] (hpre : Cert.Pre_PrepIdeal_finite_prep m) (c : Dev nD) (t : Fin cfg0.N) (i : S512x128.Idx) : IsReal (DG m c t i) := by
  rw [DG_at m hpre c t i]
  split
  exacts [IsReal.sum fun d => (reals m hpre c).2.2.2.2.2 _, IsReal.zero]

/-- The logits' tile and the bias's row. -/
abbrev L2 (c : Dev nD) (t : Fin cfg0.N) : S512x128.Idx → EReal := iblk m c 2 t
abbrev L5 (c : Dev nD) (t : Fin cfg0.N) : S1x128.Idx → EReal := iblk m c 5 t

/-- The logits at the decay's lanes. -/
theorem logit_at (c : Dev nD) (t : Fin cfg0.N) (n : Fin 512) (l : Fin 128) (h : 8 ≤ l.val ∧ l.val - 8 < 8) :
    L2 m c t (ix2 n l) + L5 m c t (ix2 0 l) = zz (A1 m c) (A4 m c) (at' t n) ⟨l.val - 8, h.2⟩ := by
  have e2 := congrFun (blk2 m c t) (ix2 n l)
  have e5 := congrFun (blk5 m c t) (ix2 0 l)
  refine (congrArg₂ (fun a b : EReal => a + b) (e2.trans (dif_pos (by show l.val < 16; omega))) (e5.trans (dif_pos h))).trans ?_
  refine congrArg₂ (fun a b : EReal => a + b) (congrArg (fun q => A1 m c (ix2 (at' t n) q)) (Fin.ext ?_)) rfl
  show l.val = 8 + (l.val - 8)
  omega

/-- The gradient at the decay's logits. -/
theorem fall_at [Cert.Pre_finite_prep.Facts] (hpre : Cert.Pre_PrepIdeal_finite_prep m) (c : Dev nD) (t : Fin cfg0.N) (n : Fin 512) (l : Fin 128) (h : 8 ≤ l.val ∧ l.val - 8 < 8) :
    fall (DG m c t) (SG m c t) (iblk m c 4 t) n l = (Cert.PrepRefIdeal.Read.val_main_v128 (F := Ideal) (A1 m c) (A3 m c) (A4 m c) (A5 m c) (ix2 (at' t n) ⟨l.val - 8, h.2⟩) : EReal) := by
  have hr := reals m hpre c
  have hz : IsReal (zz (A1 m c) (A4 m c) (at' t n) ⟨l.val - 8, h.2⟩) := IsReal.add (hr.2.1 _) (hr.2.2.2.2.1 _)
  have e4 := (congrFun (blk4 m c t) (ix2 0 l)).trans (dif_pos h)
  unfold fall
  have es : (SG m c t (ix2 n l) : EReal) = _ := (sg_at _ _ (ix2 n l)).trans (congrArg Ideal.logistic (logit_at m c t n l h))
  have ee : Ideal.exp (iblk m c 4 t (ix2 0 l)) = _ := congrArg Ideal.exp e4
  rw [run_at m hpre c t n l h, es, ee]
  pointwise [Cert.PrepRefIdeal.Read.val_main_v128, Cert.PrepRefIdeal.Read.val_main_v124, Cert.PrepRefIdeal.Read.val_main_v123, Cert.PrepRefIdeal.Read.val_main_v75, Cert.PrepRefIdeal.Read.val_main_v74]
  rw [slope_ref _ _ _ _ hz]
  exact neg_swap _ _ _

theorem fall_off [Cert.Pre_finite_prep.Facts] (hpre : Cert.Pre_PrepIdeal_finite_prep m) (c : Dev nD) (t : Fin cfg0.N) (n : Fin 512) (l : Fin 128) (h : ¬ (8 ≤ l.val ∧ l.val - 8 < 8)) :
    fall (DG m c t) (SG m c t) (iblk m c 4 t) n l = 0 := by
  unfold fall
  rw [run_off m hpre c t n l h, sub_zero, zero_mul, zero_mul]

/-- The gradient at the rate's and the decay's logits, at the reference's row. -/
theorem cell_at [Cert.Pre_finite_prep.Facts] (hpre : Cert.Pre_PrepIdeal_finite_prep m) (c : Dev nD) (t : Fin cfg0.N) (n : Fin 512) (l : Fin 128) :
    cell (k0_pay28 (iblk m c 2 t)) (DB m c t) (DG m c t) (SG m c t) (iblk m c 4 t) n l
      = (Cert.PrepRefIdeal.Read.val_main_v166 (F := Ideal) (A1 m c) (A3 m c) (A4 m c) (A5 m c) (ix2 (at' t n) l) : EReal) := by
  unfold cell
  rw [DB_at m hpre c t (ix2 n l), b8_at]
  pointwise [Cert.PrepRefIdeal.Read.val_main_v166, Cert.PrepRefIdeal.Read.val_main_v165, Cert.PrepRefIdeal.Read.val_main_cst_22, Cert.PrepRefIdeal.Read.val_main_v133]
  have hl := l.isLt
  have e2 := congrFun (blk2 m c t) (ix2 n l)
  by_cases h1 : l.val < 8
  · rw [dif_pos h1, dif_pos h1, fall_off m hpre c t n l (by omega), add_zero, db_ref, beta_ref, mul_assoc]
    rw [show iblk m c 2 t (ix2 n l) = _ from e2.trans (dif_pos (show l.val < 16 by omega))]
    rfl
  · rw [dif_neg h1, dif_neg h1, zero_mul, zero_mul, zero_add]
    by_cases h2 : l.val - 8 < 8
    · rw [dif_pos h2, fall_at m hpre c t n l ⟨by omega, h2⟩]
    · rw [dif_neg h2, fall_off m hpre c t n l (by omega)]

/-- Where a block's row lies in the tile. -/
theorem row_emb (o : ℕ) (ho : o + 64 ≤ 512) (i) (x : S64x128.Idx) : (Rect.unit (s := S512x128) ![o, 0] ![64, 128] i).emb x = ix2 ⟨o + (x 0).val, ge64 o ho (x 0)⟩ (x 1) := by
  funext a
  fin_cases a
  · apply Fin.ext; show o + 1 * (x 0).val = o + (x 0).val; omega
  · apply Fin.ext; show 0 + 1 * (x 1).val = (x 1).val; omega

theorem row_mem (o : ℕ) (i) (y : S512x128.Idx) (h : o ≤ (y 0).val ∧ (y 0).val < o + 64) : y ∈ (Rect.unit (s := S512x128) ![o, 0] ![64, 128] i).set := by
  refine (LoadRect.mem_set _).mpr fun d => ?_
  fin_cases d
  · exact ⟨(y 0).val - o, by show _ < 64; omega, by show (y 0).val = o + 1 * ((y 0).val - o); omega⟩
  · exact ⟨(y 1).val, (y 1).isLt, by show (y 1).val = 0 + 1 * (y 1).val; omega⟩

/-- The eight blocks of rows, one below the other. -/
theorem tiles (X D G S : S512x128.Idx → Elt Ideal .f32) (E : S1x128.Idx → Elt Ideal .f32) (hG : ∀ i, IsReal (G i)) (i0 i1 i2 i3 i4 i5 i6 i7) (y : S512x128.Idx) :
    View.canon (Val := Elt Ideal) (e := .f32) (s := S512x128) [⟨Rect.unit ![448, 0] ![64, 128] i7, k0_pay88 (F := Ideal) X D G k0_pay35 (k0_pay38 E) S⟩,
        ⟨Rect.unit ![384, 0] ![64, 128] i6, k0_pay84 (F := Ideal) X D G k0_pay35 (k0_pay38 E) S⟩,
        ⟨Rect.unit ![320, 0] ![64, 128] i5, k0_pay79 (F := Ideal) X (k0_pay77 G k0_pay35 (k0_pay38 E) S) (k0_pay78 X D)⟩,
        ⟨Rect.unit ![256, 0] ![64, 128] i4, k0_pay73 (F := Ideal) X D (k0_pay38 E) S (k0_pay64 k0_pay35) (k0_pay68 G) (k0_pay69 G k0_pay35) (k0_pay70 G k0_pay35) (constant S64x128 FTy.f32 0#32)⟩,
        ⟨Rect.unit ![192, 0] ![64, 128] i3, k0_pay60 (F := Ideal) X D k0_pay35 (k0_pay38 E) S (k0_pay57 G)⟩,
        ⟨Rect.unit ![128, 0] ![64, 128] i2, k0_pay54 (F := Ideal) X D G k0_pay35 (k0_pay38 E) S⟩,
        ⟨Rect.unit ![64, 0] ![64, 128] i1, k0_pay51 (F := Ideal) X D G k0_pay35 (k0_pay38 E) S⟩,
        ⟨Rect.unit ![0, 0] ![64, 128] i0, k0_pay46 (F := Ideal) X D S (k0_pay44 G k0_pay35 E)⟩] y = cell X D G S E (y 0) (y 1) := by
  have hb (o : ℕ) (ho : o + 64 ≤ 512) (i) (x : S64x128.Idx) : cell X D G S E ⟨o + (x 0).val, ge64 o ho (x 0)⟩ (x 1) = (fun y : S512x128.Idx => cell X D G S E (y 0) (y 1)) ((Rect.unit (s := S512x128) ![o, 0] ![64, 128] i).emb x) := by
    rw [row_emb o ho i x]
    rfl
  have h0 (x : S64x128.Idx) : cell X D G S E ⟨(x 0).val, by have : (x 0).val < 64 := (x 0).isLt; omega⟩ (x 1) = cell X D G S E ⟨0 + (x 0).val, ge64 0 (by omega) (x 0)⟩ (x 1) :=
    congrArg (cell X D G S E · (x 1)) (Fin.ext (Nat.zero_add _).symm)
  have n2 (x : S64x128.Idx) : x = ix2 (x 0) (x 1) := Shape.Idx.norm2 x
  refine View.canon_apply_of_pieces (Val := Elt Ideal) (e := .f32) (fun y : S512x128.Idx => cell X D G S E (y 0) (y 1)) _ (fun p hp x => ?_) y ?_
  · simp only [List.mem_cons, List.not_mem_nil, or_false] at hp
    rcases hp with rfl | rfl | rfl | rfl | rfl | rfl | rfl | rfl
    · exact (congrArg _ (n2 x)).trans ((block7 X D G S E hG (x 0) (x 1)).trans (hb 448 (by omega) i7 x))
    · exact (congrArg _ (n2 x)).trans ((block6 X D G S E hG (x 0) (x 1)).trans (hb 384 (by omega) i6 x))
    · exact (congrArg _ (n2 x)).trans ((block5 X D G S E hG (x 0) (x 1)).trans (hb 320 (by omega) i5 x))
    · exact (congrArg _ (n2 x)).trans ((block4 X D G S E hG (x 0) (x 1)).trans (hb 256 (by omega) i4 x))
    · exact (congrArg _ (n2 x)).trans ((block3 X D G S E hG (x 0) (x 1)).trans (hb 192 (by omega) i3 x))
    · exact (congrArg _ (n2 x)).trans ((block2 X D G S E hG (x 0) (x 1)).trans (hb 128 (by omega) i2 x))
    · exact (congrArg _ (n2 x)).trans ((block1 X D G S E hG (x 0) (x 1)).trans (hb 64 (by omega) i1 x))
    · exact (congrArg _ (n2 x)).trans ((block0 X D G S E hG (x 0) (x 1)).trans ((h0 x).trans (hb 0 (by omega) i0 x)))
  · have hy : (y 0).val < 512 := (y 0).isLt
    simp only [List.mem_cons, List.not_mem_nil, or_false, exists_eq_or_imp, exists_eq_left]
    rcases (by omega : (448 ≤ (y 0).val ∧ (y 0).val < 448 + 64) ∨ (384 ≤ (y 0).val ∧ (y 0).val < 384 + 64) ∨ (320 ≤ (y 0).val ∧ (y 0).val < 320 + 64) ∨ (256 ≤ (y 0).val ∧ (y 0).val < 256 + 64)
      ∨ (192 ≤ (y 0).val ∧ (y 0).val < 192 + 64) ∨ (128 ≤ (y 0).val ∧ (y 0).val < 128 + 64) ∨ (64 ≤ (y 0).val ∧ (y 0).val < 64 + 64) ∨ (0 ≤ (y 0).val ∧ (y 0).val < 0 + 64)) with h | h | h | h | h | h | h | h
    · exact .inl (row_mem _ _ y h)
    · exact .inr (.inl (row_mem _ _ y h))
    · exact .inr (.inr (.inl (row_mem _ _ y h)))
    · exact .inr (.inr (.inr (.inl (row_mem _ _ y h))))
    · exact .inr (.inr (.inr (.inr (.inl (row_mem _ _ y h)))))
    · exact .inr (.inr (.inr (.inr (.inr (.inl (row_mem _ _ y h))))))
    · exact .inr (.inr (.inr (.inr (.inr (.inr (.inl (row_mem _ _ y h)))))))
    · exact .inr (.inr (.inr (.inr (.inr (.inr (.inr (row_mem _ _ y h)))))))

/-- What a point adds to the projection's gradient. -/
def proj (c : Dev nD) (t : Fin cfg0.N) (y : S128x1024.Idx) : EReal :=
  ∑ k : Fin 512, (Cert.PrepRefIdeal.Read.val_main_v166 (F := Ideal) (A1 m c) (A3 m c) (A4 m c) (A5 m c) (ix2 (at' t k) (y 0)) : EReal) * A6 m c (ix2 (at' t k) (y 1))

theorem proj_step (c : Dev nD) (t : Fin cfg0.N) (a : S128x1024.Idx → EReal) (X : S512x128.Idx → Elt Ideal .f32)
    (hX : ∀ k l, X (ix2 k l) = (Cert.PrepRefIdeal.Read.val_main_v166 (F := Ideal) (A1 m c) (A3 m c) (A4 m c) (A5 m c) (ix2 (at' t k) l) : EReal)) (y : S128x1024.Idx) :
    (k0_pay2 (F := Ideal) a X (iblk m c 7 t) y : EReal) = a y + proj m c t y := by
  pointwise [k0_pay2]
  refine congrArg (a y + ·) (Finset.sum_congr rfl fun k _ => ?_)
  exact congr (congrArg _ (hX k (y 0))) (congrFun (blk7 m c t) (ix2 k (y 1)))

theorem final_9 [Cert.Pre_finite_prep.Facts] (h : Cert.Pre_PrepIdeal_finite_prep m) (c : Dev nD) :
    (dats m 0 c).arrAt 9 (cfgs 0).N = Cert.PrepRefIdeal.Read.val_main_v166 (F := Ideal) (A1 m c) (A3 m c) (A4 m c) (A5 m c) := by
  refine (dats m 0 c).arrAt_eq_of_covers 9 _ (by decide +kernel) fun t hf y => ?_
  blk_simp
  rw [after0_9]
  refine Eq.trans ?_ ((cell_at m h c t (y 0) (y 1)).trans (congrArg _ (funext fun a => ?_)))
  · by_cases h0 : t.val % 16 = 0
    · rw [outsAt0_A m c t h0]
      frame_out
      exact tiles _ _ _ _ _ (DG_real m h c t) _ _ _ _ _ _ _ _ y
    · rw [outsAt0_B m c t h0]
      frame_out
      exact tiles _ _ _ _ _ (DG_real m h c t) _ _ _ _ _ _ _ _ y
  · fin_cases a
    · exact Fin.ext ((win0_9.rect_emb_val t y 0).trans (by rw [(idx t).2.2.2.2.2.2.2.2.2.2.1]; rfl)).symm
    · exact Fin.ext ((win0_9.rect_emb_val t y 1).trans (by rw [(idx t).2.2.2.2.2.2.2.2.2.2.1]; exact Nat.zero_add _)).symm

theorem final_11 [Cert.Pre_finite_prep.Facts] (h : Cert.Pre_PrepIdeal_finite_prep m) (c : Dev nD) :
    (dats m 0 c).arrAt 11 (cfgs 0).N = Cert.PrepRefIdeal.Read.val_main_v170 (F := Ideal) (A1 m c) (A3 m c) (A4 m c) (A5 m c) (A6 m c) := by
  refine (dats m 0 c).arrAt_eq_of_after_last 11 t0_15 (by decide +kernel) _ fun j => ?_
  blk_simp
  rw [after0_11, Pipeline.eq_sum_fin_of_reset_step_apply_last (fun n h => (outsAt0 m c n h).2.2.2) 16 (fun _ => 0) (fun t j => proj m c t j)
    (fun t h0 j => by
      rw [outsAt0_A m c t h0]
      frame_out
      refine (proj_step m c t _ _ (fun k l => ?_) j).trans (congrArg (· + _) ?_)
      · rw [View.readCov_eq_canon']
        refine (tiles _ _ _ _ _ (DG_real m h c t) _ _ _ _ _ _ _ _ _).trans ((congrArg₂ (cell _ _ _ _ _) (Fin.ext ?_) (Fin.ext ?_)).trans (cell_at m h c t k l))
        · show 0 + 1 * k.val = k.val; omega
        · show 0 + 1 * l.val = l.val; omega
      · pointwise [k0_pay4])
    (fun t h0 j => by
      rw [outsAt0_B m c t h0]
      frame_out
      refine proj_step m c t _ _ (fun k l => ?_) j
      rw [View.readCov_eq_canon']
      refine (tiles _ _ _ _ _ (DG_real m h c t) _ _ _ _ _ _ _ _ _).trans ((congrArg₂ (cell _ _ _ _ _) (Fin.ext ?_) (Fin.ext ?_)).trans (cell_at m h c t k l))
      · show 0 + 1 * k.val = k.val; omega
      · show 0 + 1 * l.val = l.val; omega)
    (le_of_eq N_0) t0_15 rfl j, zero_add]
  rw [Cert.PrepRefIdeal.Read.val_main_v170_apply]
  unfold proj
  refine Fin.sum_mul_add_congr fun s k hl => congr (congrArg _ (congrArg _ (funext fun a => by fin_cases a <;> rfl))) ?_
  pointwise [Cert.PrepRefIdeal.Read.val_main_v169]
  exact congrArg (A6 m c) (funext fun a => by fin_cases a <;> rfl)
/-- What a point adds to the two rows. -/
def term10 (c : Dev nD) (t : Fin cfg0.N) (j : S2x128.Idx) : EReal :=
  if (j 0).val = 0 then ∑ n : Fin 512, revN (fun k => DG m c t (ix2 k (j 1))) n * (G8 m c t (ix2 n (j 1)) : EReal)
  else ∑ n : Fin 512, fall (DG m c t) (SG m c t) (iblk m c 4 t) n (j 1)

/-- Two rows stored over whatever was there. -/
theorem two_rows (P0 P1 : S1x128.Idx → Elt Ideal .f32) (M : List (View.Piece (Elt Ideal) S2x128 .f32)) (G : S2x128.Idx → Elt Ideal .f32) (i0 i1)
    (h0 : ∀ q, P0 (ix2 0 q) = G (ix2 0 q)) (h1 : ∀ q, P1 (ix2 0 q) = G (ix2 1 q)) (j : S2x128.Idx) :
    View.canon ((⟨Rect.unit (s := S2x128) ![1, 0] ![1, 128] i1, P1⟩ : View.Piece (Elt Ideal) S2x128 .f32) :: ⟨Rect.unit (s := S2x128) ![0, 0] ![1, 128] i0, P0⟩ :: M) j = G j := by
  obtain ⟨r, q, rfl⟩ : ∃ (r : Fin 2) (q : Fin 128), j = ix2 r q := ⟨j 0, j 1, Shape.Idx.norm2 j⟩
  rcases (by omega : r = 0 ∨ r = 1) with rfl | rfl
  · exact (Stage.canon_row_skip (Val := Elt Ideal) (e := .f32) (k := 1) (0 : Fin 2) (by decide) _ _ _ q).trans ((Stage.canon_row_hit (Val := Elt Ideal) (e := .f32) (0 : Fin 2) _ _ _ q).trans (h0 q))
  · exact (Stage.canon_row_hit (Val := Elt Ideal) (e := .f32) (1 : Fin 2) _ _ _ q).trans (h1 q)

theorem step10 [Cert.Pre_finite_prep.Facts] (h : Cert.Pre_PrepIdeal_finite_prep m) (c : Dev nD) (t : Fin cfg0.N) (h0 : ¬ t.val % 16 = 0) (j : S2x128.Idx) :
    (outsAt0 m c t.val t.isLt).2.2.1 j = ((outsAt0 m c (t.val - 1) (by omega)).2.2.1 j : EReal) + term10 m c t j := by
  rw [outsAt0_B m c t h0]
  frame_out
  generalize (outsAt0 m c (t.val - 1) (by omega)).2.2.1 = g
  refine two_rows _ _ [] (fun j : S2x128.Idx => (g j + term10 m c t j : EReal)) _ _ (fun q => ?_) (fun q => ?_) j
  · exact (row0 (DG m c t) (DG_real m h c t) (G8 m c t) _ (ix2 0 q)).trans (congrArg (fun x : EReal => x + _) (Stage.ld_row (Val := Elt Ideal) (e := .f32) 0 g _ (ix2 0 q)))
  · exact (row1 (DG m c t) (SG m c t) (iblk m c 4 t) (DG_real m h c t) _ (ix2 0 q)).trans (congrArg (fun x : EReal => x + _) (Stage.ld_row (Val := Elt Ideal) (e := .f32) 1 g _ (ix2 0 q)))

theorem reset10 [Cert.Pre_finite_prep.Facts] (h : Cert.Pre_PrepIdeal_finite_prep m) (c : Dev nD) (t : Fin cfg0.N) (h0 : t.val % 16 = 0) (j : S2x128.Idx) :
    (outsAt0 m c t.val t.isLt).2.2.1 j = (0 : EReal) + term10 m c t j := by
  rw [outsAt0_A m c t h0]
  frame_out
  have z : ∀ x, k0_pay3 (F := Ideal) x = (0 : EReal) := fun x => by pointwise [k0_pay3]
  refine two_rows _ _ [_] (fun j : S2x128.Idx => (0 + term10 m c t j : EReal)) _ _ (fun q => ?_) (fun q => ?_) j
  · exact (row0 (DG m c t) (DG_real m h c t) (G8 m c t) _ (ix2 0 q)).trans (congrArg (fun x : EReal => x + _) (Stage.readCov_row_fill (Val := Elt Ideal) (e := .f32) _ _ (0 : EReal) z _ _ _))
  · exact (row1 (DG m c t) (SG m c t) (iblk m c 4 t) (DG_real m h c t) _ (ix2 0 q)).trans (congrArg (fun x : EReal => x + _) ((Stage.readCov_row_skip (Val := Elt Ideal) (e := .f32) _ _ _ (by decide) _ _ _).trans
      (Stage.readCov_row_fill (Val := Elt Ideal) (e := .f32) _ _ (0 : EReal) z _ _ _)))

theorem run_real [Cert.Pre_finite_prep.Facts] (h : Cert.Pre_PrepIdeal_finite_prep m) (c : Dev nD) (n : Fin 8192) (l : Fin 8) :
    IsReal (Cert.PrepRefIdeal.Read.val_main_v122 (F := Ideal) (A5 m c) (ix2 n l) : EReal) := by
  rw [run_ref]
  refine rev_real (fun i => ?_) _
  rw [dg_ref]
  exact IsReal.sum fun d => (reals m h c).2.2.2.2.2 _

/-- The rate's row, where the reference has it. -/
theorem rate_ref [Cert.Pre_finite_prep.Facts] (h : Cert.Pre_PrepIdeal_finite_prep m) (c : Dev nD) (l : Fin 8) :
    (Cert.PrepRefIdeal.Read.val_main_v132 (F := Ideal) (A1 m c) (A3 m c) (A4 m c) (A5 m c) (ix2 0 l) : EReal)
      = ∑ n : Fin 8192, (Cert.PrepRefIdeal.Read.val_main_v122 (F := Ideal) (A5 m c) (ix2 n l) : EReal) * ((0 - Ideal.exp (A3 m c (ix2 0 l))) * sp (zz (A1 m c) (A4 m c) n l)) := by
  have hr := reals m h c
  have hz (n) : IsReal (zz (A1 m c) (A4 m c) n l) := IsReal.add (hr.2.1 _) (hr.2.2.2.2.1 _)
  rw [pull _ _ _ (fun n => run_real m h c n l) (fun n => sp_real (hz n)) (by
    obtain ⟨r, e⟩ := hr.2.2.2.1 (ix2 0 l)
    rw [e, Ideal.exp_coe]; exact IsReal.coe _)]
  pointwise [Cert.PrepRefIdeal.Read.val_main_v132, Cert.PrepRefIdeal.Read.val_main_v131, Cert.PrepRefIdeal.Read.val_main_v127, Cert.PrepRefIdeal.Read.val_main_v126, Cert.PrepRefIdeal.Read.val_main_cst_15, Cert.PrepRefIdeal.Read.val_main_v125, Cert.PrepRefIdeal.Read.val_main_v74]
  exact congrArg (fun x : EReal => -x * _) (Finset.sum_congr rfl fun n _ => congrArg _ (soft_ref _ _ n l (hz n)))

/-- Away from the decay's lanes a point adds nothing. -/
theorem term_off [Cert.Pre_finite_prep.Facts] (h : Cert.Pre_PrepIdeal_finite_prep m) (c : Dev nD) (t : Fin cfg0.N) (r : Fin 2) (q : Fin 128) (hq : ¬ (8 ≤ q.val ∧ q.val - 8 < 8)) :
    term10 m c t (ix2 r q) = 0 := by
  unfold term10
  split
  · refine Finset.sum_eq_zero fun n _ => ?_
    exact (congrArg (fun x : EReal => x * _) (run_off m h c t n q hq)).trans (zero_mul _)
  · exact Finset.sum_eq_zero fun n _ => fall_off m h c t n q hq

theorem zero_word : (FloatOps.sitofp (F := Ideal) FTy.f32 (0#32) : EReal) = 0 := by
  simp [FloatOps.sitofp]

theorem final_10 [Cert.Pre_finite_prep.Facts] (h : Cert.Pre_PrepIdeal_finite_prep m) (c : Dev nD) :
    (dats m 0 c).arrAt 10 (cfgs 0).N = Cert.PrepRefIdeal.Read.val_main_v168 (F := Ideal) (A1 m c) (A3 m c) (A4 m c) (A5 m c) := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0) (fun t j => term10 m c t j)
    (fun t h0 j => reset10 m h c t h0 j) (fun t h0 j => step10 m h c t h0 j)
    (le_of_eq N_0) t0_15 rfl j, zero_add]
  obtain ⟨r, q, rfl⟩ : ∃ (r : Fin 2) (q : Fin 128), j = ix2 r q := ⟨j 0, j 1, Shape.Idx.norm2 j⟩
  refine Eq.trans (α := EReal) (b := ∑ t : Fin 16, term10 m c t (ix2 r q)) rfl ?_
  pointwise [Cert.PrepRefIdeal.Read.val_main_v168, Cert.PrepRefIdeal.Read.val_main_v167, Cert.PrepRefIdeal.Read.val_main_call6_v0, Cert.PrepRefIdeal.Read.val_main_c]
  by_cases hq : 8 ≤ q.val ∧ q.val - 8 < 8
  · rw [dif_pos hq]
    unfold term10
    rcases (by omega : r = 0 ∨ r = 1) with rfl | rfl
    · refine Eq.trans ?_ (rate_ref m h c ⟨q.val - 8, hq.2⟩).symm
      refine Fin.sum_mul_add_congr fun t n hl => ?_
      refine congr (congrArg _ (run_at m h c t n q hq)) ((g8_at _ _ _ (ix2 n q)).trans (congr (congrArg _ ?_) (congrArg sp (logit_at m c t n q hq))))
      exact congrArg (fun x : EReal => 0 - Ideal.exp x) ((congrFun (blk4 m c t) (ix2 0 q)).trans (dif_pos hq))
    · rw [dif_neg (by decide)]
      refine Eq.trans (α := EReal) (b := ∑ n : Fin 8192, (Cert.PrepRefIdeal.Read.val_main_v128 (F := Ideal) (A1 m c) (A3 m c) (A4 m c) (A5 m c) (ix2 n ⟨q.val - 8, hq.2⟩) : EReal)) ?_ ?_
      · exact Fin.sum_mul_add_congr fun t n hl => fall_at m h c t n q hq
      · pointwise [Cert.PrepRefIdeal.Read.val_main_v130, Cert.PrepRefIdeal.Read.val_main_v129, Cert.PrepRefIdeal.Read.val_main_cst_16]
  · rw [dif_neg hq]
    exact (Finset.sum_eq_zero fun t _ => term_off m h c t r q hq).trans zero_word.symm
/-- The mean-free norm of an element's head: the sum of squares plus the small number. -/
def uu (o : Fin 512 → EReal) (q : Fin 512) : EReal := ∑ d : Fin 64, o (hc q d) * o (hc q d) + Ideal.ofBits .f32 897988541#32

/-- What each factor of the head's square gets from the chain rule. -/
def qq (o D : Fin 512 → EReal) (q : Fin 512) : EReal :=
  (∑ d : Fin 64, o (hc q d) * D (hc q d)) * (Ideal.ofBits .f32 3204448256#32 * Ideal.div (Ideal.rsqrt (uu o q)) (uu o q))

/-- The gradient through the head's norm, by the chain rule. -/
def gg (o D : Fin 512 → EReal) (q : Fin 512) : EReal := D q * Ideal.rsqrt (uu o q) + o q * qq o D q + qq o D q * o q

theorem div_one' (x : EReal) : Ideal.div x ((1 : ℝ) : EReal) = x := by
  rw [Ideal.div_coe one_ne_zero]; simp

theorem uu_real (o : Fin 512 → EReal) (ho : ∀ a, IsReal (o a)) (q : Fin 512) : IsReal (Ideal.rsqrt (uu o q)) := by
  obtain ⟨e, he, hE⟩ := eps
  have h := norm_real (N := ((1 : ℝ) : EReal)) (K := ((1 / 1 : ℝ) : EReal)) he one_pos hE rfl rfl (fun d : Fin 64 => o (hc q d)) fun d => ho _
  rw [div_one'] at h
  exact h.2 ▸ h.1

theorem uu_head (o : Fin 512 → EReal) (q : Fin 512) (d : Fin 64) : uu o (hc q d) = uu o q := by
  have hh (e) : hc (hc q d) e = hc q e := Fin.ext (congrArg (· * 64 + e.val) (by show (q.val / 64 * 64 + d.val) / 64 = q.val / 64; omega))
  unfold uu
  simp only [hh]

/-- The closed form of the kernel is the chain rule's. -/
theorem gg_eq (o D : Fin 512 → EReal) (ho : ∀ a, IsReal (o a)) (hD : ∀ a, IsReal (D a)) (q : Fin 512) :
    Ideal.rsqrt (uu o q) * (D q - o q * Ideal.rsqrt (uu o q) * ∑ d : Fin 64, D (hc q d) * (o (hc q d) * Ideal.rsqrt (uu o (hc q d)))) = gg o D q := by
  obtain ⟨e, he, hE⟩ := eps
  have h := norm_grad (N := ((1 : ℝ) : EReal)) (K := ((1 / 1 : ℝ) : EReal)) he one_pos hE rfl rfl neg_half (fun d : Fin 64 => o (hc q d))
    (fun d : Fin 64 => D (hc q d)) (fun d => ho _) (fun d => hD _) ⟨q.val % 64, by omega⟩ (U := uu o q) (by rw [div_one']; rfl) rfl
  have hq : (⟨q.val / 64 * 64 + q.val % 64, by omega⟩ : Fin 512) = q := Fin.ext (by simp; omega)
  simp only [div_one', hq] at h
  simp only [uu_head]
  rw [show ((1 / 1 : ℝ) : EReal) = 1 by norm_num, mul_one] at h
  exact h

/-- A block of the kernel's gradient through the norm. -/
theorem through (o R X D W : S512x512.Idx → EReal) (H : S512x512.Idx → EReal) (hH : ∀ a, H a = if (a 0).val / 64 = (a 1).val / 64 then 1 else 0)
    (ho : ∀ a, IsReal (o a)) (hD : ∀ a, IsReal (D a)) (hR : ∀ a, R a = Ideal.rsqrt (uu (fun k => o (ix2 (a 0) k)) (a 1))) (hX : ∀ a, X a = o a * R a)
    (hW : ∀ a, W a = D a * X a) (p q : Fin 512) :
    R (ix2 p q) * (D (ix2 p q) - X (ix2 p q) * (∑ k : Fin 512, W (ix2 p k) * H (ix2 k q)
      + (∑ k : Fin 512, (W (ix2 p k) - W (ix2 p k)) * H (ix2 k q)
        + ∑ k : Fin 512, (W (ix2 p k) - W (ix2 p k) - (W (ix2 p k) - W (ix2 p k))) * H (ix2 k q))))
      = gg (fun k => o (ix2 p k)) (fun k => D (ix2 p k)) q := by
  rw [pick W H (fun a => by rw [hW, hX, hR]; exact (hD a).mul ((ho a).mul (uu_real _ (fun k => ho _) _))) hH p q, hX, hR]
  refine Eq.trans (congrArg _ (congrArg _ (congrArg _ (Finset.sum_congr rfl fun d _ => ?_)))) (gg_eq (fun k => o (ix2 p k)) (fun k => D (ix2 p k)) (fun a => ho _) (fun a => hD _) q)
  rw [hW, hX, hR]
  rfl

theorem head_at (y : S512x512.Idx) : (k0_pay14 (F := Ideal) k0_pay12 (iota Kind.tc S512x512 32 [1] iota_S512x512_d1_w32) (64#32) k0_pay13 y : EReal)
    = if (y 0).val / 64 = (y 1).val / 64 then 1 else 0 := by
  pointwise [k0_pay14, k0_pay12, k0_pay13]
  rw [fdiv (y 0), fdiv (y 1)]
  have h0 : (y 0).val < 512 := (y 0).isLt
  have h1 : (y 1).val < 512 := (y 1).isLt
  exact onehot (by omega) (by omega)

theorem root_q (A : S512x1536.Idx → EReal) (hA : ∀ a, IsReal (A a)) (y : S512x512.Idx) :
    (k0_pay16 (F := Ideal) A k0_pay12 (iota Kind.tc S512x512 32 [1] iota_S512x512_d1_w32) (64#32) k0_pay13 y : EReal) = Ideal.rsqrt (uu (fun k => A (ix2 (y 0) ⟨k.val, by omega⟩)) (y 1)) := by
  pointwise [k0_pay16, k0_pay15]
  refine congrArg Ideal.rsqrt (congrArg (· + _) ?_)
  exact pick (fun a : S512x512.Idx => A (ix2 (a 0) ⟨(a 1).val, by have : (a 1).val < 512 := (a 1).isLt; omega⟩) * A (ix2 (a 0) ⟨(a 1).val, by have : (a 1).val < 512 := (a 1).isLt; omega⟩)) _ (fun a => (hA _).mul (hA _)) head_at (y 0) (y 1)

theorem root_k (A : S512x1536.Idx → EReal) (hA : ∀ a, IsReal (A a)) (y : S512x512.Idx) :
    (k0_pay21 (F := Ideal) A (k0_pay14 k0_pay12 (iota Kind.tc S512x512 32 [1] iota_S512x512_d1_w32) (64#32) k0_pay13) y : EReal) = Ideal.rsqrt (uu (fun k => A (ix2 (y 0) ⟨512 + k.val, by omega⟩)) (y 1)) := by
  pointwise [k0_pay21, k0_pay20]
  refine congrArg Ideal.rsqrt (congrArg (· + _) ?_)
  exact pick (fun a : S512x512.Idx => A (ix2 (a 0) ⟨512 + (a 1).val, by have : (a 1).val < 512 := (a 1).isLt; omega⟩) * A (ix2 (a 0) ⟨512 + (a 1).val, by have : (a 1).val < 512 := (a 1).isLt; omega⟩)) _ (fun a => (hA _).mul (hA _)) head_at (y 0) (y 1)

theorem block_q (S : S512x1536.Idx → Elt Ideal .f32) (A : S512x1536.Idx → EReal) (hA : ∀ a, IsReal (A a)) (D : S1x512x512.Idx → EReal) (hD : ∀ a, IsReal (D a)) (p q : Fin 512) :
    (k0_pay19 (F := Ideal) S (k0_pay14 k0_pay12 (iota Kind.tc S512x512 32 [1] iota_S512x512_d1_w32) (64#32) k0_pay13) (k0_pay16 A k0_pay12 (iota Kind.tc S512x512 32 [1] iota_S512x512_d1_w32) (64#32) k0_pay13) (k0_pay17 A k0_pay12 (iota Kind.tc S512x512 32 [1] iota_S512x512_d1_w32) (64#32) k0_pay13) (k0_pay18 D) (FloatOps.ofBits FTy.f32 1040187392#32) (ix2 p q) : EReal)
      = gg (fun k => A (ix2 p ⟨k.val, by omega⟩)) (fun k => D (ix3 0 p k) * Ideal.ofBits .f32 1040187392#32) q * S (ix2 p ⟨q.val, by omega⟩) := by
  have hR := root_q A hA
  have hX (a : S512x512.Idx) : (k0_pay17 (F := Ideal) A k0_pay12 (iota Kind.tc S512x512 32 [1] iota_S512x512_d1_w32) (64#32) k0_pay13 a : EReal) = A (ix2 (a 0) ⟨(a 1).val, by have : (a 1).val < 512 := (a 1).isLt; omega⟩) * k0_pay16 (F := Ideal) A k0_pay12 (iota Kind.tc S512x512 32 [1] iota_S512x512_d1_w32) (64#32) k0_pay13 a := by
    pointwise [k0_pay17, k0_pay15]
  have he : IsReal (Ideal.ofBits .f32 1040187392#32) := by rw [eighth]; exact IsReal.coe _
  pointwise [k0_pay19, k0_pay18]
  generalize (k0_pay16 (F := Ideal) A k0_pay12 (iota Kind.tc S512x512 32 [1] iota_S512x512_d1_w32) (64#32) k0_pay13) = R at *
  generalize (k0_pay17 (F := Ideal) A k0_pay12 (iota Kind.tc S512x512 32 [1] iota_S512x512_d1_w32) (64#32) k0_pay13) = X at *
  refine congrArg (· * _) ?_
  exact through (fun a => A (ix2 (a 0) ⟨(a 1).val, by have : (a 1).val < 512 := (a 1).isLt; omega⟩)) R X (fun a => D (ix3 0 (a 0) (a 1)) * Ideal.ofBits .f32 1040187392#32)
    (fun a => D (ix3 0 (a 0) (a 1)) * Ideal.ofBits .f32 1040187392#32 * X a) _ head_at (fun a => hA _) (fun a => (hD _).mul he) hR hX (fun a => rfl) p q

theorem block_k (S : S512x1536.Idx → Elt Ideal .f32) (A : S512x1536.Idx → EReal) (hA : ∀ a, IsReal (A a)) (D : S1x512x512.Idx → EReal) (hD : ∀ a, IsReal (D a)) (p q : Fin 512) :
    (k0_pay25 (F := Ideal) S (k0_pay14 k0_pay12 (iota Kind.tc S512x512 32 [1] iota_S512x512_d1_w32) (64#32) k0_pay13) (k0_pay21 A (k0_pay14 k0_pay12 (iota Kind.tc S512x512 32 [1] iota_S512x512_d1_w32) (64#32) k0_pay13)) (k0_pay22 A (k0_pay14 k0_pay12 (iota Kind.tc S512x512 32 [1] iota_S512x512_d1_w32) (64#32) k0_pay13)) (k0_pay23 D) (k0_pay24 A (k0_pay14 k0_pay12 (iota Kind.tc S512x512 32 [1] iota_S512x512_d1_w32) (64#32) k0_pay13) D) (ix2 p q) : EReal)
      = gg (fun k => A (ix2 p ⟨512 + k.val, by omega⟩)) (fun k => D (ix3 0 p k)) q * S (ix2 p ⟨512 + q.val, by omega⟩) := by
  have hR := root_k A hA
  have hX (a : S512x512.Idx) : (k0_pay22 (F := Ideal) A (k0_pay14 k0_pay12 (iota Kind.tc S512x512 32 [1] iota_S512x512_d1_w32) (64#32) k0_pay13) a : EReal) = A (ix2 (a 0) ⟨512 + (a 1).val, by have : (a 1).val < 512 := (a 1).isLt; omega⟩) * k0_pay21 (F := Ideal) A (k0_pay14 k0_pay12 (iota Kind.tc S512x512 32 [1] iota_S512x512_d1_w32) (64#32) k0_pay13) a := by
    pointwise [k0_pay22, k0_pay20]
  have hD' (a : S512x512.Idx) : (k0_pay23 (F := Ideal) D a : EReal) = D (ix3 0 (a 0) (a 1)) := by
    pointwise [k0_pay23]
  have hW (a : S512x512.Idx) : (k0_pay24 (F := Ideal) A (k0_pay14 k0_pay12 (iota Kind.tc S512x512 32 [1] iota_S512x512_d1_w32) (64#32) k0_pay13) D a : EReal) = D (ix3 0 (a 0) (a 1)) * k0_pay22 (F := Ideal) A (k0_pay14 k0_pay12 (iota Kind.tc S512x512 32 [1] iota_S512x512_d1_w32) (64#32) k0_pay13) a := by
    pointwise [k0_pay24]
    exact congrArg (· * _) (hD' a)
  generalize (k0_pay24 (F := Ideal) A (k0_pay14 k0_pay12 (iota Kind.tc S512x512 32 [1] iota_S512x512_d1_w32) (64#32) k0_pay13) D) = W at *
  generalize (k0_pay22 (F := Ideal) A (k0_pay14 k0_pay12 (iota Kind.tc S512x512 32 [1] iota_S512x512_d1_w32) (64#32) k0_pay13)) = X at *
  generalize (k0_pay21 (F := Ideal) A (k0_pay14 k0_pay12 (iota Kind.tc S512x512 32 [1] iota_S512x512_d1_w32) (64#32) k0_pay13)) = R at *
  pointwise [k0_pay25, hD']
  refine congrArg (· * _) ?_
  exact through (fun a => A (ix2 (a 0) ⟨512 + (a 1).val, by have : (a 1).val < 512 := (a 1).isLt; omega⟩)) R X (fun a => D (ix3 0 (a 0) (a 1)))
    W _ head_at (fun a => hA _) (fun a => hD _) hR hX hW p q

theorem ref_q (x0 : (⟨2, ![8192, 2048]⟩ : Shape).Idx → EReal) (x2 : (⟨2, ![4, 1536]⟩ : Shape).Idx → EReal) (x5 : (⟨3, ![5, 8192, 512]⟩ : Shape).Idx → EReal) (n : Fin 8192) (q : Fin 512) :
    (Cert.PrepRefIdeal.Read.val_main_v163 (F := Ideal) x0 x2 x5 (ix2 n ⟨q.val, by omega⟩) : EReal)
      = gg (fun k => Cert.PrepRefIdeal.Read.val_main_v34_0 (F := Ideal) x0 x2 (ix2 n ⟨k.val, by omega⟩)) (fun k => x5 (ix3 0 n k) * Ideal.ofBits .f32 1040187392#32) q := by
  pointwise [Cert.PrepRefIdeal.Read.val_main_v163, Cert.PrepRefIdeal.Read.val_main_v162, Cert.PrepRefIdeal.Read.val_main_v113, Cert.PrepRefIdeal.Read.val_main_v100, Cert.PrepRefIdeal.Read.val_main_v99, Cert.PrepRefIdeal.Read.val_main_v38, Cert.PrepRefIdeal.Read.val_main_v39, Cert.PrepRefIdeal.Read.val_main_v35, Cert.PrepRefIdeal.Read.val_main_v36, Cert.PrepRefIdeal.Read.val_main_v41, Cert.PrepRefIdeal.Read.val_main_cst_1, Cert.PrepRefIdeal.Read.val_main_v42, Cert.PrepRefIdeal.Read.val_main_v43, Cert.PrepRefIdeal.Read.val_main_cst_2, Cert.PrepRefIdeal.Read.val_main_v44, Cert.PrepRefIdeal.Read.val_main_v45, Cert.PrepRefIdeal.Read.val_main_v46, Cert.PrepRefIdeal.Read.val_main_v47, Cert.PrepRefIdeal.Read.val_main_cst_3, Cert.PrepRefIdeal.Read.val_main_v48, Cert.PrepRefIdeal.Read.val_main_v49, Cert.PrepRefIdeal.Read.val_main_v54, Cert.PrepRefIdeal.Read.val_main_cst_5, Cert.PrepRefIdeal.Read.val_main_v55, Cert.PrepRefIdeal.Read.val_main_v56, Cert.PrepRefIdeal.Read.val_main_cst_6, Cert.PrepRefIdeal.Read.val_main_v57, Cert.PrepRefIdeal.Read.val_main_v58, Cert.PrepRefIdeal.Read.val_main_v59, Cert.PrepRefIdeal.Read.val_main_v60, Cert.PrepRefIdeal.Read.val_main_cst_7, Cert.PrepRefIdeal.Read.val_main_v61, Cert.PrepRefIdeal.Read.val_main_v62, Cert.PrepRefIdeal.Read.val_main_cst_19, Cert.PrepRefIdeal.Read.val_main_v146, Cert.PrepRefIdeal.Read.val_main_v147, Cert.PrepRefIdeal.Read.val_main_v148, Cert.PrepRefIdeal.Read.val_main_cst_20, Cert.PrepRefIdeal.Read.val_main_v149, Cert.PrepRefIdeal.Read.val_main_v150, Cert.PrepRefIdeal.Read.val_main_v151, Cert.PrepRefIdeal.Read.val_main_v152, Cert.PrepRefIdeal.Read.val_main_v153, Cert.PrepRefIdeal.Read.val_main_cst_21, Cert.PrepRefIdeal.Read.val_main_v154, Cert.PrepRefIdeal.Read.val_main_v155, Cert.PrepRefIdeal.Read.val_main_v156, Cert.PrepRefIdeal.Read.val_main_v157, Cert.PrepRefIdeal.Read.val_main_v158, Cert.PrepRefIdeal.Read.val_main_v159]
  simp only [Fin.sum_univ_one]
  rfl

theorem ref_k (x0 : (⟨2, ![8192, 2048]⟩ : Shape).Idx → EReal) (x2 : (⟨2, ![4, 1536]⟩ : Shape).Idx → EReal) (x5 : (⟨3, ![5, 8192, 512]⟩ : Shape).Idx → EReal) (n : Fin 8192) (q : Fin 512) :
    (Cert.PrepRefIdeal.Read.val_main_v163 (F := Ideal) x0 x2 x5 (ix2 n ⟨512 + q.val, by omega⟩) : EReal)
      = gg (fun k => Cert.PrepRefIdeal.Read.val_main_v34_0 (F := Ideal) x0 x2 (ix2 n ⟨512 + k.val, by omega⟩)) (fun k => x5 (ix3 1 n k)) q := by
  pointwise [Cert.PrepRefIdeal.Read.val_main_v163, Cert.PrepRefIdeal.Read.val_main_v161, Cert.PrepRefIdeal.Read.val_main_v112, Cert.PrepRefIdeal.Read.val_main_v102, Cert.PrepRefIdeal.Read.val_main_v101, Cert.PrepRefIdeal.Read.val_main_v38, Cert.PrepRefIdeal.Read.val_main_v39, Cert.PrepRefIdeal.Read.val_main_v35, Cert.PrepRefIdeal.Read.val_main_v36, Cert.PrepRefIdeal.Read.val_main_v41, Cert.PrepRefIdeal.Read.val_main_cst_1, Cert.PrepRefIdeal.Read.val_main_v42, Cert.PrepRefIdeal.Read.val_main_v43, Cert.PrepRefIdeal.Read.val_main_cst_2, Cert.PrepRefIdeal.Read.val_main_v44, Cert.PrepRefIdeal.Read.val_main_v45, Cert.PrepRefIdeal.Read.val_main_v46, Cert.PrepRefIdeal.Read.val_main_v47, Cert.PrepRefIdeal.Read.val_main_cst_3, Cert.PrepRefIdeal.Read.val_main_v48, Cert.PrepRefIdeal.Read.val_main_v49, Cert.PrepRefIdeal.Read.val_main_v54, Cert.PrepRefIdeal.Read.val_main_cst_5, Cert.PrepRefIdeal.Read.val_main_v55, Cert.PrepRefIdeal.Read.val_main_v56, Cert.PrepRefIdeal.Read.val_main_cst_6, Cert.PrepRefIdeal.Read.val_main_v57, Cert.PrepRefIdeal.Read.val_main_v58, Cert.PrepRefIdeal.Read.val_main_v59, Cert.PrepRefIdeal.Read.val_main_v60, Cert.PrepRefIdeal.Read.val_main_cst_7, Cert.PrepRefIdeal.Read.val_main_v61, Cert.PrepRefIdeal.Read.val_main_v62, Cert.PrepRefIdeal.Read.val_main_v134, Cert.PrepRefIdeal.Read.val_main_cst_17, Cert.PrepRefIdeal.Read.val_main_v135, Cert.PrepRefIdeal.Read.val_main_v136, Cert.PrepRefIdeal.Read.val_main_v137, Cert.PrepRefIdeal.Read.val_main_v138, Cert.PrepRefIdeal.Read.val_main_v139, Cert.PrepRefIdeal.Read.val_main_cst_18, Cert.PrepRefIdeal.Read.val_main_v140, Cert.PrepRefIdeal.Read.val_main_v141, Cert.PrepRefIdeal.Read.val_main_v142, Cert.PrepRefIdeal.Read.val_main_v143, Cert.PrepRefIdeal.Read.val_main_v144, Cert.PrepRefIdeal.Read.val_main_v145]
  simp only [Fin.sum_univ_one]
  rfl

theorem ref_v (x0 : (⟨2, ![8192, 2048]⟩ : Shape).Idx → EReal) (x2 : (⟨2, ![4, 1536]⟩ : Shape).Idx → EReal) (x5 : (⟨3, ![5, 8192, 512]⟩ : Shape).Idx → EReal) (n : Fin 8192) (q : Fin 512) :
    (Cert.PrepRefIdeal.Read.val_main_v163 (F := Ideal) x0 x2 x5 (ix2 n ⟨1024 + q.val, by omega⟩) : EReal) = x5 (ix3 2 n q) := by
  pointwise [Cert.PrepRefIdeal.Read.val_main_v163, Cert.PrepRefIdeal.Read.val_main_v160, Cert.PrepRefIdeal.Read.val_main_v111, Cert.PrepRefIdeal.Read.val_main_v104, Cert.PrepRefIdeal.Read.val_main_v103]
  rw [dif_neg (by omega), dif_neg (by omega)]
  exact congrArg x5 (congrArg (ix3 2 n) (Fin.ext (by show 1024 + q.val - 512 - 512 = q.val; omega)))

/-- A row of the convolution's weights. -/
abbrev wRow (c : Dev nD) (i : Fin 4) (l : Fin 1536) : EReal := A2 m c (ix2 i l)

theorem tap (c : Dev nD) (M N : ℕ) (e : M = N) (hN : N - 3 < 8192) (l : Fin 1536) (g : ¬ M < 3 → M - 3 < 8192) :
    @dite EReal (M < 3) _ (fun _ => 0) (fun h => A0 m c (ix2 ⟨M - 3, g h⟩ ⟨l.val, by omega⟩)) = xRow m c N l := by
  subst e
  unfold xRow
  by_cases h : M < 3
  · rw [dif_pos h, dif_neg (by omega)]
  · rw [dif_neg h, dif_pos ⟨by omega, hN⟩]

/-- The convolution's output, in the reference. -/
theorem pre_ref (c : Dev nD) (n : Fin 8192) (l : Fin 1536) :
    (Cert.PrepRefIdeal.Read.val_main_v31 (F := Ideal) (A0 m c) (A2 m c) (ix2 n l) : EReal)
      = wRow m c 0 l * xRow m c n.val l + wRow m c 1 l * xRow m c (n.val + 1) l + wRow m c 2 l * xRow m c (n.val + 2) l + wRow m c 3 l * xRow m c (n.val + 3) l := by
  pointwise [Cert.PrepRefIdeal.Read.val_main_v0, Cert.PrepRefIdeal.Read.val_main_v1, Cert.PrepRefIdeal.Read.val_main_v2, Cert.PrepRefIdeal.Read.val_main_v3, Cert.PrepRefIdeal.Read.val_main_v4, Cert.PrepRefIdeal.Read.val_main_v5, Cert.PrepRefIdeal.Read.val_main_v6, Cert.PrepRefIdeal.Read.val_main_v7, Cert.PrepRefIdeal.Read.val_main_v8, Cert.PrepRefIdeal.Read.val_main_v9, Cert.PrepRefIdeal.Read.val_main_v10, Cert.PrepRefIdeal.Read.val_main_v11, Cert.PrepRefIdeal.Read.val_main_v12, Cert.PrepRefIdeal.Read.val_main_v13, Cert.PrepRefIdeal.Read.val_main_v14, Cert.PrepRefIdeal.Read.val_main_v15, Cert.PrepRefIdeal.Read.val_main_v16, Cert.PrepRefIdeal.Read.val_main_v17, Cert.PrepRefIdeal.Read.val_main_v18, Cert.PrepRefIdeal.Read.val_main_v19, Cert.PrepRefIdeal.Read.val_main_v20, Cert.PrepRefIdeal.Read.val_main_v21, Cert.PrepRefIdeal.Read.val_main_v22, Cert.PrepRefIdeal.Read.val_main_v23, Cert.PrepRefIdeal.Read.val_main_v24, Cert.PrepRefIdeal.Read.val_main_v25, Cert.PrepRefIdeal.Read.val_main_v26, Cert.PrepRefIdeal.Read.val_main_v27, Cert.PrepRefIdeal.Read.val_main_v28, Cert.PrepRefIdeal.Read.val_main_v29, Cert.PrepRefIdeal.Read.val_main_v30, Cert.PrepRefIdeal.Read.val_main_v31, Cert.PrepRefIdeal.Read.val_main_cst, Cert.PrepRefIdeal.Read.val_main_cst_0]
  refine congrArg₂ (fun a b : EReal => a + b) (congrArg₂ (fun a b : EReal => a + b) (congrArg₂ (fun a b : EReal => a + b) (congrArg _ ?_) (congrArg _ ?_)) (congrArg _ ?_)) (congrArg _ ?_)
  · exact tap m c n.val n.val rfl (by omega) l _
  · exact tap m c (1 + n.val) (n.val + 1) (by omega) (by omega) l _
  · exact tap m c (2 + n.val) (n.val + 2) (by omega) (by omega) l _
  · unfold xRow
    rw [dif_pos ⟨by omega, by omega⟩]
    rfl

theorem x_real [Cert.Pre_finite_prep.Facts] (h : Cert.Pre_PrepIdeal_finite_prep m) (c : Dev nD) (n : ℕ) (l : Fin 1536) : IsReal (xRow m c n l) := by
  unfold xRow
  split
  exacts [(reals m h c).1 _, IsReal.zero]

theorem pre_real [Cert.Pre_finite_prep.Facts] (h : Cert.Pre_PrepIdeal_finite_prep m) (c : Dev nD) (n : Fin 8192) (l : Fin 1536) : IsReal (Cert.PrepRefIdeal.Read.val_main_v31 (F := Ideal) (A0 m c) (A2 m c) (ix2 n l) : EReal) := by
  have hw (i : Fin 4) : IsReal (wRow m c i l) := (reals m h c).2.2.1 _
  rw [pre_ref]
  exact ((((hw 0).mul (x_real m h c _ l)).add ((hw 1).mul (x_real m h c _ l))).add ((hw 2).mul (x_real m h c _ l))).add ((hw 3).mul (x_real m h c _ l))

theorem act_ref (x0 : (⟨2, ![8192, 2048]⟩ : Shape).Idx → EReal) (x2 : (⟨2, ![4, 1536]⟩ : Shape).Idx → EReal) (y) :
    (Cert.PrepRefIdeal.Read.val_main_v34_0 (F := Ideal) x0 x2 y : EReal) = Cert.PrepRefIdeal.Read.val_main_v31 (F := Ideal) x0 x2 y * Ideal.logistic (Cert.PrepRefIdeal.Read.val_main_v31 (F := Ideal) x0 x2 y) := by
  pointwise [Cert.PrepRefIdeal.Read.val_main_v34_0, Cert.PrepRefIdeal.Read.val_main_v34_2, Cert.PrepRefIdeal.Read.val_main_call0_v0, Cert.PrepRefIdeal.Read.val_main_call0_v1, Cert.PrepRefIdeal.Read.val_main_call0_v2, Cert.PrepRefIdeal.Read.val_main_call0_v3, Cert.PrepRefIdeal.Read.val_main_call0_v4, Cert.PrepRefIdeal.Read.val_main_call0_cst, Cert.PrepRefIdeal.Read.val_main_call0_cst_0]
  rfl

/-- The gradient before the activation, in the reference. -/
theorem grad_ref (x0 : (⟨2, ![8192, 2048]⟩ : Shape).Idx → EReal) (x2 : (⟨2, ![4, 1536]⟩ : Shape).Idx → EReal) (x5 : (⟨3, ![5, 8192, 512]⟩ : Shape).Idx → EReal) (y)
    {u x : EReal} (hu : Cert.PrepRefIdeal.Read.val_main_v163 (F := Ideal) x0 x2 x5 y = u) (hx : Cert.PrepRefIdeal.Read.val_main_v31 (F := Ideal) x0 x2 y = x) (hr : IsReal u) :
    u * (Ideal.logistic x * (1 + x * (1 - Ideal.logistic x))) = (Cert.PrepRefIdeal.Read.val_main_v164 (F := Ideal) x0 x2 x5 y : EReal) := by
  rw [silu_slope hr x]
  pointwise [Cert.PrepRefIdeal.Read.val_main_v164, Cert.PrepRefIdeal.Read.val_main_call5_v0, Cert.PrepRefIdeal.Read.val_main_call5_v1, Cert.PrepRefIdeal.Read.val_main_call5_v2, Cert.PrepRefIdeal.Read.val_main_v34_1, Cert.PrepRefIdeal.Read.val_main_v34_2, Cert.PrepRefIdeal.Read.val_main_call0_v0, Cert.PrepRefIdeal.Read.val_main_call0_v1, Cert.PrepRefIdeal.Read.val_main_call0_v2, Cert.PrepRefIdeal.Read.val_main_call0_v3, Cert.PrepRefIdeal.Read.val_main_call0_v4, Cert.PrepRefIdeal.Read.val_main_call0_v6, Cert.PrepRefIdeal.Read.val_main_call0_v7, Cert.PrepRefIdeal.Read.val_main_call0_cst, Cert.PrepRefIdeal.Read.val_main_call0_cst_0, Cert.PrepRefIdeal.Read.val_main_call0_cst_1]
  rw [hu, hx]
  rfl

theorem flip4 (a b c d : EReal) : d + c + b + a = a + b + c + d := by ac_rfl

/-- The convolution's output, its activation and the activation's slope on a tile. -/
theorem pre_at (c : Dev nD) (t : Fin cfg0.N) (w0 w1 w2 w3 : S1x1536.Idx → Elt Ideal .f32) (x5 x6 x7 x8 : S512x1536.Idx → Elt Ideal .f32)
    (hw : ∀ l, w0 (ix2 0 l) = wRow m c 0 l ∧ w1 (ix2 0 l) = wRow m c 1 l ∧ w2 (ix2 0 l) = wRow m c 2 l ∧ w3 (ix2 0 l) = wRow m c 3 l)
    (h5 : ∀ y, x5 y = xRow m c (t.val * 512 + (5 + (y 0).val) - 5) (y 1)) (h6 : ∀ y, x6 y = xRow m c (t.val * 512 + (6 + (y 0).val) - 5) (y 1))
    (h7 : ∀ y, x7 y = xRow m c (t.val * 512 + (7 + (y 0).val) - 5) (y 1)) (h8 : ∀ y, x8 y = xRow m c (t.val * 512 + (8 + (y 0).val) - 5) (y 1)) (y : S512x1536.Idx) :
    (k0_pay8 (F := Ideal) (k0_pay7 w3 x8 w2 x7 w1 x6) w0 x5 y : EReal) = Cert.PrepRefIdeal.Read.val_main_v31 (F := Ideal) (A0 m c) (A2 m c) (ix2 (at' t (y 0)) (y 1)) := by
  obtain ⟨e0, e1, e2, e3⟩ := hw (y 1)
  refine Eq.trans ?_ (pre_ref m c (at' t (y 0)) (y 1)).symm
  pointwise [k0_pay8, k0_pay7]
  rw [h5 y, h6 y, h7 y, h8 y, e0, e1, e2, e3,
    show t.val * 512 + (5 + (y 0).val) - 5 = (at' t (y 0)).val from by show _ = t.val * 512 + (y 0).val; omega,
    show t.val * 512 + (6 + (y 0).val) - 5 = (at' t (y 0)).val + 1 from by show _ = t.val * 512 + (y 0).val + 1; omega,
    show t.val * 512 + (7 + (y 0).val) - 5 = (at' t (y 0)).val + 2 from by show _ = t.val * 512 + (y 0).val + 2; omega,
    show t.val * 512 + (8 + (y 0).val) - 5 = (at' t (y 0)).val + 3 from by show _ = t.val * 512 + (y 0).val + 3; omega]
  exact flip4 _ _ _ _

theorem act_at (v w x) (y : S512x1536.Idx) : (k0_pay10 (F := Ideal) v w x y : EReal) = k0_pay8 (F := Ideal) v w x y * Ideal.logistic (k0_pay8 (F := Ideal) v w x y) := by
  pointwise [k0_pay10, k0_pay9]
  generalize (k0_pay8 (F := Ideal) v w x) = P
  exact congrArg _ (sigmoid_eq _)

theorem slope_at (v w x) (y : S512x1536.Idx) : (k0_pay11 (F := Ideal) v w x y : EReal)
    = Ideal.logistic (k0_pay8 (F := Ideal) v w x y) * (1 + k0_pay8 (F := Ideal) v w x y * (1 - Ideal.logistic (k0_pay8 (F := Ideal) v w x y))) := by
  pointwise [k0_pay11, k0_pay9]
  generalize (k0_pay8 (F := Ideal) v w x) = P
  rw [sigmoid_eq]

theorem gg_real (o D : Fin 512 → EReal) (ho : ∀ a, IsReal (o a)) (hD : ∀ a, IsReal (D a)) (q : Fin 512) : IsReal (gg o D q) := by
  rw [← gg_eq o D ho hD q]
  refine (uu_real o ho q).mul ((hD q).add (IsReal.neg (((ho q).mul (uu_real o ho q)).mul (IsReal.sum fun d => (hD _).mul ((ho _).mul (uu_real o ho _))))))

/-- Three blocks of columns stored side by side. -/
theorem cols (P0 P1 P2 : S512x512.Idx → Elt Ideal .f32) (G : S512x1536.Idx → Elt Ideal .f32) (i0 i1 i2)
    (h0 : ∀ p q : Fin 512, P0 (ix2 p q) = G (ix2 p ⟨q.val, by omega⟩)) (h1 : ∀ p q : Fin 512, P1 (ix2 p q) = G (ix2 p ⟨512 + q.val, by omega⟩))
    (h2 : ∀ p q : Fin 512, P2 (ix2 p q) = G (ix2 p ⟨1024 + q.val, by omega⟩)) (y : S512x1536.Idx) :
    View.canon (Val := Elt Ideal) (e := .f32) (s := S512x1536) [⟨Rect.unit ![0, 1024] ![512, 512] i2, P2⟩, ⟨Rect.unit ![0, 512] ![512, 512] i1, P1⟩, ⟨Rect.unit ![0, 0] ![512, 512] i0, P0⟩] y = G y := by
  have emb (o : ℕ) (ho : o + 512 ≤ 1536) (i) (x : S512x512.Idx) : (Rect.unit (s := S512x1536) ![0, o] ![512, 512] i).emb x = ix2 (x 0) ⟨o + (x 1).val, by have : (x 1).val < 512 := (x 1).isLt; omega⟩ := by
    funext a
    fin_cases a
    · apply Fin.ext; show 0 + 1 * (x 0).val = (x 0).val; omega
    · apply Fin.ext; show o + 1 * (x 1).val = o + (x 1).val; omega
  have mem (o : ℕ) (i) (h : o ≤ (y 1).val ∧ (y 1).val < o + 512) : y ∈ (Rect.unit (s := S512x1536) ![0, o] ![512, 512] i).set := by
    refine (LoadRect.mem_set _).mpr fun d => ?_
    fin_cases d
    · exact ⟨(y 0).val, (y 0).isLt, by show (y 0).val = 0 + 1 * (y 0).val; omega⟩
    · exact ⟨(y 1).val - o, by show _ < 512; omega, by show (y 1).val = o + 1 * ((y 1).val - o); omega⟩
  have n2 (x : S512x512.Idx) : x = ix2 (x 0) (x 1) := Shape.Idx.norm2 x
  refine View.canon_apply_of_pieces (Val := Elt Ideal) (e := .f32) G _ (fun p hp x => ?_) y ?_
  · simp only [List.mem_cons, List.not_mem_nil, or_false] at hp
    rcases hp with rfl | rfl | rfl
    · exact (congrArg _ (n2 x)).trans ((h2 (x 0) (x 1)).trans (congrArg G (emb 1024 (by omega) i2 x).symm))
    · exact (congrArg _ (n2 x)).trans ((h1 (x 0) (x 1)).trans (congrArg G (emb 512 (by omega) i1 x).symm))
    · exact (congrArg _ (n2 x)).trans ((h0 (x 0) (x 1)).trans (congrArg G ((emb 0 (by omega) i0 x).trans (congrArg (ix2 (x 0)) (Fin.ext (Nat.zero_add _)))).symm))
  · have hy : (y 1).val < 1536 := (y 1).isLt
    simp only [List.mem_cons, List.not_mem_nil, or_false, exists_eq_or_imp, exists_eq_left]
    rcases (by omega : (1024 ≤ (y 1).val ∧ (y 1).val < 1024 + 512) ∨ (512 ≤ (y 1).val ∧ (y 1).val < 512 + 512) ∨ (0 ≤ (y 1).val ∧ (y 1).val < 0 + 512)) with h | h | h
    · exact .inl (mem _ _ h)
    · exact .inr (.inl (mem _ _ h))
    · exact .inr (.inr (mem _ _ h))

/-- The gradient of the convolution's output on a tile. -/
theorem conv_rows [Cert.Pre_finite_prep.Facts] (h : Cert.Pre_PrepIdeal_finite_prep m) (c : Dev nD) (t : Fin cfg0.N) (w0 w1 w2 w3 : S1x1536.Idx → Elt Ideal .f32) (x5 x6 x7 x8 : S512x1536.Idx → Elt Ideal .f32) (D0 D1 D2 : S1x512x512.Idx → Elt Ideal .f32)
    (hw : ∀ l, w0 (ix2 0 l) = wRow m c 0 l ∧ w1 (ix2 0 l) = wRow m c 1 l ∧ w2 (ix2 0 l) = wRow m c 2 l ∧ w3 (ix2 0 l) = wRow m c 3 l)
    (h5 : ∀ y, x5 y = xRow m c (t.val * 512 + (5 + (y 0).val) - 5) (y 1)) (h6 : ∀ y, x6 y = xRow m c (t.val * 512 + (6 + (y 0).val) - 5) (y 1))
    (h7 : ∀ y, x7 y = xRow m c (t.val * 512 + (7 + (y 0).val) - 5) (y 1)) (h8 : ∀ y, x8 y = xRow m c (t.val * 512 + (8 + (y 0).val) - 5) (y 1))
    (hD : ∀ p q, D0 (ix3 0 p q) = A5 m c (ix3 0 (at' t p) q) ∧ D1 (ix3 0 p q) = A5 m c (ix3 1 (at' t p) q) ∧ D2 (ix3 0 p q) = A5 m c (ix3 2 (at' t p) q)) (i0 i1 i2) (y : S512x1536.Idx) :
    View.canon (Val := Elt Ideal) (e := .f32) (s := S512x1536) [⟨Rect.unit ![0, 1024] ![512, 512] i2, k0_pay26 (F := Ideal) (k0_pay11 (k0_pay7 w3 x8 w2 x7 w1 x6) w0 x5) D2⟩,
      ⟨Rect.unit ![0, 512] ![512, 512] i1, k0_pay25 (F := Ideal) (k0_pay11 (k0_pay7 w3 x8 w2 x7 w1 x6) w0 x5) (k0_pay14 k0_pay12 (iota Kind.tc S512x512 32 [1] iota_S512x512_d1_w32) (64#32) k0_pay13) (k0_pay21 (k0_pay10 (k0_pay7 w3 x8 w2 x7 w1 x6) w0 x5) (k0_pay14 k0_pay12 (iota Kind.tc S512x512 32 [1] iota_S512x512_d1_w32) (64#32) k0_pay13)) (k0_pay22 (k0_pay10 (k0_pay7 w3 x8 w2 x7 w1 x6) w0 x5) (k0_pay14 k0_pay12 (iota Kind.tc S512x512 32 [1] iota_S512x512_d1_w32) (64#32) k0_pay13)) (k0_pay23 D1) (k0_pay24 (k0_pay10 (k0_pay7 w3 x8 w2 x7 w1 x6) w0 x5) (k0_pay14 k0_pay12 (iota Kind.tc S512x512 32 [1] iota_S512x512_d1_w32) (64#32) k0_pay13) D1)⟩,
      ⟨Rect.unit ![0, 0] ![512, 512] i0, k0_pay19 (F := Ideal) (k0_pay11 (k0_pay7 w3 x8 w2 x7 w1 x6) w0 x5) (k0_pay14 k0_pay12 (iota Kind.tc S512x512 32 [1] iota_S512x512_d1_w32) (64#32) k0_pay13) (k0_pay16 (k0_pay10 (k0_pay7 w3 x8 w2 x7 w1 x6) w0 x5) k0_pay12 (iota Kind.tc S512x512 32 [1] iota_S512x512_d1_w32) (64#32) k0_pay13) (k0_pay17 (k0_pay10 (k0_pay7 w3 x8 w2 x7 w1 x6) w0 x5) k0_pay12 (iota Kind.tc S512x512 32 [1] iota_S512x512_d1_w32) (64#32) k0_pay13) (k0_pay18 D0) (FloatOps.ofBits FTy.f32 1040187392#32)⟩] y
      = Cert.PrepRefIdeal.Read.val_main_v164 (F := Ideal) (A0 m c) (A2 m c) (A5 m c) (ix2 (at' t (y 0)) (y 1)) := by
  have hr := reals m h c
  have hp (y) := pre_at m c t w0 w1 w2 w3 x5 x6 x7 x8 hw h5 h6 h7 h8 y
  have ha (y : S512x1536.Idx) : (k0_pay10 (F := Ideal) (k0_pay7 w3 x8 w2 x7 w1 x6) w0 x5 y : EReal) = Cert.PrepRefIdeal.Read.val_main_v34_0 (F := Ideal) (A0 m c) (A2 m c) (ix2 (at' t (y 0)) (y 1)) := by
    rw [act_at, hp, act_ref]
  have hs (y : S512x1536.Idx) := (slope_at (k0_pay7 w3 x8 w2 x7 w1 x6) w0 x5 y)
  have har (y : S512x1536.Idx) : IsReal (k0_pay10 (F := Ideal) (k0_pay7 w3 x8 w2 x7 w1 x6) w0 x5 y : EReal) := by
    rw [act_at, hp]; exact (pre_real m h c _ _).mul (isReal_logistic _)
  have he : IsReal (Ideal.ofBits .f32 1040187392#32) := by rw [eighth]; exact IsReal.coe _
  have n3 (a : S1x512x512.Idx) : a = ix3 0 (a 1) (a 2) := (Shape.Idx.norm3 a).trans (congrArg (fun z => ix3 z (a 1) (a 2)) (Subsingleton.elim _ _))
  have rl (z w : EReal) (e : z = w) (hw : IsReal w) : IsReal z := e ▸ hw
  have d0 (a : S1x512x512.Idx) : IsReal (D0 a : EReal) := rl _ _ ((congrArg D0 (n3 a)).trans (hD (a 1) (a 2)).1) (hr.2.2.2.2.2 _)
  have d1 (a : S1x512x512.Idx) : IsReal (D1 a : EReal) := rl _ _ ((congrArg D1 (n3 a)).trans (hD (a 1) (a 2)).2.1) (hr.2.2.2.2.2 _)
  have d2 (a : S1x512x512.Idx) : IsReal (D2 a : EReal) := rl _ _ ((congrArg D2 (n3 a)).trans (hD (a 1) (a 2)).2.2) (hr.2.2.2.2.2 _)
  generalize (k0_pay10 (F := Ideal) (k0_pay7 w3 x8 w2 x7 w1 x6) w0 x5) = AC at *
  generalize (k0_pay11 (F := Ideal) (k0_pay7 w3 x8 w2 x7 w1 x6) w0 x5) = SL at *
  generalize (k0_pay8 (F := Ideal) (k0_pay7 w3 x8 w2 x7 w1 x6) w0 x5) = PR at *
  refine cols _ _ _ (fun y : S512x1536.Idx => Cert.PrepRefIdeal.Read.val_main_v164 (F := Ideal) (A0 m c) (A2 m c) (A5 m c) (ix2 (at' t (y 0)) (y 1))) _ _ _ (fun p q => ?_) (fun p q => ?_) (fun p q => ?_) y
  · refine (block_q SL AC har D0 d0 p q).trans ((congrArg _ (hs _)).trans ?_)
    refine grad_ref (A0 m c) (A2 m c) (A5 m c) _ ((ref_q (A0 m c) (A2 m c) (A5 m c) (at' t p) q).trans (congrArg₂ (fun o D => gg o D q) (funext fun k => (ha (ix2 p ⟨k.val, by omega⟩)).symm) (funext fun k => congrArg (fun x : EReal => x * _) (hD p k).1.symm))) (hp _).symm ?_
    exact gg_real _ _ (fun a => har _) (fun a => (d0 _).mul he) q
  · refine (block_k SL AC har D1 d1 p q).trans ((congrArg _ (hs _)).trans ?_)
    refine grad_ref (A0 m c) (A2 m c) (A5 m c) _ ((ref_k (A0 m c) (A2 m c) (A5 m c) (at' t p) q).trans (congrArg₂ (fun o D => gg o D q) (funext fun k => (ha (ix2 p ⟨512 + k.val, by omega⟩)).symm) (funext fun k => (hD p k).2.1.symm))) (hp _).symm ?_
    exact gg_real _ _ (fun a => har _) (fun a => d1 _) q
  · refine Eq.trans (b := (D2 (ix3 0 p q) * SL (ix2 p ⟨1024 + q.val, by omega⟩) : EReal)) (by pointwise [k0_pay26]) ((congrArg _ (hs _)).trans ?_)
    exact grad_ref (A0 m c) (A2 m c) (A5 m c) _ ((ref_v (A0 m c) (A2 m c) (A5 m c) (at' t p) q).trans (hD p q).2.2.symm) (hp _).symm (d2 _)

/-- A plane read from a stack of five. -/
theorem ld_plane (i : Fin 5) (X : S5x512x512.Idx → Elt Ideal .f32) (h1) (p q : Fin 512) :
    View.ld X (Rect.unit (s := S5x512x512) ![i.val, 0, 0] ![1, 512, 512] h1) (ix3 0 p q) = X (ix3 i p q) := by
  refine congrArg X (funext fun d => ?_)
  fin_cases d
  · apply Fin.ext; show i.val + 1 * 0 = i.val; omega
  · apply Fin.ext; show 0 + 1 * p.val = p.val; omega
  · apply Fin.ext; show 0 + 1 * q.val = q.val; omega

theorem final_8 [Cert.Pre_finite_prep.Facts] (h : Cert.Pre_PrepIdeal_finite_prep m) (c : Dev nD) :
    (dats m 0 c).arrAt 8 (cfgs 0).N = Cert.PrepRefIdeal.Read.val_main_v164 (F := Ideal) (A0 m c) (A2 m c) (A5 m c) := by
  refine (dats m 0 c).arrAt_eq_of_covers 8 _ (by decide +kernel) fun t hf y => ?_
  have hw (i : Fin 4) (h1) (l : Fin 1536) : (View.ld (iblk m c 3 t) (Rect.unit ![i.val, 0] ![1, 1536] h1)) (ix2 0 l) = wRow m c i l :=
    (Stage.ld_row (Val := Elt Ideal) (e := .f32) i (iblk m c 3 t) h1 (ix2 0 l)).trans (congrFun (blk3 m c t) (ix2 i l))
  have hd (i : Fin 5) (h1) (p q : Fin 512) : (View.ld (iblk m c 6 t) (Rect.unit ![i.val, 0, 0] ![1, 512, 512] h1)) (ix3 0 p q) = A5 m c (ix3 i (at' t p) q) := by
    exact (ld_plane i (iblk m c 6 t) h1 p q).trans (congrFun (blk6 m c t) (ix3 i p q))
  blk_simp
  rw [after0_8]
  refine Eq.trans (b := Cert.PrepRefIdeal.Read.val_main_v164 (F := Ideal) (A0 m c) (A2 m c) (A5 m c) (ix2 (at' t (y 0)) (y 1))) ?_ (congrArg _ (funext fun a => ?_))
  · by_cases h0 : t.val % 16 = 0
    · rw [outsAt0_A m c t h0]
      frame_out
      exact conv_rows m h c t _ _ _ _ _ _ _ _ _ _ _ (fun l => ⟨hw 0 _ l, hw 1 _ l, hw 2 _ l, hw 3 _ l⟩) (congrFun (behind m c t 5 _ _ _)) (congrFun (behind m c t 6 _ _ _)) (congrFun (behind m c t 7 _ _ _)) (congrFun (behind m c t 8 _ _ _))
        (fun p q => ⟨hd 0 _ p q, hd 1 _ p q, hd 2 _ p q⟩) _ _ _ y
    · rw [outsAt0_B m c t h0]
      frame_out
      exact conv_rows m h c t _ _ _ _ _ _ _ _ _ _ _ (fun l => ⟨hw 0 _ l, hw 1 _ l, hw 2 _ l, hw 3 _ l⟩) (congrFun (behind m c t 5 _ _ _)) (congrFun (behind m c t 6 _ _ _)) (congrFun (behind m c t 7 _ _ _)) (congrFun (behind m c t 8 _ _ _))
        (fun p q => ⟨hd 0 _ p q, hd 1 _ p q, hd 2 _ p q⟩) _ _ _ y
  · fin_cases a
    · exact Fin.ext ((win0_8.rect_emb_val t y 0).trans (by rw [(idx t).2.2.2.2.2.2.2.2.2.1]; rfl)).symm
    · exact Fin.ext ((win0_8.rect_emb_val t y 1).trans (by rw [(idx t).2.2.2.2.2.2.2.2.2.1]; exact Nat.zero_add _)).symm

end Cert.PrepIdeal.Value
-- ==== Proof.PrepClaims.lean ====
/- Hand-written, untrusted: the claims about the gradients of the recurrence's heads and gates (`_delta_prep_bwd`). -/
module

public import proofs.«01_k».proof.Proof.PrepValue
public import proofs.«01_k».proof.Proof.Gen.Prep.Frame
public import proofs.«01_k».proof.Proof.Gen.PrepRefIdeal.Run
public import Idealize.ShloMosaic.Lib.Claim
public import Idealize.ShloMosaic.Lib.Quiescent

@[expose] public section

set_option maxRecDepth 16384

noncomputable section

namespace Cert.PrepClaims

open Idealize.ShloMosaic Idealize.SL.Sem

theorem pre_facts : Cert.Pre_finite_prep.Facts :=
  ⟨by decide, by decide, by decide, by decide, by decide⟩

theorem kernel : Cert.quiescent_Prep := fun m g _ => Cert.Prep.Gen.frame m g
theorem ideal : Cert.quiescent_PrepIdeal := fun m g _ => Cert.PrepIdeal.Gen.frame m g
theorem ideal_pre [Cert.Pre_finite_prep.Facts] : Cert.quiescent_PrepIdeal_pre_finite_prep := fun m g _ => Cert.PrepIdeal.Gen.frame m g
theorem reference : Cert.quiescent_PrepRefIdeal := by
  intro m g _
  run_from Cert.PrepRefIdeal.Value.run m g
  · exact fun _ => ⟨trivial, trivial, trivial, trivial, trivial, trivial, trivial⟩
  · exact sem_eq_zero_of_no_sems (sig := Cert.PrepRefIdeal.sig) (by decide) _
theorem reference_pre [Cert.Pre_finite_prep.Facts] : Cert.quiescent_PrepRefIdeal_pre_finite_prep := fun m g _ => reference m g trivial

set_option maxHeartbeats 4000000 in
theorem value [Cert.Pre_finite_prep.Facts] : Cert.algebraic_PrepIdeal_PrepRefIdeal_pre_finite_prep := by
  pair_intro
  · run_from Cert.PrepIdeal.Gen.run_main m g
    all_goals
      simp only [Cert.PrepIdeal.Gen.hostOps0, Cert.PrepIdeal.Gen.hostOps0_1, Cert.PrepIdeal.Gen.hostOps0_2, Cert.PrepIdeal.Gen.hostOps0_3, Cert.PrepIdeal.Gen.hostOps0_4, Cert.PrepIdeal.Gen.hostOps0_5, List.flatten_cons, List.flatten_nil, List.cons_append, List.nil_append, List.append_nil]
      after_results
  · run_from Cert.PrepRefIdeal.Value.run m' g'
    · refine (Cert.PrepRefIdeal.Read.val_main_v164_eq (StableHlo.launchContents m' c)).trans (Eq.trans ?_ (Cert.PrepIdeal.Value.final_8 m hpre c).symm)
      rw [show StableHlo.launchContents m' c (Proc.tc.devRef Cert.PrepRefIdeal.main_arg0) = Cert.PrepIdeal.Value.A0 m c from (hagree c).1, show StableHlo.launchContents m' c (Proc.tc.devRef Cert.PrepRefIdeal.main_arg2) = Cert.PrepIdeal.Value.A2 m c from (hagree c).2.2.1, show StableHlo.launchContents m' c (Proc.tc.devRef Cert.PrepRefIdeal.main_arg5) = Cert.PrepIdeal.Value.A5 m c from (hagree c).2.2.2.2.2.1]
    · refine (Cert.PrepRefIdeal.Read.val_main_v166_eq (StableHlo.launchContents m' c)).trans (Eq.trans ?_ (Cert.PrepIdeal.Value.final_9 m hpre c).symm)
      rw [show StableHlo.launchContents m' c (Proc.tc.devRef Cert.PrepRefIdeal.main_arg1) = Cert.PrepIdeal.Value.A1 m c from (hagree c).2.1, show StableHlo.launchContents m' c (Proc.tc.devRef Cert.PrepRefIdeal.main_arg3) = Cert.PrepIdeal.Value.A3 m c from (hagree c).2.2.2.1, show StableHlo.launchContents m' c (Proc.tc.devRef Cert.PrepRefIdeal.main_arg4) = Cert.PrepIdeal.Value.A4 m c from (hagree c).2.2.2.2.1, show StableHlo.launchContents m' c (Proc.tc.devRef Cert.PrepRefIdeal.main_arg5) = Cert.PrepIdeal.Value.A5 m c from (hagree c).2.2.2.2.2.1]
    · refine (Cert.PrepRefIdeal.Read.val_main_v168_eq (StableHlo.launchContents m' c)).trans (Eq.trans ?_ (Cert.PrepIdeal.Value.final_10 m hpre c).symm)
      rw [show StableHlo.launchContents m' c (Proc.tc.devRef Cert.PrepRefIdeal.main_arg1) = Cert.PrepIdeal.Value.A1 m c from (hagree c).2.1, show StableHlo.launchContents m' c (Proc.tc.devRef Cert.PrepRefIdeal.main_arg3) = Cert.PrepIdeal.Value.A3 m c from (hagree c).2.2.2.1, show StableHlo.launchContents m' c (Proc.tc.devRef Cert.PrepRefIdeal.main_arg4) = Cert.PrepIdeal.Value.A4 m c from (hagree c).2.2.2.2.1, show StableHlo.launchContents m' c (Proc.tc.devRef Cert.PrepRefIdeal.main_arg5) = Cert.PrepIdeal.Value.A5 m c from (hagree c).2.2.2.2.2.1]
    · rw [← (hagree c).2.2.2.2.2.2]
      refine (Cert.PrepRefIdeal.Read.val_main_v170_eq (StableHlo.launchContents m' c)).trans (Eq.trans ?_ (Cert.PrepIdeal.Value.final_11 m hpre c).symm)
      rw [show StableHlo.launchContents m' c (Proc.tc.devRef Cert.PrepRefIdeal.main_arg1) = Cert.PrepIdeal.Value.A1 m c from (hagree c).2.1, show StableHlo.launchContents m' c (Proc.tc.devRef Cert.PrepRefIdeal.main_arg3) = Cert.PrepIdeal.Value.A3 m c from (hagree c).2.2.2.1, show StableHlo.launchContents m' c (Proc.tc.devRef Cert.PrepRefIdeal.main_arg4) = Cert.PrepIdeal.Value.A4 m c from (hagree c).2.2.2.2.1, show StableHlo.launchContents m' c (Proc.tc.devRef Cert.PrepRefIdeal.main_arg5) = Cert.PrepIdeal.Value.A5 m c from (hagree c).2.2.2.2.2.1, show StableHlo.launchContents m' c (Proc.tc.devRef Cert.PrepRefIdeal.main_arg6) = Cert.PrepIdeal.Value.A6 m c from (hagree c).2.2.2.2.2.2]

end Cert.PrepClaims

end
-- ==== Proof.FfnValue.lean ====
/- Hand-written, untrusted: the feed-forward block with the loss and its gradient at the block's output (`ffn_fwd`). -/
module

public import proofs.«01_k».proof.Defs
public import proofs.«01_k».proof.Proof.Norms
public import proofs.«01_k».proof.Proof.Stage
public import proofs.«01_k».proof.Proof.Gen.FfnIdeal.Value
public import proofs.«01_k».proof.Proof.Gen.FfnRefIdeal.Read
public import Idealize.ShloMosaic.Lib.Pipeline.ValueKit
public import Idealize.ShloMosaic.Lib.Pointwise

@[expose] public section

set_option maxRecDepth 16384

noncomputable section

namespace Cert.FfnIdeal.Value

open Cert.FfnIdeal Cert.FfnIdeal.Gen Cert.Reals Cert.Norms Idealize.ShloMosaic Idealize.ShloMosaic.TcCoe Idealize.SL.Sem
open Idealize.ShloMosaic.Pipeline (Dat)

variable (m : (ℓ : Loc nD τ sig) → Buf (Elt Ideal) ℓ)

/-- The block each window shows at each point. -/
theorem idx : ∀ t : Fin cfg0.N, win0_0.index t = ![t.val / 2, 0]
    ∧ win0_1.index t = ![t.val % 2, 0]
    ∧ win0_2.index t = ![t.val % 2, 0]
    ∧ win0_3.index t = ![t.val % 2, 0]
    ∧ win0_4.index t = ![t.val / 2, 0]
    ∧ win0_5.index t = ![0, 0]
    ∧ win0_6.index t = ![0, 0]
    ∧ win0_7.index t = ![t.val / 2, 0]
    ∧ win0_8.index t = ![t.val / 2, t.val % 2]
    ∧ win0_9.index t = ![t.val / 2, t.val % 2]
    ∧ win0_10.index t = ![t.val / 2, 0]
    ∧ win0_11.index t = ![0, 0] :=
  (by decide +kernel : ∀ t : Fin grid0.N, _)

/-- Argument 0 on a device. -/
abbrev A0 (c : Dev nD) := m ((c : Thread nD τ).loc main_arg0)
/-- Argument 1 on a device. -/
abbrev A1 (c : Dev nD) := m ((c : Thread nD τ).loc main_arg1)
/-- Argument 2 on a device. -/
abbrev A2 (c : Dev nD) := m ((c : Thread nD τ).loc main_arg2)
/-- Argument 3 on a device. -/
abbrev A3 (c : Dev nD) := m ((c : Thread nD τ).loc main_arg3)
/-- Argument 4 on a device. -/
abbrev A4 (c : Dev nD) := m ((c : Thread nD τ).loc main_arg4)
/-- Argument 5 on a device. -/
abbrev A5 (c : Dev nD) := m ((c : Thread nD τ).loc main_arg5)
/-- Argument 6 on a device. -/
abbrev A6 (c : Dev nD) := m ((c : Thread nD τ).loc main_arg6)
/-- Argument 7 on a device. -/
abbrev A7 (c : Dev nD) := m ((c : Thread nD τ).loc main_arg7)

/-- The arrays that have to be real are. -/
theorem reals [Cert.Pre_finite_ffn.Facts] (h : Cert.Pre_FfnIdeal_finite_ffn m) (c : Dev nD) :
    (∀ a, IsReal (A0 m c a))
      ∧ (∀ a, IsReal (A1 m c a))
      ∧ (∀ a, IsReal (A2 m c a))
      ∧ (∀ a, IsReal (A3 m c a))
      ∧ (∀ a, IsReal (A4 m c a))
      ∧ (∀ a, IsReal (A5 m c a))
      ∧ (∀ a, IsReal (A6 m c a))
      ∧ (∀ a, IsReal (A7 m c a)) := by
  have h0 := congrFun (h c).1
  have h1 := congrFun (h c).2.1
  have h2 := congrFun (h c).2.2.1
  have h3 := congrFun (h c).2.2.2.1
  have h4 := congrFun (h c).2.2.2.2.1
  have h5 := congrFun (h c).2.2.2.2.2.1
  have h6 := congrFun (h c).2.2.2.2.2.2.1
  have h7 := congrFun (h c).2.2.2.2.2.2.2
  pointwise [Cert.Pre_finite_ffn.fn] at h0 h1 h2 h3 h4 h5 h6 h7
  exact ⟨fun a => isReal_of_bf16 (h0 a), fun a => isReal_of_bf16 (h1 a), fun a => isReal_of_bf16 (h2 a), fun a => isReal_of_bf16 (h3 a), fun a => isReal_of_f32 (h4 a), fun a => isReal_of_f32 (h5 a), fun a => isReal_of_f32 (h6 a), fun a => isReal_of_f32 (h7 a)⟩

/-- The gate, at the whole array. -/
abbrev gate (c : Dev nD) := Cert.FfnRefIdeal.Read.val_main_v6 (F := Ideal) (A0 m c) (A1 m c)
/-- The up projection. -/
abbrev up (c : Dev nD) := Cert.FfnRefIdeal.Read.val_main_v7 (F := Ideal) (A0 m c) (A2 m c)
/-- The hidden rows. -/
abbrev hid (c : Dev nD) := Cert.FfnRefIdeal.Read.val_main_v9 (F := Ideal) (A0 m c) (A1 m c) (A2 m c)
/-- The rows after the down projection. -/
abbrev y2 (c : Dev nD) := Cert.FfnRefIdeal.Read.val_main_v10 (F := Ideal) (A0 m c) (A1 m c) (A2 m c) (A3 m c)
/-- The rows the loss norm reads. -/
abbrev x2 (c : Dev nD) := Cert.FfnRefIdeal.Read.val_main_v13 (F := Ideal) (A0 m c) (A1 m c) (A2 m c) (A3 m c) (A4 m c) (A5 m c)
/-- The normed rows before the gain. -/
abbrev xhat (c : Dev nD) := Cert.FfnRefIdeal.Read.val_main_v26 (F := Ideal) (A0 m c) (A1 m c) (A2 m c) (A3 m c) (A4 m c) (A5 m c)
/-- The distances from the target. -/
abbrev diff (c : Dev nD) := Cert.FfnRefIdeal.Read.val_main_v29 (F := Ideal) (A0 m c) (A1 m c) (A2 m c) (A3 m c) (A4 m c) (A5 m c) (A6 m c) (A7 m c)
/-- The gradient at the output. -/
abbrev dout (c : Dev nD) := Cert.FfnRefIdeal.Read.val_main_v47 (F := Ideal) (A0 m c) (A1 m c) (A2 m c) (A3 m c) (A4 m c) (A5 m c) (A6 m c) (A7 m c)
/-- The gradient at the normed rows. -/
abbrev dxhat (c : Dev nD) := Cert.FfnRefIdeal.Read.val_main_v52 (F := Ideal) (A0 m c) (A1 m c) (A2 m c) (A3 m c) (A4 m c) (A5 m c) (A6 m c) (A7 m c)
/-- The gradient at the rows the norm reads. -/
abbrev dx (c : Dev nD) := Cert.FfnRefIdeal.Read.val_main_v66 (F := Ideal) (A0 m c) (A1 m c) (A2 m c) (A3 m c) (A4 m c) (A5 m c) (A6 m c) (A7 m c)

theorem rowlt (t : Fin cfg0.N) (p : Fin 512) : t.val / 2 * 512 + p.val < 8192 := by
  have h : t.val < 32 := t.isLt
  omega

theorem collt (t : Fin cfg0.N) (p : Fin 1408) : t.val % 2 * 1408 + p.val < 2816 := by omega

theorem blk0 (c : Dev nD) (t : Fin cfg0.N) : iblk m c 0 t = fun y : S512x1024.Idx => A0 m c (ix2 ⟨t.val / 2 * 512 + (y 0).val, rowlt t (y 0)⟩ (y 1)) := by
  funext y
  blk_point [iblk, V, idx t]
theorem blk1 (c : Dev nD) (t : Fin cfg0.N) : iblk m c 1 t = fun y : S1408x1024.Idx => A1 m c (ix2 ⟨t.val % 2 * 1408 + (y 0).val, collt t (y 0)⟩ (y 1)) := by
  funext y
  blk_point [iblk, V, idx t]
theorem blk2 (c : Dev nD) (t : Fin cfg0.N) : iblk m c 2 t = fun y : S1408x1024.Idx => A2 m c (ix2 ⟨t.val % 2 * 1408 + (y 0).val, collt t (y 0)⟩ (y 1)) := by
  funext y
  blk_point [iblk, V, idx t]
theorem blk3 (c : Dev nD) (t : Fin cfg0.N) : iblk m c 3 t = fun y : S1408x1024.Idx => A3 m c (ix2 ⟨t.val % 2 * 1408 + (y 0).val, collt t (y 0)⟩ (y 1)) := by
  funext y
  blk_point [iblk, V, idx t]
theorem blk4 (c : Dev nD) (t : Fin cfg0.N) : iblk m c 4 t = fun y : S512x1024.Idx => A4 m c (ix2 ⟨t.val / 2 * 512 + (y 0).val, rowlt t (y 0)⟩ (y 1)) := by
  funext y
  blk_point [iblk, V, idx t]
theorem blk5 (c : Dev nD) (t : Fin cfg0.N) : iblk m c 5 t = fun y : S1x1024.Idx => A5 m c (ix2 0 (y 1)) := by
  funext y
  blk_point [iblk, V, idx t]
theorem blk6 (c : Dev nD) (t : Fin cfg0.N) : iblk m c 6 t = fun y : S1x1024.Idx => A6 m c (ix2 0 (y 1)) := by
  funext y
  blk_point [iblk, V, idx t]
theorem blk7 (c : Dev nD) (t : Fin cfg0.N) : iblk m c 7 t = fun y : S512x1024.Idx => A7 m c (ix2 ⟨t.val / 2 * 512 + (y 0).val, rowlt t (y 0)⟩ (y 1)) := by
  funext y
  blk_point [iblk, V, idx t]

/-- The gate's block. -/
theorem gate_row (c : Dev nD) (t : Fin cfg0.N) (y : S512x1408.Idx) :
    (k0_pay14 (F := Ideal) (iblk m c 0 t) (iblk m c 1 t) y : EReal) = gate m c (ix2 ⟨t.val / 2 * 512 + (y 0).val, rowlt t (y 0)⟩ ⟨t.val % 2 * 1408 + (y 1).val, collt t (y 1)⟩) := by
  rw [blk0, blk1]
  pointwise [k0_pay14, Cert.FfnRefIdeal.Read.val_main_v6, Cert.FfnRefIdeal.Read.val_main_v4, Cert.FfnRefIdeal.Read.val_main_v1, Cert.FfnRefIdeal.Read.val_main_v0]

/-- The up projection's block. -/
theorem up_row (c : Dev nD) (t : Fin cfg0.N) (y : S512x1408.Idx) :
    (k0_pay15 (F := Ideal) (iblk m c 0 t) (iblk m c 2 t) y : EReal) = up m c (ix2 ⟨t.val / 2 * 512 + (y 0).val, rowlt t (y 0)⟩ ⟨t.val % 2 * 1408 + (y 1).val, collt t (y 1)⟩) := by
  rw [blk0, blk2]
  pointwise [k0_pay15, Cert.FfnRefIdeal.Read.val_main_v7, Cert.FfnRefIdeal.Read.val_main_v5, Cert.FfnRefIdeal.Read.val_main_v2, Cert.FfnRefIdeal.Read.val_main_v0]

theorem hid_ref (c : Dev nD) (i : S8192x2816.Idx) : (hid m c i : EReal) = gate m c i * Ideal.logistic (gate m c i) * up m c i := by
  pointwise [hid, Cert.FfnRefIdeal.Read.val_main_v9, Cert.FfnRefIdeal.Read.val_main_v8, Cert.FfnRefIdeal.Read.val_main_call0_v0, Cert.FfnRefIdeal.Read.val_main_call0_v1, Cert.FfnRefIdeal.Read.val_main_call0_v2, Cert.FfnRefIdeal.Read.val_main_call0_v3, Cert.FfnRefIdeal.Read.val_main_call0_v4, Cert.FfnRefIdeal.Read.val_main_call0_v5, Cert.FfnRefIdeal.Read.val_main_call0_cst, Cert.FfnRefIdeal.Read.val_main_call0_cst_0]
  rfl

/-- One tile's part of the down projection. -/
theorem part_row (c : Dev nD) (t : Fin cfg0.N) (y : S512x1024.Idx) :
    (k0_pay18 (F := Ideal) (iblk m c 0 t) (iblk m c 1 t) (iblk m c 2 t) (iblk m c 3 t) y : EReal)
      = ∑ k : Fin 1408, (hid m c (ix2 ⟨t.val / 2 * 512 + (y 0).val, rowlt t (y 0)⟩ ⟨t.val % 2 * 1408 + k.val, collt t k⟩) : EReal) * A3 m c (ix2 ⟨t.val % 2 * 1408 + k.val, collt t k⟩ (y 1)) := by
  have e1 := fun a => gate_row m c t a
  have e2 := fun a => up_row m c t a
  pointwise [k0_pay18]
  refine Finset.sum_congr rfl fun k _ => ?_
  rw [sigmoid_eq, hid_ref]
  exact congr (congrArg _ (congr (congrArg _ (congr (congrArg _ (e1 (ix2 (y 0) k))) (congrArg Ideal.logistic (e1 (ix2 (y 0) k))))) (e2 (ix2 (y 0) k)))) (congrFun (blk3 m c t) (ix2 k (y 1)))

/-- A point of the first tile leaves its part in the running rows. -/
theorem acc_first (c : Dev nD) (t : Fin cfg0.N) (h : t.val % 2 = 0) (y : S512x1024.Idx) :
    ((outsAt0 m c t.val t.isLt).2.2.2.2 y : EReal) = k0_pay18 (F := Ideal) (iblk m c 0 t) (iblk m c 1 t) (iblk m c 2 t) (iblk m c 3 t) y := by
  have hN : t.val < 32 := t.isLt
  by_cases h0 : t.val % 32 = 0
  · rw [outsAt0_A m c t h0 h (by omega) (by omega) (by omega)]
    frame_out
    pointwise [k0_pay19]
  · rw [outsAt0_C m c t h0 h (by omega) (by omega) (by omega)]
    frame_out
    pointwise [k0_pay19]

/-- What a point reads of the running rows is what the point before left. -/
theorem seen (h : (Memref.whole cc0_scratch0).IsWhole) (X : S512x1024.Idx → Elt Ideal .f32) : View.read (Elt Ideal) (View.whole cc0_scratch0) (h.unread X) = X :=
  h.read_unread X

/-- The rows after the down projection as the second tile's points see them. -/
def yrow (c : Dev nD) (t : Fin cfg0.N) : S512x1024.Idx → EReal := fun y => y2 m c (ix2 ⟨t.val / 2 * 512 + (y 0).val, rowlt t (y 0)⟩ (y 1))

theorem acc_second (c : Dev nD) (t : Fin cfg0.N) (h : t.val % 2 = 1) :
    k0_pay1 (F := Ideal) (k0_pay18 (iblk m c 0 t) (iblk m c 1 t) (iblk m c 2 t) (iblk m c 3 t)) (outsAt0 m c (t.val - 1) (by omega)).2.2.2.2 = yrow m c t := by
  funext y
  have hN : t.val < 32 := t.isLt
  have e1 := acc_first m c ⟨t.val - 1, (by omega : t.val - 1 < 32)⟩ (by show (t.val - 1) % 2 = 0; omega) y
  have e2 := part_row m c t y
  rw [part_row] at e1
  refine Eq.trans (b := ((outsAt0 m c (t.val - 1) (by omega)).2.2.2.2 y : EReal) + k0_pay18 (F := Ideal) (iblk m c 0 t) (iblk m c 1 t) (iblk m c 2 t) (iblk m c 3 t) y) ?_ ?_
  · pointwise [k0_pay1]
  rw [e1, e2]
  refine Eq.trans ?_ (Eq.symm (?_ : yrow m c t y = ∑ k : Fin (1408 + 1408), (hid m c (ix2 ⟨t.val / 2 * 512 + (y 0).val, rowlt t (y 0)⟩ k) : EReal) * A3 m c (ix2 k (y 1))))
  · rw [Fin.sum_univ_add]
    refine congr (congrArg _ (Finset.sum_congr rfl fun k _ => ?_)) (Finset.sum_congr rfl fun k _ => ?_)
    · have a : (⟨(t.val - 1) / 2 * 512 + (y 0).val, rowlt ⟨t.val - 1, (by omega : t.val - 1 < 32)⟩ (y 0)⟩ : Fin 8192) = ⟨t.val / 2 * 512 + (y 0).val, rowlt t (y 0)⟩ := Fin.ext (by show (t.val - 1) / 2 * 512 + _ = t.val / 2 * 512 + _; omega)
      have b : (⟨(t.val - 1) % 2 * 1408 + k.val, collt ⟨t.val - 1, (by omega : t.val - 1 < 32)⟩ k⟩ : Fin 2816) = Fin.castAdd 1408 k := Fin.ext (by show (t.val - 1) % 2 * 1408 + k.val = k.val; omega)
      show (hid m c (ix2 (⟨(t.val - 1) / 2 * 512 + (y 0).val, rowlt ⟨t.val - 1, (by omega : t.val - 1 < 32)⟩ (y 0)⟩ : Fin 8192) (⟨(t.val - 1) % 2 * 1408 + k.val, collt ⟨t.val - 1, (by omega : t.val - 1 < 32)⟩ k⟩ : Fin 2816)) : EReal) * A3 m c (ix2 (⟨(t.val - 1) % 2 * 1408 + k.val, collt ⟨t.val - 1, (by omega : t.val - 1 < 32)⟩ k⟩ : Fin 2816) (y 1)) = _
      rw [a, b]
    · have b : (⟨t.val % 2 * 1408 + k.val, collt t k⟩ : Fin 2816) = Fin.natAdd 1408 k := Fin.ext (by show t.val % 2 * 1408 + k.val = 1408 + k.val; omega)
      rw [b]
  · pointwise [yrow, y2, Cert.FfnRefIdeal.Read.val_main_v10, Cert.FfnRefIdeal.Read.val_main_v3]

/-- The rows the loss norm reads. -/
theorem x2_row (c : Dev nD) (t : Fin cfg0.N) (y : S512x1024.Idx) :
    (k0_pay6 (F := Ideal) (yrow m c t) (iblk m c 4 t) (iblk m c 5 t) y : EReal) = x2 m c (ix2 ⟨t.val / 2 * 512 + (y 0).val, rowlt t (y 0)⟩ (y 1)) := by
  rw [blk4, blk5]
  pointwise [k0_pay6, x2, Cert.FfnRefIdeal.Read.val_main_v13, Cert.FfnRefIdeal.Read.val_main_v12, Cert.FfnRefIdeal.Read.val_main_v11]
  rfl

theorem rstd_row (c : Dev nD) (t : Fin cfg0.N) (p : Fin 512) :
    (k0_pay7 (F := Ideal) (yrow m c t) (iblk m c 4 t) (iblk m c 5 t) (ix2 p 0) : EReal) = rowR (fun k => x2 m c (ix2 ⟨t.val / 2 * 512 + p.val, rowlt t p⟩ k)) := by
  have e := fun a => x2_row m c t a
  pointwise [k0_pay7]
  unfold rowR rowU
  exact congrArg Ideal.rsqrt (congr (congrArg _ (congr (congrArg Ideal.div (Finset.sum_congr rfl fun k _ => congr (congrArg _ (e (ix2 p k))) (e (ix2 p k)))) rfl)) rfl)

theorem xhat_mul (c : Dev nD) (t : Fin cfg0.N) (y : S512x1024.Idx) :
    (k0_pay8 (F := Ideal) (yrow m c t) (iblk m c 4 t) (iblk m c 5 t) y : EReal) = x2 m c (ix2 ⟨t.val / 2 * 512 + (y 0).val, rowlt t (y 0)⟩ (y 1)) * rowR (fun k => x2 m c (ix2 ⟨t.val / 2 * 512 + (y 0).val, rowlt t (y 0)⟩ k)) := by
  have e1 := x2_row m c t y
  have e2 := rstd_row m c t (y 0)
  pointwise [k0_pay8]
  exact congr (congrArg _ e1) e2

theorem xhat_ref (c : Dev nD) (n : Fin 8192) (q : Fin 1024) : (xhat m c (ix2 n q) : EReal) = x2 m c (ix2 n q) * rowR (fun k => x2 m c (ix2 n k)) := by
  pointwise [xhat, Cert.FfnRefIdeal.Read.val_main_v26, Cert.FfnRefIdeal.Read.val_main_v25, Cert.FfnRefIdeal.Read.val_main_v21, Cert.FfnRefIdeal.Read.val_main_v20, Cert.FfnRefIdeal.Read.val_main_v19, Cert.FfnRefIdeal.Read.val_main_v18, Cert.FfnRefIdeal.Read.val_main_v17, Cert.FfnRefIdeal.Read.val_main_v16, Cert.FfnRefIdeal.Read.val_main_v15, Cert.FfnRefIdeal.Read.val_main_v14, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
  rfl

theorem xhat_row (c : Dev nD) (t : Fin cfg0.N) (y : S512x1024.Idx) :
    (k0_pay8 (F := Ideal) (yrow m c t) (iblk m c 4 t) (iblk m c 5 t) y : EReal) = xhat m c (ix2 ⟨t.val / 2 * 512 + (y 0).val, rowlt t (y 0)⟩ (y 1)) :=
  (xhat_mul m c t y).trans (xhat_ref m c _ _).symm

theorem diff_row (c : Dev nD) (t : Fin cfg0.N) (y : S512x1024.Idx) :
    (k0_pay9 (F := Ideal) (yrow m c t) (iblk m c 4 t) (iblk m c 5 t) (iblk m c 6 t) (iblk m c 7 t) y : EReal) = diff m c (ix2 ⟨t.val / 2 * 512 + (y 0).val, rowlt t (y 0)⟩ (y 1)) := by
  have e := xhat_row m c t y
  rw [blk6, blk7]
  pointwise [k0_pay9, diff, Cert.FfnRefIdeal.Read.val_main_v29, Cert.FfnRefIdeal.Read.val_main_v28, Cert.FfnRefIdeal.Read.val_main_v27]
  exact congr (congrArg _ (congr (congrArg _ e) rfl)) rfl

theorem dout_row (c : Dev nD) (t : Fin cfg0.N) (y : S512x1024.Idx) :
    (k0_pay10 (F := Ideal) (yrow m c t) (iblk m c 4 t) (iblk m c 5 t) (iblk m c 6 t) (iblk m c 7 t) y : EReal) = dout m c (ix2 ⟨t.val / 2 * 512 + (y 0).val, rowlt t (y 0)⟩ (y 1)) := by
  have e := diff_row m c t y
  pointwise [k0_pay10, dout, Cert.FfnRefIdeal.Read.val_main_v47, Cert.FfnRefIdeal.Read.val_main_v46, Cert.FfnRefIdeal.Read.val_main_v45, Cert.FfnRefIdeal.Read.val_main_v44, Cert.FfnRefIdeal.Read.val_main_v43, Cert.FfnRefIdeal.Read.val_main_v42, Cert.FfnRefIdeal.Read.val_main_v32, Cert.FfnRefIdeal.Read.val_main_v31, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
  refine (congr (congrArg _ e) rfl).trans ?_
  rw [half_f32, f1024, two_f32, inv1024, ← mul_assoc]
  rw [div_coe _ (by norm_num), ← EReal.coe_mul, show (1 / 2 : ℝ) / 1024 * 2 = 1 / 1024 by norm_num]
  exact mul_comm _ _

/-- The gradient at the normed rows. -/
theorem dxhat_row (c : Dev nD) (t : Fin cfg0.N) (y : S512x1024.Idx) :
    (k0_pay10 (F := Ideal) (yrow m c t) (iblk m c 4 t) (iblk m c 5 t) (iblk m c 6 t) (iblk m c 7 t) y : EReal) * (iblk m c 6 t) (ix2 0 (y 1)) = dxhat m c (ix2 ⟨t.val / 2 * 512 + (y 0).val, rowlt t (y 0)⟩ (y 1)) := by
  have e := dout_row m c t y
  rw [blk6] at e ⊢
  pointwise [dxhat, Cert.FfnRefIdeal.Read.val_main_v52, Cert.FfnRefIdeal.Read.val_main_v51]
  exact congr (congrArg _ e) rfl

theorem gate_real [Cert.Pre_finite_ffn.Facts] (h : Cert.Pre_FfnIdeal_finite_ffn m) (c : Dev nD) (i) : IsReal (gate m c i : EReal) := by
  obtain ⟨h0, h1, h2, h3, h4, h5, h6, h7⟩ := reals m h c
  pointwise [gate, Cert.FfnRefIdeal.Read.val_main_v6, Cert.FfnRefIdeal.Read.val_main_v4, Cert.FfnRefIdeal.Read.val_main_v1, Cert.FfnRefIdeal.Read.val_main_v0]
  exact IsReal.sum fun k => (h0 _).mul (h1 _)

theorem up_real [Cert.Pre_finite_ffn.Facts] (h : Cert.Pre_FfnIdeal_finite_ffn m) (c : Dev nD) (i) : IsReal (up m c i : EReal) := by
  obtain ⟨h0, h1, h2, h3, h4, h5, h6, h7⟩ := reals m h c
  pointwise [up, Cert.FfnRefIdeal.Read.val_main_v7, Cert.FfnRefIdeal.Read.val_main_v5, Cert.FfnRefIdeal.Read.val_main_v2, Cert.FfnRefIdeal.Read.val_main_v0]
  exact IsReal.sum fun k => (h0 _).mul (h2 _)

theorem y2_real [Cert.Pre_finite_ffn.Facts] (h : Cert.Pre_FfnIdeal_finite_ffn m) (c : Dev nD) (i) : IsReal (y2 m c i : EReal) := by
  obtain ⟨h0, h1, h2, h3, h4, h5, h6, h7⟩ := reals m h c
  have e : ∀ a, IsReal (hid m c a : EReal) := fun a => by
    rw [hid_ref]
    exact ((gate_real m h c a).mul (isReal_logistic _)).mul (up_real m h c a)
  pointwise [y2, Cert.FfnRefIdeal.Read.val_main_v10, Cert.FfnRefIdeal.Read.val_main_v3]
  exact IsReal.sum fun k => (e _).mul (h3 _)

theorem x2_real [Cert.Pre_finite_ffn.Facts] (h : Cert.Pre_FfnIdeal_finite_ffn m) (c : Dev nD) (i) : IsReal (x2 m c i : EReal) := by
  obtain ⟨h0, h1, h2, h3, h4, h5, h6, h7⟩ := reals m h c
  have e := fun a => y2_real m h c a
  pointwise [x2, Cert.FfnRefIdeal.Read.val_main_v13, Cert.FfnRefIdeal.Read.val_main_v12, Cert.FfnRefIdeal.Read.val_main_v11]
  exact (h4 _).add ((h5 _).mul (e _))

theorem diff_real [Cert.Pre_finite_ffn.Facts] (h : Cert.Pre_FfnIdeal_finite_ffn m) (c : Dev nD) (n : Fin 8192) (q : Fin 1024) : IsReal (diff m c (ix2 n q) : EReal) := by
  obtain ⟨h0, h1, h2, h3, h4, h5, h6, h7⟩ := reals m h c
  have e : IsReal (xhat m c (ix2 n q) : EReal) := by
    rw [xhat_ref]
    exact (x2_real m h c _).mul (row_real _ fun k => x2_real m h c _)
  pointwise [diff, Cert.FfnRefIdeal.Read.val_main_v29, Cert.FfnRefIdeal.Read.val_main_v28, Cert.FfnRefIdeal.Read.val_main_v27]
  exact (e.mul (h6 _)).sub (h7 _)

theorem dxhat_real [Cert.Pre_finite_ffn.Facts] (h : Cert.Pre_FfnIdeal_finite_ffn m) (c : Dev nD) (n : Fin 8192) (q : Fin 1024) : IsReal (dxhat m c (ix2 n q) : EReal) := by
  obtain ⟨h0, h1, h2, h3, h4, h5, h6, h7⟩ := reals m h c
  have e := diff_real m h c n q
  pointwise [dxhat, Cert.FfnRefIdeal.Read.val_main_v52, Cert.FfnRefIdeal.Read.val_main_v51, Cert.FfnRefIdeal.Read.val_main_v47, Cert.FfnRefIdeal.Read.val_main_v46, Cert.FfnRefIdeal.Read.val_main_v45, Cert.FfnRefIdeal.Read.val_main_v44, Cert.FfnRefIdeal.Read.val_main_v43, Cert.FfnRefIdeal.Read.val_main_v42, Cert.FfnRefIdeal.Read.val_main_v32, Cert.FfnRefIdeal.Read.val_main_v31, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
  rw [half_f32, f1024, two_f32, div_coe _ (by norm_num)]
  exact ((IsReal.coe _).mul ((IsReal.coe _).mul e)).mul (h6 _)

/-- The reference's gradient through the norm, a row at a time. -/
theorem dx_ref (c : Dev nD) (n : Fin 8192) (q : Fin 1024) :
    (dx m c (ix2 n q) : EReal) = (dxhat m c (ix2 n q) : EReal) * rowR (fun k => x2 m c (ix2 n k))
      + x2 m c (ix2 n q) * rowQ (fun k => x2 m c (ix2 n k)) (fun k => dxhat m c (ix2 n k))
      + rowQ (fun k => x2 m c (ix2 n k)) (fun k => dxhat m c (ix2 n k)) * x2 m c (ix2 n q) := by
  pointwise [dx, Cert.FfnRefIdeal.Read.val_main_v66, Cert.FfnRefIdeal.Read.val_main_v65, Cert.FfnRefIdeal.Read.val_main_v64, Cert.FfnRefIdeal.Read.val_main_v63, Cert.FfnRefIdeal.Read.val_main_v62, Cert.FfnRefIdeal.Read.val_main_v61, Cert.FfnRefIdeal.Read.val_main_v60, Cert.FfnRefIdeal.Read.val_main_v59, Cert.FfnRefIdeal.Read.val_main_v58, Cert.FfnRefIdeal.Read.val_main_v57, Cert.FfnRefIdeal.Read.val_main_v56, Cert.FfnRefIdeal.Read.val_main_v55, Cert.FfnRefIdeal.Read.val_main_v54, Cert.FfnRefIdeal.Read.val_main_v53, Cert.FfnRefIdeal.Read.val_main_v24, Cert.FfnRefIdeal.Read.val_main_v23, Cert.FfnRefIdeal.Read.val_main_v22, Cert.FfnRefIdeal.Read.val_main_v21, Cert.FfnRefIdeal.Read.val_main_v20, Cert.FfnRefIdeal.Read.val_main_v19, Cert.FfnRefIdeal.Read.val_main_v18, Cert.FfnRefIdeal.Read.val_main_v17, Cert.FfnRefIdeal.Read.val_main_v16, Cert.FfnRefIdeal.Read.val_main_v15, Cert.FfnRefIdeal.Read.val_main_v14, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
  simp only [Fin.sum_univ_one]
  rfl

/-- The gradient at the rows the norm reads, at the whole array. -/
theorem dx_row [Cert.Pre_finite_ffn.Facts] (h : Cert.Pre_FfnIdeal_finite_ffn m) (c : Dev nD) (t : Fin cfg0.N) (y : S512x1024.Idx) :
    (k0_pay11 (F := Ideal) (yrow m c t) (iblk m c 4 t) (iblk m c 5 t) (iblk m c 6 t) (iblk m c 7 t) (iblk m c 6 t) y : EReal) = dx m c (ix2 ⟨t.val / 2 * 512 + (y 0).val, rowlt t (y 0)⟩ (y 1)) := by
  refine Eq.trans ?_ ((row_grad (fun k => x2 m c (ix2 ⟨t.val / 2 * 512 + (y 0).val, rowlt t (y 0)⟩ k)) (fun k => dxhat m c (ix2 ⟨t.val / 2 * 512 + (y 0).val, rowlt t (y 0)⟩ k))
    (fun k => x2_real m h c _) (fun k => dxhat_real m h c _ _) (y 1)).trans (dx_ref m c ⟨t.val / 2 * 512 + (y 0).val, rowlt t (y 0)⟩ (y 1)).symm)
  have e0 := rstd_row m c t (y 0)
  have e1 := fun a => dxhat_row m c t a
  have e2 := fun a => xhat_mul m c t a
  pointwise [k0_pay11]
  exact congr (congrArg _ e0) (congr (congrArg _ (e1 y)) (congr (congrArg _ (e2 y))
    (congr (congrArg Ideal.div (Finset.sum_congr rfl fun k _ => congr (congrArg _ (e1 (ix2 (y 0) k))) (e2 (ix2 (y 0) k)))) rfl)))

theorem par : ∀ t : Fin cfg0.N, t.val % 2 = 0 ∨ t.val % 2 = 1 := fun t => by omega

/-- The cases of a point: the first, the later first tiles, the second tiles, the last. -/
theorem points (t : Fin cfg0.N) (P : Prop)
    (hA : t.val % 32 = 0 → t.val % 2 = 0 → ¬t.val % 2 = 1 → ¬t.val % 32 = 31 → P)
    (hB : ¬t.val % 32 = 0 → ¬t.val % 2 = 0 → t.val % 2 = 1 → ¬t.val % 32 = 31 → P)
    (hC : ¬t.val % 32 = 0 → t.val % 2 = 0 → ¬t.val % 2 = 1 → ¬t.val % 32 = 31 → P)
    (hD : ¬t.val % 32 = 0 → ¬t.val % 2 = 0 → t.val % 2 = 1 → t.val % 32 = 31 → P) : P := by
  by_cases h0 : t.val % 32 = 0
  · exact hA h0 (by omega) (by omega) (by omega)
  · by_cases h1 : t.val % 2 = 0
    · exact hC h0 h1 (by omega) (by omega)
    · by_cases h4 : t.val % 32 = 31
      · exact hD h0 h1 (by omega) h4
      · exact hB h0 h1 (by omega) h4

theorem final_8 (c : Dev nD) : (dats m 0 c).arrAt 8 (cfgs 0).N = Cert.FfnRefIdeal.Read.val_main_v77 (F := Ideal) (A0 m c) (A1 m c) := by
  refine (dats m 0 c).arrAt_eq_of_covers 8 _ (by decide +kernel) fun t hf y => ?_
  blk_simp
  rw [after0_8]
  refine Eq.trans (b := (k0_pay14 (F := Ideal) (iblk m c 0 t) (iblk m c 1 t) y : EReal)) ?_ ((gate_row m c t y).trans (congrArg _ (funext fun a => ?_)))
  · refine points t _ (fun h0 h1 h2 h4 => ?_) (fun h0 h1 h2 h4 => ?_) (fun h0 h1 h2 h4 => ?_) (fun h0 h1 h2 h4 => ?_)
    · rw [outsAt0_A m c t h0 h1 h2 h2 h4]
      frame_out
      pointwise [k0_pay16]
    · rw [outsAt0_B m c t h0 h1 h2 h2 h4]
      frame_out
      pointwise [k0_pay16]
    · rw [outsAt0_C m c t h0 h1 h2 h2 h4]
      frame_out
      pointwise [k0_pay16]
    · rw [outsAt0_D m c t h0 h1 h2 h2 h4]
      frame_out
      pointwise [k0_pay16]
  · fin_cases a
    · exact Fin.ext ((win0_8.rect_emb_val t y 0).trans (by rw [(idx t).2.2.2.2.2.2.2.2.1]; rfl)).symm
    · exact Fin.ext ((win0_8.rect_emb_val t y 1).trans (by rw [(idx t).2.2.2.2.2.2.2.2.1]; rfl)).symm

theorem final_9 (c : Dev nD) : (dats m 0 c).arrAt 9 (cfgs 0).N = Cert.FfnRefIdeal.Read.val_main_v78 (F := Ideal) (A0 m c) (A2 m c) := by
  refine (dats m 0 c).arrAt_eq_of_covers 9 _ (by decide +kernel) fun t hf y => ?_
  blk_simp
  rw [after0_9]
  refine Eq.trans (b := (k0_pay15 (F := Ideal) (iblk m c 0 t) (iblk m c 2 t) y : EReal)) ?_ ((up_row m c t y).trans (congrArg _ (funext fun a => ?_)))
  · refine points t _ (fun h0 h1 h2 h4 => ?_) (fun h0 h1 h2 h4 => ?_) (fun h0 h1 h2 h4 => ?_) (fun h0 h1 h2 h4 => ?_)
    · rw [outsAt0_A m c t h0 h1 h2 h2 h4]
      frame_out
      pointwise [k0_pay17]
    · rw [outsAt0_B m c t h0 h1 h2 h2 h4]
      frame_out
      pointwise [k0_pay17]
    · rw [outsAt0_C m c t h0 h1 h2 h2 h4]
      frame_out
      pointwise [k0_pay17]
    · rw [outsAt0_D m c t h0 h1 h2 h2 h4]
      frame_out
      pointwise [k0_pay17]
  · fin_cases a
    · exact Fin.ext ((win0_9.rect_emb_val t y 0).trans (by rw [(idx t).2.2.2.2.2.2.2.2.2.1]; rfl)).symm
    · exact Fin.ext ((win0_9.rect_emb_val t y 1).trans (by rw [(idx t).2.2.2.2.2.2.2.2.2.1]; rfl)).symm

theorem flush10 : ∀ t : Fin cfg0.N, win0_10.flush t → t.val % 2 = 1 := (by decide +kernel : ∀ t : Fin grid0.N, _)

theorem final_10 [Cert.Pre_finite_ffn.Facts] (h : Cert.Pre_FfnIdeal_finite_ffn m) (c : Dev nD) : (dats m 0 c).arrAt 10 (cfgs 0).N = dx m c := by
  refine (dats m 0 c).arrAt_eq_of_covers 10 _ (by decide +kernel) fun t hf y => ?_
  have hp : t.val % 2 = 1 := flush10 t hf
  have ey := acc_second m c t hp
  blk_simp
  rw [after0_10]
  refine Eq.trans ?_ ((dx_row m h c t y).trans (congrArg _ (funext fun a => ?_)))
  · refine points t _ (fun h0 h1 h2 h4 => absurd hp h2) (fun h0 h1 h2 h4 => ?_) (fun h0 h1 h2 h4 => absurd hp h2) (fun h0 h1 h2 h4 => ?_)
    · rw [outsAt0_B m c t h0 h1 h2 h2 h4, ← ey]
      frame_out
      rw [seen]
    · rw [outsAt0_D m c t h0 h1 h2 h2 h4, ← ey]
      frame_out
      rw [seen]
  · fin_cases a
    · exact Fin.ext ((win0_10.rect_emb_val t y 0).trans (by rw [(idx t).2.2.2.2.2.2.2.2.2.2.1]; rfl)).symm
    · exact Fin.ext ((win0_10.rect_emb_val t y 1).trans (by rw [(idx t).2.2.2.2.2.2.2.2.2.2.1]; exact Nat.zero_add _)).symm

/-- A row's terms of the three running sums. -/
def term (c : Dev nD) (n : Fin 8192) (q : Fin 1024) : Fin 8 → EReal
  | 0 => (xhat m c (ix2 n q) : EReal) * dout m c (ix2 n q)
  | 1 => (dx m c (ix2 n q) : EReal) * y2 m c (ix2 n q)
  | 2 => (diff m c (ix2 n q) : EReal) * diff m c (ix2 n q) * Ideal.ofBits .f32 973078528#32
  | _ => 0

/-- What a point adds to a running sum. -/
def step (c : Dev nD) (t : Fin cfg0.N) (q : Fin 1024) (r : Fin 8) : EReal := ∑ k : Fin 512, term m c ⟨t.val / 2 * 512 + k.val, rowlt t k⟩ q r

/-- Running row 0. -/
def row0 (c : Dev nD) (t : Fin cfg0.N) : Stage.Row (Elt Ideal) 8 1024 .f32 := ⟨0, inb_S8x1024_S1x1024_0_0, fun a => k0_pay2 (F := Ideal) (k0_pay12 (yrow m c t) (iblk m c 4 t) (iblk m c 5 t) (iblk m c 6 t) (iblk m c 7 t)) a⟩

/-- Running row 1. -/
def row1 (c : Dev nD) (t : Fin cfg0.N) : Stage.Row (Elt Ideal) 8 1024 .f32 := ⟨1, inb_S8x1024_S1x1024_1_0, fun a => k0_pay3 (F := Ideal) (yrow m c t) (k0_pay11 (yrow m c t) (iblk m c 4 t) (iblk m c 5 t) (iblk m c 6 t) (iblk m c 7 t) (iblk m c 6 t)) a⟩

/-- Running row 2. -/
def row2 (c : Dev nD) (t : Fin cfg0.N) : Stage.Row (Elt Ideal) 8 1024 .f32 := ⟨2, inb_S8x1024_S1x1024_2_0, fun a => k0_pay4 (F := Ideal) (k0_pay9 (yrow m c t) (iblk m c 4 t) (iblk m c 5 t) (iblk m c 6 t) (iblk m c 7 t)) a⟩

/-- The three running rows, the latest stored first. -/
def rows (c : Dev nD) (t : Fin cfg0.N) : List (Stage.Row (Elt Ideal) 8 1024 .f32) := [row2 m c t, row1 m c t, row0 m c t]

theorem step0 (c : Dev nD) (t : Fin cfg0.N) (a : S1x1024.Idx → EReal) (q : Fin 1024) :
    ((row0 m c t).f a (ix2 0 q) : EReal) = a (ix2 0 q) + step m c t q 0 := by
  pointwise [row0, k0_pay2, k0_pay12]
  exact congrArg (a (ix2 0 q) + ·) (Finset.sum_congr rfl fun k _ => (congr (congrArg _ (dout_row m c t (ix2 k q))) (xhat_row m c t (ix2 k q))).trans (mul_comm _ _))

theorem step1 [Cert.Pre_finite_ffn.Facts] (h : Cert.Pre_FfnIdeal_finite_ffn m) (c : Dev nD) (t : Fin cfg0.N) (a : S1x1024.Idx → EReal) (q : Fin 1024) :
    ((row1 m c t).f a (ix2 0 q) : EReal) = a (ix2 0 q) + step m c t q 1 := by
  pointwise [row1, k0_pay3]
  exact congrArg (a (ix2 0 q) + ·) (Finset.sum_congr rfl fun k _ => congr (congrArg _ (dx_row m h c t (ix2 k q))) rfl)

theorem step2 [Cert.Pre_finite_ffn.Facts] (h : Cert.Pre_FfnIdeal_finite_ffn m) (c : Dev nD) (t : Fin cfg0.N) (a : S1x1024.Idx → EReal) (q : Fin 1024) :
    ((row2 m c t).f a (ix2 0 q) : EReal) = a (ix2 0 q) + step m c t q 2 := by
  have e := fun k : Fin 512 => diff_row m c t (ix2 k q)
  pointwise [row2, k0_pay4]
  refine congrArg (a (ix2 0 q) + ·) ?_
  rw [mul_comm, mul_sum_real _ (by rw [inv2048]; exact IsReal.coe _) (fun k => by rw [e]; exact (diff_real m h c _ _).mul (diff_real m h c _ _))]
  exact Finset.sum_congr rfl fun k _ => (mul_comm _ _).trans (congrArg (· * _) (congr (congrArg _ (e k)) (e k)))

theorem cases8 : ∀ r : Fin 8, r = 0 ∨ r = 1 ∨ r = 2 ∨ (2 ≠ r.val ∧ 1 ≠ r.val ∧ 0 ≠ r.val) := by decide

theorem rest (c : Dev nD) (t : Fin cfg0.N) (r : Fin 8) (h : 2 ≠ r.val ∧ 1 ≠ r.val ∧ 0 ≠ r.val) : ∀ p ∈ rows m c t, p.k ≠ r.val := by
  intro p hp
  simp only [rows, List.mem_cons, List.not_mem_nil, or_false] at hp
  rcases hp with rfl | rfl | rfl
  · exact h.1
  · exact h.2.1
  · exact h.2.2

theorem term_rest (c : Dev nD) (n : Fin 8192) (q : Fin 1024) : ∀ r : Fin 8, 2 ≠ r.val ∧ 1 ≠ r.val ∧ 0 ≠ r.val → term m c n q r = 0
  | 0, h => absurd rfl h.2.2
  | 1, h => absurd rfl h.2.1
  | 2, h => absurd rfl h.1
  | 3, _ => rfl
  | 4, _ => rfl
  | 5, _ => rfl
  | 6, _ => rfl
  | 7, _ => rfl

/-- The running rows stored over what the point before left. -/
theorem rows_over [Cert.Pre_finite_ffn.Facts] (h : Cert.Pre_FfnIdeal_finite_ffn m) (c : Dev nD) (t : Fin cfg0.N) (hw : (ms0_11 t).IsWhole) (g : S8x1024.Idx → Elt Ideal .f32) (r : Fin 8) (q : Fin 1024) :
    View.read (Elt Ideal) (ms0_11 t).view ((ms0_11 t).view.writes (Elt Ideal) (hw.unread g) (Stage.over g (rows m c t))) (ix2 r q)
      = (g (ix2 r q) : EReal) + step m c t q r := by
  have hn : ((rows m c t).map Stage.Row.k).Nodup := (by decide : [2, 1, 0].Nodup)
  rcases cases8 r with rfl | rfl | rfl | hr
  · exact (Stage.over_hit _ g 0 q _ (row0 m c t) rfl _ hn (List.mem_cons_of_mem _ (List.mem_cons_of_mem _ List.mem_cons_self))).trans (step0 m c t _ q)
  · exact (Stage.over_hit _ g 1 q _ (row1 m c t) rfl _ hn (List.mem_cons_of_mem _ List.mem_cons_self)).trans (step1 m h c t _ q)
  · exact (Stage.over_hit _ g 2 q _ (row2 m c t) rfl _ hn List.mem_cons_self).trans (step2 m h c t _ q)
  · refine (Stage.over_miss _ g r q _ (Memref.IsWhole.read_unread _ _) (rows m c t) (rest m c t r hr)).trans ?_
    simp only [step, term_rest m c _ q r hr, Finset.sum_const_zero, add_zero]

theorem stats_reset (c : Dev nD) (t : Fin cfg0.N) (h0 : t.val % 32 = 0) (r : Fin 8) (q : Fin 1024) :
    ((outsAt0 m c t.val t.isLt).2.2.2.1 (ix2 r q) : EReal) = 0 := by
  rw [outsAt0_A m c t h0 (by omega) (by omega) (by omega) (by omega)]
  frame_out
  pointwise [k0_pay13]

theorem stats_keep (c : Dev nD) (t : Fin cfg0.N) (h0 : ¬t.val % 32 = 0) (h1 : t.val % 2 = 0) (r : Fin 8) (q : Fin 1024) :
    ((outsAt0 m c t.val t.isLt).2.2.2.1 (ix2 r q) : EReal) = (outsAt0 m c (t.val - 1) (by omega)).2.2.2.1 (ix2 r q) := by
  rw [outsAt0_C m c t h0 h1 (by omega) (by omega) (by omega)]
  frame_out
  generalize (outsAt0 m c (t.val - 1) (by omega)) = g
  rfl

theorem stats_step [Cert.Pre_finite_ffn.Facts] (h : Cert.Pre_FfnIdeal_finite_ffn m) (c : Dev nD) (t : Fin cfg0.N) (h1 : t.val % 2 = 1) (r : Fin 8) (h3 : r.val ≠ 3) (q : Fin 1024) :
    ((outsAt0 m c t.val t.isLt).2.2.2.1 (ix2 r q) : EReal) = (outsAt0 m c (t.val - 1) (by omega)).2.2.2.1 (ix2 r q) + step m c t q r := by
  have ey := acc_second m c t h1
  have hr := fun hw => rows_over m h c t hw (outsAt0 m c (t.val - 1) (by omega)).2.2.2.1 r q
  by_cases h4 : t.val % 32 = 31
  · rw [outsAt0_D m c t (by omega) (by omega) h1 h1 h4]
    frame_out
    refine (View.read_writes_cons_rows_of_not_mem _ _ inb_S8x1024_S1x1024_3_0 _ _ _ rfl rfl (by show r.val < 3 ∨ 3 + 1 ≤ r.val; omega)).trans ?_
    simp only [seen, ey]
    exact hr _
  · rw [outsAt0_B m c t (by omega) (by omega) h1 h1 h4]
    frame_out
    simp only [seen, ey]
    exact hr _

/-- The last point. -/
abbrev tlast : Fin cfg0.N := ⟨31, (by decide +kernel : 31 < grid0.N)⟩

/-- The running sums after the last point. -/
theorem stats_last [Cert.Pre_finite_ffn.Facts] (h : Cert.Pre_FfnIdeal_finite_ffn m) (c : Dev nD) (r : Fin 8) (h3 : r.val ≠ 3) (q : Fin 1024) :
    ((outsAt0 m c tlast.val tlast.isLt).2.2.2.1 (ix2 r q) : EReal) = ∑ n : Fin 8192, term m c n q r := by
  rw [Pipeline.eq_sum_fin_of_reset_step_apply_last (fun n h => fun q : Fin 1024 => ((outsAt0 m c n h).2.2.2.1 (ix2 r q) : EReal)) 32 (fun _ => 0)
    (fun t q => if t.val % 2 = 1 then step m c t q r else 0)
    (fun t h0 q => by
      rw [if_neg (by omega), add_zero]
      exact stats_reset m c t h0 r q)
    (fun t h0 q => by
      rcases par t with h1 | h1
      · rw [if_neg (by omega), add_zero]
        exact stats_keep m c t h0 h1 r q
      · rw [if_pos h1]
        exact stats_step m h c t h1 r h3 q)
    (le_of_eq N_0) tlast rfl q, zero_add]
  refine Eq.trans (b := ∑ i : Fin 16, ∑ k : Fin 512, term m c ⟨i.val * 512 + k.val, by omega⟩ q r) ?_ (Fin.sum_mul_add_congr fun s k hl => rfl)
  refine Eq.trans (b := ∑ i : Fin 16, ∑ j : Fin 2, (if j.val = 1 then ∑ k : Fin 512, term m c ⟨i.val * 512 + k.val, by omega⟩ q r else 0)) ?_ ?_
  · refine Eq.symm (Fin.sum_mul_add_congr (n := 2) fun s k hl => ?_)
    have e : (s.val * 2 + k.val) / 2 = s.val := by omega
    have e' : (s.val * 2 + k.val) % 2 = k.val := by omega
    simp only [step, e, e']
  · simp

/-- The loss row is the sum of the columns' losses. -/
theorem loss_last [Cert.Pre_finite_ffn.Facts] (h : Cert.Pre_FfnIdeal_finite_ffn m) (c : Dev nD) (q : Fin 1024) :
    ((outsAt0 m c tlast.val tlast.isLt).2.2.2.1 (ix2 3 q) : EReal) = ∑ k : Fin 1024, ((outsAt0 m c tlast.val tlast.isLt).2.2.2.1 (ix2 2 k) : EReal) := by
  have e2 : ∀ k : Fin 1024, ((outsAt0 m c tlast.val tlast.isLt).2.2.2.1 (ix2 2 k) : EReal) = _ := fun k => stats_step m h c tlast rfl 2 (by decide) k
  simp only [e2]
  have ey := acc_second m c tlast rfl
  rw [outsAt0_D m c tlast (by decide) (by decide) rfl rfl rfl]
  frame_out
  generalize (outsAt0 m c (tlast.val - 1) (by omega)).2.2.2.1 = g at *
  refine (View.read_writes_cons_rows_of_mem _ _ inb_S8x1024_S1x1024_3_0 _ _ _ (ix2 0 q) rfl rfl rfl).trans ?_
  pointwise [k0_pay5]
  refine (Fin.sum_univ_one _).trans (Finset.sum_congr rfl fun k _ => ?_)
  refine (congrFun (Stage.readCov_row_hit (2 : Fin 8) _ _ _ _ _) (ix2 0 k)).trans ?_
  rw [seen]
  exact Eq.trans (b := (row2 m c tlast).f (View.ld g (Rect.unit ![2, 0] ![1, 1024] inb_S8x1024_S1x1024_2_0)) (ix2 0 k))
    (congrArg (fun Y => k0_pay4 (k0_pay9 Y (iblk m c 4 tlast) (iblk m c 5 tlast) (iblk m c 6 tlast) (iblk m c 7 tlast)) (View.ld g (Rect.unit ![2, 0] ![1, 1024] inb_S8x1024_S1x1024_2_0)) (ix2 0 k)) ey)
    ((step2 m h c tlast _ k).trans (congrArg (· + _) (Stage.ld_row 2 g _ (ix2 0 k))))

/-- The loss: its columns' sums added up, and the mean over the columns added up over the rows. -/
theorem loss_ref [Cert.Pre_finite_ffn.Facts] (h : Cert.Pre_FfnIdeal_finite_ffn m) (c : Dev nD) :
    ∑ q : Fin 1024, ∑ n : Fin 8192, term m c n q 2 = Ideal.ofBits .f32 1056964608#32 * ∑ n : Fin 8192, Ideal.div (∑ q : Fin 1024, (diff m c (ix2 n q) : EReal) * diff m c (ix2 n q)) (Ideal.ofBits .f32 1149239296#32) := by
  choose f hf using fun n q => diff_real m h c n q
  simp only [term, hf, half_f32, f1024, inv2048]
  simp only [← EReal.coe_mul, coe_sum, div_coe _ (by norm_num : (0 : ℝ) < 1024)]
  congr 1
  rw [Finset.sum_comm, Finset.mul_sum]
  refine Finset.sum_congr rfl fun n _ => ?_
  rw [Finset.sum_div, Finset.mul_sum]
  exact Finset.sum_congr rfl fun q _ => by ring

theorem rows_ref [Cert.Pre_finite_ffn.Facts] (h : Cert.Pre_FfnIdeal_finite_ffn m) (c : Dev nD) (r : Fin 8) (q : Fin 1024) :
    ((outsAt0 m c tlast.val tlast.isLt).2.2.2.1 (ix2 r q) : EReal) = Cert.FfnRefIdeal.Read.val_main_v76 (F := Ideal) (A0 m c) (A1 m c) (A2 m c) (A3 m c) (A4 m c) (A5 m c) (A6 m c) (A7 m c) (ix2 r q) := by
  by_cases h3 : r.val = 3
  · obtain rfl : r = 3 := Fin.ext h3
    rw [loss_last m h]
    refine (Finset.sum_congr rfl fun k _ => stats_last m h c 2 (by decide) k).trans ((loss_ref m h c).trans ?_)
    pointwise [Cert.FfnRefIdeal.Read.val_main_v76, Cert.FfnRefIdeal.Read.val_main_v74, Cert.FfnRefIdeal.Read.val_main_v37, Cert.FfnRefIdeal.Read.val_main_v36, Cert.FfnRefIdeal.Read.val_main_v35, Cert.FfnRefIdeal.Read.val_main_v34, Cert.FfnRefIdeal.Read.val_main_v33, Cert.FfnRefIdeal.Read.val_main_v30, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
  rw [stats_last m h c r h3]
  rcases cases8 r with rfl | rfl | rfl | hr
  · pointwise [Cert.FfnRefIdeal.Read.val_main_v76, Cert.FfnRefIdeal.Read.val_main_v50, Cert.FfnRefIdeal.Read.val_main_v49, Cert.FfnRefIdeal.Read.val_main_v48, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
    rfl
  · pointwise [Cert.FfnRefIdeal.Read.val_main_v76, Cert.FfnRefIdeal.Read.val_main_v69, Cert.FfnRefIdeal.Read.val_main_v68, Cert.FfnRefIdeal.Read.val_main_v67, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
    rfl
  · pointwise [Cert.FfnRefIdeal.Read.val_main_v76, Cert.FfnRefIdeal.Read.val_main_v73, Cert.FfnRefIdeal.Read.val_main_v72, Cert.FfnRefIdeal.Read.val_main_v71, Cert.FfnRefIdeal.Read.val_main_v70, Cert.FfnRefIdeal.Read.val_main_v39, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
    rw [mul_comm]
    exact (Finset.sum_congr rfl fun k _ => mul_comm _ _).trans (mul_sum_real _ (x := Ideal.ofBits .f32 973078528#32) (f := fun n => (diff m c (ix2 n q) : EReal) * diff m c (ix2 n q))
      (by rw [inv2048]; exact IsReal.coe _) (fun n => (diff_real m h c n q).mul (diff_real m h c n q))).symm
  · simp only [term_rest m c _ q r hr, Finset.sum_const_zero]
    pointwise [Cert.FfnRefIdeal.Read.val_main_v76, Cert.FfnRefIdeal.Read.val_main_v75, Cert.FfnRefIdeal.Read.val_main_cst, Cert.FfnRefIdeal.Read.val_main_cst_1, Cert.FfnRefIdeal.Read.val_main_cst_2, Cert.FfnRefIdeal.Read.val_main_cst_3, Cert.FfnRefIdeal.Read.val_main_cst_4, Cert.FfnRefIdeal.Read.val_main_cst_5, Cert.FfnRefIdeal.Read.val_main_cst_6, Cert.FfnRefIdeal.Read.val_main_cst_7, Cert.FfnRefIdeal.Read.val_main_cst_8, Cert.FfnRefIdeal.Read.val_main_cst_9, Cert.FfnRefIdeal.Read.val_main_cst_10, Cert.FfnRefIdeal.Read.val_main_cst_11, Cert.FfnRefIdeal.Read.val_main_cst_12, Cert.FfnRefIdeal.Read.val_main_cst_13, Cert.FfnRefIdeal.Read.val_main_cst_14, Cert.FfnRefIdeal.Read.val_main_cst_15, Cert.FfnRefIdeal.Read.val_main_cst_16, Cert.FfnRefIdeal.Read.val_main_cst_17, Cert.FfnRefIdeal.Read.val_main_cst_18, Cert.FfnRefIdeal.Read.val_main_cst_19]
    rw [dif_neg (by omega), dif_neg (by omega), dif_neg (by omega), dif_neg (by omega)]

theorem final_11 [Cert.Pre_finite_ffn.Facts] (h : Cert.Pre_FfnIdeal_finite_ffn m) (c : Dev nD) : (dats m 0 c).arrAt 11 (cfgs 0).N = Cert.FfnRefIdeal.Read.val_main_v76 (F := Ideal) (A0 m c) (A1 m c) (A2 m c) (A3 m c) (A4 m c) (A5 m c) (A6 m c) (A7 m c) := by
  refine (dats m 0 c).arrAt_eq_of_after_last 11 tlast (by decide +kernel) _ fun j => ?_
  blk_simp
  obtain ⟨r, q, rfl⟩ : ∃ (r : Fin 8) (q : Fin 1024), j = ix2 r q := ⟨j 0, j 1, by funext a; fin_cases a <;> rfl⟩
  rw [after0_11]
  exact rows_ref m h c r q

end Cert.FfnIdeal.Value
-- ==== Proof.FfnClaims.lean ====
/- Hand-written, untrusted: the claims about the feed-forward layer with the last norm and the loss. -/
module

public import proofs.«01_k».proof.Proof.FfnValue
public import proofs.«01_k».proof.Proof.Gen.Ffn.Frame
public import proofs.«01_k».proof.Proof.Gen.FfnRefIdeal.Run
public import Idealize.ShloMosaic.Lib.Claim
public import Idealize.ShloMosaic.Lib.Quiescent

@[expose] public section

set_option maxRecDepth 16384

noncomputable section

namespace Cert.FfnClaims

open Idealize.ShloMosaic Idealize.SL.Sem

theorem pre_facts : Cert.Pre_finite_ffn.Facts :=
  ⟨by decide, by decide, by decide⟩

theorem kernel : Cert.quiescent_Ffn := fun m g _ => Cert.Ffn.Gen.frame m g
theorem ideal : Cert.quiescent_FfnIdeal := fun m g _ => Cert.FfnIdeal.Gen.frame m g
theorem ideal_pre [Cert.Pre_finite_ffn.Facts] : Cert.quiescent_FfnIdeal_pre_finite_ffn := fun m g _ => Cert.FfnIdeal.Gen.frame m g
theorem reference : Cert.quiescent_FfnRefIdeal := by
  intro m g _
  run_from Cert.FfnRefIdeal.Value.run m g
  · exact fun _ => ⟨trivial, trivial, trivial, trivial, trivial, trivial, trivial, trivial⟩
  · exact sem_eq_zero_of_no_sems (sig := Cert.FfnRefIdeal.sig) (by decide) _
theorem reference_pre [Cert.Pre_finite_ffn.Facts] : Cert.quiescent_FfnRefIdeal_pre_finite_ffn := fun m g _ => reference m g trivial

set_option maxHeartbeats 4000000 in
theorem value [Cert.Pre_finite_ffn.Facts] : Cert.algebraic_FfnIdeal_FfnRefIdeal_pre_finite_ffn := by
  pair_intro
  · run_from Cert.FfnIdeal.Gen.run_main m g
  · run_from Cert.FfnRefIdeal.Value.run m' g'
    · rw [Cert.FfnRefIdeal.Read.val_main_v77_eq, Cert.FfnIdeal.Value.final_8 m c]
    · rw [Cert.FfnRefIdeal.Read.val_main_v78_eq, Cert.FfnIdeal.Value.final_9 m c]
    · rw [Cert.FfnRefIdeal.Read.val_main_v66_eq, (hagree c).1, (hagree c).2.1, (hagree c).2.2.1, (hagree c).2.2.2.1, (hagree c).2.2.2.2.1, (hagree c).2.2.2.2.2.1, (hagree c).2.2.2.2.2.2.1, (hagree c).2.2.2.2.2.2.2, Cert.FfnIdeal.Value.final_10 m hpre c]
    · rw [Cert.FfnRefIdeal.Read.val_main_v76_eq, (hagree c).1, (hagree c).2.1, (hagree c).2.2.1, (hagree c).2.2.2.1, (hagree c).2.2.2.2.1, (hagree c).2.2.2.2.2.1, (hagree c).2.2.2.2.2.2.1, (hagree c).2.2.2.2.2.2.2, Cert.FfnIdeal.Value.final_11 m hpre c]

end Cert.FfnClaims

end
-- ==== Proof.RelClaims.lean ====
/- Hand-written, untrusted: the claims about the gradient of the relative bias. -/
module

public import proofs.«01_k».proof.Defs
public import proofs.«01_k».proof.Proof.Gen.RelIdeal.Frame
public import proofs.«01_k».proof.Proof.Gen.Rel.Frame
public import proofs.«01_k».proof.Proof.Gen.RelRefIdeal.Run
public import Idealize.ShloMosaic.Lib.Claim
public import Idealize.ShloMosaic.Lib.Quiescent

@[expose] public section

set_option maxRecDepth 16384

noncomputable section

namespace Cert.RelClaims

open Idealize.ShloMosaic Idealize.SL.Sem

theorem kernel : Cert.quiescent_Rel := fun m g _ => Cert.Rel.Gen.frame m g
theorem ideal : Cert.quiescent_RelIdeal := fun m g _ => Cert.RelIdeal.Gen.frame m g
theorem reference : Cert.quiescent_RelRefIdeal := by
  intro m g _
  run_from Cert.RelRefIdeal.Value.run m g
  · exact fun _ => trivial
  · exact sem_eq_zero_of_no_sems (sig := Cert.RelRefIdeal.sig) (by decide) _

end Cert.RelClaims

end
-- ==== Proof.ScanRun.lean ====
/- Hand-written, untrusted: the run of the delta rule's backward scan (`delta_scan_bwd`). A point's loop only stores into its
   outputs' staging buffers, so what it stores does not depend on what they held; with that the body's triple, the state
   carried between points, the launch and the frame. -/
module

public import proofs.«01_k».proof.Proof.Gen.ScanIdeal.Frame.Runs
public import Idealize.ShloMosaic.Lib.Pipeline.FrameBody
public import Idealize.ShloMosaic.Lib.Claim
public import Idealize.ShloMosaic.Lib.Quiescent

@[expose] public section

set_option maxRecDepth 16384

noncomputable section

namespace Cert.ScanIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ScanIdeal Cert.ScanIdeal.Gen

variable {F : FTy → Type} [FloatOps F]

/-- A trip's pieces do not depend on what the outputs' staging buffers held: the trip only stores into them. -/
theorem trip_indep (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (G7 : BufTy.Contents (Elt F) arg7.view.ty) (G8 : BufTy.Contents (Elt F) arg8.view.ty) (G'7 : BufTy.Contents (Elt F) arg7.view.ty) (G'8 : BufTy.Contents (Elt F) arg8.view.ty) (G9 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k G7 G8 G9 = tripL_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k G'7 G'8 G9 := by
  unfold tripL_k0_t1 trip_k0_t1
  rfl

/-- Nor do the pieces of all the trips before `n`. -/
theorem pb_indep (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G7 : BufTy.Contents (Elt F) arg7.view.ty) (G8 : BufTy.Contents (Elt F) arg8.view.ty) (G'7 : BufTy.Contents (Elt F) arg7.view.ty) (G'8 : BufTy.Contents (Elt F) arg8.view.ty) (G9 : BufTy.Contents (Elt F) arg9.view.ty) (n : ℕ) :
    pb_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 G7 G8 G9 n = pb_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 G'7 G'8 G9 n := by
  induction n with
  | zero => rfl
  | succ n ih =>
    rw [pb_k0_t1.eq_2, pb_k0_t1.eq_2, ih]
    unfold pb_k0_t1Step
    split
    · exact congrArg (fun T : List (View.Piece (Elt F) S8x512x64 .f32) × List (View.Piece (Elt F) S8x512x64 .f32) × List (View.Piece (Elt F) S8x64x64 .f32) => (T.1 ++ _, T.2.1 ++ _, T.2.2 ++ _)) (trip_indep (F := F) 𝒱 c bd i arg1 harg1 arg2 harg2 arg3 harg3 arg4 harg4 arg5 harg5 arg6 harg6 arg7 harg7 arg8 harg8 arg9 harg9 X_arg1 X_arg2 X_arg3 X_arg4 X_arg5 X_arg6 _ _ _ _ _ _)
    · rfl

local notation "𝕄" => MT nD τ sig Unit (Elt F) ℕ (UR sig nD τ) ℕ

/-- What the eight trips of a point's loop store (the last store first) into the two outputs' staging buffers and into the
    carried state, on inputs `x·` and the state `xs`. -/
def pieces (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (x0 x1 x2 : Vec F S1x512x512 .f32) (x3 x4 : Vec F S8x512x64 .f32) (x5 : Vec F S512x512 .f32) (xs : Vec F S8x64x64 .f32) :
    List (View.Piece (Elt F) S8x512x64 .f32) × List (View.Piece (Elt F) S8x512x64 .f32) × List (View.Piece (Elt F) S8x64x64 .f32) :=
  pb_k0_t1 (F := F) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) arg7.view.junk arg8.view.junk (harg9.unread xs)
    (Scf.trips k0_t1_loop.lb k0_t1_loop.ub k0_t1_loop.st)

/-- The stores into output 6's staging buffer tile it. -/
theorem cover_6 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (x0 x1 x2 : Vec F S1x512x512 .f32) (x3 x4 : Vec F S8x512x64 .f32) (x5 : Vec F S512x512 .f32) (xs : Vec F S8x64x64 .f32) (y : S8x512x64.Idx) :
    ∃ pc ∈ (pieces c i arg1 harg1 arg2 harg2 arg3 harg3 arg4 harg4 arg5 harg5 arg6 harg6 arg7 harg7 arg8 harg8 arg9 harg9 x0 x1 x2 x3 x4 x5 xs).1, y ∈ pc.1.set :=
  View.cover_of_tiledL (pieces c i arg1 harg1 arg2 harg2 arg3 harg3 arg4 harg4 arg5 harg5 arg6 harg6 arg7 harg7 arg8 harg8 arg9 harg9 x0 x1 x2 x3 x4 x5 xs).1 S1x64x64.size (by sl_kernel_rfl) y

/-- The stores into output 7's staging buffer tile it. -/
theorem cover_7 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (x0 x1 x2 : Vec F S1x512x512 .f32) (x3 x4 : Vec F S8x512x64 .f32) (x5 : Vec F S512x512 .f32) (xs : Vec F S8x64x64 .f32) (y : S8x512x64.Idx) :
    ∃ pc ∈ (pieces c i arg1 harg1 arg2 harg2 arg3 harg3 arg4 harg4 arg5 harg5 arg6 harg6 arg7 harg7 arg8 harg8 arg9 harg9 x0 x1 x2 x3 x4 x5 xs).2.1, y ∈ pc.1.set :=
  View.cover_of_tiledL (pieces c i arg1 harg1 arg2 harg2 arg3 harg3 arg4 harg4 arg5 harg5 arg6 harg6 arg7 harg7 arg8 harg8 arg9 harg9 x0 x1 x2 x3 x4 x5 xs).2.1 S1x64x64.size (by sl_kernel_rfl) y

/-- The state the first point starts from: the constant it stores. -/
def zero : Vec F S8x64x64 .f32 := k0_pay1 (F := F)

theorem start_coord : ∀ (a : Fin S8x64x64.rank) (n : ℕ), n = (![0, 0, 0] : Fin 3 → ℕ) a + 1 * n := by
  intro a n
  fin_cases a <;> exact ((Nat.zero_add _).trans (Nat.one_mul n)).symm

/-- Stored over the whole buffer, it is what the buffer holds. -/
theorem start_zero (arg9 : Memref sig .tc .vmem S8x64x64 .f32) (harg9 : arg9.IsWhole) :
    arg9.view.writes (Elt F) arg9.view.junk [⟨Rect.unit (s := S8x64x64) ![0, 0, 0] S8x64x64.size inb_S8x64x64_S8x64x64_0_0_0, k0_pay1 (F := F)⟩] = harg9.unread zero := by
  refine harg9.eq_unread ?_
  funext y
  refine (View.read_writes_cons_hit_of_coords (Val := Elt F) arg9.view arg9.view.junk (Rect.unit (s := S8x64x64) ![0, 0, 0] S8x64x64.size inb_S8x64x64_S8x64x64_0_0_0)
    (k0_pay1 (F := F)) [] ?_ y ?_).trans ?_
  · exact y
  · exact fun a => start_coord a (y a).val
  · exact rfl

/-- The body at the first point: the state starts at zero whatever the scratch held. -/
theorem run_first (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 x1 x2 : Vec F S1x512x512 .f32) (x3 x4 : Vec F S8x512x64 .f32) (x5 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VO0_6.read (Elt F) (VO0_6.writes (Elt F) VO0_6.junk (pieces c i arg1 harg1 arg2 harg2 arg3 harg3 arg4 harg4 arg5 harg5 arg6 harg6 arg7 harg7 arg8 harg8 arg9 harg9 x0 x1 x2 x3 x4 x5 zero).1))
            ∗ owns (c : Thread nD τ) arg8 fullShare (VO0_7.read (Elt F) (VO0_7.writes (Elt F) VO0_7.junk (pieces c i arg1 harg1 arg2 harg2 arg3 harg3 arg4 harg4 arg5 harg5 arg6 harg6 arg7 harg7 arg8 harg8 arg9 harg9 x0 x1 x2 x3 x4 x5 zero).2.1))
            ∗ owns (c : Thread nD τ) arg9 fullShare (arg9.view.read (Elt F) (arg9.view.writes (Elt F) (harg9.unread zero) (pieces c i arg1 harg1 arg2 harg2 arg3 harg3 arg4 harg4 arg5 harg5 arg6 harg6 arg7 harg7 arg8 harg8 arg9 harg9 x0 x1 x2 x3 x4 x5 zero).2.2))) -∗ K ⟨⟩))
      ⊢ wp frame (wpE (defs₀ (F := F)) Variants.none c none) E (cc0_delta_scan_bwd i arg1 harg1 arg2 harg2 arg3 harg3 arg4 harg4 arg5 harg5 arg6 harg6 arg7 harg7 arg8 harg8 arg9 harg9) K := by
  simp only [cc0_delta_scan_bwd_eq_skeleton]; unfold cc0_delta_scan_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  rw [pb_indep (F := F) (G7 := f6) (G8 := f7) (G'7 := arg7.view.junk) (G'8 := arg8.view.junk)]
  simp only [View.writes_append]
  rw [show arg9.view.writes (Elt F) arg9.view.junk run_first.sl.HS0_1 = harg9.unread zero from start_zero arg9 harg9]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact View.read_writes_of_cover _ _ _ _ _ (cover_6 c i arg1 harg1 arg2 harg2 arg3 harg3 arg4 harg4 arg5 harg5 arg6 harg6 arg7 harg7 arg8 harg8 arg9 harg9 x0 x1 x2 x3 x4 x5 _)
  isplitl [H7]
  · iexists _; isplitr; swap; · iexact H7
    ipureintro; exact View.read_writes_of_cover _ _ _ _ _ (cover_7 c i arg1 harg1 arg2 harg2 arg3 harg3 arg4 harg4 arg5 harg5 arg6 harg6 arg7 harg7 arg8 harg8 arg9 harg9 x0 x1 x2 x3 x4 x5 _)
  iexists _; isplitr; swap; · iexact HS0
  ipureintro; rfl

/-- The body at a later point: the state is what the point before left. -/
theorem run_next (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 x1 x2 : Vec F S1x512x512 .f32) (x3 x4 : Vec F S8x512x64 .f32) (x5 : Vec F S512x512 .f32) (xs : Vec F S8x64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VO0_6.read (Elt F) (VO0_6.writes (Elt F) VO0_6.junk (pieces c i arg1 harg1 arg2 harg2 arg3 harg3 arg4 harg4 arg5 harg5 arg6 harg6 arg7 harg7 arg8 harg8 arg9 harg9 x0 x1 x2 x3 x4 x5 xs).1))
            ∗ owns (c : Thread nD τ) arg8 fullShare (VO0_7.read (Elt F) (VO0_7.writes (Elt F) VO0_7.junk (pieces c i arg1 harg1 arg2 harg2 arg3 harg3 arg4 harg4 arg5 harg5 arg6 harg6 arg7 harg7 arg8 harg8 arg9 harg9 x0 x1 x2 x3 x4 x5 xs).2.1))
            ∗ owns (c : Thread nD τ) arg9 fullShare (arg9.view.read (Elt F) (arg9.view.writes (Elt F) (harg9.unread xs) (pieces c i arg1 harg1 arg2 harg2 arg3 harg3 arg4 harg4 arg5 harg5 arg6 harg6 arg7 harg7 arg8 harg8 arg9 harg9 x0 x1 x2 x3 x4 x5 xs).2.2))) -∗ K ⟨⟩))
      ⊢ wp frame (wpE (defs₀ (F := F)) Variants.none c none) E (cc0_delta_scan_bwd i arg1 harg1 arg2 harg2 arg3 harg3 arg4 harg4 arg5 harg5 arg6 harg6 arg7 harg7 arg8 harg8 arg9 harg9) K := by
  simp only [cc0_delta_scan_bwd_eq_skeleton]; unfold cc0_delta_scan_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
  sl_exec (disch := first | sl_exact hc0)
  sl_step
  rw [pb_indep (F := F) (G7 := f6) (G8 := f7) (G'7 := arg7.view.junk) (G'8 := arg8.view.junk)]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact View.read_writes_of_cover _ _ _ _ _ (cover_6 c i arg1 harg1 arg2 harg2 arg3 harg3 arg4 harg4 arg5 harg5 arg6 harg6 arg7 harg7 arg8 harg8 arg9 harg9 x0 x1 x2 x3 x4 x5 _)
  isplitl [H7]
  · iexists _; isplitr; swap; · iexact H7
    ipureintro; exact View.read_writes_of_cover _ _ _ _ _ (cover_7 c i arg1 harg1 arg2 harg2 arg3 harg3 arg4 harg4 arg5 harg5 arg6 harg6 arg7 harg7 arg8 harg8 arg9 harg9 x0 x1 x2 x3 x4 x5 _)
  iexists _; isplitr; swap; · iexact HS0
  ipureintro; rfl

variable (m : (ℓ : Loc nD τ sig) → Buf (Elt F) ℓ) (ρ : Dev nD → PrngReg)

/-- What point `t` stores, on its blocks and the state `xs`. -/
def at_point (c : Dev nD) (t : Fin cfg0.N) (xs : Vec F S8x64x64 .f32) :=
  pieces c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) xs

/-- The state point `t` leaves from the state `xs`. -/
def next (c : Dev nD) (t : Fin cfg0.N) (xs : Vec F S8x64x64 .f32) : Vec F S8x64x64 .f32 :=
  VS0_0.read (Elt F) (VS0_0.writes (Elt F) ((Memref.isWhole_whole _ : scM0_0.IsWhole).unread xs) (at_point m c t xs).2.2)

/-- The state before the point at position `n`. -/
def state (c : Dev nD) : ℕ → Vec F S8x64x64 .f32
  | 0 => zero
  | n + 1 => if h : n < cfg0.N then next m c ⟨n, h⟩ (state c n) else state c n

theorem state_succ (c : Dev nD) (t : Fin cfg0.N) : state m c (t.val + 1) = next m c t (state m c t.val) := by
  exact (show state m c (t.val + 1) = if h : t.val < cfg0.N then next m c ⟨t.val, h⟩ (state m c t.val) else state m c t.val from rfl).trans (dif_pos t.isLt)

/-- What point `t` leaves in the outputs' staging buffers. -/
def out_6 (c : Dev nD) (t : Fin cfg0.N) : Vec F S8x512x64 .f32 :=
  VO0_6.read (Elt F) (VO0_6.writes (Elt F) VO0_6.junk (at_point m c t (state m c t.val)).1)
def out_7 (c : Dev nD) (t : Fin cfg0.N) : Vec F S8x512x64 .f32 :=
  VO0_7.read (Elt F) (VO0_7.writes (Elt F) VO0_7.junk (at_point m c t (state m c t.val)).2.1)

/-- The invariant before position `n`: the scratch at anything before the first point, at the state afterwards. -/
def inv (c : Dev nD) : ℕ → sProp 𝕄
  | 0 => Pipeline.ΦA spec0 c
  | n + 1 => iprop(owns (c : Thread nD τ) scM0_0 fullShare (state m c (n + 1)) ∗ (∃ r, prngReg c r))

theorem inv_pos (c : Dev nD) (n : ℕ) (h : n ≠ 0) :
    inv m c n = iprop(owns (c : Thread nD τ) scM0_0 fullShare (state m c n) ∗ (∃ r, prngReg c r)) := by
  cases n with
  | zero => exact absurd rfl h
  | succ n => rfl

/-- The pipeline's proof data: the inputs' buffers keep their blocks, the outputs' hold what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out_6 m c t
    | ⟨7, _⟩ => out_7 m c t
  Φ t := inv m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out_6 m c t := by dsimp only [dats]
theorem after_7 (c : Dev nD) (t : Fin cfg0.N) : (dats m 0 c).after 7 t = out_7 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

set_option maxHeartbeats 2000000 in
/-- The body at any point, from the library's precondition to its postcondition with the windows one by one. -/
theorem body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t)
        ∗ owns (c : Thread nD τ) (ms0_7 t) fullShare ((dats m 0 c).after 7 t))) := by
  unfold bodyAt0
  simp only [before_0, before_1, before_2, before_3, before_4, before_5, after_0, after_1, after_2, after_3, after_4, after_5, after_6, after_7]
  rw [show (dats m 0 c).owesAt () t.succ = (dats m 0 c).owesAt () t.castSucc from rfl,
    show (dats m 0 c).Φ t.succ = inv m c (t.val + 1) from rfl, show (dats m 0 c).Φ t.castSucc = inv m c t.val from rfl,
    inv_pos m c (t.val + 1) (Nat.succ_ne_zero _), state_succ]
  have hN : t.val < 16 := lt_of_lt_of_eq t.isLt (show cfg0.N = 16 from N_0)
  by_cases h0 : t.val = 0
  · rw [show inv m c t.val = Pipeline.ΦA spec0 c by rw [h0]; rfl, PhiA0_eq]
    unfold next out_6 out_7
    rw [show state m c t.val = zero by rw [h0]; rfl]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr (by omega)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_pos m c t.val h0]
    unfold next out_6 out_7
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => absurd ((hcond0_0 t).mp h) (by omega)) (iblk m c 0 t) (iblk m c 1 t) (iblk m c 2 t) (iblk m c 3 t) (iblk m c 4 t) (iblk m c 5 t) (state m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body m c t) rfl .rfl fun _ => .rfl

/-- Before the first point the invariant is what the launch hands over, -/
theorem inv_in (c : Dev nD) : Pipeline.ΦA spec0 c ⊢ (dats m 0 c).Φ 0 :=
  Idealize.SL.BI.Entails.refl _

/-- and after the last it gives it back. -/
theorem inv_out (c : Dev nD) : (dats m 0 c).Φ (Fin.last cfg0.N) ⊢ Pipeline.ΦA spec0 c := by
  rw [show (dats m 0 c).Φ (Fin.last cfg0.N) = inv m c cfg0.N from rfl, inv_pos m c _ (by rw [show cfg0.N = 16 from N_0]; decide), PhiA0_eq]
  iintro ⟨HS0, Hg⟩
  isplitl [HS0]
  · iexists _; iexact HS0
  iexact Hg

set_option backward.isDefEq.respectTransparency.types false in
/-- The launch, with every counter back at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiet m ρ))

end Cert.ScanIdeal.Own

end
-- ==== Proof.ScanTrip.lean ====
/- Hand-written, untrusted: one trip of the scan's loop, told by the blocks and the state it starts from, and the trips of a
   point one after another. -/
module

public import proofs.«01_k».proof.Proof.ScanRun
public import Idealize.ShloMosaic.Lib.WholeRead
public import Idealize.ShloMosaic.Lib.Pipeline.ValueKit

@[expose] public section

set_option maxRecDepth 16384

noncomputable section

namespace Cert.ScanIdeal.Own

open Idealize.ShloMosaic Idealize.ShloMosaic.TcCoe Idealize.SL.Sem
open Cert.ScanIdeal Cert.ScanIdeal.Gen

variable {F : FTy → Type} [FloatOps F]

theorem trips_eq : k0_t1_loop.trips = 8 := by decide +kernel

theorem rowlt (k : ℕ) (r : Fin 64) : 448 - 64 * k + r.val < 512 := by omega
theorem lanelt (h : Fin 8) (d : Fin 64) : 64 * h.val + d.val < 512 := by omega

/-- The rows of trip `k` and the lanes of head `h` in a block of a plane, of all heads' rows, of one head's rows, of the state. -/
def plane (x : Vec F S1x512x512 .f32) (k : ℕ) (h : Fin 8) : Vec F S1x64x64 .f32 := fun z =>
  x (ix3 0 ⟨448 - 64 * k + (z 1).val, rowlt k (z 1)⟩ ⟨64 * h.val + (z 2).val, lanelt h (z 2)⟩)
def rows (x : Vec F S512x512 .f32) (k : ℕ) (h : Fin 8) : Vec F S64x64 .f32 := fun z =>
  x (ix2 ⟨448 - 64 * k + (z 0).val, rowlt k (z 0)⟩ ⟨64 * h.val + (z 1).val, lanelt h (z 1)⟩)
def head (x : Vec F S8x512x64 .f32) (k : ℕ) (h : Fin 8) : Vec F S1x64x64 .f32 := fun z =>
  x (ix3 h ⟨448 - 64 * k + (z 1).val, rowlt k (z 1)⟩ (z 2))
def cell (s : Vec F S8x64x64 .f32) (h : Fin 8) : Vec F S1x64x64 .f32 := fun z => s (ix3 h (z 1) (z 2))

theorem load_plane {a : Memref sig .tc .vmem S1x512x512 .f32} (ha : a.IsWhole) (x : Vec F S1x512x512 .f32) (k : Fin k0_t1_loop.trips) (h : Fin 8)
    {off : Fin 3 → ℕ} (e : off = ![0, 448 - 64 * k.val, 64 * h.val]) (inb) :
    View.readAt (Elt F) a.view (Rect.unit (s := S1x512x512) off ![1, 64, 64] inb).toLoadRect (ha.unread x) = plane x k.val h := by
  subst e
  funext z
  refine (ha.readAt_unread x _ z).trans (congrArg x (funext fun b => ?_))
  fin_cases b <;> refine Fin.ext ?_
  · exact (by omega : ∀ n : ℕ, n < 1 → 0 + 1 * n = 0) _ (z 0).isLt
  · exact congrArg (448 - 64 * k.val + ·) (Nat.one_mul _)
  · exact congrArg (64 * h.val + ·) (Nat.one_mul _)

theorem load_row {a : Memref sig .tc .vmem S512x512 .f32} (ha : a.IsWhole) (x : Vec F S512x512 .f32) (k : Fin k0_t1_loop.trips) (h : Fin 8)
    {off : Fin 2 → ℕ} (e : off = ![448 - 64 * k.val, 64 * h.val]) (inb) :
    View.readAt (Elt F) a.view (Rect.unit (s := S512x512) off ![64, 64] inb).toLoadRect (ha.unread x) = rows x k.val h := by
  subst e
  funext z
  refine (ha.readAt_unread x _ z).trans (congrArg x (funext fun b => ?_))
  fin_cases b <;> refine Fin.ext ?_
  · exact congrArg (448 - 64 * k.val + ·) (Nat.one_mul _)
  · exact congrArg (64 * h.val + ·) (Nat.one_mul _)

theorem load_head {a : Memref sig .tc .vmem S8x512x64 .f32} (ha : a.IsWhole) (x : Vec F S8x512x64 .f32) (k : Fin k0_t1_loop.trips) (h : Fin 8)
    {off : Fin 3 → ℕ} (e : off = ![h.val, 448 - 64 * k.val, 0]) (inb) :
    View.readAt (Elt F) a.view (Rect.unit (s := S8x512x64) off ![1, 64, 64] inb).toLoadRect (ha.unread x) = head x k.val h := by
  subst e
  funext z
  refine (ha.readAt_unread x _ z).trans (congrArg x (funext fun b => ?_))
  fin_cases b <;> refine Fin.ext ?_
  · exact (by omega : ∀ m n : ℕ, n < 1 → m + 1 * n = m) _ _ (z 0).isLt
  · exact congrArg (448 - 64 * k.val + ·) (Nat.one_mul _)
  · exact (Nat.zero_add _).trans (Nat.one_mul _)

theorem load_cell {a : Memref sig .tc .vmem S8x64x64 .f32} (f : a.view.ty.Contents (Elt F)) (h : Fin 8)
    {off : Fin 3 → ℕ} (e : off = ![h.val, 0, 0]) (inb) :
    View.readAt (Elt F) a.view (Rect.unit (s := S8x64x64) off ![1, 64, 64] inb).toLoadRect f = cell (a.view.read (Elt F) f) h := by
  subst e
  funext z
  refine congrArg (a.view.read (Elt F) f) (funext fun b => ?_)
  fin_cases b <;> refine Fin.ext ?_
  · exact (by omega : ∀ m n : ℕ, n < 1 → m + 1 * n = m) _ _ (z 0).isLt
  · exact (Nat.zero_add _).trans (Nat.one_mul _)
  · exact (Nat.zero_add _).trans (Nat.one_mul _)

/-- One head's trip: what it adds to the values, the state it stores, and the state it leaves. -/
def delta (g k : Vec F S1x64x64 .f32) (qk : Vec F S1x64x64 .f32) (d : Vec F S64x64 .f32) (s : Vec F S1x64x64 .f32) : FVec F S64x64 .f32 :=
  k0_pay60 (k0_pay6 g) (k0_pay44 s) (k0_pay52 d) qk k
def deltaOut (g k : Vec F S1x64x64 .f32) (qk : Vec F S1x64x64 .f32) (d : Vec F S64x64 .f32) (s : Vec F S1x64x64 .f32) : FVec F S1x64x64 .f32 :=
  k0_pay69 (delta g k qk d s)
def before (s : Vec F S1x64x64 .f32) : FVec F S1x64x64 .f32 := k0_pay68 (k0_pay44 s)
def onward (g q k : Vec F S1x64x64 .f32) (qk w : Vec F S1x64x64 .f32) (d : Vec F S64x64 .f32) (s : Vec F S1x64x64 .f32) : FVec F S1x64x64 .f32 :=
  k0_pay84 (k0_pay5 g) (k0_pay7 g) (k0_pay44 s) (k0_pay52 d) (delta g k qk d s) q w

section Trip

variable (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole)
variable (x0 x1 x2 : Vec F S1x512x512 .f32) (x3 x4 : Vec F S8x512x64 .f32) (x5 : Vec F S512x512 .f32)

/-- Head `h` in trip `k`, on a point's blocks. -/
def deltaAt (k : ℕ) (s : Vec F S8x64x64 .f32) (h : Fin 8) : FVec F S1x64x64 .f32 :=
  deltaOut (plane x2 k h) (plane x1 k h) (head x3 k h) (rows x5 k h) (cell s h)
def onwardAt (k : ℕ) (s : Vec F S8x64x64 .f32) (h : Fin 8) : FVec F S1x64x64 .f32 :=
  onward (plane x2 k h) (plane x0 k h) (plane x1 k h) (head x3 k h) (head x4 k h) (rows x5 k h) (cell s h)

/-- The state after a trip. -/
def trip (k : ℕ) (s : Vec F S8x64x64 .f32) : Vec F S8x64x64 .f32 := fun y => onwardAt x0 x1 x2 x3 x4 x5 k s (y 0) (ix3 0 (y 1) (y 2))

/-- The state before trip `n` of a point. -/
def within (s : Vec F S8x64x64 .f32) : ℕ → Vec F S8x64x64 .f32
  | 0 => s
  | n + 1 => trip x0 x1 x2 x3 x4 x5 n (within s n)

theorem state_piece (G : Fin 8 → FVec F S1x64x64 .f32) (h : Fin 8) {off : Fin 3 → ℕ} (e : off = ![h.val, 0, 0]) (inb)
    (z : S1x64x64.Idx) : G h z = (fun y : S8x64x64.Idx => G (y 0) (ix3 0 (y 1) (y 2))) ((Rect.unit (s := S8x64x64) off ![1, 64, 64] inb).emb z) := by
  subst e
  refine congr (congrArg G (Fin.ext ?_)) (funext fun b => ?_)
  · exact ((by omega : ∀ m n : ℕ, n < 1 → m + 1 * n = m) _ _ (z 0).isLt).symm
  · fin_cases b <;> refine Fin.ext ?_
    · exact (by omega : ∀ n : ℕ, n < 1 → n = 0) _ (z 0).isLt
    · exact ((Nat.zero_add _).trans (Nat.one_mul _)).symm
    · exact ((Nat.zero_add _).trans (Nat.one_mul _)).symm

/-- A block of eight trips' rows, each from its trip. -/
def block (G : ℕ → Fin 8 → FVec F S1x64x64 .f32) : Vec F S8x512x64 .f32 := fun y =>
  G (7 - (y 1).val / 64) (y 0) (ix3 0 ⟨(y 1).val % 64, Nat.mod_lt _ (by decide)⟩ (y 2))

theorem block_piece (G : ℕ → Fin 8 → FVec F S1x64x64 .f32) (k : Fin k0_t1_loop.trips) (h : Fin 8) {off : Fin 3 → ℕ}
    (e : off = ![h.val, 448 - 64 * k.val, 0]) (inb) (z : S1x64x64.Idx) :
    G k.val h z = block G ((Rect.unit (s := S8x512x64) off ![1, 64, 64] inb).emb z) := by
  subst e
  have hk : k.val < 8 := lt_of_lt_of_eq k.isLt trips_eq
  have hz : (z 1).val < 64 := (z 1).isLt
  refine congr (congr (congrArg G ?_) (Fin.ext ?_)) (funext fun b => ?_)
  · exact (by omega : ∀ k z : ℕ, k < 8 → z < 64 → k = 7 - (448 - 64 * k + 1 * z) / 64) _ _ hk hz
  · exact ((by omega : ∀ m n : ℕ, n < 1 → m + 1 * n = m) _ _ (z 0).isLt).symm
  · fin_cases b <;> refine Fin.ext ?_
    · exact (by omega : ∀ n : ℕ, n < 1 → n = 0) _ (z 0).isLt
    · exact (by omega : ∀ k z : ℕ, k < 8 → z < 64 → z = (448 - 64 * k + 1 * z) % 64) _ _ hk hz
    · exact ((Nat.zero_add _).trans (Nat.one_mul _)).symm

theorem onward_loads (k : Fin k0_t1_loop.trips) (f9 : BufTy.Contents (Elt F) arg9.view.ty) (h : Fin 8) {offp : Fin 3 → ℕ} (ep : offp = ![0, 448 - 64 * k.val, 64 * h.val])
    {offr : Fin 2 → ℕ} (er : offr = ![448 - 64 * k.val, 64 * h.val]) {offh : Fin 3 → ℕ} (eh : offh = ![h.val, 448 - 64 * k.val, 0])
    {offc : Fin 3 → ℕ} (ec : offc = ![h.val, 0, 0]) (ip ir ih ic) :
    onward (View.readAt (Elt F) arg3.view (Rect.unit (s := S1x512x512) offp ![1, 64, 64] ip).toLoadRect (harg3.unread x2))
      (View.readAt (Elt F) arg1.view (Rect.unit (s := S1x512x512) offp ![1, 64, 64] ip).toLoadRect (harg1.unread x0))
      (View.readAt (Elt F) arg2.view (Rect.unit (s := S1x512x512) offp ![1, 64, 64] ip).toLoadRect (harg2.unread x1))
      (View.readAt (Elt F) arg4.view (Rect.unit (s := S8x512x64) offh ![1, 64, 64] ih).toLoadRect (harg4.unread x3))
      (View.readAt (Elt F) arg5.view (Rect.unit (s := S8x512x64) offh ![1, 64, 64] ih).toLoadRect (harg5.unread x4))
      (View.readAt (Elt F) arg6.view (Rect.unit (s := S512x512) offr ![64, 64] ir).toLoadRect (harg6.unread x5))
      (View.readAt (Elt F) arg9.view (Rect.unit (s := S8x64x64) offc ![1, 64, 64] ic).toLoadRect f9)
      = onwardAt x0 x1 x2 x3 x4 x5 k.val (arg9.view.read (Elt F) f9) h := by
  unfold onwardAt
  rw [load_plane harg3 x2 k h ep, load_plane harg1 x0 k h ep, load_plane harg2 x1 k h ep, load_head harg4 x3 k h eh,
    load_head harg5 x4 k h eh, load_row harg6 x5 k h er, load_cell f9 h ec]

theorem before_loads (f9 : BufTy.Contents (Elt F) arg9.view.ty) (h : Fin 8)
    {offc : Fin 3 → ℕ} (ec : offc = ![h.val, 0, 0]) (ic) :
    before (View.readAt (Elt F) arg9.view (Rect.unit (s := S8x64x64) offc ![1, 64, 64] ic).toLoadRect f9)
      = before (cell (arg9.view.read (Elt F) f9) h) := by
  rw [load_cell f9 h ec]

theorem delta_loads (k : Fin k0_t1_loop.trips) (f9 : BufTy.Contents (Elt F) arg9.view.ty) (h : Fin 8) {offp : Fin 3 → ℕ} (ep : offp = ![0, 448 - 64 * k.val, 64 * h.val])
    {offr : Fin 2 → ℕ} (er : offr = ![448 - 64 * k.val, 64 * h.val]) {offh : Fin 3 → ℕ} (eh : offh = ![h.val, 448 - 64 * k.val, 0])
    {offc : Fin 3 → ℕ} (ec : offc = ![h.val, 0, 0]) (ip ir ih ic) :
    deltaOut (View.readAt (Elt F) arg3.view (Rect.unit (s := S1x512x512) offp ![1, 64, 64] ip).toLoadRect (harg3.unread x2))
      (View.readAt (Elt F) arg2.view (Rect.unit (s := S1x512x512) offp ![1, 64, 64] ip).toLoadRect (harg2.unread x1))
      (View.readAt (Elt F) arg4.view (Rect.unit (s := S8x512x64) offh ![1, 64, 64] ih).toLoadRect (harg4.unread x3))
      (View.readAt (Elt F) arg6.view (Rect.unit (s := S512x512) offr ![64, 64] ir).toLoadRect (harg6.unread x5))
      (View.readAt (Elt F) arg9.view (Rect.unit (s := S8x64x64) offc ![1, 64, 64] ic).toLoadRect f9)
      = deltaAt x1 x2 x3 x5 k.val (arg9.view.read (Elt F) f9) h := by
  unfold deltaAt
  rw [load_plane harg3 x2 k h ep, load_plane harg2 x1 k h ep, load_head harg4 x3 k h eh, load_row harg6 x5 k h er, load_cell f9 h ec]

theorem state_stored (k : ℕ) (s : Vec F S8x64x64 .f32) (h : Fin 8) {off : Fin 3 → ℕ} (e : off = ![h.val, 0, 0]) (inb) {v : FVec F S1x64x64 .f32}
    (hv : v = onwardAt x0 x1 x2 x3 x4 x5 k s h) (z : S1x64x64.Idx) :
    v z = trip x0 x1 x2 x3 x4 x5 k s ((Rect.unit (s := S8x64x64) off ![1, 64, 64] inb).emb z) := by
  subst hv
  exact state_piece (fun h => onwardAt x0 x1 x2 x3 x4 x5 k s h) h e inb z

theorem block_stored (G : ℕ → Fin 8 → FVec F S1x64x64 .f32) (k : Fin k0_t1_loop.trips) (h : Fin 8) {off : Fin 3 → ℕ} (e : off = ![h.val, 448 - 64 * k.val, 0]) (inb) {v : FVec F S1x64x64 .f32}
    (hv : v = G k.val h) (z : S1x64x64.Idx) :
    v z = block G ((Rect.unit (s := S8x512x64) off ![1, 64, 64] inb).emb z) := by
  subst hv
  exact block_piece G k h e inb z

theorem stores_state (k : Fin k0_t1_loop.trips) (f7 : BufTy.Contents (Elt F) arg7.view.ty) (f8 : BufTy.Contents (Elt F) arg8.view.ty) (f9 : BufTy.Contents (Elt F) arg9.view.ty) :
    ∀ p ∈ (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).2.2,
      ∀ z : p.1.shape.Idx, p.2 z = trip x0 x1 x2 x3 x4 x5 k.val (arg9.view.read (Elt F) f9) (p.1.emb z) := by
  have t := onward_loads (F := F) arg1 harg1 arg2 harg2 arg3 harg3 arg4 harg4 arg5 harg5 arg6 harg6 arg9 (x0 := x0) (x1 := x1) (x2 := x2) (x3 := x3) (x4 := x4) (x5 := x5) k f9
  have u := state_stored x0 x1 x2 x3 x4 x5 k.val (arg9.view.read (Elt F) f9)
  intro p hp z
  unfold tripL_k0_t1 trip_k0_t1 at hp
  dsimp only at hp
  simp only [List.mem_cons, List.not_mem_nil, or_false] at hp
  rcases hp with rfl | rfl | rfl | rfl | rfl | rfl | rfl | rfl
  · exact u 7 rfl inb_S8x64x64_S1x64x64_7_0_0 (t 7 (Gen.k0_off8_eq k) (Gen.k0_off16_eq k) (Gen.k0_off24_eq k) rfl (Gen.k0_off8_inb k) (Gen.k0_off16_inb k) (Gen.k0_off24_inb k) inb_S8x64x64_S1x64x64_7_0_0) z
  · exact u 6 rfl inb_S8x64x64_S1x64x64_6_0_0 (t 6 (Gen.k0_off7_eq k) (Gen.k0_off15_eq k) (Gen.k0_off23_eq k) rfl (Gen.k0_off7_inb k) (Gen.k0_off15_inb k) (Gen.k0_off23_inb k) inb_S8x64x64_S1x64x64_6_0_0) z
  · exact u 5 rfl inb_S8x64x64_S1x64x64_5_0_0 (t 5 (Gen.k0_off6_eq k) (Gen.k0_off14_eq k) (Gen.k0_off22_eq k) rfl (Gen.k0_off6_inb k) (Gen.k0_off14_inb k) (Gen.k0_off22_inb k) inb_S8x64x64_S1x64x64_5_0_0) z
  · exact u 4 rfl inb_S8x64x64_S1x64x64_4_0_0 (t 4 (Gen.k0_off5_eq k) (Gen.k0_off13_eq k) (Gen.k0_off21_eq k) rfl (Gen.k0_off5_inb k) (Gen.k0_off13_inb k) (Gen.k0_off21_inb k) inb_S8x64x64_S1x64x64_4_0_0) z
  · exact u 3 rfl inb_S8x64x64_S1x64x64_3_0_0 (t 3 (Gen.k0_off4_eq k) (Gen.k0_off12_eq k) (Gen.k0_off20_eq k) rfl (Gen.k0_off4_inb k) (Gen.k0_off12_inb k) (Gen.k0_off20_inb k) inb_S8x64x64_S1x64x64_3_0_0) z
  · exact u 2 rfl inb_S8x64x64_S1x64x64_2_0_0 (t 2 (Gen.k0_off3_eq k) (Gen.k0_off11_eq k) (Gen.k0_off19_eq k) rfl (Gen.k0_off3_inb k) (Gen.k0_off11_inb k) (Gen.k0_off19_inb k) inb_S8x64x64_S1x64x64_2_0_0) z
  · exact u 1 rfl inb_S8x64x64_S1x64x64_1_0_0 (t 1 (Gen.k0_off2_eq k) (Gen.k0_off10_eq k) (Gen.k0_off18_eq k) rfl (Gen.k0_off2_inb k) (Gen.k0_off10_inb k) (Gen.k0_off18_inb k) inb_S8x64x64_S1x64x64_1_0_0) z
  · exact u 0 rfl inb_S8x64x64_S1x64x64_0_0_0 (t 0 (Gen.k0_off1_eq k) (Gen.k0_off9_eq k) (Gen.k0_off17_eq k) rfl (Gen.k0_off1_inb k) (Gen.k0_off9_inb k) (Gen.k0_off17_inb k) inb_S8x64x64_S1x64x64_0_0_0) z

theorem stores_before (k : Fin k0_t1_loop.trips) (f7 : BufTy.Contents (Elt F) arg7.view.ty) (f8 : BufTy.Contents (Elt F) arg8.view.ty) (f9 : BufTy.Contents (Elt F) arg9.view.ty)
    (G : ℕ → Fin 8 → FVec F S1x64x64 .f32) (hG : ∀ h, before (cell (arg9.view.read (Elt F) f9) h) = G k.val h) :
    ∀ p ∈ (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).1,
      ∀ z : p.1.shape.Idx, p.2 z = block G (p.1.emb z) := by
  have t := @before_loads F _ arg9 f9
  have u := block_stored G k
  intro p hp z
  unfold tripL_k0_t1 trip_k0_t1 at hp
  dsimp only at hp
  simp only [List.mem_cons, List.not_mem_nil, or_false] at hp
  rcases hp with rfl | rfl | rfl | rfl | rfl | rfl | rfl | rfl
  · exact u 7 (Gen.k0_off24_eq k) (Gen.k0_off24_inb k) ((t 7 rfl inb_S8x64x64_S1x64x64_7_0_0).trans (hG 7)) z
  · exact u 6 (Gen.k0_off23_eq k) (Gen.k0_off23_inb k) ((t 6 rfl inb_S8x64x64_S1x64x64_6_0_0).trans (hG 6)) z
  · exact u 5 (Gen.k0_off22_eq k) (Gen.k0_off22_inb k) ((t 5 rfl inb_S8x64x64_S1x64x64_5_0_0).trans (hG 5)) z
  · exact u 4 (Gen.k0_off21_eq k) (Gen.k0_off21_inb k) ((t 4 rfl inb_S8x64x64_S1x64x64_4_0_0).trans (hG 4)) z
  · exact u 3 (Gen.k0_off20_eq k) (Gen.k0_off20_inb k) ((t 3 rfl inb_S8x64x64_S1x64x64_3_0_0).trans (hG 3)) z
  · exact u 2 (Gen.k0_off19_eq k) (Gen.k0_off19_inb k) ((t 2 rfl inb_S8x64x64_S1x64x64_2_0_0).trans (hG 2)) z
  · exact u 1 (Gen.k0_off18_eq k) (Gen.k0_off18_inb k) ((t 1 rfl inb_S8x64x64_S1x64x64_1_0_0).trans (hG 1)) z
  · exact u 0 (Gen.k0_off17_eq k) (Gen.k0_off17_inb k) ((t 0 rfl inb_S8x64x64_S1x64x64_0_0_0).trans (hG 0)) z

theorem stores_delta (k : Fin k0_t1_loop.trips) (f7 : BufTy.Contents (Elt F) arg7.view.ty) (f8 : BufTy.Contents (Elt F) arg8.view.ty) (f9 : BufTy.Contents (Elt F) arg9.view.ty)
    (G : ℕ → Fin 8 → FVec F S1x64x64 .f32) (hG : ∀ h, deltaAt x1 x2 x3 x5 k.val (arg9.view.read (Elt F) f9) h = G k.val h) :
    ∀ p ∈ (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).2.1,
      ∀ z : p.1.shape.Idx, p.2 z = block G (p.1.emb z) := by
  have t := delta_loads (F := F) arg2 harg2 arg3 harg3 arg4 harg4 arg6 harg6 arg9 (x1 := x1) (x2 := x2) (x3 := x3) (x5 := x5) k f9
  have u := block_stored G k
  intro p hp z
  unfold tripL_k0_t1 trip_k0_t1 at hp
  dsimp only at hp
  simp only [List.mem_cons, List.not_mem_nil, or_false] at hp
  rcases hp with rfl | rfl | rfl | rfl | rfl | rfl | rfl | rfl
  · exact u 7 (Gen.k0_off24_eq k) (Gen.k0_off24_inb k) ((t 7 (Gen.k0_off8_eq k) (Gen.k0_off16_eq k) (Gen.k0_off24_eq k) rfl (Gen.k0_off8_inb k) (Gen.k0_off16_inb k) (Gen.k0_off24_inb k) inb_S8x64x64_S1x64x64_7_0_0).trans (hG 7)) z
  · exact u 6 (Gen.k0_off23_eq k) (Gen.k0_off23_inb k) ((t 6 (Gen.k0_off7_eq k) (Gen.k0_off15_eq k) (Gen.k0_off23_eq k) rfl (Gen.k0_off7_inb k) (Gen.k0_off15_inb k) (Gen.k0_off23_inb k) inb_S8x64x64_S1x64x64_6_0_0).trans (hG 6)) z
  · exact u 5 (Gen.k0_off22_eq k) (Gen.k0_off22_inb k) ((t 5 (Gen.k0_off6_eq k) (Gen.k0_off14_eq k) (Gen.k0_off22_eq k) rfl (Gen.k0_off6_inb k) (Gen.k0_off14_inb k) (Gen.k0_off22_inb k) inb_S8x64x64_S1x64x64_5_0_0).trans (hG 5)) z
  · exact u 4 (Gen.k0_off21_eq k) (Gen.k0_off21_inb k) ((t 4 (Gen.k0_off5_eq k) (Gen.k0_off13_eq k) (Gen.k0_off21_eq k) rfl (Gen.k0_off5_inb k) (Gen.k0_off13_inb k) (Gen.k0_off21_inb k) inb_S8x64x64_S1x64x64_4_0_0).trans (hG 4)) z
  · exact u 3 (Gen.k0_off20_eq k) (Gen.k0_off20_inb k) ((t 3 (Gen.k0_off4_eq k) (Gen.k0_off12_eq k) (Gen.k0_off20_eq k) rfl (Gen.k0_off4_inb k) (Gen.k0_off12_inb k) (Gen.k0_off20_inb k) inb_S8x64x64_S1x64x64_3_0_0).trans (hG 3)) z
  · exact u 2 (Gen.k0_off19_eq k) (Gen.k0_off19_inb k) ((t 2 (Gen.k0_off3_eq k) (Gen.k0_off11_eq k) (Gen.k0_off19_eq k) rfl (Gen.k0_off3_inb k) (Gen.k0_off11_inb k) (Gen.k0_off19_inb k) inb_S8x64x64_S1x64x64_2_0_0).trans (hG 2)) z
  · exact u 1 (Gen.k0_off18_eq k) (Gen.k0_off18_inb k) ((t 1 (Gen.k0_off2_eq k) (Gen.k0_off10_eq k) (Gen.k0_off18_eq k) rfl (Gen.k0_off2_inb k) (Gen.k0_off10_inb k) (Gen.k0_off18_inb k) inb_S8x64x64_S1x64x64_1_0_0).trans (hG 1)) z
  · exact u 0 (Gen.k0_off17_eq k) (Gen.k0_off17_inb k) ((t 0 (Gen.k0_off1_eq k) (Gen.k0_off9_eq k) (Gen.k0_off17_eq k) rfl (Gen.k0_off1_inb k) (Gen.k0_off9_inb k) (Gen.k0_off17_inb k) inb_S8x64x64_S1x64x64_0_0_0).trans (hG 0)) z

theorem state_cover (k : Fin k0_t1_loop.trips) (f7 : BufTy.Contents (Elt F) arg7.view.ty) (f8 : BufTy.Contents (Elt F) arg8.view.ty) (f9 : BufTy.Contents (Elt F) arg9.view.ty) (y : S8x64x64.Idx) :
    ∃ p ∈ (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).2.2, y ∈ p.1.set :=
  View.cover_of_tiledL (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).2.2 S1x64x64.size (by sl_kernel_rfl) y

variable (f7 : BufTy.Contents (Elt F) arg7.view.ty) (f8 : BufTy.Contents (Elt F) arg8.view.ty) (s : Vec F S8x64x64 .f32)

/-- The pieces of a point's trips before `n`. -/
def trips (n : ℕ) : List (View.Piece (Elt F) S8x512x64 .f32) × List (View.Piece (Elt F) S8x512x64 .f32) × List (View.Piece (Elt F) S8x64x64 .f32) :=
  pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) f7 f8 (harg9.unread s) n

theorem trips_state (n : ℕ) (hn : n ≤ k0_t1_loop.trips) :
    arg9.view.read (Elt F) (arg9.view.writes (Elt F) (harg9.unread s) (trips 𝒱 c bd i arg1 harg1 arg2 harg2 arg3 harg3 arg4 harg4 arg5 harg5 arg6 harg6 arg7 harg7 arg8 harg8 arg9 harg9 x0 x1 x2 x3 x4 x5 f7 f8 s n).2.2)
      = within x0 x1 x2 x3 x4 x5 s n := by
  induction n with
  | zero => exact harg9.read_unread s
  | succ n ih =>
    have e := pb_k0_t1_succ (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) f7 f8 (harg9.unread s) ⟨n, hn⟩
    unfold trips at ih ⊢
    rw [show n + 1 = (⟨n, hn⟩ : Fin k0_t1_loop.trips).val + 1 from rfl, e]
    dsimp only
    rw [View.writes_append]
    funext y
    refine (View.read_writes_apply_of_pieces _ _ _ _ (stores_state (F := F) 𝒱 c bd i arg1 harg1 arg2 harg2 arg3 harg3 arg4 harg4 arg5 harg5 arg6 harg6 arg7 harg7 arg8 harg8 arg9 harg9 x0 x1 x2 x3 x4 x5 ⟨n, hn⟩ _ _ _) y
      (state_cover (F := F) 𝒱 c bd i arg1 harg1 arg2 harg2 arg3 harg3 arg4 harg4 arg5 harg5 arg6 harg6 arg7 harg7 arg8 harg8 arg9 harg9 x0 x1 x2 x3 x4 x5 ⟨n, hn⟩ _ _ _ y)).trans ?_
    rw [ih (Nat.le_of_succ_le hn)]
    rfl

theorem trips_before (n : ℕ) (hn : n ≤ k0_t1_loop.trips) :
    ∀ p ∈ (trips 𝒱 c bd i arg1 harg1 arg2 harg2 arg3 harg3 arg4 harg4 arg5 harg5 arg6 harg6 arg7 harg7 arg8 harg8 arg9 harg9 x0 x1 x2 x3 x4 x5 f7 f8 s n).1, ∀ z : p.1.shape.Idx,
      p.2 z = block (fun k h => before (cell (within x0 x1 x2 x3 x4 x5 s k) h)) (p.1.emb z) := by
  induction n with
  | zero => exact fun p hp => absurd hp List.not_mem_nil
  | succ n ih =>
    have e := pb_k0_t1_succ (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) f7 f8 (harg9.unread s) ⟨n, hn⟩
    have b := trips_state (F := F) 𝒱 c bd i arg1 harg1 arg2 harg2 arg3 harg3 arg4 harg4 arg5 harg5 arg6 harg6 arg7 harg7 arg8 harg8 arg9 harg9 x0 x1 x2 x3 x4 x5 f7 f8 s n (Nat.le_of_succ_le hn)
    unfold trips at ih b ⊢
    rw [show n + 1 = (⟨n, hn⟩ : Fin k0_t1_loop.trips).val + 1 from rfl, e]
    intro p hp
    rcases List.mem_append.mp hp with hp | hp
    · exact stores_before (F := F) 𝒱 c bd i arg1 harg1 arg2 harg2 arg3 harg3 arg4 harg4 arg5 harg5 arg6 harg6 arg7 harg7 arg8 harg8 arg9 harg9 x0 x1 x2 x3 x4 x5 ⟨n, hn⟩ _ _ _ _ (fun h => by rw [b]) p hp
    · exact ih (Nat.le_of_succ_le hn) p hp

theorem trips_delta (n : ℕ) (hn : n ≤ k0_t1_loop.trips) :
    ∀ p ∈ (trips 𝒱 c bd i arg1 harg1 arg2 harg2 arg3 harg3 arg4 harg4 arg5 harg5 arg6 harg6 arg7 harg7 arg8 harg8 arg9 harg9 x0 x1 x2 x3 x4 x5 f7 f8 s n).2.1, ∀ z : p.1.shape.Idx,
      p.2 z = block (fun k h => deltaAt x1 x2 x3 x5 k (within x0 x1 x2 x3 x4 x5 s k) h) (p.1.emb z) := by
  induction n with
  | zero => exact fun p hp => absurd hp List.not_mem_nil
  | succ n ih =>
    have e := pb_k0_t1_succ (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) f7 f8 (harg9.unread s) ⟨n, hn⟩
    have b := trips_state (F := F) 𝒱 c bd i arg1 harg1 arg2 harg2 arg3 harg3 arg4 harg4 arg5 harg5 arg6 harg6 arg7 harg7 arg8 harg8 arg9 harg9 x0 x1 x2 x3 x4 x5 f7 f8 s n (Nat.le_of_succ_le hn)
    unfold trips at ih b ⊢
    rw [show n + 1 = (⟨n, hn⟩ : Fin k0_t1_loop.trips).val + 1 from rfl, e]
    intro p hp
    rcases List.mem_append.mp hp with hp | hp
    · exact stores_delta (F := F) 𝒱 c bd i arg1 harg1 arg2 harg2 arg3 harg3 arg4 harg4 arg5 harg5 arg6 harg6 arg7 harg7 arg8 harg8 arg9 harg9 x0 x1 x2 x3 x4 x5 ⟨n, hn⟩ _ _ _ _ (fun h => by rw [b]) p hp
    · exact ih (Nat.le_of_succ_le hn) p hp

end Trip

variable (m : (ℓ : Loc nD τ sig) → Buf (Elt F) ℓ) (c : Dev nD)

/-- The state before trip `k` of point `t`. -/
def at_trip (t : Fin cfg0.N) (k : ℕ) : Vec F S8x64x64 .f32 :=
  within (iblk m c 0 t) (iblk m c 1 t) (iblk m c 2 t) (iblk m c 3 t) (iblk m c 4 t) (iblk m c 5 t) (state m c t.val) k

theorem next_eq (t : Fin cfg0.N) : state m c (t.val + 1) = at_trip m c t 8 := by
  rw [state_succ]
  unfold next at_point pieces
  exact (trips_state (F := F) _ _ _ _ _ _ _ _ _ _ _ _ _ _ _ _ _ _ _ _ _ _ _ _ _ _ _ _ _ _ _ _ (le_of_eq rfl)).trans rfl

theorem out_6_eq (t : Fin cfg0.N) : out_6 m c t = block (fun k h => before (cell (at_trip m c t k) h)) := by
  funext y
  refine View.read_writes_apply_of_pieces _ _ _ _ ?_ y (cover_6 _ _ _ _ _ _ _ _ _ _ _ _ _ _ _ _ _ _ _ _ _ _ _ _ _ _ _ y)
  exact trips_before (F := F) _ _ _ _ _ _ _ _ _ _ _ _ _ _ _ _ _ _ _ _ _ _ _ _ _ _ _ _ _ _ _ _ (le_of_eq rfl)

theorem out_7_eq (t : Fin cfg0.N) : out_7 m c t
    = block (fun k h => deltaAt (iblk m c 1 t) (iblk m c 2 t) (iblk m c 3 t) (iblk m c 5 t) k (at_trip m c t k) h) := by
  funext y
  refine View.read_writes_apply_of_pieces _ _ _ _ ?_ y (cover_7 _ _ _ _ _ _ _ _ _ _ _ _ _ _ _ _ _ _ _ _ _ _ _ _ _ _ _ y)
  exact trips_delta (F := F) _ _ _ _ _ _ _ _ _ _ _ _ _ _ _ _ _ _ _ _ _ _ _ _ _ _ _ _ _ _ _ _ (le_of_eq rfl)

end Cert.ScanIdeal.Own

end
-- ==== Proof.ScanRule.lean ====
/- Hand-written, untrusted: the delta rule's backward recurrence over the chunks, in plain sums, and that a sum of its
   products may be taken with either sign when all the arguments are finite. -/
module

public import proofs.«01_k».proof.Proof.Reals
public import Idealize.ShloMosaic.Lib.Pipeline.ValueKit

@[expose] public section

noncomputable section

namespace Cert.ScanRule

open Cert.Reals Idealize.ShloMosaic

/-- The arguments by chunk, head, and place in the chunk. -/
structure Chunks where
  q : Fin 128 → Fin 8 → Fin 64 → Fin 64 → EReal
  k : Fin 128 → Fin 8 → Fin 64 → Fin 64 → EReal
  g : Fin 128 → Fin 8 → Fin 64 → EReal
  qk : Fin 128 → Fin 8 → Fin 64 → Fin 64 → EReal
  w : Fin 128 → Fin 8 → Fin 64 → Fin 64 → EReal
  d : Fin 128 → Fin 8 → Fin 64 → Fin 64 → EReal

/-- The row of place `r` in chunk `n`. -/
def row (n : Fin 128) (r : Fin 64) : Fin 8192 := ⟨n.val * 64 + r.val, by omega⟩

/-- The arguments' arrays by chunk. -/
def ofArgs (q k : (⟨3, ![8192, 8, 64]⟩ : Shape).Idx → EReal) (g : (⟨2, ![8192, 8]⟩ : Shape).Idx → EReal)
    (qk w : (⟨3, ![8, 8192, 64]⟩ : Shape).Idx → EReal) (d : (⟨3, ![8192, 8, 64]⟩ : Shape).Idx → EReal) : Chunks where
  q n h r x := q (ix3 (row n r) h x)
  k n h r x := k (ix3 (row n r) h x)
  g n h r := g (ix2 (row n r) h)
  qk n h r x := qk (ix3 h (row n r) x)
  w n h r x := w (ix3 h (row n r) x)
  d n h r x := d (ix3 (row n r) h x)

/-- All of them finite. -/
structure Chunks.Finite (A : Chunks) : Prop where
  q : ∀ n h r x, IsReal (A.q n h r x)
  k : ∀ n h r x, IsReal (A.k n h r x)
  g : ∀ n h r, IsReal (A.g n h r)
  qk : ∀ n h r x, IsReal (A.qk n h r x)
  w : ∀ n h r x, IsReal (A.w n h r x)
  d : ∀ n h r x, IsReal (A.d n h r x)

/-- The gradient of the state a chunk leaves, for each head. -/
abbrev Carry := Fin 8 → Fin 64 → Fin 64 → EReal

variable (A : Chunks)

/-- The chunk that trip `j` of the recurrence takes: the last one first. -/
def chunk (j : ℕ) : Fin 128 := ⟨127 - j, by omega⟩

/-- The gradient of a chunk's values. -/
def delta (n : Fin 128) (s : Carry) : Carry := fun h r v =>
  ∑ x, A.qk n h x r * A.d n h x v + ∑ x, A.k n h r x * Ideal.exp (A.g n h 63 - A.g n h r) * s h x v

/-- The gradient of the state before a chunk. -/
def onward (n : Fin 128) (s : Carry) : Carry := fun h r v =>
  ∑ x, A.q n h x r * Ideal.exp (A.g n h x) * A.d n h x v + Ideal.exp (A.g n h 63) * s h r v
    - ∑ x, A.w n h x r * delta A n s h x v

/-- The gradient of the state after the first `j` trips. -/
def carried : ℕ → Carry
  | 0 => fun _ _ _ => 0
  | j + 1 => onward A (chunk j) (carried j)

/-- The gradient of the state each chunk leaves, and of each chunk's values, as arrays by head and row. -/
def states : (⟨3, ![8, 8192, 64]⟩ : Shape).Idx → EReal := fun y =>
  carried A (127 - (y 1).val / 64) (y 0) ⟨(y 1).val % 64, Nat.mod_lt _ (by decide)⟩ (y 2)
def deltas : (⟨3, ![8, 8192, 64]⟩ : Shape).Idx → EReal := fun y =>
  delta A ⟨(y 1).val / 64, by have : (y 1).val < 8192 := (y 1).isLt; omega⟩ (carried A (127 - (y 1).val / 64)) (y 0)
    ⟨(y 1).val % 64, Nat.mod_lt _ (by decide)⟩ (y 2)

theorem isReal_exp {x : EReal} (h : IsReal x) : IsReal (Ideal.exp x) := by
  obtain ⟨r, rfl⟩ := h
  exact ⟨Real.exp r, rfl⟩

variable {A}

theorem isReal_delta (hA : A.Finite) (n : Fin 128) {s : Carry} (hs : ∀ h r v, IsReal (s h r v)) (h : Fin 8) (r v : Fin 64) :
    IsReal (delta A n s h r v) :=
  (IsReal.sum fun x => (hA.qk n h x r).mul (hA.d n h x v)).add
    (IsReal.sum fun x => ((hA.k n h r x).mul (isReal_exp ((hA.g n h 63).sub (hA.g n h r)))).mul (hs h x v))

theorem isReal_onward (hA : A.Finite) (n : Fin 128) {s : Carry} (hs : ∀ h r v, IsReal (s h r v)) (h : Fin 8) (r v : Fin 64) :
    IsReal (onward A n s h r v) :=
  ((IsReal.sum fun x => ((hA.q n h x r).mul (isReal_exp (hA.g n h x))).mul (hA.d n h x v)).add
    ((isReal_exp (hA.g n h 63)).mul (hs h r v))).sub
    (IsReal.sum fun x => (hA.w n h x r).mul (isReal_delta hA n hs h x v))

theorem isReal_carried (hA : A.Finite) (j : ℕ) : ∀ h r v, IsReal (carried A j h r v) := by
  induction j with
  | zero => exact fun _ _ _ => IsReal.zero
  | succ j ih => exact isReal_onward hA _ ih

theorem neg_sum {f : Fin 64 → EReal} (hf : ∀ x, IsReal (f x)) : ∑ x, -f x = -∑ x, f x := by
  have e := mul_sum_real Finset.univ (x := -1) IsReal.one.neg hf
  rw [neg_one_mul] at e
  exact (Finset.sum_congr rfl fun x _ => (neg_one_mul (f x)).symm).trans e.symm

/-- The recurrence as the gradient of the forward one has it: the values' gradient negated under the sum. -/
theorem onward_eq (hA : A.Finite) (n : Fin 128) {s : Carry} (hs : ∀ h r v, IsReal (s h r v)) (h : Fin 8) (r v : Fin 64) :
    onward A n s h r v
      = s h r v * Ideal.exp (A.g n h 63) + ∑ x, A.d n h x v * (A.q n h x r * Ideal.exp (A.g n h x))
        + ∑ x, -delta A n s h x v * A.w n h x r := by
  unfold onward
  have e : ∑ x, -delta A n s h x v * A.w n h x r = -∑ x, A.w n h x r * delta A n s h x v := by
    rw [← neg_sum fun x => (hA.w n h x r).mul (isReal_delta hA n hs h x v)]
    exact Finset.sum_congr rfl fun x _ => by rw [mul_comm, mul_neg]
  rw [e, sub_eq_add_neg, add_comm (∑ x, _) (_ * _), mul_comm (Ideal.exp _) (s h r v)]
  exact congrArg (· + _) (congrArg (_ + ·) (Finset.sum_congr rfl fun x _ => mul_comm _ _))

end Cert.ScanRule

end
-- ==== Proof.ScanValue.lean ====
/- Hand-written, untrusted: what the scan of the delta rule's gradient computes (`delta_scan_bwd`). -/
module

public import proofs.«01_k».proof.Defs
public import proofs.«01_k».proof.Proof.ScanTrip
public import proofs.«01_k».proof.Proof.ScanRule
public import Idealize.ShloMosaic.Lib.Pipeline.ValueKit
public import Idealize.ShloMosaic.Lib.Pointwise

@[expose] public section

set_option maxRecDepth 16384

noncomputable section

namespace Cert.ScanIdeal.Own

open Cert.ScanIdeal Cert.ScanIdeal.Gen Cert.ScanRule Cert.Reals Idealize.ShloMosaic Idealize.ShloMosaic.TcCoe Idealize.SL.Sem
open Idealize.ShloMosaic.StableHlo
open Idealize.ShloMosaic.Pipeline (Dat)

/-! One head's step, entry by entry. -/

theorem delta_at (g k qk : Vec Ideal S1x64x64 .f32) (d : Vec Ideal S64x64 .f32) (s : Vec Ideal S1x64x64 .f32) (r v : Fin 64) :
    delta g k qk d s (ix2 r v) = ∑ x : Fin 64, qk (ix3 0 x r) * d (ix2 x v)
      + ∑ x : Fin 64, k (ix3 0 r x) * Ideal.exp (g (ix3 0 63 x) - g (ix3 0 r x)) * s (ix3 0 x v) := by
  unfold delta
  pointwise [k0_pay60, k0_pay6, k0_pay44, k0_pay52, k0_pay3, k0_pay4]

theorem onward_at (g q k qk w : Vec Ideal S1x64x64 .f32) (d : Vec Ideal S64x64 .f32) (s : Vec Ideal S1x64x64 .f32) (r v : Fin 64) :
    onward g q k qk w d s (ix3 0 r v) = ∑ x : Fin 64, q (ix3 0 x r) * Ideal.exp (g (ix3 0 x r)) * d (ix2 x v)
      + Ideal.exp (g (ix3 0 63 v)) * s (ix3 0 r v) - ∑ x : Fin 64, w (ix3 0 x r) * delta g k qk d s (ix2 x v) := by
  unfold onward
  generalize delta g k qk d s = D
  pointwise [k0_pay84, k0_pay5, k0_pay44, k0_pay7, k0_pay52, k0_pay3, k0_pay4]

theorem before_at (s : Vec Ideal S1x64x64 .f32) (r v : Fin 64) : before s (ix3 0 r v) = s (ix3 0 r v) := by
  unfold before
  pointwise [k0_pay68, k0_pay44]

theorem deltaOut_at (g k qk : Vec Ideal S1x64x64 .f32) (d : Vec Ideal S64x64 .f32) (s : Vec Ideal S1x64x64 .f32) (r v : Fin 64) :
    deltaOut g k qk d s (ix3 0 r v) = delta g k qk d s (ix2 r v) := by
  unfold deltaOut
  pointwise [k0_pay69]

theorem zero_at (y : S8x64x64.Idx) : zero (F := Ideal) y = (0 : EReal) := by
  unfold zero
  pointwise [k0_pay1]

variable (m : (ℓ : Loc nD τ sig) → Buf (Elt Ideal) ℓ) (c : Dev nD)

/-- The arguments by chunk. -/
def args : Chunks :=
  ofArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg5)) (m ((c.tc : Thread nD τ).loc main_arg6))

theorem finite [Cert.Pre_finite_scan.Facts] (h : Cert.Pre_ScanIdeal_finite_scan m) : (args m c).Finite := by
  have h0 := congrFun (h c).1
  have h1 := congrFun (h c).2.1
  have h2 := congrFun (h c).2.2.1
  have h3 := congrFun (h c).2.2.2.1
  have h4 := congrFun (h c).2.2.2.2.1
  have h5 := congrFun (h c).2.2.2.2.2
  pointwise [Cert.Pre_finite_scan.fn] at h0 h1 h2 h3 h4 h5
  exact ⟨fun _ _ _ _ => isReal_of_f32 (h0 _), fun _ _ _ _ => isReal_of_f32 (h1 _), fun _ _ _ => isReal_of_f32 (h2 _),
    fun _ _ _ _ => isReal_of_f32 (h3 _), fun _ _ _ _ => isReal_of_f32 (h4 _), fun _ _ _ _ => isReal_of_f32 (h5 _)⟩

/-! What the call is given. -/

theorem host12 : V m c main_v12 = shapeCast S8192x512 (m ((c.tc : Thread nD τ).loc main_arg6)) shapeCasts_S8192x8x64_S8192x512 := by
  simp only [V, hostOps0, List.flatten_cons, List.flatten_nil, List.cons_append, List.nil_append, List.append_nil]
  after_results
  rfl

/-- A plane of the stacked array. -/
def stacked (x : FVec Ideal S8192x512 .f32) : Vec Ideal S1x8192x512 .f32 := broadcastInDim S1x8192x512 ![1, 2] bcast_S8192x512_S1x8192x512_1_2 x

theorem host11 : V m c main_v11 = concatenate S5x8192x512 0 [
      ⟨S1x8192x512, stacked (shapeCast S8192x512 (m ((c.tc : Thread nD τ).loc main_arg0)) shapeCasts_S8192x8x64_S8192x512)⟩,
      ⟨S1x8192x512, stacked (shapeCast S8192x512 (m ((c.tc : Thread nD τ).loc main_arg1)) shapeCasts_S8192x8x64_S8192x512)⟩,
      ⟨S1x8192x512, stacked (broadcastInDim S8192x512 ![] bcast_S_S8192x512 (constant (F := Ideal) S_ FTy.f32 0#32))⟩,
      ⟨S1x8192x512, stacked (broadcastInDim S8192x512 ![] bcast_S_S8192x512 (constant (F := Ideal) S_ FTy.f32 0#32))⟩,
      ⟨S1x8192x512, stacked (shapeCast S8192x512 (broadcastInDim S8192x8x64 ![0, 1, 2] bcast_S8192x8x1_S8192x8x64_0_1_2
        (broadcastInDim S8192x8x1 ![0, 1] bcast_S8192x8_S8192x8x1_0_1 (m ((c.tc : Thread nD τ).loc main_arg2)))) shapeCasts_S8192x8x64_S8192x512)⟩]
      concatenates_S1x8192x512_S1x8192x512_S1x8192x512_S1x8192x512_S1x8192x512_S5x8192x512_d0 := by
  simp only [V, hostOps0, List.flatten_cons, List.flatten_nil, List.cons_append, List.nil_append, List.append_nil]
  after_results
  rfl

theorem at_q (n : Fin 8192) (x : Fin 512) : V m c main_v11 (ix3 0 n x)
    = m ((c.tc : Thread nD τ).loc main_arg0) (ix3 n ⟨x.val / 64, by omega⟩ ⟨x.val % 64, Nat.mod_lt _ (by decide)⟩) := by
  rw [host11]
  generalize m ((c.tc : Thread nD τ).loc main_arg0) = X
  pointwise [stacked]

theorem at_k (n : Fin 8192) (x : Fin 512) : V m c main_v11 (ix3 1 n x)
    = m ((c.tc : Thread nD τ).loc main_arg1) (ix3 n ⟨x.val / 64, by omega⟩ ⟨x.val % 64, Nat.mod_lt _ (by decide)⟩) := by
  rw [host11]
  generalize m ((c.tc : Thread nD τ).loc main_arg1) = X
  pointwise [stacked]

theorem at_g (n : Fin 8192) (x : Fin 512) : V m c main_v11 (ix3 4 n x)
    = m ((c.tc : Thread nD τ).loc main_arg2) (ix2 n ⟨x.val / 64, by omega⟩) := by
  rw [host11]
  generalize m ((c.tc : Thread nD τ).loc main_arg2) = X
  pointwise [stacked]

theorem at_d (n : Fin 8192) (x : Fin 512) : V m c main_v12 (ix2 n x)
    = m ((c.tc : Thread nD τ).loc main_arg6) (ix3 n ⟨x.val / 64, by omega⟩ ⟨x.val % 64, Nat.mod_lt _ (by decide)⟩) := by
  rw [host12]
  generalize m ((c.tc : Thread nD τ).loc main_arg6) = X
  pointwise

/-- The block each window shows at each point. -/
theorem idx : ∀ t : Fin cfg0.N, win0_0.index t = ![0, 15 - t.val, 0] ∧ win0_1.index t = ![1, 15 - t.val, 0]
    ∧ win0_2.index t = ![4, 15 - t.val, 0] ∧ win0_3.index t = ![0, 15 - t.val, 0] ∧ win0_4.index t = ![0, 15 - t.val, 0]
    ∧ win0_5.index t = ![15 - t.val, 0] ∧ win0_6.index t = ![0, 15 - t.val, 0] ∧ win0_7.index t = ![0, 15 - t.val, 0] :=
  (by decide +kernel : ∀ t : Fin grid0.N, _)

/-- The row of the arrays that a row of a point's blocks is. -/
def line (t : Fin cfg0.N) (y : Fin 512) : Fin 8192 := ⟨(15 - t.val) * 512 + y.val, by omega⟩

theorem line_chunk (t : Fin cfg0.N) (k : ℕ) (hk : k < 8) (r : Fin 64) :
    line t ⟨448 - 64 * k + r.val, rowlt k r⟩ = row (chunk (8 * t.val + k)) r := by
  have h : t.val < 16 := t.isLt
  refine Fin.ext ?_
  show (15 - t.val) * 512 + (448 - 64 * k + r.val) = (127 - (8 * t.val + k)) * 64 + r.val
  omega

theorem lane_head (h : Fin 8) (x : Fin 64) (hx) (hy) : (⟨(64 * h.val + x.val) / 64, hx⟩ : Fin 8) = h ∧ (⟨(64 * h.val + x.val) % 64, hy⟩ : Fin 64) = x :=
  ⟨Fin.ext (by show (64 * h.val + x.val) / 64 = h.val; omega), Fin.ext (by show (64 * h.val + x.val) % 64 = x.val; omega)⟩

theorem blk0 (t : Fin cfg0.N) (y : Fin 512) (x : Fin 512) : iblk m c 0 t (ix3 0 y x) = V m c main_v11 (ix3 0 (line t y) x) := by
  have e : ((cfg0.win 0).blk t).view.emb (ix3 0 y x) = ix3 0 (line t y) x := funext fun a => by
    fin_cases a
    · exact Fin.ext ((win0_0.rect_emb_val t (ix3 0 y x) 0).trans (by rw [(idx t).1]; rfl))
    · exact Fin.ext ((win0_0.rect_emb_val t (ix3 0 y x) 1).trans (by rw [(idx t).1]; rfl))
    · exact Fin.ext ((win0_0.rect_emb_val t (ix3 0 y x) 2).trans (by rw [(idx t).1]; exact zero_add _))
  exact congrArg (V m c main_v11) e

theorem blk1 (t : Fin cfg0.N) (y : Fin 512) (x : Fin 512) : iblk m c 1 t (ix3 0 y x) = V m c main_v11 (ix3 1 (line t y) x) := by
  have e : ((cfg0.win 1).blk t).view.emb (ix3 0 y x) = ix3 1 (line t y) x := funext fun a => by
    fin_cases a
    · exact Fin.ext ((win0_1.rect_emb_val t (ix3 0 y x) 0).trans (by rw [(idx t).2.1]; rfl))
    · exact Fin.ext ((win0_1.rect_emb_val t (ix3 0 y x) 1).trans (by rw [(idx t).2.1]; rfl))
    · exact Fin.ext ((win0_1.rect_emb_val t (ix3 0 y x) 2).trans (by rw [(idx t).2.1]; exact zero_add _))
  exact congrArg (V m c main_v11) e

theorem blk2 (t : Fin cfg0.N) (y : Fin 512) (x : Fin 512) : iblk m c 2 t (ix3 0 y x) = V m c main_v11 (ix3 4 (line t y) x) := by
  have e : ((cfg0.win 2).blk t).view.emb (ix3 0 y x) = ix3 4 (line t y) x := funext fun a => by
    fin_cases a
    · exact Fin.ext ((win0_2.rect_emb_val t (ix3 0 y x) 0).trans (by rw [(idx t).2.2.1]; rfl))
    · exact Fin.ext ((win0_2.rect_emb_val t (ix3 0 y x) 1).trans (by rw [(idx t).2.2.1]; rfl))
    · exact Fin.ext ((win0_2.rect_emb_val t (ix3 0 y x) 2).trans (by rw [(idx t).2.2.1]; exact zero_add _))
  exact congrArg (V m c main_v11) e

theorem blk3 (t : Fin cfg0.N) (h : Fin 8) (y : Fin 512) (x : Fin 64) :
    iblk m c 3 t (ix3 h y x) = m ((c.tc : Thread nD τ).loc main_arg3) (ix3 h (line t y) x) := by
  have e : ((cfg0.win 3).blk t).view.emb (ix3 h y x) = ix3 h (line t y) x := funext fun a => by
    fin_cases a
    · exact Fin.ext ((win0_3.rect_emb_val t (ix3 h y x) 0).trans (by rw [(idx t).2.2.2.1]; exact zero_add _))
    · exact Fin.ext ((win0_3.rect_emb_val t (ix3 h y x) 1).trans (by rw [(idx t).2.2.2.1]; rfl))
    · exact Fin.ext ((win0_3.rect_emb_val t (ix3 h y x) 2).trans (by rw [(idx t).2.2.2.1]; exact zero_add _))
  exact (congrArg (V m c main_arg3) e).trans (congrFun (V_main_arg3 m c) _)

theorem blk4 (t : Fin cfg0.N) (h : Fin 8) (y : Fin 512) (x : Fin 64) :
    iblk m c 4 t (ix3 h y x) = m ((c.tc : Thread nD τ).loc main_arg5) (ix3 h (line t y) x) := by
  have e : ((cfg0.win 4).blk t).view.emb (ix3 h y x) = ix3 h (line t y) x := funext fun a => by
    fin_cases a
    · exact Fin.ext ((win0_4.rect_emb_val t (ix3 h y x) 0).trans (by rw [(idx t).2.2.2.2.1]; exact zero_add _))
    · exact Fin.ext ((win0_4.rect_emb_val t (ix3 h y x) 1).trans (by rw [(idx t).2.2.2.2.1]; rfl))
    · exact Fin.ext ((win0_4.rect_emb_val t (ix3 h y x) 2).trans (by rw [(idx t).2.2.2.2.1]; exact zero_add _))
  exact (congrArg (V m c main_arg5) e).trans (congrFun (V_main_arg5 m c) _)

theorem blk5 (t : Fin cfg0.N) (y : Fin 512) (x : Fin 512) : iblk m c 5 t (ix2 y x) = V m c main_v12 (ix2 (line t y) x) := by
  have e : ((cfg0.win 5).blk t).view.emb (ix2 y x) = ix2 (line t y) x := funext fun a => by
    fin_cases a
    · exact Fin.ext ((win0_5.rect_emb_val t (ix2 y x) 0).trans (by rw [(idx t).2.2.2.2.2.1]; rfl))
    · exact Fin.ext ((win0_5.rect_emb_val t (ix2 y x) 1).trans (by rw [(idx t).2.2.2.2.2.1]; exact zero_add _))
  exact congrArg (V m c main_v12) e

/-! The blocks of a trip are the chunk's. -/

section Trip

variable (t : Fin cfg0.N) (k : ℕ) (hk : k < 8) (h : Fin 8) (r x : Fin 64)
include hk

theorem plane_q : plane (F := Ideal) (iblk m c 0 t) k h (ix3 0 r x) = (args m c).q (chunk (8 * t.val + k)) h r x := by
  refine (blk0 m c t _ _).trans ((at_q m c _ _).trans ?_)
  show m ((c.tc : Thread nD τ).loc main_arg0) (ix3 (line t ⟨448 - 64 * k + r.val, rowlt k r⟩) ⟨(64 * h.val + x.val) / 64, by omega⟩ ⟨(64 * h.val + x.val) % 64, Nat.mod_lt _ (by decide)⟩) = _
  rw [line_chunk t k hk r]
  exact congrArg₂ (fun a b => m ((c.tc : Thread nD τ).loc main_arg0) (ix3 _ a b)) (lane_head h x (by omega) (Nat.mod_lt _ (by decide))).1 (lane_head h x (by omega) (Nat.mod_lt _ (by decide))).2

theorem plane_k : plane (F := Ideal) (iblk m c 1 t) k h (ix3 0 r x) = (args m c).k (chunk (8 * t.val + k)) h r x := by
  refine (blk1 m c t _ _).trans ((at_k m c _ _).trans ?_)
  show m ((c.tc : Thread nD τ).loc main_arg1) (ix3 (line t ⟨448 - 64 * k + r.val, rowlt k r⟩) ⟨(64 * h.val + x.val) / 64, by omega⟩ ⟨(64 * h.val + x.val) % 64, Nat.mod_lt _ (by decide)⟩) = _
  rw [line_chunk t k hk r]
  exact congrArg₂ (fun a b => m ((c.tc : Thread nD τ).loc main_arg1) (ix3 _ a b)) (lane_head h x (by omega) (Nat.mod_lt _ (by decide))).1 (lane_head h x (by omega) (Nat.mod_lt _ (by decide))).2

theorem plane_g : plane (F := Ideal) (iblk m c 2 t) k h (ix3 0 r x) = (args m c).g (chunk (8 * t.val + k)) h r := by
  refine (blk2 m c t _ _).trans ((at_g m c _ _).trans ?_)
  show m ((c.tc : Thread nD τ).loc main_arg2) (ix2 (line t ⟨448 - 64 * k + r.val, rowlt k r⟩) ⟨(64 * h.val + x.val) / 64, by omega⟩) = _
  rw [line_chunk t k hk r]
  exact congrArg (fun a => m ((c.tc : Thread nD τ).loc main_arg2) (ix2 _ a)) (lane_head h x _ (Nat.mod_lt _ (by decide))).1

theorem head_qk : head (F := Ideal) (iblk m c 3 t) k h (ix3 0 r x) = (args m c).qk (chunk (8 * t.val + k)) h r x := by
  refine (blk3 m c t _ _ _).trans ?_
  show m ((c.tc : Thread nD τ).loc main_arg3) (ix3 h (line t ⟨448 - 64 * k + r.val, rowlt k r⟩) x) = _
  rw [line_chunk t k hk r]
  rfl

theorem head_w : head (F := Ideal) (iblk m c 4 t) k h (ix3 0 r x) = (args m c).w (chunk (8 * t.val + k)) h r x := by
  refine (blk4 m c t _ _ _).trans ?_
  show m ((c.tc : Thread nD τ).loc main_arg5) (ix3 h (line t ⟨448 - 64 * k + r.val, rowlt k r⟩) x) = _
  rw [line_chunk t k hk r]
  rfl

theorem rows_d : rows (F := Ideal) (iblk m c 5 t) k h (ix2 r x) = (args m c).d (chunk (8 * t.val + k)) h r x := by
  refine (blk5 m c t _ _).trans ((at_d m c _ _).trans ?_)
  show m ((c.tc : Thread nD τ).loc main_arg6) (ix3 (line t ⟨448 - 64 * k + r.val, rowlt k r⟩) ⟨(64 * h.val + x.val) / 64, by omega⟩ ⟨(64 * h.val + x.val) % 64, Nat.mod_lt _ (by decide)⟩) = _
  rw [line_chunk t k hk r]
  exact congrArg₂ (fun a b => m ((c.tc : Thread nD τ).loc main_arg6) (ix3 _ a b)) (lane_head h x (by omega) (Nat.mod_lt _ (by decide))).1 (lane_head h x (by omega) (Nat.mod_lt _ (by decide))).2

variable (s : Vec Ideal S8x64x64 .f32)

theorem delta_chunk : delta (F := Ideal) (plane (iblk m c 2 t) k h) (plane (iblk m c 1 t) k h) (head (iblk m c 3 t) k h)
      (rows (iblk m c 5 t) k h) (cell s h) (ix2 r x)
    = ScanRule.delta (args m c) (chunk (8 * t.val + k)) (fun h r v => s (ix3 h r v)) h r x := by
  rw [delta_at]
  simp only [plane_k m c t k hk, plane_g m c t k hk, head_qk m c t k hk, rows_d m c t k hk]
  rfl

theorem onward_chunk : onwardAt (F := Ideal) (iblk m c 0 t) (iblk m c 1 t) (iblk m c 2 t) (iblk m c 3 t) (iblk m c 4 t) (iblk m c 5 t) k s h (ix3 0 r x)
    = ScanRule.onward (args m c) (chunk (8 * t.val + k)) (fun h r v => s (ix3 h r v)) h r x := by
  unfold onwardAt
  rw [onward_at]
  simp only [plane_q m c t k hk, plane_g m c t k hk, head_w m c t k hk, rows_d m c t k hk, delta_chunk m c t k hk]
  rfl

end Trip

/-- The state after the first trips of a point. -/
theorem carried_at (t : Fin cfg0.N) (hs : ∀ h r v, (state m c t.val (ix3 h r v) : EReal) = carried (args m c) (8 * t.val) h r v) :
    ∀ k, k ≤ 8 → ∀ h r v, (at_trip m c t k (ix3 h r v) : EReal) = carried (args m c) (8 * t.val + k) h r v
  | 0, _, h, r, v => hs h r v
  | k + 1, hk, h, r, v => by
    have e : (fun h r v => at_trip m c t k (ix3 h r v)) = carried (args m c) (8 * t.val + k) :=
      funext fun h => funext fun r => funext fun v => carried_at t hs k (by omega) h r v
    refine (onward_chunk m c t k (by omega) h r v (at_trip m c t k)).trans ?_
    rw [e]
    rfl

theorem state_value : ∀ n, n ≤ 16 → ∀ h r v, (state m c n (ix3 h r v) : EReal) = carried (args m c) (8 * n) h r v
  | 0, _, h, r, v => zero_at _
  | n + 1, hn, h, r, v => by
    have e := next_eq m c (⟨n, (by omega : n < 16)⟩ : Fin cfg0.N)
    refine (congrFun e _).trans ?_
    exact carried_at m c ⟨n, (by omega : n < 16)⟩ (state_value n (by omega)) 8 le_rfl h r v

theorem trip_value (t : Fin cfg0.N) (k : ℕ) (hk : k ≤ 8) (h : Fin 8) (r v : Fin 64) :
    (at_trip m c t k (ix3 h r v) : EReal) = carried (args m c) (8 * t.val + k) h r v :=
  carried_at m c t (state_value m c t.val (le_of_lt t.isLt)) k hk h r v

/-! The results. -/

theorem line_div (t : Fin cfg0.N) (y : Fin 512) : 127 - (line t y).val / 64 = 8 * t.val + (7 - y.val / 64) ∧ (line t y).val % 64 = y.val % 64 := by
  have h : t.val < 16 := t.isLt
  show 127 - ((15 - t.val) * 512 + y.val) / 64 = _ ∧ ((15 - t.val) * 512 + y.val) % 64 = _
  omega

theorem chunk_line (t : Fin cfg0.N) (y : Fin 512) (hy) : chunk (8 * t.val + (7 - y.val / 64)) = ⟨(line t y).val / 64, hy⟩ := by
  have h : t.val < 16 := t.isLt
  refine Fin.ext ?_
  show 127 - (8 * t.val + (7 - y.val / 64)) = ((15 - t.val) * 512 + y.val) / 64
  omega

theorem states_block (t : Fin cfg0.N) (h : Fin 8) (y : Fin 512) (x : Fin 64) : out_6 m c t (ix3 h y x) = ScanRule.states (args m c) (ix3 h (line t y) x) := by
  rw [out_6_eq]
  refine (before_at _ _ _).trans ((trip_value m c t (7 - y.val / 64) (by omega) h _ x).trans ?_)
  unfold ScanRule.states
  exact congrArg₂ (fun n r => carried (args m c) n h r x) (line_div t y).1.symm (Fin.ext (line_div t y).2.symm)

theorem deltas_block (t : Fin cfg0.N) (h : Fin 8) (y : Fin 512) (x : Fin 64) : out_7 m c t (ix3 h y x) = ScanRule.deltas (args m c) (ix3 h (line t y) x) := by
  rw [out_7_eq]
  refine (deltaOut_at _ _ _ _ _ _ _).trans ((delta_chunk m c t (7 - y.val / 64) (by omega) h _ x _).trans ?_)
  have e : (fun h r v => at_trip m c t (7 - y.val / 64) (ix3 h r v)) = carried (args m c) (8 * t.val + (7 - y.val / 64)) :=
    funext fun h => funext fun r => funext fun v => trip_value m c t _ (by omega) h r v
  show ScanRule.delta (args m c) (chunk (8 * t.val + (7 - y.val / 64))) (fun h r v => at_trip m c t (7 - y.val / 64) (ix3 h r v)) h ⟨y.val % 64, Nat.mod_lt _ (by decide)⟩ x = _
  rw [e, chunk_line t y (by omega), ← (line_div t y).1]
  unfold ScanRule.deltas
  exact congrArg (fun r => ScanRule.delta (args m c) _ (carried (args m c) _) h r x) (Fin.ext (line_div t y).2.symm)

theorem emb_6 (t : Fin cfg0.N) (h : Fin 8) (y : Fin 512) (x : Fin 64) : ((cfg0.win 6).blk t).view.emb (ix3 h y x) = ix3 h (line t y) x := funext fun a => by
  fin_cases a
  · exact Fin.ext ((win0_6.rect_emb_val t (ix3 h y x) 0).trans (by rw [(idx t).2.2.2.2.2.2.1]; exact zero_add _))
  · exact Fin.ext ((win0_6.rect_emb_val t (ix3 h y x) 1).trans (by rw [(idx t).2.2.2.2.2.2.1]; rfl))
  · exact Fin.ext ((win0_6.rect_emb_val t (ix3 h y x) 2).trans (by rw [(idx t).2.2.2.2.2.2.1]; exact zero_add _))

theorem final_6 : (dats m 0 c).arrAt 6 (cfgs 0).N = ScanRule.states (args m c) := by
  refine (dats m 0 c).arrAt_eq_of_covers 6 _ (by decide +kernel) fun t hf y => ?_
  blk_simp
  rw [after_6]
  have ey : y = ix3 (y 0) (y 1) (y 2) := (eq_ix3 y)
  rw [ey]
  exact (states_block m c t (y 0) (y 1) (y 2)).trans (congrArg (ScanRule.states (args m c)) (emb_6 t (y 0) (y 1) (y 2)).symm)

theorem emb_7 (t : Fin cfg0.N) (h : Fin 8) (y : Fin 512) (x : Fin 64) : ((cfg0.win 7).blk t).view.emb (ix3 h y x) = ix3 h (line t y) x := funext fun a => by
  fin_cases a
  · exact Fin.ext ((win0_7.rect_emb_val t (ix3 h y x) 0).trans (by rw [(idx t).2.2.2.2.2.2.2]; exact zero_add _))
  · exact Fin.ext ((win0_7.rect_emb_val t (ix3 h y x) 1).trans (by rw [(idx t).2.2.2.2.2.2.2]; rfl))
  · exact Fin.ext ((win0_7.rect_emb_val t (ix3 h y x) 2).trans (by rw [(idx t).2.2.2.2.2.2.2]; exact zero_add _))

theorem final_7 : (dats m 0 c).arrAt 7 (cfgs 0).N = ScanRule.deltas (args m c) := by
  refine (dats m 0 c).arrAt_eq_of_covers 7 _ (by decide +kernel) fun t hf y => ?_
  blk_simp
  rw [after_7]
  have ey : y = ix3 (y 0) (y 1) (y 2) := (eq_ix3 y)
  rw [ey]
  exact (deltas_block m c t (y 0) (y 1) (y 2)).trans (congrArg (ScanRule.deltas (args m c)) (emb_7 t (y 0) (y 1) (y 2)).symm)

/-- The results, and the arguments as they were. -/
theorem results_run (ρ : Dev nD → PrngReg) : θ_run defs (onTc (τ := τ) (main (F := Ideal))) ⟨m, fun _ => 0, ρ⟩ (fun r => ∀ c : Dev nD,
      r.2.mem ((c.tc : Thread nD τ).loc main_v13_0) = ScanRule.states (args m c)
      ∧ r.2.mem ((c.tc : Thread nD τ).loc main_v13_1) = ScanRule.deltas (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 6).trans (final_6 m c), ((h.1 c).1 7).trans (final_7 m c), h.2.1 c⟩)
    (θ_run_and (run_main m ρ) (frame_run m ρ))

end Cert.ScanIdeal.Own

end
-- ==== Proof.ScanRef.lean ====
/- Hand-written, untrusted: the run of the scan's reference, its results as one step iterated 128 times. -/
module

public import proofs.«01_k».proof.Proof.Gen.ScanRefIdeal.Run
public import proofs.«01_k».proof.Proof.Gen.ScanRefIdeal.Step

@[expose] public section

set_option maxRecDepth 16384

noncomputable section

namespace Cert.ScanRefIdeal.Own

open Idealize.ShloMosaic Idealize.ShloMosaic.TcCoe Idealize.SL.Sem Idealize.ShloMosaic.StableHlo
open Cert.ScanRefIdeal Cert.ScanRefIdeal.Gen Cert.ScanRefIdeal.Value
open Cert.ScanRefIdeal.Step (State step init)

variable {F : FTy → Type} [FloatOps F]

/-- The buffers the loop carries, together. -/
def held (V : Valuation τ sig (Elt F)) : State F :=
  ⟨V (Proc.devRef .tc main_v30_7), V (Proc.devRef .tc main_v30_8), V (Proc.devRef .tc main_v30_9),
   V (Proc.devRef .tc main_v30_0), V (Proc.devRef .tc main_v30_1), V (Proc.devRef .tc main_v30_2),
   V (Proc.devRef .tc main_v30_3), V (Proc.devRef .tc main_v30_4), V (Proc.devRef .tc main_v30_5)⟩

/-- The number of the trip, as the loop's counter has it. -/
def Counts (V : Valuation τ sig (Elt F)) (j : ℕ) : Prop :=
  V (Proc.devRef .tc main_v30_6) = constantI S_ 32 (BitVec.ofNat 32 j)

theorem index (V : Valuation τ sig (Elt F)) (j : ℕ) (h : Counts V j) :
    res_main_while0b_v36 V = Step.b3 j (held V) := by
  unfold res_main_while0b_v36
  rw [show V (Proc.devRef .tc main_v30_6) = _ from h]
  rfl

theorem gradient (V : Valuation τ sig (Elt F)) (j : ℕ) (h : Counts V j) :
    res_main_while0b_v37 V = Step.b8 j (held V) := by
  unfold res_main_while0b_v37
  rw [index V j h]
  rfl

theorem values (V : Valuation τ sig (Elt F)) (j : ℕ) (h : Counts V j) :
    res_main_while0b_v49 V = Step.b40 j (held V) := by
  unfold res_main_while0b_v49
  rw [index V j h, gradient V j h]
  rfl

theorem step_7 (V : Valuation τ sig (Elt F)) (j : ℕ) (h : Counts V j) :
    step_main_v30_7 V = Step.b47 j (held V) := by
  unfold step_main_v30_7
  rw [index V j h, gradient V j h, values V j h]
  rfl

theorem step_8 (V : Valuation τ sig (Elt F)) (j : ℕ) (h : Counts V j) :
    step_main_v30_8 V = Step.b52 j (held V) := by
  unfold step_main_v30_8
  rw [index V j h, values V j h]
  rfl

theorem step_9 (V : Valuation τ sig (Elt F)) (j : ℕ) (h : Counts V j) :
    step_main_v30_9 V = Step.b57 j (held V) := by
  unfold step_main_v30_9
  rw [index V j h]
  rfl

theorem counts_step (V : Valuation τ sig (Elt F)) (j : ℕ) (h : Counts V j) : Counts (STEP V) (j + 1) := by
  refine (STEP_main_v30_6 V).trans ?_
  unfold step_main_v30_6
  rw [show V (Proc.devRef .tc main_v30_6) = _ from h]
  funext i
  show BitVec.ofNat 32 j + 1#32 = BitVec.ofNat 32 (j + 1)
  rw [BitVec.ofNat_add]

theorem held_step (V : Valuation τ sig (Elt F)) (j : ℕ) (h : Counts V j) : held (STEP V) = step j (held V) := by
  unfold held step
  rw [STEP_main_v30_7, STEP_main_v30_8, STEP_main_v30_9, STEP_main_v30_0, STEP_main_v30_1, STEP_main_v30_2,
    STEP_main_v30_3, STEP_main_v30_4, STEP_main_v30_5, step_7 V j h, step_8 V j h, step_9 V j h]
  rfl

variable (m : (ℓ : Loc nD τ sig) → Buf (Elt F) ℓ) (c : Dev nD)

/-- The state the first trip starts from. -/
def start : State F :=
  init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg5)) (m ((c.tc : Thread nD τ).loc main_arg6))

/-- The state after a number of trips. -/
def after : ℕ → State F
  | 0 => start m c
  | n + 1 => step n (after n)

set_option maxRecDepth 65536 in
set_option maxHeartbeats 400000 in
theorem held_start : held (entryContents preI m c) = start m c := by
  unfold held start init
  congr 1 <;> (simp only [entryContents, afterL_cons, afterL_nil]; after_reads_simp) <;> rfl

set_option maxRecDepth 65536 in
set_option maxHeartbeats 400000 in
theorem counts_start : Counts (entryContents preI m c) 0 := by
  unfold Counts
  (simp only [entryContents, afterL_cons, afterL_nil]; after_reads_simp) <;> rfl

theorem iterate (n : ℕ) :
    Counts (STEP^[n] (entryContents preI m c)) n ∧ held (STEP^[n] (entryContents preI m c)) = after m c n := by
  induction n with
  | zero => exact ⟨counts_start m c, held_start m c⟩
  | succ n ih =>
    rw [Function.iterate_succ_apply']
    exact ⟨counts_step _ n ih.1, (held_step _ n ih.1).trans (congrArg (step n) ih.2)⟩

theorem out_states (V : Valuation τ sig (Elt F)) : out_main_v32 V = Step.R_main_v32 (held V) := by
  unfold out_main_v32 Step.R_main_v32
  rfl

theorem out_deltas (V : Valuation τ sig (Elt F)) : out_main_v34 V = Step.R_main_v34 (held V) := by
  unfold out_main_v34 Step.R_main_v34
  rfl

theorem states : out_main_v32 (STEP^[128] (entryContents preI m c)) = Step.R_main_v32 (after m c 128) :=
  (out_states _).trans (congrArg Step.R_main_v32 (iterate m c 128).2)

theorem deltas : out_main_v34 (STEP^[128] (entryContents preI m c)) = Step.R_main_v34 (after m c 128) :=
  (out_deltas _).trans (congrArg Step.R_main_v34 (iterate m c 128).2)

end Cert.ScanRefIdeal.Own

end
-- ==== Proof.ScanRefValue.lean ====
/- Hand-written, untrusted: the scan's reference is the recurrence. -/
module

public import proofs.«01_k».proof.Proof.ScanRef
public import proofs.«01_k».proof.Proof.ScanRule
public import Idealize.ShloMosaic.Lib.Pointwise
public import Idealize.ShloMosaic.Lib.DynamicIndex

@[expose] public section

set_option maxRecDepth 16384

noncomputable section

namespace Cert.ScanRefIdeal.Own

open Idealize.ShloMosaic Idealize.ShloMosaic.TcCoe Idealize.SL.Sem Idealize.ShloMosaic.StableHlo
open Cert.ScanRefIdeal Cert.ScanRefIdeal.Gen Cert.ScanRefIdeal.Value Cert.Reals Cert.ScanRule
open Cert.ScanRefIdeal.Step (State step init)

variable (m : (ℓ : Loc nD τ sig) → Buf (Elt Ideal) ℓ) (c : Dev nD)

/-- The arguments by chunk. -/
def args : Chunks :=
  ofArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg5)) (m ((c.tc : Thread nD τ).loc main_arg6))

/-! What the first trip starts from. -/

theorem start_0 (n : Fin 128) (h : Fin 8) (r x : Fin 64) : ((start m c).main_v30_0 (ix4 n h r x) : EReal) = (args m c).d n h r x := by
  unfold start init args
  pointwise [Step.A_main_v26, Step.A_main_v25, Step.A_main_v24, Step.A_main_v23, Step.A_main_v22, Step.A_main_v21, Step.A_main_v20, Step.A_main_v19, Step.A_main_v18, Step.A_main_v17, Step.A_main_v16, Step.A_main_v15, Step.A_main_v14, Step.A_main_v13, Step.A_main_v12, Step.A_main_v11, Step.A_main_v10, Step.A_main_v9, Step.A_main_v8, Step.A_main_v7, Step.A_main_v6, Step.A_main_v5, Step.A_main_v4, Step.A_main_v3, Step.A_main_v2, Step.A_main_v1, Step.A_main_v0, ofArgs, row]

theorem start_1 (n : Fin 128) (h : Fin 8) (r x : Fin 64) : ((start m c).main_v30_1 (ix4 n h r x) : EReal) = (args m c).w n h r x := by
  unfold start init args
  pointwise [Step.A_main_v26, Step.A_main_v25, Step.A_main_v24, Step.A_main_v23, Step.A_main_v22, Step.A_main_v21, Step.A_main_v20, Step.A_main_v19, Step.A_main_v18, Step.A_main_v17, Step.A_main_v16, Step.A_main_v15, Step.A_main_v14, Step.A_main_v13, Step.A_main_v12, Step.A_main_v11, Step.A_main_v10, Step.A_main_v9, Step.A_main_v8, Step.A_main_v7, Step.A_main_v6, Step.A_main_v5, Step.A_main_v4, Step.A_main_v3, Step.A_main_v2, Step.A_main_v1, Step.A_main_v0, ofArgs, row]

theorem start_2 (n : Fin 128) (h : Fin 8) (r x : Fin 64) : ((start m c).main_v30_2 (ix4 n h r x) : EReal) = (args m c).q n h r x * Ideal.exp ((args m c).g n h r) := by
  unfold start init args
  pointwise [Step.A_main_v26, Step.A_main_v25, Step.A_main_v24, Step.A_main_v23, Step.A_main_v22, Step.A_main_v21, Step.A_main_v20, Step.A_main_v19, Step.A_main_v18, Step.A_main_v17, Step.A_main_v16, Step.A_main_v15, Step.A_main_v14, Step.A_main_v13, Step.A_main_v12, Step.A_main_v11, Step.A_main_v10, Step.A_main_v9, Step.A_main_v8, Step.A_main_v7, Step.A_main_v6, Step.A_main_v5, Step.A_main_v4, Step.A_main_v3, Step.A_main_v2, Step.A_main_v1, Step.A_main_v0, ofArgs, row]

theorem start_3 (n : Fin 128) (h : Fin 8) (r x : Fin 64) : ((start m c).main_v30_3 (ix4 n h r x) : EReal) = (args m c).qk n h r x := by
  unfold start init args
  pointwise [Step.A_main_v26, Step.A_main_v25, Step.A_main_v24, Step.A_main_v23, Step.A_main_v22, Step.A_main_v21, Step.A_main_v20, Step.A_main_v19, Step.A_main_v18, Step.A_main_v17, Step.A_main_v16, Step.A_main_v15, Step.A_main_v14, Step.A_main_v13, Step.A_main_v12, Step.A_main_v11, Step.A_main_v10, Step.A_main_v9, Step.A_main_v8, Step.A_main_v7, Step.A_main_v6, Step.A_main_v5, Step.A_main_v4, Step.A_main_v3, Step.A_main_v2, Step.A_main_v1, Step.A_main_v0, ofArgs, row]

theorem start_4 (n : Fin 128) (h : Fin 8)  : ((start m c).main_v30_4 (ix4 n h 0 0) : EReal) = Ideal.exp ((args m c).g n h 63) := by
  unfold start init args
  pointwise [Step.A_main_v26, Step.A_main_v25, Step.A_main_v24, Step.A_main_v23, Step.A_main_v22, Step.A_main_v21, Step.A_main_v20, Step.A_main_v19, Step.A_main_v18, Step.A_main_v17, Step.A_main_v16, Step.A_main_v15, Step.A_main_v14, Step.A_main_v13, Step.A_main_v12, Step.A_main_v11, Step.A_main_v10, Step.A_main_v9, Step.A_main_v8, Step.A_main_v7, Step.A_main_v6, Step.A_main_v5, Step.A_main_v4, Step.A_main_v3, Step.A_main_v2, Step.A_main_v1, Step.A_main_v0, ofArgs, row]

theorem start_5 (n : Fin 128) (h : Fin 8) (r x : Fin 64) : ((start m c).main_v30_5 (ix4 n h r x) : EReal) = (args m c).k n h r x * Ideal.exp ((args m c).g n h 63 - (args m c).g n h r) := by
  unfold start init args
  pointwise [Step.A_main_v26, Step.A_main_v25, Step.A_main_v24, Step.A_main_v23, Step.A_main_v22, Step.A_main_v21, Step.A_main_v20, Step.A_main_v19, Step.A_main_v18, Step.A_main_v17, Step.A_main_v16, Step.A_main_v15, Step.A_main_v14, Step.A_main_v13, Step.A_main_v12, Step.A_main_v11, Step.A_main_v10, Step.A_main_v9, Step.A_main_v8, Step.A_main_v7, Step.A_main_v6, Step.A_main_v5, Step.A_main_v4, Step.A_main_v3, Step.A_main_v2, Step.A_main_v1, Step.A_main_v0, ofArgs, row]

theorem start_7 (h : Fin 8) (r x : Fin 64) : ((start m c).main_v30_7 (ix3 h r x) : EReal) = 0 := by
  unfold start init
  pointwise [Step.K_main_v27, Step.K_main_cst]

/-! Where a trip reads and writes the stacks. -/

theorem counted : ∀ j : Fin 128, ((128#32 - BitVec.ofNat 32 j.val) - 1#32).toInt = ((127 - j.val : ℕ) : ℤ) := by decide +kernel

/-- The places of trip `j`'s blocks. -/
abbrev place (j : ℕ) : Fin 4 → ℕ := ![127 - j, 0, 0, 0]

theorem starts (j : ℕ) (hj : j < 128) (s : State Ideal) (a : Fin 4) :
    (((![Step.b3 j s, Step.b4 j s, Step.b5 j s, Step.b6 j s] : Fin 4 → (⟨S_, .i32⟩ : BufTy).Contents (Elt Ideal))) a (Shape.Idx.first h_S_)).toInt = (place j a : ℤ) := by
  fin_cases a
  · exact counted ⟨j, hj⟩
  all_goals rfl

theorem slice_at (x : S128x8x64x64.Idx → EReal) (st : Fin 4 → ℤ) (fits) (j : ℕ) (hj : j < 128) (e : ∀ a, st a = (place j a : ℤ))
    (h : Fin 8) (r v : Fin 64) : Host.dynamicSlice S1x8x64x64 x st fits (ix4 0 h r v) = x (ix4 (chunk j) h r v) := by
  have hoff : S128x8x64x64.Slices (place j) S1x8x64x64 := ⟨rfl, fun a => by
    fin_cases a
    · show 127 - j + 1 ≤ 128; omega
    · show 0 + 8 ≤ 8; omega
    · show 0 + 64 ≤ 64; omega
    · show 0 + 64 ≤ 64; omega⟩
  rw [Host.dynamicSlice_eq_extractStridedSlice _ x st (place j) fits hoff e]
  pointwise
  rfl

theorem slice_one (x : S128x8x1x1.Idx → EReal) (st : Fin 4 → ℤ) (fits) (j : ℕ) (hj : j < 128) (e : ∀ a, st a = (place j a : ℤ))
    (h : Fin 8) : Host.dynamicSlice S1x8x1x1 x st fits (ix4 0 h 0 0) = x (ix4 (chunk j) h 0 0) := by
  have hoff : S128x8x1x1.Slices (place j) S1x8x1x1 := ⟨rfl, fun a => by
    fin_cases a
    · show 127 - j + 1 ≤ 128; omega
    · show 0 + 8 ≤ 8; omega
    · show 0 + 1 ≤ 1; omega
    · show 0 + 1 ≤ 1; omega⟩
  rw [Host.dynamicSlice_eq_extractStridedSlice _ x st (place j) fits hoff e]
  pointwise
  rfl

theorem update_at (x : S128x8x64x64.Idx → EReal) (u : S1x8x64x64.Idx → EReal) (st : Fin 4 → ℤ) (fits) (j : ℕ) (hj : j < 128)
    (e : ∀ a, st a = (place j a : ℤ)) (n : Fin 128) (h : Fin 8) (r v : Fin 64) :
    Host.dynamicUpdateSlice x u st fits (ix4 n h r v) = if n = chunk j then u (ix4 0 h r v) else x (ix4 n h r v) := by
  have hc : ∀ a, Host.clampedStart S128x8x64x64 S1x8x64x64 fits.1 st a = place j a := fun a =>
    Host.clampedStart_of_le fits.1 st a _ (e a) (by
      fin_cases a
      · show 127 - j + 1 ≤ 128; omega
      · show 0 + 8 ≤ 8; omega
      · show 0 + 64 ≤ 64; omega
      · show 0 + 64 ≤ 64; omega)
  rw [Host.dynamicUpdateSlice_apply]
  by_cases hn : n = chunk j
  · subst hn
    rw [if_pos rfl, dif_pos (fun a => by
      rw [hc a]
      fin_cases a
      · show 127 - j ≤ 127 - j ∧ 127 - j < 127 - j + 1; omega
      · show 0 ≤ h.val ∧ h.val < 0 + 8; omega
      · show 0 ≤ r.val ∧ r.val < 0 + 64; omega
      · show 0 ≤ v.val ∧ v.val < 0 + 64; omega)]
    refine (congrArg u (Shape.Idx.norm_def _)).trans (congrArg u (funext fun a => Fin.ext ?_))
    fin_cases a <;> dsimp only <;> rw [hc]
    all_goals first | exact Nat.sub_self _ | rfl
  · rw [if_neg hn, dif_neg fun hin => hn (Fin.ext (by
      have := hin 0
      rw [hc 0] at this
      have h1 : 127 - j ≤ n.val ∧ n.val < 127 - j + 1 := this
      show n.val = 127 - j
      omega))]

theorem gradient_at (j : ℕ) (hj : j < 128) (s : State Ideal) (h : Fin 8) (r x : Fin 64) : (Step.b8 j s (ix3 h r x) : EReal) = s.main_v30_0 (ix4 (chunk j) h r x) :=
  (show (Step.b8 j s (ix3 h r x) : EReal) = Step.b7 j s (ix4 0 h r x) by pointwise [Step.b8]).trans
    (slice_at s.main_v30_0 _ _ j hj (starts j hj s) h r x)

theorem weight_at (j : ℕ) (hj : j < 128) (s : State Ideal) (h : Fin 8) (r x : Fin 64) : (Step.b13 j s (ix3 h r x) : EReal) = s.main_v30_1 (ix4 (chunk j) h r x) :=
  (show (Step.b13 j s (ix3 h r x) : EReal) = Step.b12 j s (ix4 0 h r x) by pointwise [Step.b13]).trans
    (slice_at s.main_v30_1 _ _ j hj (starts j hj s) h r x)

theorem query_at (j : ℕ) (hj : j < 128) (s : State Ideal) (h : Fin 8) (r x : Fin 64) : (Step.b18 j s (ix3 h r x) : EReal) = s.main_v30_2 (ix4 (chunk j) h r x) :=
  (show (Step.b18 j s (ix3 h r x) : EReal) = Step.b17 j s (ix4 0 h r x) by pointwise [Step.b18]).trans
    (slice_at s.main_v30_2 _ _ j hj (starts j hj s) h r x)

theorem inner_at (j : ℕ) (hj : j < 128) (s : State Ideal) (h : Fin 8) (r x : Fin 64) : (Step.b23 j s (ix3 h r x) : EReal) = s.main_v30_3 (ix4 (chunk j) h r x) :=
  (show (Step.b23 j s (ix3 h r x) : EReal) = Step.b22 j s (ix4 0 h r x) by pointwise [Step.b23]).trans
    (slice_at s.main_v30_3 _ _ j hj (starts j hj s) h r x)

theorem key_at (j : ℕ) (hj : j < 128) (s : State Ideal) (h : Fin 8) (r x : Fin 64) : (Step.b33 j s (ix3 h r x) : EReal) = s.main_v30_5 (ix4 (chunk j) h r x) :=
  (show (Step.b33 j s (ix3 h r x) : EReal) = Step.b32 j s (ix4 0 h r x) by pointwise [Step.b33]).trans
    (slice_at s.main_v30_5 _ _ j hj (starts j hj s) h r x)

theorem decay_at (j : ℕ) (hj : j < 128) (s : State Ideal) (h : Fin 8) : (Step.b28 j s (ix3 h 0 0) : EReal) = s.main_v30_4 (ix4 (chunk j) h 0 0) :=
  (show (Step.b28 j s (ix3 h 0 0) : EReal) = Step.b27 j s (ix4 0 h 0 0) by pointwise [Step.b28]).trans
    (slice_one s.main_v30_4 _ _ j hj (starts j hj s) h)

theorem values_stacked (j : ℕ) (hj : j < 128) (s : State Ideal) (n : Fin 128) (h : Fin 8) (r v : Fin 64) :
    (Step.b52 j s (ix4 n h r v) : EReal) = if n = chunk j then (Step.b40 j s (ix3 h r v) : EReal) else s.main_v30_8 (ix4 n h r v) :=
  (update_at s.main_v30_8 (Step.b48 j s) _ _ j hj (starts j hj s) n h r v).trans (by
    rw [show (Step.b48 j s (ix4 0 h r v) : EReal) = Step.b40 j s (ix3 h r v) by pointwise [Step.b48]])

theorem states_stacked (j : ℕ) (hj : j < 128) (s : State Ideal) (n : Fin 128) (h : Fin 8) (r v : Fin 64) :
    (Step.b57 j s (ix4 n h r v) : EReal) = if n = chunk j then (s.main_v30_7 (ix3 h r v) : EReal) else s.main_v30_9 (ix4 n h r v) :=
  (update_at s.main_v30_9 (Step.b53 j s) _ _ j hj (starts j hj s) n h r v).trans (by
    rw [show (Step.b53 j s (ix4 0 h r v) : EReal) = s.main_v30_7 (ix3 h r v) by pointwise [Step.b53]])

/-! The trips, one after another. -/

/-- What no trip changes. -/
theorem kept (n : ℕ) : (after m c n).main_v30_0 = (start m c).main_v30_0 ∧ (after m c n).main_v30_1 = (start m c).main_v30_1
    ∧ (after m c n).main_v30_2 = (start m c).main_v30_2 ∧ (after m c n).main_v30_3 = (start m c).main_v30_3
    ∧ (after m c n).main_v30_4 = (start m c).main_v30_4 ∧ (after m c n).main_v30_5 = (start m c).main_v30_5 := by
  induction n with
  | zero => exact ⟨rfl, rfl, rfl, rfl, rfl, rfl⟩
  | succ n ih => exact ih

/-- The gradient of a chunk's values, from the carried gradient. -/
theorem value_at (j : ℕ) (hj : j < 128) {s : Carry} (e : ∀ h r v, ((after m c j).main_v30_7 (ix3 h r v) : EReal) = s h r v) (h : Fin 8) (r v : Fin 64) :
    (Step.b40 j (after m c j) (ix3 h r v) : EReal) = delta (args m c) (chunk j) s h r v := by
  obtain ⟨k0, k1, k2, k3, k4, k5⟩ := kept m c j
  pointwise [Step.b40, Step.b39, Step.b38, Step.b35, Step.b34]
  simp only [gradient_at j hj, inner_at j hj, key_at j hj, k0, k3, k5, e, start_0, start_3, start_5]
  unfold delta
  rw [add_comm]
  exact congr (congrArg (HAdd.hAdd (α := EReal) (β := EReal) (γ := EReal)) (Finset.sum_congr rfl fun x _ => mul_comm _ _)) (Finset.sum_congr rfl fun x _ => mul_comm _ _)

/-- The gradient it carries on. -/
theorem carry_at (hA : (args m c).Finite) (j : ℕ) (hj : j ≤ 128) : ∀ h r v, ((after m c j).main_v30_7 (ix3 h r v) : EReal) = carried (args m c) j h r v := by
  induction j with
  | zero => exact start_7 m c
  | succ j ih =>
    intro h r v
    have hj' : j < 128 := hj
    obtain ⟨k0, k1, k2, k3, k4, k5⟩ := kept m c j
    have e := ih hj'.le
    refine Eq.trans ?_ (onward_eq hA (chunk j) (isReal_carried hA j) h r v).symm
    show (Step.b47 j (after m c j) (ix3 h r v) : EReal) = _
    pointwise [Step.b47, Step.b46, Step.b45, Step.b44, Step.b43, Step.b42, Step.b41, Step.b37, Step.b36]
    simp only [gradient_at j hj', query_at j hj', weight_at j hj', decay_at j hj', k0, k1, k2, k4, e, start_0, start_1, start_2, start_4, value_at m c j hj' e]

/-- The stacks: chunk `n` is written by trip `127 - n` and by no other. -/
theorem stack_at (hA : (args m c).Finite) (j : ℕ) (hj : j ≤ 128) : ∀ n : Fin 128, 128 ≤ n.val + j → ∀ h r v,
    ((after m c j).main_v30_9 (ix4 n h r v) : EReal) = carried (args m c) (127 - n.val) h r v
      ∧ ((after m c j).main_v30_8 (ix4 n h r v) : EReal) = delta (args m c) n (carried (args m c) (127 - n.val)) h r v := by
  induction j with
  | zero => intro n hn; omega
  | succ j ih =>
    intro n hn h r v
    have hj' : j < 128 := hj
    have e := carry_at m c hA j hj'.le
    have a9 : ((after m c (j + 1)).main_v30_9 (ix4 n h r v) : EReal) = _ := states_stacked j hj' (after m c j) n h r v
    have a8 : ((after m c (j + 1)).main_v30_8 (ix4 n h r v) : EReal) = _ := values_stacked j hj' (after m c j) n h r v
    by_cases hn' : n = chunk j
    · have hv : n.val = 127 - j := congrArg Fin.val hn'
      have : 127 - n.val = j := by omega
      rw [this, a9, a8, if_pos hn', if_pos hn', value_at m c j hj' e, e, hn']
      exact ⟨rfl, rfl⟩
    · rw [a9, a8, if_neg hn', if_neg hn']
      refine ih hj'.le n ?_ h r v
      by_contra hh
      exact hn' (Fin.ext (show n.val = 127 - j by omega))

/-- The reference's results. -/
theorem states_value (hA : (args m c).Finite) (y : S8x8192x64.Idx) :
    (out_main_v32 (STEP^[128] (entryContents preI m c)) y : EReal)
      = carried (args m c) (127 - (y 1).val / 64) (y 0) ⟨(y 1).val % 64, Nat.mod_lt _ (by decide)⟩ (y 2) := by
  rw [states]
  refine Eq.trans (show _ = ((after m c 128).main_v30_9 (ix4 ⟨(y 1).val / 64, by have : (y 1).val < 8192 := (y 1).isLt; omega⟩ (y 0) ⟨(y 1).val % 64, Nat.mod_lt _ (by decide)⟩ (y 2)) : EReal) from ?_) ?_
  · pointwise [Step.R_main_v32]
  · exact (stack_at m c hA 128 le_rfl _ (Nat.le_add_left _ _) _ _ _).1

theorem deltas_value (hA : (args m c).Finite) (y : S8x8192x64.Idx) :
    (out_main_v34 (STEP^[128] (entryContents preI m c)) y : EReal)
      = delta (args m c) ⟨(y 1).val / 64, by have : (y 1).val < 8192 := (y 1).isLt; omega⟩ (carried (args m c) (127 - (y 1).val / 64)) (y 0) ⟨(y 1).val % 64, Nat.mod_lt _ (by decide)⟩ (y 2) := by
  rw [deltas]
  refine Eq.trans (show _ = ((after m c 128).main_v30_8 (ix4 ⟨(y 1).val / 64, by have : (y 1).val < 8192 := (y 1).isLt; omega⟩ (y 0) ⟨(y 1).val % 64, Nat.mod_lt _ (by decide)⟩ (y 2)) : EReal) from ?_) ?_
  · pointwise [Step.R_main_v34]
  · exact (stack_at m c hA 128 le_rfl _ (Nat.le_add_left _ _) _ _ _).2

/-- The results, and the arguments as they were. -/
theorem results_run (hA : ∀ c, (args m c).Finite) (ρ : Dev nD → PrngReg) :
    θ_run defs (onTc (τ := τ) (main (F := Ideal))) ⟨m, fun _ => 0, ρ⟩ (fun r => ∀ c : Dev nD,
      r.2.mem ((c.tc : Thread nD τ).loc main_v32) = ScanRule.states (args m c)
      ∧ r.2.mem ((c.tc : Thread nD τ).loc main_v34) = ScanRule.deltas (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (funext fun y => states_value m c (hA c) y),
    (h c).2.1.trans (funext fun y => deltas_value m c (hA c) y), (h c).2.2⟩) (run m ρ)

end Cert.ScanRefIdeal.Own

end
-- ==== Proof.ScanClaims.lean ====
/- Hand-written, untrusted: the claims about the scan of the delta rule's gradient. -/
module

public import proofs.«01_k».proof.Proof.ScanValue
public import proofs.«01_k».proof.Proof.ScanRefValue
public import proofs.«01_k».proof.Proof.Gen.Scan.Launch
public import proofs.«01_k».proof.Proof.Gen.ScanRefIdeal.Run
public import Idealize.ShloMosaic.Lib.Claim
public import Idealize.ShloMosaic.Lib.Quiescent

@[expose] public section

set_option maxRecDepth 16384

noncomputable section

namespace Cert.ScanClaims

open Idealize.ShloMosaic Idealize.SL.Sem

variable {F : FTy → Type} [FloatOps F]

theorem pre_facts : Cert.Pre_finite_scan.Facts := ⟨by decide, by decide, by decide⟩

/-- The two programs launch the same body. -/
theorem bodies : Cert.Scan.defs₀ (F := F) = Cert.ScanIdeal.defs₀ (F := F) := by
  unfold Cert.Scan.defs₀ Cert.ScanIdeal.defs₀
  refine congrArg Defs.onTc (funext fun l => funext fun x => ?_)
  match l, x with
  | 0, (t, s) => with_unfolding_all rfl

theorem kernel : Cert.quiescent_Scan := fun m g _ => by
  unfold Cert.Scan.defs
  rw [bodies]
  with_unfolding_all exact Cert.ScanIdeal.Own.frame_run (F := Bits) m g

theorem ideal : Cert.quiescent_ScanIdeal := fun m g _ => Cert.ScanIdeal.Own.frame_run m g

theorem ideal_pre [Cert.Pre_finite_scan.Facts] : Cert.quiescent_ScanIdeal_pre_finite_scan := fun m g _ => Cert.ScanIdeal.Own.frame_run m g

theorem reference : Cert.quiescent_ScanRefIdeal := by
  intro m g _
  run_from Cert.ScanRefIdeal.Value.run m g
  · exact fun _ => ⟨trivial, trivial, trivial, trivial, trivial, trivial, trivial⟩
  · exact sem_eq_zero_of_no_sems (sig := Cert.ScanRefIdeal.sig) (by decide) _

theorem reference_pre [Cert.Pre_finite_scan.Facts] : Cert.quiescent_ScanRefIdeal_pre_finite_scan := fun m g _ => reference m g trivial

/-- Equal arguments are equal by chunk. -/
theorem args_eq {m : (ℓ : Loc Cert.ScanIdeal.nD Cert.ScanIdeal.τ Cert.ScanIdeal.sig) → Buf (Elt Ideal) ℓ}
    {m' : (ℓ : Loc Cert.ScanRefIdeal.nD Cert.ScanRefIdeal.τ Cert.ScanRefIdeal.sig) → Buf (Elt Ideal) ℓ} {c : Dev Cert.ScanIdeal.nD}
    (h0 : m' ((c.tc : Thread _ _).loc Cert.ScanRefIdeal.main_arg0) = m ((c.tc : Thread _ _).loc Cert.ScanIdeal.main_arg0))
    (h1 : m' ((c.tc : Thread _ _).loc Cert.ScanRefIdeal.main_arg1) = m ((c.tc : Thread _ _).loc Cert.ScanIdeal.main_arg1))
    (h2 : m' ((c.tc : Thread _ _).loc Cert.ScanRefIdeal.main_arg2) = m ((c.tc : Thread _ _).loc Cert.ScanIdeal.main_arg2))
    (h3 : m' ((c.tc : Thread _ _).loc Cert.ScanRefIdeal.main_arg3) = m ((c.tc : Thread _ _).loc Cert.ScanIdeal.main_arg3))
    (h5 : m' ((c.tc : Thread _ _).loc Cert.ScanRefIdeal.main_arg5) = m ((c.tc : Thread _ _).loc Cert.ScanIdeal.main_arg5))
    (h6 : m' ((c.tc : Thread _ _).loc Cert.ScanRefIdeal.main_arg6) = m ((c.tc : Thread _ _).loc Cert.ScanIdeal.main_arg6)) :
    Cert.ScanRefIdeal.Own.args m' c = Cert.ScanIdeal.Own.args m c := by
  unfold Cert.ScanRefIdeal.Own.args
  rw [h0, h1, h2, h3, h5, h6]
  rfl

theorem value [Cert.Pre_finite_scan.Facts] : Cert.algebraic_ScanIdeal_ScanRefIdeal_pre_finite_scan := by
  intro m g m' g' hpre hagree
  have e : ∀ c, Cert.ScanRefIdeal.Own.args m' c = Cert.ScanIdeal.Own.args m c := fun c =>
    args_eq (hagree c).1 (hagree c).2.1 (hagree c).2.2.1 (hagree c).2.2.2.1 (hagree c).2.2.2.2.2.1 (hagree c).2.2.2.2.2.2
  have h := Cert.ScanRefIdeal.Own.results_run m' (fun c => (e c).symm ▸ Cert.ScanIdeal.Own.finite m c hpre) g'
  simp only [e] at h
  exact ⟨_, _, Cert.ScanIdeal.Own.results_run m g, h⟩

end Cert.ScanClaims

end
-- ==== Proof.PassRun.lean ====
/- Hand-written, untrusted: the run of the delta rule's forward scan (`delta_scan_fwd`). A point's loop only stores into its
   outputs' staging buffers, so what it stores does not depend on what they held; with that the body's triple, the state
   carried between points, the launch and the frame. -/
module

public import proofs.«01_k».proof.Proof.Gen.PassIdeal.Frame.Runs
public import Idealize.ShloMosaic.Lib.Pipeline.FrameBody
public import Idealize.ShloMosaic.Lib.Claim
public import Idealize.ShloMosaic.Lib.Quiescent

@[expose] public section

set_option maxRecDepth 16384

noncomputable section

namespace Cert.PassIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.PassIdeal Cert.PassIdeal.Gen

variable {F : FTy → Type} [FloatOps F]

/-- A trip's pieces do not depend on what the outputs' staging buffers held: the trip only stores into them. -/
theorem trip_indep (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S8x512x64 .f32) (harg6 : arg6.IsWhole) (arg7 : Memref sig .tc .vmem S512x512 .f32) (harg7 : arg7.IsWhole) (arg8 : Memref sig .tc .vmem S8x512x64 .f32) (harg8 : arg8.IsWhole) (arg9 : Memref sig .tc .vmem S8x64x64 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (G7 : BufTy.Contents (Elt F) arg7.view.ty) (G8 : BufTy.Contents (Elt F) arg8.view.ty) (G'7 : BufTy.Contents (Elt F) arg7.view.ty) (G'8 : BufTy.Contents (Elt F) arg8.view.ty) (G9 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k G7 G8 G9 = tripL_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k G'7 G'8 G9 := by
  unfold tripL_k0_t1 trip_k0_t1
  rfl

/-- Nor do the pieces of all the trips before `n`. -/
theorem pb_indep (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S8x512x64 .f32) (harg6 : arg6.IsWhole) (arg7 : Memref sig .tc .vmem S512x512 .f32) (harg7 : arg7.IsWhole) (arg8 : Memref sig .tc .vmem S8x512x64 .f32) (harg8 : arg8.IsWhole) (arg9 : Memref sig .tc .vmem S8x64x64 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G7 : BufTy.Contents (Elt F) arg7.view.ty) (G8 : BufTy.Contents (Elt F) arg8.view.ty) (G'7 : BufTy.Contents (Elt F) arg7.view.ty) (G'8 : BufTy.Contents (Elt F) arg8.view.ty) (G9 : BufTy.Contents (Elt F) arg9.view.ty) (n : ℕ) :
    pb_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 G7 G8 G9 n = pb_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 G'7 G'8 G9 n := by
  induction n with
  | zero => rfl
  | succ n ih =>
    rw [pb_k0_t1.eq_2, pb_k0_t1.eq_2, ih]
    unfold pb_k0_t1Step
    split
    · exact congrArg (fun T : List (View.Piece (Elt F) S512x512 .f32) × List (View.Piece (Elt F) S8x512x64 .f32) × List (View.Piece (Elt F) S8x64x64 .f32) => (T.1 ++ _, T.2.1 ++ _, T.2.2 ++ _)) (trip_indep (F := F) 𝒱 c bd i arg1 harg1 arg2 harg2 arg3 harg3 arg4 harg4 arg5 harg5 arg6 harg6 arg7 harg7 arg8 harg8 arg9 harg9 X_arg1 X_arg2 X_arg3 X_arg4 X_arg5 X_arg6 _ _ _ _ _ _)
    · rfl

local notation "𝕄" => MT nD τ sig Unit (Elt F) ℕ (UR sig nD τ) ℕ

/-- What the eight trips of a point's loop store (the last store first) into the two outputs' staging buffers and into the
    carried state, on inputs `x·` and the state `xs`. -/
def pieces (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S8x512x64 .f32) (harg6 : arg6.IsWhole) (arg7 : Memref sig .tc .vmem S512x512 .f32) (harg7 : arg7.IsWhole) (arg8 : Memref sig .tc .vmem S8x512x64 .f32) (harg8 : arg8.IsWhole) (arg9 : Memref sig .tc .vmem S8x64x64 .f32) (harg9 : arg9.IsWhole) (x0 x1 x2 : Vec F S1x512x512 .f32) (x3 x4 x5 : Vec F S8x512x64 .f32) (xs : Vec F S8x64x64 .f32) :
    List (View.Piece (Elt F) S512x512 .f32) × List (View.Piece (Elt F) S8x512x64 .f32) × List (View.Piece (Elt F) S8x64x64 .f32) :=
  pb_k0_t1 (F := F) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) arg7.view.junk arg8.view.junk (harg9.unread xs)
    (Scf.trips k0_t1_loop.lb k0_t1_loop.ub k0_t1_loop.st)

/-- The stores into output 6's staging buffer tile it. -/
theorem cover_6 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S8x512x64 .f32) (harg6 : arg6.IsWhole) (arg7 : Memref sig .tc .vmem S512x512 .f32) (harg7 : arg7.IsWhole) (arg8 : Memref sig .tc .vmem S8x512x64 .f32) (harg8 : arg8.IsWhole) (arg9 : Memref sig .tc .vmem S8x64x64 .f32) (harg9 : arg9.IsWhole) (x0 x1 x2 : Vec F S1x512x512 .f32) (x3 x4 x5 : Vec F S8x512x64 .f32) (xs : Vec F S8x64x64 .f32) (y : S512x512.Idx) :
    ∃ pc ∈ (pieces c i arg1 harg1 arg2 harg2 arg3 harg3 arg4 harg4 arg5 harg5 arg6 harg6 arg7 harg7 arg8 harg8 arg9 harg9 x0 x1 x2 x3 x4 x5 xs).1, y ∈ pc.1.set :=
  View.cover_of_tiledL (pieces c i arg1 harg1 arg2 harg2 arg3 harg3 arg4 harg4 arg5 harg5 arg6 harg6 arg7 harg7 arg8 harg8 arg9 harg9 x0 x1 x2 x3 x4 x5 xs).1 S64x64.size (by sl_kernel_rfl) y

/-- The stores into output 7's staging buffer tile it. -/
theorem cover_7 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S8x512x64 .f32) (harg6 : arg6.IsWhole) (arg7 : Memref sig .tc .vmem S512x512 .f32) (harg7 : arg7.IsWhole) (arg8 : Memref sig .tc .vmem S8x512x64 .f32) (harg8 : arg8.IsWhole) (arg9 : Memref sig .tc .vmem S8x64x64 .f32) (harg9 : arg9.IsWhole) (x0 x1 x2 : Vec F S1x512x512 .f32) (x3 x4 x5 : Vec F S8x512x64 .f32) (xs : Vec F S8x64x64 .f32) (y : S8x512x64.Idx) :
    ∃ pc ∈ (pieces c i arg1 harg1 arg2 harg2 arg3 harg3 arg4 harg4 arg5 harg5 arg6 harg6 arg7 harg7 arg8 harg8 arg9 harg9 x0 x1 x2 x3 x4 x5 xs).2.1, y ∈ pc.1.set :=
  View.cover_of_tiledL (pieces c i arg1 harg1 arg2 harg2 arg3 harg3 arg4 harg4 arg5 harg5 arg6 harg6 arg7 harg7 arg8 harg8 arg9 harg9 x0 x1 x2 x3 x4 x5 xs).2.1 S1x64x64.size (by sl_kernel_rfl) y

/-- The state the first point starts from: the constant it stores. -/
def zero : Vec F S8x64x64 .f32 := k0_pay1 (F := F)

theorem start_coord : ∀ (a : Fin S8x64x64.rank) (n : ℕ), n = (![0, 0, 0] : Fin 3 → ℕ) a + 1 * n := by
  intro a n
  fin_cases a <;> exact ((Nat.zero_add _).trans (Nat.one_mul n)).symm

/-- Stored over the whole buffer, it is what the buffer holds. -/
theorem start_zero (arg9 : Memref sig .tc .vmem S8x64x64 .f32) (harg9 : arg9.IsWhole) :
    arg9.view.writes (Elt F) arg9.view.junk [⟨Rect.unit (s := S8x64x64) ![0, 0, 0] S8x64x64.size inb_S8x64x64_S8x64x64_0_0_0, k0_pay1 (F := F)⟩] = harg9.unread zero := by
  refine harg9.eq_unread ?_
  funext y
  refine (View.read_writes_cons_hit_of_coords (Val := Elt F) arg9.view arg9.view.junk (Rect.unit (s := S8x64x64) ![0, 0, 0] S8x64x64.size inb_S8x64x64_S8x64x64_0_0_0)
    (k0_pay1 (F := F)) [] ?_ y ?_).trans ?_
  · exact y
  · exact fun a => start_coord a (y a).val
  · exact rfl

/-- The body at the first point: the state starts at zero whatever the scratch held. -/
theorem run_first (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S8x512x64 .f32) (harg6 : arg6.IsWhole) (arg7 : Memref sig .tc .vmem S512x512 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 x1 x2 : Vec F S1x512x512 .f32) (x3 x4 x5 : Vec F S8x512x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VO0_6.read (Elt F) (VO0_6.writes (Elt F) VO0_6.junk (pieces c i arg1 harg1 arg2 harg2 arg3 harg3 arg4 harg4 arg5 harg5 arg6 harg6 arg7 harg7 arg8 harg8 arg9 harg9 x0 x1 x2 x3 x4 x5 zero).1))
            ∗ owns (c : Thread nD τ) arg8 fullShare (VO0_7.read (Elt F) (VO0_7.writes (Elt F) VO0_7.junk (pieces c i arg1 harg1 arg2 harg2 arg3 harg3 arg4 harg4 arg5 harg5 arg6 harg6 arg7 harg7 arg8 harg8 arg9 harg9 x0 x1 x2 x3 x4 x5 zero).2.1))
            ∗ owns (c : Thread nD τ) arg9 fullShare (arg9.view.read (Elt F) (arg9.view.writes (Elt F) (harg9.unread zero) (pieces c i arg1 harg1 arg2 harg2 arg3 harg3 arg4 harg4 arg5 harg5 arg6 harg6 arg7 harg7 arg8 harg8 arg9 harg9 x0 x1 x2 x3 x4 x5 zero).2.2))) -∗ K ⟨⟩))
      ⊢ wp frame (wpE (defs₀ (F := F)) Variants.none c none) E (cc0_delta_scan_fwd i arg1 harg1 arg2 harg2 arg3 harg3 arg4 harg4 arg5 harg5 arg6 harg6 arg7 harg7 arg8 harg8 arg9 harg9) K := by
  simp only [cc0_delta_scan_fwd_eq_skeleton]; unfold cc0_delta_scan_fwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  rw [pb_indep (F := F) (G7 := f6) (G8 := f7) (G'7 := arg7.view.junk) (G'8 := arg8.view.junk)]
  simp only [View.writes_append]
  rw [show arg9.view.writes (Elt F) arg9.view.junk run_first.sl.HS0_1 = harg9.unread zero from start_zero arg9 harg9]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact View.read_writes_of_cover _ _ _ _ _ (cover_6 c i arg1 harg1 arg2 harg2 arg3 harg3 arg4 harg4 arg5 harg5 arg6 harg6 arg7 harg7 arg8 harg8 arg9 harg9 x0 x1 x2 x3 x4 x5 _)
  isplitl [H7]
  · iexists _; isplitr; swap; · iexact H7
    ipureintro; exact View.read_writes_of_cover _ _ _ _ _ (cover_7 c i arg1 harg1 arg2 harg2 arg3 harg3 arg4 harg4 arg5 harg5 arg6 harg6 arg7 harg7 arg8 harg8 arg9 harg9 x0 x1 x2 x3 x4 x5 _)
  iexists _; isplitr; swap; · iexact HS0
  ipureintro; rfl

/-- The body at a later point: the state is what the point before left. -/
theorem run_next (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S8x512x64 .f32) (harg6 : arg6.IsWhole) (arg7 : Memref sig .tc .vmem S512x512 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 x1 x2 : Vec F S1x512x512 .f32) (x3 x4 x5 : Vec F S8x512x64 .f32) (xs : Vec F S8x64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (VO0_6.read (Elt F) (VO0_6.writes (Elt F) VO0_6.junk (pieces c i arg1 harg1 arg2 harg2 arg3 harg3 arg4 harg4 arg5 harg5 arg6 harg6 arg7 harg7 arg8 harg8 arg9 harg9 x0 x1 x2 x3 x4 x5 xs).1))
            ∗ owns (c : Thread nD τ) arg8 fullShare (VO0_7.read (Elt F) (VO0_7.writes (Elt F) VO0_7.junk (pieces c i arg1 harg1 arg2 harg2 arg3 harg3 arg4 harg4 arg5 harg5 arg6 harg6 arg7 harg7 arg8 harg8 arg9 harg9 x0 x1 x2 x3 x4 x5 xs).2.1))
            ∗ owns (c : Thread nD τ) arg9 fullShare (arg9.view.read (Elt F) (arg9.view.writes (Elt F) (harg9.unread xs) (pieces c i arg1 harg1 arg2 harg2 arg3 harg3 arg4 harg4 arg5 harg5 arg6 harg6 arg7 harg7 arg8 harg8 arg9 harg9 x0 x1 x2 x3 x4 x5 xs).2.2))) -∗ K ⟨⟩))
      ⊢ wp frame (wpE (defs₀ (F := F)) Variants.none c none) E (cc0_delta_scan_fwd i arg1 harg1 arg2 harg2 arg3 harg3 arg4 harg4 arg5 harg5 arg6 harg6 arg7 harg7 arg8 harg8 arg9 harg9) K := by
  simp only [cc0_delta_scan_fwd_eq_skeleton]; unfold cc0_delta_scan_fwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
  sl_exec (disch := first | sl_exact hc0)
  sl_step
  rw [pb_indep (F := F) (G7 := f6) (G8 := f7) (G'7 := arg7.view.junk) (G'8 := arg8.view.junk)]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact View.read_writes_of_cover _ _ _ _ _ (cover_6 c i arg1 harg1 arg2 harg2 arg3 harg3 arg4 harg4 arg5 harg5 arg6 harg6 arg7 harg7 arg8 harg8 arg9 harg9 x0 x1 x2 x3 x4 x5 _)
  isplitl [H7]
  · iexists _; isplitr; swap; · iexact H7
    ipureintro; exact View.read_writes_of_cover _ _ _ _ _ (cover_7 c i arg1 harg1 arg2 harg2 arg3 harg3 arg4 harg4 arg5 harg5 arg6 harg6 arg7 harg7 arg8 harg8 arg9 harg9 x0 x1 x2 x3 x4 x5 _)
  iexists _; isplitr; swap; · iexact HS0
  ipureintro; rfl

variable (m : (ℓ : Loc nD τ sig) → Buf (Elt F) ℓ) (ρ : Dev nD → PrngReg)

/-- What point `t` stores, on its blocks and the state `xs`. -/
def at_point (c : Dev nD) (t : Fin cfg0.N) (xs : Vec F S8x64x64 .f32) :=
  pieces c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) xs

/-- The state point `t` leaves from the state `xs`. -/
def next (c : Dev nD) (t : Fin cfg0.N) (xs : Vec F S8x64x64 .f32) : Vec F S8x64x64 .f32 :=
  VS0_0.read (Elt F) (VS0_0.writes (Elt F) ((Memref.isWhole_whole _ : scM0_0.IsWhole).unread xs) (at_point m c t xs).2.2)

/-- The state before the point at position `n`. -/
def state (c : Dev nD) : ℕ → Vec F S8x64x64 .f32
  | 0 => zero
  | n + 1 => if h : n < cfg0.N then next m c ⟨n, h⟩ (state c n) else state c n

theorem state_succ (c : Dev nD) (t : Fin cfg0.N) : state m c (t.val + 1) = next m c t (state m c t.val) := by
  exact (show state m c (t.val + 1) = if h : t.val < cfg0.N then next m c ⟨t.val, h⟩ (state m c t.val) else state m c t.val from rfl).trans (dif_pos t.isLt)

/-- What point `t` leaves in the outputs' staging buffers. -/
def out_6 (c : Dev nD) (t : Fin cfg0.N) : Vec F S512x512 .f32 :=
  VO0_6.read (Elt F) (VO0_6.writes (Elt F) VO0_6.junk (at_point m c t (state m c t.val)).1)
def out_7 (c : Dev nD) (t : Fin cfg0.N) : Vec F S8x512x64 .f32 :=
  VO0_7.read (Elt F) (VO0_7.writes (Elt F) VO0_7.junk (at_point m c t (state m c t.val)).2.1)

/-- The invariant before position `n`: the scratch at anything before the first point, at the state afterwards. -/
def inv (c : Dev nD) : ℕ → sProp 𝕄
  | 0 => Pipeline.ΦA spec0 c
  | n + 1 => iprop(owns (c : Thread nD τ) scM0_0 fullShare (state m c (n + 1)) ∗ (∃ r, prngReg c r))

theorem inv_pos (c : Dev nD) (n : ℕ) (h : n ≠ 0) :
    inv m c n = iprop(owns (c : Thread nD τ) scM0_0 fullShare (state m c n) ∗ (∃ r, prngReg c r)) := by
  cases n with
  | zero => exact absurd rfl h
  | succ n => rfl

/-- The pipeline's proof data: the inputs' buffers keep their blocks, the outputs' hold what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out_6 m c t
    | ⟨7, _⟩ => out_7 m c t
  Φ t := inv m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out_6 m c t := by dsimp only [dats]
theorem after_7 (c : Dev nD) (t : Fin cfg0.N) : (dats m 0 c).after 7 t = out_7 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

set_option maxHeartbeats 2000000 in
/-- The body at any point, from the library's precondition to its postcondition with the windows one by one. -/
theorem body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t)
        ∗ owns (c : Thread nD τ) (ms0_7 t) fullShare ((dats m 0 c).after 7 t))) := by
  unfold bodyAt0
  simp only [before_0, before_1, before_2, before_3, before_4, before_5, after_0, after_1, after_2, after_3, after_4, after_5, after_6, after_7]
  rw [show (dats m 0 c).owesAt () t.succ = (dats m 0 c).owesAt () t.castSucc from rfl,
    show (dats m 0 c).Φ t.succ = inv m c (t.val + 1) from rfl, show (dats m 0 c).Φ t.castSucc = inv m c t.val from rfl,
    inv_pos m c (t.val + 1) (Nat.succ_ne_zero _), state_succ]
  have hN : t.val < 16 := lt_of_lt_of_eq t.isLt (show cfg0.N = 16 from N_0)
  by_cases h0 : t.val = 0
  · rw [show inv m c t.val = Pipeline.ΦA spec0 c by rw [h0]; rfl, PhiA0_eq]
    unfold next out_6 out_7
    rw [show state m c t.val = zero by rw [h0]; rfl]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr (by omega)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_pos m c t.val h0]
    unfold next out_6 out_7
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => absurd ((hcond0_0 t).mp h) (by omega)) (iblk m c 0 t) (iblk m c 1 t) (iblk m c 2 t) (iblk m c 3 t) (iblk m c 4 t) (iblk m c 5 t) (state m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body m c t) rfl .rfl fun _ => .rfl

/-- Before the first point the invariant is what the launch hands over, -/
theorem inv_in (c : Dev nD) : Pipeline.ΦA spec0 c ⊢ (dats m 0 c).Φ 0 :=
  Idealize.SL.BI.Entails.refl _

/-- and after the last it gives it back. -/
theorem inv_out (c : Dev nD) : (dats m 0 c).Φ (Fin.last cfg0.N) ⊢ Pipeline.ΦA spec0 c := by
  rw [show (dats m 0 c).Φ (Fin.last cfg0.N) = inv m c cfg0.N from rfl, inv_pos m c _ (by rw [show cfg0.N = 16 from N_0]; decide), PhiA0_eq]
  iintro ⟨HS0, Hg⟩
  isplitl [HS0]
  · iexists _; iexact HS0
  iexact Hg

set_option backward.isDefEq.respectTransparency.types false in
/-- The launch, with every counter back at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.PassIdeal.Own

end
-- ==== Proof.PassTrip.lean ====
/- Hand-written, untrusted: one trip of the scan's loop, told by the blocks and the state it starts from, and the trips of a
   point one after another. -/
module

public import proofs.«01_k».proof.Proof.PassRun
public import Idealize.ShloMosaic.Lib.WholeRead
public import Idealize.ShloMosaic.Lib.Pipeline.ValueKit

@[expose] public section

set_option maxRecDepth 16384

noncomputable section

namespace Cert.PassIdeal.Own

open Idealize.ShloMosaic Idealize.ShloMosaic.TcCoe Idealize.SL.Sem
open Cert.PassIdeal Cert.PassIdeal.Gen

variable {F : FTy → Type} [FloatOps F]

theorem trips_eq : k0_t1_loop.trips = 8 := by decide +kernel

theorem rowlt (k : ℕ) (r : Fin 64) : (64 * k + r.val) % 512 < 512 := Nat.mod_lt _ (by decide)
theorem row_eq {k : Fin k0_t1_loop.trips} {z : ℕ} (hz : z < 64) : 64 * k.val + 1 * z = (64 * k.val + z) % 512 :=
  (by omega : ∀ k z : ℕ, k < 8 → z < 64 → 64 * k + 1 * z = (64 * k + z) % 512) _ _ (lt_of_lt_of_eq k.isLt trips_eq) hz
theorem lanelt (h : Fin 8) (d : Fin 64) : 64 * h.val + d.val < 512 := by omega

/-- The rows of trip `k` and the lanes of head `h` in a block of a plane, of one head's rows, of the state. -/
def plane (x : Vec F S1x512x512 .f32) (k : ℕ) (h : Fin 8) : Vec F S1x64x64 .f32 := fun z =>
  x (ix3 0 ⟨(64 * k + (z 1).val) % 512, rowlt k (z 1)⟩ ⟨64 * h.val + (z 2).val, lanelt h (z 2)⟩)
def head (x : Vec F S8x512x64 .f32) (k : ℕ) (h : Fin 8) : Vec F S1x64x64 .f32 := fun z =>
  x (ix3 h ⟨(64 * k + (z 1).val) % 512, rowlt k (z 1)⟩ (z 2))
def cell (s : Vec F S8x64x64 .f32) (h : Fin 8) : Vec F S1x64x64 .f32 := fun z => s (ix3 h (z 1) (z 2))

theorem load_plane {a : Memref sig .tc .vmem S1x512x512 .f32} (ha : a.IsWhole) (x : Vec F S1x512x512 .f32) (k : Fin k0_t1_loop.trips) (h : Fin 8)
    {off : Fin 3 → ℕ} (e : off = ![0, 64 * k.val, 64 * h.val]) (inb) :
    View.readAt (Elt F) a.view (Rect.unit (s := S1x512x512) off ![1, 64, 64] inb).toLoadRect (ha.unread x) = plane x k.val h := by
  subst e
  funext z
  refine (ha.readAt_unread x _ z).trans (congrArg x (funext fun b => ?_))
  fin_cases b <;> refine Fin.ext ?_
  · exact (by omega : ∀ n : ℕ, n < 1 → 0 + 1 * n = 0) _ (z 0).isLt
  · exact row_eq (z 1).isLt
  · exact congrArg (64 * h.val + ·) (Nat.one_mul _)

theorem load_head {a : Memref sig .tc .vmem S8x512x64 .f32} (ha : a.IsWhole) (x : Vec F S8x512x64 .f32) (k : Fin k0_t1_loop.trips) (h : Fin 8)
    {off : Fin 3 → ℕ} (e : off = ![h.val, 64 * k.val, 0]) (inb) :
    View.readAt (Elt F) a.view (Rect.unit (s := S8x512x64) off ![1, 64, 64] inb).toLoadRect (ha.unread x) = head x k.val h := by
  subst e
  funext z
  refine (ha.readAt_unread x _ z).trans (congrArg x (funext fun b => ?_))
  fin_cases b <;> refine Fin.ext ?_
  · exact (by omega : ∀ m n : ℕ, n < 1 → m + 1 * n = m) _ _ (z 0).isLt
  · exact row_eq (z 1).isLt
  · exact (Nat.zero_add _).trans (Nat.one_mul _)

theorem load_cell {a : Memref sig .tc .vmem S8x64x64 .f32} (f : a.view.ty.Contents (Elt F)) (h : Fin 8)
    {off : Fin 3 → ℕ} (e : off = ![h.val, 0, 0]) (inb) :
    View.readAt (Elt F) a.view (Rect.unit (s := S8x64x64) off ![1, 64, 64] inb).toLoadRect f = cell (a.view.read (Elt F) f) h := by
  subst e
  funext z
  refine congrArg (a.view.read (Elt F) f) (funext fun b => ?_)
  fin_cases b <;> refine Fin.ext ?_
  · exact (by omega : ∀ m n : ℕ, n < 1 → m + 1 * n = m) _ _ (z 0).isLt
  · exact (Nat.zero_add _).trans (Nat.one_mul _)
  · exact (Nat.zero_add _).trans (Nat.one_mul _)

/-- One head's trip: the values it reads off the state, its output, the state it stores, and the state it leaves. -/
def fresh (u w s : Vec F S1x64x64 .f32) := k0_pay61 (k0_pay45 s) u w
def result (g q qk u w s : Vec F S1x64x64 .f32) : FVec F S64x64 .f32 :=
  k0_pay69 (k0_pay7 g) (k0_pay53 (k0_pay45 s)) (fresh u w s) q qk
def before (s : Vec F S1x64x64 .f32) : FVec F S1x64x64 .f32 := k0_pay70 (k0_pay45 s)
def onward (g k u w s : Vec F S1x64x64 .f32) : FVec F S1x64x64 .f32 :=
  k0_pay88 (k0_pay8 g) (k0_pay9 g) (k0_pay45 s) (fresh u w s) k

section Trip

variable (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S8x512x64 .f32) (harg6 : arg6.IsWhole) (arg7 : Memref sig .tc .vmem S512x512 .f32) (harg7 : arg7.IsWhole) (arg8 : Memref sig .tc .vmem S8x512x64 .f32) (harg8 : arg8.IsWhole) (arg9 : Memref sig .tc .vmem S8x64x64 .f32) (harg9 : arg9.IsWhole)
variable (x0 x1 x2 : Vec F S1x512x512 .f32) (x3 x4 x5 : Vec F S8x512x64 .f32)

/-- Head `h` in trip `k`, on a point's blocks. -/
def resultAt (k : ℕ) (s : Vec F S8x64x64 .f32) (h : Fin 8) : FVec F S64x64 .f32 :=
  result (plane x2 k h) (plane x0 k h) (head x3 k h) (head x4 k h) (head x5 k h) (cell s h)
def onwardAt (k : ℕ) (s : Vec F S8x64x64 .f32) (h : Fin 8) : FVec F S1x64x64 .f32 :=
  onward (plane x2 k h) (plane x1 k h) (head x4 k h) (head x5 k h) (cell s h)

/-- The state after a trip. -/
def trip (k : ℕ) (s : Vec F S8x64x64 .f32) : Vec F S8x64x64 .f32 := fun y => onwardAt x1 x2 x4 x5 k s (y 0) (ix3 0 (y 1) (y 2))

/-- The state before trip `n` of a point. -/
def within (s : Vec F S8x64x64 .f32) : ℕ → Vec F S8x64x64 .f32
  | 0 => s
  | n + 1 => trip x1 x2 x4 x5 n (within s n)

theorem state_piece (G : Fin 8 → FVec F S1x64x64 .f32) (h : Fin 8) {off : Fin 3 → ℕ} (e : off = ![h.val, 0, 0]) (inb)
    (z : S1x64x64.Idx) : G h z = (fun y : S8x64x64.Idx => G (y 0) (ix3 0 (y 1) (y 2))) ((Rect.unit (s := S8x64x64) off ![1, 64, 64] inb).emb z) := by
  subst e
  refine congr (congrArg G (Fin.ext ?_)) (funext fun b => ?_)
  · exact ((by omega : ∀ m n : ℕ, n < 1 → m + 1 * n = m) _ _ (z 0).isLt).symm
  · fin_cases b <;> refine Fin.ext ?_
    · exact (by omega : ∀ n : ℕ, n < 1 → n = 0) _ (z 0).isLt
    · exact ((Nat.zero_add _).trans (Nat.one_mul _)).symm
    · exact ((Nat.zero_add _).trans (Nat.one_mul _)).symm

/-- A block of eight trips' rows, each from its trip. -/
def block (G : ℕ → Fin 8 → FVec F S1x64x64 .f32) : Vec F S8x512x64 .f32 := fun y =>
  G ((y 1).val / 64) (y 0) (ix3 0 ⟨(y 1).val % 64, Nat.mod_lt _ (by decide)⟩ (y 2))

theorem block_piece (G : ℕ → Fin 8 → FVec F S1x64x64 .f32) (k : Fin k0_t1_loop.trips) (h : Fin 8) {off : Fin 3 → ℕ}
    (e : off = ![h.val, 64 * k.val, 0]) (inb) (z : S1x64x64.Idx) :
    G k.val h z = block G ((Rect.unit (s := S8x512x64) off ![1, 64, 64] inb).emb z) := by
  subst e
  have hk : k.val < 8 := lt_of_lt_of_eq k.isLt trips_eq
  have hz : (z 1).val < 64 := (z 1).isLt
  refine congr (congr (congrArg G ?_) (Fin.ext ?_)) (funext fun b => ?_)
  · exact (by omega : ∀ k z : ℕ, k < 8 → z < 64 → k = (64 * k + 1 * z) / 64) _ _ hk hz
  · exact ((by omega : ∀ m n : ℕ, n < 1 → m + 1 * n = m) _ _ (z 0).isLt).symm
  · fin_cases b <;> refine Fin.ext ?_
    · exact (by omega : ∀ n : ℕ, n < 1 → n = 0) _ (z 0).isLt
    · exact (by omega : ∀ k z : ℕ, k < 8 → z < 64 → z = (64 * k + 1 * z) % 64) _ _ hk hz
    · exact ((Nat.zero_add _).trans (Nat.one_mul _)).symm

/-- A block of eight trips' rows and of all heads' lanes, each from its trip and head. -/
def lanes (G : ℕ → Fin 8 → FVec F S64x64 .f32) : Vec F S512x512 .f32 := fun y =>
  G ((y 0).val / 64) ⟨(y 1).val / 64, by have : (y 1).val < 512 := (y 1).isLt; omega⟩
    (ix2 ⟨(y 0).val % 64, Nat.mod_lt _ (by decide)⟩ ⟨(y 1).val % 64, Nat.mod_lt _ (by decide)⟩)

theorem lanes_piece (G : ℕ → Fin 8 → FVec F S64x64 .f32) (k : Fin k0_t1_loop.trips) (h : Fin 8) {off : Fin 2 → ℕ}
    (e : off = ![64 * k.val, 64 * h.val]) (inb) (z : S64x64.Idx) :
    G k.val h z = lanes G ((Rect.unit (s := S512x512) off ![64, 64] inb).emb z) := by
  subst e
  have hq : ∀ k z : ℕ, z < 64 → k = (64 * k + 1 * z) / 64 := by omega
  have hr : ∀ k z : ℕ, z < 64 → z = (64 * k + 1 * z) % 64 := by omega
  refine congr (congr (congrArg G ?_) (Fin.ext ?_)) (funext fun b => ?_)
  · exact hq _ _ (z 0).isLt
  · exact hq _ _ (z 1).isLt
  · fin_cases b <;> refine Fin.ext ?_
    · exact hr _ _ (z 0).isLt
    · exact hr _ _ (z 1).isLt

theorem onward_loads (k : Fin k0_t1_loop.trips) (f9 : BufTy.Contents (Elt F) arg9.view.ty) (h : Fin 8) {offp : Fin 3 → ℕ} (ep : offp = ![0, 64 * k.val, 64 * h.val])
    {offh : Fin 3 → ℕ} (eh : offh = ![h.val, 64 * k.val, 0]) {offc : Fin 3 → ℕ} (ec : offc = ![h.val, 0, 0]) (ip ih ic) :
    onward (View.readAt (Elt F) arg3.view (Rect.unit (s := S1x512x512) offp ![1, 64, 64] ip).toLoadRect (harg3.unread x2))
      (View.readAt (Elt F) arg2.view (Rect.unit (s := S1x512x512) offp ![1, 64, 64] ip).toLoadRect (harg2.unread x1))
      (View.readAt (Elt F) arg5.view (Rect.unit (s := S8x512x64) offh ![1, 64, 64] ih).toLoadRect (harg5.unread x4))
      (View.readAt (Elt F) arg6.view (Rect.unit (s := S8x512x64) offh ![1, 64, 64] ih).toLoadRect (harg6.unread x5))
      (View.readAt (Elt F) arg9.view (Rect.unit (s := S8x64x64) offc ![1, 64, 64] ic).toLoadRect f9)
      = onwardAt x1 x2 x4 x5 k.val (arg9.view.read (Elt F) f9) h := by
  unfold onwardAt
  rw [load_plane harg3 x2 k h ep, load_plane harg2 x1 k h ep, load_head harg5 x4 k h eh, load_head harg6 x5 k h eh, load_cell f9 h ec]

theorem before_loads (f9 : BufTy.Contents (Elt F) arg9.view.ty) (h : Fin 8)
    {offc : Fin 3 → ℕ} (ec : offc = ![h.val, 0, 0]) (ic) :
    before (View.readAt (Elt F) arg9.view (Rect.unit (s := S8x64x64) offc ![1, 64, 64] ic).toLoadRect f9)
      = before (cell (arg9.view.read (Elt F) f9) h) := by
  rw [load_cell f9 h ec]

theorem result_loads (k : Fin k0_t1_loop.trips) (f9 : BufTy.Contents (Elt F) arg9.view.ty) (h : Fin 8) {offp : Fin 3 → ℕ} (ep : offp = ![0, 64 * k.val, 64 * h.val])
    {offh : Fin 3 → ℕ} (eh : offh = ![h.val, 64 * k.val, 0]) {offc : Fin 3 → ℕ} (ec : offc = ![h.val, 0, 0]) (ip ih ic) :
    result (View.readAt (Elt F) arg3.view (Rect.unit (s := S1x512x512) offp ![1, 64, 64] ip).toLoadRect (harg3.unread x2))
      (View.readAt (Elt F) arg1.view (Rect.unit (s := S1x512x512) offp ![1, 64, 64] ip).toLoadRect (harg1.unread x0))
      (View.readAt (Elt F) arg4.view (Rect.unit (s := S8x512x64) offh ![1, 64, 64] ih).toLoadRect (harg4.unread x3))
      (View.readAt (Elt F) arg5.view (Rect.unit (s := S8x512x64) offh ![1, 64, 64] ih).toLoadRect (harg5.unread x4))
      (View.readAt (Elt F) arg6.view (Rect.unit (s := S8x512x64) offh ![1, 64, 64] ih).toLoadRect (harg6.unread x5))
      (View.readAt (Elt F) arg9.view (Rect.unit (s := S8x64x64) offc ![1, 64, 64] ic).toLoadRect f9)
      = resultAt x0 x2 x3 x4 x5 k.val (arg9.view.read (Elt F) f9) h := by
  unfold resultAt
  rw [load_plane harg3 x2 k h ep, load_plane harg1 x0 k h ep, load_head harg4 x3 k h eh, load_head harg5 x4 k h eh, load_head harg6 x5 k h eh, load_cell f9 h ec]

theorem state_stored (k : ℕ) (s : Vec F S8x64x64 .f32) (h : Fin 8) {off : Fin 3 → ℕ} (e : off = ![h.val, 0, 0]) (inb) {v : FVec F S1x64x64 .f32}
    (hv : v = onwardAt x1 x2 x4 x5 k s h) (z : S1x64x64.Idx) :
    v z = trip x1 x2 x4 x5 k s ((Rect.unit (s := S8x64x64) off ![1, 64, 64] inb).emb z) := by
  subst hv
  exact state_piece (fun h => onwardAt x1 x2 x4 x5 k s h) h e inb z

theorem block_stored (G : ℕ → Fin 8 → FVec F S1x64x64 .f32) (k : Fin k0_t1_loop.trips) (h : Fin 8) {off : Fin 3 → ℕ} (e : off = ![h.val, 64 * k.val, 0]) (inb) {v : FVec F S1x64x64 .f32}
    (hv : v = G k.val h) (z : S1x64x64.Idx) :
    v z = block G ((Rect.unit (s := S8x512x64) off ![1, 64, 64] inb).emb z) := by
  subst hv
  exact block_piece G k h e inb z

theorem lanes_stored (G : ℕ → Fin 8 → FVec F S64x64 .f32) (k : Fin k0_t1_loop.trips) (h : Fin 8) {off : Fin 2 → ℕ} (e : off = ![64 * k.val, 64 * h.val]) (inb) {v : FVec F S64x64 .f32}
    (hv : v = G k.val h) (z : S64x64.Idx) :
    v z = lanes G ((Rect.unit (s := S512x512) off ![64, 64] inb).emb z) := by
  subst hv
  exact lanes_piece G k h e inb z

theorem stores_state (k : Fin k0_t1_loop.trips) (f7 : BufTy.Contents (Elt F) arg7.view.ty) (f8 : BufTy.Contents (Elt F) arg8.view.ty) (f9 : BufTy.Contents (Elt F) arg9.view.ty) :
    ∀ p ∈ (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).2.2,
      ∀ z : p.1.shape.Idx, p.2 z = trip x1 x2 x4 x5 k.val (arg9.view.read (Elt F) f9) (p.1.emb z) := by
  have t := onward_loads (F := F) arg2 harg2 arg3 harg3 arg5 harg5 arg6 harg6 arg9 (x1 := x1) (x2 := x2) (x4 := x4) (x5 := x5) k f9
  have u := state_stored x1 x2 x4 x5 k.val (arg9.view.read (Elt F) f9)
  intro p hp z
  unfold tripL_k0_t1 trip_k0_t1 at hp
  dsimp only at hp
  simp only [List.mem_cons, List.not_mem_nil, or_false] at hp
  rcases hp with rfl | rfl | rfl | rfl | rfl | rfl | rfl | rfl
  · exact u 7 rfl inb_S8x64x64_S1x64x64_7_0_0 (t 7 (Gen.k0_off8_eq k) (Gen.k0_off16_eq k) rfl (Gen.k0_off8_inb k) (Gen.k0_off16_inb k) inb_S8x64x64_S1x64x64_7_0_0) z
  · exact u 6 rfl inb_S8x64x64_S1x64x64_6_0_0 (t 6 (Gen.k0_off7_eq k) (Gen.k0_off15_eq k) rfl (Gen.k0_off7_inb k) (Gen.k0_off15_inb k) inb_S8x64x64_S1x64x64_6_0_0) z
  · exact u 5 rfl inb_S8x64x64_S1x64x64_5_0_0 (t 5 (Gen.k0_off6_eq k) (Gen.k0_off14_eq k) rfl (Gen.k0_off6_inb k) (Gen.k0_off14_inb k) inb_S8x64x64_S1x64x64_5_0_0) z
  · exact u 4 rfl inb_S8x64x64_S1x64x64_4_0_0 (t 4 (Gen.k0_off5_eq k) (Gen.k0_off13_eq k) rfl (Gen.k0_off5_inb k) (Gen.k0_off13_inb k) inb_S8x64x64_S1x64x64_4_0_0) z
  · exact u 3 rfl inb_S8x64x64_S1x64x64_3_0_0 (t 3 (Gen.k0_off4_eq k) (Gen.k0_off12_eq k) rfl (Gen.k0_off4_inb k) (Gen.k0_off12_inb k) inb_S8x64x64_S1x64x64_3_0_0) z
  · exact u 2 rfl inb_S8x64x64_S1x64x64_2_0_0 (t 2 (Gen.k0_off3_eq k) (Gen.k0_off11_eq k) rfl (Gen.k0_off3_inb k) (Gen.k0_off11_inb k) inb_S8x64x64_S1x64x64_2_0_0) z
  · exact u 1 rfl inb_S8x64x64_S1x64x64_1_0_0 (t 1 (Gen.k0_off2_eq k) (Gen.k0_off10_eq k) rfl (Gen.k0_off2_inb k) (Gen.k0_off10_inb k) inb_S8x64x64_S1x64x64_1_0_0) z
  · exact u 0 rfl inb_S8x64x64_S1x64x64_0_0_0 (t 0 (Gen.k0_off1_eq k) (Gen.k0_off9_eq k) rfl (Gen.k0_off1_inb k) (Gen.k0_off9_inb k) inb_S8x64x64_S1x64x64_0_0_0) z

theorem stores_before (k : Fin k0_t1_loop.trips) (f7 : BufTy.Contents (Elt F) arg7.view.ty) (f8 : BufTy.Contents (Elt F) arg8.view.ty) (f9 : BufTy.Contents (Elt F) arg9.view.ty)
    (G : ℕ → Fin 8 → FVec F S1x64x64 .f32) (hG : ∀ h, before (cell (arg9.view.read (Elt F) f9) h) = G k.val h) :
    ∀ p ∈ (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).2.1,
      ∀ z : p.1.shape.Idx, p.2 z = block G (p.1.emb z) := by
  have t := @before_loads F _ arg9 f9
  have u := block_stored G k
  intro p hp z
  unfold tripL_k0_t1 trip_k0_t1 at hp
  dsimp only at hp
  simp only [List.mem_cons, List.not_mem_nil, or_false] at hp
  rcases hp with rfl | rfl | rfl | rfl | rfl | rfl | rfl | rfl
  · exact u 7 (Gen.k0_off16_eq k) (Gen.k0_off16_inb k) ((t 7 rfl inb_S8x64x64_S1x64x64_7_0_0).trans (hG 7)) z
  · exact u 6 (Gen.k0_off15_eq k) (Gen.k0_off15_inb k) ((t 6 rfl inb_S8x64x64_S1x64x64_6_0_0).trans (hG 6)) z
  · exact u 5 (Gen.k0_off14_eq k) (Gen.k0_off14_inb k) ((t 5 rfl inb_S8x64x64_S1x64x64_5_0_0).trans (hG 5)) z
  · exact u 4 (Gen.k0_off13_eq k) (Gen.k0_off13_inb k) ((t 4 rfl inb_S8x64x64_S1x64x64_4_0_0).trans (hG 4)) z
  · exact u 3 (Gen.k0_off12_eq k) (Gen.k0_off12_inb k) ((t 3 rfl inb_S8x64x64_S1x64x64_3_0_0).trans (hG 3)) z
  · exact u 2 (Gen.k0_off11_eq k) (Gen.k0_off11_inb k) ((t 2 rfl inb_S8x64x64_S1x64x64_2_0_0).trans (hG 2)) z
  · exact u 1 (Gen.k0_off10_eq k) (Gen.k0_off10_inb k) ((t 1 rfl inb_S8x64x64_S1x64x64_1_0_0).trans (hG 1)) z
  · exact u 0 (Gen.k0_off9_eq k) (Gen.k0_off9_inb k) ((t 0 rfl inb_S8x64x64_S1x64x64_0_0_0).trans (hG 0)) z

theorem stores_result (k : Fin k0_t1_loop.trips) (f7 : BufTy.Contents (Elt F) arg7.view.ty) (f8 : BufTy.Contents (Elt F) arg8.view.ty) (f9 : BufTy.Contents (Elt F) arg9.view.ty)
    (G : ℕ → Fin 8 → FVec F S64x64 .f32) (hG : ∀ h, resultAt x0 x2 x3 x4 x5 k.val (arg9.view.read (Elt F) f9) h = G k.val h) :
    ∀ p ∈ (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).1,
      ∀ z : p.1.shape.Idx, p.2 z = lanes G (p.1.emb z) := by
  have t := result_loads (F := F) arg1 harg1 arg3 harg3 arg4 harg4 arg5 harg5 arg6 harg6 arg9 (x0 := x0) (x2 := x2) (x3 := x3) (x4 := x4) (x5 := x5) k f9
  have u := lanes_stored G k
  intro p hp z
  unfold tripL_k0_t1 trip_k0_t1 at hp
  dsimp only at hp
  simp only [List.mem_cons, List.not_mem_nil, or_false] at hp
  rcases hp with rfl | rfl | rfl | rfl | rfl | rfl | rfl | rfl
  · exact u 7 (Gen.k0_off24_eq k) (Gen.k0_off24_inb k) ((t 7 (Gen.k0_off8_eq k) (Gen.k0_off16_eq k) rfl (Gen.k0_off8_inb k) (Gen.k0_off16_inb k) inb_S8x64x64_S1x64x64_7_0_0).trans (hG 7)) z
  · exact u 6 (Gen.k0_off23_eq k) (Gen.k0_off23_inb k) ((t 6 (Gen.k0_off7_eq k) (Gen.k0_off15_eq k) rfl (Gen.k0_off7_inb k) (Gen.k0_off15_inb k) inb_S8x64x64_S1x64x64_6_0_0).trans (hG 6)) z
  · exact u 5 (Gen.k0_off22_eq k) (Gen.k0_off22_inb k) ((t 5 (Gen.k0_off6_eq k) (Gen.k0_off14_eq k) rfl (Gen.k0_off6_inb k) (Gen.k0_off14_inb k) inb_S8x64x64_S1x64x64_5_0_0).trans (hG 5)) z
  · exact u 4 (Gen.k0_off21_eq k) (Gen.k0_off21_inb k) ((t 4 (Gen.k0_off5_eq k) (Gen.k0_off13_eq k) rfl (Gen.k0_off5_inb k) (Gen.k0_off13_inb k) inb_S8x64x64_S1x64x64_4_0_0).trans (hG 4)) z
  · exact u 3 (Gen.k0_off20_eq k) (Gen.k0_off20_inb k) ((t 3 (Gen.k0_off4_eq k) (Gen.k0_off12_eq k) rfl (Gen.k0_off4_inb k) (Gen.k0_off12_inb k) inb_S8x64x64_S1x64x64_3_0_0).trans (hG 3)) z
  · exact u 2 (Gen.k0_off19_eq k) (Gen.k0_off19_inb k) ((t 2 (Gen.k0_off3_eq k) (Gen.k0_off11_eq k) rfl (Gen.k0_off3_inb k) (Gen.k0_off11_inb k) inb_S8x64x64_S1x64x64_2_0_0).trans (hG 2)) z
  · exact u 1 (Gen.k0_off18_eq k) (Gen.k0_off18_inb k) ((t 1 (Gen.k0_off2_eq k) (Gen.k0_off10_eq k) rfl (Gen.k0_off2_inb k) (Gen.k0_off10_inb k) inb_S8x64x64_S1x64x64_1_0_0).trans (hG 1)) z
  · exact u 0 (Gen.k0_off17_eq k) (Gen.k0_off17_inb k) ((t 0 (Gen.k0_off1_eq k) (Gen.k0_off9_eq k) rfl (Gen.k0_off1_inb k) (Gen.k0_off9_inb k) inb_S8x64x64_S1x64x64_0_0_0).trans (hG 0)) z

theorem state_cover (k : Fin k0_t1_loop.trips) (f7 : BufTy.Contents (Elt F) arg7.view.ty) (f8 : BufTy.Contents (Elt F) arg8.view.ty) (f9 : BufTy.Contents (Elt F) arg9.view.ty) (y : S8x64x64.Idx) :
    ∃ p ∈ (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).2.2, y ∈ p.1.set :=
  View.cover_of_tiledL (tripL_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) k f7 f8 f9).2.2 S1x64x64.size (by sl_kernel_rfl) y

variable (f7 : BufTy.Contents (Elt F) arg7.view.ty) (f8 : BufTy.Contents (Elt F) arg8.view.ty) (s : Vec F S8x64x64 .f32)

/-- The pieces of a point's trips before `n`. -/
def trips (n : ℕ) : List (View.Piece (Elt F) S512x512 .f32) × List (View.Piece (Elt F) S8x512x64 .f32) × List (View.Piece (Elt F) S8x64x64 .f32) :=
  pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) f7 f8 (harg9.unread s) n

theorem trips_state (n : ℕ) (hn : n ≤ k0_t1_loop.trips) :
    arg9.view.read (Elt F) (arg9.view.writes (Elt F) (harg9.unread s) (trips 𝒱 c bd i arg1 harg1 arg2 harg2 arg3 harg3 arg4 harg4 arg5 harg5 arg6 harg6 arg7 harg7 arg8 harg8 arg9 harg9 x0 x1 x2 x3 x4 x5 f7 f8 s n).2.2)
      = within x1 x2 x4 x5 s n := by
  induction n with
  | zero => exact harg9.read_unread s
  | succ n ih =>
    have e := pb_k0_t1_succ (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) f7 f8 (harg9.unread s) ⟨n, hn⟩
    unfold trips at ih ⊢
    rw [show n + 1 = (⟨n, hn⟩ : Fin k0_t1_loop.trips).val + 1 from rfl, e]
    dsimp only
    rw [View.writes_append]
    funext y
    refine (View.read_writes_apply_of_pieces _ _ _ _ (stores_state (F := F) 𝒱 c bd i arg1 harg1 arg2 harg2 arg3 harg3 arg4 harg4 arg5 harg5 arg6 harg6 arg7 harg7 arg8 harg8 arg9 harg9 x0 x1 x2 x3 x4 x5 ⟨n, hn⟩ _ _ _) y
      (state_cover (F := F) 𝒱 c bd i arg1 harg1 arg2 harg2 arg3 harg3 arg4 harg4 arg5 harg5 arg6 harg6 arg7 harg7 arg8 harg8 arg9 harg9 x0 x1 x2 x3 x4 x5 ⟨n, hn⟩ _ _ _ y)).trans ?_
    rw [ih (Nat.le_of_succ_le hn)]
    rfl

theorem trips_before (n : ℕ) (hn : n ≤ k0_t1_loop.trips) :
    ∀ p ∈ (trips 𝒱 c bd i arg1 harg1 arg2 harg2 arg3 harg3 arg4 harg4 arg5 harg5 arg6 harg6 arg7 harg7 arg8 harg8 arg9 harg9 x0 x1 x2 x3 x4 x5 f7 f8 s n).2.1, ∀ z : p.1.shape.Idx,
      p.2 z = block (fun k h => before (cell (within x1 x2 x4 x5 s k) h)) (p.1.emb z) := by
  induction n with
  | zero => exact fun p hp => absurd hp List.not_mem_nil
  | succ n ih =>
    have e := pb_k0_t1_succ (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) f7 f8 (harg9.unread s) ⟨n, hn⟩
    have b := trips_state (F := F) 𝒱 c bd i arg1 harg1 arg2 harg2 arg3 harg3 arg4 harg4 arg5 harg5 arg6 harg6 arg7 harg7 arg8 harg8 arg9 harg9 x0 x1 x2 x3 x4 x5 f7 f8 s n (Nat.le_of_succ_le hn)
    unfold trips at ih b ⊢
    rw [show n + 1 = (⟨n, hn⟩ : Fin k0_t1_loop.trips).val + 1 from rfl, e]
    intro p hp
    rcases List.mem_append.mp hp with hp | hp
    · exact stores_before (F := F) 𝒱 c bd i arg1 harg1 arg2 harg2 arg3 harg3 arg4 harg4 arg5 harg5 arg6 harg6 arg7 harg7 arg8 harg8 arg9 harg9 x0 x1 x2 x3 x4 x5 ⟨n, hn⟩ _ _ _ _ (fun h => by rw [b]) p hp
    · exact ih (Nat.le_of_succ_le hn) p hp

theorem trips_result (n : ℕ) (hn : n ≤ k0_t1_loop.trips) :
    ∀ p ∈ (trips 𝒱 c bd i arg1 harg1 arg2 harg2 arg3 harg3 arg4 harg4 arg5 harg5 arg6 harg6 arg7 harg7 arg8 harg8 arg9 harg9 x0 x1 x2 x3 x4 x5 f7 f8 s n).1, ∀ z : p.1.shape.Idx,
      p.2 z = lanes (fun k h => resultAt x0 x2 x3 x4 x5 k (within x1 x2 x4 x5 s k) h) (p.1.emb z) := by
  induction n with
  | zero => exact fun p hp => absurd hp List.not_mem_nil
  | succ n ih =>
    have e := pb_k0_t1_succ (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) f7 f8 (harg9.unread s) ⟨n, hn⟩
    have b := trips_state (F := F) 𝒱 c bd i arg1 harg1 arg2 harg2 arg3 harg3 arg4 harg4 arg5 harg5 arg6 harg6 arg7 harg7 arg8 harg8 arg9 harg9 x0 x1 x2 x3 x4 x5 f7 f8 s n (Nat.le_of_succ_le hn)
    unfold trips at ih b ⊢
    rw [show n + 1 = (⟨n, hn⟩ : Fin k0_t1_loop.trips).val + 1 from rfl, e]
    intro p hp
    rcases List.mem_append.mp hp with hp | hp
    · exact stores_result (F := F) 𝒱 c bd i arg1 harg1 arg2 harg2 arg3 harg3 arg4 harg4 arg5 harg5 arg6 harg6 arg7 harg7 arg8 harg8 arg9 harg9 x0 x1 x2 x3 x4 x5 ⟨n, hn⟩ _ _ _ _ (fun h => by rw [b]) p hp
    · exact ih (Nat.le_of_succ_le hn) p hp

end Trip

variable (m : (ℓ : Loc nD τ sig) → Buf (Elt F) ℓ) (c : Dev nD)

/-- The state before trip `k` of point `t`. -/
def at_trip (t : Fin cfg0.N) (k : ℕ) : Vec F S8x64x64 .f32 :=
  within (iblk m c 1 t) (iblk m c 2 t) (iblk m c 4 t) (iblk m c 5 t) (state m c t.val) k

theorem next_eq (t : Fin cfg0.N) : state m c (t.val + 1) = at_trip m c t 8 := by
  rw [state_succ]
  unfold next at_point pieces
  exact (trips_state (F := F) _ _ _ _ _ _ _ _ _ _ _ _ _ _ _ _ _ _ _ _ _ _ _ _ _ _ _ _ _ _ _ _ (le_of_eq rfl)).trans rfl

theorem out_6_eq (t : Fin cfg0.N) : out_6 m c t
    = lanes (fun k h => resultAt (iblk m c 0 t) (iblk m c 2 t) (iblk m c 3 t) (iblk m c 4 t) (iblk m c 5 t) k (at_trip m c t k) h) := by
  funext y
  refine View.read_writes_apply_of_pieces _ _ _ _ ?_ y (cover_6 _ _ _ _ _ _ _ _ _ _ _ _ _ _ _ _ _ _ _ _ _ _ _ _ _ _ _ y)
  exact trips_result (F := F) _ _ _ _ _ _ _ _ _ _ _ _ _ _ _ _ _ _ _ _ _ _ _ _ _ _ _ _ _ _ _ _ (le_of_eq rfl)

theorem out_7_eq (t : Fin cfg0.N) : out_7 m c t = block (fun k h => before (cell (at_trip m c t k) h)) := by
  funext y
  refine View.read_writes_apply_of_pieces _ _ _ _ ?_ y (cover_7 _ _ _ _ _ _ _ _ _ _ _ _ _ _ _ _ _ _ _ _ _ _ _ _ _ _ _ y)
  exact trips_before (F := F) _ _ _ _ _ _ _ _ _ _ _ _ _ _ _ _ _ _ _ _ _ _ _ _ _ _ _ _ _ _ _ _ (le_of_eq rfl)

end Cert.PassIdeal.Own

end
-- ==== Proof.PassRule.lean ====
/- Hand-written, untrusted: the delta rule's recurrence over the chunks, in plain sums. -/
module

public import proofs.«01_k».proof.Proof.ScanRule

@[expose] public section

noncomputable section

namespace Cert.PassRule

open Cert.ScanRule (row Carry)
open Idealize.ShloMosaic

/-- The arguments by chunk, head, and place in the chunk. -/
structure Chunks where
  q : Fin 128 → Fin 8 → Fin 64 → Fin 64 → EReal
  k : Fin 128 → Fin 8 → Fin 64 → Fin 64 → EReal
  g : Fin 128 → Fin 8 → Fin 64 → EReal
  qk : Fin 128 → Fin 8 → Fin 64 → Fin 64 → EReal
  u : Fin 128 → Fin 8 → Fin 64 → Fin 64 → EReal
  w : Fin 128 → Fin 8 → Fin 64 → Fin 64 → EReal

/-- The arguments' arrays by chunk. -/
def ofArgs (q k : (⟨3, ![8192, 8, 64]⟩ : Shape).Idx → EReal) (g : (⟨2, ![8192, 8]⟩ : Shape).Idx → EReal)
    (qk u w : (⟨3, ![8, 8192, 64]⟩ : Shape).Idx → EReal) : Chunks where
  q n h r x := q (ix3 (row n r) h x)
  k n h r x := k (ix3 (row n r) h x)
  g n h r := g (ix2 (row n r) h)
  qk n h r x := qk (ix3 h (row n r) x)
  u n h r x := u (ix3 h (row n r) x)
  w n h r x := w (ix3 h (row n r) x)

variable (A : Chunks)

/-- The chunk that trip `j` of the recurrence takes. -/
def chunk (j : ℕ) : Fin 128 := ⟨j % 128, Nat.mod_lt _ (by decide)⟩

/-- A chunk's values, less what the state already holds of them. -/
def fresh (n : Fin 128) (s : Carry) : Carry := fun h r v => A.u n h r v - ∑ x, A.w n h r x * s h x v

/-- A chunk's output. -/
def result (n : Fin 128) (s : Carry) : Carry := fun h r v =>
  ∑ x, A.q n h r x * Ideal.exp (A.g n h r) * s h x v + ∑ x, A.qk n h r x * fresh A n s h x v

/-- The state after a chunk. -/
def onward (n : Fin 128) (s : Carry) : Carry := fun h r v =>
  s h r v * Ideal.exp (A.g n h 63) + ∑ x, A.k n h x r * Ideal.exp (A.g n h 63 - A.g n h x) * fresh A n s h x v

/-- The state after the first `j` chunks. -/
def carried : ℕ → Carry
  | 0 => fun _ _ _ => 0
  | j + 1 => onward A (chunk j) (carried j)

/-- The outputs, by row and by head and lane, and the state before each chunk, by head and row. -/
def results : (⟨2, ![8192, 512]⟩ : Shape).Idx → EReal := fun y =>
  result A (chunk ((y 0).val / 64)) (carried A ((y 0).val / 64)) ⟨(y 1).val / 64, by have : (y 1).val < 512 := (y 1).isLt; omega⟩
    ⟨(y 0).val % 64, Nat.mod_lt _ (by decide)⟩ ⟨(y 1).val % 64, Nat.mod_lt _ (by decide)⟩
def states : (⟨3, ![8, 8192, 64]⟩ : Shape).Idx → EReal := fun y =>
  carried A ((y 1).val / 64) (y 0) ⟨(y 1).val % 64, Nat.mod_lt _ (by decide)⟩ (y 2)

end Cert.PassRule

end
-- ==== Proof.PassValue.lean ====
/- Hand-written, untrusted: what the scan of the delta rule computes (`delta_scan_fwd`). -/
module

public import proofs.«01_k».proof.Defs
public import proofs.«01_k».proof.Proof.PassTrip
public import proofs.«01_k».proof.Proof.PassRule
public import Idealize.ShloMosaic.Lib.Pipeline.ValueKit
public import Idealize.ShloMosaic.Lib.Pointwise

@[expose] public section

set_option maxRecDepth 16384

noncomputable section

namespace Cert.PassIdeal.Own

open Cert.PassIdeal Cert.PassIdeal.Gen Idealize.ShloMosaic Idealize.ShloMosaic.TcCoe Idealize.SL.Sem
open Idealize.ShloMosaic.StableHlo
open Idealize.ShloMosaic.Pipeline (Dat)
open Cert.ScanRule (row)
open Cert.PassRule (Chunks ofArgs chunk carried)

/-! One head's step, entry by entry. -/

theorem fresh_at (u w s : Vec Ideal S1x64x64 .f32) (r v : Fin 64) :
    (fresh u w s (ix2 r v) : EReal) = u (ix3 0 r v) - ∑ x : Fin 64, w (ix3 0 r x) * s (ix3 0 x v) := by
  unfold fresh
  pointwise [k0_pay61, k0_pay53, k0_pay45]

theorem result_at (g q qk u w s : Vec Ideal S1x64x64 .f32) (r v : Fin 64) :
    (result g q qk u w s (ix2 r v) : EReal) = ∑ x : Fin 64, q (ix3 0 r x) * Ideal.exp (g (ix3 0 r x)) * s (ix3 0 x v)
      + ∑ x : Fin 64, qk (ix3 0 r x) * (fresh u w s (ix2 x v) : EReal) := by
  unfold result
  generalize fresh u w s = D
  pointwise [k0_pay69, k0_pay7, k0_pay53, k0_pay45, k0_pay5]

theorem onward_at (g k u w s : Vec Ideal S1x64x64 .f32) (r v : Fin 64) :
    (onward g k u w s (ix3 0 r v) : EReal) = s (ix3 0 r v) * Ideal.exp (g (ix3 0 63 v))
      + ∑ x : Fin 64, k (ix3 0 x r) * Ideal.exp (g (ix3 0 63 r) - g (ix3 0 x r)) * (fresh u w s (ix2 x v) : EReal) := by
  unfold onward
  generalize fresh u w s = D
  pointwise [k0_pay88, k0_pay8, k0_pay9, k0_pay45, k0_pay5, k0_pay6]

theorem before_at (s : Vec Ideal S1x64x64 .f32) (r v : Fin 64) : before s (ix3 0 r v) = s (ix3 0 r v) := by
  unfold before
  pointwise [k0_pay70, k0_pay45]

theorem zero_at (y : S8x64x64.Idx) : zero (F := Ideal) y = (0 : EReal) := by
  unfold zero
  pointwise [k0_pay1]

variable (m : (ℓ : Loc nD τ sig) → Buf (Elt Ideal) ℓ) (c : Dev nD)

/-- The arguments by chunk. -/
def args : Chunks :=
  ofArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-! What the call is given. -/

/-- A plane of the stacked array. -/
def stacked (x : FVec Ideal S8192x512 .f32) : Vec Ideal S1x8192x512 .f32 := broadcastInDim S1x8192x512 ![1, 2] bcast_S8192x512_S1x8192x512_1_2 x

theorem host11 : V m c main_v11 = concatenate S5x8192x512 0 [
      ⟨S1x8192x512, stacked (shapeCast S8192x512 (m ((c.tc : Thread nD τ).loc main_arg0)) shapeCasts_S8192x8x64_S8192x512)⟩,
      ⟨S1x8192x512, stacked (shapeCast S8192x512 (m ((c.tc : Thread nD τ).loc main_arg1)) shapeCasts_S8192x8x64_S8192x512)⟩,
      ⟨S1x8192x512, stacked (broadcastInDim S8192x512 ![] bcast_S_S8192x512 (constant (F := Ideal) S_ FTy.f32 0#32))⟩,
      ⟨S1x8192x512, stacked (broadcastInDim S8192x512 ![] bcast_S_S8192x512 (constant (F := Ideal) S_ FTy.f32 0#32))⟩,
      ⟨S1x8192x512, stacked (shapeCast S8192x512 (broadcastInDim S8192x8x64 ![0, 1, 2] bcast_S8192x8x1_S8192x8x64_0_1_2
        (broadcastInDim S8192x8x1 ![0, 1] bcast_S8192x8_S8192x8x1_0_1 (m ((c.tc : Thread nD τ).loc main_arg2)))) shapeCasts_S8192x8x64_S8192x512)⟩]
      concatenates_S1x8192x512_S1x8192x512_S1x8192x512_S1x8192x512_S1x8192x512_S5x8192x512_d0 := by
  simp only [V, hostOps0, List.flatten_cons, List.flatten_nil, List.cons_append, List.nil_append, List.append_nil]
  after_results
  rfl

theorem at_q (n : Fin 8192) (x : Fin 512) : V m c main_v11 (ix3 0 n x)
    = m ((c.tc : Thread nD τ).loc main_arg0) (ix3 n ⟨x.val / 64, by omega⟩ ⟨x.val % 64, Nat.mod_lt _ (by decide)⟩) := by
  rw [host11]
  generalize m ((c.tc : Thread nD τ).loc main_arg0) = X
  pointwise [stacked]

theorem at_k (n : Fin 8192) (x : Fin 512) : V m c main_v11 (ix3 1 n x)
    = m ((c.tc : Thread nD τ).loc main_arg1) (ix3 n ⟨x.val / 64, by omega⟩ ⟨x.val % 64, Nat.mod_lt _ (by decide)⟩) := by
  rw [host11]
  generalize m ((c.tc : Thread nD τ).loc main_arg1) = X
  pointwise [stacked]

theorem at_g (n : Fin 8192) (x : Fin 512) : V m c main_v11 (ix3 4 n x)
    = m ((c.tc : Thread nD τ).loc main_arg2) (ix2 n ⟨x.val / 64, by omega⟩) := by
  rw [host11]
  generalize m ((c.tc : Thread nD τ).loc main_arg2) = X
  pointwise [stacked]

/-- The block each window shows at each point. -/
theorem idx : ∀ t : Fin cfg0.N, win0_0.index t = ![0, t.val, 0] ∧ win0_1.index t = ![1, t.val, 0]
    ∧ win0_2.index t = ![4, t.val, 0] ∧ win0_3.index t = ![0, t.val, 0] ∧ win0_4.index t = ![0, t.val, 0]
    ∧ win0_5.index t = ![0, t.val, 0] ∧ win0_6.index t = ![t.val, 0] ∧ win0_7.index t = ![0, t.val, 0] :=
  (by decide +kernel : ∀ t : Fin grid0.N, _)

/-- The row of the arrays that a row of a point's blocks is. -/
def line (t : Fin cfg0.N) (y : Fin 512) : Fin 8192 := ⟨t.val * 512 + y.val, by have : t.val < 16 := t.isLt; omega⟩

theorem line_chunk (t : Fin cfg0.N) (k : ℕ) (hk : k < 8) (r : Fin 64) :
    line t ⟨(64 * k + r.val) % 512, rowlt k r⟩ = row (chunk (8 * t.val + k)) r := by
  have h : t.val < 16 := t.isLt
  refine Fin.ext ?_
  show t.val * 512 + (64 * k + r.val) % 512 = (8 * t.val + k) % 128 * 64 + r.val
  omega

theorem lane_head (h : Fin 8) (x : Fin 64) (hx) (hy) : (⟨(64 * h.val + x.val) / 64, hx⟩ : Fin 8) = h ∧ (⟨(64 * h.val + x.val) % 64, hy⟩ : Fin 64) = x :=
  ⟨Fin.ext (by show (64 * h.val + x.val) / 64 = h.val; omega), Fin.ext (by show (64 * h.val + x.val) % 64 = x.val; omega)⟩

theorem blk0 (t : Fin cfg0.N) (y : Fin 512) (x : Fin 512) : iblk m c 0 t (ix3 0 y x) = V m c main_v11 (ix3 0 (line t y) x) := by
  have e : ((cfg0.win 0).blk t).view.emb (ix3 0 y x) = ix3 0 (line t y) x := funext fun a => by
    fin_cases a
    · exact Fin.ext ((win0_0.rect_emb_val t (ix3 0 y x) 0).trans (by rw [(idx t).1]; rfl))
    · exact Fin.ext ((win0_0.rect_emb_val t (ix3 0 y x) 1).trans (by rw [(idx t).1]; rfl))
    · exact Fin.ext ((win0_0.rect_emb_val t (ix3 0 y x) 2).trans (by rw [(idx t).1]; exact zero_add _))
  exact congrArg (V m c main_v11) e

theorem blk1 (t : Fin cfg0.N) (y : Fin 512) (x : Fin 512) : iblk m c 1 t (ix3 0 y x) = V m c main_v11 (ix3 1 (line t y) x) := by
  have e : ((cfg0.win 1).blk t).view.emb (ix3 0 y x) = ix3 1 (line t y) x := funext fun a => by
    fin_cases a
    · exact Fin.ext ((win0_1.rect_emb_val t (ix3 0 y x) 0).trans (by rw [(idx t).2.1]; rfl))
    · exact Fin.ext ((win0_1.rect_emb_val t (ix3 0 y x) 1).trans (by rw [(idx t).2.1]; rfl))
    · exact Fin.ext ((win0_1.rect_emb_val t (ix3 0 y x) 2).trans (by rw [(idx t).2.1]; exact zero_add _))
  exact congrArg (V m c main_v11) e

theorem blk2 (t : Fin cfg0.N) (y : Fin 512) (x : Fin 512) : iblk m c 2 t (ix3 0 y x) = V m c main_v11 (ix3 4 (line t y) x) := by
  have e : ((cfg0.win 2).blk t).view.emb (ix3 0 y x) = ix3 4 (line t y) x := funext fun a => by
    fin_cases a
    · exact Fin.ext ((win0_2.rect_emb_val t (ix3 0 y x) 0).trans (by rw [(idx t).2.2.1]; rfl))
    · exact Fin.ext ((win0_2.rect_emb_val t (ix3 0 y x) 1).trans (by rw [(idx t).2.2.1]; rfl))
    · exact Fin.ext ((win0_2.rect_emb_val t (ix3 0 y x) 2).trans (by rw [(idx t).2.2.1]; exact zero_add _))
  exact congrArg (V m c main_v11) e

theorem blk3 (t : Fin cfg0.N) (h : Fin 8) (y : Fin 512) (x : Fin 64) :
    iblk m c 3 t (ix3 h y x) = m ((c.tc : Thread nD τ).loc main_arg3) (ix3 h (line t y) x) := by
  have e : ((cfg0.win 3).blk t).view.emb (ix3 h y x) = ix3 h (line t y) x := funext fun a => by
    fin_cases a
    · exact Fin.ext ((win0_3.rect_emb_val t (ix3 h y x) 0).trans (by rw [(idx t).2.2.2.1]; exact zero_add _))
    · exact Fin.ext ((win0_3.rect_emb_val t (ix3 h y x) 1).trans (by rw [(idx t).2.2.2.1]; rfl))
    · exact Fin.ext ((win0_3.rect_emb_val t (ix3 h y x) 2).trans (by rw [(idx t).2.2.2.1]; exact zero_add _))
  exact (congrArg (V m c main_arg3) e).trans (congrFun (V_main_arg3 m c) _)

theorem blk4 (t : Fin cfg0.N) (h : Fin 8) (y : Fin 512) (x : Fin 64) :
    iblk m c 4 t (ix3 h y x) = m ((c.tc : Thread nD τ).loc main_arg4) (ix3 h (line t y) x) := by
  have e : ((cfg0.win 4).blk t).view.emb (ix3 h y x) = ix3 h (line t y) x := funext fun a => by
    fin_cases a
    · exact Fin.ext ((win0_4.rect_emb_val t (ix3 h y x) 0).trans (by rw [(idx t).2.2.2.2.1]; exact zero_add _))
    · exact Fin.ext ((win0_4.rect_emb_val t (ix3 h y x) 1).trans (by rw [(idx t).2.2.2.2.1]; rfl))
    · exact Fin.ext ((win0_4.rect_emb_val t (ix3 h y x) 2).trans (by rw [(idx t).2.2.2.2.1]; exact zero_add _))
  exact (congrArg (V m c main_arg4) e).trans (congrFun (V_main_arg4 m c) _)

theorem blk5 (t : Fin cfg0.N) (h : Fin 8) (y : Fin 512) (x : Fin 64) :
    iblk m c 5 t (ix3 h y x) = m ((c.tc : Thread nD τ).loc main_arg5) (ix3 h (line t y) x) := by
  have e : ((cfg0.win 5).blk t).view.emb (ix3 h y x) = ix3 h (line t y) x := funext fun a => by
    fin_cases a
    · exact Fin.ext ((win0_5.rect_emb_val t (ix3 h y x) 0).trans (by rw [(idx t).2.2.2.2.2.1]; exact zero_add _))
    · exact Fin.ext ((win0_5.rect_emb_val t (ix3 h y x) 1).trans (by rw [(idx t).2.2.2.2.2.1]; rfl))
    · exact Fin.ext ((win0_5.rect_emb_val t (ix3 h y x) 2).trans (by rw [(idx t).2.2.2.2.2.1]; exact zero_add _))
  exact (congrArg (V m c main_arg5) e).trans (congrFun (V_main_arg5 m c) _)

/-! The blocks of a trip are the chunk's. -/

section Trip

variable (t : Fin cfg0.N) (k : ℕ) (hk : k < 8) (h : Fin 8) (r x : Fin 64)
include hk

theorem plane_q : plane (F := Ideal) (iblk m c 0 t) k h (ix3 0 r x) = (args m c).q (chunk (8 * t.val + k)) h r x := by
  refine (blk0 m c t _ _).trans ((at_q m c _ _).trans ?_)
  show m ((c.tc : Thread nD τ).loc main_arg0) (ix3 (line t ⟨(64 * k + r.val) % 512, rowlt k r⟩) ⟨(64 * h.val + x.val) / 64, by omega⟩ ⟨(64 * h.val + x.val) % 64, Nat.mod_lt _ (by decide)⟩) = _
  rw [line_chunk t k hk r]
  exact congrArg₂ (fun a b => m ((c.tc : Thread nD τ).loc main_arg0) (ix3 _ a b)) (lane_head h x (by omega) (Nat.mod_lt _ (by decide))).1 (lane_head h x (by omega) (Nat.mod_lt _ (by decide))).2

theorem plane_k : plane (F := Ideal) (iblk m c 1 t) k h (ix3 0 r x) = (args m c).k (chunk (8 * t.val + k)) h r x := by
  refine (blk1 m c t _ _).trans ((at_k m c _ _).trans ?_)
  show m ((c.tc : Thread nD τ).loc main_arg1) (ix3 (line t ⟨(64 * k + r.val) % 512, rowlt k r⟩) ⟨(64 * h.val + x.val) / 64, by omega⟩ ⟨(64 * h.val + x.val) % 64, Nat.mod_lt _ (by decide)⟩) = _
  rw [line_chunk t k hk r]
  exact congrArg₂ (fun a b => m ((c.tc : Thread nD τ).loc main_arg1) (ix3 _ a b)) (lane_head h x (by omega) (Nat.mod_lt _ (by decide))).1 (lane_head h x (by omega) (Nat.mod_lt _ (by decide))).2

theorem plane_g : plane (F := Ideal) (iblk m c 2 t) k h (ix3 0 r x) = (args m c).g (chunk (8 * t.val + k)) h r := by
  refine (blk2 m c t _ _).trans ((at_g m c _ _).trans ?_)
  show m ((c.tc : Thread nD τ).loc main_arg2) (ix2 (line t ⟨(64 * k + r.val) % 512, rowlt k r⟩) ⟨(64 * h.val + x.val) / 64, by omega⟩) = _
  rw [line_chunk t k hk r]
  exact congrArg (fun a => m ((c.tc : Thread nD τ).loc main_arg2) (ix2 _ a)) (lane_head h x _ (Nat.mod_lt _ (by decide))).1

theorem head_qk : head (F := Ideal) (iblk m c 3 t) k h (ix3 0 r x) = (args m c).qk (chunk (8 * t.val + k)) h r x := by
  refine (blk3 m c t _ _ _).trans ?_
  show m ((c.tc : Thread nD τ).loc main_arg3) (ix3 h (line t ⟨(64 * k + r.val) % 512, rowlt k r⟩) x) = _
  rw [line_chunk t k hk r]
  rfl

theorem head_u : head (F := Ideal) (iblk m c 4 t) k h (ix3 0 r x) = (args m c).u (chunk (8 * t.val + k)) h r x := by
  refine (blk4 m c t _ _ _).trans ?_
  show m ((c.tc : Thread nD τ).loc main_arg4) (ix3 h (line t ⟨(64 * k + r.val) % 512, rowlt k r⟩) x) = _
  rw [line_chunk t k hk r]
  rfl

theorem head_w : head (F := Ideal) (iblk m c 5 t) k h (ix3 0 r x) = (args m c).w (chunk (8 * t.val + k)) h r x := by
  refine (blk5 m c t _ _ _).trans ?_
  show m ((c.tc : Thread nD τ).loc main_arg5) (ix3 h (line t ⟨(64 * k + r.val) % 512, rowlt k r⟩) x) = _
  rw [line_chunk t k hk r]
  rfl

variable (s : Vec Ideal S8x64x64 .f32)

theorem fresh_chunk : (fresh (F := Ideal) (head (iblk m c 4 t) k h) (head (iblk m c 5 t) k h) (cell s h) (ix2 r x) : EReal)
    = PassRule.fresh (args m c) (chunk (8 * t.val + k)) (fun h r v => s (ix3 h r v)) h r x := by
  rw [fresh_at]
  simp only [head_u m c t k hk, head_w m c t k hk]
  rfl

theorem result_chunk : (resultAt (F := Ideal) (iblk m c 0 t) (iblk m c 2 t) (iblk m c 3 t) (iblk m c 4 t) (iblk m c 5 t) k s h (ix2 r x) : EReal)
    = PassRule.result (args m c) (chunk (8 * t.val + k)) (fun h r v => s (ix3 h r v)) h r x := by
  unfold resultAt
  rw [result_at]
  simp only [plane_q m c t k hk, plane_g m c t k hk, head_qk m c t k hk, fresh_chunk m c t k hk]
  rfl

theorem onward_chunk : (onwardAt (F := Ideal) (iblk m c 1 t) (iblk m c 2 t) (iblk m c 4 t) (iblk m c 5 t) k s h (ix3 0 r x) : EReal)
    = PassRule.onward (args m c) (chunk (8 * t.val + k)) (fun h r v => s (ix3 h r v)) h r x := by
  unfold onwardAt
  rw [onward_at]
  simp only [plane_k m c t k hk, plane_g m c t k hk, fresh_chunk m c t k hk]
  rfl

end Trip

/-- The state after the first trips of a point. -/
theorem carried_at (t : Fin cfg0.N) (hs : ∀ h r v, (state m c t.val (ix3 h r v) : EReal) = carried (args m c) (8 * t.val) h r v) :
    ∀ k, k ≤ 8 → ∀ h r v, (at_trip m c t k (ix3 h r v) : EReal) = carried (args m c) (8 * t.val + k) h r v
  | 0, _, h, r, v => hs h r v
  | k + 1, hk, h, r, v => by
    have e : (fun h r v => at_trip m c t k (ix3 h r v)) = carried (args m c) (8 * t.val + k) :=
      funext fun h => funext fun r => funext fun v => carried_at t hs k (by omega) h r v
    refine (onward_chunk m c t k (by omega) h r v (at_trip m c t k)).trans ?_
    rw [e]
    rfl

theorem state_value : ∀ n, n ≤ 16 → ∀ h r v, (state m c n (ix3 h r v) : EReal) = carried (args m c) (8 * n) h r v
  | 0, _, h, r, v => zero_at _
  | n + 1, hn, h, r, v => by
    have e := next_eq m c (⟨n, (by omega : n < 16)⟩ : Fin cfg0.N)
    refine (congrFun e _).trans ?_
    exact carried_at m c ⟨n, (by omega : n < 16)⟩ (state_value n (by omega)) 8 le_rfl h r v

theorem trip_value (t : Fin cfg0.N) (k : ℕ) (hk : k ≤ 8) (h : Fin 8) (r v : Fin 64) :
    (at_trip m c t k (ix3 h r v) : EReal) = carried (args m c) (8 * t.val + k) h r v :=
  carried_at m c t (state_value m c t.val (le_of_lt t.isLt)) k hk h r v

/-! The results. -/

theorem line_div (t : Fin cfg0.N) (y : Fin 512) : (line t y).val / 64 = 8 * t.val + y.val / 64 ∧ (line t y).val % 64 = y.val % 64 := by
  show (t.val * 512 + y.val) / 64 = _ ∧ (t.val * 512 + y.val) % 64 = _
  omega

theorem results_block (t : Fin cfg0.N) (y x : Fin 512) : (out_6 m c t (ix2 y x) : EReal) = PassRule.results (args m c) (ix2 (line t y) x) := by
  rw [out_6_eq]
  refine (result_chunk m c t (y.val / 64) (by omega) ⟨x.val / 64, by omega⟩ ⟨y.val % 64, Nat.mod_lt _ (by decide)⟩ ⟨x.val % 64, Nat.mod_lt _ (by decide)⟩ _).trans ?_
  have e : (fun h r v => at_trip m c t (y.val / 64) (ix3 h r v)) = carried (args m c) (8 * t.val + y.val / 64) :=
    funext fun h => funext fun r => funext fun v => trip_value m c t _ (by omega) h r v
  show PassRule.result (args m c) (chunk (8 * t.val + y.val / 64)) (fun h r v => at_trip m c t (y.val / 64) (ix3 h r v)) ⟨x.val / 64, by omega⟩ ⟨y.val % 64, Nat.mod_lt _ (by decide)⟩ ⟨x.val % 64, Nat.mod_lt _ (by decide)⟩ = _
  rw [e, ← (line_div t y).1]
  unfold PassRule.results
  exact congrArg (fun r => PassRule.result (args m c) _ (carried (args m c) _) _ r _) (Fin.ext (line_div t y).2.symm)

theorem states_block (t : Fin cfg0.N) (h : Fin 8) (y : Fin 512) (x : Fin 64) : (out_7 m c t (ix3 h y x) : EReal) = PassRule.states (args m c) (ix3 h (line t y) x) := by
  rw [out_7_eq]
  refine (before_at _ _ _).trans ((trip_value m c t (y.val / 64) (by omega) h _ x).trans ?_)
  unfold PassRule.states
  exact congrArg₂ (fun n r => carried (args m c) n h r x) (line_div t y).1.symm (Fin.ext (line_div t y).2.symm)

theorem emb_6 (t : Fin cfg0.N) (y x : Fin 512) : ((cfg0.win 6).blk t).view.emb (ix2 y x) = ix2 (line t y) x := funext fun a => by
  fin_cases a
  · exact Fin.ext ((win0_6.rect_emb_val t (ix2 y x) 0).trans (by rw [(idx t).2.2.2.2.2.2.1]; rfl))
  · exact Fin.ext ((win0_6.rect_emb_val t (ix2 y x) 1).trans (by rw [(idx t).2.2.2.2.2.2.1]; exact zero_add _))

theorem final_6 : (dats m 0 c).arrAt 6 (cfgs 0).N = PassRule.results (args m c) := by
  refine (dats m 0 c).arrAt_eq_of_covers 6 _ (by decide +kernel) fun t hf y => ?_
  blk_simp
  rw [after_6]
  have ey : y = ix2 (y 0) (y 1) := (eq_ix2 y)
  rw [ey]
  exact (results_block m c t (y 0) (y 1)).trans (congrArg (PassRule.results (args m c)) (emb_6 t (y 0) (y 1)).symm)

theorem emb_7 (t : Fin cfg0.N) (h : Fin 8) (y : Fin 512) (x : Fin 64) : ((cfg0.win 7).blk t).view.emb (ix3 h y x) = ix3 h (line t y) x := funext fun a => by
  fin_cases a
  · exact Fin.ext ((win0_7.rect_emb_val t (ix3 h y x) 0).trans (by rw [(idx t).2.2.2.2.2.2.2]; exact zero_add _))
  · exact Fin.ext ((win0_7.rect_emb_val t (ix3 h y x) 1).trans (by rw [(idx t).2.2.2.2.2.2.2]; rfl))
  · exact Fin.ext ((win0_7.rect_emb_val t (ix3 h y x) 2).trans (by rw [(idx t).2.2.2.2.2.2.2]; exact zero_add _))

theorem final_7 : (dats m 0 c).arrAt 7 (cfgs 0).N = PassRule.states (args m c) := by
  refine (dats m 0 c).arrAt_eq_of_covers 7 _ (by decide +kernel) fun t hf y => ?_
  blk_simp
  rw [after_7]
  have ey : y = ix3 (y 0) (y 1) (y 2) := (eq_ix3 y)
  rw [ey]
  exact (states_block m c t (y 0) (y 1) (y 2)).trans (congrArg (PassRule.states (args m c)) (emb_7 t (y 0) (y 1) (y 2)).symm)

/-- The results, and the arguments as they were. -/
theorem results_run (ρ : Dev nD → PrngReg) : θ_run defs (onTc (τ := τ) (main (F := Ideal))) ⟨m, fun _ => 0, ρ⟩ (fun r => ∀ c : Dev nD,
      r.2.mem ((c.tc : Thread nD τ).loc main_v12_0) = PassRule.results (args m c)
      ∧ r.2.mem ((c.tc : Thread nD τ).loc main_v12_1) = PassRule.states (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final_6 m c), ((h.1 c).1 7).trans (final_7 m c), h.2.1 c⟩)
    (θ_run_and (run_main m ρ) (frame_run m ρ))

end Cert.PassIdeal.Own

end
-- ==== Proof.PassRef.lean ====
/- Hand-written, untrusted: the run of the scan's reference, its results as one step iterated 128 times. -/
module

public import proofs.«01_k».proof.Proof.Gen.PassRefIdeal.Run
public import proofs.«01_k».proof.Proof.Gen.PassRefIdeal.Step

@[expose] public section

set_option maxRecDepth 16384

noncomputable section

namespace Cert.PassRefIdeal.Own

open Idealize.ShloMosaic Idealize.ShloMosaic.TcCoe Idealize.SL.Sem Idealize.ShloMosaic.StableHlo
open Cert.PassRefIdeal Cert.PassRefIdeal.Gen Cert.PassRefIdeal.Value
open Cert.PassRefIdeal.Step (State step init)

variable {F : FTy → Type} [FloatOps F]

/-- The buffers the loop carries, together. -/
def held (V : Valuation τ sig (Elt F)) : State F :=
  ⟨V (Proc.devRef .tc main_v15_7), V (Proc.devRef .tc main_v15_8), V (Proc.devRef .tc main_v15_9),
   V (Proc.devRef .tc main_v15_0), V (Proc.devRef .tc main_v15_1), V (Proc.devRef .tc main_v15_2),
   V (Proc.devRef .tc main_v15_3), V (Proc.devRef .tc main_v15_4), V (Proc.devRef .tc main_v15_5)⟩

/-- The number of the trip, as the loop's counter has it. -/
def Counts (V : Valuation τ sig (Elt F)) (j : ℕ) : Prop :=
  V (Proc.devRef .tc main_v15_6) = constantI S_ 32 (BitVec.ofNat 32 j)

theorem gates (V : Valuation τ sig (Elt F)) (j : ℕ) (h : Counts V j) :
    res_main_while0b_v24 V = Step.b23 j (held V) := by
  unfold res_main_while0b_v24
  rw [show V (Proc.devRef .tc main_v15_6) = _ from h]
  rfl

theorem values (V : Valuation τ sig (Elt F)) (j : ℕ) (h : Counts V j) :
    res_main_while0b_v27 V = Step.b30 j (held V) := by
  unfold res_main_while0b_v27
  rw [show V (Proc.devRef .tc main_v15_6) = _ from h]
  rfl

theorem last (V : Valuation τ sig (Elt F)) (j : ℕ) (h : Counts V j) :
    res_main_while0b_v36 V = Step.b39 j (held V) := by
  unfold res_main_while0b_v36
  rw [gates V j h]
  rfl

theorem step_7 (V : Valuation τ sig (Elt F)) (j : ℕ) (h : Counts V j) :
    step_main_v15_7 V = Step.b52 j (held V) := by
  unfold step_main_v15_7
  rw [gates V j h, values V j h, last V j h, show V (Proc.devRef .tc main_v15_6) = _ from h]
  rfl

theorem step_8 (V : Valuation τ sig (Elt F)) (j : ℕ) (h : Counts V j) :
    step_main_v15_8 V = Step.b57 j (held V) := by
  unfold step_main_v15_8
  rw [gates V j h, values V j h, show V (Proc.devRef .tc main_v15_6) = _ from h]
  rfl

theorem step_9 (V : Valuation τ sig (Elt F)) (j : ℕ) (h : Counts V j) :
    step_main_v15_9 V = Step.b62 j (held V) := by
  unfold step_main_v15_9
  rw [show V (Proc.devRef .tc main_v15_6) = _ from h]
  rfl

theorem counts_step (V : Valuation τ sig (Elt F)) (j : ℕ) (h : Counts V j) : Counts (STEP V) (j + 1) := by
  refine (STEP_main_v15_6 V).trans ?_
  unfold step_main_v15_6
  rw [show V (Proc.devRef .tc main_v15_6) = _ from h]
  funext i
  show BitVec.ofNat 32 j + 1#32 = BitVec.ofNat 32 (j + 1)
  rw [BitVec.ofNat_add]

theorem held_step (V : Valuation τ sig (Elt F)) (j : ℕ) (h : Counts V j) : held (STEP V) = step j (held V) := by
  unfold held step
  rw [STEP_main_v15_7, STEP_main_v15_8, STEP_main_v15_9, STEP_main_v15_0, STEP_main_v15_1, STEP_main_v15_2,
    STEP_main_v15_3, STEP_main_v15_4, STEP_main_v15_5, step_7 V j h, step_8 V j h, step_9 V j h]
  rfl

variable (m : (ℓ : Loc nD τ sig) → Buf (Elt F) ℓ) (c : Dev nD)

/-- The state the first trip starts from. -/
def start : State F :=
  init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- The state after a number of trips. -/
def after : ℕ → State F
  | 0 => start m c
  | n + 1 => step n (after n)

set_option maxRecDepth 65536 in
set_option maxHeartbeats 400000 in
theorem held_start : held (entryContents preI m c) = start m c := by
  unfold held start init
  congr 1 <;> (simp only [entryContents, afterL_cons, afterL_nil]; after_reads_simp) <;> rfl

set_option maxRecDepth 65536 in
set_option maxHeartbeats 400000 in
theorem counts_start : Counts (entryContents preI m c) 0 := by
  unfold Counts
  (simp only [entryContents, afterL_cons, afterL_nil]; after_reads_simp) <;> rfl

theorem iterate (n : ℕ) :
    Counts (STEP^[n] (entryContents preI m c)) n ∧ held (STEP^[n] (entryContents preI m c)) = after m c n := by
  induction n with
  | zero => exact ⟨counts_start m c, held_start m c⟩
  | succ n ih =>
    rw [Function.iterate_succ_apply']
    exact ⟨counts_step _ n ih.1, (held_step _ n ih.1).trans (congrArg (step n) ih.2)⟩

theorem out_results (V : Valuation τ sig (Elt F)) : out_main_v17 V = Step.R_main_v17 (held V) := by
  unfold out_main_v17 Step.R_main_v17
  rfl

theorem out_states (V : Valuation τ sig (Elt F)) : out_main_v19 V = Step.R_main_v19 (held V) := by
  unfold out_main_v19 Step.R_main_v19
  rfl

theorem results : out_main_v17 (STEP^[128] (entryContents preI m c)) = Step.R_main_v17 (after m c 128) :=
  (out_results _).trans (congrArg Step.R_main_v17 (iterate m c 128).2)

theorem states : out_main_v19 (STEP^[128] (entryContents preI m c)) = Step.R_main_v19 (after m c 128) :=
  (out_states _).trans (congrArg Step.R_main_v19 (iterate m c 128).2)

end Cert.PassRefIdeal.Own

end
-- ==== Proof.PassRefValue.lean ====
/- Hand-written, untrusted: the forward scan's reference is the recurrence. -/
module

public import proofs.«01_k».proof.Proof.PassRef
public import proofs.«01_k».proof.Proof.PassRule
public import Idealize.ShloMosaic.Lib.Pointwise
public import Idealize.ShloMosaic.Lib.DynamicIndex

@[expose] public section

set_option maxRecDepth 16384

noncomputable section

namespace Cert.PassRefIdeal.Own

open Idealize.ShloMosaic Idealize.ShloMosaic.TcCoe Idealize.SL.Sem Idealize.ShloMosaic.StableHlo
open Cert.PassRefIdeal Cert.PassRefIdeal.Gen Cert.PassRefIdeal.Value Cert.PassRule
open Cert.ScanRule (row Carry)
open Cert.PassRefIdeal.Step (State step init)

variable (m : (ℓ : Loc nD τ sig) → Buf (Elt Ideal) ℓ) (c : Dev nD)

/-- The arguments by chunk. -/
def args : Chunks :=
  ofArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-! What the first trip starts from. -/

theorem start_0 (n : Fin 128) (h : Fin 8) (r x : Fin 64) : ((start m c).main_v15_0 (ix4 n h r x) : EReal) = (args m c).q n h r x := by
  unfold start init args
  pointwise [Step.A_main_v12, Step.A_main_v11, Step.A_main_v10, Step.A_main_v9, Step.A_main_v8, Step.A_main_v7, Step.A_main_v6, Step.A_main_v5, Step.A_main_v4, Step.A_main_v3, Step.A_main_v1, Step.A_main_v0, ofArgs, row]

theorem start_1 (n : Fin 128) (h : Fin 8) (r x : Fin 64) : ((start m c).main_v15_1 (ix4 n h r x) : EReal) = (args m c).k n h r x := by
  unfold start init args
  pointwise [Step.A_main_v12, Step.A_main_v11, Step.A_main_v10, Step.A_main_v9, Step.A_main_v8, Step.A_main_v7, Step.A_main_v6, Step.A_main_v5, Step.A_main_v4, Step.A_main_v3, Step.A_main_v1, Step.A_main_v0, ofArgs, row]

theorem start_2 (n : Fin 128) (h : Fin 8) (r x : Fin 64) : ((start m c).main_v15_2 (ix4 n h r x) : EReal) = (args m c).u n h r x := by
  unfold start init args
  pointwise [Step.A_main_v12, Step.A_main_v11, Step.A_main_v10, Step.A_main_v9, Step.A_main_v8, Step.A_main_v7, Step.A_main_v6, Step.A_main_v5, Step.A_main_v4, Step.A_main_v3, Step.A_main_v1, Step.A_main_v0, ofArgs, row]

theorem start_3 (n : Fin 128) (h : Fin 8) (r x : Fin 64) : ((start m c).main_v15_3 (ix4 n h r x) : EReal) = (args m c).w n h r x := by
  unfold start init args
  pointwise [Step.A_main_v12, Step.A_main_v11, Step.A_main_v10, Step.A_main_v9, Step.A_main_v8, Step.A_main_v7, Step.A_main_v6, Step.A_main_v5, Step.A_main_v4, Step.A_main_v3, Step.A_main_v1, Step.A_main_v0, ofArgs, row]

theorem start_4 (n : Fin 128) (h : Fin 8) (r : Fin 64) : ((start m c).main_v15_4 (ix3 n h r) : EReal) = (args m c).g n h r := by
  unfold start init args
  pointwise [Step.A_main_v12, Step.A_main_v11, Step.A_main_v10, Step.A_main_v9, Step.A_main_v8, Step.A_main_v7, Step.A_main_v6, Step.A_main_v5, Step.A_main_v4, Step.A_main_v3, Step.A_main_v1, Step.A_main_v0, ofArgs, row]

theorem start_5 (n : Fin 128) (h : Fin 8) (r x : Fin 64) : ((start m c).main_v15_5 (ix4 n h r x) : EReal) = (args m c).qk n h r x := by
  unfold start init args
  pointwise [Step.A_main_v12, Step.A_main_v11, Step.A_main_v10, Step.A_main_v9, Step.A_main_v8, Step.A_main_v7, Step.A_main_v6, Step.A_main_v5, Step.A_main_v4, Step.A_main_v3, Step.A_main_v1, Step.A_main_v0, ofArgs, row]

theorem start_7 (h : Fin 8) (r x : Fin 64) : ((start m c).main_v15_7 (ix3 h r x) : EReal) = 0 := by
  unfold start init
  pointwise [Step.K_main_v2, Step.K_main_cst]

/-! Where a trip reads and writes the stacks. -/

theorem counted : ∀ j : Fin 128, (BitVec.ofNat 32 j.val).toInt = (j.val : ℤ) := by decide +kernel

/-- The places of trip `j`'s blocks. -/
abbrev place (j : ℕ) : Fin 4 → ℕ := ![j, 0, 0, 0]

theorem starts (j : ℕ) (hj : j < 128) (z0 z1 z2 : (⟨S_, .i32⟩ : BufTy).Contents (Elt Ideal)) (h0 : z0 = constantI S_ 32 0#32)
    (h1 : z1 = constantI S_ 32 0#32) (h2 : z2 = constantI S_ 32 0#32) (a : Fin 4) :
    (((![(constantI S_ 32 (BitVec.ofNat 32 j) : (⟨S_, .i32⟩ : BufTy).Contents (Elt Ideal)), z0, z1, z2] : Fin 4 → (⟨S_, .i32⟩ : BufTy).Contents (Elt Ideal))) a (Shape.Idx.first h_S_)).toInt = (place j a : ℤ) := by
  subst h0 h1 h2
  fin_cases a
  · exact counted ⟨j, hj⟩
  all_goals rfl

theorem slice_at (x : S128x8x64x64.Idx → EReal) (st : Fin 4 → ℤ) (fits) (j : ℕ) (hj : j < 128) (e : ∀ a, st a = (place j a : ℤ))
    (h : Fin 8) (r v : Fin 64) : Host.dynamicSlice S1x8x64x64 x st fits (ix4 0 h r v) = x (ix4 (chunk j) h r v) := by
  have hc : chunk j = ⟨j, hj⟩ := Fin.ext (Nat.mod_eq_of_lt hj)
  have hoff : S128x8x64x64.Slices (place j) S1x8x64x64 := ⟨rfl, fun a => by
    fin_cases a
    · show j + 1 ≤ 128; omega
    · show 0 + 8 ≤ 8; omega
    · show 0 + 64 ≤ 64; omega
    · show 0 + 64 ≤ 64; omega⟩
  rw [Host.dynamicSlice_eq_extractStridedSlice _ x st (place j) fits hoff e, hc]
  pointwise

theorem slice_row (x : S128x8x64.Idx → EReal) (st : Fin 3 → ℤ) (fits) (j : ℕ) (hj : j < 128) (e : ∀ a, st a = ((![j, 0, 0] : Fin 3 → ℕ) a : ℤ))
    (h : Fin 8) (r : Fin 64) : Host.dynamicSlice S1x8x64 x st fits (ix3 0 h r) = x (ix3 (chunk j) h r) := by
  have hc : chunk j = ⟨j, hj⟩ := Fin.ext (Nat.mod_eq_of_lt hj)
  have hoff : S128x8x64.Slices ![j, 0, 0] S1x8x64 := ⟨rfl, fun a => by
    fin_cases a
    · show j + 1 ≤ 128; omega
    · show 0 + 8 ≤ 8; omega
    · show 0 + 64 ≤ 64; omega⟩
  rw [Host.dynamicSlice_eq_extractStridedSlice _ x st ![j, 0, 0] fits hoff e, hc]
  pointwise

theorem update_at (x : S128x8x64x64.Idx → EReal) (u : S1x8x64x64.Idx → EReal) (st : Fin 4 → ℤ) (fits) (j : ℕ) (hj : j < 128)
    (e : ∀ a, st a = (place j a : ℤ)) (n : Fin 128) (h : Fin 8) (r v : Fin 64) :
    Host.dynamicUpdateSlice x u st fits (ix4 n h r v) = if n.val = j then u (ix4 0 h r v) else x (ix4 n h r v) := by
  have hc : ∀ a, Host.clampedStart S128x8x64x64 S1x8x64x64 fits.1 st a = place j a := fun a =>
    Host.clampedStart_of_le fits.1 st a _ (e a) (by
      fin_cases a
      · show j + 1 ≤ 128; omega
      · show 0 + 8 ≤ 8; omega
      · show 0 + 64 ≤ 64; omega
      · show 0 + 64 ≤ 64; omega)
  rw [Host.dynamicUpdateSlice_apply]
  by_cases hn : n.val = j
  · subst hn
    rw [if_pos rfl, dif_pos (fun a => by
      rw [hc a]
      fin_cases a
      · show n.val ≤ n.val ∧ n.val < n.val + 1; omega
      · show 0 ≤ h.val ∧ h.val < 0 + 8; omega
      · show 0 ≤ r.val ∧ r.val < 0 + 64; omega
      · show 0 ≤ v.val ∧ v.val < 0 + 64; omega)]
    refine (congrArg u (Shape.Idx.norm_def _)).trans (congrArg u (funext fun a => Fin.ext ?_))
    fin_cases a <;> dsimp only <;> rw [hc]
    all_goals first | exact Nat.sub_self _ | rfl
  · rw [if_neg hn, dif_neg fun hin => hn (by
      have := hin 0
      rw [hc 0] at this
      have h1 : j ≤ n.val ∧ n.val < j + 1 := this
      omega)]

theorem query_at (j : ℕ) (hj : j < 128) (s : State Ideal) (h : Fin 8) (r x : Fin 64) : (Step.b4 j s (ix3 h r x) : EReal) = s.main_v15_0 (ix4 (chunk j) h r x) :=
  (show (Step.b4 j s (ix3 h r x) : EReal) = Step.b3 j s (ix4 0 h r x) by pointwise [Step.b4]).trans
    (slice_at s.main_v15_0 _ _ j hj (starts j hj _ _ _ rfl rfl rfl) h r x)

theorem key_at (j : ℕ) (hj : j < 128) (s : State Ideal) (h : Fin 8) (r x : Fin 64) : (Step.b9 j s (ix3 h r x) : EReal) = s.main_v15_1 (ix4 (chunk j) h r x) :=
  (show (Step.b9 j s (ix3 h r x) : EReal) = Step.b8 j s (ix4 0 h r x) by pointwise [Step.b9]).trans
    (slice_at s.main_v15_1 _ _ j hj (starts j hj _ _ _ rfl rfl rfl) h r x)

theorem value_at (j : ℕ) (hj : j < 128) (s : State Ideal) (h : Fin 8) (r x : Fin 64) : (Step.b14 j s (ix3 h r x) : EReal) = s.main_v15_2 (ix4 (chunk j) h r x) :=
  (show (Step.b14 j s (ix3 h r x) : EReal) = Step.b13 j s (ix4 0 h r x) by pointwise [Step.b14]).trans
    (slice_at s.main_v15_2 _ _ j hj (starts j hj _ _ _ rfl rfl rfl) h r x)

theorem weight_at (j : ℕ) (hj : j < 128) (s : State Ideal) (h : Fin 8) (r x : Fin 64) : (Step.b19 j s (ix3 h r x) : EReal) = s.main_v15_3 (ix4 (chunk j) h r x) :=
  (show (Step.b19 j s (ix3 h r x) : EReal) = Step.b18 j s (ix4 0 h r x) by pointwise [Step.b19]).trans
    (slice_at s.main_v15_3 _ _ j hj (starts j hj _ _ _ rfl rfl rfl) h r x)

theorem inner_at (j : ℕ) (hj : j < 128) (s : State Ideal) (h : Fin 8) (r x : Fin 64) : (Step.b28 j s (ix3 h r x) : EReal) = s.main_v15_5 (ix4 (chunk j) h r x) :=
  (show (Step.b28 j s (ix3 h r x) : EReal) = Step.b27 j s (ix4 0 h r x) by pointwise [Step.b28]).trans
    (slice_at s.main_v15_5 _ _ j hj (starts j hj _ _ _ rfl rfl rfl) h r x)

theorem gate_at (j : ℕ) (hj : j < 128) (s : State Ideal) (h : Fin 8) (r : Fin 64) : (Step.b23 j s (ix2 h r) : EReal) = s.main_v15_4 (ix3 (chunk j) h r) :=
  (show (Step.b23 j s (ix2 h r) : EReal) = Step.b22 j s (ix3 0 h r) by pointwise [Step.b23]).trans
    (slice_row s.main_v15_4 _ _ j hj (fun a => by fin_cases a <;> [exact counted ⟨j, hj⟩; rfl; rfl]) h r)

theorem results_stacked (j : ℕ) (hj : j < 128) (s : State Ideal) (n : Fin 128) (h : Fin 8) (r v : Fin 64) :
    (Step.b57 j s (ix4 n h r v) : EReal) = if n.val = j then (Step.b37 j s (ix3 h r v) : EReal) else s.main_v15_8 (ix4 n h r v) :=
  (update_at s.main_v15_8 (Step.b53 j s) _ _ j hj (starts j hj _ _ _ rfl rfl rfl) n h r v).trans (by
    rw [show (Step.b53 j s (ix4 0 h r v) : EReal) = Step.b37 j s (ix3 h r v) by pointwise [Step.b53]])

theorem states_stacked (j : ℕ) (hj : j < 128) (s : State Ideal) (n : Fin 128) (h : Fin 8) (r v : Fin 64) :
    (Step.b62 j s (ix4 n h r v) : EReal) = if n.val = j then (s.main_v15_7 (ix3 h r v) : EReal) else s.main_v15_9 (ix4 n h r v) :=
  (update_at s.main_v15_9 (Step.b58 j s) _ _ j hj (starts j hj _ _ _ rfl rfl rfl) n h r v).trans (by
    rw [show (Step.b58 j s (ix4 0 h r v) : EReal) = s.main_v15_7 (ix3 h r v) by pointwise [Step.b58]])

/-! The trips, one after another. -/

/-- What no trip changes. -/
theorem kept (n : ℕ) : (after m c n).main_v15_0 = (start m c).main_v15_0 ∧ (after m c n).main_v15_1 = (start m c).main_v15_1
    ∧ (after m c n).main_v15_2 = (start m c).main_v15_2 ∧ (after m c n).main_v15_3 = (start m c).main_v15_3
    ∧ (after m c n).main_v15_4 = (start m c).main_v15_4 ∧ (after m c n).main_v15_5 = (start m c).main_v15_5 := by
  induction n with
  | zero => exact ⟨rfl, rfl, rfl, rfl, rfl, rfl⟩
  | succ n ih => exact ih

section Trip

variable (j : ℕ) (hj : j < 128) {s : Carry} (e : ∀ h r v, ((after m c j).main_v15_7 (ix3 h r v) : EReal) = s h r v)
include hj e

/-- A chunk's values, its output, and the state after it, from the state before it. -/
theorem fresh_at (h : Fin 8) (r v : Fin 64) : (Step.b30 j (after m c j) (ix3 h r v) : EReal) = fresh (args m c) (chunk j) s h r v := by
  obtain ⟨k0, k1, k2, k3, k4, k5⟩ := kept m c j
  pointwise [Step.b30, Step.b29]
  simp only [value_at j hj, weight_at j hj, k2, k3, e, start_2, start_3]
  rfl

theorem result_at (h : Fin 8) (r v : Fin 64) : (Step.b37 j (after m c j) (ix3 h r v) : EReal) = result (args m c) (chunk j) s h r v := by
  obtain ⟨k0, k1, k2, k3, k4, k5⟩ := kept m c j
  pointwise [Step.b37, Step.b36, Step.b35, Step.b34, Step.b33, Step.b32, Step.b31]
  simp only [query_at j hj, inner_at j hj, gate_at j hj, k0, k4, k5, e, start_0, start_4, start_5, fresh_at m c j hj e]
  rfl

theorem onward_at (h : Fin 8) (r v : Fin 64) : (Step.b52 j (after m c j) (ix3 h r v) : EReal) = onward (args m c) (chunk j) s h r v := by
  obtain ⟨k0, k1, k2, k3, k4, k5⟩ := kept m c j
  pointwise [Step.b52, Step.b51, Step.b50, Step.b49, Step.b48, Step.b47, Step.b46, Step.b45, Step.b44, Step.b43, Step.b42, Step.b41, Step.b40, Step.b39, Step.b38]
  simp only [key_at j hj, gate_at j hj, k1, k4, e, start_1, start_4, fresh_at m c j hj e]
  rfl

end Trip

/-- The state it carries on. -/
theorem carry_at (j : ℕ) (hj : j ≤ 128) : ∀ h r v, ((after m c j).main_v15_7 (ix3 h r v) : EReal) = carried (args m c) j h r v := by
  induction j with
  | zero => exact start_7 m c
  | succ j ih => exact fun h r v => onward_at m c j hj (ih (Nat.le_of_succ_le hj)) h r v

/-- The stacks: chunk `n` is written by trip `n` and by no other. -/
theorem stack_at (j : ℕ) (hj : j ≤ 128) : ∀ n : Fin 128, n.val < j → ∀ h r v,
    ((after m c j).main_v15_9 (ix4 n h r v) : EReal) = carried (args m c) n.val h r v
      ∧ ((after m c j).main_v15_8 (ix4 n h r v) : EReal) = result (args m c) (chunk n.val) (carried (args m c) n.val) h r v := by
  induction j with
  | zero => intro n hn; omega
  | succ j ih =>
    intro n hn h r v
    have hj' : j < 128 := hj
    have e := carry_at m c j hj'.le
    have a9 : ((after m c (j + 1)).main_v15_9 (ix4 n h r v) : EReal) = _ := states_stacked j hj' (after m c j) n h r v
    have a8 : ((after m c (j + 1)).main_v15_8 (ix4 n h r v) : EReal) = _ := results_stacked j hj' (after m c j) n h r v
    by_cases hn' : n.val = j
    · rw [a9, a8, if_pos hn', if_pos hn', result_at m c j hj' e, e, hn']
      exact ⟨rfl, rfl⟩
    · rw [a9, a8, if_neg hn', if_neg hn']
      exact ih hj'.le n (by omega) h r v

/-- The reference's results. -/
theorem results_value (y : S8192x512.Idx) :
    (out_main_v17 (STEP^[128] (entryContents preI m c)) y : EReal) = PassRule.results (args m c) y := by
  rw [results]
  have h0 : (y 0).val < 8192 := (y 0).isLt
  have h1 : (y 1).val < 512 := (y 1).isLt
  refine Eq.trans (show _ = ((after m c 128).main_v15_8 (ix4 ⟨(y 0).val / 64, by omega⟩ ⟨(y 1).val / 64, by omega⟩ ⟨(y 0).val % 64, Nat.mod_lt _ (by decide)⟩ ⟨(y 1).val % 64, Nat.mod_lt _ (by decide)⟩) : EReal) from ?_) ?_
  · pointwise [Step.R_main_v17]
  · exact (stack_at m c 128 le_rfl _ (Fin.isLt _) _ _ _).2

theorem states_value (y : S8x8192x64.Idx) :
    (out_main_v19 (STEP^[128] (entryContents preI m c)) y : EReal) = PassRule.states (args m c) y := by
  rw [states]
  refine Eq.trans (show _ = ((after m c 128).main_v15_9 (ix4 ⟨(y 1).val / 64, by have : (y 1).val < 8192 := (y 1).isLt; omega⟩ (y 0) ⟨(y 1).val % 64, Nat.mod_lt _ (by decide)⟩ (y 2)) : EReal) from ?_) ?_
  · pointwise [Step.R_main_v19]
  · exact (stack_at m c 128 le_rfl _ (Fin.isLt _) _ _ _).1

/-- The results, and the arguments as they were. -/
theorem results_run (ρ : Dev nD → PrngReg) :
    θ_run defs (onTc (τ := τ) (main (F := Ideal))) ⟨m, fun _ => 0, ρ⟩ (fun r => ∀ c : Dev nD,
      r.2.mem ((c.tc : Thread nD τ).loc main_v17) = PassRule.results (args m c)
      ∧ r.2.mem ((c.tc : Thread nD τ).loc main_v19) = PassRule.states (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (funext fun y => results_value m c y),
    (h c).2.1.trans (funext fun y => states_value m c y), (h c).2.2⟩) (run m ρ)

end Cert.PassRefIdeal.Own

end
-- ==== Proof.PassClaims.lean ====
/- Hand-written, untrusted: the claims about the delta rule's scan. -/
module

public import proofs.«01_k».proof.Proof.PassValue
public import proofs.«01_k».proof.Proof.PassRefValue
public import proofs.«01_k».proof.Proof.Gen.Pass.Launch
public import proofs.«01_k».proof.Proof.Gen.PassRefIdeal.Run
public import Idealize.ShloMosaic.Lib.Claim
public import Idealize.ShloMosaic.Lib.Quiescent

@[expose] public section

set_option maxRecDepth 16384

noncomputable section

namespace Cert.PassClaims

open Idealize.ShloMosaic Idealize.SL.Sem

variable {F : FTy → Type} [FloatOps F]

/-- The two programs launch the same body. -/
theorem bodies : Cert.Pass.defs₀ (F := F) = Cert.PassIdeal.defs₀ (F := F) := by
  unfold Cert.Pass.defs₀ Cert.PassIdeal.defs₀
  refine congrArg Defs.onTc (funext fun l => funext fun x => ?_)
  match l, x with
  | 0, (t, s) => with_unfolding_all rfl

theorem kernel : Cert.quiescent_Pass := fun m g _ => by
  unfold Cert.Pass.defs
  rw [bodies]
  with_unfolding_all exact Cert.PassIdeal.Own.frame_run (F := Bits) m g

theorem ideal : Cert.quiescent_PassIdeal := fun m g _ => Cert.PassIdeal.Own.frame_run m g

theorem reference : Cert.quiescent_PassRefIdeal := by
  intro m g _
  run_from Cert.PassRefIdeal.Value.run m g
  · exact fun _ => ⟨trivial, trivial, trivial, trivial, trivial, trivial⟩
  · exact sem_eq_zero_of_no_sems (sig := Cert.PassRefIdeal.sig) (by decide) _

/-- Equal arguments are equal by chunk. -/
theorem args_eq {m : (ℓ : Loc Cert.PassIdeal.nD Cert.PassIdeal.τ Cert.PassIdeal.sig) → Buf (Elt Ideal) ℓ}
    {m' : (ℓ : Loc Cert.PassRefIdeal.nD Cert.PassRefIdeal.τ Cert.PassRefIdeal.sig) → Buf (Elt Ideal) ℓ} {c : Dev Cert.PassIdeal.nD}
    (h0 : m' ((c.tc : Thread _ _).loc Cert.PassRefIdeal.main_arg0) = m ((c.tc : Thread _ _).loc Cert.PassIdeal.main_arg0))
    (h1 : m' ((c.tc : Thread _ _).loc Cert.PassRefIdeal.main_arg1) = m ((c.tc : Thread _ _).loc Cert.PassIdeal.main_arg1))
    (h2 : m' ((c.tc : Thread _ _).loc Cert.PassRefIdeal.main_arg2) = m ((c.tc : Thread _ _).loc Cert.PassIdeal.main_arg2))
    (h3 : m' ((c.tc : Thread _ _).loc Cert.PassRefIdeal.main_arg3) = m ((c.tc : Thread _ _).loc Cert.PassIdeal.main_arg3))
    (h4 : m' ((c.tc : Thread _ _).loc Cert.PassRefIdeal.main_arg4) = m ((c.tc : Thread _ _).loc Cert.PassIdeal.main_arg4))
    (h5 : m' ((c.tc : Thread _ _).loc Cert.PassRefIdeal.main_arg5) = m ((c.tc : Thread _ _).loc Cert.PassIdeal.main_arg5)) :
    Cert.PassRefIdeal.Own.args m' c = Cert.PassIdeal.Own.args m c := by
  unfold Cert.PassRefIdeal.Own.args
  rw [h0, h1, h2, h3, h4, h5]
  rfl

theorem value : Cert.algebraic_PassIdeal_PassRefIdeal := by
  intro m g m' g' _ hagree
  have e : ∀ c, Cert.PassRefIdeal.Own.args m' c = Cert.PassIdeal.Own.args m c := fun c =>
    args_eq (hagree c).1 (hagree c).2.1 (hagree c).2.2.1 (hagree c).2.2.2.1 (hagree c).2.2.2.2.1 (hagree c).2.2.2.2.2
  have h := Cert.PassRefIdeal.Own.results_run m' g'
  simp only [e] at h
  exact ⟨_, _, Cert.PassIdeal.Own.results_run m g, h⟩

end Cert.PassClaims

end
-- ==== Proof.OutValue.lean ====
/- Hand-written, untrusted: the output projection with its residual and the norm after it (`outproj_fwd`). Every grid point
   handles 512 rows; the product is made in two halves, one for each group of heads. -/
module

public import proofs.«01_k».proof.Defs
public import proofs.«01_k».proof.Proof.Gen.OutIdeal.Value
public import proofs.«01_k».proof.Proof.Gen.OutRefIdeal.Read
public import Idealize.ShloMosaic.Lib.Pipeline.ValueKit
public import Idealize.ShloMosaic.Lib.Pointwise

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)
open Cert.OutRefIdeal.Read

variable (m : (ℓ : Loc nD τ sig) → Buf (Elt Ideal) ℓ)

/-- The block each window shows at each point. -/
theorem idx : ∀ t : Fin cfg0.N, win0_0.index t = ![t.val, 0]
    ∧ win0_1.index t = ![t.val, 0]
    ∧ win0_2.index t = ![0, 0]
    ∧ win0_3.index t = ![1, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0] :=
  (by decide +kernel : ∀ t : Fin grid0.N, _)

theorem rowlt (t : Fin cfg0.N) (p : Fin 512) : t.val * 512 + p.val < 8192 := by
  have h : t.val < 16 := t.isLt
  omega

/-- The row of the arrays that a row of a point's block is. -/
abbrev row (t : Fin cfg0.N) (p : Fin 512) : Fin 8192 := ⟨t.val * 512 + p.val, rowlt t p⟩

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)

/-- The reference's joined heads, on the left half. -/
theorem cat_lo (x0 : S8192x512.Idx → EReal) (x1 : S8192x512.Idx → EReal) (n : Fin 8192) (k : Fin 512) :
    (val_main_v2 (F := Ideal) x0 x1 (ix2 n (Fin.castAdd 512 k)) : EReal) = x0 (ix2 n k) := by
  pointwise [val_main_v2, val_main_v0]
  exact dif_pos k.isLt

/-- And on the right half. -/
theorem cat_hi (x0 : S8192x512.Idx → EReal) (x1 : S8192x512.Idx → EReal) (n : Fin 8192) (k : Fin 512) :
    (val_main_v2 (F := Ideal) x0 x1 (ix2 n (Fin.natAdd 512 k)) : EReal) = x1 (ix2 n k) := by
  pointwise [val_main_v2, val_main_v0]
  refine (dif_neg (show ¬ 512 + k.val < 512 by omega)).trans (congrArg (fun z => x1 (ix2 n z)) (Fin.ext ?_))
  show 512 + k.val - 512 = k.val
  omega

/-- The place in the joined heads that a term of the product reads. -/
theorem lidx (n : Fin 8192) (q k : Fin 1024) : lidx_main_v3 (ix2 n q) k = ix2 n k := funext fun a => by
  fin_cases a <;> rfl

theorem eta (y : S512x1024.Idx) : y = ix2 (y 0) (y 1) := funext fun a => by
  fin_cases a <;> rfl

/-- The projection of a point's rows. -/
theorem y_row (c : Dev nD) (t : Fin cfg0.N) (p : Fin 512) (q : Fin 1024) :
    (k0_pay3 (F := Ideal) (iblk m c 0 t) (iblk m c 2 t) (iblk m c 1 t) (iblk m c 3 t) (ix2 p q) : EReal)
      = val_main_v3 (F := Ideal) (A0 m c) (A1 m c) (A2 m c) (ix2 (row t p) q) := by
  refine Eq.trans ?_ (val_main_v3_apply _ _ _ _).symm
  refine Eq.trans ?_ (Fin.sum_univ_add (a := 512) (b := 512) _).symm
  pointwise [k0_pay3]
  refine congr (congrArg HAdd.hAdd (Finset.sum_congr rfl fun k _ => ?_)) (Finset.sum_congr rfl fun k _ => ?_)
  · rw [lidx (row t p) q, cat_lo]
    pointwise [val_main_v1]
    blk_point [iblk, V, idx t]
    rfl
  · rw [lidx (row t p) q, cat_hi]
    pointwise [val_main_v1]
    blk_point [iblk, V, idx t]
    rfl

/-- The stream after the mixer. -/
theorem x1_row (c : Dev nD) (t : Fin cfg0.N) (p : Fin 512) (q : Fin 1024) :
    (k0_pay4 (F := Ideal) (iblk m c 0 t) (iblk m c 2 t) (iblk m c 1 t) (iblk m c 3 t) (iblk m c 4 t) (iblk m c 5 t) (ix2 p q) : EReal)
      = val_main_v6 (F := Ideal) (A0 m c) (A1 m c) (A2 m c) (A3 m c) (A4 m c) (ix2 (row t p) q) := by
  pointwise [k0_pay4, val_main_v6, val_main_v5, val_main_v4]
  rw [y_row m c t p q]
  blk_point [iblk, V, idx t]

/-- Its norm, modulated. -/
theorem h_row (c : Dev nD) (t : Fin cfg0.N) (p : Fin 512) (q : Fin 1024) :
    (k0_pay1 (F := Ideal) (k0_pay5 (iblk m c 0 t) (iblk m c 2 t) (iblk m c 1 t) (iblk m c 3 t) (iblk m c 4 t) (iblk m c 5 t) (iblk m c 6 t) (iblk m c 7 t)) (iblk m c 8 t) (ix2 p q) : EReal)
      = val_main_v25 (F := Ideal) (A0 m c) (A1 m c) (A2 m c) (A3 m c) (A4 m c) (A5 m c) (A6 m c) (A7 m c) (ix2 (row t p) q) := by
  pointwise [k0_pay1, k0_pay5, val_main_v25, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2]
  simp only [x1_row m c t p]
  blk_point [iblk, V, idx t]

theorem final_9 (c : Dev nD) : (dats m 0 c).arrAt 9 (cfgs 0).N = val_main_v6 (F := Ideal) (A0 m c) (A1 m c) (A2 m c) (A3 m c) (A4 m c) := by
  refine (dats m 0 c).arrAt_eq_of_covers 9 _ (by decide +kernel) fun t hf y => ?_
  blk_simp
  rw [after0_9, out0_9]
  frame_out
  refine (congrArg _ (eta y)).trans ((x1_row m c t (y 0) (y 1)).trans ?_)
  blk_point [iblk, V, idx t]

theorem final_10 (c : Dev nD) : (dats m 0 c).arrAt 10 (cfgs 0).N = val_main_v25 (F := Ideal) (A0 m c) (A1 m c) (A2 m c) (A3 m c) (A4 m c) (A5 m c) (A6 m c) (A7 m c) := by
  refine (dats m 0 c).arrAt_eq_of_covers 10 _ (by decide +kernel) fun t hf y => ?_
  blk_simp
  rw [after0_10, out0_10]
  frame_out
  refine (congrArg _ (eta y)).trans ((h_row m c t (y 0) (y 1)).trans ?_)
  blk_point [iblk, V, idx t]

theorem final_11 (c : Dev nD) : (dats m 0 c).arrAt 11 (cfgs 0).N = val_main_v26 (F := Ideal) (A0 m c) (A1 m c) (A2 m c) := by
  refine (dats m 0 c).arrAt_eq_of_covers 11 _ (by decide +kernel) fun t hf y => ?_
  blk_simp
  rw [after0_11, out0_11]
  frame_out
  refine Eq.trans (by pointwise [k0_pay2]) ((y_row m c t (y 0) (y 1)).trans ?_)
  pointwise [val_main_v26]
  blk_point [iblk, V, idx t]

end Cert.OutIdeal.Value
-- ==== Proof.OutClaims.lean ====
/- Hand-written, untrusted: the claims about the output projection with its residual and norm (`outproj_fwd`). -/
module

public import proofs.«01_k».proof.Proof.OutValue
public import proofs.«01_k».proof.Proof.Gen.Out.Frame
public import proofs.«01_k».proof.Proof.Gen.OutRefIdeal.Run
public import Idealize.ShloMosaic.Lib.Claim
public import Idealize.ShloMosaic.Lib.Quiescent

@[expose] public section

set_option maxRecDepth 16384

noncomputable section

namespace Cert.OutClaims

open Idealize.ShloMosaic Idealize.SL.Sem

theorem kernel : Cert.quiescent_Out := fun m g _ => Cert.Out.Gen.frame m g
theorem ideal : Cert.quiescent_OutIdeal := fun m g _ => Cert.OutIdeal.Gen.frame m g
theorem reference : Cert.quiescent_OutRefIdeal := by
  intro m g _
  run_from Cert.OutRefIdeal.Value.run m g
  · exact fun _ => ⟨trivial, trivial, trivial, trivial, trivial, trivial, trivial, trivial⟩
  · exact sem_eq_zero_of_no_sems (sig := Cert.OutRefIdeal.sig) (by decide) _

set_option maxHeartbeats 4000000 in
theorem value : Cert.algebraic_OutIdeal_OutRefIdeal := by
  pair_intro
  · run_from Cert.OutIdeal.Gen.run_main m g
  · run_from Cert.OutRefIdeal.Value.run m' g'
    · rw [Cert.OutRefIdeal.Read.val_main_v6_eq, Cert.OutIdeal.Value.final_9 m c]
    · rw [Cert.OutRefIdeal.Read.val_main_v25_eq, Cert.OutIdeal.Value.final_10 m c]
    · rw [Cert.OutRefIdeal.Read.val_main_v26_eq, Cert.OutIdeal.Value.final_11 m c]

end Cert.OutClaims

end
-- ==== Proof.InValue.lean ====
/- Hand-written, untrusted: the norm before the mixer with its modulation, and the input projection (`inproj_fwd`). Every grid
   point handles 512 rows; the padded weight's rows are taken in three groups, one for each output. -/
module

public import proofs.«01_k».proof.Defs
public import proofs.«01_k».proof.Proof.Gen.InIdeal.Value
public import proofs.«01_k».proof.Proof.Gen.InRefIdeal.Read
public import Idealize.ShloMosaic.Lib.Pipeline.ValueKit
public import Idealize.ShloMosaic.Lib.Pointwise

@[expose] public section

set_option maxRecDepth 16384

noncomputable section

namespace Cert.InIdeal.Value

open Cert.InIdeal Cert.InIdeal.Gen Idealize.ShloMosaic Idealize.ShloMosaic.TcCoe Idealize.SL.Sem
open Idealize.ShloMosaic.Pipeline (Dat)
open Cert.InRefIdeal.Read

variable (m : (ℓ : Loc nD τ sig) → Buf (Elt Ideal) ℓ)

/-- The block each window shows at each point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

theorem rowlt (t : Fin cfg0.N) (p : Fin 512) : t.val * 512 + p.val < 8192 := by
  have h : t.val < 16 := t.isLt
  omega

/-- The row of the arrays that a row of a point's block is. -/
abbrev row (t : Fin cfg0.N) (p : Fin 512) : Fin 8192 := ⟨t.val * 512 + p.val, rowlt t p⟩

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)

/-- The weight's rows, padded with zeros. -/
theorem host0 (c : Dev nD) : V m c main_v0 = pad S3712x1024 ![0, 0] ![112, 0] ![0, 0] (A4 m c : FVec Ideal S3600x1024 .bf16) (sitofp (F := Ideal) .bf16 (constantI S_ 32 0#32)) pads_S3600x1024_S3712x1024_01120_000 := by
  simp only [V, hostOps0, hostOps0_1, List.flatten_cons, List.flatten_nil, List.cons_append, List.nil_append, List.append_nil]
  after_results
  rfl

theorem pad_at (x : S3600x1024.Idx → EReal) (z : S3712x1024.Idx) : (pad S3712x1024 ![0, 0] ![112, 0] ![0, 0] (x : FVec Ideal S3600x1024 .bf16) (sitofp (F := Ideal) .bf16 (constantI S_ 32 0#32)) pads_S3600x1024_S3712x1024_01120_000 : S3712x1024.Idx → EReal) z = @dite EReal ((z 0).val < 3600) _ (fun h => x (ix2 ⟨(z 0).val, h⟩ (z 1))) (fun _ => 0) := by
  pointwise [FloatOps.sitofp]
  try norm_num
  try rfl

theorem blk4 (c : Dev nD) (t : Fin cfg0.N) (z : S3712x1024.Idx) : (iblk m c 4 t z : EReal) = @dite EReal ((z 0).val < 3600) _ (fun h => A4 m c (ix2 ⟨(z 0).val, h⟩ (z 1))) (fun _ => 0) := by
  have e : ((cfg0.win 4).blk t).view.emb z = ix2 (z 0) (z 1) := funext fun a => by
    fin_cases a
    · exact Fin.ext ((win0_4.rect_emb_val t z 0).trans (by rw [(idx t).2.2.2.2.1]; exact Nat.zero_add _))
    · exact Fin.ext ((win0_4.rect_emb_val t z 1).trans (by rw [(idx t).2.2.2.2.1]; exact Nat.zero_add _))
  exact (congrArg (V m c main_v0) e).trans ((congrFun (host0 m c) _).trans (pad_at _ _))

theorem eta (y : S512x1024.Idx) : y = ix2 (y 0) (y 1) := funext fun a => by
  fin_cases a <;> rfl

/-- The norm of a point's rows, modulated. -/
theorem h_row (c : Dev nD) (t : Fin cfg0.N) (p : Fin 512) (k : Fin 1024) :
    (k0_pay2 (F := Ideal) (iblk m c 0 t) (iblk m c 1 t) (iblk m c 2 t) (iblk m c 3 t) (ix2 p k) : EReal)
      = val_main_v17 (F := Ideal) (A0 m c) (A1 m c) (A2 m c) (A3 m c) (ix2 (row t p) k) := by
  pointwise [k0_pay2, val_main_v17, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2]
  blk_point [iblk, V, idx t]

/-- The reference's product at a row and a column. -/
theorem proj_at (c : Dev nD) (n : Fin 8192) (q : Fin 3600) :
    (val_main_v20 (F := Ideal) (A0 m c) (A1 m c) (A2 m c) (A3 m c) (A4 m c) (ix2 n q) : EReal)
      = ∑ k : Fin 1024, (val_main_v17 (F := Ideal) (A0 m c) (A1 m c) (A2 m c) (A3 m c) (ix2 n k) : EReal) * A4 m c (ix2 q k) := by
  pointwise [val_main_v20, val_main_v19, val_main_v18]

/-- The product of a point's rows with one row of the padded weight that is not padding. -/
theorem prod_row (c : Dev nD) (t : Fin cfg0.N) (p : Fin 512) (q : Fin 3712) (hq : q.val < 3600) :
    (∑ k : Fin 1024, (k0_pay2 (F := Ideal) (iblk m c 0 t) (iblk m c 1 t) (iblk m c 2 t) (iblk m c 3 t) (ix2 p k) : EReal) * iblk m c 4 t (ix2 q k))
      = val_main_v20 (F := Ideal) (A0 m c) (A1 m c) (A2 m c) (A3 m c) (A4 m c) (ix2 (row t p) ⟨q.val, hq⟩) := by
  refine Eq.trans (Finset.sum_congr rfl fun k _ => ?_) (proj_at m c _ _).symm
  rw [h_row m c t p k]
  exact congrArg (val_main_v17 (F := Ideal) (A0 m c) (A1 m c) (A2 m c) (A3 m c) (ix2 (row t p) k) * ·) ((blk4 m c t (ix2 q k)).trans (dif_pos hq))

/-- And with one that is. -/
theorem prod_pad (c : Dev nD) (t : Fin cfg0.N) (p : Fin 512) (q : Fin 3712) (hq : ¬ q.val < 3600) :
    (∑ k : Fin 1024, (k0_pay2 (F := Ideal) (iblk m c 0 t) (iblk m c 1 t) (iblk m c 2 t) (iblk m c 3 t) (ix2 p k) : EReal) * iblk m c 4 t (ix2 q k)) = 0 :=
  Finset.sum_eq_zero fun k _ => (congr rfl ((blk4 m c t (ix2 q k)).trans (dif_neg hq))).trans (mul_zero _)

theorem final_5 (c : Dev nD) : (dats m 0 c).arrAt 5 (cfgs 0).N = val_main_v23 (F := Ideal) (A0 m c) (A1 m c) (A2 m c) (A3 m c) := by
  refine (dats m 0 c).arrAt_eq_of_covers 5 _ (by decide +kernel) fun t hf y => ?_
  blk_simp
  rw [after0_5, out0_5]
  frame_out
  refine (congrArg _ (eta y)).trans ((h_row m c t (y 0) (y 1)).trans ?_)
  pointwise [val_main_v23]
  blk_point [iblk, V, idx t]

theorem final_6 (c : Dev nD) : (dats m 0 c).arrAt 6 (cfgs 0).N = val_main_v24 (F := Ideal) (A0 m c) (A1 m c) (A2 m c) (A3 m c) (A4 m c) := by
  refine (dats m 0 c).arrAt_eq_of_covers 6 _ (by decide +kernel) fun t hf y => ?_
  blk_simp
  rw [after0_6, out0_6]
  frame_out
  pointwise [k0_pay3, val_main_v24]
  have hy : (y 1).val < 1536 := (y 1).isLt
  refine (prod_row m c t (y 0) ⟨(y 1).val, by omega⟩ (show (y 1).val < 3600 by omega)).trans ?_
  blk_point [iblk, V, idx t]

theorem final_7 (c : Dev nD) : (dats m 0 c).arrAt 7 (cfgs 0).N = val_main_v25 (F := Ideal) (A0 m c) (A1 m c) (A2 m c) (A3 m c) (A4 m c) := by
  refine (dats m 0 c).arrAt_eq_of_covers 7 _ (by decide +kernel) fun t hf y => ?_
  blk_simp
  rw [after0_7, out0_7]
  frame_out
  pointwise [k0_pay4, val_main_v25]
  have hy : (y 1).val < 2048 := (y 1).isLt
  refine (prod_row m c t (y 0) ⟨1536 + (y 1).val, by omega⟩ (show 1536 + (y 1).val < 3600 by omega)).trans ?_
  blk_point [iblk, V, idx t]

theorem final_8 (c : Dev nD) : (dats m 0 c).arrAt 8 (cfgs 0).N = val_main_v22 (F := Ideal) (A0 m c) (A1 m c) (A2 m c) (A3 m c) (A4 m c) := by
  refine (dats m 0 c).arrAt_eq_of_covers 8 _ (by decide +kernel) fun t hf y => ?_
  blk_simp
  rw [after0_8, out0_8]
  frame_out
  have hy : (y 1).val < 128 := (y 1).isLt
  have e : ((cfg0.win 8).blk t).view.emb y = ix2 (row t (y 0)) (y 1) := funext fun a => by
    fin_cases a
    · exact Fin.ext ((win0_8.rect_emb_val t y 0).trans (by rw [(idx t).2.2.2.2.2.2.2.2]; rfl))
    · exact Fin.ext ((win0_8.rect_emb_val t y 1).trans (by rw [(idx t).2.2.2.2.2.2.2.2]; exact Nat.zero_add _))
  refine Eq.trans ?_ (congrArg (val_main_v22 (F := Ideal) (A0 m c) (A1 m c) (A2 m c) (A3 m c) (A4 m c)) e).symm
  pointwise [k0_pay1, val_main_v22, val_main_v21, val_main_c, val_main_call0_v0]
  by_cases h : (y 1).val < 16
  · rw [dif_pos (show t.val * 512 + (y 0).val < 8192 ∧ (y 1).val < 16 from ⟨rowlt t (y 0), h⟩)]
    exact prod_row m c t (y 0) ⟨3584 + (y 1).val, by omega⟩ (show 3584 + (y 1).val < 3600 by omega)
  · refine (prod_pad m c t (y 0) ⟨3584 + (y 1).val, by omega⟩ (show ¬ 3584 + (y 1).val < 3600 by omega)).trans (Eq.trans ?_ (dif_neg fun z => h z.2).symm)
    pointwise [FloatOps.sitofp]
    simp

end Cert.InIdeal.Value
-- ==== Proof.InClaims.lean ====
/- Hand-written, untrusted: the claims about the first norm and the input projection (`inproj_fwd`). -/
module

public import proofs.«01_k».proof.Proof.InValue
public import proofs.«01_k».proof.Proof.Gen.In.Frame
public import proofs.«01_k».proof.Proof.Gen.InRefIdeal.Run
public import Idealize.ShloMosaic.Lib.Claim
public import Idealize.ShloMosaic.Lib.Quiescent

@[expose] public section

set_option maxRecDepth 16384

noncomputable section

namespace Cert.InClaims

open Idealize.ShloMosaic Idealize.SL.Sem

theorem kernel : Cert.quiescent_In := fun m g _ => Cert.In.Gen.frame m g
theorem ideal : Cert.quiescent_InIdeal := fun m g _ => Cert.InIdeal.Gen.frame m g
theorem reference : Cert.quiescent_InRefIdeal := by
  intro m g _
  run_from Cert.InRefIdeal.Value.run m g
  · exact fun _ => ⟨trivial, trivial, trivial, trivial, trivial⟩
  · exact sem_eq_zero_of_no_sems (sig := Cert.InRefIdeal.sig) (by decide) _

set_option maxHeartbeats 4000000 in
theorem value : Cert.algebraic_InIdeal_InRefIdeal := by
  pair_intro
  · run_from Cert.InIdeal.Gen.run_main m g
    all_goals
      simp only [Cert.InIdeal.Gen.hostOps0, Cert.InIdeal.Gen.hostOps0_1, List.flatten_cons, List.flatten_nil, List.cons_append, List.nil_append, List.append_nil]
      after_results
  · run_from Cert.InRefIdeal.Value.run m' g'
    · rw [Cert.InRefIdeal.Read.val_main_v23_eq, Cert.InIdeal.Value.final_5 m c]
    · rw [Cert.InRefIdeal.Read.val_main_v24_eq, Cert.InIdeal.Value.final_6 m c]
    · rw [Cert.InRefIdeal.Read.val_main_v25_eq, Cert.InIdeal.Value.final_7 m c]
    · rw [Cert.InRefIdeal.Read.val_main_v22_eq, Cert.InIdeal.Value.final_8 m c]

end Cert.InClaims

end
-- ==== Proof.GateValue.lean ====
/- Hand-written, untrusted: the per-head normalisation and its gate, forward (`delta_post_fwd`). -/
module

public import proofs.«01_k».proof.Proof.PostValue
public import proofs.«01_k».proof.Proof.Gen.GateIdeal.Value
public import proofs.«01_k».proof.Proof.Gen.GateRefIdeal.Read

@[expose] public section

set_option maxRecDepth 16384

noncomputable section

namespace Cert.GateIdeal.Value

open Cert.GateIdeal Cert.GateIdeal.Gen Cert.Reals Cert.Norms Idealize.ShloMosaic Idealize.ShloMosaic.TcCoe Idealize.SL.Sem
open Idealize.ShloMosaic.Pipeline (Dat)
open Cert.GateRefIdeal.Read
open Cert.PostIdeal.Value (rr rr_spec hc pick)

variable (m : (ℓ : Loc nD τ sig) → Buf (Elt Ideal) ℓ)

/-- The block each window shows at each point. -/
theorem idx : ∀ t : Fin cfg0.N, win0_0.index t = ![t.val, 0]
    ∧ win0_1.index t = ![t.val, 3]
    ∧ win0_2.index t = ![0, 0]
    ∧ win0_3.index t = ![t.val, 0] :=
  (by decide +kernel : ∀ t : Fin grid0.N, _)

/-- The delta rule's output is real. -/
theorem reals [Cert.Pre_finite_gate.Facts] (h : Cert.Pre_GateIdeal_finite_gate m) (c : Dev nD) :
    ∀ a, IsReal ((m ((c : Thread nD τ).loc main_arg0)) a) := by
  have h1 := congrFun (h c)
  pointwise [Cert.Pre_finite_gate.fn] at h1
  exact fun a => isReal_of_f32 (h1 a)

theorem rowlt (t : Fin cfg0.N) (p : Fin 512) : t.val * 512 + p.val < 8192 := by
  have h : t.val < 16 := t.isLt
  omega

abbrev A0 (c : Dev nD) := m ((c : Thread nD τ).loc main_arg0)
abbrev A1 (c : Dev nD) := m ((c : Thread nD τ).loc main_arg1)
abbrev A2 (c : Dev nD) := m ((c : Thread nD τ).loc main_arg2)

theorem blk0 (c : Dev nD) (t : Fin cfg0.N) : iblk m c 0 t = fun y : S512x512.Idx => A0 m c (ix2 ⟨t.val * 512 + (y 0).val, rowlt t (y 0)⟩ (y 1)) := by
  funext y
  blk_point [iblk, V, idx t]
theorem blk1 (c : Dev nD) (t : Fin cfg0.N) : iblk m c 1 t = fun y : S512x512.Idx => A1 m c (ix2 ⟨t.val * 512 + (y 0).val, rowlt t (y 0)⟩ ⟨1536 + (y 1).val, by have := (y 1).isLt; simp at this; omega⟩) := by
  funext y
  blk_point [iblk, V, idx t]
theorem blk2 (c : Dev nD) (t : Fin cfg0.N) : iblk m c 2 t = fun y : S1x512.Idx => A2 m c (ix2 0 ⟨(y 1).val % 64, by omega⟩) := by
  funext y
  blk_point [iblk, V, idx t]

/-- What a point stores, by row and column. -/
theorem pay6 (o z : S512x512.Idx → EReal) (g : S1x512.Idx → EReal) (ho : ∀ a, IsReal (o a)) (p q : Fin 512) :
    (k0_pay6 (F := Ideal) o (k0_pay1 o) k0_pay2 (iota Kind.tc S512x512 32 [1] iota_S512x512_d1_w32) k0_pay3 k0_pay4 k0_pay5 g z (ix2 p q) : EReal)
      = o (ix2 p q) * rr (fun k => o (ix2 p k)) q * g (ix2 0 q) * (z (ix2 p q) * Ideal.logistic (z (ix2 p q))) := by
  pointwise [k0_pay6, k0_pay1, k0_pay2, k0_pay3, k0_pay4, k0_pay5]
  rw [sigmoid_eq]
  simp only [fdiv]
  refine congrArg (· * g (ix2 0 q) * (z (ix2 p q) * Ideal.logistic (z (ix2 p q)))) (congrArg (o (ix2 p q) * ·) ?_)
  refine Eq.trans (congrArg Ideal.rsqrt (congrArg (· + _) (congrArg (· * _) ?_))) (rr_spec (fun k => o (ix2 p k)) (fun k => ho _) q).2
  refine Eq.trans ?_ (pick (fun a => o a * o a) (fun a => if (a 0).val / 64 = (a 1).val / 64 then 1 else 0) (fun a => (ho a).mul (ho a)) (fun _ => rfl) p q)
  have h (x : Fin 512) : (FloatOps.sitofp (F := Ideal) FTy.f32 (BitVec.setWidth 32
      (IntOp.cmpi CmpIPredicate.eq (BitVec.ofNat 32 (x.val / 64)) (BitVec.ofNat 32 (q.val / 64)))) : EReal)
      = if x.val / 64 = q.val / 64 then 1 else 0 := onehot (by omega) (by omega)
  simp only [h]
  rfl

theorem final_3 [Cert.Pre_finite_gate.Facts] (h : Cert.Pre_GateIdeal_finite_gate m) (c : Dev nD) :
    (dats m 0 c).arrAt 3 (cfgs 0).N = val_main_v19 (F := Ideal) (A0 m c) (A1 m c) (A2 m c) := by
  refine (dats m 0 c).arrAt_eq_of_covers 3 _ (by decide +kernel) fun t hf y => ?_
  blk_simp
  rw [after0_3, out0_3]
  frame_out
  have ey : (y : S512x512.Idx) = ix2 (y 0) (y 1) := funext fun a => by fin_cases a <;> rfl
  have e : ((cfg0.win 3).blk t).view.emb y = ix2 ⟨t.val * 512 + (y 0).val, rowlt t (y 0)⟩ (y 1) := funext fun a => by
    fin_cases a
    · exact Fin.ext ((win0_3.rect_emb_val t y 0).trans (by rw [(idx t).2.2.2]; rfl))
    · exact Fin.ext ((win0_3.rect_emb_val t y 1).trans (by rw [(idx t).2.2.2]; exact Nat.zero_add _))
  refine Eq.trans ?_ (congrArg (val_main_v19 (F := Ideal) (A0 m c) (A1 m c) (A2 m c)) e).symm
  rw [blk0, blk1, blk2]
  refine (congrArg _ ey).trans ((pay6 _ _ _ (fun a => reals m h c _) (y 0) (y 1)).trans ?_)
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1, val_main_call0_v0, val_main_call0_v1, val_main_call0_v2, val_main_call0_v3, val_main_call0_v4, val_main_call0_v5, val_main_call0_cst, val_main_call0_cst_0]
  rfl

end Cert.GateIdeal.Value
-- ==== Proof.GateClaims.lean ====
/- Hand-written, untrusted: the claims about the heads' normalisation and gate, forward (`delta_post_fwd`). -/
module

public import proofs.«01_k».proof.Proof.GateValue
public import proofs.«01_k».proof.Proof.Gen.Gate.Frame
public import proofs.«01_k».proof.Proof.Gen.GateRefIdeal.Run
public import Idealize.ShloMosaic.Lib.Claim
public import Idealize.ShloMosaic.Lib.Quiescent

@[expose] public section

set_option maxRecDepth 16384

noncomputable section

namespace Cert.GateClaims

open Idealize.ShloMosaic Idealize.SL.Sem

theorem pre_facts : Cert.Pre_finite_gate.Facts :=
  ⟨by decide, by decide⟩

theorem kernel : Cert.quiescent_Gate := fun m g _ => Cert.Gate.Gen.frame m g
theorem ideal : Cert.quiescent_GateIdeal := fun m g _ => Cert.GateIdeal.Gen.frame m g
theorem ideal_pre [Cert.Pre_finite_gate.Facts] : Cert.quiescent_GateIdeal_pre_finite_gate := fun m g _ => Cert.GateIdeal.Gen.frame m g
theorem reference : Cert.quiescent_GateRefIdeal := by
  intro m g _
  run_from Cert.GateRefIdeal.Value.run m g
  · exact fun _ => ⟨trivial, trivial, trivial⟩
  · exact sem_eq_zero_of_no_sems (sig := Cert.GateRefIdeal.sig) (by decide) _
theorem reference_pre [Cert.Pre_finite_gate.Facts] : Cert.quiescent_GateRefIdeal_pre_finite_gate := fun m g _ => reference m g trivial

set_option maxHeartbeats 4000000 in
theorem value [Cert.Pre_finite_gate.Facts] : Cert.algebraic_GateIdeal_GateRefIdeal_pre_finite_gate := by
  pair_intro
  · run_from Cert.GateIdeal.Gen.run_main m g
    all_goals
      simp only [Cert.GateIdeal.Gen.hostOps0, List.flatten_cons, List.flatten_nil, List.cons_append, List.nil_append, List.append_nil]
      after_results
  · run_from Cert.GateRefIdeal.Value.run m' g'
    · rw [Cert.GateRefIdeal.Read.val_main_v19_eq, Cert.GateIdeal.Value.final_3 m hpre c]

end Cert.GateClaims

end
-- ==== Proof.lean ====
/- Hand-written, untrusted: `Cert.Claim` from the claims of each call, one module per call. -/
module

public import proofs.«01_k».proof.Proof.ActClaims
public import proofs.«01_k».proof.Proof.ConvClaims
public import proofs.«01_k».proof.Proof.PostClaims
public import proofs.«01_k».proof.Proof.FfnInClaims
public import proofs.«01_k».proof.Proof.ProjClaims
public import proofs.«01_k».proof.Proof.PrepClaims
public import proofs.«01_k».proof.Proof.FfnClaims
public import proofs.«01_k».proof.Proof.RelClaims
public import proofs.«01_k».proof.Proof.ScanClaims
public import proofs.«01_k».proof.Proof.PassClaims
public import proofs.«01_k».proof.Proof.OutClaims
public import proofs.«01_k».proof.Proof.InClaims
public import proofs.«01_k».proof.Proof.GateClaims
public import proofs.«01_k».proof.Proof.Gen.RelIdeal.Value
public import proofs.«01_k».proof.Proof.Gen.RelRefIdeal.Read
public import proofs.«01_k».proof.Proof.Gen.OutIdeal.Value
public import proofs.«01_k».proof.Proof.Gen.OutRefIdeal.Read
public import proofs.«01_k».proof.Proof.Gen.InIdeal.Value
public import proofs.«01_k».proof.Proof.Gen.InRefIdeal.Read
public import proofs.«01_k».proof.Proof.Gen.GateIdeal.Value
public import proofs.«01_k».proof.Proof.Gen.GateRefIdeal.Read

@[expose] public section

noncomputable section

namespace Cert.Proof

theorem claim : Cert.Claim :=
  haveI := Cert.ActClaims.pre_facts
  haveI := Cert.PostClaims.pre_facts
  haveI := Cert.FfnInClaims.pre_facts
  haveI := Cert.ProjClaims.pre_facts
  haveI := Cert.PrepClaims.pre_facts
  haveI := Cert.FfnClaims.pre_facts
  haveI := Cert.ScanClaims.pre_facts
  haveI := Cert.GateClaims.pre_facts
  ⟨Cert.Act.Gen.facts, Cert.ActIdeal.Gen.facts, Cert.ActRefIdeal.Gen.facts,
    Cert.Conv.Gen.facts, Cert.ConvIdeal.Gen.facts, Cert.ConvRefIdeal.Gen.facts,
    Cert.Post.Gen.facts, Cert.PostIdeal.Gen.facts, Cert.PostRefIdeal.Gen.facts,
    Cert.FfnIn.Gen.facts, Cert.FfnInIdeal.Gen.facts, Cert.FfnInRefIdeal.Gen.facts,
    Cert.Proj.Gen.facts, Cert.ProjIdeal.Gen.facts, Cert.ProjRefIdeal.Gen.facts,
    Cert.Prep.Gen.facts, Cert.PrepIdeal.Gen.facts, Cert.PrepRefIdeal.Gen.facts,
    Cert.Ffn.Gen.facts, Cert.FfnIdeal.Gen.facts, Cert.FfnRefIdeal.Gen.facts,
    Cert.Rel.Gen.facts, Cert.RelIdeal.Gen.facts, Cert.RelRefIdeal.Gen.facts,
    Cert.Scan.Gen.facts, Cert.ScanIdeal.Gen.facts, Cert.ScanRefIdeal.Gen.facts,
    Cert.Pass.Gen.facts, Cert.PassIdeal.Gen.facts, Cert.PassRefIdeal.Gen.facts,
    Cert.Out.Gen.facts, Cert.OutIdeal.Gen.facts, Cert.OutRefIdeal.Gen.facts,
    Cert.In.Gen.facts, Cert.InIdeal.Gen.facts, Cert.InRefIdeal.Gen.facts,
    Cert.Gate.Gen.facts, Cert.GateIdeal.Gen.facts, Cert.GateRefIdeal.Gen.facts,
    Cert.ActClaims.pre_facts, Cert.PostClaims.pre_facts, Cert.FfnInClaims.pre_facts,
    Cert.ProjClaims.pre_facts, Cert.PrepClaims.pre_facts, Cert.FfnClaims.pre_facts,
    Cert.ScanClaims.pre_facts, Cert.GateClaims.pre_facts, Cert.ActClaims.kernel,
    Cert.ActClaims.ideal, Cert.ActClaims.ideal_pre, Cert.ActClaims.reference,
    Cert.ActClaims.reference_pre, Cert.ConvClaims.kernel, Cert.ConvClaims.ideal,
    Cert.ConvClaims.reference, Cert.PostClaims.kernel, Cert.PostClaims.ideal,
    Cert.PostClaims.ideal_pre, Cert.PostClaims.reference, Cert.PostClaims.reference_pre,
    Cert.FfnInClaims.kernel, Cert.FfnInClaims.ideal, Cert.FfnInClaims.ideal_pre,
    Cert.FfnInClaims.reference, Cert.FfnInClaims.reference_pre, Cert.ProjClaims.kernel,
    Cert.ProjClaims.ideal, Cert.ProjClaims.ideal_pre, Cert.ProjClaims.reference,
    Cert.ProjClaims.reference_pre, Cert.PrepClaims.kernel, Cert.PrepClaims.ideal,
    Cert.PrepClaims.ideal_pre, Cert.PrepClaims.reference, Cert.PrepClaims.reference_pre,
    Cert.FfnClaims.kernel, Cert.FfnClaims.ideal, Cert.FfnClaims.ideal_pre,
    Cert.FfnClaims.reference, Cert.FfnClaims.reference_pre, Cert.RelClaims.kernel,
    Cert.RelClaims.ideal, Cert.RelClaims.reference, Cert.ScanClaims.kernel,
    Cert.ScanClaims.ideal, Cert.ScanClaims.ideal_pre, Cert.ScanClaims.reference,
    Cert.ScanClaims.reference_pre, Cert.PassClaims.kernel, Cert.PassClaims.ideal,
    Cert.PassClaims.reference, Cert.OutClaims.kernel, Cert.OutClaims.ideal,
    Cert.OutClaims.reference, Cert.InClaims.kernel, Cert.InClaims.ideal,
    Cert.InClaims.reference, Cert.GateClaims.kernel, Cert.GateClaims.ideal,
    Cert.GateClaims.ideal_pre, Cert.GateClaims.reference, Cert.GateClaims.reference_pre,
    trivial, Cert.ActClaims.value, trivial,
    Cert.ConvClaims.value, trivial, Cert.PostClaims.value,
    trivial, Cert.FfnInClaims.value, trivial,
    Cert.ProjClaims.value, trivial, Cert.PrepClaims.value,
    trivial, Cert.FfnClaims.value, trivial,
    trivial, Cert.ScanClaims.value, trivial,
    Cert.PassClaims.value, trivial, Cert.OutClaims.value,
    trivial, Cert.InClaims.value, trivial,
    Cert.GateClaims.value⟩

end Cert.Proof

end
